-- ==== Defs.lean ====
def Pre_Kernel (m : (ℓ : Loc Cert.Kernel.nD Cert.Kernel.τ Cert.Kernel.sig) → Buf (Elt Bits) ℓ) : Prop :=
  True

def Pre_Kernel_search_inputs [hPre_search_inputs : Cert.Pre_search_inputs.Facts] (m : (ℓ : Loc Cert.Kernel.nD Cert.Kernel.τ Cert.Kernel.sig) → Buf (Elt Bits) ℓ) : Prop :=
  ∀ c : Dev Cert.Kernel.nD,
    (Cert.Pre_search_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_search_inputs : Cert.Pre_search_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_search_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_search_inputs [hPre_search_inputs : Cert.Pre_search_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_search_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_Kernel_pre_search_inputs [hKernel : Cert.Kernel.Facts] [hPre_search_inputs : Cert.Pre_search_inputs.Facts] : Prop :=
  ∀ (m : (ℓ : Loc Cert.Kernel.nD Cert.Kernel.τ Cert.Kernel.sig) → Buf (Elt Bits) ℓ) (g : Dev Cert.Kernel.nD → PrngReg), Pre_Kernel_search_inputs m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_search_inputs : Cert.Pre_search_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_search_inputs [hReferenceIdeal : Cert.ReferenceIdeal.Facts] [hPre_search_inputs : Cert.Pre_search_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_search_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_search_inputs : Cert.Pre_search_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34_7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_search_inputs : Cert.Pre_search_inputs.Facts),
    quiescent_Kernel (hKernel := hKernel)
    ∧ quiescent_Kernel_pre_search_inputs (hKernel := hKernel) (hPre_search_inputs := hPre_search_inputs)
    ∧ quiescent_KernelIdeal (hKernelIdeal := hKernelIdeal) (hPre_search_inputs := hPre_search_inputs)
    ∧ quiescent_ReferenceIdeal (hReferenceIdeal := hReferenceIdeal)
    ∧ quiescent_ReferenceIdeal_pre_search_inputs (hReferenceIdeal := hReferenceIdeal) (hPre_search_inputs := hPre_search_inputs)
    ∧ preserves_Kernel_KernelIdeal
    ∧ algebraic_KernelIdeal_ReferenceIdeal (hKernelIdeal := hKernelIdeal) (hReferenceIdeal := hReferenceIdeal) (hPre_search_inputs := hPre_search_inputs)
-- ==== Pre_search_inputs.lean ====
abbrev S32x32x32 : Shape := ⟨3, ![32, 32, 32]⟩
abbrev S32x1024 : Shape := ⟨2, ![32, 1024]⟩
abbrev S32 : Shape := ⟨1, ![32]⟩
abbrev S32x32 : Shape := ⟨2, ![32, 32]⟩
abbrev S1x32x32 : Shape := ⟨3, ![1, 32, 32]⟩
abbrev S2x32x32 : Shape := ⟨3, ![2, 32, 32]⟩
abbrev S_ : Shape := ⟨0, ![]⟩
abbrev S32x1 : Shape := ⟨2, ![32, 1]⟩
abbrev S32x2 : Shape := ⟨2, ![32, 2]⟩
abbrev S32x2x1x1 : Shape := ⟨4, ![32, 2, 1, 1]⟩
abbrev S1x2x32x32 : Shape := ⟨4, ![1, 2, 32, 32]⟩
abbrev S32x2x32x32 : Shape := ⟨4, ![32, 2, 32, 32]⟩
abbrev S32x1x1 : Shape := ⟨3, ![32, 1, 1]⟩

class Facts : Prop where
  shapeCasts_S32x32x32_S32x1024 : S32x32x32.ShapeCasts S32x1024
  bcast_S32_S32x32_0 : S32.BroadcastsInDim S32x32 (![0] : Fin 1 → Fin S32x32.rank)
  bcast_S32_S32x32_1 : S32.BroadcastsInDim S32x32 (![1] : Fin 1 → Fin S32x32.rank)
  bcast_S32x32_S1x32x32_1_2 : S32x32.BroadcastsInDim S1x32x32 (![1, 2] : Fin 2 → Fin S1x32x32.rank)
  concatenates_S1x32x32_S1x32x32_S2x32x32_d0 : Shape.Concatenates [S1x32x32, S1x32x32] S2x32x32 0
  reducesTo_S32x1024_S32_d1 : S32x1024.ReducesTo [1] S32
  h_S_ : 0 < S_.numel
  bcast_S_S32 : S_.BroadcastsInDim S32 (![] : Fin 0 → Fin S32.rank)
  bcast_S32_S32x1_0 : S32.BroadcastsInDim S32x1 (![0] : Fin 1 → Fin S32x1.rank)
  concatenates_S32x1_S32x1_S32x2_d1 : Shape.Concatenates [S32x1, S32x1] S32x2 1
  bcast_S32x2_S32x2x1x1_0_1 : S32x2.BroadcastsInDim S32x2x1x1 (![0, 1] : Fin 2 → Fin S32x2x1x1.rank)
  bcast_S2x32x32_S1x2x32x32_1_2_3 : S2x32x32.BroadcastsInDim S1x2x32x32 (![1, 2, 3] : Fin 3 → Fin S1x2x32x32.rank)
  bcast_S1x2x32x32_S32x2x32x32_0_1_2_3 : S1x2x32x32.BroadcastsInDim S32x2x32x32 (![0, 1, 2, 3] : Fin 4 → Fin S32x2x32x32.rank)
  bcast_S32x2x1x1_S32x2x32x32_0_1_2_3 : S32x2x1x1.BroadcastsInDim S32x2x32x32 (![0, 1, 2, 3] : Fin 4 → Fin S32x2x32x32.rank)
  reducesTo_S32x2x32x32_S32x32x32_d1 : S32x2x32x32.ReducesTo [1] S32x32x32
  bcast_S_S32x32x32 : S_.BroadcastsInDim S32x32x32 (![] : Fin 0 → Fin S32x32x32.rank)
  bcast_S_S32x1024 : S_.BroadcastsInDim S32x1024 (![] : Fin 0 → Fin S32x1024.rank)
  bcast_S32_S32x1024_0 : S32.BroadcastsInDim S32x1024 (![0] : Fin 1 → Fin S32x1024.rank)
  natLt_1_32 : 1 < 32
  shapeCasts_S32x1024_S32x32x32 : S32x1024.ShapeCasts S32x32x32
  reduceWindows_S32x32x32_S32x32x32_w1s1p0_0_w3s1p1_1_w3s1p1_1 : S32x32x32.ReduceWindows (![1, 3, 3] : Fin 3 → Nat) ![1, 1, 1] ![0, 1, 1] ![0, 1, 1] S32x32x32
  reducesTo_S32x32x32_S32_d1_2 : S32x32x32.ReducesTo [1, 2] S32
  bcast_S32_S32x1x1_0 : S32.BroadcastsInDim S32x1x1 (![0] : Fin 1 → Fin S32x1x1.rank)
  bcast_S_S32x1x1 : S_.BroadcastsInDim S32x1x1 (![] : Fin 0 → Fin S32x1x1.rank)
  bcast_S32x1x1_S32x32x32_0_1_2 : S32x1x1.BroadcastsInDim S32x32x32 (![0, 1, 2] : Fin 3 → Fin S32x32x32.rank)

variable [Facts]

variable {F : FTy → Type} [FloatOps F]
def reducer_argmax_f32_i32 : F .f32 × BitVec 32 → F .f32 × BitVec 32 → F .f32 × BitVec 32 :=
  fun a b =>
    let v2 := FloatOps.cmpf .ogt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

def fn_argmax {F : FTy → Type} [FloatOps F] (arg0 : FVec F S32x1024 .f32) : IVec S32 32 :=
  let v0 : IVec S32x1024 32 := iotaInDim S32x1024 32 1
  let cst : FVec F S_ .f32 := constant S_ .f32 0xFF800000#32
  let c : IVec S_ 32 := constantI S_ 32 0#32
  let v1_0 : FVec F S32 .f32 := (fun x y u v j => (Host.argReduce reducer_argmax_f32_i32 x y u v reducesTo_S32x1024_S32_d1 h_S_ j).1) arg0 v0 cst c
  let v1_1 : IVec S32 32 := (fun x y u v j => (Host.argReduce reducer_argmax_f32_i32 x y u v reducesTo_S32x1024_S32_d1 h_S_ j).2) arg0 v0 cst c
  v1_1

def fn_where {F : FTy → Type} [FloatOps F] (arg0 : IVec S32 1) (arg1 : IVec S32 32) (arg2 : IVec S32 32) : IVec S32 32 :=
  let v0 : IVec S32 32 := select arg0 arg1 arg2
  v0

def fn_floor_divide {F : FTy → Type} [FloatOps F] (arg0 : IVec S32 32) (arg1 : IVec S_ 32) : IVec S32 32 :=
  let v0 : IVec S_ 32 := id arg1
  let v1 : IVec S32 32 := broadcastInDim S32 ![] bcast_S_S32 v0
  let v2 : IVec S32 32 := Host.divsi arg0 v1
  let v3 : IVec S32 32 := signi arg0
  let v4 : IVec S_ 32 := signi v0
  let v5 : IVec S32 32 := broadcastInDim S32 ![] bcast_S_S32 v4
  let v6 : IVec S32 1 := cmpi .ne v3 v5
  let v7 : IVec S32 32 := broadcastInDim S32 ![] bcast_S_S32 v0
  let v8 : IVec S32 32 := Host.remsi arg0 v7
  let c : IVec S_ 32 := constantI S_ 32 0#32
  let v9 : IVec S32 32 := broadcastInDim S32 ![] bcast_S_S32 c
  let v10 : IVec S32 1 := cmpi .ne v8 v9
  let v11 : IVec S32 1 := andi v6 v10
  let c_0 : IVec S_ 32 := constantI S_ 32 1#32
  let v12 : IVec S32 32 := broadcastInDim S32 ![] bcast_S_S32 c_0
  let v13 : IVec S32 32 := subi v2 v12
  let v14 : IVec S32 32 := fn_where (F := F) v11 v13 v2
  v14

def fn_where_0 {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S32 32) (arg1 : IVec S_ 32) : IVec S32 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where_0 (F := F) v1 c_0 v0
  let v3 : IVec S32 32 := broadcastInDim S32 ![] bcast_S_S32 v2
  let v4 : IVec S32 32 := Host.remsi arg0 v3
  let c_1 : IVec S_ 32 := constantI S_ 32 0#32
  let v5 : IVec S32 32 := broadcastInDim S32 ![] bcast_S_S32 c_1
  let v6 : IVec S32 1 := cmpi .ne v4 v5
  let c_2 : IVec S_ 32 := constantI S_ 32 0#32
  let v7 : IVec S32 32 := broadcastInDim S32 ![] bcast_S_S32 c_2
  let v8 : IVec S32 1 := cmpi .slt v4 v7
  let c_3 : IVec S_ 32 := constantI S_ 32 0#32
  let v9 : IVec S_ 1 := cmpi .slt v2 c_3
  let v10 : IVec S32 1 := broadcastInDim S32 ![] bcast_S_S32 v9
  let v11 : IVec S32 1 := cmpi .ne v8 v10
  let v12 : IVec S32 1 := andi v11 v6
  let v13 : IVec S32 32 := broadcastInDim S32 ![] bcast_S_S32 v2
  let v14 : IVec S32 32 := addi v4 v13
  let v15 : IVec S32 32 := select v12 v14 v4
  v15

def fn_part356 {F : FTy → Type} [FloatOps F] (main_v7450 : IVec S32 1) (main_v7493 : IVec S32x1x1 1) (main_v7497 : IVec S32x32x32 1) : IVec S32x32x32 1 :=
  let main_v7498 : IVec S32x32x32 1 := broadcastInDim S32x32x32 ![0, 1, 2] bcast_S32x1x1_S32x32x32_0_1_2 main_v7493
  let main_v7499 : IVec S32x32x32 1 := andi main_v7497 main_v7498
  let main_v7500 : IVec S32x1x1 1 := broadcastInDim S32x1x1 ![0] bcast_S32_S32x1x1_0 main_v7450
  let main_v7501 : IVec S32x32x32 1 := broadcastInDim S32x32x32 ![0, 1, 2] bcast_S32x1x1_S32x32x32_0_1_2 main_v7500
  let main_v7502 : IVec S32x32x32 1 := andi main_v7499 main_v7501
  main_v7502

def fn_part355 {F : FTy → Type} [FloatOps F] (main_arg1 : FVec F S32x32x32 .f32) (main_arg2 : FVec F S32x32x32 .f32) (main_v7450 : IVec S32 1) (main_v7475 : IVec S32x32x32 1) (main_v7477 : IVec S32x32x32 1) (main_v7479 : IVec S32x32x32 1) : IVec S32x32x32 1 :=
  let main_v7480 : IVec S32x32x32 1 := ori main_v7477 main_v7479
  let main_cst_1038 : FVec F S_ .f32 := constant S_ .f32 0x00000000#32
  let main_v7481 : FVec F S32 .f32 := (fun x v => Host.reduceAdd x v reducesTo_S32x32x32_S32_d1_2 h_S_) main_arg1 main_cst_1038
  let main_v7482 : FVec F S32x1x1 .f32 := broadcastInDim S32x1x1 ![0] bcast_S32_S32x1x1_0 main_v7481
  let main_cst_1039 : FVec F S_ .f32 := constant S_ .f32 0x00000000#32
  let main_v7483 : FVec F S32x1x1 .f32 := broadcastInDim S32x1x1 ![] bcast_S_S32x1x1 main_cst_1039
  let main_v7484 : IVec S32x1x1 1 := cmpf .ogt main_v7482 main_v7483
  let main_cst_1040 : FVec F S_ .f32 := constant S_ .f32 0x00000000#32
  let main_v7485 : FVec F S32x32x32 .f32 := broadcastInDim S32x32x32 ![] bcast_S_S32x32x32 main_cst_1040
  let main_v7486 : IVec S32x32x32 1 := cmpf .oeq main_arg2 main_v7485
  let main_cst_1041 : FVec F S_ .f32 := constant S_ .f32 0x3F800000#32
  let main_v7487 : FVec F S32x32x32 .f32 := broadcastInDim S32x32x32 ![] bcast_S_S32x32x32 main_cst_1041
  let main_v7488 : IVec S32x32x32 1 := cmpf .oeq main_arg2 main_v7487
  let main_v7489 : IVec S32x32x32 1 := ori main_v7486 main_v7488
  let main_cst_1042 : FVec F S_ .f32 := constant S_ .f32 0x00000000#32
  let main_v7490 : FVec F S32 .f32 := (fun x v => Host.reduceAdd x v reducesTo_S32x32x32_S32_d1_2 h_S_) main_arg2 main_cst_1042
  let main_v7491 : FVec F S32x1x1 .f32 := broadcastInDim S32x1x1 ![0] bcast_S32_S32x1x1_0 main_v7490
  let main_cst_1043 : FVec F S_ .f32 := constant S_ .f32 0x3F800000#32
  let main_v7492 : FVec F S32x1x1 .f32 := broadcastInDim S32x1x1 ![] bcast_S_S32x1x1 main_cst_1043
  let main_v7493 : IVec S32x1x1 1 := cmpf .oeq main_v7491 main_v7492
  let main_v7494 : IVec S32x32x32 1 := andi main_v7475 main_v7480
  let main_v7495 : IVec S32x32x32 1 := broadcastInDim S32x32x32 ![0, 1, 2] bcast_S32x1x1_S32x32x32_0_1_2 main_v7484
  let main_v7496 : IVec S32x32x32 1 := andi main_v7494 main_v7495
  let main_v7497 : IVec S32x32x32 1 := andi main_v7496 main_v7489
  fn_part356 (F := F) main_v7450 main_v7493 main_v7497

def fn_part354 {F : FTy → Type} [FloatOps F] (main_arg0 : FVec F S32x32x32 .f32) (main_arg1 : FVec F S32x32x32 .f32) (main_arg2 : FVec F S32x32x32 .f32) (main_v37 : IVec S32x1024 1) (main_v7436 : FVec F S32x1024 .f32) (main_v7437 : IVec S32x1024 1) (main_v7441 : IVec S32x1024 1) (main_v7446 : IVec S32x1024 1) (main_v7450 : IVec S32 1) (main_v7454 : FVec F S32x1024 .f32) (main_v7458 : IVec S32x1024 1) (main_v7459 : IVec S32x1024 1) : IVec S32x32x32 1 :=
  let main_v7460 : IVec S32x1024 1 := noti main_v7459
  let main_v7461 : IVec S32x1024 1 := cmpf .ogt main_v7436 main_v7454
  let main_v7462 : IVec S32x1024 1 := andi main_v7441 main_v7461
  let main_v7463 : IVec S32x1024 1 := ori main_v7460 main_v7462
  let main_v7464 : IVec S32x1024 1 := andi main_v7458 main_v7463
  let main_v7465 : FVec F S32x1024 .f32 := select main_v7464 main_v7454 main_v7436
  let main_v7466 : IVec S32x1024 1 := ori main_v7437 main_v7446
  let main_v7467 : IVec S32x1024 1 := andi main_v7446 main_v37
  let main_v7468 : IVec S32x1024 1 := noti main_v7467
  let main_v7469 : IVec S32x1024 1 := andi main_v7441 main_v7468
  let main_v7470 : IVec S32x1024 1 := ori main_v7469 main_v7464
  let main_cst_1034 : FVec F S_ .f32 := constant S_ .f32 0x00000000#32
  let main_v7471 : FVec F S32x32x32 .f32 := broadcastInDim S32x32x32 ![] bcast_S_S32x32x32 main_cst_1034
  let main_v7472 : IVec S32x32x32 1 := cmpf .ogt main_arg0 main_v7471
  let main_cst_1035 : FVec F S_ .f32 := constant S_ .f32 0x7F800000#32
  let main_v7473 : FVec F S32x32x32 .f32 := broadcastInDim S32x32x32 ![] bcast_S_S32x32x32 main_cst_1035
  let main_v7474 : IVec S32x32x32 1 := cmpf .olt main_arg0 main_v7473
  let main_v7475 : IVec S32x32x32 1 := andi main_v7472 main_v7474
  let main_cst_1036 : FVec F S_ .f32 := constant S_ .f32 0x00000000#32
  let main_v7476 : FVec F S32x32x32 .f32 := broadcastInDim S32x32x32 ![] bcast_S_S32x32x32 main_cst_1036
  let main_v7477 : IVec S32x32x32 1 := cmpf .oeq main_arg1 main_v7476
  let main_cst_1037 : FVec F S_ .f32 := constant S_ .f32 0x3F800000#32
  let main_v7478 : FVec F S32x32x32 .f32 := broadcastInDim S32x32x32 ![] bcast_S_S32x32x32 main_cst_1037
  let main_v7479 : IVec S32x32x32 1 := cmpf .oeq main_arg1 main_v7478
  fn_part355 (F := F) main_arg1 main_arg2 main_v7450 main_v7475 main_v7477 main_v7479

def fn_part353 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v7412 : IVec S32x1024 1) (main_v7421 : IVec S32 1) (main_v7435 : IVec S32x1024 1) (main_v7436 : FVec F S32x1024 .f32) (main_v7437 : IVec S32x1024 1) (main_v7439 : IVec S32x1024 1) : IVec S32x32x32 1 :=
  let main_v7440 : IVec S32x1024 1 := andi main_v7412 main_v7439
  let main_v7441 : IVec S32x1024 1 := ori main_v7440 main_v7435
  let main_v7442 : FVec F S32x1024 .f32 := addf main_v7436 main_v34
  let main_v7443 : FVec F S32x1024 .f32 := select main_v7441 main_v7442 main_v38
  let main_cst_1030 : FVec F S_ .f32 := constant S_ .f32 0x7F800000#32
  let main_v7444 : FVec F S32 .f32 := (fun x v => Host.reduce FloatOps.minimumf x v reducesTo_S32x1024_S32_d1 h_S_) main_v7443 main_cst_1030
  let main_v7445 : FVec F S32x1024 .f32 := broadcastInDim S32x1024 ![0] bcast_S32_S32x1024_0 main_v7444
  let main_v7446 : IVec S32x1024 1 := cmpf .oeq main_v7443 main_v7445
  let main_v7447 : IVec S32x1024 32 := (extui 32 · natLt_1_32) main_v7446
  let main_c_1031 : IVec S_ 32 := constantI S_ 32 0#32
  let main_v7448 : IVec S32 32 := (fun x v => Host.reduce IntOp.addi x v reducesTo_S32x1024_S32_d1 h_S_) main_v7447 main_c_1031
  let main_v7449 : IVec S32 1 := cmpi .eq main_v7448 main_v41
  let main_v7450 : IVec S32 1 := andi main_v7421 main_v7449
  let main_v7451 : FVec F S32x1024 .f32 := addf main_v7436 main_v0
  let main_v7452 : FVec F S32x1024 .f32 := select main_v7446 main_v7451 main_v39
  let main_cst_1032 : FVec F S_ .f32 := constant S_ .f32 0x00000000#32
  let main_v7453 : FVec F S32 .f32 := (fun x v => Host.reduceAdd x v reducesTo_S32x1024_S32_d1 h_S_) main_v7452 main_cst_1032
  let main_v7454 : FVec F S32x1024 .f32 := broadcastInDim S32x1024 ![0] bcast_S32_S32x1024_0 main_v7453
  let main_v7455 : IVec S32x32x32 32 := shapeCast S32x32x32 main_v7447 shapeCasts_S32x1024_S32x32x32
  let main_c_1033 : IVec S_ 32 := constantI S_ 32 2147483648#32
  let main_v7456 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v7455 main_c_1033
  let main_v7457 : IVec S32x1024 32 := shapeCast S32x1024 main_v7456 shapeCasts_S32x32x32_S32x1024
  let main_v7458 : IVec S32x1024 1 := cmpi .sgt main_v7457 main_v40
  let main_v7459 : IVec S32x1024 1 := ori main_v7441 main_v7437
  fn_part354 (F := F) main_arg0 main_arg1 main_arg2 main_v37 main_v7436 main_v7437 main_v7441 main_v7446 main_v7450 main_v7454 main_v7458 main_v7459

def fn_part352 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v7392 : IVec S32 1) (main_v7407 : FVec F S32x1024 .f32) (main_v7408 : IVec S32x1024 1) (main_v7412 : IVec S32x1024 1) (main_v7417 : IVec S32x1024 1) (main_v7418 : IVec S32x1024 32) : IVec S32x32x32 1 :=
  let main_c_1027 : IVec S_ 32 := constantI S_ 32 0#32
  let main_v7419 : IVec S32 32 := (fun x v => Host.reduce IntOp.addi x v reducesTo_S32x1024_S32_d1 h_S_) main_v7418 main_c_1027
  let main_v7420 : IVec S32 1 := cmpi .eq main_v7419 main_v41
  let main_v7421 : IVec S32 1 := andi main_v7392 main_v7420
  let main_v7422 : FVec F S32x1024 .f32 := addf main_v7407 main_v0
  let main_v7423 : FVec F S32x1024 .f32 := select main_v7417 main_v7422 main_v39
  let main_cst_1028 : FVec F S_ .f32 := constant S_ .f32 0x00000000#32
  let main_v7424 : FVec F S32 .f32 := (fun x v => Host.reduceAdd x v reducesTo_S32x1024_S32_d1 h_S_) main_v7423 main_cst_1028
  let main_v7425 : FVec F S32x1024 .f32 := broadcastInDim S32x1024 ![0] bcast_S32_S32x1024_0 main_v7424
  let main_v7426 : IVec S32x32x32 32 := shapeCast S32x32x32 main_v7418 shapeCasts_S32x1024_S32x32x32
  let main_c_1029 : IVec S_ 32 := constantI S_ 32 2147483648#32
  let main_v7427 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v7426 main_c_1029
  let main_v7428 : IVec S32x1024 32 := shapeCast S32x1024 main_v7427 shapeCasts_S32x32x32_S32x1024
  let main_v7429 : IVec S32x1024 1 := cmpi .sgt main_v7428 main_v40
  let main_v7430 : IVec S32x1024 1 := ori main_v7412 main_v7408
  let main_v7431 : IVec S32x1024 1 := noti main_v7430
  let main_v7432 : IVec S32x1024 1 := cmpf .ogt main_v7407 main_v7425
  let main_v7433 : IVec S32x1024 1 := andi main_v7412 main_v7432
  let main_v7434 : IVec S32x1024 1 := ori main_v7431 main_v7433
  let main_v7435 : IVec S32x1024 1 := andi main_v7429 main_v7434
  let main_v7436 : FVec F S32x1024 .f32 := select main_v7435 main_v7425 main_v7407
  let main_v7437 : IVec S32x1024 1 := ori main_v7408 main_v7417
  let main_v7438 : IVec S32x1024 1 := andi main_v7417 main_v37
  let main_v7439 : IVec S32x1024 1 := noti main_v7438
  fn_part353 (F := F) main_arg0 main_arg1 main_arg2 main_v0 main_v34 main_v37 main_v38 main_v39 main_v40 main_v41 main_v7412 main_v7421 main_v7435 main_v7436 main_v7437 main_v7439

def fn_part351 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v7378 : FVec F S32x1024 .f32) (main_v7379 : IVec S32x1024 1) (main_v7383 : IVec S32x1024 1) (main_v7388 : IVec S32x1024 1) (main_v7389 : IVec S32x1024 32) (main_v7392 : IVec S32 1) (main_v7396 : FVec F S32x1024 .f32) : IVec S32x32x32 1 :=
  let main_v7397 : IVec S32x32x32 32 := shapeCast S32x32x32 main_v7389 shapeCasts_S32x1024_S32x32x32
  let main_c_1025 : IVec S_ 32 := constantI S_ 32 2147483648#32
  let main_v7398 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v7397 main_c_1025
  let main_v7399 : IVec S32x1024 32 := shapeCast S32x1024 main_v7398 shapeCasts_S32x32x32_S32x1024
  let main_v7400 : IVec S32x1024 1 := cmpi .sgt main_v7399 main_v40
  let main_v7401 : IVec S32x1024 1 := ori main_v7383 main_v7379
  let main_v7402 : IVec S32x1024 1 := noti main_v7401
  let main_v7403 : IVec S32x1024 1 := cmpf .ogt main_v7378 main_v7396
  let main_v7404 : IVec S32x1024 1 := andi main_v7383 main_v7403
  let main_v7405 : IVec S32x1024 1 := ori main_v7402 main_v7404
  let main_v7406 : IVec S32x1024 1 := andi main_v7400 main_v7405
  let main_v7407 : FVec F S32x1024 .f32 := select main_v7406 main_v7396 main_v7378
  let main_v7408 : IVec S32x1024 1 := ori main_v7379 main_v7388
  let main_v7409 : IVec S32x1024 1 := andi main_v7388 main_v37
  let main_v7410 : IVec S32x1024 1 := noti main_v7409
  let main_v7411 : IVec S32x1024 1 := andi main_v7383 main_v7410
  let main_v7412 : IVec S32x1024 1 := ori main_v7411 main_v7406
  let main_v7413 : FVec F S32x1024 .f32 := addf main_v7407 main_v34
  let main_v7414 : FVec F S32x1024 .f32 := select main_v7412 main_v7413 main_v38
  let main_cst_1026 : FVec F S_ .f32 := constant S_ .f32 0x7F800000#32
  let main_v7415 : FVec F S32 .f32 := (fun x v => Host.reduce FloatOps.minimumf x v reducesTo_S32x1024_S32_d1 h_S_) main_v7414 main_cst_1026
  let main_v7416 : FVec F S32x1024 .f32 := broadcastInDim S32x1024 ![0] bcast_S32_S32x1024_0 main_v7415
  let main_v7417 : IVec S32x1024 1 := cmpf .oeq main_v7414 main_v7416
  let main_v7418 : IVec S32x1024 32 := (extui 32 · natLt_1_32) main_v7417
  fn_part352 (F := F) main_arg0 main_arg1 main_arg2 main_v0 main_v34 main_v37 main_v38 main_v39 main_v40 main_v41 main_v7392 main_v7407 main_v7408 main_v7412 main_v7417 main_v7418

def fn_part350 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v7349 : FVec F S32x1024 .f32) (main_v7350 : IVec S32x1024 1) (main_v7354 : IVec S32x1024 1) (main_v7359 : IVec S32x1024 1) (main_v7363 : IVec S32 1) (main_v7367 : FVec F S32x1024 .f32) (main_v7371 : IVec S32x1024 1) (main_v7373 : IVec S32x1024 1) (main_v7375 : IVec S32x1024 1) : IVec S32x32x32 1 :=
  let main_v7376 : IVec S32x1024 1 := ori main_v7373 main_v7375
  let main_v7377 : IVec S32x1024 1 := andi main_v7371 main_v7376
  let main_v7378 : FVec F S32x1024 .f32 := select main_v7377 main_v7367 main_v7349
  let main_v7379 : IVec S32x1024 1 := ori main_v7350 main_v7359
  let main_v7380 : IVec S32x1024 1 := andi main_v7359 main_v37
  let main_v7381 : IVec S32x1024 1 := noti main_v7380
  let main_v7382 : IVec S32x1024 1 := andi main_v7354 main_v7381
  let main_v7383 : IVec S32x1024 1 := ori main_v7382 main_v7377
  let main_v7384 : FVec F S32x1024 .f32 := addf main_v7378 main_v34
  let main_v7385 : FVec F S32x1024 .f32 := select main_v7383 main_v7384 main_v38
  let main_cst_1022 : FVec F S_ .f32 := constant S_ .f32 0x7F800000#32
  let main_v7386 : FVec F S32 .f32 := (fun x v => Host.reduce FloatOps.minimumf x v reducesTo_S32x1024_S32_d1 h_S_) main_v7385 main_cst_1022
  let main_v7387 : FVec F S32x1024 .f32 := broadcastInDim S32x1024 ![0] bcast_S32_S32x1024_0 main_v7386
  let main_v7388 : IVec S32x1024 1 := cmpf .oeq main_v7385 main_v7387
  let main_v7389 : IVec S32x1024 32 := (extui 32 · natLt_1_32) main_v7388
  let main_c_1023 : IVec S_ 32 := constantI S_ 32 0#32
  let main_v7390 : IVec S32 32 := (fun x v => Host.reduce IntOp.addi x v reducesTo_S32x1024_S32_d1 h_S_) main_v7389 main_c_1023
  let main_v7391 : IVec S32 1 := cmpi .eq main_v7390 main_v41
  let main_v7392 : IVec S32 1 := andi main_v7363 main_v7391
  let main_v7393 : FVec F S32x1024 .f32 := addf main_v7378 main_v0
  let main_v7394 : FVec F S32x1024 .f32 := select main_v7388 main_v7393 main_v39
  let main_cst_1024 : FVec F S_ .f32 := constant S_ .f32 0x00000000#32
  let main_v7395 : FVec F S32 .f32 := (fun x v => Host.reduceAdd x v reducesTo_S32x1024_S32_d1 h_S_) main_v7394 main_cst_1024
  let main_v7396 : FVec F S32x1024 .f32 := broadcastInDim S32x1024 ![0] bcast_S32_S32x1024_0 main_v7395
  fn_part351 (F := F) main_arg0 main_arg1 main_arg2 main_v0 main_v34 main_v37 main_v38 main_v39 main_v40 main_v41 main_v7378 main_v7379 main_v7383 main_v7388 main_v7389 main_v7392 main_v7396

def fn_part349 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v7334 : IVec S32 1) (main_v7349 : FVec F S32x1024 .f32) (main_v7350 : IVec S32x1024 1) (main_v7354 : IVec S32x1024 1) (main_v7355 : FVec F S32x1024 .f32) : IVec S32x32x32 1 :=
  let main_v7356 : FVec F S32x1024 .f32 := select main_v7354 main_v7355 main_v38
  let main_cst_1018 : FVec F S_ .f32 := constant S_ .f32 0x7F800000#32
  let main_v7357 : FVec F S32 .f32 := (fun x v => Host.reduce FloatOps.minimumf x v reducesTo_S32x1024_S32_d1 h_S_) main_v7356 main_cst_1018
  let main_v7358 : FVec F S32x1024 .f32 := broadcastInDim S32x1024 ![0] bcast_S32_S32x1024_0 main_v7357
  let main_v7359 : IVec S32x1024 1 := cmpf .oeq main_v7356 main_v7358
  let main_v7360 : IVec S32x1024 32 := (extui 32 · natLt_1_32) main_v7359
  let main_c_1019 : IVec S_ 32 := constantI S_ 32 0#32
  let main_v7361 : IVec S32 32 := (fun x v => Host.reduce IntOp.addi x v reducesTo_S32x1024_S32_d1 h_S_) main_v7360 main_c_1019
  let main_v7362 : IVec S32 1 := cmpi .eq main_v7361 main_v41
  let main_v7363 : IVec S32 1 := andi main_v7334 main_v7362
  let main_v7364 : FVec F S32x1024 .f32 := addf main_v7349 main_v0
  let main_v7365 : FVec F S32x1024 .f32 := select main_v7359 main_v7364 main_v39
  let main_cst_1020 : FVec F S_ .f32 := constant S_ .f32 0x00000000#32
  let main_v7366 : FVec F S32 .f32 := (fun x v => Host.reduceAdd x v reducesTo_S32x1024_S32_d1 h_S_) main_v7365 main_cst_1020
  let main_v7367 : FVec F S32x1024 .f32 := broadcastInDim S32x1024 ![0] bcast_S32_S32x1024_0 main_v7366
  let main_v7368 : IVec S32x32x32 32 := shapeCast S32x32x32 main_v7360 shapeCasts_S32x1024_S32x32x32
  let main_c_1021 : IVec S_ 32 := constantI S_ 32 2147483648#32
  let main_v7369 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v7368 main_c_1021
  let main_v7370 : IVec S32x1024 32 := shapeCast S32x1024 main_v7369 shapeCasts_S32x32x32_S32x1024
  let main_v7371 : IVec S32x1024 1 := cmpi .sgt main_v7370 main_v40
  let main_v7372 : IVec S32x1024 1 := ori main_v7354 main_v7350
  let main_v7373 : IVec S32x1024 1 := noti main_v7372
  let main_v7374 : IVec S32x1024 1 := cmpf .ogt main_v7349 main_v7367
  let main_v7375 : IVec S32x1024 1 := andi main_v7354 main_v7374
  fn_part350 (F := F) main_arg0 main_arg1 main_arg2 main_v0 main_v34 main_v37 main_v38 main_v39 main_v40 main_v41 main_v7349 main_v7350 main_v7354 main_v7359 main_v7363 main_v7367 main_v7371 main_v7373 main_v7375

def fn_part348 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v7305 : IVec S32 1) (main_v7320 : FVec F S32x1024 .f32) (main_v7321 : IVec S32x1024 1) (main_v7325 : IVec S32x1024 1) (main_v7330 : IVec S32x1024 1) (main_v7331 : IVec S32x1024 32) (main_v7333 : IVec S32 1) : IVec S32x32x32 1 :=
  let main_v7334 : IVec S32 1 := andi main_v7305 main_v7333
  let main_v7335 : FVec F S32x1024 .f32 := addf main_v7320 main_v0
  let main_v7336 : FVec F S32x1024 .f32 := select main_v7330 main_v7335 main_v39
  let main_cst_1016 : FVec F S_ .f32 := constant S_ .f32 0x00000000#32
  let main_v7337 : FVec F S32 .f32 := (fun x v => Host.reduceAdd x v reducesTo_S32x1024_S32_d1 h_S_) main_v7336 main_cst_1016
  let main_v7338 : FVec F S32x1024 .f32 := broadcastInDim S32x1024 ![0] bcast_S32_S32x1024_0 main_v7337
  let main_v7339 : IVec S32x32x32 32 := shapeCast S32x32x32 main_v7331 shapeCasts_S32x1024_S32x32x32
  let main_c_1017 : IVec S_ 32 := constantI S_ 32 2147483648#32
  let main_v7340 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v7339 main_c_1017
  let main_v7341 : IVec S32x1024 32 := shapeCast S32x1024 main_v7340 shapeCasts_S32x32x32_S32x1024
  let main_v7342 : IVec S32x1024 1 := cmpi .sgt main_v7341 main_v40
  let main_v7343 : IVec S32x1024 1 := ori main_v7325 main_v7321
  let main_v7344 : IVec S32x1024 1 := noti main_v7343
  let main_v7345 : IVec S32x1024 1 := cmpf .ogt main_v7320 main_v7338
  let main_v7346 : IVec S32x1024 1 := andi main_v7325 main_v7345
  let main_v7347 : IVec S32x1024 1 := ori main_v7344 main_v7346
  let main_v7348 : IVec S32x1024 1 := andi main_v7342 main_v7347
  let main_v7349 : FVec F S32x1024 .f32 := select main_v7348 main_v7338 main_v7320
  let main_v7350 : IVec S32x1024 1 := ori main_v7321 main_v7330
  let main_v7351 : IVec S32x1024 1 := andi main_v7330 main_v37
  let main_v7352 : IVec S32x1024 1 := noti main_v7351
  let main_v7353 : IVec S32x1024 1 := andi main_v7325 main_v7352
  let main_v7354 : IVec S32x1024 1 := ori main_v7353 main_v7348
  let main_v7355 : FVec F S32x1024 .f32 := addf main_v7349 main_v34
  fn_part349 (F := F) main_arg0 main_arg1 main_arg2 main_v0 main_v34 main_v37 main_v38 main_v39 main_v40 main_v41 main_v7334 main_v7349 main_v7350 main_v7354 main_v7355

def fn_part347 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v7291 : FVec F S32x1024 .f32) (main_v7292 : IVec S32x1024 1) (main_v7296 : IVec S32x1024 1) (main_v7301 : IVec S32x1024 1) (main_v7305 : IVec S32 1) (main_v7309 : FVec F S32x1024 .f32) (main_v7311 : IVec S32x32x32 32) : IVec S32x32x32 1 :=
  let main_v7312 : IVec S32x1024 32 := shapeCast S32x1024 main_v7311 shapeCasts_S32x32x32_S32x1024
  let main_v7313 : IVec S32x1024 1 := cmpi .sgt main_v7312 main_v40
  let main_v7314 : IVec S32x1024 1 := ori main_v7296 main_v7292
  let main_v7315 : IVec S32x1024 1 := noti main_v7314
  let main_v7316 : IVec S32x1024 1 := cmpf .ogt main_v7291 main_v7309
  let main_v7317 : IVec S32x1024 1 := andi main_v7296 main_v7316
  let main_v7318 : IVec S32x1024 1 := ori main_v7315 main_v7317
  let main_v7319 : IVec S32x1024 1 := andi main_v7313 main_v7318
  let main_v7320 : FVec F S32x1024 .f32 := select main_v7319 main_v7309 main_v7291
  let main_v7321 : IVec S32x1024 1 := ori main_v7292 main_v7301
  let main_v7322 : IVec S32x1024 1 := andi main_v7301 main_v37
  let main_v7323 : IVec S32x1024 1 := noti main_v7322
  let main_v7324 : IVec S32x1024 1 := andi main_v7296 main_v7323
  let main_v7325 : IVec S32x1024 1 := ori main_v7324 main_v7319
  let main_v7326 : FVec F S32x1024 .f32 := addf main_v7320 main_v34
  let main_v7327 : FVec F S32x1024 .f32 := select main_v7325 main_v7326 main_v38
  let main_cst_1014 : FVec F S_ .f32 := constant S_ .f32 0x7F800000#32
  let main_v7328 : FVec F S32 .f32 := (fun x v => Host.reduce FloatOps.minimumf x v reducesTo_S32x1024_S32_d1 h_S_) main_v7327 main_cst_1014
  let main_v7329 : FVec F S32x1024 .f32 := broadcastInDim S32x1024 ![0] bcast_S32_S32x1024_0 main_v7328
  let main_v7330 : IVec S32x1024 1 := cmpf .oeq main_v7327 main_v7329
  let main_v7331 : IVec S32x1024 32 := (extui 32 · natLt_1_32) main_v7330
  let main_c_1015 : IVec S_ 32 := constantI S_ 32 0#32
  let main_v7332 : IVec S32 32 := (fun x v => Host.reduce IntOp.addi x v reducesTo_S32x1024_S32_d1 h_S_) main_v7331 main_c_1015
  let main_v7333 : IVec S32 1 := cmpi .eq main_v7332 main_v41
  fn_part348 (F := F) main_arg0 main_arg1 main_arg2 main_v0 main_v34 main_v37 main_v38 main_v39 main_v40 main_v41 main_v7305 main_v7320 main_v7321 main_v7325 main_v7330 main_v7331 main_v7333

def fn_part346 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v7263 : IVec S32x1024 1) (main_v7267 : IVec S32x1024 1) (main_v7272 : IVec S32x1024 1) (main_v7276 : IVec S32 1) (main_v7290 : IVec S32x1024 1) (main_v7291 : FVec F S32x1024 .f32) : IVec S32x32x32 1 :=
  let main_v7292 : IVec S32x1024 1 := ori main_v7263 main_v7272
  let main_v7293 : IVec S32x1024 1 := andi main_v7272 main_v37
  let main_v7294 : IVec S32x1024 1 := noti main_v7293
  let main_v7295 : IVec S32x1024 1 := andi main_v7267 main_v7294
  let main_v7296 : IVec S32x1024 1 := ori main_v7295 main_v7290
  let main_v7297 : FVec F S32x1024 .f32 := addf main_v7291 main_v34
  let main_v7298 : FVec F S32x1024 .f32 := select main_v7296 main_v7297 main_v38
  let main_cst_1010 : FVec F S_ .f32 := constant S_ .f32 0x7F800000#32
  let main_v7299 : FVec F S32 .f32 := (fun x v => Host.reduce FloatOps.minimumf x v reducesTo_S32x1024_S32_d1 h_S_) main_v7298 main_cst_1010
  let main_v7300 : FVec F S32x1024 .f32 := broadcastInDim S32x1024 ![0] bcast_S32_S32x1024_0 main_v7299
  let main_v7301 : IVec S32x1024 1 := cmpf .oeq main_v7298 main_v7300
  let main_v7302 : IVec S32x1024 32 := (extui 32 · natLt_1_32) main_v7301
  let main_c_1011 : IVec S_ 32 := constantI S_ 32 0#32
  let main_v7303 : IVec S32 32 := (fun x v => Host.reduce IntOp.addi x v reducesTo_S32x1024_S32_d1 h_S_) main_v7302 main_c_1011
  let main_v7304 : IVec S32 1 := cmpi .eq main_v7303 main_v41
  let main_v7305 : IVec S32 1 := andi main_v7276 main_v7304
  let main_v7306 : FVec F S32x1024 .f32 := addf main_v7291 main_v0
  let main_v7307 : FVec F S32x1024 .f32 := select main_v7301 main_v7306 main_v39
  let main_cst_1012 : FVec F S_ .f32 := constant S_ .f32 0x00000000#32
  let main_v7308 : FVec F S32 .f32 := (fun x v => Host.reduceAdd x v reducesTo_S32x1024_S32_d1 h_S_) main_v7307 main_cst_1012
  let main_v7309 : FVec F S32x1024 .f32 := broadcastInDim S32x1024 ![0] bcast_S32_S32x1024_0 main_v7308
  let main_v7310 : IVec S32x32x32 32 := shapeCast S32x32x32 main_v7302 shapeCasts_S32x1024_S32x32x32
  let main_c_1013 : IVec S_ 32 := constantI S_ 32 2147483648#32
  let main_v7311 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v7310 main_c_1013
  fn_part347 (F := F) main_arg0 main_arg1 main_arg2 main_v0 main_v34 main_v37 main_v38 main_v39 main_v40 main_v41 main_v7291 main_v7292 main_v7296 main_v7301 main_v7305 main_v7309 main_v7311

def fn_part345 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v7247 : IVec S32 1) (main_v7262 : FVec F S32x1024 .f32) (main_v7263 : IVec S32x1024 1) (main_v7267 : IVec S32x1024 1) (main_v7269 : FVec F S32x1024 .f32) (main_v7270 : FVec F S32 .f32) : IVec S32x32x32 1 :=
  let main_v7271 : FVec F S32x1024 .f32 := broadcastInDim S32x1024 ![0] bcast_S32_S32x1024_0 main_v7270
  let main_v7272 : IVec S32x1024 1 := cmpf .oeq main_v7269 main_v7271
  let main_v7273 : IVec S32x1024 32 := (extui 32 · natLt_1_32) main_v7272
  let main_c_1007 : IVec S_ 32 := constantI S_ 32 0#32
  let main_v7274 : IVec S32 32 := (fun x v => Host.reduce IntOp.addi x v reducesTo_S32x1024_S32_d1 h_S_) main_v7273 main_c_1007
  let main_v7275 : IVec S32 1 := cmpi .eq main_v7274 main_v41
  let main_v7276 : IVec S32 1 := andi main_v7247 main_v7275
  let main_v7277 : FVec F S32x1024 .f32 := addf main_v7262 main_v0
  let main_v7278 : FVec F S32x1024 .f32 := select main_v7272 main_v7277 main_v39
  let main_cst_1008 : FVec F S_ .f32 := constant S_ .f32 0x00000000#32
  let main_v7279 : FVec F S32 .f32 := (fun x v => Host.reduceAdd x v reducesTo_S32x1024_S32_d1 h_S_) main_v7278 main_cst_1008
  let main_v7280 : FVec F S32x1024 .f32 := broadcastInDim S32x1024 ![0] bcast_S32_S32x1024_0 main_v7279
  let main_v7281 : IVec S32x32x32 32 := shapeCast S32x32x32 main_v7273 shapeCasts_S32x1024_S32x32x32
  let main_c_1009 : IVec S_ 32 := constantI S_ 32 2147483648#32
  let main_v7282 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v7281 main_c_1009
  let main_v7283 : IVec S32x1024 32 := shapeCast S32x1024 main_v7282 shapeCasts_S32x32x32_S32x1024
  let main_v7284 : IVec S32x1024 1 := cmpi .sgt main_v7283 main_v40
  let main_v7285 : IVec S32x1024 1 := ori main_v7267 main_v7263
  let main_v7286 : IVec S32x1024 1 := noti main_v7285
  let main_v7287 : IVec S32x1024 1 := cmpf .ogt main_v7262 main_v7280
  let main_v7288 : IVec S32x1024 1 := andi main_v7267 main_v7287
  let main_v7289 : IVec S32x1024 1 := ori main_v7286 main_v7288
  let main_v7290 : IVec S32x1024 1 := andi main_v7284 main_v7289
  let main_v7291 : FVec F S32x1024 .f32 := select main_v7290 main_v7280 main_v7262
  fn_part346 (F := F) main_arg0 main_arg1 main_arg2 main_v0 main_v34 main_v37 main_v38 main_v39 main_v40 main_v41 main_v7263 main_v7267 main_v7272 main_v7276 main_v7290 main_v7291

def fn_part344 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v7233 : FVec F S32x1024 .f32) (main_v7234 : IVec S32x1024 1) (main_v7238 : IVec S32x1024 1) (main_v7243 : IVec S32x1024 1) (main_v7244 : IVec S32x1024 32) (main_v7247 : IVec S32 1) (main_v7249 : FVec F S32x1024 .f32) : IVec S32x32x32 1 :=
  let main_cst_1004 : FVec F S_ .f32 := constant S_ .f32 0x00000000#32
  let main_v7250 : FVec F S32 .f32 := (fun x v => Host.reduceAdd x v reducesTo_S32x1024_S32_d1 h_S_) main_v7249 main_cst_1004
  let main_v7251 : FVec F S32x1024 .f32 := broadcastInDim S32x1024 ![0] bcast_S32_S32x1024_0 main_v7250
  let main_v7252 : IVec S32x32x32 32 := shapeCast S32x32x32 main_v7244 shapeCasts_S32x1024_S32x32x32
  let main_c_1005 : IVec S_ 32 := constantI S_ 32 2147483648#32
  let main_v7253 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v7252 main_c_1005
  let main_v7254 : IVec S32x1024 32 := shapeCast S32x1024 main_v7253 shapeCasts_S32x32x32_S32x1024
  let main_v7255 : IVec S32x1024 1 := cmpi .sgt main_v7254 main_v40
  let main_v7256 : IVec S32x1024 1 := ori main_v7238 main_v7234
  let main_v7257 : IVec S32x1024 1 := noti main_v7256
  let main_v7258 : IVec S32x1024 1 := cmpf .ogt main_v7233 main_v7251
  let main_v7259 : IVec S32x1024 1 := andi main_v7238 main_v7258
  let main_v7260 : IVec S32x1024 1 := ori main_v7257 main_v7259
  let main_v7261 : IVec S32x1024 1 := andi main_v7255 main_v7260
  let main_v7262 : FVec F S32x1024 .f32 := select main_v7261 main_v7251 main_v7233
  let main_v7263 : IVec S32x1024 1 := ori main_v7234 main_v7243
  let main_v7264 : IVec S32x1024 1 := andi main_v7243 main_v37
  let main_v7265 : IVec S32x1024 1 := noti main_v7264
  let main_v7266 : IVec S32x1024 1 := andi main_v7238 main_v7265
  let main_v7267 : IVec S32x1024 1 := ori main_v7266 main_v7261
  let main_v7268 : FVec F S32x1024 .f32 := addf main_v7262 main_v34
  let main_v7269 : FVec F S32x1024 .f32 := select main_v7267 main_v7268 main_v38
  let main_cst_1006 : FVec F S_ .f32 := constant S_ .f32 0x7F800000#32
  let main_v7270 : FVec F S32 .f32 := (fun x v => Host.reduce FloatOps.minimumf x v reducesTo_S32x1024_S32_d1 h_S_) main_v7269 main_cst_1006
  fn_part345 (F := F) main_arg0 main_arg1 main_arg2 main_v0 main_v34 main_v37 main_v38 main_v39 main_v40 main_v41 main_v7247 main_v7262 main_v7263 main_v7267 main_v7269 main_v7270

def fn_part343 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v7204 : FVec F S32x1024 .f32) (main_v7205 : IVec S32x1024 1) (main_v7209 : IVec S32x1024 1) (main_v7214 : IVec S32x1024 1) (main_v7218 : IVec S32 1) (main_v7222 : FVec F S32x1024 .f32) (main_v7226 : IVec S32x1024 1) (main_v7227 : IVec S32x1024 1) : IVec S32x32x32 1 :=
  let main_v7228 : IVec S32x1024 1 := noti main_v7227
  let main_v7229 : IVec S32x1024 1 := cmpf .ogt main_v7204 main_v7222
  let main_v7230 : IVec S32x1024 1 := andi main_v7209 main_v7229
  let main_v7231 : IVec S32x1024 1 := ori main_v7228 main_v7230
  let main_v7232 : IVec S32x1024 1 := andi main_v7226 main_v7231
  let main_v7233 : FVec F S32x1024 .f32 := select main_v7232 main_v7222 main_v7204
  let main_v7234 : IVec S32x1024 1 := ori main_v7205 main_v7214
  let main_v7235 : IVec S32x1024 1 := andi main_v7214 main_v37
  let main_v7236 : IVec S32x1024 1 := noti main_v7235
  let main_v7237 : IVec S32x1024 1 := andi main_v7209 main_v7236
  let main_v7238 : IVec S32x1024 1 := ori main_v7237 main_v7232
  let main_v7239 : FVec F S32x1024 .f32 := addf main_v7233 main_v34
  let main_v7240 : FVec F S32x1024 .f32 := select main_v7238 main_v7239 main_v38
  let main_cst_1002 : FVec F S_ .f32 := constant S_ .f32 0x7F800000#32
  let main_v7241 : FVec F S32 .f32 := (fun x v => Host.reduce FloatOps.minimumf x v reducesTo_S32x1024_S32_d1 h_S_) main_v7240 main_cst_1002
  let main_v7242 : FVec F S32x1024 .f32 := broadcastInDim S32x1024 ![0] bcast_S32_S32x1024_0 main_v7241
  let main_v7243 : IVec S32x1024 1 := cmpf .oeq main_v7240 main_v7242
  let main_v7244 : IVec S32x1024 32 := (extui 32 · natLt_1_32) main_v7243
  let main_c_1003 : IVec S_ 32 := constantI S_ 32 0#32
  let main_v7245 : IVec S32 32 := (fun x v => Host.reduce IntOp.addi x v reducesTo_S32x1024_S32_d1 h_S_) main_v7244 main_c_1003
  let main_v7246 : IVec S32 1 := cmpi .eq main_v7245 main_v41
  let main_v7247 : IVec S32 1 := andi main_v7218 main_v7246
  let main_v7248 : FVec F S32x1024 .f32 := addf main_v7233 main_v0
  let main_v7249 : FVec F S32x1024 .f32 := select main_v7243 main_v7248 main_v39
  fn_part344 (F := F) main_arg0 main_arg1 main_arg2 main_v0 main_v34 main_v37 main_v38 main_v39 main_v40 main_v41 main_v7233 main_v7234 main_v7238 main_v7243 main_v7244 main_v7247 main_v7249

def fn_part342 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v7180 : IVec S32x1024 1) (main_v7189 : IVec S32 1) (main_v7203 : IVec S32x1024 1) (main_v7204 : FVec F S32x1024 .f32) (main_v7205 : IVec S32x1024 1) (main_v7207 : IVec S32x1024 1) : IVec S32x32x32 1 :=
  let main_v7208 : IVec S32x1024 1 := andi main_v7180 main_v7207
  let main_v7209 : IVec S32x1024 1 := ori main_v7208 main_v7203
  let main_v7210 : FVec F S32x1024 .f32 := addf main_v7204 main_v34
  let main_v7211 : FVec F S32x1024 .f32 := select main_v7209 main_v7210 main_v38
  let main_cst_998 : FVec F S_ .f32 := constant S_ .f32 0x7F800000#32
  let main_v7212 : FVec F S32 .f32 := (fun x v => Host.reduce FloatOps.minimumf x v reducesTo_S32x1024_S32_d1 h_S_) main_v7211 main_cst_998
  let main_v7213 : FVec F S32x1024 .f32 := broadcastInDim S32x1024 ![0] bcast_S32_S32x1024_0 main_v7212
  let main_v7214 : IVec S32x1024 1 := cmpf .oeq main_v7211 main_v7213
  let main_v7215 : IVec S32x1024 32 := (extui 32 · natLt_1_32) main_v7214
  let main_c_999 : IVec S_ 32 := constantI S_ 32 0#32
  let main_v7216 : IVec S32 32 := (fun x v => Host.reduce IntOp.addi x v reducesTo_S32x1024_S32_d1 h_S_) main_v7215 main_c_999
  let main_v7217 : IVec S32 1 := cmpi .eq main_v7216 main_v41
  let main_v7218 : IVec S32 1 := andi main_v7189 main_v7217
  let main_v7219 : FVec F S32x1024 .f32 := addf main_v7204 main_v0
  let main_v7220 : FVec F S32x1024 .f32 := select main_v7214 main_v7219 main_v39
  let main_cst_1000 : FVec F S_ .f32 := constant S_ .f32 0x00000000#32
  let main_v7221 : FVec F S32 .f32 := (fun x v => Host.reduceAdd x v reducesTo_S32x1024_S32_d1 h_S_) main_v7220 main_cst_1000
  let main_v7222 : FVec F S32x1024 .f32 := broadcastInDim S32x1024 ![0] bcast_S32_S32x1024_0 main_v7221
  let main_v7223 : IVec S32x32x32 32 := shapeCast S32x32x32 main_v7215 shapeCasts_S32x1024_S32x32x32
  let main_c_1001 : IVec S_ 32 := constantI S_ 32 2147483648#32
  let main_v7224 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v7223 main_c_1001
  let main_v7225 : IVec S32x1024 32 := shapeCast S32x1024 main_v7224 shapeCasts_S32x32x32_S32x1024
  let main_v7226 : IVec S32x1024 1 := cmpi .sgt main_v7225 main_v40
  let main_v7227 : IVec S32x1024 1 := ori main_v7209 main_v7205
  fn_part343 (F := F) main_arg0 main_arg1 main_arg2 main_v0 main_v34 main_v37 main_v38 main_v39 main_v40 main_v41 main_v7204 main_v7205 main_v7209 main_v7214 main_v7218 main_v7222 main_v7226 main_v7227

def fn_part341 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v7160 : IVec S32 1) (main_v7175 : FVec F S32x1024 .f32) (main_v7176 : IVec S32x1024 1) (main_v7180 : IVec S32x1024 1) (main_v7185 : IVec S32x1024 1) (main_v7186 : IVec S32x1024 32) : IVec S32x32x32 1 :=
  let main_c_995 : IVec S_ 32 := constantI S_ 32 0#32
  let main_v7187 : IVec S32 32 := (fun x v => Host.reduce IntOp.addi x v reducesTo_S32x1024_S32_d1 h_S_) main_v7186 main_c_995
  let main_v7188 : IVec S32 1 := cmpi .eq main_v7187 main_v41
  let main_v7189 : IVec S32 1 := andi main_v7160 main_v7188
  let main_v7190 : FVec F S32x1024 .f32 := addf main_v7175 main_v0
  let main_v7191 : FVec F S32x1024 .f32 := select main_v7185 main_v7190 main_v39
  let main_cst_996 : FVec F S_ .f32 := constant S_ .f32 0x00000000#32
  let main_v7192 : FVec F S32 .f32 := (fun x v => Host.reduceAdd x v reducesTo_S32x1024_S32_d1 h_S_) main_v7191 main_cst_996
  let main_v7193 : FVec F S32x1024 .f32 := broadcastInDim S32x1024 ![0] bcast_S32_S32x1024_0 main_v7192
  let main_v7194 : IVec S32x32x32 32 := shapeCast S32x32x32 main_v7186 shapeCasts_S32x1024_S32x32x32
  let main_c_997 : IVec S_ 32 := constantI S_ 32 2147483648#32
  let main_v7195 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v7194 main_c_997
  let main_v7196 : IVec S32x1024 32 := shapeCast S32x1024 main_v7195 shapeCasts_S32x32x32_S32x1024
  let main_v7197 : IVec S32x1024 1 := cmpi .sgt main_v7196 main_v40
  let main_v7198 : IVec S32x1024 1 := ori main_v7180 main_v7176
  let main_v7199 : IVec S32x1024 1 := noti main_v7198
  let main_v7200 : IVec S32x1024 1 := cmpf .ogt main_v7175 main_v7193
  let main_v7201 : IVec S32x1024 1 := andi main_v7180 main_v7200
  let main_v7202 : IVec S32x1024 1 := ori main_v7199 main_v7201
  let main_v7203 : IVec S32x1024 1 := andi main_v7197 main_v7202
  let main_v7204 : FVec F S32x1024 .f32 := select main_v7203 main_v7193 main_v7175
  let main_v7205 : IVec S32x1024 1 := ori main_v7176 main_v7185
  let main_v7206 : IVec S32x1024 1 := andi main_v7185 main_v37
  let main_v7207 : IVec S32x1024 1 := noti main_v7206
  fn_part342 (F := F) main_arg0 main_arg1 main_arg2 main_v0 main_v34 main_v37 main_v38 main_v39 main_v40 main_v41 main_v7180 main_v7189 main_v7203 main_v7204 main_v7205 main_v7207

def fn_part340 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v7146 : FVec F S32x1024 .f32) (main_v7147 : IVec S32x1024 1) (main_v7151 : IVec S32x1024 1) (main_v7156 : IVec S32x1024 1) (main_v7157 : IVec S32x1024 32) (main_v7160 : IVec S32 1) (main_v7164 : FVec F S32x1024 .f32) : IVec S32x32x32 1 :=
  let main_v7165 : IVec S32x32x32 32 := shapeCast S32x32x32 main_v7157 shapeCasts_S32x1024_S32x32x32
  let main_c_993 : IVec S_ 32 := constantI S_ 32 2147483648#32
  let main_v7166 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v7165 main_c_993
  let main_v7167 : IVec S32x1024 32 := shapeCast S32x1024 main_v7166 shapeCasts_S32x32x32_S32x1024
  let main_v7168 : IVec S32x1024 1 := cmpi .sgt main_v7167 main_v40
  let main_v7169 : IVec S32x1024 1 := ori main_v7151 main_v7147
  let main_v7170 : IVec S32x1024 1 := noti main_v7169
  let main_v7171 : IVec S32x1024 1 := cmpf .ogt main_v7146 main_v7164
  let main_v7172 : IVec S32x1024 1 := andi main_v7151 main_v7171
  let main_v7173 : IVec S32x1024 1 := ori main_v7170 main_v7172
  let main_v7174 : IVec S32x1024 1 := andi main_v7168 main_v7173
  let main_v7175 : FVec F S32x1024 .f32 := select main_v7174 main_v7164 main_v7146
  let main_v7176 : IVec S32x1024 1 := ori main_v7147 main_v7156
  let main_v7177 : IVec S32x1024 1 := andi main_v7156 main_v37
  let main_v7178 : IVec S32x1024 1 := noti main_v7177
  let main_v7179 : IVec S32x1024 1 := andi main_v7151 main_v7178
  let main_v7180 : IVec S32x1024 1 := ori main_v7179 main_v7174
  let main_v7181 : FVec F S32x1024 .f32 := addf main_v7175 main_v34
  let main_v7182 : FVec F S32x1024 .f32 := select main_v7180 main_v7181 main_v38
  let main_cst_994 : FVec F S_ .f32 := constant S_ .f32 0x7F800000#32
  let main_v7183 : FVec F S32 .f32 := (fun x v => Host.reduce FloatOps.minimumf x v reducesTo_S32x1024_S32_d1 h_S_) main_v7182 main_cst_994
  let main_v7184 : FVec F S32x1024 .f32 := broadcastInDim S32x1024 ![0] bcast_S32_S32x1024_0 main_v7183
  let main_v7185 : IVec S32x1024 1 := cmpf .oeq main_v7182 main_v7184
  let main_v7186 : IVec S32x1024 32 := (extui 32 · natLt_1_32) main_v7185
  fn_part341 (F := F) main_arg0 main_arg1 main_arg2 main_v0 main_v34 main_v37 main_v38 main_v39 main_v40 main_v41 main_v7160 main_v7175 main_v7176 main_v7180 main_v7185 main_v7186

def fn_part339 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v7117 : FVec F S32x1024 .f32) (main_v7118 : IVec S32x1024 1) (main_v7122 : IVec S32x1024 1) (main_v7127 : IVec S32x1024 1) (main_v7131 : IVec S32 1) (main_v7135 : FVec F S32x1024 .f32) (main_v7139 : IVec S32x1024 1) (main_v7141 : IVec S32x1024 1) (main_v7143 : IVec S32x1024 1) : IVec S32x32x32 1 :=
  let main_v7144 : IVec S32x1024 1 := ori main_v7141 main_v7143
  let main_v7145 : IVec S32x1024 1 := andi main_v7139 main_v7144
  let main_v7146 : FVec F S32x1024 .f32 := select main_v7145 main_v7135 main_v7117
  let main_v7147 : IVec S32x1024 1 := ori main_v7118 main_v7127
  let main_v7148 : IVec S32x1024 1 := andi main_v7127 main_v37
  let main_v7149 : IVec S32x1024 1 := noti main_v7148
  let main_v7150 : IVec S32x1024 1 := andi main_v7122 main_v7149
  let main_v7151 : IVec S32x1024 1 := ori main_v7150 main_v7145
  let main_v7152 : FVec F S32x1024 .f32 := addf main_v7146 main_v34
  let main_v7153 : FVec F S32x1024 .f32 := select main_v7151 main_v7152 main_v38
  let main_cst_990 : FVec F S_ .f32 := constant S_ .f32 0x7F800000#32
  let main_v7154 : FVec F S32 .f32 := (fun x v => Host.reduce FloatOps.minimumf x v reducesTo_S32x1024_S32_d1 h_S_) main_v7153 main_cst_990
  let main_v7155 : FVec F S32x1024 .f32 := broadcastInDim S32x1024 ![0] bcast_S32_S32x1024_0 main_v7154
  let main_v7156 : IVec S32x1024 1 := cmpf .oeq main_v7153 main_v7155
  let main_v7157 : IVec S32x1024 32 := (extui 32 · natLt_1_32) main_v7156
  let main_c_991 : IVec S_ 32 := constantI S_ 32 0#32
  let main_v7158 : IVec S32 32 := (fun x v => Host.reduce IntOp.addi x v reducesTo_S32x1024_S32_d1 h_S_) main_v7157 main_c_991
  let main_v7159 : IVec S32 1 := cmpi .eq main_v7158 main_v41
  let main_v7160 : IVec S32 1 := andi main_v7131 main_v7159
  let main_v7161 : FVec F S32x1024 .f32 := addf main_v7146 main_v0
  let main_v7162 : FVec F S32x1024 .f32 := select main_v7156 main_v7161 main_v39
  let main_cst_992 : FVec F S_ .f32 := constant S_ .f32 0x00000000#32
  let main_v7163 : FVec F S32 .f32 := (fun x v => Host.reduceAdd x v reducesTo_S32x1024_S32_d1 h_S_) main_v7162 main_cst_992
  let main_v7164 : FVec F S32x1024 .f32 := broadcastInDim S32x1024 ![0] bcast_S32_S32x1024_0 main_v7163
  fn_part340 (F := F) main_arg0 main_arg1 main_arg2 main_v0 main_v34 main_v37 main_v38 main_v39 main_v40 main_v41 main_v7146 main_v7147 main_v7151 main_v7156 main_v7157 main_v7160 main_v7164

def fn_part338 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v7102 : IVec S32 1) (main_v7117 : FVec F S32x1024 .f32) (main_v7118 : IVec S32x1024 1) (main_v7122 : IVec S32x1024 1) (main_v7123 : FVec F S32x1024 .f32) : IVec S32x32x32 1 :=
  let main_v7124 : FVec F S32x1024 .f32 := select main_v7122 main_v7123 main_v38
  let main_cst_986 : FVec F S_ .f32 := constant S_ .f32 0x7F800000#32
  let main_v7125 : FVec F S32 .f32 := (fun x v => Host.reduce FloatOps.minimumf x v reducesTo_S32x1024_S32_d1 h_S_) main_v7124 main_cst_986
  let main_v7126 : FVec F S32x1024 .f32 := broadcastInDim S32x1024 ![0] bcast_S32_S32x1024_0 main_v7125
  let main_v7127 : IVec S32x1024 1 := cmpf .oeq main_v7124 main_v7126
  let main_v7128 : IVec S32x1024 32 := (extui 32 · natLt_1_32) main_v7127
  let main_c_987 : IVec S_ 32 := constantI S_ 32 0#32
  let main_v7129 : IVec S32 32 := (fun x v => Host.reduce IntOp.addi x v reducesTo_S32x1024_S32_d1 h_S_) main_v7128 main_c_987
  let main_v7130 : IVec S32 1 := cmpi .eq main_v7129 main_v41
  let main_v7131 : IVec S32 1 := andi main_v7102 main_v7130
  let main_v7132 : FVec F S32x1024 .f32 := addf main_v7117 main_v0
  let main_v7133 : FVec F S32x1024 .f32 := select main_v7127 main_v7132 main_v39
  let main_cst_988 : FVec F S_ .f32 := constant S_ .f32 0x00000000#32
  let main_v7134 : FVec F S32 .f32 := (fun x v => Host.reduceAdd x v reducesTo_S32x1024_S32_d1 h_S_) main_v7133 main_cst_988
  let main_v7135 : FVec F S32x1024 .f32 := broadcastInDim S32x1024 ![0] bcast_S32_S32x1024_0 main_v7134
  let main_v7136 : IVec S32x32x32 32 := shapeCast S32x32x32 main_v7128 shapeCasts_S32x1024_S32x32x32
  let main_c_989 : IVec S_ 32 := constantI S_ 32 2147483648#32
  let main_v7137 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v7136 main_c_989
  let main_v7138 : IVec S32x1024 32 := shapeCast S32x1024 main_v7137 shapeCasts_S32x32x32_S32x1024
  let main_v7139 : IVec S32x1024 1 := cmpi .sgt main_v7138 main_v40
  let main_v7140 : IVec S32x1024 1 := ori main_v7122 main_v7118
  let main_v7141 : IVec S32x1024 1 := noti main_v7140
  let main_v7142 : IVec S32x1024 1 := cmpf .ogt main_v7117 main_v7135
  let main_v7143 : IVec S32x1024 1 := andi main_v7122 main_v7142
  fn_part339 (F := F) main_arg0 main_arg1 main_arg2 main_v0 main_v34 main_v37 main_v38 main_v39 main_v40 main_v41 main_v7117 main_v7118 main_v7122 main_v7127 main_v7131 main_v7135 main_v7139 main_v7141 main_v7143

def fn_part337 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v7073 : IVec S32 1) (main_v7088 : FVec F S32x1024 .f32) (main_v7089 : IVec S32x1024 1) (main_v7093 : IVec S32x1024 1) (main_v7098 : IVec S32x1024 1) (main_v7099 : IVec S32x1024 32) (main_v7101 : IVec S32 1) : IVec S32x32x32 1 :=
  let main_v7102 : IVec S32 1 := andi main_v7073 main_v7101
  let main_v7103 : FVec F S32x1024 .f32 := addf main_v7088 main_v0
  let main_v7104 : FVec F S32x1024 .f32 := select main_v7098 main_v7103 main_v39
  let main_cst_984 : FVec F S_ .f32 := constant S_ .f32 0x00000000#32
  let main_v7105 : FVec F S32 .f32 := (fun x v => Host.reduceAdd x v reducesTo_S32x1024_S32_d1 h_S_) main_v7104 main_cst_984
  let main_v7106 : FVec F S32x1024 .f32 := broadcastInDim S32x1024 ![0] bcast_S32_S32x1024_0 main_v7105
  let main_v7107 : IVec S32x32x32 32 := shapeCast S32x32x32 main_v7099 shapeCasts_S32x1024_S32x32x32
  let main_c_985 : IVec S_ 32 := constantI S_ 32 2147483648#32
  let main_v7108 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v7107 main_c_985
  let main_v7109 : IVec S32x1024 32 := shapeCast S32x1024 main_v7108 shapeCasts_S32x32x32_S32x1024
  let main_v7110 : IVec S32x1024 1 := cmpi .sgt main_v7109 main_v40
  let main_v7111 : IVec S32x1024 1 := ori main_v7093 main_v7089
  let main_v7112 : IVec S32x1024 1 := noti main_v7111
  let main_v7113 : IVec S32x1024 1 := cmpf .ogt main_v7088 main_v7106
  let main_v7114 : IVec S32x1024 1 := andi main_v7093 main_v7113
  let main_v7115 : IVec S32x1024 1 := ori main_v7112 main_v7114
  let main_v7116 : IVec S32x1024 1 := andi main_v7110 main_v7115
  let main_v7117 : FVec F S32x1024 .f32 := select main_v7116 main_v7106 main_v7088
  let main_v7118 : IVec S32x1024 1 := ori main_v7089 main_v7098
  let main_v7119 : IVec S32x1024 1 := andi main_v7098 main_v37
  let main_v7120 : IVec S32x1024 1 := noti main_v7119
  let main_v7121 : IVec S32x1024 1 := andi main_v7093 main_v7120
  let main_v7122 : IVec S32x1024 1 := ori main_v7121 main_v7116
  let main_v7123 : FVec F S32x1024 .f32 := addf main_v7117 main_v34
  fn_part338 (F := F) main_arg0 main_arg1 main_arg2 main_v0 main_v34 main_v37 main_v38 main_v39 main_v40 main_v41 main_v7102 main_v7117 main_v7118 main_v7122 main_v7123

def fn_part336 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v7059 : FVec F S32x1024 .f32) (main_v7060 : IVec S32x1024 1) (main_v7064 : IVec S32x1024 1) (main_v7069 : IVec S32x1024 1) (main_v7073 : IVec S32 1) (main_v7077 : FVec F S32x1024 .f32) (main_v7079 : IVec S32x32x32 32) : IVec S32x32x32 1 :=
  let main_v7080 : IVec S32x1024 32 := shapeCast S32x1024 main_v7079 shapeCasts_S32x32x32_S32x1024
  let main_v7081 : IVec S32x1024 1 := cmpi .sgt main_v7080 main_v40
  let main_v7082 : IVec S32x1024 1 := ori main_v7064 main_v7060
  let main_v7083 : IVec S32x1024 1 := noti main_v7082
  let main_v7084 : IVec S32x1024 1 := cmpf .ogt main_v7059 main_v7077
  let main_v7085 : IVec S32x1024 1 := andi main_v7064 main_v7084
  let main_v7086 : IVec S32x1024 1 := ori main_v7083 main_v7085
  let main_v7087 : IVec S32x1024 1 := andi main_v7081 main_v7086
  let main_v7088 : FVec F S32x1024 .f32 := select main_v7087 main_v7077 main_v7059
  let main_v7089 : IVec S32x1024 1 := ori main_v7060 main_v7069
  let main_v7090 : IVec S32x1024 1 := andi main_v7069 main_v37
  let main_v7091 : IVec S32x1024 1 := noti main_v7090
  let main_v7092 : IVec S32x1024 1 := andi main_v7064 main_v7091
  let main_v7093 : IVec S32x1024 1 := ori main_v7092 main_v7087
  let main_v7094 : FVec F S32x1024 .f32 := addf main_v7088 main_v34
  let main_v7095 : FVec F S32x1024 .f32 := select main_v7093 main_v7094 main_v38
  let main_cst_982 : FVec F S_ .f32 := constant S_ .f32 0x7F800000#32
  let main_v7096 : FVec F S32 .f32 := (fun x v => Host.reduce FloatOps.minimumf x v reducesTo_S32x1024_S32_d1 h_S_) main_v7095 main_cst_982
  let main_v7097 : FVec F S32x1024 .f32 := broadcastInDim S32x1024 ![0] bcast_S32_S32x1024_0 main_v7096
  let main_v7098 : IVec S32x1024 1 := cmpf .oeq main_v7095 main_v7097
  let main_v7099 : IVec S32x1024 32 := (extui 32 · natLt_1_32) main_v7098
  let main_c_983 : IVec S_ 32 := constantI S_ 32 0#32
  let main_v7100 : IVec S32 32 := (fun x v => Host.reduce IntOp.addi x v reducesTo_S32x1024_S32_d1 h_S_) main_v7099 main_c_983
  let main_v7101 : IVec S32 1 := cmpi .eq main_v7100 main_v41
  fn_part337 (F := F) main_arg0 main_arg1 main_arg2 main_v0 main_v34 main_v37 main_v38 main_v39 main_v40 main_v41 main_v7073 main_v7088 main_v7089 main_v7093 main_v7098 main_v7099 main_v7101

def fn_part335 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v7031 : IVec S32x1024 1) (main_v7035 : IVec S32x1024 1) (main_v7040 : IVec S32x1024 1) (main_v7044 : IVec S32 1) (main_v7058 : IVec S32x1024 1) (main_v7059 : FVec F S32x1024 .f32) : IVec S32x32x32 1 :=
  let main_v7060 : IVec S32x1024 1 := ori main_v7031 main_v7040
  let main_v7061 : IVec S32x1024 1 := andi main_v7040 main_v37
  let main_v7062 : IVec S32x1024 1 := noti main_v7061
  let main_v7063 : IVec S32x1024 1 := andi main_v7035 main_v7062
  let main_v7064 : IVec S32x1024 1 := ori main_v7063 main_v7058
  let main_v7065 : FVec F S32x1024 .f32 := addf main_v7059 main_v34
  let main_v7066 : FVec F S32x1024 .f32 := select main_v7064 main_v7065 main_v38
  let main_cst_978 : FVec F S_ .f32 := constant S_ .f32 0x7F800000#32
  let main_v7067 : FVec F S32 .f32 := (fun x v => Host.reduce FloatOps.minimumf x v reducesTo_S32x1024_S32_d1 h_S_) main_v7066 main_cst_978
  let main_v7068 : FVec F S32x1024 .f32 := broadcastInDim S32x1024 ![0] bcast_S32_S32x1024_0 main_v7067
  let main_v7069 : IVec S32x1024 1 := cmpf .oeq main_v7066 main_v7068
  let main_v7070 : IVec S32x1024 32 := (extui 32 · natLt_1_32) main_v7069
  let main_c_979 : IVec S_ 32 := constantI S_ 32 0#32
  let main_v7071 : IVec S32 32 := (fun x v => Host.reduce IntOp.addi x v reducesTo_S32x1024_S32_d1 h_S_) main_v7070 main_c_979
  let main_v7072 : IVec S32 1 := cmpi .eq main_v7071 main_v41
  let main_v7073 : IVec S32 1 := andi main_v7044 main_v7072
  let main_v7074 : FVec F S32x1024 .f32 := addf main_v7059 main_v0
  let main_v7075 : FVec F S32x1024 .f32 := select main_v7069 main_v7074 main_v39
  let main_cst_980 : FVec F S_ .f32 := constant S_ .f32 0x00000000#32
  let main_v7076 : FVec F S32 .f32 := (fun x v => Host.reduceAdd x v reducesTo_S32x1024_S32_d1 h_S_) main_v7075 main_cst_980
  let main_v7077 : FVec F S32x1024 .f32 := broadcastInDim S32x1024 ![0] bcast_S32_S32x1024_0 main_v7076
  let main_v7078 : IVec S32x32x32 32 := shapeCast S32x32x32 main_v7070 shapeCasts_S32x1024_S32x32x32
  let main_c_981 : IVec S_ 32 := constantI S_ 32 2147483648#32
  let main_v7079 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v7078 main_c_981
  fn_part336 (F := F) main_arg0 main_arg1 main_arg2 main_v0 main_v34 main_v37 main_v38 main_v39 main_v40 main_v41 main_v7059 main_v7060 main_v7064 main_v7069 main_v7073 main_v7077 main_v7079

def fn_part334 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v7015 : IVec S32 1) (main_v7030 : FVec F S32x1024 .f32) (main_v7031 : IVec S32x1024 1) (main_v7035 : IVec S32x1024 1) (main_v7037 : FVec F S32x1024 .f32) (main_v7038 : FVec F S32 .f32) : IVec S32x32x32 1 :=
  let main_v7039 : FVec F S32x1024 .f32 := broadcastInDim S32x1024 ![0] bcast_S32_S32x1024_0 main_v7038
  let main_v7040 : IVec S32x1024 1 := cmpf .oeq main_v7037 main_v7039
  let main_v7041 : IVec S32x1024 32 := (extui 32 · natLt_1_32) main_v7040
  let main_c_975 : IVec S_ 32 := constantI S_ 32 0#32
  let main_v7042 : IVec S32 32 := (fun x v => Host.reduce IntOp.addi x v reducesTo_S32x1024_S32_d1 h_S_) main_v7041 main_c_975
  let main_v7043 : IVec S32 1 := cmpi .eq main_v7042 main_v41
  let main_v7044 : IVec S32 1 := andi main_v7015 main_v7043
  let main_v7045 : FVec F S32x1024 .f32 := addf main_v7030 main_v0
  let main_v7046 : FVec F S32x1024 .f32 := select main_v7040 main_v7045 main_v39
  let main_cst_976 : FVec F S_ .f32 := constant S_ .f32 0x00000000#32
  let main_v7047 : FVec F S32 .f32 := (fun x v => Host.reduceAdd x v reducesTo_S32x1024_S32_d1 h_S_) main_v7046 main_cst_976
  let main_v7048 : FVec F S32x1024 .f32 := broadcastInDim S32x1024 ![0] bcast_S32_S32x1024_0 main_v7047
  let main_v7049 : IVec S32x32x32 32 := shapeCast S32x32x32 main_v7041 shapeCasts_S32x1024_S32x32x32
  let main_c_977 : IVec S_ 32 := constantI S_ 32 2147483648#32
  let main_v7050 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v7049 main_c_977
  let main_v7051 : IVec S32x1024 32 := shapeCast S32x1024 main_v7050 shapeCasts_S32x32x32_S32x1024
  let main_v7052 : IVec S32x1024 1 := cmpi .sgt main_v7051 main_v40
  let main_v7053 : IVec S32x1024 1 := ori main_v7035 main_v7031
  let main_v7054 : IVec S32x1024 1 := noti main_v7053
  let main_v7055 : IVec S32x1024 1 := cmpf .ogt main_v7030 main_v7048
  let main_v7056 : IVec S32x1024 1 := andi main_v7035 main_v7055
  let main_v7057 : IVec S32x1024 1 := ori main_v7054 main_v7056
  let main_v7058 : IVec S32x1024 1 := andi main_v7052 main_v7057
  let main_v7059 : FVec F S32x1024 .f32 := select main_v7058 main_v7048 main_v7030
  fn_part335 (F := F) main_arg0 main_arg1 main_arg2 main_v0 main_v34 main_v37 main_v38 main_v39 main_v40 main_v41 main_v7031 main_v7035 main_v7040 main_v7044 main_v7058 main_v7059

def fn_part333 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v7001 : FVec F S32x1024 .f32) (main_v7002 : IVec S32x1024 1) (main_v7006 : IVec S32x1024 1) (main_v7011 : IVec S32x1024 1) (main_v7012 : IVec S32x1024 32) (main_v7015 : IVec S32 1) (main_v7017 : FVec F S32x1024 .f32) : IVec S32x32x32 1 :=
  let main_cst_972 : FVec F S_ .f32 := constant S_ .f32 0x00000000#32
  let main_v7018 : FVec F S32 .f32 := (fun x v => Host.reduceAdd x v reducesTo_S32x1024_S32_d1 h_S_) main_v7017 main_cst_972
  let main_v7019 : FVec F S32x1024 .f32 := broadcastInDim S32x1024 ![0] bcast_S32_S32x1024_0 main_v7018
  let main_v7020 : IVec S32x32x32 32 := shapeCast S32x32x32 main_v7012 shapeCasts_S32x1024_S32x32x32
  let main_c_973 : IVec S_ 32 := constantI S_ 32 2147483648#32
  let main_v7021 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v7020 main_c_973
  let main_v7022 : IVec S32x1024 32 := shapeCast S32x1024 main_v7021 shapeCasts_S32x32x32_S32x1024
  let main_v7023 : IVec S32x1024 1 := cmpi .sgt main_v7022 main_v40
  let main_v7024 : IVec S32x1024 1 := ori main_v7006 main_v7002
  let main_v7025 : IVec S32x1024 1 := noti main_v7024
  let main_v7026 : IVec S32x1024 1 := cmpf .ogt main_v7001 main_v7019
  let main_v7027 : IVec S32x1024 1 := andi main_v7006 main_v7026
  let main_v7028 : IVec S32x1024 1 := ori main_v7025 main_v7027
  let main_v7029 : IVec S32x1024 1 := andi main_v7023 main_v7028
  let main_v7030 : FVec F S32x1024 .f32 := select main_v7029 main_v7019 main_v7001
  let main_v7031 : IVec S32x1024 1 := ori main_v7002 main_v7011
  let main_v7032 : IVec S32x1024 1 := andi main_v7011 main_v37
  let main_v7033 : IVec S32x1024 1 := noti main_v7032
  let main_v7034 : IVec S32x1024 1 := andi main_v7006 main_v7033
  let main_v7035 : IVec S32x1024 1 := ori main_v7034 main_v7029
  let main_v7036 : FVec F S32x1024 .f32 := addf main_v7030 main_v34
  let main_v7037 : FVec F S32x1024 .f32 := select main_v7035 main_v7036 main_v38
  let main_cst_974 : FVec F S_ .f32 := constant S_ .f32 0x7F800000#32
  let main_v7038 : FVec F S32 .f32 := (fun x v => Host.reduce FloatOps.minimumf x v reducesTo_S32x1024_S32_d1 h_S_) main_v7037 main_cst_974
  fn_part334 (F := F) main_arg0 main_arg1 main_arg2 main_v0 main_v34 main_v37 main_v38 main_v39 main_v40 main_v41 main_v7015 main_v7030 main_v7031 main_v7035 main_v7037 main_v7038

def fn_part332 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v6972 : FVec F S32x1024 .f32) (main_v6973 : IVec S32x1024 1) (main_v6977 : IVec S32x1024 1) (main_v6982 : IVec S32x1024 1) (main_v6986 : IVec S32 1) (main_v6990 : FVec F S32x1024 .f32) (main_v6994 : IVec S32x1024 1) (main_v6995 : IVec S32x1024 1) : IVec S32x32x32 1 :=
  let main_v6996 : IVec S32x1024 1 := noti main_v6995
  let main_v6997 : IVec S32x1024 1 := cmpf .ogt main_v6972 main_v6990
  let main_v6998 : IVec S32x1024 1 := andi main_v6977 main_v6997
  let main_v6999 : IVec S32x1024 1 := ori main_v6996 main_v6998
  let main_v7000 : IVec S32x1024 1 := andi main_v6994 main_v6999
  let main_v7001 : FVec F S32x1024 .f32 := select main_v7000 main_v6990 main_v6972
  let main_v7002 : IVec S32x1024 1 := ori main_v6973 main_v6982
  let main_v7003 : IVec S32x1024 1 := andi main_v6982 main_v37
  let main_v7004 : IVec S32x1024 1 := noti main_v7003
  let main_v7005 : IVec S32x1024 1 := andi main_v6977 main_v7004
  let main_v7006 : IVec S32x1024 1 := ori main_v7005 main_v7000
  let main_v7007 : FVec F S32x1024 .f32 := addf main_v7001 main_v34
  let main_v7008 : FVec F S32x1024 .f32 := select main_v7006 main_v7007 main_v38
  let main_cst_970 : FVec F S_ .f32 := constant S_ .f32 0x7F800000#32
  let main_v7009 : FVec F S32 .f32 := (fun x v => Host.reduce FloatOps.minimumf x v reducesTo_S32x1024_S32_d1 h_S_) main_v7008 main_cst_970
  let main_v7010 : FVec F S32x1024 .f32 := broadcastInDim S32x1024 ![0] bcast_S32_S32x1024_0 main_v7009
  let main_v7011 : IVec S32x1024 1 := cmpf .oeq main_v7008 main_v7010
  let main_v7012 : IVec S32x1024 32 := (extui 32 · natLt_1_32) main_v7011
  let main_c_971 : IVec S_ 32 := constantI S_ 32 0#32
  let main_v7013 : IVec S32 32 := (fun x v => Host.reduce IntOp.addi x v reducesTo_S32x1024_S32_d1 h_S_) main_v7012 main_c_971
  let main_v7014 : IVec S32 1 := cmpi .eq main_v7013 main_v41
  let main_v7015 : IVec S32 1 := andi main_v6986 main_v7014
  let main_v7016 : FVec F S32x1024 .f32 := addf main_v7001 main_v0
  let main_v7017 : FVec F S32x1024 .f32 := select main_v7011 main_v7016 main_v39
  fn_part333 (F := F) main_arg0 main_arg1 main_arg2 main_v0 main_v34 main_v37 main_v38 main_v39 main_v40 main_v41 main_v7001 main_v7002 main_v7006 main_v7011 main_v7012 main_v7015 main_v7017

def fn_part331 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v6948 : IVec S32x1024 1) (main_v6957 : IVec S32 1) (main_v6971 : IVec S32x1024 1) (main_v6972 : FVec F S32x1024 .f32) (main_v6973 : IVec S32x1024 1) (main_v6975 : IVec S32x1024 1) : IVec S32x32x32 1 :=
  let main_v6976 : IVec S32x1024 1 := andi main_v6948 main_v6975
  let main_v6977 : IVec S32x1024 1 := ori main_v6976 main_v6971
  let main_v6978 : FVec F S32x1024 .f32 := addf main_v6972 main_v34
  let main_v6979 : FVec F S32x1024 .f32 := select main_v6977 main_v6978 main_v38
  let main_cst_966 : FVec F S_ .f32 := constant S_ .f32 0x7F800000#32
  let main_v6980 : FVec F S32 .f32 := (fun x v => Host.reduce FloatOps.minimumf x v reducesTo_S32x1024_S32_d1 h_S_) main_v6979 main_cst_966
  let main_v6981 : FVec F S32x1024 .f32 := broadcastInDim S32x1024 ![0] bcast_S32_S32x1024_0 main_v6980
  let main_v6982 : IVec S32x1024 1 := cmpf .oeq main_v6979 main_v6981
  let main_v6983 : IVec S32x1024 32 := (extui 32 · natLt_1_32) main_v6982
  let main_c_967 : IVec S_ 32 := constantI S_ 32 0#32
  let main_v6984 : IVec S32 32 := (fun x v => Host.reduce IntOp.addi x v reducesTo_S32x1024_S32_d1 h_S_) main_v6983 main_c_967
  let main_v6985 : IVec S32 1 := cmpi .eq main_v6984 main_v41
  let main_v6986 : IVec S32 1 := andi main_v6957 main_v6985
  let main_v6987 : FVec F S32x1024 .f32 := addf main_v6972 main_v0
  let main_v6988 : FVec F S32x1024 .f32 := select main_v6982 main_v6987 main_v39
  let main_cst_968 : FVec F S_ .f32 := constant S_ .f32 0x00000000#32
  let main_v6989 : FVec F S32 .f32 := (fun x v => Host.reduceAdd x v reducesTo_S32x1024_S32_d1 h_S_) main_v6988 main_cst_968
  let main_v6990 : FVec F S32x1024 .f32 := broadcastInDim S32x1024 ![0] bcast_S32_S32x1024_0 main_v6989
  let main_v6991 : IVec S32x32x32 32 := shapeCast S32x32x32 main_v6983 shapeCasts_S32x1024_S32x32x32
  let main_c_969 : IVec S_ 32 := constantI S_ 32 2147483648#32
  let main_v6992 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v6991 main_c_969
  let main_v6993 : IVec S32x1024 32 := shapeCast S32x1024 main_v6992 shapeCasts_S32x32x32_S32x1024
  let main_v6994 : IVec S32x1024 1 := cmpi .sgt main_v6993 main_v40
  let main_v6995 : IVec S32x1024 1 := ori main_v6977 main_v6973
  fn_part332 (F := F) main_arg0 main_arg1 main_arg2 main_v0 main_v34 main_v37 main_v38 main_v39 main_v40 main_v41 main_v6972 main_v6973 main_v6977 main_v6982 main_v6986 main_v6990 main_v6994 main_v6995

def fn_part330 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v6928 : IVec S32 1) (main_v6943 : FVec F S32x1024 .f32) (main_v6944 : IVec S32x1024 1) (main_v6948 : IVec S32x1024 1) (main_v6953 : IVec S32x1024 1) (main_v6954 : IVec S32x1024 32) : IVec S32x32x32 1 :=
  let main_c_963 : IVec S_ 32 := constantI S_ 32 0#32
  let main_v6955 : IVec S32 32 := (fun x v => Host.reduce IntOp.addi x v reducesTo_S32x1024_S32_d1 h_S_) main_v6954 main_c_963
  let main_v6956 : IVec S32 1 := cmpi .eq main_v6955 main_v41
  let main_v6957 : IVec S32 1 := andi main_v6928 main_v6956
  let main_v6958 : FVec F S32x1024 .f32 := addf main_v6943 main_v0
  let main_v6959 : FVec F S32x1024 .f32 := select main_v6953 main_v6958 main_v39
  let main_cst_964 : FVec F S_ .f32 := constant S_ .f32 0x00000000#32
  let main_v6960 : FVec F S32 .f32 := (fun x v => Host.reduceAdd x v reducesTo_S32x1024_S32_d1 h_S_) main_v6959 main_cst_964
  let main_v6961 : FVec F S32x1024 .f32 := broadcastInDim S32x1024 ![0] bcast_S32_S32x1024_0 main_v6960
  let main_v6962 : IVec S32x32x32 32 := shapeCast S32x32x32 main_v6954 shapeCasts_S32x1024_S32x32x32
  let main_c_965 : IVec S_ 32 := constantI S_ 32 2147483648#32
  let main_v6963 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v6962 main_c_965
  let main_v6964 : IVec S32x1024 32 := shapeCast S32x1024 main_v6963 shapeCasts_S32x32x32_S32x1024
  let main_v6965 : IVec S32x1024 1 := cmpi .sgt main_v6964 main_v40
  let main_v6966 : IVec S32x1024 1 := ori main_v6948 main_v6944
  let main_v6967 : IVec S32x1024 1 := noti main_v6966
  let main_v6968 : IVec S32x1024 1 := cmpf .ogt main_v6943 main_v6961
  let main_v6969 : IVec S32x1024 1 := andi main_v6948 main_v6968
  let main_v6970 : IVec S32x1024 1 := ori main_v6967 main_v6969
  let main_v6971 : IVec S32x1024 1 := andi main_v6965 main_v6970
  let main_v6972 : FVec F S32x1024 .f32 := select main_v6971 main_v6961 main_v6943
  let main_v6973 : IVec S32x1024 1 := ori main_v6944 main_v6953
  let main_v6974 : IVec S32x1024 1 := andi main_v6953 main_v37
  let main_v6975 : IVec S32x1024 1 := noti main_v6974
  fn_part331 (F := F) main_arg0 main_arg1 main_arg2 main_v0 main_v34 main_v37 main_v38 main_v39 main_v40 main_v41 main_v6948 main_v6957 main_v6971 main_v6972 main_v6973 main_v6975

def fn_part329 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v6914 : FVec F S32x1024 .f32) (main_v6915 : IVec S32x1024 1) (main_v6919 : IVec S32x1024 1) (main_v6924 : IVec S32x1024 1) (main_v6925 : IVec S32x1024 32) (main_v6928 : IVec S32 1) (main_v6932 : FVec F S32x1024 .f32) : IVec S32x32x32 1 :=
  let main_v6933 : IVec S32x32x32 32 := shapeCast S32x32x32 main_v6925 shapeCasts_S32x1024_S32x32x32
  let main_c_961 : IVec S_ 32 := constantI S_ 32 2147483648#32
  let main_v6934 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v6933 main_c_961
  let main_v6935 : IVec S32x1024 32 := shapeCast S32x1024 main_v6934 shapeCasts_S32x32x32_S32x1024
  let main_v6936 : IVec S32x1024 1 := cmpi .sgt main_v6935 main_v40
  let main_v6937 : IVec S32x1024 1 := ori main_v6919 main_v6915
  let main_v6938 : IVec S32x1024 1 := noti main_v6937
  let main_v6939 : IVec S32x1024 1 := cmpf .ogt main_v6914 main_v6932
  let main_v6940 : IVec S32x1024 1 := andi main_v6919 main_v6939
  let main_v6941 : IVec S32x1024 1 := ori main_v6938 main_v6940
  let main_v6942 : IVec S32x1024 1 := andi main_v6936 main_v6941
  let main_v6943 : FVec F S32x1024 .f32 := select main_v6942 main_v6932 main_v6914
  let main_v6944 : IVec S32x1024 1 := ori main_v6915 main_v6924
  let main_v6945 : IVec S32x1024 1 := andi main_v6924 main_v37
  let main_v6946 : IVec S32x1024 1 := noti main_v6945
  let main_v6947 : IVec S32x1024 1 := andi main_v6919 main_v6946
  let main_v6948 : IVec S32x1024 1 := ori main_v6947 main_v6942
  let main_v6949 : FVec F S32x1024 .f32 := addf main_v6943 main_v34
  let main_v6950 : FVec F S32x1024 .f32 := select main_v6948 main_v6949 main_v38
  let main_cst_962 : FVec F S_ .f32 := constant S_ .f32 0x7F800000#32
  let main_v6951 : FVec F S32 .f32 := (fun x v => Host.reduce FloatOps.minimumf x v reducesTo_S32x1024_S32_d1 h_S_) main_v6950 main_cst_962
  let main_v6952 : FVec F S32x1024 .f32 := broadcastInDim S32x1024 ![0] bcast_S32_S32x1024_0 main_v6951
  let main_v6953 : IVec S32x1024 1 := cmpf .oeq main_v6950 main_v6952
  let main_v6954 : IVec S32x1024 32 := (extui 32 · natLt_1_32) main_v6953
  fn_part330 (F := F) main_arg0 main_arg1 main_arg2 main_v0 main_v34 main_v37 main_v38 main_v39 main_v40 main_v41 main_v6928 main_v6943 main_v6944 main_v6948 main_v6953 main_v6954

def fn_part328 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v6885 : FVec F S32x1024 .f32) (main_v6886 : IVec S32x1024 1) (main_v6890 : IVec S32x1024 1) (main_v6895 : IVec S32x1024 1) (main_v6899 : IVec S32 1) (main_v6903 : FVec F S32x1024 .f32) (main_v6907 : IVec S32x1024 1) (main_v6909 : IVec S32x1024 1) (main_v6911 : IVec S32x1024 1) : IVec S32x32x32 1 :=
  let main_v6912 : IVec S32x1024 1 := ori main_v6909 main_v6911
  let main_v6913 : IVec S32x1024 1 := andi main_v6907 main_v6912
  let main_v6914 : FVec F S32x1024 .f32 := select main_v6913 main_v6903 main_v6885
  let main_v6915 : IVec S32x1024 1 := ori main_v6886 main_v6895
  let main_v6916 : IVec S32x1024 1 := andi main_v6895 main_v37
  let main_v6917 : IVec S32x1024 1 := noti main_v6916
  let main_v6918 : IVec S32x1024 1 := andi main_v6890 main_v6917
  let main_v6919 : IVec S32x1024 1 := ori main_v6918 main_v6913
  let main_v6920 : FVec F S32x1024 .f32 := addf main_v6914 main_v34
  let main_v6921 : FVec F S32x1024 .f32 := select main_v6919 main_v6920 main_v38
  let main_cst_958 : FVec F S_ .f32 := constant S_ .f32 0x7F800000#32
  let main_v6922 : FVec F S32 .f32 := (fun x v => Host.reduce FloatOps.minimumf x v reducesTo_S32x1024_S32_d1 h_S_) main_v6921 main_cst_958
  let main_v6923 : FVec F S32x1024 .f32 := broadcastInDim S32x1024 ![0] bcast_S32_S32x1024_0 main_v6922
  let main_v6924 : IVec S32x1024 1 := cmpf .oeq main_v6921 main_v6923
  let main_v6925 : IVec S32x1024 32 := (extui 32 · natLt_1_32) main_v6924
  let main_c_959 : IVec S_ 32 := constantI S_ 32 0#32
  let main_v6926 : IVec S32 32 := (fun x v => Host.reduce IntOp.addi x v reducesTo_S32x1024_S32_d1 h_S_) main_v6925 main_c_959
  let main_v6927 : IVec S32 1 := cmpi .eq main_v6926 main_v41
  let main_v6928 : IVec S32 1 := andi main_v6899 main_v6927
  let main_v6929 : FVec F S32x1024 .f32 := addf main_v6914 main_v0
  let main_v6930 : FVec F S32x1024 .f32 := select main_v6924 main_v6929 main_v39
  let main_cst_960 : FVec F S_ .f32 := constant S_ .f32 0x00000000#32
  let main_v6931 : FVec F S32 .f32 := (fun x v => Host.reduceAdd x v reducesTo_S32x1024_S32_d1 h_S_) main_v6930 main_cst_960
  let main_v6932 : FVec F S32x1024 .f32 := broadcastInDim S32x1024 ![0] bcast_S32_S32x1024_0 main_v6931
  fn_part329 (F := F) main_arg0 main_arg1 main_arg2 main_v0 main_v34 main_v37 main_v38 main_v39 main_v40 main_v41 main_v6914 main_v6915 main_v6919 main_v6924 main_v6925 main_v6928 main_v6932

def fn_part327 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v6870 : IVec S32 1) (main_v6885 : FVec F S32x1024 .f32) (main_v6886 : IVec S32x1024 1) (main_v6890 : IVec S32x1024 1) (main_v6891 : FVec F S32x1024 .f32) : IVec S32x32x32 1 :=
  let main_v6892 : FVec F S32x1024 .f32 := select main_v6890 main_v6891 main_v38
  let main_cst_954 : FVec F S_ .f32 := constant S_ .f32 0x7F800000#32
  let main_v6893 : FVec F S32 .f32 := (fun x v => Host.reduce FloatOps.minimumf x v reducesTo_S32x1024_S32_d1 h_S_) main_v6892 main_cst_954
  let main_v6894 : FVec F S32x1024 .f32 := broadcastInDim S32x1024 ![0] bcast_S32_S32x1024_0 main_v6893
  let main_v6895 : IVec S32x1024 1 := cmpf .oeq main_v6892 main_v6894
  let main_v6896 : IVec S32x1024 32 := (extui 32 · natLt_1_32) main_v6895
  let main_c_955 : IVec S_ 32 := constantI S_ 32 0#32
  let main_v6897 : IVec S32 32 := (fun x v => Host.reduce IntOp.addi x v reducesTo_S32x1024_S32_d1 h_S_) main_v6896 main_c_955
  let main_v6898 : IVec S32 1 := cmpi .eq main_v6897 main_v41
  let main_v6899 : IVec S32 1 := andi main_v6870 main_v6898
  let main_v6900 : FVec F S32x1024 .f32 := addf main_v6885 main_v0
  let main_v6901 : FVec F S32x1024 .f32 := select main_v6895 main_v6900 main_v39
  let main_cst_956 : FVec F S_ .f32 := constant S_ .f32 0x00000000#32
  let main_v6902 : FVec F S32 .f32 := (fun x v => Host.reduceAdd x v reducesTo_S32x1024_S32_d1 h_S_) main_v6901 main_cst_956
  let main_v6903 : FVec F S32x1024 .f32 := broadcastInDim S32x1024 ![0] bcast_S32_S32x1024_0 main_v6902
  let main_v6904 : IVec S32x32x32 32 := shapeCast S32x32x32 main_v6896 shapeCasts_S32x1024_S32x32x32
  let main_c_957 : IVec S_ 32 := constantI S_ 32 2147483648#32
  let main_v6905 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v6904 main_c_957
  let main_v6906 : IVec S32x1024 32 := shapeCast S32x1024 main_v6905 shapeCasts_S32x32x32_S32x1024
  let main_v6907 : IVec S32x1024 1 := cmpi .sgt main_v6906 main_v40
  let main_v6908 : IVec S32x1024 1 := ori main_v6890 main_v6886
  let main_v6909 : IVec S32x1024 1 := noti main_v6908
  let main_v6910 : IVec S32x1024 1 := cmpf .ogt main_v6885 main_v6903
  let main_v6911 : IVec S32x1024 1 := andi main_v6890 main_v6910
  fn_part328 (F := F) main_arg0 main_arg1 main_arg2 main_v0 main_v34 main_v37 main_v38 main_v39 main_v40 main_v41 main_v6885 main_v6886 main_v6890 main_v6895 main_v6899 main_v6903 main_v6907 main_v6909 main_v6911

def fn_part326 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v6841 : IVec S32 1) (main_v6856 : FVec F S32x1024 .f32) (main_v6857 : IVec S32x1024 1) (main_v6861 : IVec S32x1024 1) (main_v6866 : IVec S32x1024 1) (main_v6867 : IVec S32x1024 32) (main_v6869 : IVec S32 1) : IVec S32x32x32 1 :=
  let main_v6870 : IVec S32 1 := andi main_v6841 main_v6869
  let main_v6871 : FVec F S32x1024 .f32 := addf main_v6856 main_v0
  let main_v6872 : FVec F S32x1024 .f32 := select main_v6866 main_v6871 main_v39
  let main_cst_952 : FVec F S_ .f32 := constant S_ .f32 0x00000000#32
  let main_v6873 : FVec F S32 .f32 := (fun x v => Host.reduceAdd x v reducesTo_S32x1024_S32_d1 h_S_) main_v6872 main_cst_952
  let main_v6874 : FVec F S32x1024 .f32 := broadcastInDim S32x1024 ![0] bcast_S32_S32x1024_0 main_v6873
  let main_v6875 : IVec S32x32x32 32 := shapeCast S32x32x32 main_v6867 shapeCasts_S32x1024_S32x32x32
  let main_c_953 : IVec S_ 32 := constantI S_ 32 2147483648#32
  let main_v6876 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v6875 main_c_953
  let main_v6877 : IVec S32x1024 32 := shapeCast S32x1024 main_v6876 shapeCasts_S32x32x32_S32x1024
  let main_v6878 : IVec S32x1024 1 := cmpi .sgt main_v6877 main_v40
  let main_v6879 : IVec S32x1024 1 := ori main_v6861 main_v6857
  let main_v6880 : IVec S32x1024 1 := noti main_v6879
  let main_v6881 : IVec S32x1024 1 := cmpf .ogt main_v6856 main_v6874
  let main_v6882 : IVec S32x1024 1 := andi main_v6861 main_v6881
  let main_v6883 : IVec S32x1024 1 := ori main_v6880 main_v6882
  let main_v6884 : IVec S32x1024 1 := andi main_v6878 main_v6883
  let main_v6885 : FVec F S32x1024 .f32 := select main_v6884 main_v6874 main_v6856
  let main_v6886 : IVec S32x1024 1 := ori main_v6857 main_v6866
  let main_v6887 : IVec S32x1024 1 := andi main_v6866 main_v37
  let main_v6888 : IVec S32x1024 1 := noti main_v6887
  let main_v6889 : IVec S32x1024 1 := andi main_v6861 main_v6888
  let main_v6890 : IVec S32x1024 1 := ori main_v6889 main_v6884
  let main_v6891 : FVec F S32x1024 .f32 := addf main_v6885 main_v34
  fn_part327 (F := F) main_arg0 main_arg1 main_arg2 main_v0 main_v34 main_v37 main_v38 main_v39 main_v40 main_v41 main_v6870 main_v6885 main_v6886 main_v6890 main_v6891

def fn_part325 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v6827 : FVec F S32x1024 .f32) (main_v6828 : IVec S32x1024 1) (main_v6832 : IVec S32x1024 1) (main_v6837 : IVec S32x1024 1) (main_v6841 : IVec S32 1) (main_v6845 : FVec F S32x1024 .f32) (main_v6847 : IVec S32x32x32 32) : IVec S32x32x32 1 :=
  let main_v6848 : IVec S32x1024 32 := shapeCast S32x1024 main_v6847 shapeCasts_S32x32x32_S32x1024
  let main_v6849 : IVec S32x1024 1 := cmpi .sgt main_v6848 main_v40
  let main_v6850 : IVec S32x1024 1 := ori main_v6832 main_v6828
  let main_v6851 : IVec S32x1024 1 := noti main_v6850
  let main_v6852 : IVec S32x1024 1 := cmpf .ogt main_v6827 main_v6845
  let main_v6853 : IVec S32x1024 1 := andi main_v6832 main_v6852
  let main_v6854 : IVec S32x1024 1 := ori main_v6851 main_v6853
  let main_v6855 : IVec S32x1024 1 := andi main_v6849 main_v6854
  let main_v6856 : FVec F S32x1024 .f32 := select main_v6855 main_v6845 main_v6827
  let main_v6857 : IVec S32x1024 1 := ori main_v6828 main_v6837
  let main_v6858 : IVec S32x1024 1 := andi main_v6837 main_v37
  let main_v6859 : IVec S32x1024 1 := noti main_v6858
  let main_v6860 : IVec S32x1024 1 := andi main_v6832 main_v6859
  let main_v6861 : IVec S32x1024 1 := ori main_v6860 main_v6855
  let main_v6862 : FVec F S32x1024 .f32 := addf main_v6856 main_v34
  let main_v6863 : FVec F S32x1024 .f32 := select main_v6861 main_v6862 main_v38
  let main_cst_950 : FVec F S_ .f32 := constant S_ .f32 0x7F800000#32
  let main_v6864 : FVec F S32 .f32 := (fun x v => Host.reduce FloatOps.minimumf x v reducesTo_S32x1024_S32_d1 h_S_) main_v6863 main_cst_950
  let main_v6865 : FVec F S32x1024 .f32 := broadcastInDim S32x1024 ![0] bcast_S32_S32x1024_0 main_v6864
  let main_v6866 : IVec S32x1024 1 := cmpf .oeq main_v6863 main_v6865
  let main_v6867 : IVec S32x1024 32 := (extui 32 · natLt_1_32) main_v6866
  let main_c_951 : IVec S_ 32 := constantI S_ 32 0#32
  let main_v6868 : IVec S32 32 := (fun x v => Host.reduce IntOp.addi x v reducesTo_S32x1024_S32_d1 h_S_) main_v6867 main_c_951
  let main_v6869 : IVec S32 1 := cmpi .eq main_v6868 main_v41
  fn_part326 (F := F) main_arg0 main_arg1 main_arg2 main_v0 main_v34 main_v37 main_v38 main_v39 main_v40 main_v41 main_v6841 main_v6856 main_v6857 main_v6861 main_v6866 main_v6867 main_v6869

def fn_part324 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v6799 : IVec S32x1024 1) (main_v6803 : IVec S32x1024 1) (main_v6808 : IVec S32x1024 1) (main_v6812 : IVec S32 1) (main_v6826 : IVec S32x1024 1) (main_v6827 : FVec F S32x1024 .f32) : IVec S32x32x32 1 :=
  let main_v6828 : IVec S32x1024 1 := ori main_v6799 main_v6808
  let main_v6829 : IVec S32x1024 1 := andi main_v6808 main_v37
  let main_v6830 : IVec S32x1024 1 := noti main_v6829
  let main_v6831 : IVec S32x1024 1 := andi main_v6803 main_v6830
  let main_v6832 : IVec S32x1024 1 := ori main_v6831 main_v6826
  let main_v6833 : FVec F S32x1024 .f32 := addf main_v6827 main_v34
  let main_v6834 : FVec F S32x1024 .f32 := select main_v6832 main_v6833 main_v38
  let main_cst_946 : FVec F S_ .f32 := constant S_ .f32 0x7F800000#32
  let main_v6835 : FVec F S32 .f32 := (fun x v => Host.reduce FloatOps.minimumf x v reducesTo_S32x1024_S32_d1 h_S_) main_v6834 main_cst_946
  let main_v6836 : FVec F S32x1024 .f32 := broadcastInDim S32x1024 ![0] bcast_S32_S32x1024_0 main_v6835
  let main_v6837 : IVec S32x1024 1 := cmpf .oeq main_v6834 main_v6836
  let main_v6838 : IVec S32x1024 32 := (extui 32 · natLt_1_32) main_v6837
  let main_c_947 : IVec S_ 32 := constantI S_ 32 0#32
  let main_v6839 : IVec S32 32 := (fun x v => Host.reduce IntOp.addi x v reducesTo_S32x1024_S32_d1 h_S_) main_v6838 main_c_947
  let main_v6840 : IVec S32 1 := cmpi .eq main_v6839 main_v41
  let main_v6841 : IVec S32 1 := andi main_v6812 main_v6840
  let main_v6842 : FVec F S32x1024 .f32 := addf main_v6827 main_v0
  let main_v6843 : FVec F S32x1024 .f32 := select main_v6837 main_v6842 main_v39
  let main_cst_948 : FVec F S_ .f32 := constant S_ .f32 0x00000000#32
  let main_v6844 : FVec F S32 .f32 := (fun x v => Host.reduceAdd x v reducesTo_S32x1024_S32_d1 h_S_) main_v6843 main_cst_948
  let main_v6845 : FVec F S32x1024 .f32 := broadcastInDim S32x1024 ![0] bcast_S32_S32x1024_0 main_v6844
  let main_v6846 : IVec S32x32x32 32 := shapeCast S32x32x32 main_v6838 shapeCasts_S32x1024_S32x32x32
  let main_c_949 : IVec S_ 32 := constantI S_ 32 2147483648#32
  let main_v6847 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v6846 main_c_949
  fn_part325 (F := F) main_arg0 main_arg1 main_arg2 main_v0 main_v34 main_v37 main_v38 main_v39 main_v40 main_v41 main_v6827 main_v6828 main_v6832 main_v6837 main_v6841 main_v6845 main_v6847

def fn_part323 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v6783 : IVec S32 1) (main_v6798 : FVec F S32x1024 .f32) (main_v6799 : IVec S32x1024 1) (main_v6803 : IVec S32x1024 1) (main_v6805 : FVec F S32x1024 .f32) (main_v6806 : FVec F S32 .f32) : IVec S32x32x32 1 :=
  let main_v6807 : FVec F S32x1024 .f32 := broadcastInDim S32x1024 ![0] bcast_S32_S32x1024_0 main_v6806
  let main_v6808 : IVec S32x1024 1 := cmpf .oeq main_v6805 main_v6807
  let main_v6809 : IVec S32x1024 32 := (extui 32 · natLt_1_32) main_v6808
  let main_c_943 : IVec S_ 32 := constantI S_ 32 0#32
  let main_v6810 : IVec S32 32 := (fun x v => Host.reduce IntOp.addi x v reducesTo_S32x1024_S32_d1 h_S_) main_v6809 main_c_943
  let main_v6811 : IVec S32 1 := cmpi .eq main_v6810 main_v41
  let main_v6812 : IVec S32 1 := andi main_v6783 main_v6811
  let main_v6813 : FVec F S32x1024 .f32 := addf main_v6798 main_v0
  let main_v6814 : FVec F S32x1024 .f32 := select main_v6808 main_v6813 main_v39
  let main_cst_944 : FVec F S_ .f32 := constant S_ .f32 0x00000000#32
  let main_v6815 : FVec F S32 .f32 := (fun x v => Host.reduceAdd x v reducesTo_S32x1024_S32_d1 h_S_) main_v6814 main_cst_944
  let main_v6816 : FVec F S32x1024 .f32 := broadcastInDim S32x1024 ![0] bcast_S32_S32x1024_0 main_v6815
  let main_v6817 : IVec S32x32x32 32 := shapeCast S32x32x32 main_v6809 shapeCasts_S32x1024_S32x32x32
  let main_c_945 : IVec S_ 32 := constantI S_ 32 2147483648#32
  let main_v6818 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v6817 main_c_945
  let main_v6819 : IVec S32x1024 32 := shapeCast S32x1024 main_v6818 shapeCasts_S32x32x32_S32x1024
  let main_v6820 : IVec S32x1024 1 := cmpi .sgt main_v6819 main_v40
  let main_v6821 : IVec S32x1024 1 := ori main_v6803 main_v6799
  let main_v6822 : IVec S32x1024 1 := noti main_v6821
  let main_v6823 : IVec S32x1024 1 := cmpf .ogt main_v6798 main_v6816
  let main_v6824 : IVec S32x1024 1 := andi main_v6803 main_v6823
  let main_v6825 : IVec S32x1024 1 := ori main_v6822 main_v6824
  let main_v6826 : IVec S32x1024 1 := andi main_v6820 main_v6825
  let main_v6827 : FVec F S32x1024 .f32 := select main_v6826 main_v6816 main_v6798
  fn_part324 (F := F) main_arg0 main_arg1 main_arg2 main_v0 main_v34 main_v37 main_v38 main_v39 main_v40 main_v41 main_v6799 main_v6803 main_v6808 main_v6812 main_v6826 main_v6827

def fn_part322 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v6769 : FVec F S32x1024 .f32) (main_v6770 : IVec S32x1024 1) (main_v6774 : IVec S32x1024 1) (main_v6779 : IVec S32x1024 1) (main_v6780 : IVec S32x1024 32) (main_v6783 : IVec S32 1) (main_v6785 : FVec F S32x1024 .f32) : IVec S32x32x32 1 :=
  let main_cst_940 : FVec F S_ .f32 := constant S_ .f32 0x00000000#32
  let main_v6786 : FVec F S32 .f32 := (fun x v => Host.reduceAdd x v reducesTo_S32x1024_S32_d1 h_S_) main_v6785 main_cst_940
  let main_v6787 : FVec F S32x1024 .f32 := broadcastInDim S32x1024 ![0] bcast_S32_S32x1024_0 main_v6786
  let main_v6788 : IVec S32x32x32 32 := shapeCast S32x32x32 main_v6780 shapeCasts_S32x1024_S32x32x32
  let main_c_941 : IVec S_ 32 := constantI S_ 32 2147483648#32
  let main_v6789 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v6788 main_c_941
  let main_v6790 : IVec S32x1024 32 := shapeCast S32x1024 main_v6789 shapeCasts_S32x32x32_S32x1024
  let main_v6791 : IVec S32x1024 1 := cmpi .sgt main_v6790 main_v40
  let main_v6792 : IVec S32x1024 1 := ori main_v6774 main_v6770
  let main_v6793 : IVec S32x1024 1 := noti main_v6792
  let main_v6794 : IVec S32x1024 1 := cmpf .ogt main_v6769 main_v6787
  let main_v6795 : IVec S32x1024 1 := andi main_v6774 main_v6794
  let main_v6796 : IVec S32x1024 1 := ori main_v6793 main_v6795
  let main_v6797 : IVec S32x1024 1 := andi main_v6791 main_v6796
  let main_v6798 : FVec F S32x1024 .f32 := select main_v6797 main_v6787 main_v6769
  let main_v6799 : IVec S32x1024 1 := ori main_v6770 main_v6779
  let main_v6800 : IVec S32x1024 1 := andi main_v6779 main_v37
  let main_v6801 : IVec S32x1024 1 := noti main_v6800
  let main_v6802 : IVec S32x1024 1 := andi main_v6774 main_v6801
  let main_v6803 : IVec S32x1024 1 := ori main_v6802 main_v6797
  let main_v6804 : FVec F S32x1024 .f32 := addf main_v6798 main_v34
  let main_v6805 : FVec F S32x1024 .f32 := select main_v6803 main_v6804 main_v38
  let main_cst_942 : FVec F S_ .f32 := constant S_ .f32 0x7F800000#32
  let main_v6806 : FVec F S32 .f32 := (fun x v => Host.reduce FloatOps.minimumf x v reducesTo_S32x1024_S32_d1 h_S_) main_v6805 main_cst_942
  fn_part323 (F := F) main_arg0 main_arg1 main_arg2 main_v0 main_v34 main_v37 main_v38 main_v39 main_v40 main_v41 main_v6783 main_v6798 main_v6799 main_v6803 main_v6805 main_v6806

def fn_part321 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v6740 : FVec F S32x1024 .f32) (main_v6741 : IVec S32x1024 1) (main_v6745 : IVec S32x1024 1) (main_v6750 : IVec S32x1024 1) (main_v6754 : IVec S32 1) (main_v6758 : FVec F S32x1024 .f32) (main_v6762 : IVec S32x1024 1) (main_v6763 : IVec S32x1024 1) : IVec S32x32x32 1 :=
  let main_v6764 : IVec S32x1024 1 := noti main_v6763
  let main_v6765 : IVec S32x1024 1 := cmpf .ogt main_v6740 main_v6758
  let main_v6766 : IVec S32x1024 1 := andi main_v6745 main_v6765
  let main_v6767 : IVec S32x1024 1 := ori main_v6764 main_v6766
  let main_v6768 : IVec S32x1024 1 := andi main_v6762 main_v6767
  let main_v6769 : FVec F S32x1024 .f32 := select main_v6768 main_v6758 main_v6740
  let main_v6770 : IVec S32x1024 1 := ori main_v6741 main_v6750
  let main_v6771 : IVec S32x1024 1 := andi main_v6750 main_v37
  let main_v6772 : IVec S32x1024 1 := noti main_v6771
  let main_v6773 : IVec S32x1024 1 := andi main_v6745 main_v6772
  let main_v6774 : IVec S32x1024 1 := ori main_v6773 main_v6768
  let main_v6775 : FVec F S32x1024 .f32 := addf main_v6769 main_v34
  let main_v6776 : FVec F S32x1024 .f32 := select main_v6774 main_v6775 main_v38
  let main_cst_938 : FVec F S_ .f32 := constant S_ .f32 0x7F800000#32
  let main_v6777 : FVec F S32 .f32 := (fun x v => Host.reduce FloatOps.minimumf x v reducesTo_S32x1024_S32_d1 h_S_) main_v6776 main_cst_938
  let main_v6778 : FVec F S32x1024 .f32 := broadcastInDim S32x1024 ![0] bcast_S32_S32x1024_0 main_v6777
  let main_v6779 : IVec S32x1024 1 := cmpf .oeq main_v6776 main_v6778
  let main_v6780 : IVec S32x1024 32 := (extui 32 · natLt_1_32) main_v6779
  let main_c_939 : IVec S_ 32 := constantI S_ 32 0#32
  let main_v6781 : IVec S32 32 := (fun x v => Host.reduce IntOp.addi x v reducesTo_S32x1024_S32_d1 h_S_) main_v6780 main_c_939
  let main_v6782 : IVec S32 1 := cmpi .eq main_v6781 main_v41
  let main_v6783 : IVec S32 1 := andi main_v6754 main_v6782
  let main_v6784 : FVec F S32x1024 .f32 := addf main_v6769 main_v0
  let main_v6785 : FVec F S32x1024 .f32 := select main_v6779 main_v6784 main_v39
  fn_part322 (F := F) main_arg0 main_arg1 main_arg2 main_v0 main_v34 main_v37 main_v38 main_v39 main_v40 main_v41 main_v6769 main_v6770 main_v6774 main_v6779 main_v6780 main_v6783 main_v6785

def fn_part320 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v6716 : IVec S32x1024 1) (main_v6725 : IVec S32 1) (main_v6739 : IVec S32x1024 1) (main_v6740 : FVec F S32x1024 .f32) (main_v6741 : IVec S32x1024 1) (main_v6743 : IVec S32x1024 1) : IVec S32x32x32 1 :=
  let main_v6744 : IVec S32x1024 1 := andi main_v6716 main_v6743
  let main_v6745 : IVec S32x1024 1 := ori main_v6744 main_v6739
  let main_v6746 : FVec F S32x1024 .f32 := addf main_v6740 main_v34
  let main_v6747 : FVec F S32x1024 .f32 := select main_v6745 main_v6746 main_v38
  let main_cst_934 : FVec F S_ .f32 := constant S_ .f32 0x7F800000#32
  let main_v6748 : FVec F S32 .f32 := (fun x v => Host.reduce FloatOps.minimumf x v reducesTo_S32x1024_S32_d1 h_S_) main_v6747 main_cst_934
  let main_v6749 : FVec F S32x1024 .f32 := broadcastInDim S32x1024 ![0] bcast_S32_S32x1024_0 main_v6748
  let main_v6750 : IVec S32x1024 1 := cmpf .oeq main_v6747 main_v6749
  let main_v6751 : IVec S32x1024 32 := (extui 32 · natLt_1_32) main_v6750
  let main_c_935 : IVec S_ 32 := constantI S_ 32 0#32
  let main_v6752 : IVec S32 32 := (fun x v => Host.reduce IntOp.addi x v reducesTo_S32x1024_S32_d1 h_S_) main_v6751 main_c_935
  let main_v6753 : IVec S32 1 := cmpi .eq main_v6752 main_v41
  let main_v6754 : IVec S32 1 := andi main_v6725 main_v6753
  let main_v6755 : FVec F S32x1024 .f32 := addf main_v6740 main_v0
  let main_v6756 : FVec F S32x1024 .f32 := select main_v6750 main_v6755 main_v39
  let main_cst_936 : FVec F S_ .f32 := constant S_ .f32 0x00000000#32
  let main_v6757 : FVec F S32 .f32 := (fun x v => Host.reduceAdd x v reducesTo_S32x1024_S32_d1 h_S_) main_v6756 main_cst_936
  let main_v6758 : FVec F S32x1024 .f32 := broadcastInDim S32x1024 ![0] bcast_S32_S32x1024_0 main_v6757
  let main_v6759 : IVec S32x32x32 32 := shapeCast S32x32x32 main_v6751 shapeCasts_S32x1024_S32x32x32
  let main_c_937 : IVec S_ 32 := constantI S_ 32 2147483648#32
  let main_v6760 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v6759 main_c_937
  let main_v6761 : IVec S32x1024 32 := shapeCast S32x1024 main_v6760 shapeCasts_S32x32x32_S32x1024
  let main_v6762 : IVec S32x1024 1 := cmpi .sgt main_v6761 main_v40
  let main_v6763 : IVec S32x1024 1 := ori main_v6745 main_v6741
  fn_part321 (F := F) main_arg0 main_arg1 main_arg2 main_v0 main_v34 main_v37 main_v38 main_v39 main_v40 main_v41 main_v6740 main_v6741 main_v6745 main_v6750 main_v6754 main_v6758 main_v6762 main_v6763

def fn_part319 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v6696 : IVec S32 1) (main_v6711 : FVec F S32x1024 .f32) (main_v6712 : IVec S32x1024 1) (main_v6716 : IVec S32x1024 1) (main_v6721 : IVec S32x1024 1) (main_v6722 : IVec S32x1024 32) : IVec S32x32x32 1 :=
  let main_c_931 : IVec S_ 32 := constantI S_ 32 0#32
  let main_v6723 : IVec S32 32 := (fun x v => Host.reduce IntOp.addi x v reducesTo_S32x1024_S32_d1 h_S_) main_v6722 main_c_931
  let main_v6724 : IVec S32 1 := cmpi .eq main_v6723 main_v41
  let main_v6725 : IVec S32 1 := andi main_v6696 main_v6724
  let main_v6726 : FVec F S32x1024 .f32 := addf main_v6711 main_v0
  let main_v6727 : FVec F S32x1024 .f32 := select main_v6721 main_v6726 main_v39
  let main_cst_932 : FVec F S_ .f32 := constant S_ .f32 0x00000000#32
  let main_v6728 : FVec F S32 .f32 := (fun x v => Host.reduceAdd x v reducesTo_S32x1024_S32_d1 h_S_) main_v6727 main_cst_932
  let main_v6729 : FVec F S32x1024 .f32 := broadcastInDim S32x1024 ![0] bcast_S32_S32x1024_0 main_v6728
  let main_v6730 : IVec S32x32x32 32 := shapeCast S32x32x32 main_v6722 shapeCasts_S32x1024_S32x32x32
  let main_c_933 : IVec S_ 32 := constantI S_ 32 2147483648#32
  let main_v6731 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v6730 main_c_933
  let main_v6732 : IVec S32x1024 32 := shapeCast S32x1024 main_v6731 shapeCasts_S32x32x32_S32x1024
  let main_v6733 : IVec S32x1024 1 := cmpi .sgt main_v6732 main_v40
  let main_v6734 : IVec S32x1024 1 := ori main_v6716 main_v6712
  let main_v6735 : IVec S32x1024 1 := noti main_v6734
  let main_v6736 : IVec S32x1024 1 := cmpf .ogt main_v6711 main_v6729
  let main_v6737 : IVec S32x1024 1 := andi main_v6716 main_v6736
  let main_v6738 : IVec S32x1024 1 := ori main_v6735 main_v6737
  let main_v6739 : IVec S32x1024 1 := andi main_v6733 main_v6738
  let main_v6740 : FVec F S32x1024 .f32 := select main_v6739 main_v6729 main_v6711
  let main_v6741 : IVec S32x1024 1 := ori main_v6712 main_v6721
  let main_v6742 : IVec S32x1024 1 := andi main_v6721 main_v37
  let main_v6743 : IVec S32x1024 1 := noti main_v6742
  fn_part320 (F := F) main_arg0 main_arg1 main_arg2 main_v0 main_v34 main_v37 main_v38 main_v39 main_v40 main_v41 main_v6716 main_v6725 main_v6739 main_v6740 main_v6741 main_v6743

def fn_part318 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v6682 : FVec F S32x1024 .f32) (main_v6683 : IVec S32x1024 1) (main_v6687 : IVec S32x1024 1) (main_v6692 : IVec S32x1024 1) (main_v6693 : IVec S32x1024 32) (main_v6696 : IVec S32 1) (main_v6700 : FVec F S32x1024 .f32) : IVec S32x32x32 1 :=
  let main_v6701 : IVec S32x32x32 32 := shapeCast S32x32x32 main_v6693 shapeCasts_S32x1024_S32x32x32
  let main_c_929 : IVec S_ 32 := constantI S_ 32 2147483648#32
  let main_v6702 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v6701 main_c_929
  let main_v6703 : IVec S32x1024 32 := shapeCast S32x1024 main_v6702 shapeCasts_S32x32x32_S32x1024
  let main_v6704 : IVec S32x1024 1 := cmpi .sgt main_v6703 main_v40
  let main_v6705 : IVec S32x1024 1 := ori main_v6687 main_v6683
  let main_v6706 : IVec S32x1024 1 := noti main_v6705
  let main_v6707 : IVec S32x1024 1 := cmpf .ogt main_v6682 main_v6700
  let main_v6708 : IVec S32x1024 1 := andi main_v6687 main_v6707
  let main_v6709 : IVec S32x1024 1 := ori main_v6706 main_v6708
  let main_v6710 : IVec S32x1024 1 := andi main_v6704 main_v6709
  let main_v6711 : FVec F S32x1024 .f32 := select main_v6710 main_v6700 main_v6682
  let main_v6712 : IVec S32x1024 1 := ori main_v6683 main_v6692
  let main_v6713 : IVec S32x1024 1 := andi main_v6692 main_v37
  let main_v6714 : IVec S32x1024 1 := noti main_v6713
  let main_v6715 : IVec S32x1024 1 := andi main_v6687 main_v6714
  let main_v6716 : IVec S32x1024 1 := ori main_v6715 main_v6710
  let main_v6717 : FVec F S32x1024 .f32 := addf main_v6711 main_v34
  let main_v6718 : FVec F S32x1024 .f32 := select main_v6716 main_v6717 main_v38
  let main_cst_930 : FVec F S_ .f32 := constant S_ .f32 0x7F800000#32
  let main_v6719 : FVec F S32 .f32 := (fun x v => Host.reduce FloatOps.minimumf x v reducesTo_S32x1024_S32_d1 h_S_) main_v6718 main_cst_930
  let main_v6720 : FVec F S32x1024 .f32 := broadcastInDim S32x1024 ![0] bcast_S32_S32x1024_0 main_v6719
  let main_v6721 : IVec S32x1024 1 := cmpf .oeq main_v6718 main_v6720
  let main_v6722 : IVec S32x1024 32 := (extui 32 · natLt_1_32) main_v6721
  fn_part319 (F := F) main_arg0 main_arg1 main_arg2 main_v0 main_v34 main_v37 main_v38 main_v39 main_v40 main_v41 main_v6696 main_v6711 main_v6712 main_v6716 main_v6721 main_v6722

def fn_part317 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v6653 : FVec F S32x1024 .f32) (main_v6654 : IVec S32x1024 1) (main_v6658 : IVec S32x1024 1) (main_v6663 : IVec S32x1024 1) (main_v6667 : IVec S32 1) (main_v6671 : FVec F S32x1024 .f32) (main_v6675 : IVec S32x1024 1) (main_v6677 : IVec S32x1024 1) (main_v6679 : IVec S32x1024 1) : IVec S32x32x32 1 :=
  let main_v6680 : IVec S32x1024 1 := ori main_v6677 main_v6679
  let main_v6681 : IVec S32x1024 1 := andi main_v6675 main_v6680
  let main_v6682 : FVec F S32x1024 .f32 := select main_v6681 main_v6671 main_v6653
  let main_v6683 : IVec S32x1024 1 := ori main_v6654 main_v6663
  let main_v6684 : IVec S32x1024 1 := andi main_v6663 main_v37
  let main_v6685 : IVec S32x1024 1 := noti main_v6684
  let main_v6686 : IVec S32x1024 1 := andi main_v6658 main_v6685
  let main_v6687 : IVec S32x1024 1 := ori main_v6686 main_v6681
  let main_v6688 : FVec F S32x1024 .f32 := addf main_v6682 main_v34
  let main_v6689 : FVec F S32x1024 .f32 := select main_v6687 main_v6688 main_v38
  let main_cst_926 : FVec F S_ .f32 := constant S_ .f32 0x7F800000#32
  let main_v6690 : FVec F S32 .f32 := (fun x v => Host.reduce FloatOps.minimumf x v reducesTo_S32x1024_S32_d1 h_S_) main_v6689 main_cst_926
  let main_v6691 : FVec F S32x1024 .f32 := broadcastInDim S32x1024 ![0] bcast_S32_S32x1024_0 main_v6690
  let main_v6692 : IVec S32x1024 1 := cmpf .oeq main_v6689 main_v6691
  let main_v6693 : IVec S32x1024 32 := (extui 32 · natLt_1_32) main_v6692
  let main_c_927 : IVec S_ 32 := constantI S_ 32 0#32
  let main_v6694 : IVec S32 32 := (fun x v => Host.reduce IntOp.addi x v reducesTo_S32x1024_S32_d1 h_S_) main_v6693 main_c_927
  let main_v6695 : IVec S32 1 := cmpi .eq main_v6694 main_v41
  let main_v6696 : IVec S32 1 := andi main_v6667 main_v6695
  let main_v6697 : FVec F S32x1024 .f32 := addf main_v6682 main_v0
  let main_v6698 : FVec F S32x1024 .f32 := select main_v6692 main_v6697 main_v39
  let main_cst_928 : FVec F S_ .f32 := constant S_ .f32 0x00000000#32
  let main_v6699 : FVec F S32 .f32 := (fun x v => Host.reduceAdd x v reducesTo_S32x1024_S32_d1 h_S_) main_v6698 main_cst_928
  let main_v6700 : FVec F S32x1024 .f32 := broadcastInDim S32x1024 ![0] bcast_S32_S32x1024_0 main_v6699
  fn_part318 (F := F) main_arg0 main_arg1 main_arg2 main_v0 main_v34 main_v37 main_v38 main_v39 main_v40 main_v41 main_v6682 main_v6683 main_v6687 main_v6692 main_v6693 main_v6696 main_v6700

def fn_part316 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v6638 : IVec S32 1) (main_v6653 : FVec F S32x1024 .f32) (main_v6654 : IVec S32x1024 1) (main_v6658 : IVec S32x1024 1) (main_v6659 : FVec F S32x1024 .f32) : IVec S32x32x32 1 :=
  let main_v6660 : FVec F S32x1024 .f32 := select main_v6658 main_v6659 main_v38
  let main_cst_922 : FVec F S_ .f32 := constant S_ .f32 0x7F800000#32
  let main_v6661 : FVec F S32 .f32 := (fun x v => Host.reduce FloatOps.minimumf x v reducesTo_S32x1024_S32_d1 h_S_) main_v6660 main_cst_922
  let main_v6662 : FVec F S32x1024 .f32 := broadcastInDim S32x1024 ![0] bcast_S32_S32x1024_0 main_v6661
  let main_v6663 : IVec S32x1024 1 := cmpf .oeq main_v6660 main_v6662
  let main_v6664 : IVec S32x1024 32 := (extui 32 · natLt_1_32) main_v6663
  let main_c_923 : IVec S_ 32 := constantI S_ 32 0#32
  let main_v6665 : IVec S32 32 := (fun x v => Host.reduce IntOp.addi x v reducesTo_S32x1024_S32_d1 h_S_) main_v6664 main_c_923
  let main_v6666 : IVec S32 1 := cmpi .eq main_v6665 main_v41
  let main_v6667 : IVec S32 1 := andi main_v6638 main_v6666
  let main_v6668 : FVec F S32x1024 .f32 := addf main_v6653 main_v0
  let main_v6669 : FVec F S32x1024 .f32 := select main_v6663 main_v6668 main_v39
  let main_cst_924 : FVec F S_ .f32 := constant S_ .f32 0x00000000#32
  let main_v6670 : FVec F S32 .f32 := (fun x v => Host.reduceAdd x v reducesTo_S32x1024_S32_d1 h_S_) main_v6669 main_cst_924
  let main_v6671 : FVec F S32x1024 .f32 := broadcastInDim S32x1024 ![0] bcast_S32_S32x1024_0 main_v6670
  let main_v6672 : IVec S32x32x32 32 := shapeCast S32x32x32 main_v6664 shapeCasts_S32x1024_S32x32x32
  let main_c_925 : IVec S_ 32 := constantI S_ 32 2147483648#32
  let main_v6673 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v6672 main_c_925
  let main_v6674 : IVec S32x1024 32 := shapeCast S32x1024 main_v6673 shapeCasts_S32x32x32_S32x1024
  let main_v6675 : IVec S32x1024 1 := cmpi .sgt main_v6674 main_v40
  let main_v6676 : IVec S32x1024 1 := ori main_v6658 main_v6654
  let main_v6677 : IVec S32x1024 1 := noti main_v6676
  let main_v6678 : IVec S32x1024 1 := cmpf .ogt main_v6653 main_v6671
  let main_v6679 : IVec S32x1024 1 := andi main_v6658 main_v6678
  fn_part317 (F := F) main_arg0 main_arg1 main_arg2 main_v0 main_v34 main_v37 main_v38 main_v39 main_v40 main_v41 main_v6653 main_v6654 main_v6658 main_v6663 main_v6667 main_v6671 main_v6675 main_v6677 main_v6679

def fn_part315 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v6609 : IVec S32 1) (main_v6624 : FVec F S32x1024 .f32) (main_v6625 : IVec S32x1024 1) (main_v6629 : IVec S32x1024 1) (main_v6634 : IVec S32x1024 1) (main_v6635 : IVec S32x1024 32) (main_v6637 : IVec S32 1) : IVec S32x32x32 1 :=
  let main_v6638 : IVec S32 1 := andi main_v6609 main_v6637
  let main_v6639 : FVec F S32x1024 .f32 := addf main_v6624 main_v0
  let main_v6640 : FVec F S32x1024 .f32 := select main_v6634 main_v6639 main_v39
  let main_cst_920 : FVec F S_ .f32 := constant S_ .f32 0x00000000#32
  let main_v6641 : FVec F S32 .f32 := (fun x v => Host.reduceAdd x v reducesTo_S32x1024_S32_d1 h_S_) main_v6640 main_cst_920
  let main_v6642 : FVec F S32x1024 .f32 := broadcastInDim S32x1024 ![0] bcast_S32_S32x1024_0 main_v6641
  let main_v6643 : IVec S32x32x32 32 := shapeCast S32x32x32 main_v6635 shapeCasts_S32x1024_S32x32x32
  let main_c_921 : IVec S_ 32 := constantI S_ 32 2147483648#32
  let main_v6644 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v6643 main_c_921
  let main_v6645 : IVec S32x1024 32 := shapeCast S32x1024 main_v6644 shapeCasts_S32x32x32_S32x1024
  let main_v6646 : IVec S32x1024 1 := cmpi .sgt main_v6645 main_v40
  let main_v6647 : IVec S32x1024 1 := ori main_v6629 main_v6625
  let main_v6648 : IVec S32x1024 1 := noti main_v6647
  let main_v6649 : IVec S32x1024 1 := cmpf .ogt main_v6624 main_v6642
  let main_v6650 : IVec S32x1024 1 := andi main_v6629 main_v6649
  let main_v6651 : IVec S32x1024 1 := ori main_v6648 main_v6650
  let main_v6652 : IVec S32x1024 1 := andi main_v6646 main_v6651
  let main_v6653 : FVec F S32x1024 .f32 := select main_v6652 main_v6642 main_v6624
  let main_v6654 : IVec S32x1024 1 := ori main_v6625 main_v6634
  let main_v6655 : IVec S32x1024 1 := andi main_v6634 main_v37
  let main_v6656 : IVec S32x1024 1 := noti main_v6655
  let main_v6657 : IVec S32x1024 1 := andi main_v6629 main_v6656
  let main_v6658 : IVec S32x1024 1 := ori main_v6657 main_v6652
  let main_v6659 : FVec F S32x1024 .f32 := addf main_v6653 main_v34
  fn_part316 (F := F) main_arg0 main_arg1 main_arg2 main_v0 main_v34 main_v37 main_v38 main_v39 main_v40 main_v41 main_v6638 main_v6653 main_v6654 main_v6658 main_v6659

def fn_part314 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v6595 : FVec F S32x1024 .f32) (main_v6596 : IVec S32x1024 1) (main_v6600 : IVec S32x1024 1) (main_v6605 : IVec S32x1024 1) (main_v6609 : IVec S32 1) (main_v6613 : FVec F S32x1024 .f32) (main_v6615 : IVec S32x32x32 32) : IVec S32x32x32 1 :=
  let main_v6616 : IVec S32x1024 32 := shapeCast S32x1024 main_v6615 shapeCasts_S32x32x32_S32x1024
  let main_v6617 : IVec S32x1024 1 := cmpi .sgt main_v6616 main_v40
  let main_v6618 : IVec S32x1024 1 := ori main_v6600 main_v6596
  let main_v6619 : IVec S32x1024 1 := noti main_v6618
  let main_v6620 : IVec S32x1024 1 := cmpf .ogt main_v6595 main_v6613
  let main_v6621 : IVec S32x1024 1 := andi main_v6600 main_v6620
  let main_v6622 : IVec S32x1024 1 := ori main_v6619 main_v6621
  let main_v6623 : IVec S32x1024 1 := andi main_v6617 main_v6622
  let main_v6624 : FVec F S32x1024 .f32 := select main_v6623 main_v6613 main_v6595
  let main_v6625 : IVec S32x1024 1 := ori main_v6596 main_v6605
  let main_v6626 : IVec S32x1024 1 := andi main_v6605 main_v37
  let main_v6627 : IVec S32x1024 1 := noti main_v6626
  let main_v6628 : IVec S32x1024 1 := andi main_v6600 main_v6627
  let main_v6629 : IVec S32x1024 1 := ori main_v6628 main_v6623
  let main_v6630 : FVec F S32x1024 .f32 := addf main_v6624 main_v34
  let main_v6631 : FVec F S32x1024 .f32 := select main_v6629 main_v6630 main_v38
  let main_cst_918 : FVec F S_ .f32 := constant S_ .f32 0x7F800000#32
  let main_v6632 : FVec F S32 .f32 := (fun x v => Host.reduce FloatOps.minimumf x v reducesTo_S32x1024_S32_d1 h_S_) main_v6631 main_cst_918
  let main_v6633 : FVec F S32x1024 .f32 := broadcastInDim S32x1024 ![0] bcast_S32_S32x1024_0 main_v6632
  let main_v6634 : IVec S32x1024 1 := cmpf .oeq main_v6631 main_v6633
  let main_v6635 : IVec S32x1024 32 := (extui 32 · natLt_1_32) main_v6634
  let main_c_919 : IVec S_ 32 := constantI S_ 32 0#32
  let main_v6636 : IVec S32 32 := (fun x v => Host.reduce IntOp.addi x v reducesTo_S32x1024_S32_d1 h_S_) main_v6635 main_c_919
  let main_v6637 : IVec S32 1 := cmpi .eq main_v6636 main_v41
  fn_part315 (F := F) main_arg0 main_arg1 main_arg2 main_v0 main_v34 main_v37 main_v38 main_v39 main_v40 main_v41 main_v6609 main_v6624 main_v6625 main_v6629 main_v6634 main_v6635 main_v6637

def fn_part313 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v6567 : IVec S32x1024 1) (main_v6571 : IVec S32x1024 1) (main_v6576 : IVec S32x1024 1) (main_v6580 : IVec S32 1) (main_v6594 : IVec S32x1024 1) (main_v6595 : FVec F S32x1024 .f32) : IVec S32x32x32 1 :=
  let main_v6596 : IVec S32x1024 1 := ori main_v6567 main_v6576
  let main_v6597 : IVec S32x1024 1 := andi main_v6576 main_v37
  let main_v6598 : IVec S32x1024 1 := noti main_v6597
  let main_v6599 : IVec S32x1024 1 := andi main_v6571 main_v6598
  let main_v6600 : IVec S32x1024 1 := ori main_v6599 main_v6594
  let main_v6601 : FVec F S32x1024 .f32 := addf main_v6595 main_v34
  let main_v6602 : FVec F S32x1024 .f32 := select main_v6600 main_v6601 main_v38
  let main_cst_914 : FVec F S_ .f32 := constant S_ .f32 0x7F800000#32
  let main_v6603 : FVec F S32 .f32 := (fun x v => Host.reduce FloatOps.minimumf x v reducesTo_S32x1024_S32_d1 h_S_) main_v6602 main_cst_914
  let main_v6604 : FVec F S32x1024 .f32 := broadcastInDim S32x1024 ![0] bcast_S32_S32x1024_0 main_v6603
  let main_v6605 : IVec S32x1024 1 := cmpf .oeq main_v6602 main_v6604
  let main_v6606 : IVec S32x1024 32 := (extui 32 · natLt_1_32) main_v6605
  let main_c_915 : IVec S_ 32 := constantI S_ 32 0#32
  let main_v6607 : IVec S32 32 := (fun x v => Host.reduce IntOp.addi x v reducesTo_S32x1024_S32_d1 h_S_) main_v6606 main_c_915
  let main_v6608 : IVec S32 1 := cmpi .eq main_v6607 main_v41
  let main_v6609 : IVec S32 1 := andi main_v6580 main_v6608
  let main_v6610 : FVec F S32x1024 .f32 := addf main_v6595 main_v0
  let main_v6611 : FVec F S32x1024 .f32 := select main_v6605 main_v6610 main_v39
  let main_cst_916 : FVec F S_ .f32 := constant S_ .f32 0x00000000#32
  let main_v6612 : FVec F S32 .f32 := (fun x v => Host.reduceAdd x v reducesTo_S32x1024_S32_d1 h_S_) main_v6611 main_cst_916
  let main_v6613 : FVec F S32x1024 .f32 := broadcastInDim S32x1024 ![0] bcast_S32_S32x1024_0 main_v6612
  let main_v6614 : IVec S32x32x32 32 := shapeCast S32x32x32 main_v6606 shapeCasts_S32x1024_S32x32x32
  let main_c_917 : IVec S_ 32 := constantI S_ 32 2147483648#32
  let main_v6615 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v6614 main_c_917
  fn_part314 (F := F) main_arg0 main_arg1 main_arg2 main_v0 main_v34 main_v37 main_v38 main_v39 main_v40 main_v41 main_v6595 main_v6596 main_v6600 main_v6605 main_v6609 main_v6613 main_v6615

def fn_part312 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v6551 : IVec S32 1) (main_v6566 : FVec F S32x1024 .f32) (main_v6567 : IVec S32x1024 1) (main_v6571 : IVec S32x1024 1) (main_v6573 : FVec F S32x1024 .f32) (main_v6574 : FVec F S32 .f32) : IVec S32x32x32 1 :=
  let main_v6575 : FVec F S32x1024 .f32 := broadcastInDim S32x1024 ![0] bcast_S32_S32x1024_0 main_v6574
  let main_v6576 : IVec S32x1024 1 := cmpf .oeq main_v6573 main_v6575
  let main_v6577 : IVec S32x1024 32 := (extui 32 · natLt_1_32) main_v6576
  let main_c_911 : IVec S_ 32 := constantI S_ 32 0#32
  let main_v6578 : IVec S32 32 := (fun x v => Host.reduce IntOp.addi x v reducesTo_S32x1024_S32_d1 h_S_) main_v6577 main_c_911
  let main_v6579 : IVec S32 1 := cmpi .eq main_v6578 main_v41
  let main_v6580 : IVec S32 1 := andi main_v6551 main_v6579
  let main_v6581 : FVec F S32x1024 .f32 := addf main_v6566 main_v0
  let main_v6582 : FVec F S32x1024 .f32 := select main_v6576 main_v6581 main_v39
  let main_cst_912 : FVec F S_ .f32 := constant S_ .f32 0x00000000#32
  let main_v6583 : FVec F S32 .f32 := (fun x v => Host.reduceAdd x v reducesTo_S32x1024_S32_d1 h_S_) main_v6582 main_cst_912
  let main_v6584 : FVec F S32x1024 .f32 := broadcastInDim S32x1024 ![0] bcast_S32_S32x1024_0 main_v6583
  let main_v6585 : IVec S32x32x32 32 := shapeCast S32x32x32 main_v6577 shapeCasts_S32x1024_S32x32x32
  let main_c_913 : IVec S_ 32 := constantI S_ 32 2147483648#32
  let main_v6586 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v6585 main_c_913
  let main_v6587 : IVec S32x1024 32 := shapeCast S32x1024 main_v6586 shapeCasts_S32x32x32_S32x1024
  let main_v6588 : IVec S32x1024 1 := cmpi .sgt main_v6587 main_v40
  let main_v6589 : IVec S32x1024 1 := ori main_v6571 main_v6567
  let main_v6590 : IVec S32x1024 1 := noti main_v6589
  let main_v6591 : IVec S32x1024 1 := cmpf .ogt main_v6566 main_v6584
  let main_v6592 : IVec S32x1024 1 := andi main_v6571 main_v6591
  let main_v6593 : IVec S32x1024 1 := ori main_v6590 main_v6592
  let main_v6594 : IVec S32x1024 1 := andi main_v6588 main_v6593
  let main_v6595 : FVec F S32x1024 .f32 := select main_v6594 main_v6584 main_v6566
  fn_part313 (F := F) main_arg0 main_arg1 main_arg2 main_v0 main_v34 main_v37 main_v38 main_v39 main_v40 main_v41 main_v6567 main_v6571 main_v6576 main_v6580 main_v6594 main_v6595

def fn_part311 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v6537 : FVec F S32x1024 .f32) (main_v6538 : IVec S32x1024 1) (main_v6542 : IVec S32x1024 1) (main_v6547 : IVec S32x1024 1) (main_v6548 : IVec S32x1024 32) (main_v6551 : IVec S32 1) (main_v6553 : FVec F S32x1024 .f32) : IVec S32x32x32 1 :=
  let main_cst_908 : FVec F S_ .f32 := constant S_ .f32 0x00000000#32
  let main_v6554 : FVec F S32 .f32 := (fun x v => Host.reduceAdd x v reducesTo_S32x1024_S32_d1 h_S_) main_v6553 main_cst_908
  let main_v6555 : FVec F S32x1024 .f32 := broadcastInDim S32x1024 ![0] bcast_S32_S32x1024_0 main_v6554
  let main_v6556 : IVec S32x32x32 32 := shapeCast S32x32x32 main_v6548 shapeCasts_S32x1024_S32x32x32
  let main_c_909 : IVec S_ 32 := constantI S_ 32 2147483648#32
  let main_v6557 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v6556 main_c_909
  let main_v6558 : IVec S32x1024 32 := shapeCast S32x1024 main_v6557 shapeCasts_S32x32x32_S32x1024
  let main_v6559 : IVec S32x1024 1 := cmpi .sgt main_v6558 main_v40
  let main_v6560 : IVec S32x1024 1 := ori main_v6542 main_v6538
  let main_v6561 : IVec S32x1024 1 := noti main_v6560
  let main_v6562 : IVec S32x1024 1 := cmpf .ogt main_v6537 main_v6555
  let main_v6563 : IVec S32x1024 1 := andi main_v6542 main_v6562
  let main_v6564 : IVec S32x1024 1 := ori main_v6561 main_v6563
  let main_v6565 : IVec S32x1024 1 := andi main_v6559 main_v6564
  let main_v6566 : FVec F S32x1024 .f32 := select main_v6565 main_v6555 main_v6537
  let main_v6567 : IVec S32x1024 1 := ori main_v6538 main_v6547
  let main_v6568 : IVec S32x1024 1 := andi main_v6547 main_v37
  let main_v6569 : IVec S32x1024 1 := noti main_v6568
  let main_v6570 : IVec S32x1024 1 := andi main_v6542 main_v6569
  let main_v6571 : IVec S32x1024 1 := ori main_v6570 main_v6565
  let main_v6572 : FVec F S32x1024 .f32 := addf main_v6566 main_v34
  let main_v6573 : FVec F S32x1024 .f32 := select main_v6571 main_v6572 main_v38
  let main_cst_910 : FVec F S_ .f32 := constant S_ .f32 0x7F800000#32
  let main_v6574 : FVec F S32 .f32 := (fun x v => Host.reduce FloatOps.minimumf x v reducesTo_S32x1024_S32_d1 h_S_) main_v6573 main_cst_910
  fn_part312 (F := F) main_arg0 main_arg1 main_arg2 main_v0 main_v34 main_v37 main_v38 main_v39 main_v40 main_v41 main_v6551 main_v6566 main_v6567 main_v6571 main_v6573 main_v6574

def fn_part310 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v6508 : FVec F S32x1024 .f32) (main_v6509 : IVec S32x1024 1) (main_v6513 : IVec S32x1024 1) (main_v6518 : IVec S32x1024 1) (main_v6522 : IVec S32 1) (main_v6526 : FVec F S32x1024 .f32) (main_v6530 : IVec S32x1024 1) (main_v6531 : IVec S32x1024 1) : IVec S32x32x32 1 :=
  let main_v6532 : IVec S32x1024 1 := noti main_v6531
  let main_v6533 : IVec S32x1024 1 := cmpf .ogt main_v6508 main_v6526
  let main_v6534 : IVec S32x1024 1 := andi main_v6513 main_v6533
  let main_v6535 : IVec S32x1024 1 := ori main_v6532 main_v6534
  let main_v6536 : IVec S32x1024 1 := andi main_v6530 main_v6535
  let main_v6537 : FVec F S32x1024 .f32 := select main_v6536 main_v6526 main_v6508
  let main_v6538 : IVec S32x1024 1 := ori main_v6509 main_v6518
  let main_v6539 : IVec S32x1024 1 := andi main_v6518 main_v37
  let main_v6540 : IVec S32x1024 1 := noti main_v6539
  let main_v6541 : IVec S32x1024 1 := andi main_v6513 main_v6540
  let main_v6542 : IVec S32x1024 1 := ori main_v6541 main_v6536
  let main_v6543 : FVec F S32x1024 .f32 := addf main_v6537 main_v34
  let main_v6544 : FVec F S32x1024 .f32 := select main_v6542 main_v6543 main_v38
  let main_cst_906 : FVec F S_ .f32 := constant S_ .f32 0x7F800000#32
  let main_v6545 : FVec F S32 .f32 := (fun x v => Host.reduce FloatOps.minimumf x v reducesTo_S32x1024_S32_d1 h_S_) main_v6544 main_cst_906
  let main_v6546 : FVec F S32x1024 .f32 := broadcastInDim S32x1024 ![0] bcast_S32_S32x1024_0 main_v6545
  let main_v6547 : IVec S32x1024 1 := cmpf .oeq main_v6544 main_v6546
  let main_v6548 : IVec S32x1024 32 := (extui 32 · natLt_1_32) main_v6547
  let main_c_907 : IVec S_ 32 := constantI S_ 32 0#32
  let main_v6549 : IVec S32 32 := (fun x v => Host.reduce IntOp.addi x v reducesTo_S32x1024_S32_d1 h_S_) main_v6548 main_c_907
  let main_v6550 : IVec S32 1 := cmpi .eq main_v6549 main_v41
  let main_v6551 : IVec S32 1 := andi main_v6522 main_v6550
  let main_v6552 : FVec F S32x1024 .f32 := addf main_v6537 main_v0
  let main_v6553 : FVec F S32x1024 .f32 := select main_v6547 main_v6552 main_v39
  fn_part311 (F := F) main_arg0 main_arg1 main_arg2 main_v0 main_v34 main_v37 main_v38 main_v39 main_v40 main_v41 main_v6537 main_v6538 main_v6542 main_v6547 main_v6548 main_v6551 main_v6553

def fn_part309 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v6484 : IVec S32x1024 1) (main_v6493 : IVec S32 1) (main_v6507 : IVec S32x1024 1) (main_v6508 : FVec F S32x1024 .f32) (main_v6509 : IVec S32x1024 1) (main_v6511 : IVec S32x1024 1) : IVec S32x32x32 1 :=
  let main_v6512 : IVec S32x1024 1 := andi main_v6484 main_v6511
  let main_v6513 : IVec S32x1024 1 := ori main_v6512 main_v6507
  let main_v6514 : FVec F S32x1024 .f32 := addf main_v6508 main_v34
  let main_v6515 : FVec F S32x1024 .f32 := select main_v6513 main_v6514 main_v38
  let main_cst_902 : FVec F S_ .f32 := constant S_ .f32 0x7F800000#32
  let main_v6516 : FVec F S32 .f32 := (fun x v => Host.reduce FloatOps.minimumf x v reducesTo_S32x1024_S32_d1 h_S_) main_v6515 main_cst_902
  let main_v6517 : FVec F S32x1024 .f32 := broadcastInDim S32x1024 ![0] bcast_S32_S32x1024_0 main_v6516
  let main_v6518 : IVec S32x1024 1 := cmpf .oeq main_v6515 main_v6517
  let main_v6519 : IVec S32x1024 32 := (extui 32 · natLt_1_32) main_v6518
  let main_c_903 : IVec S_ 32 := constantI S_ 32 0#32
  let main_v6520 : IVec S32 32 := (fun x v => Host.reduce IntOp.addi x v reducesTo_S32x1024_S32_d1 h_S_) main_v6519 main_c_903
  let main_v6521 : IVec S32 1 := cmpi .eq main_v6520 main_v41
  let main_v6522 : IVec S32 1 := andi main_v6493 main_v6521
  let main_v6523 : FVec F S32x1024 .f32 := addf main_v6508 main_v0
  let main_v6524 : FVec F S32x1024 .f32 := select main_v6518 main_v6523 main_v39
  let main_cst_904 : FVec F S_ .f32 := constant S_ .f32 0x00000000#32
  let main_v6525 : FVec F S32 .f32 := (fun x v => Host.reduceAdd x v reducesTo_S32x1024_S32_d1 h_S_) main_v6524 main_cst_904
  let main_v6526 : FVec F S32x1024 .f32 := broadcastInDim S32x1024 ![0] bcast_S32_S32x1024_0 main_v6525
  let main_v6527 : IVec S32x32x32 32 := shapeCast S32x32x32 main_v6519 shapeCasts_S32x1024_S32x32x32
  let main_c_905 : IVec S_ 32 := constantI S_ 32 2147483648#32
  let main_v6528 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v6527 main_c_905
  let main_v6529 : IVec S32x1024 32 := shapeCast S32x1024 main_v6528 shapeCasts_S32x32x32_S32x1024
  let main_v6530 : IVec S32x1024 1 := cmpi .sgt main_v6529 main_v40
  let main_v6531 : IVec S32x1024 1 := ori main_v6513 main_v6509
  fn_part310 (F := F) main_arg0 main_arg1 main_arg2 main_v0 main_v34 main_v37 main_v38 main_v39 main_v40 main_v41 main_v6508 main_v6509 main_v6513 main_v6518 main_v6522 main_v6526 main_v6530 main_v6531

def fn_part308 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v6464 : IVec S32 1) (main_v6479 : FVec F S32x1024 .f32) (main_v6480 : IVec S32x1024 1) (main_v6484 : IVec S32x1024 1) (main_v6489 : IVec S32x1024 1) (main_v6490 : IVec S32x1024 32) : IVec S32x32x32 1 :=
  let main_c_899 : IVec S_ 32 := constantI S_ 32 0#32
  let main_v6491 : IVec S32 32 := (fun x v => Host.reduce IntOp.addi x v reducesTo_S32x1024_S32_d1 h_S_) main_v6490 main_c_899
  let main_v6492 : IVec S32 1 := cmpi .eq main_v6491 main_v41
  let main_v6493 : IVec S32 1 := andi main_v6464 main_v6492
  let main_v6494 : FVec F S32x1024 .f32 := addf main_v6479 main_v0
  let main_v6495 : FVec F S32x1024 .f32 := select main_v6489 main_v6494 main_v39
  let main_cst_900 : FVec F S_ .f32 := constant S_ .f32 0x00000000#32
  let main_v6496 : FVec F S32 .f32 := (fun x v => Host.reduceAdd x v reducesTo_S32x1024_S32_d1 h_S_) main_v6495 main_cst_900
  let main_v6497 : FVec F S32x1024 .f32 := broadcastInDim S32x1024 ![0] bcast_S32_S32x1024_0 main_v6496
  let main_v6498 : IVec S32x32x32 32 := shapeCast S32x32x32 main_v6490 shapeCasts_S32x1024_S32x32x32
  let main_c_901 : IVec S_ 32 := constantI S_ 32 2147483648#32
  let main_v6499 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v6498 main_c_901
  let main_v6500 : IVec S32x1024 32 := shapeCast S32x1024 main_v6499 shapeCasts_S32x32x32_S32x1024
  let main_v6501 : IVec S32x1024 1 := cmpi .sgt main_v6500 main_v40
  let main_v6502 : IVec S32x1024 1 := ori main_v6484 main_v6480
  let main_v6503 : IVec S32x1024 1 := noti main_v6502
  let main_v6504 : IVec S32x1024 1 := cmpf .ogt main_v6479 main_v6497
  let main_v6505 : IVec S32x1024 1 := andi main_v6484 main_v6504
  let main_v6506 : IVec S32x1024 1 := ori main_v6503 main_v6505
  let main_v6507 : IVec S32x1024 1 := andi main_v6501 main_v6506
  let main_v6508 : FVec F S32x1024 .f32 := select main_v6507 main_v6497 main_v6479
  let main_v6509 : IVec S32x1024 1 := ori main_v6480 main_v6489
  let main_v6510 : IVec S32x1024 1 := andi main_v6489 main_v37
  let main_v6511 : IVec S32x1024 1 := noti main_v6510
  fn_part309 (F := F) main_arg0 main_arg1 main_arg2 main_v0 main_v34 main_v37 main_v38 main_v39 main_v40 main_v41 main_v6484 main_v6493 main_v6507 main_v6508 main_v6509 main_v6511

def fn_part307 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v6450 : FVec F S32x1024 .f32) (main_v6451 : IVec S32x1024 1) (main_v6455 : IVec S32x1024 1) (main_v6460 : IVec S32x1024 1) (main_v6461 : IVec S32x1024 32) (main_v6464 : IVec S32 1) (main_v6468 : FVec F S32x1024 .f32) : IVec S32x32x32 1 :=
  let main_v6469 : IVec S32x32x32 32 := shapeCast S32x32x32 main_v6461 shapeCasts_S32x1024_S32x32x32
  let main_c_897 : IVec S_ 32 := constantI S_ 32 2147483648#32
  let main_v6470 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v6469 main_c_897
  let main_v6471 : IVec S32x1024 32 := shapeCast S32x1024 main_v6470 shapeCasts_S32x32x32_S32x1024
  let main_v6472 : IVec S32x1024 1 := cmpi .sgt main_v6471 main_v40
  let main_v6473 : IVec S32x1024 1 := ori main_v6455 main_v6451
  let main_v6474 : IVec S32x1024 1 := noti main_v6473
  let main_v6475 : IVec S32x1024 1 := cmpf .ogt main_v6450 main_v6468
  let main_v6476 : IVec S32x1024 1 := andi main_v6455 main_v6475
  let main_v6477 : IVec S32x1024 1 := ori main_v6474 main_v6476
  let main_v6478 : IVec S32x1024 1 := andi main_v6472 main_v6477
  let main_v6479 : FVec F S32x1024 .f32 := select main_v6478 main_v6468 main_v6450
  let main_v6480 : IVec S32x1024 1 := ori main_v6451 main_v6460
  let main_v6481 : IVec S32x1024 1 := andi main_v6460 main_v37
  let main_v6482 : IVec S32x1024 1 := noti main_v6481
  let main_v6483 : IVec S32x1024 1 := andi main_v6455 main_v6482
  let main_v6484 : IVec S32x1024 1 := ori main_v6483 main_v6478
  let main_v6485 : FVec F S32x1024 .f32 := addf main_v6479 main_v34
  let main_v6486 : FVec F S32x1024 .f32 := select main_v6484 main_v6485 main_v38
  let main_cst_898 : FVec F S_ .f32 := constant S_ .f32 0x7F800000#32
  let main_v6487 : FVec F S32 .f32 := (fun x v => Host.reduce FloatOps.minimumf x v reducesTo_S32x1024_S32_d1 h_S_) main_v6486 main_cst_898
  let main_v6488 : FVec F S32x1024 .f32 := broadcastInDim S32x1024 ![0] bcast_S32_S32x1024_0 main_v6487
  let main_v6489 : IVec S32x1024 1 := cmpf .oeq main_v6486 main_v6488
  let main_v6490 : IVec S32x1024 32 := (extui 32 · natLt_1_32) main_v6489
  fn_part308 (F := F) main_arg0 main_arg1 main_arg2 main_v0 main_v34 main_v37 main_v38 main_v39 main_v40 main_v41 main_v6464 main_v6479 main_v6480 main_v6484 main_v6489 main_v6490

def fn_part306 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v6421 : FVec F S32x1024 .f32) (main_v6422 : IVec S32x1024 1) (main_v6426 : IVec S32x1024 1) (main_v6431 : IVec S32x1024 1) (main_v6435 : IVec S32 1) (main_v6439 : FVec F S32x1024 .f32) (main_v6443 : IVec S32x1024 1) (main_v6445 : IVec S32x1024 1) (main_v6447 : IVec S32x1024 1) : IVec S32x32x32 1 :=
  let main_v6448 : IVec S32x1024 1 := ori main_v6445 main_v6447
  let main_v6449 : IVec S32x1024 1 := andi main_v6443 main_v6448
  let main_v6450 : FVec F S32x1024 .f32 := select main_v6449 main_v6439 main_v6421
  let main_v6451 : IVec S32x1024 1 := ori main_v6422 main_v6431
  let main_v6452 : IVec S32x1024 1 := andi main_v6431 main_v37
  let main_v6453 : IVec S32x1024 1 := noti main_v6452
  let main_v6454 : IVec S32x1024 1 := andi main_v6426 main_v6453
  let main_v6455 : IVec S32x1024 1 := ori main_v6454 main_v6449
  let main_v6456 : FVec F S32x1024 .f32 := addf main_v6450 main_v34
  let main_v6457 : FVec F S32x1024 .f32 := select main_v6455 main_v6456 main_v38
  let main_cst_894 : FVec F S_ .f32 := constant S_ .f32 0x7F800000#32
  let main_v6458 : FVec F S32 .f32 := (fun x v => Host.reduce FloatOps.minimumf x v reducesTo_S32x1024_S32_d1 h_S_) main_v6457 main_cst_894
  let main_v6459 : FVec F S32x1024 .f32 := broadcastInDim S32x1024 ![0] bcast_S32_S32x1024_0 main_v6458
  let main_v6460 : IVec S32x1024 1 := cmpf .oeq main_v6457 main_v6459
  let main_v6461 : IVec S32x1024 32 := (extui 32 · natLt_1_32) main_v6460
  let main_c_895 : IVec S_ 32 := constantI S_ 32 0#32
  let main_v6462 : IVec S32 32 := (fun x v => Host.reduce IntOp.addi x v reducesTo_S32x1024_S32_d1 h_S_) main_v6461 main_c_895
  let main_v6463 : IVec S32 1 := cmpi .eq main_v6462 main_v41
  let main_v6464 : IVec S32 1 := andi main_v6435 main_v6463
  let main_v6465 : FVec F S32x1024 .f32 := addf main_v6450 main_v0
  let main_v6466 : FVec F S32x1024 .f32 := select main_v6460 main_v6465 main_v39
  let main_cst_896 : FVec F S_ .f32 := constant S_ .f32 0x00000000#32
  let main_v6467 : FVec F S32 .f32 := (fun x v => Host.reduceAdd x v reducesTo_S32x1024_S32_d1 h_S_) main_v6466 main_cst_896
  let main_v6468 : FVec F S32x1024 .f32 := broadcastInDim S32x1024 ![0] bcast_S32_S32x1024_0 main_v6467
  fn_part307 (F := F) main_arg0 main_arg1 main_arg2 main_v0 main_v34 main_v37 main_v38 main_v39 main_v40 main_v41 main_v6450 main_v6451 main_v6455 main_v6460 main_v6461 main_v6464 main_v6468

def fn_part305 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v6406 : IVec S32 1) (main_v6421 : FVec F S32x1024 .f32) (main_v6422 : IVec S32x1024 1) (main_v6426 : IVec S32x1024 1) (main_v6427 : FVec F S32x1024 .f32) : IVec S32x32x32 1 :=
  let main_v6428 : FVec F S32x1024 .f32 := select main_v6426 main_v6427 main_v38
  let main_cst_890 : FVec F S_ .f32 := constant S_ .f32 0x7F800000#32
  let main_v6429 : FVec F S32 .f32 := (fun x v => Host.reduce FloatOps.minimumf x v reducesTo_S32x1024_S32_d1 h_S_) main_v6428 main_cst_890
  let main_v6430 : FVec F S32x1024 .f32 := broadcastInDim S32x1024 ![0] bcast_S32_S32x1024_0 main_v6429
  let main_v6431 : IVec S32x1024 1 := cmpf .oeq main_v6428 main_v6430
  let main_v6432 : IVec S32x1024 32 := (extui 32 · natLt_1_32) main_v6431
  let main_c_891 : IVec S_ 32 := constantI S_ 32 0#32
  let main_v6433 : IVec S32 32 := (fun x v => Host.reduce IntOp.addi x v reducesTo_S32x1024_S32_d1 h_S_) main_v6432 main_c_891
  let main_v6434 : IVec S32 1 := cmpi .eq main_v6433 main_v41
  let main_v6435 : IVec S32 1 := andi main_v6406 main_v6434
  let main_v6436 : FVec F S32x1024 .f32 := addf main_v6421 main_v0
  let main_v6437 : FVec F S32x1024 .f32 := select main_v6431 main_v6436 main_v39
  let main_cst_892 : FVec F S_ .f32 := constant S_ .f32 0x00000000#32
  let main_v6438 : FVec F S32 .f32 := (fun x v => Host.reduceAdd x v reducesTo_S32x1024_S32_d1 h_S_) main_v6437 main_cst_892
  let main_v6439 : FVec F S32x1024 .f32 := broadcastInDim S32x1024 ![0] bcast_S32_S32x1024_0 main_v6438
  let main_v6440 : IVec S32x32x32 32 := shapeCast S32x32x32 main_v6432 shapeCasts_S32x1024_S32x32x32
  let main_c_893 : IVec S_ 32 := constantI S_ 32 2147483648#32
  let main_v6441 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v6440 main_c_893
  let main_v6442 : IVec S32x1024 32 := shapeCast S32x1024 main_v6441 shapeCasts_S32x32x32_S32x1024
  let main_v6443 : IVec S32x1024 1 := cmpi .sgt main_v6442 main_v40
  let main_v6444 : IVec S32x1024 1 := ori main_v6426 main_v6422
  let main_v6445 : IVec S32x1024 1 := noti main_v6444
  let main_v6446 : IVec S32x1024 1 := cmpf .ogt main_v6421 main_v6439
  let main_v6447 : IVec S32x1024 1 := andi main_v6426 main_v6446
  fn_part306 (F := F) main_arg0 main_arg1 main_arg2 main_v0 main_v34 main_v37 main_v38 main_v39 main_v40 main_v41 main_v6421 main_v6422 main_v6426 main_v6431 main_v6435 main_v6439 main_v6443 main_v6445 main_v6447

def fn_part304 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v6377 : IVec S32 1) (main_v6392 : FVec F S32x1024 .f32) (main_v6393 : IVec S32x1024 1) (main_v6397 : IVec S32x1024 1) (main_v6402 : IVec S32x1024 1) (main_v6403 : IVec S32x1024 32) (main_v6405 : IVec S32 1) : IVec S32x32x32 1 :=
  let main_v6406 : IVec S32 1 := andi main_v6377 main_v6405
  let main_v6407 : FVec F S32x1024 .f32 := addf main_v6392 main_v0
  let main_v6408 : FVec F S32x1024 .f32 := select main_v6402 main_v6407 main_v39
  let main_cst_888 : FVec F S_ .f32 := constant S_ .f32 0x00000000#32
  let main_v6409 : FVec F S32 .f32 := (fun x v => Host.reduceAdd x v reducesTo_S32x1024_S32_d1 h_S_) main_v6408 main_cst_888
  let main_v6410 : FVec F S32x1024 .f32 := broadcastInDim S32x1024 ![0] bcast_S32_S32x1024_0 main_v6409
  let main_v6411 : IVec S32x32x32 32 := shapeCast S32x32x32 main_v6403 shapeCasts_S32x1024_S32x32x32
  let main_c_889 : IVec S_ 32 := constantI S_ 32 2147483648#32
  let main_v6412 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v6411 main_c_889
  let main_v6413 : IVec S32x1024 32 := shapeCast S32x1024 main_v6412 shapeCasts_S32x32x32_S32x1024
  let main_v6414 : IVec S32x1024 1 := cmpi .sgt main_v6413 main_v40
  let main_v6415 : IVec S32x1024 1 := ori main_v6397 main_v6393
  let main_v6416 : IVec S32x1024 1 := noti main_v6415
  let main_v6417 : IVec S32x1024 1 := cmpf .ogt main_v6392 main_v6410
  let main_v6418 : IVec S32x1024 1 := andi main_v6397 main_v6417
  let main_v6419 : IVec S32x1024 1 := ori main_v6416 main_v6418
  let main_v6420 : IVec S32x1024 1 := andi main_v6414 main_v6419
  let main_v6421 : FVec F S32x1024 .f32 := select main_v6420 main_v6410 main_v6392
  let main_v6422 : IVec S32x1024 1 := ori main_v6393 main_v6402
  let main_v6423 : IVec S32x1024 1 := andi main_v6402 main_v37
  let main_v6424 : IVec S32x1024 1 := noti main_v6423
  let main_v6425 : IVec S32x1024 1 := andi main_v6397 main_v6424
  let main_v6426 : IVec S32x1024 1 := ori main_v6425 main_v6420
  let main_v6427 : FVec F S32x1024 .f32 := addf main_v6421 main_v34
  fn_part305 (F := F) main_arg0 main_arg1 main_arg2 main_v0 main_v34 main_v37 main_v38 main_v39 main_v40 main_v41 main_v6406 main_v6421 main_v6422 main_v6426 main_v6427

def fn_part303 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v6363 : FVec F S32x1024 .f32) (main_v6364 : IVec S32x1024 1) (main_v6368 : IVec S32x1024 1) (main_v6373 : IVec S32x1024 1) (main_v6377 : IVec S32 1) (main_v6381 : FVec F S32x1024 .f32) (main_v6383 : IVec S32x32x32 32) : IVec S32x32x32 1 :=
  let main_v6384 : IVec S32x1024 32 := shapeCast S32x1024 main_v6383 shapeCasts_S32x32x32_S32x1024
  let main_v6385 : IVec S32x1024 1 := cmpi .sgt main_v6384 main_v40
  let main_v6386 : IVec S32x1024 1 := ori main_v6368 main_v6364
  let main_v6387 : IVec S32x1024 1 := noti main_v6386
  let main_v6388 : IVec S32x1024 1 := cmpf .ogt main_v6363 main_v6381
  let main_v6389 : IVec S32x1024 1 := andi main_v6368 main_v6388
  let main_v6390 : IVec S32x1024 1 := ori main_v6387 main_v6389
  let main_v6391 : IVec S32x1024 1 := andi main_v6385 main_v6390
  let main_v6392 : FVec F S32x1024 .f32 := select main_v6391 main_v6381 main_v6363
  let main_v6393 : IVec S32x1024 1 := ori main_v6364 main_v6373
  let main_v6394 : IVec S32x1024 1 := andi main_v6373 main_v37
  let main_v6395 : IVec S32x1024 1 := noti main_v6394
  let main_v6396 : IVec S32x1024 1 := andi main_v6368 main_v6395
  let main_v6397 : IVec S32x1024 1 := ori main_v6396 main_v6391
  let main_v6398 : FVec F S32x1024 .f32 := addf main_v6392 main_v34
  let main_v6399 : FVec F S32x1024 .f32 := select main_v6397 main_v6398 main_v38
  let main_cst_886 : FVec F S_ .f32 := constant S_ .f32 0x7F800000#32
  let main_v6400 : FVec F S32 .f32 := (fun x v => Host.reduce FloatOps.minimumf x v reducesTo_S32x1024_S32_d1 h_S_) main_v6399 main_cst_886
  let main_v6401 : FVec F S32x1024 .f32 := broadcastInDim S32x1024 ![0] bcast_S32_S32x1024_0 main_v6400
  let main_v6402 : IVec S32x1024 1 := cmpf .oeq main_v6399 main_v6401
  let main_v6403 : IVec S32x1024 32 := (extui 32 · natLt_1_32) main_v6402
  let main_c_887 : IVec S_ 32 := constantI S_ 32 0#32
  let main_v6404 : IVec S32 32 := (fun x v => Host.reduce IntOp.addi x v reducesTo_S32x1024_S32_d1 h_S_) main_v6403 main_c_887
  let main_v6405 : IVec S32 1 := cmpi .eq main_v6404 main_v41
  fn_part304 (F := F) main_arg0 main_arg1 main_arg2 main_v0 main_v34 main_v37 main_v38 main_v39 main_v40 main_v41 main_v6377 main_v6392 main_v6393 main_v6397 main_v6402 main_v6403 main_v6405

def fn_part302 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v6335 : IVec S32x1024 1) (main_v6339 : IVec S32x1024 1) (main_v6344 : IVec S32x1024 1) (main_v6348 : IVec S32 1) (main_v6362 : IVec S32x1024 1) (main_v6363 : FVec F S32x1024 .f32) : IVec S32x32x32 1 :=
  let main_v6364 : IVec S32x1024 1 := ori main_v6335 main_v6344
  let main_v6365 : IVec S32x1024 1 := andi main_v6344 main_v37
  let main_v6366 : IVec S32x1024 1 := noti main_v6365
  let main_v6367 : IVec S32x1024 1 := andi main_v6339 main_v6366
  let main_v6368 : IVec S32x1024 1 := ori main_v6367 main_v6362
  let main_v6369 : FVec F S32x1024 .f32 := addf main_v6363 main_v34
  let main_v6370 : FVec F S32x1024 .f32 := select main_v6368 main_v6369 main_v38
  let main_cst_882 : FVec F S_ .f32 := constant S_ .f32 0x7F800000#32
  let main_v6371 : FVec F S32 .f32 := (fun x v => Host.reduce FloatOps.minimumf x v reducesTo_S32x1024_S32_d1 h_S_) main_v6370 main_cst_882
  let main_v6372 : FVec F S32x1024 .f32 := broadcastInDim S32x1024 ![0] bcast_S32_S32x1024_0 main_v6371
  let main_v6373 : IVec S32x1024 1 := cmpf .oeq main_v6370 main_v6372
  let main_v6374 : IVec S32x1024 32 := (extui 32 · natLt_1_32) main_v6373
  let main_c_883 : IVec S_ 32 := constantI S_ 32 0#32
  let main_v6375 : IVec S32 32 := (fun x v => Host.reduce IntOp.addi x v reducesTo_S32x1024_S32_d1 h_S_) main_v6374 main_c_883
  let main_v6376 : IVec S32 1 := cmpi .eq main_v6375 main_v41
  let main_v6377 : IVec S32 1 := andi main_v6348 main_v6376
  let main_v6378 : FVec F S32x1024 .f32 := addf main_v6363 main_v0
  let main_v6379 : FVec F S32x1024 .f32 := select main_v6373 main_v6378 main_v39
  let main_cst_884 : FVec F S_ .f32 := constant S_ .f32 0x00000000#32
  let main_v6380 : FVec F S32 .f32 := (fun x v => Host.reduceAdd x v reducesTo_S32x1024_S32_d1 h_S_) main_v6379 main_cst_884
  let main_v6381 : FVec F S32x1024 .f32 := broadcastInDim S32x1024 ![0] bcast_S32_S32x1024_0 main_v6380
  let main_v6382 : IVec S32x32x32 32 := shapeCast S32x32x32 main_v6374 shapeCasts_S32x1024_S32x32x32
  let main_c_885 : IVec S_ 32 := constantI S_ 32 2147483648#32
  let main_v6383 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v6382 main_c_885
  fn_part303 (F := F) main_arg0 main_arg1 main_arg2 main_v0 main_v34 main_v37 main_v38 main_v39 main_v40 main_v41 main_v6363 main_v6364 main_v6368 main_v6373 main_v6377 main_v6381 main_v6383

def fn_part301 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v6319 : IVec S32 1) (main_v6334 : FVec F S32x1024 .f32) (main_v6335 : IVec S32x1024 1) (main_v6339 : IVec S32x1024 1) (main_v6341 : FVec F S32x1024 .f32) (main_v6342 : FVec F S32 .f32) : IVec S32x32x32 1 :=
  let main_v6343 : FVec F S32x1024 .f32 := broadcastInDim S32x1024 ![0] bcast_S32_S32x1024_0 main_v6342
  let main_v6344 : IVec S32x1024 1 := cmpf .oeq main_v6341 main_v6343
  let main_v6345 : IVec S32x1024 32 := (extui 32 · natLt_1_32) main_v6344
  let main_c_879 : IVec S_ 32 := constantI S_ 32 0#32
  let main_v6346 : IVec S32 32 := (fun x v => Host.reduce IntOp.addi x v reducesTo_S32x1024_S32_d1 h_S_) main_v6345 main_c_879
  let main_v6347 : IVec S32 1 := cmpi .eq main_v6346 main_v41
  let main_v6348 : IVec S32 1 := andi main_v6319 main_v6347
  let main_v6349 : FVec F S32x1024 .f32 := addf main_v6334 main_v0
  let main_v6350 : FVec F S32x1024 .f32 := select main_v6344 main_v6349 main_v39
  let main_cst_880 : FVec F S_ .f32 := constant S_ .f32 0x00000000#32
  let main_v6351 : FVec F S32 .f32 := (fun x v => Host.reduceAdd x v reducesTo_S32x1024_S32_d1 h_S_) main_v6350 main_cst_880
  let main_v6352 : FVec F S32x1024 .f32 := broadcastInDim S32x1024 ![0] bcast_S32_S32x1024_0 main_v6351
  let main_v6353 : IVec S32x32x32 32 := shapeCast S32x32x32 main_v6345 shapeCasts_S32x1024_S32x32x32
  let main_c_881 : IVec S_ 32 := constantI S_ 32 2147483648#32
  let main_v6354 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v6353 main_c_881
  let main_v6355 : IVec S32x1024 32 := shapeCast S32x1024 main_v6354 shapeCasts_S32x32x32_S32x1024
  let main_v6356 : IVec S32x1024 1 := cmpi .sgt main_v6355 main_v40
  let main_v6357 : IVec S32x1024 1 := ori main_v6339 main_v6335
  let main_v6358 : IVec S32x1024 1 := noti main_v6357
  let main_v6359 : IVec S32x1024 1 := cmpf .ogt main_v6334 main_v6352
  let main_v6360 : IVec S32x1024 1 := andi main_v6339 main_v6359
  let main_v6361 : IVec S32x1024 1 := ori main_v6358 main_v6360
  let main_v6362 : IVec S32x1024 1 := andi main_v6356 main_v6361
  let main_v6363 : FVec F S32x1024 .f32 := select main_v6362 main_v6352 main_v6334
  fn_part302 (F := F) main_arg0 main_arg1 main_arg2 main_v0 main_v34 main_v37 main_v38 main_v39 main_v40 main_v41 main_v6335 main_v6339 main_v6344 main_v6348 main_v6362 main_v6363

def fn_part300 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v6305 : FVec F S32x1024 .f32) (main_v6306 : IVec S32x1024 1) (main_v6310 : IVec S32x1024 1) (main_v6315 : IVec S32x1024 1) (main_v6316 : IVec S32x1024 32) (main_v6319 : IVec S32 1) (main_v6321 : FVec F S32x1024 .f32) : IVec S32x32x32 1 :=
  let main_cst_876 : FVec F S_ .f32 := constant S_ .f32 0x00000000#32
  let main_v6322 : FVec F S32 .f32 := (fun x v => Host.reduceAdd x v reducesTo_S32x1024_S32_d1 h_S_) main_v6321 main_cst_876
  let main_v6323 : FVec F S32x1024 .f32 := broadcastInDim S32x1024 ![0] bcast_S32_S32x1024_0 main_v6322
  let main_v6324 : IVec S32x32x32 32 := shapeCast S32x32x32 main_v6316 shapeCasts_S32x1024_S32x32x32
  let main_c_877 : IVec S_ 32 := constantI S_ 32 2147483648#32
  let main_v6325 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v6324 main_c_877
  let main_v6326 : IVec S32x1024 32 := shapeCast S32x1024 main_v6325 shapeCasts_S32x32x32_S32x1024
  let main_v6327 : IVec S32x1024 1 := cmpi .sgt main_v6326 main_v40
  let main_v6328 : IVec S32x1024 1 := ori main_v6310 main_v6306
  let main_v6329 : IVec S32x1024 1 := noti main_v6328
  let main_v6330 : IVec S32x1024 1 := cmpf .ogt main_v6305 main_v6323
  let main_v6331 : IVec S32x1024 1 := andi main_v6310 main_v6330
  let main_v6332 : IVec S32x1024 1 := ori main_v6329 main_v6331
  let main_v6333 : IVec S32x1024 1 := andi main_v6327 main_v6332
  let main_v6334 : FVec F S32x1024 .f32 := select main_v6333 main_v6323 main_v6305
  let main_v6335 : IVec S32x1024 1 := ori main_v6306 main_v6315
  let main_v6336 : IVec S32x1024 1 := andi main_v6315 main_v37
  let main_v6337 : IVec S32x1024 1 := noti main_v6336
  let main_v6338 : IVec S32x1024 1 := andi main_v6310 main_v6337
  let main_v6339 : IVec S32x1024 1 := ori main_v6338 main_v6333
  let main_v6340 : FVec F S32x1024 .f32 := addf main_v6334 main_v34
  let main_v6341 : FVec F S32x1024 .f32 := select main_v6339 main_v6340 main_v38
  let main_cst_878 : FVec F S_ .f32 := constant S_ .f32 0x7F800000#32
  let main_v6342 : FVec F S32 .f32 := (fun x v => Host.reduce FloatOps.minimumf x v reducesTo_S32x1024_S32_d1 h_S_) main_v6341 main_cst_878
  fn_part301 (F := F) main_arg0 main_arg1 main_arg2 main_v0 main_v34 main_v37 main_v38 main_v39 main_v40 main_v41 main_v6319 main_v6334 main_v6335 main_v6339 main_v6341 main_v6342

def fn_part299 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v6276 : FVec F S32x1024 .f32) (main_v6277 : IVec S32x1024 1) (main_v6281 : IVec S32x1024 1) (main_v6286 : IVec S32x1024 1) (main_v6290 : IVec S32 1) (main_v6294 : FVec F S32x1024 .f32) (main_v6298 : IVec S32x1024 1) (main_v6299 : IVec S32x1024 1) : IVec S32x32x32 1 :=
  let main_v6300 : IVec S32x1024 1 := noti main_v6299
  let main_v6301 : IVec S32x1024 1 := cmpf .ogt main_v6276 main_v6294
  let main_v6302 : IVec S32x1024 1 := andi main_v6281 main_v6301
  let main_v6303 : IVec S32x1024 1 := ori main_v6300 main_v6302
  let main_v6304 : IVec S32x1024 1 := andi main_v6298 main_v6303
  let main_v6305 : FVec F S32x1024 .f32 := select main_v6304 main_v6294 main_v6276
  let main_v6306 : IVec S32x1024 1 := ori main_v6277 main_v6286
  let main_v6307 : IVec S32x1024 1 := andi main_v6286 main_v37
  let main_v6308 : IVec S32x1024 1 := noti main_v6307
  let main_v6309 : IVec S32x1024 1 := andi main_v6281 main_v6308
  let main_v6310 : IVec S32x1024 1 := ori main_v6309 main_v6304
  let main_v6311 : FVec F S32x1024 .f32 := addf main_v6305 main_v34
  let main_v6312 : FVec F S32x1024 .f32 := select main_v6310 main_v6311 main_v38
  let main_cst_874 : FVec F S_ .f32 := constant S_ .f32 0x7F800000#32
  let main_v6313 : FVec F S32 .f32 := (fun x v => Host.reduce FloatOps.minimumf x v reducesTo_S32x1024_S32_d1 h_S_) main_v6312 main_cst_874
  let main_v6314 : FVec F S32x1024 .f32 := broadcastInDim S32x1024 ![0] bcast_S32_S32x1024_0 main_v6313
  let main_v6315 : IVec S32x1024 1 := cmpf .oeq main_v6312 main_v6314
  let main_v6316 : IVec S32x1024 32 := (extui 32 · natLt_1_32) main_v6315
  let main_c_875 : IVec S_ 32 := constantI S_ 32 0#32
  let main_v6317 : IVec S32 32 := (fun x v => Host.reduce IntOp.addi x v reducesTo_S32x1024_S32_d1 h_S_) main_v6316 main_c_875
  let main_v6318 : IVec S32 1 := cmpi .eq main_v6317 main_v41
  let main_v6319 : IVec S32 1 := andi main_v6290 main_v6318
  let main_v6320 : FVec F S32x1024 .f32 := addf main_v6305 main_v0
  let main_v6321 : FVec F S32x1024 .f32 := select main_v6315 main_v6320 main_v39
  fn_part300 (F := F) main_arg0 main_arg1 main_arg2 main_v0 main_v34 main_v37 main_v38 main_v39 main_v40 main_v41 main_v6305 main_v6306 main_v6310 main_v6315 main_v6316 main_v6319 main_v6321

def fn_part298 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v6252 : IVec S32x1024 1) (main_v6261 : IVec S32 1) (main_v6275 : IVec S32x1024 1) (main_v6276 : FVec F S32x1024 .f32) (main_v6277 : IVec S32x1024 1) (main_v6279 : IVec S32x1024 1) : IVec S32x32x32 1 :=
  let main_v6280 : IVec S32x1024 1 := andi main_v6252 main_v6279
  let main_v6281 : IVec S32x1024 1 := ori main_v6280 main_v6275
  let main_v6282 : FVec F S32x1024 .f32 := addf main_v6276 main_v34
  let main_v6283 : FVec F S32x1024 .f32 := select main_v6281 main_v6282 main_v38
  let main_cst_870 : FVec F S_ .f32 := constant S_ .f32 0x7F800000#32
  let main_v6284 : FVec F S32 .f32 := (fun x v => Host.reduce FloatOps.minimumf x v reducesTo_S32x1024_S32_d1 h_S_) main_v6283 main_cst_870
  let main_v6285 : FVec F S32x1024 .f32 := broadcastInDim S32x1024 ![0] bcast_S32_S32x1024_0 main_v6284
  let main_v6286 : IVec S32x1024 1 := cmpf .oeq main_v6283 main_v6285
  let main_v6287 : IVec S32x1024 32 := (extui 32 · natLt_1_32) main_v6286
  let main_c_871 : IVec S_ 32 := constantI S_ 32 0#32
  let main_v6288 : IVec S32 32 := (fun x v => Host.reduce IntOp.addi x v reducesTo_S32x1024_S32_d1 h_S_) main_v6287 main_c_871
  let main_v6289 : IVec S32 1 := cmpi .eq main_v6288 main_v41
  let main_v6290 : IVec S32 1 := andi main_v6261 main_v6289
  let main_v6291 : FVec F S32x1024 .f32 := addf main_v6276 main_v0
  let main_v6292 : FVec F S32x1024 .f32 := select main_v6286 main_v6291 main_v39
  let main_cst_872 : FVec F S_ .f32 := constant S_ .f32 0x00000000#32
  let main_v6293 : FVec F S32 .f32 := (fun x v => Host.reduceAdd x v reducesTo_S32x1024_S32_d1 h_S_) main_v6292 main_cst_872
  let main_v6294 : FVec F S32x1024 .f32 := broadcastInDim S32x1024 ![0] bcast_S32_S32x1024_0 main_v6293
  let main_v6295 : IVec S32x32x32 32 := shapeCast S32x32x32 main_v6287 shapeCasts_S32x1024_S32x32x32
  let main_c_873 : IVec S_ 32 := constantI S_ 32 2147483648#32
  let main_v6296 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v6295 main_c_873
  let main_v6297 : IVec S32x1024 32 := shapeCast S32x1024 main_v6296 shapeCasts_S32x32x32_S32x1024
  let main_v6298 : IVec S32x1024 1 := cmpi .sgt main_v6297 main_v40
  let main_v6299 : IVec S32x1024 1 := ori main_v6281 main_v6277
  fn_part299 (F := F) main_arg0 main_arg1 main_arg2 main_v0 main_v34 main_v37 main_v38 main_v39 main_v40 main_v41 main_v6276 main_v6277 main_v6281 main_v6286 main_v6290 main_v6294 main_v6298 main_v6299

def fn_part297 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v6232 : IVec S32 1) (main_v6247 : FVec F S32x1024 .f32) (main_v6248 : IVec S32x1024 1) (main_v6252 : IVec S32x1024 1) (main_v6257 : IVec S32x1024 1) (main_v6258 : IVec S32x1024 32) : IVec S32x32x32 1 :=
  let main_c_867 : IVec S_ 32 := constantI S_ 32 0#32
  let main_v6259 : IVec S32 32 := (fun x v => Host.reduce IntOp.addi x v reducesTo_S32x1024_S32_d1 h_S_) main_v6258 main_c_867
  let main_v6260 : IVec S32 1 := cmpi .eq main_v6259 main_v41
  let main_v6261 : IVec S32 1 := andi main_v6232 main_v6260
  let main_v6262 : FVec F S32x1024 .f32 := addf main_v6247 main_v0
  let main_v6263 : FVec F S32x1024 .f32 := select main_v6257 main_v6262 main_v39
  let main_cst_868 : FVec F S_ .f32 := constant S_ .f32 0x00000000#32
  let main_v6264 : FVec F S32 .f32 := (fun x v => Host.reduceAdd x v reducesTo_S32x1024_S32_d1 h_S_) main_v6263 main_cst_868
  let main_v6265 : FVec F S32x1024 .f32 := broadcastInDim S32x1024 ![0] bcast_S32_S32x1024_0 main_v6264
  let main_v6266 : IVec S32x32x32 32 := shapeCast S32x32x32 main_v6258 shapeCasts_S32x1024_S32x32x32
  let main_c_869 : IVec S_ 32 := constantI S_ 32 2147483648#32
  let main_v6267 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v6266 main_c_869
  let main_v6268 : IVec S32x1024 32 := shapeCast S32x1024 main_v6267 shapeCasts_S32x32x32_S32x1024
  let main_v6269 : IVec S32x1024 1 := cmpi .sgt main_v6268 main_v40
  let main_v6270 : IVec S32x1024 1 := ori main_v6252 main_v6248
  let main_v6271 : IVec S32x1024 1 := noti main_v6270
  let main_v6272 : IVec S32x1024 1 := cmpf .ogt main_v6247 main_v6265
  let main_v6273 : IVec S32x1024 1 := andi main_v6252 main_v6272
  let main_v6274 : IVec S32x1024 1 := ori main_v6271 main_v6273
  let main_v6275 : IVec S32x1024 1 := andi main_v6269 main_v6274
  let main_v6276 : FVec F S32x1024 .f32 := select main_v6275 main_v6265 main_v6247
  let main_v6277 : IVec S32x1024 1 := ori main_v6248 main_v6257
  let main_v6278 : IVec S32x1024 1 := andi main_v6257 main_v37
  let main_v6279 : IVec S32x1024 1 := noti main_v6278
  fn_part298 (F := F) main_arg0 main_arg1 main_arg2 main_v0 main_v34 main_v37 main_v38 main_v39 main_v40 main_v41 main_v6252 main_v6261 main_v6275 main_v6276 main_v6277 main_v6279

def fn_part296 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v6218 : FVec F S32x1024 .f32) (main_v6219 : IVec S32x1024 1) (main_v6223 : IVec S32x1024 1) (main_v6228 : IVec S32x1024 1) (main_v6229 : IVec S32x1024 32) (main_v6232 : IVec S32 1) (main_v6236 : FVec F S32x1024 .f32) : IVec S32x32x32 1 :=
  let main_v6237 : IVec S32x32x32 32 := shapeCast S32x32x32 main_v6229 shapeCasts_S32x1024_S32x32x32
  let main_c_865 : IVec S_ 32 := constantI S_ 32 2147483648#32
  let main_v6238 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v6237 main_c_865
  let main_v6239 : IVec S32x1024 32 := shapeCast S32x1024 main_v6238 shapeCasts_S32x32x32_S32x1024
  let main_v6240 : IVec S32x1024 1 := cmpi .sgt main_v6239 main_v40
  let main_v6241 : IVec S32x1024 1 := ori main_v6223 main_v6219
  let main_v6242 : IVec S32x1024 1 := noti main_v6241
  let main_v6243 : IVec S32x1024 1 := cmpf .ogt main_v6218 main_v6236
  let main_v6244 : IVec S32x1024 1 := andi main_v6223 main_v6243
  let main_v6245 : IVec S32x1024 1 := ori main_v6242 main_v6244
  let main_v6246 : IVec S32x1024 1 := andi main_v6240 main_v6245
  let main_v6247 : FVec F S32x1024 .f32 := select main_v6246 main_v6236 main_v6218
  let main_v6248 : IVec S32x1024 1 := ori main_v6219 main_v6228
  let main_v6249 : IVec S32x1024 1 := andi main_v6228 main_v37
  let main_v6250 : IVec S32x1024 1 := noti main_v6249
  let main_v6251 : IVec S32x1024 1 := andi main_v6223 main_v6250
  let main_v6252 : IVec S32x1024 1 := ori main_v6251 main_v6246
  let main_v6253 : FVec F S32x1024 .f32 := addf main_v6247 main_v34
  let main_v6254 : FVec F S32x1024 .f32 := select main_v6252 main_v6253 main_v38
  let main_cst_866 : FVec F S_ .f32 := constant S_ .f32 0x7F800000#32
  let main_v6255 : FVec F S32 .f32 := (fun x v => Host.reduce FloatOps.minimumf x v reducesTo_S32x1024_S32_d1 h_S_) main_v6254 main_cst_866
  let main_v6256 : FVec F S32x1024 .f32 := broadcastInDim S32x1024 ![0] bcast_S32_S32x1024_0 main_v6255
  let main_v6257 : IVec S32x1024 1 := cmpf .oeq main_v6254 main_v6256
  let main_v6258 : IVec S32x1024 32 := (extui 32 · natLt_1_32) main_v6257
  fn_part297 (F := F) main_arg0 main_arg1 main_arg2 main_v0 main_v34 main_v37 main_v38 main_v39 main_v40 main_v41 main_v6232 main_v6247 main_v6248 main_v6252 main_v6257 main_v6258

def fn_part295 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v6189 : FVec F S32x1024 .f32) (main_v6190 : IVec S32x1024 1) (main_v6194 : IVec S32x1024 1) (main_v6199 : IVec S32x1024 1) (main_v6203 : IVec S32 1) (main_v6207 : FVec F S32x1024 .f32) (main_v6211 : IVec S32x1024 1) (main_v6213 : IVec S32x1024 1) (main_v6215 : IVec S32x1024 1) : IVec S32x32x32 1 :=
  let main_v6216 : IVec S32x1024 1 := ori main_v6213 main_v6215
  let main_v6217 : IVec S32x1024 1 := andi main_v6211 main_v6216
  let main_v6218 : FVec F S32x1024 .f32 := select main_v6217 main_v6207 main_v6189
  let main_v6219 : IVec S32x1024 1 := ori main_v6190 main_v6199
  let main_v6220 : IVec S32x1024 1 := andi main_v6199 main_v37
  let main_v6221 : IVec S32x1024 1 := noti main_v6220
  let main_v6222 : IVec S32x1024 1 := andi main_v6194 main_v6221
  let main_v6223 : IVec S32x1024 1 := ori main_v6222 main_v6217
  let main_v6224 : FVec F S32x1024 .f32 := addf main_v6218 main_v34
  let main_v6225 : FVec F S32x1024 .f32 := select main_v6223 main_v6224 main_v38
  let main_cst_862 : FVec F S_ .f32 := constant S_ .f32 0x7F800000#32
  let main_v6226 : FVec F S32 .f32 := (fun x v => Host.reduce FloatOps.minimumf x v reducesTo_S32x1024_S32_d1 h_S_) main_v6225 main_cst_862
  let main_v6227 : FVec F S32x1024 .f32 := broadcastInDim S32x1024 ![0] bcast_S32_S32x1024_0 main_v6226
  let main_v6228 : IVec S32x1024 1 := cmpf .oeq main_v6225 main_v6227
  let main_v6229 : IVec S32x1024 32 := (extui 32 · natLt_1_32) main_v6228
  let main_c_863 : IVec S_ 32 := constantI S_ 32 0#32
  let main_v6230 : IVec S32 32 := (fun x v => Host.reduce IntOp.addi x v reducesTo_S32x1024_S32_d1 h_S_) main_v6229 main_c_863
  let main_v6231 : IVec S32 1 := cmpi .eq main_v6230 main_v41
  let main_v6232 : IVec S32 1 := andi main_v6203 main_v6231
  let main_v6233 : FVec F S32x1024 .f32 := addf main_v6218 main_v0
  let main_v6234 : FVec F S32x1024 .f32 := select main_v6228 main_v6233 main_v39
  let main_cst_864 : FVec F S_ .f32 := constant S_ .f32 0x00000000#32
  let main_v6235 : FVec F S32 .f32 := (fun x v => Host.reduceAdd x v reducesTo_S32x1024_S32_d1 h_S_) main_v6234 main_cst_864
  let main_v6236 : FVec F S32x1024 .f32 := broadcastInDim S32x1024 ![0] bcast_S32_S32x1024_0 main_v6235
  fn_part296 (F := F) main_arg0 main_arg1 main_arg2 main_v0 main_v34 main_v37 main_v38 main_v39 main_v40 main_v41 main_v6218 main_v6219 main_v6223 main_v6228 main_v6229 main_v6232 main_v6236

def fn_part294 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v6174 : IVec S32 1) (main_v6189 : FVec F S32x1024 .f32) (main_v6190 : IVec S32x1024 1) (main_v6194 : IVec S32x1024 1) (main_v6195 : FVec F S32x1024 .f32) : IVec S32x32x32 1 :=
  let main_v6196 : FVec F S32x1024 .f32 := select main_v6194 main_v6195 main_v38
  let main_cst_858 : FVec F S_ .f32 := constant S_ .f32 0x7F800000#32
  let main_v6197 : FVec F S32 .f32 := (fun x v => Host.reduce FloatOps.minimumf x v reducesTo_S32x1024_S32_d1 h_S_) main_v6196 main_cst_858
  let main_v6198 : FVec F S32x1024 .f32 := broadcastInDim S32x1024 ![0] bcast_S32_S32x1024_0 main_v6197
  let main_v6199 : IVec S32x1024 1 := cmpf .oeq main_v6196 main_v6198
  let main_v6200 : IVec S32x1024 32 := (extui 32 · natLt_1_32) main_v6199
  let main_c_859 : IVec S_ 32 := constantI S_ 32 0#32
  let main_v6201 : IVec S32 32 := (fun x v => Host.reduce IntOp.addi x v reducesTo_S32x1024_S32_d1 h_S_) main_v6200 main_c_859
  let main_v6202 : IVec S32 1 := cmpi .eq main_v6201 main_v41
  let main_v6203 : IVec S32 1 := andi main_v6174 main_v6202
  let main_v6204 : FVec F S32x1024 .f32 := addf main_v6189 main_v0
  let main_v6205 : FVec F S32x1024 .f32 := select main_v6199 main_v6204 main_v39
  let main_cst_860 : FVec F S_ .f32 := constant S_ .f32 0x00000000#32
  let main_v6206 : FVec F S32 .f32 := (fun x v => Host.reduceAdd x v reducesTo_S32x1024_S32_d1 h_S_) main_v6205 main_cst_860
  let main_v6207 : FVec F S32x1024 .f32 := broadcastInDim S32x1024 ![0] bcast_S32_S32x1024_0 main_v6206
  let main_v6208 : IVec S32x32x32 32 := shapeCast S32x32x32 main_v6200 shapeCasts_S32x1024_S32x32x32
  let main_c_861 : IVec S_ 32 := constantI S_ 32 2147483648#32
  let main_v6209 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v6208 main_c_861
  let main_v6210 : IVec S32x1024 32 := shapeCast S32x1024 main_v6209 shapeCasts_S32x32x32_S32x1024
  let main_v6211 : IVec S32x1024 1 := cmpi .sgt main_v6210 main_v40
  let main_v6212 : IVec S32x1024 1 := ori main_v6194 main_v6190
  let main_v6213 : IVec S32x1024 1 := noti main_v6212
  let main_v6214 : IVec S32x1024 1 := cmpf .ogt main_v6189 main_v6207
  let main_v6215 : IVec S32x1024 1 := andi main_v6194 main_v6214
  fn_part295 (F := F) main_arg0 main_arg1 main_arg2 main_v0 main_v34 main_v37 main_v38 main_v39 main_v40 main_v41 main_v6189 main_v6190 main_v6194 main_v6199 main_v6203 main_v6207 main_v6211 main_v6213 main_v6215

def fn_part293 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v6145 : IVec S32 1) (main_v6160 : FVec F S32x1024 .f32) (main_v6161 : IVec S32x1024 1) (main_v6165 : IVec S32x1024 1) (main_v6170 : IVec S32x1024 1) (main_v6171 : IVec S32x1024 32) (main_v6173 : IVec S32 1) : IVec S32x32x32 1 :=
  let main_v6174 : IVec S32 1 := andi main_v6145 main_v6173
  let main_v6175 : FVec F S32x1024 .f32 := addf main_v6160 main_v0
  let main_v6176 : FVec F S32x1024 .f32 := select main_v6170 main_v6175 main_v39
  let main_cst_856 : FVec F S_ .f32 := constant S_ .f32 0x00000000#32
  let main_v6177 : FVec F S32 .f32 := (fun x v => Host.reduceAdd x v reducesTo_S32x1024_S32_d1 h_S_) main_v6176 main_cst_856
  let main_v6178 : FVec F S32x1024 .f32 := broadcastInDim S32x1024 ![0] bcast_S32_S32x1024_0 main_v6177
  let main_v6179 : IVec S32x32x32 32 := shapeCast S32x32x32 main_v6171 shapeCasts_S32x1024_S32x32x32
  let main_c_857 : IVec S_ 32 := constantI S_ 32 2147483648#32
  let main_v6180 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v6179 main_c_857
  let main_v6181 : IVec S32x1024 32 := shapeCast S32x1024 main_v6180 shapeCasts_S32x32x32_S32x1024
  let main_v6182 : IVec S32x1024 1 := cmpi .sgt main_v6181 main_v40
  let main_v6183 : IVec S32x1024 1 := ori main_v6165 main_v6161
  let main_v6184 : IVec S32x1024 1 := noti main_v6183
  let main_v6185 : IVec S32x1024 1 := cmpf .ogt main_v6160 main_v6178
  let main_v6186 : IVec S32x1024 1 := andi main_v6165 main_v6185
  let main_v6187 : IVec S32x1024 1 := ori main_v6184 main_v6186
  let main_v6188 : IVec S32x1024 1 := andi main_v6182 main_v6187
  let main_v6189 : FVec F S32x1024 .f32 := select main_v6188 main_v6178 main_v6160
  let main_v6190 : IVec S32x1024 1 := ori main_v6161 main_v6170
  let main_v6191 : IVec S32x1024 1 := andi main_v6170 main_v37
  let main_v6192 : IVec S32x1024 1 := noti main_v6191
  let main_v6193 : IVec S32x1024 1 := andi main_v6165 main_v6192
  let main_v6194 : IVec S32x1024 1 := ori main_v6193 main_v6188
  let main_v6195 : FVec F S32x1024 .f32 := addf main_v6189 main_v34
  fn_part294 (F := F) main_arg0 main_arg1 main_arg2 main_v0 main_v34 main_v37 main_v38 main_v39 main_v40 main_v41 main_v6174 main_v6189 main_v6190 main_v6194 main_v6195

def fn_part292 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v6131 : FVec F S32x1024 .f32) (main_v6132 : IVec S32x1024 1) (main_v6136 : IVec S32x1024 1) (main_v6141 : IVec S32x1024 1) (main_v6145 : IVec S32 1) (main_v6149 : FVec F S32x1024 .f32) (main_v6151 : IVec S32x32x32 32) : IVec S32x32x32 1 :=
  let main_v6152 : IVec S32x1024 32 := shapeCast S32x1024 main_v6151 shapeCasts_S32x32x32_S32x1024
  let main_v6153 : IVec S32x1024 1 := cmpi .sgt main_v6152 main_v40
  let main_v6154 : IVec S32x1024 1 := ori main_v6136 main_v6132
  let main_v6155 : IVec S32x1024 1 := noti main_v6154
  let main_v6156 : IVec S32x1024 1 := cmpf .ogt main_v6131 main_v6149
  let main_v6157 : IVec S32x1024 1 := andi main_v6136 main_v6156
  let main_v6158 : IVec S32x1024 1 := ori main_v6155 main_v6157
  let main_v6159 : IVec S32x1024 1 := andi main_v6153 main_v6158
  let main_v6160 : FVec F S32x1024 .f32 := select main_v6159 main_v6149 main_v6131
  let main_v6161 : IVec S32x1024 1 := ori main_v6132 main_v6141
  let main_v6162 : IVec S32x1024 1 := andi main_v6141 main_v37
  let main_v6163 : IVec S32x1024 1 := noti main_v6162
  let main_v6164 : IVec S32x1024 1 := andi main_v6136 main_v6163
  let main_v6165 : IVec S32x1024 1 := ori main_v6164 main_v6159
  let main_v6166 : FVec F S32x1024 .f32 := addf main_v6160 main_v34
  let main_v6167 : FVec F S32x1024 .f32 := select main_v6165 main_v6166 main_v38
  let main_cst_854 : FVec F S_ .f32 := constant S_ .f32 0x7F800000#32
  let main_v6168 : FVec F S32 .f32 := (fun x v => Host.reduce FloatOps.minimumf x v reducesTo_S32x1024_S32_d1 h_S_) main_v6167 main_cst_854
  let main_v6169 : FVec F S32x1024 .f32 := broadcastInDim S32x1024 ![0] bcast_S32_S32x1024_0 main_v6168
  let main_v6170 : IVec S32x1024 1 := cmpf .oeq main_v6167 main_v6169
  let main_v6171 : IVec S32x1024 32 := (extui 32 · natLt_1_32) main_v6170
  let main_c_855 : IVec S_ 32 := constantI S_ 32 0#32
  let main_v6172 : IVec S32 32 := (fun x v => Host.reduce IntOp.addi x v reducesTo_S32x1024_S32_d1 h_S_) main_v6171 main_c_855
  let main_v6173 : IVec S32 1 := cmpi .eq main_v6172 main_v41
  fn_part293 (F := F) main_arg0 main_arg1 main_arg2 main_v0 main_v34 main_v37 main_v38 main_v39 main_v40 main_v41 main_v6145 main_v6160 main_v6161 main_v6165 main_v6170 main_v6171 main_v6173

def fn_part291 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v6103 : IVec S32x1024 1) (main_v6107 : IVec S32x1024 1) (main_v6112 : IVec S32x1024 1) (main_v6116 : IVec S32 1) (main_v6130 : IVec S32x1024 1) (main_v6131 : FVec F S32x1024 .f32) : IVec S32x32x32 1 :=
  let main_v6132 : IVec S32x1024 1 := ori main_v6103 main_v6112
  let main_v6133 : IVec S32x1024 1 := andi main_v6112 main_v37
  let main_v6134 : IVec S32x1024 1 := noti main_v6133
  let main_v6135 : IVec S32x1024 1 := andi main_v6107 main_v6134
  let main_v6136 : IVec S32x1024 1 := ori main_v6135 main_v6130
  let main_v6137 : FVec F S32x1024 .f32 := addf main_v6131 main_v34
  let main_v6138 : FVec F S32x1024 .f32 := select main_v6136 main_v6137 main_v38
  let main_cst_850 : FVec F S_ .f32 := constant S_ .f32 0x7F800000#32
  let main_v6139 : FVec F S32 .f32 := (fun x v => Host.reduce FloatOps.minimumf x v reducesTo_S32x1024_S32_d1 h_S_) main_v6138 main_cst_850
  let main_v6140 : FVec F S32x1024 .f32 := broadcastInDim S32x1024 ![0] bcast_S32_S32x1024_0 main_v6139
  let main_v6141 : IVec S32x1024 1 := cmpf .oeq main_v6138 main_v6140
  let main_v6142 : IVec S32x1024 32 := (extui 32 · natLt_1_32) main_v6141
  let main_c_851 : IVec S_ 32 := constantI S_ 32 0#32
  let main_v6143 : IVec S32 32 := (fun x v => Host.reduce IntOp.addi x v reducesTo_S32x1024_S32_d1 h_S_) main_v6142 main_c_851
  let main_v6144 : IVec S32 1 := cmpi .eq main_v6143 main_v41
  let main_v6145 : IVec S32 1 := andi main_v6116 main_v6144
  let main_v6146 : FVec F S32x1024 .f32 := addf main_v6131 main_v0
  let main_v6147 : FVec F S32x1024 .f32 := select main_v6141 main_v6146 main_v39
  let main_cst_852 : FVec F S_ .f32 := constant S_ .f32 0x00000000#32
  let main_v6148 : FVec F S32 .f32 := (fun x v => Host.reduceAdd x v reducesTo_S32x1024_S32_d1 h_S_) main_v6147 main_cst_852
  let main_v6149 : FVec F S32x1024 .f32 := broadcastInDim S32x1024 ![0] bcast_S32_S32x1024_0 main_v6148
  let main_v6150 : IVec S32x32x32 32 := shapeCast S32x32x32 main_v6142 shapeCasts_S32x1024_S32x32x32
  let main_c_853 : IVec S_ 32 := constantI S_ 32 2147483648#32
  let main_v6151 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v6150 main_c_853
  fn_part292 (F := F) main_arg0 main_arg1 main_arg2 main_v0 main_v34 main_v37 main_v38 main_v39 main_v40 main_v41 main_v6131 main_v6132 main_v6136 main_v6141 main_v6145 main_v6149 main_v6151

def fn_part290 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v6087 : IVec S32 1) (main_v6102 : FVec F S32x1024 .f32) (main_v6103 : IVec S32x1024 1) (main_v6107 : IVec S32x1024 1) (main_v6109 : FVec F S32x1024 .f32) (main_v6110 : FVec F S32 .f32) : IVec S32x32x32 1 :=
  let main_v6111 : FVec F S32x1024 .f32 := broadcastInDim S32x1024 ![0] bcast_S32_S32x1024_0 main_v6110
  let main_v6112 : IVec S32x1024 1 := cmpf .oeq main_v6109 main_v6111
  let main_v6113 : IVec S32x1024 32 := (extui 32 · natLt_1_32) main_v6112
  let main_c_847 : IVec S_ 32 := constantI S_ 32 0#32
  let main_v6114 : IVec S32 32 := (fun x v => Host.reduce IntOp.addi x v reducesTo_S32x1024_S32_d1 h_S_) main_v6113 main_c_847
  let main_v6115 : IVec S32 1 := cmpi .eq main_v6114 main_v41
  let main_v6116 : IVec S32 1 := andi main_v6087 main_v6115
  let main_v6117 : FVec F S32x1024 .f32 := addf main_v6102 main_v0
  let main_v6118 : FVec F S32x1024 .f32 := select main_v6112 main_v6117 main_v39
  let main_cst_848 : FVec F S_ .f32 := constant S_ .f32 0x00000000#32
  let main_v6119 : FVec F S32 .f32 := (fun x v => Host.reduceAdd x v reducesTo_S32x1024_S32_d1 h_S_) main_v6118 main_cst_848
  let main_v6120 : FVec F S32x1024 .f32 := broadcastInDim S32x1024 ![0] bcast_S32_S32x1024_0 main_v6119
  let main_v6121 : IVec S32x32x32 32 := shapeCast S32x32x32 main_v6113 shapeCasts_S32x1024_S32x32x32
  let main_c_849 : IVec S_ 32 := constantI S_ 32 2147483648#32
  let main_v6122 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v6121 main_c_849
  let main_v6123 : IVec S32x1024 32 := shapeCast S32x1024 main_v6122 shapeCasts_S32x32x32_S32x1024
  let main_v6124 : IVec S32x1024 1 := cmpi .sgt main_v6123 main_v40
  let main_v6125 : IVec S32x1024 1 := ori main_v6107 main_v6103
  let main_v6126 : IVec S32x1024 1 := noti main_v6125
  let main_v6127 : IVec S32x1024 1 := cmpf .ogt main_v6102 main_v6120
  let main_v6128 : IVec S32x1024 1 := andi main_v6107 main_v6127
  let main_v6129 : IVec S32x1024 1 := ori main_v6126 main_v6128
  let main_v6130 : IVec S32x1024 1 := andi main_v6124 main_v6129
  let main_v6131 : FVec F S32x1024 .f32 := select main_v6130 main_v6120 main_v6102
  fn_part291 (F := F) main_arg0 main_arg1 main_arg2 main_v0 main_v34 main_v37 main_v38 main_v39 main_v40 main_v41 main_v6103 main_v6107 main_v6112 main_v6116 main_v6130 main_v6131

def fn_part289 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v6073 : FVec F S32x1024 .f32) (main_v6074 : IVec S32x1024 1) (main_v6078 : IVec S32x1024 1) (main_v6083 : IVec S32x1024 1) (main_v6084 : IVec S32x1024 32) (main_v6087 : IVec S32 1) (main_v6089 : FVec F S32x1024 .f32) : IVec S32x32x32 1 :=
  let main_cst_844 : FVec F S_ .f32 := constant S_ .f32 0x00000000#32
  let main_v6090 : FVec F S32 .f32 := (fun x v => Host.reduceAdd x v reducesTo_S32x1024_S32_d1 h_S_) main_v6089 main_cst_844
  let main_v6091 : FVec F S32x1024 .f32 := broadcastInDim S32x1024 ![0] bcast_S32_S32x1024_0 main_v6090
  let main_v6092 : IVec S32x32x32 32 := shapeCast S32x32x32 main_v6084 shapeCasts_S32x1024_S32x32x32
  let main_c_845 : IVec S_ 32 := constantI S_ 32 2147483648#32
  let main_v6093 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v6092 main_c_845
  let main_v6094 : IVec S32x1024 32 := shapeCast S32x1024 main_v6093 shapeCasts_S32x32x32_S32x1024
  let main_v6095 : IVec S32x1024 1 := cmpi .sgt main_v6094 main_v40
  let main_v6096 : IVec S32x1024 1 := ori main_v6078 main_v6074
  let main_v6097 : IVec S32x1024 1 := noti main_v6096
  let main_v6098 : IVec S32x1024 1 := cmpf .ogt main_v6073 main_v6091
  let main_v6099 : IVec S32x1024 1 := andi main_v6078 main_v6098
  let main_v6100 : IVec S32x1024 1 := ori main_v6097 main_v6099
  let main_v6101 : IVec S32x1024 1 := andi main_v6095 main_v6100
  let main_v6102 : FVec F S32x1024 .f32 := select main_v6101 main_v6091 main_v6073
  let main_v6103 : IVec S32x1024 1 := ori main_v6074 main_v6083
  let main_v6104 : IVec S32x1024 1 := andi main_v6083 main_v37
  let main_v6105 : IVec S32x1024 1 := noti main_v6104
  let main_v6106 : IVec S32x1024 1 := andi main_v6078 main_v6105
  let main_v6107 : IVec S32x1024 1 := ori main_v6106 main_v6101
  let main_v6108 : FVec F S32x1024 .f32 := addf main_v6102 main_v34
  let main_v6109 : FVec F S32x1024 .f32 := select main_v6107 main_v6108 main_v38
  let main_cst_846 : FVec F S_ .f32 := constant S_ .f32 0x7F800000#32
  let main_v6110 : FVec F S32 .f32 := (fun x v => Host.reduce FloatOps.minimumf x v reducesTo_S32x1024_S32_d1 h_S_) main_v6109 main_cst_846
  fn_part290 (F := F) main_arg0 main_arg1 main_arg2 main_v0 main_v34 main_v37 main_v38 main_v39 main_v40 main_v41 main_v6087 main_v6102 main_v6103 main_v6107 main_v6109 main_v6110

def fn_part288 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v6044 : FVec F S32x1024 .f32) (main_v6045 : IVec S32x1024 1) (main_v6049 : IVec S32x1024 1) (main_v6054 : IVec S32x1024 1) (main_v6058 : IVec S32 1) (main_v6062 : FVec F S32x1024 .f32) (main_v6066 : IVec S32x1024 1) (main_v6067 : IVec S32x1024 1) : IVec S32x32x32 1 :=
  let main_v6068 : IVec S32x1024 1 := noti main_v6067
  let main_v6069 : IVec S32x1024 1 := cmpf .ogt main_v6044 main_v6062
  let main_v6070 : IVec S32x1024 1 := andi main_v6049 main_v6069
  let main_v6071 : IVec S32x1024 1 := ori main_v6068 main_v6070
  let main_v6072 : IVec S32x1024 1 := andi main_v6066 main_v6071
  let main_v6073 : FVec F S32x1024 .f32 := select main_v6072 main_v6062 main_v6044
  let main_v6074 : IVec S32x1024 1 := ori main_v6045 main_v6054
  let main_v6075 : IVec S32x1024 1 := andi main_v6054 main_v37
  let main_v6076 : IVec S32x1024 1 := noti main_v6075
  let main_v6077 : IVec S32x1024 1 := andi main_v6049 main_v6076
  let main_v6078 : IVec S32x1024 1 := ori main_v6077 main_v6072
  let main_v6079 : FVec F S32x1024 .f32 := addf main_v6073 main_v34
  let main_v6080 : FVec F S32x1024 .f32 := select main_v6078 main_v6079 main_v38
  let main_cst_842 : FVec F S_ .f32 := constant S_ .f32 0x7F800000#32
  let main_v6081 : FVec F S32 .f32 := (fun x v => Host.reduce FloatOps.minimumf x v reducesTo_S32x1024_S32_d1 h_S_) main_v6080 main_cst_842
  let main_v6082 : FVec F S32x1024 .f32 := broadcastInDim S32x1024 ![0] bcast_S32_S32x1024_0 main_v6081
  let main_v6083 : IVec S32x1024 1 := cmpf .oeq main_v6080 main_v6082
  let main_v6084 : IVec S32x1024 32 := (extui 32 · natLt_1_32) main_v6083
  let main_c_843 : IVec S_ 32 := constantI S_ 32 0#32
  let main_v6085 : IVec S32 32 := (fun x v => Host.reduce IntOp.addi x v reducesTo_S32x1024_S32_d1 h_S_) main_v6084 main_c_843
  let main_v6086 : IVec S32 1 := cmpi .eq main_v6085 main_v41
  let main_v6087 : IVec S32 1 := andi main_v6058 main_v6086
  let main_v6088 : FVec F S32x1024 .f32 := addf main_v6073 main_v0
  let main_v6089 : FVec F S32x1024 .f32 := select main_v6083 main_v6088 main_v39
  fn_part289 (F := F) main_arg0 main_arg1 main_arg2 main_v0 main_v34 main_v37 main_v38 main_v39 main_v40 main_v41 main_v6073 main_v6074 main_v6078 main_v6083 main_v6084 main_v6087 main_v6089

def fn_part287 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v6020 : IVec S32x1024 1) (main_v6029 : IVec S32 1) (main_v6043 : IVec S32x1024 1) (main_v6044 : FVec F S32x1024 .f32) (main_v6045 : IVec S32x1024 1) (main_v6047 : IVec S32x1024 1) : IVec S32x32x32 1 :=
  let main_v6048 : IVec S32x1024 1 := andi main_v6020 main_v6047
  let main_v6049 : IVec S32x1024 1 := ori main_v6048 main_v6043
  let main_v6050 : FVec F S32x1024 .f32 := addf main_v6044 main_v34
  let main_v6051 : FVec F S32x1024 .f32 := select main_v6049 main_v6050 main_v38
  let main_cst_838 : FVec F S_ .f32 := constant S_ .f32 0x7F800000#32
  let main_v6052 : FVec F S32 .f32 := (fun x v => Host.reduce FloatOps.minimumf x v reducesTo_S32x1024_S32_d1 h_S_) main_v6051 main_cst_838
  let main_v6053 : FVec F S32x1024 .f32 := broadcastInDim S32x1024 ![0] bcast_S32_S32x1024_0 main_v6052
  let main_v6054 : IVec S32x1024 1 := cmpf .oeq main_v6051 main_v6053
  let main_v6055 : IVec S32x1024 32 := (extui 32 · natLt_1_32) main_v6054
  let main_c_839 : IVec S_ 32 := constantI S_ 32 0#32
  let main_v6056 : IVec S32 32 := (fun x v => Host.reduce IntOp.addi x v reducesTo_S32x1024_S32_d1 h_S_) main_v6055 main_c_839
  let main_v6057 : IVec S32 1 := cmpi .eq main_v6056 main_v41
  let main_v6058 : IVec S32 1 := andi main_v6029 main_v6057
  let main_v6059 : FVec F S32x1024 .f32 := addf main_v6044 main_v0
  let main_v6060 : FVec F S32x1024 .f32 := select main_v6054 main_v6059 main_v39
  let main_cst_840 : FVec F S_ .f32 := constant S_ .f32 0x00000000#32
  let main_v6061 : FVec F S32 .f32 := (fun x v => Host.reduceAdd x v reducesTo_S32x1024_S32_d1 h_S_) main_v6060 main_cst_840
  let main_v6062 : FVec F S32x1024 .f32 := broadcastInDim S32x1024 ![0] bcast_S32_S32x1024_0 main_v6061
  let main_v6063 : IVec S32x32x32 32 := shapeCast S32x32x32 main_v6055 shapeCasts_S32x1024_S32x32x32
  let main_c_841 : IVec S_ 32 := constantI S_ 32 2147483648#32
  let main_v6064 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v6063 main_c_841
  let main_v6065 : IVec S32x1024 32 := shapeCast S32x1024 main_v6064 shapeCasts_S32x32x32_S32x1024
  let main_v6066 : IVec S32x1024 1 := cmpi .sgt main_v6065 main_v40
  let main_v6067 : IVec S32x1024 1 := ori main_v6049 main_v6045
  fn_part288 (F := F) main_arg0 main_arg1 main_arg2 main_v0 main_v34 main_v37 main_v38 main_v39 main_v40 main_v41 main_v6044 main_v6045 main_v6049 main_v6054 main_v6058 main_v6062 main_v6066 main_v6067

def fn_part286 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v6000 : IVec S32 1) (main_v6015 : FVec F S32x1024 .f32) (main_v6016 : IVec S32x1024 1) (main_v6020 : IVec S32x1024 1) (main_v6025 : IVec S32x1024 1) (main_v6026 : IVec S32x1024 32) : IVec S32x32x32 1 :=
  let main_c_835 : IVec S_ 32 := constantI S_ 32 0#32
  let main_v6027 : IVec S32 32 := (fun x v => Host.reduce IntOp.addi x v reducesTo_S32x1024_S32_d1 h_S_) main_v6026 main_c_835
  let main_v6028 : IVec S32 1 := cmpi .eq main_v6027 main_v41
  let main_v6029 : IVec S32 1 := andi main_v6000 main_v6028
  let main_v6030 : FVec F S32x1024 .f32 := addf main_v6015 main_v0
  let main_v6031 : FVec F S32x1024 .f32 := select main_v6025 main_v6030 main_v39
  let main_cst_836 : FVec F S_ .f32 := constant S_ .f32 0x00000000#32
  let main_v6032 : FVec F S32 .f32 := (fun x v => Host.reduceAdd x v reducesTo_S32x1024_S32_d1 h_S_) main_v6031 main_cst_836
  let main_v6033 : FVec F S32x1024 .f32 := broadcastInDim S32x1024 ![0] bcast_S32_S32x1024_0 main_v6032
  let main_v6034 : IVec S32x32x32 32 := shapeCast S32x32x32 main_v6026 shapeCasts_S32x1024_S32x32x32
  let main_c_837 : IVec S_ 32 := constantI S_ 32 2147483648#32
  let main_v6035 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v6034 main_c_837
  let main_v6036 : IVec S32x1024 32 := shapeCast S32x1024 main_v6035 shapeCasts_S32x32x32_S32x1024
  let main_v6037 : IVec S32x1024 1 := cmpi .sgt main_v6036 main_v40
  let main_v6038 : IVec S32x1024 1 := ori main_v6020 main_v6016
  let main_v6039 : IVec S32x1024 1 := noti main_v6038
  let main_v6040 : IVec S32x1024 1 := cmpf .ogt main_v6015 main_v6033
  let main_v6041 : IVec S32x1024 1 := andi main_v6020 main_v6040
  let main_v6042 : IVec S32x1024 1 := ori main_v6039 main_v6041
  let main_v6043 : IVec S32x1024 1 := andi main_v6037 main_v6042
  let main_v6044 : FVec F S32x1024 .f32 := select main_v6043 main_v6033 main_v6015
  let main_v6045 : IVec S32x1024 1 := ori main_v6016 main_v6025
  let main_v6046 : IVec S32x1024 1 := andi main_v6025 main_v37
  let main_v6047 : IVec S32x1024 1 := noti main_v6046
  fn_part287 (F := F) main_arg0 main_arg1 main_arg2 main_v0 main_v34 main_v37 main_v38 main_v39 main_v40 main_v41 main_v6020 main_v6029 main_v6043 main_v6044 main_v6045 main_v6047

def fn_part285 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v5986 : FVec F S32x1024 .f32) (main_v5987 : IVec S32x1024 1) (main_v5991 : IVec S32x1024 1) (main_v5996 : IVec S32x1024 1) (main_v5997 : IVec S32x1024 32) (main_v6000 : IVec S32 1) (main_v6004 : FVec F S32x1024 .f32) : IVec S32x32x32 1 :=
  let main_v6005 : IVec S32x32x32 32 := shapeCast S32x32x32 main_v5997 shapeCasts_S32x1024_S32x32x32
  let main_c_833 : IVec S_ 32 := constantI S_ 32 2147483648#32
  let main_v6006 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v6005 main_c_833
  let main_v6007 : IVec S32x1024 32 := shapeCast S32x1024 main_v6006 shapeCasts_S32x32x32_S32x1024
  let main_v6008 : IVec S32x1024 1 := cmpi .sgt main_v6007 main_v40
  let main_v6009 : IVec S32x1024 1 := ori main_v5991 main_v5987
  let main_v6010 : IVec S32x1024 1 := noti main_v6009
  let main_v6011 : IVec S32x1024 1 := cmpf .ogt main_v5986 main_v6004
  let main_v6012 : IVec S32x1024 1 := andi main_v5991 main_v6011
  let main_v6013 : IVec S32x1024 1 := ori main_v6010 main_v6012
  let main_v6014 : IVec S32x1024 1 := andi main_v6008 main_v6013
  let main_v6015 : FVec F S32x1024 .f32 := select main_v6014 main_v6004 main_v5986
  let main_v6016 : IVec S32x1024 1 := ori main_v5987 main_v5996
  let main_v6017 : IVec S32x1024 1 := andi main_v5996 main_v37
  let main_v6018 : IVec S32x1024 1 := noti main_v6017
  let main_v6019 : IVec S32x1024 1 := andi main_v5991 main_v6018
  let main_v6020 : IVec S32x1024 1 := ori main_v6019 main_v6014
  let main_v6021 : FVec F S32x1024 .f32 := addf main_v6015 main_v34
  let main_v6022 : FVec F S32x1024 .f32 := select main_v6020 main_v6021 main_v38
  let main_cst_834 : FVec F S_ .f32 := constant S_ .f32 0x7F800000#32
  let main_v6023 : FVec F S32 .f32 := (fun x v => Host.reduce FloatOps.minimumf x v reducesTo_S32x1024_S32_d1 h_S_) main_v6022 main_cst_834
  let main_v6024 : FVec F S32x1024 .f32 := broadcastInDim S32x1024 ![0] bcast_S32_S32x1024_0 main_v6023
  let main_v6025 : IVec S32x1024 1 := cmpf .oeq main_v6022 main_v6024
  let main_v6026 : IVec S32x1024 32 := (extui 32 · natLt_1_32) main_v6025
  fn_part286 (F := F) main_arg0 main_arg1 main_arg2 main_v0 main_v34 main_v37 main_v38 main_v39 main_v40 main_v41 main_v6000 main_v6015 main_v6016 main_v6020 main_v6025 main_v6026

def fn_part284 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v5957 : FVec F S32x1024 .f32) (main_v5958 : IVec S32x1024 1) (main_v5962 : IVec S32x1024 1) (main_v5967 : IVec S32x1024 1) (main_v5971 : IVec S32 1) (main_v5975 : FVec F S32x1024 .f32) (main_v5979 : IVec S32x1024 1) (main_v5981 : IVec S32x1024 1) (main_v5983 : IVec S32x1024 1) : IVec S32x32x32 1 :=
  let main_v5984 : IVec S32x1024 1 := ori main_v5981 main_v5983
  let main_v5985 : IVec S32x1024 1 := andi main_v5979 main_v5984
  let main_v5986 : FVec F S32x1024 .f32 := select main_v5985 main_v5975 main_v5957
  let main_v5987 : IVec S32x1024 1 := ori main_v5958 main_v5967
  let main_v5988 : IVec S32x1024 1 := andi main_v5967 main_v37
  let main_v5989 : IVec S32x1024 1 := noti main_v5988
  let main_v5990 : IVec S32x1024 1 := andi main_v5962 main_v5989
  let main_v5991 : IVec S32x1024 1 := ori main_v5990 main_v5985
  let main_v5992 : FVec F S32x1024 .f32 := addf main_v5986 main_v34
  let main_v5993 : FVec F S32x1024 .f32 := select main_v5991 main_v5992 main_v38
  let main_cst_830 : FVec F S_ .f32 := constant S_ .f32 0x7F800000#32
  let main_v5994 : FVec F S32 .f32 := (fun x v => Host.reduce FloatOps.minimumf x v reducesTo_S32x1024_S32_d1 h_S_) main_v5993 main_cst_830
  let main_v5995 : FVec F S32x1024 .f32 := broadcastInDim S32x1024 ![0] bcast_S32_S32x1024_0 main_v5994
  let main_v5996 : IVec S32x1024 1 := cmpf .oeq main_v5993 main_v5995
  let main_v5997 : IVec S32x1024 32 := (extui 32 · natLt_1_32) main_v5996
  let main_c_831 : IVec S_ 32 := constantI S_ 32 0#32
  let main_v5998 : IVec S32 32 := (fun x v => Host.reduce IntOp.addi x v reducesTo_S32x1024_S32_d1 h_S_) main_v5997 main_c_831
  let main_v5999 : IVec S32 1 := cmpi .eq main_v5998 main_v41
  let main_v6000 : IVec S32 1 := andi main_v5971 main_v5999
  let main_v6001 : FVec F S32x1024 .f32 := addf main_v5986 main_v0
  let main_v6002 : FVec F S32x1024 .f32 := select main_v5996 main_v6001 main_v39
  let main_cst_832 : FVec F S_ .f32 := constant S_ .f32 0x00000000#32
  let main_v6003 : FVec F S32 .f32 := (fun x v => Host.reduceAdd x v reducesTo_S32x1024_S32_d1 h_S_) main_v6002 main_cst_832
  let main_v6004 : FVec F S32x1024 .f32 := broadcastInDim S32x1024 ![0] bcast_S32_S32x1024_0 main_v6003
  fn_part285 (F := F) main_arg0 main_arg1 main_arg2 main_v0 main_v34 main_v37 main_v38 main_v39 main_v40 main_v41 main_v5986 main_v5987 main_v5991 main_v5996 main_v5997 main_v6000 main_v6004

def fn_part283 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v5942 : IVec S32 1) (main_v5957 : FVec F S32x1024 .f32) (main_v5958 : IVec S32x1024 1) (main_v5962 : IVec S32x1024 1) (main_v5963 : FVec F S32x1024 .f32) : IVec S32x32x32 1 :=
  let main_v5964 : FVec F S32x1024 .f32 := select main_v5962 main_v5963 main_v38
  let main_cst_826 : FVec F S_ .f32 := constant S_ .f32 0x7F800000#32
  let main_v5965 : FVec F S32 .f32 := (fun x v => Host.reduce FloatOps.minimumf x v reducesTo_S32x1024_S32_d1 h_S_) main_v5964 main_cst_826
  let main_v5966 : FVec F S32x1024 .f32 := broadcastInDim S32x1024 ![0] bcast_S32_S32x1024_0 main_v5965
  let main_v5967 : IVec S32x1024 1 := cmpf .oeq main_v5964 main_v5966
  let main_v5968 : IVec S32x1024 32 := (extui 32 · natLt_1_32) main_v5967
  let main_c_827 : IVec S_ 32 := constantI S_ 32 0#32
  let main_v5969 : IVec S32 32 := (fun x v => Host.reduce IntOp.addi x v reducesTo_S32x1024_S32_d1 h_S_) main_v5968 main_c_827
  let main_v5970 : IVec S32 1 := cmpi .eq main_v5969 main_v41
  let main_v5971 : IVec S32 1 := andi main_v5942 main_v5970
  let main_v5972 : FVec F S32x1024 .f32 := addf main_v5957 main_v0
  let main_v5973 : FVec F S32x1024 .f32 := select main_v5967 main_v5972 main_v39
  let main_cst_828 : FVec F S_ .f32 := constant S_ .f32 0x00000000#32
  let main_v5974 : FVec F S32 .f32 := (fun x v => Host.reduceAdd x v reducesTo_S32x1024_S32_d1 h_S_) main_v5973 main_cst_828
  let main_v5975 : FVec F S32x1024 .f32 := broadcastInDim S32x1024 ![0] bcast_S32_S32x1024_0 main_v5974
  let main_v5976 : IVec S32x32x32 32 := shapeCast S32x32x32 main_v5968 shapeCasts_S32x1024_S32x32x32
  let main_c_829 : IVec S_ 32 := constantI S_ 32 2147483648#32
  let main_v5977 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v5976 main_c_829
  let main_v5978 : IVec S32x1024 32 := shapeCast S32x1024 main_v5977 shapeCasts_S32x32x32_S32x1024
  let main_v5979 : IVec S32x1024 1 := cmpi .sgt main_v5978 main_v40
  let main_v5980 : IVec S32x1024 1 := ori main_v5962 main_v5958
  let main_v5981 : IVec S32x1024 1 := noti main_v5980
  let main_v5982 : IVec S32x1024 1 := cmpf .ogt main_v5957 main_v5975
  let main_v5983 : IVec S32x1024 1 := andi main_v5962 main_v5982
  fn_part284 (F := F) main_arg0 main_arg1 main_arg2 main_v0 main_v34 main_v37 main_v38 main_v39 main_v40 main_v41 main_v5957 main_v5958 main_v5962 main_v5967 main_v5971 main_v5975 main_v5979 main_v5981 main_v5983

def fn_part282 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v5913 : IVec S32 1) (main_v5928 : FVec F S32x1024 .f32) (main_v5929 : IVec S32x1024 1) (main_v5933 : IVec S32x1024 1) (main_v5938 : IVec S32x1024 1) (main_v5939 : IVec S32x1024 32) (main_v5941 : IVec S32 1) : IVec S32x32x32 1 :=
  let main_v5942 : IVec S32 1 := andi main_v5913 main_v5941
  let main_v5943 : FVec F S32x1024 .f32 := addf main_v5928 main_v0
  let main_v5944 : FVec F S32x1024 .f32 := select main_v5938 main_v5943 main_v39
  let main_cst_824 : FVec F S_ .f32 := constant S_ .f32 0x00000000#32
  let main_v5945 : FVec F S32 .f32 := (fun x v => Host.reduceAdd x v reducesTo_S32x1024_S32_d1 h_S_) main_v5944 main_cst_824
  let main_v5946 : FVec F S32x1024 .f32 := broadcastInDim S32x1024 ![0] bcast_S32_S32x1024_0 main_v5945
  let main_v5947 : IVec S32x32x32 32 := shapeCast S32x32x32 main_v5939 shapeCasts_S32x1024_S32x32x32
  let main_c_825 : IVec S_ 32 := constantI S_ 32 2147483648#32
  let main_v5948 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v5947 main_c_825
  let main_v5949 : IVec S32x1024 32 := shapeCast S32x1024 main_v5948 shapeCasts_S32x32x32_S32x1024
  let main_v5950 : IVec S32x1024 1 := cmpi .sgt main_v5949 main_v40
  let main_v5951 : IVec S32x1024 1 := ori main_v5933 main_v5929
  let main_v5952 : IVec S32x1024 1 := noti main_v5951
  let main_v5953 : IVec S32x1024 1 := cmpf .ogt main_v5928 main_v5946
  let main_v5954 : IVec S32x1024 1 := andi main_v5933 main_v5953
  let main_v5955 : IVec S32x1024 1 := ori main_v5952 main_v5954
  let main_v5956 : IVec S32x1024 1 := andi main_v5950 main_v5955
  let main_v5957 : FVec F S32x1024 .f32 := select main_v5956 main_v5946 main_v5928
  let main_v5958 : IVec S32x1024 1 := ori main_v5929 main_v5938
  let main_v5959 : IVec S32x1024 1 := andi main_v5938 main_v37
  let main_v5960 : IVec S32x1024 1 := noti main_v5959
  let main_v5961 : IVec S32x1024 1 := andi main_v5933 main_v5960
  let main_v5962 : IVec S32x1024 1 := ori main_v5961 main_v5956
  let main_v5963 : FVec F S32x1024 .f32 := addf main_v5957 main_v34
  fn_part283 (F := F) main_arg0 main_arg1 main_arg2 main_v0 main_v34 main_v37 main_v38 main_v39 main_v40 main_v41 main_v5942 main_v5957 main_v5958 main_v5962 main_v5963

def fn_part281 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v5899 : FVec F S32x1024 .f32) (main_v5900 : IVec S32x1024 1) (main_v5904 : IVec S32x1024 1) (main_v5909 : IVec S32x1024 1) (main_v5913 : IVec S32 1) (main_v5917 : FVec F S32x1024 .f32) (main_v5919 : IVec S32x32x32 32) : IVec S32x32x32 1 :=
  let main_v5920 : IVec S32x1024 32 := shapeCast S32x1024 main_v5919 shapeCasts_S32x32x32_S32x1024
  let main_v5921 : IVec S32x1024 1 := cmpi .sgt main_v5920 main_v40
  let main_v5922 : IVec S32x1024 1 := ori main_v5904 main_v5900
  let main_v5923 : IVec S32x1024 1 := noti main_v5922
  let main_v5924 : IVec S32x1024 1 := cmpf .ogt main_v5899 main_v5917
  let main_v5925 : IVec S32x1024 1 := andi main_v5904 main_v5924
  let main_v5926 : IVec S32x1024 1 := ori main_v5923 main_v5925
  let main_v5927 : IVec S32x1024 1 := andi main_v5921 main_v5926
  let main_v5928 : FVec F S32x1024 .f32 := select main_v5927 main_v5917 main_v5899
  let main_v5929 : IVec S32x1024 1 := ori main_v5900 main_v5909
  let main_v5930 : IVec S32x1024 1 := andi main_v5909 main_v37
  let main_v5931 : IVec S32x1024 1 := noti main_v5930
  let main_v5932 : IVec S32x1024 1 := andi main_v5904 main_v5931
  let main_v5933 : IVec S32x1024 1 := ori main_v5932 main_v5927
  let main_v5934 : FVec F S32x1024 .f32 := addf main_v5928 main_v34
  let main_v5935 : FVec F S32x1024 .f32 := select main_v5933 main_v5934 main_v38
  let main_cst_822 : FVec F S_ .f32 := constant S_ .f32 0x7F800000#32
  let main_v5936 : FVec F S32 .f32 := (fun x v => Host.reduce FloatOps.minimumf x v reducesTo_S32x1024_S32_d1 h_S_) main_v5935 main_cst_822
  let main_v5937 : FVec F S32x1024 .f32 := broadcastInDim S32x1024 ![0] bcast_S32_S32x1024_0 main_v5936
  let main_v5938 : IVec S32x1024 1 := cmpf .oeq main_v5935 main_v5937
  let main_v5939 : IVec S32x1024 32 := (extui 32 · natLt_1_32) main_v5938
  let main_c_823 : IVec S_ 32 := constantI S_ 32 0#32
  let main_v5940 : IVec S32 32 := (fun x v => Host.reduce IntOp.addi x v reducesTo_S32x1024_S32_d1 h_S_) main_v5939 main_c_823
  let main_v5941 : IVec S32 1 := cmpi .eq main_v5940 main_v41
  fn_part282 (F := F) main_arg0 main_arg1 main_arg2 main_v0 main_v34 main_v37 main_v38 main_v39 main_v40 main_v41 main_v5913 main_v5928 main_v5929 main_v5933 main_v5938 main_v5939 main_v5941

def fn_part280 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v5871 : IVec S32x1024 1) (main_v5875 : IVec S32x1024 1) (main_v5880 : IVec S32x1024 1) (main_v5884 : IVec S32 1) (main_v5898 : IVec S32x1024 1) (main_v5899 : FVec F S32x1024 .f32) : IVec S32x32x32 1 :=
  let main_v5900 : IVec S32x1024 1 := ori main_v5871 main_v5880
  let main_v5901 : IVec S32x1024 1 := andi main_v5880 main_v37
  let main_v5902 : IVec S32x1024 1 := noti main_v5901
  let main_v5903 : IVec S32x1024 1 := andi main_v5875 main_v5902
  let main_v5904 : IVec S32x1024 1 := ori main_v5903 main_v5898
  let main_v5905 : FVec F S32x1024 .f32 := addf main_v5899 main_v34
  let main_v5906 : FVec F S32x1024 .f32 := select main_v5904 main_v5905 main_v38
  let main_cst_818 : FVec F S_ .f32 := constant S_ .f32 0x7F800000#32
  let main_v5907 : FVec F S32 .f32 := (fun x v => Host.reduce FloatOps.minimumf x v reducesTo_S32x1024_S32_d1 h_S_) main_v5906 main_cst_818
  let main_v5908 : FVec F S32x1024 .f32 := broadcastInDim S32x1024 ![0] bcast_S32_S32x1024_0 main_v5907
  let main_v5909 : IVec S32x1024 1 := cmpf .oeq main_v5906 main_v5908
  let main_v5910 : IVec S32x1024 32 := (extui 32 · natLt_1_32) main_v5909
  let main_c_819 : IVec S_ 32 := constantI S_ 32 0#32
  let main_v5911 : IVec S32 32 := (fun x v => Host.reduce IntOp.addi x v reducesTo_S32x1024_S32_d1 h_S_) main_v5910 main_c_819
  let main_v5912 : IVec S32 1 := cmpi .eq main_v5911 main_v41
  let main_v5913 : IVec S32 1 := andi main_v5884 main_v5912
  let main_v5914 : FVec F S32x1024 .f32 := addf main_v5899 main_v0
  let main_v5915 : FVec F S32x1024 .f32 := select main_v5909 main_v5914 main_v39
  let main_cst_820 : FVec F S_ .f32 := constant S_ .f32 0x00000000#32
  let main_v5916 : FVec F S32 .f32 := (fun x v => Host.reduceAdd x v reducesTo_S32x1024_S32_d1 h_S_) main_v5915 main_cst_820
  let main_v5917 : FVec F S32x1024 .f32 := broadcastInDim S32x1024 ![0] bcast_S32_S32x1024_0 main_v5916
  let main_v5918 : IVec S32x32x32 32 := shapeCast S32x32x32 main_v5910 shapeCasts_S32x1024_S32x32x32
  let main_c_821 : IVec S_ 32 := constantI S_ 32 2147483648#32
  let main_v5919 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v5918 main_c_821
  fn_part281 (F := F) main_arg0 main_arg1 main_arg2 main_v0 main_v34 main_v37 main_v38 main_v39 main_v40 main_v41 main_v5899 main_v5900 main_v5904 main_v5909 main_v5913 main_v5917 main_v5919

def fn_part279 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v5855 : IVec S32 1) (main_v5870 : FVec F S32x1024 .f32) (main_v5871 : IVec S32x1024 1) (main_v5875 : IVec S32x1024 1) (main_v5877 : FVec F S32x1024 .f32) (main_v5878 : FVec F S32 .f32) : IVec S32x32x32 1 :=
  let main_v5879 : FVec F S32x1024 .f32 := broadcastInDim S32x1024 ![0] bcast_S32_S32x1024_0 main_v5878
  let main_v5880 : IVec S32x1024 1 := cmpf .oeq main_v5877 main_v5879
  let main_v5881 : IVec S32x1024 32 := (extui 32 · natLt_1_32) main_v5880
  let main_c_815 : IVec S_ 32 := constantI S_ 32 0#32
  let main_v5882 : IVec S32 32 := (fun x v => Host.reduce IntOp.addi x v reducesTo_S32x1024_S32_d1 h_S_) main_v5881 main_c_815
  let main_v5883 : IVec S32 1 := cmpi .eq main_v5882 main_v41
  let main_v5884 : IVec S32 1 := andi main_v5855 main_v5883
  let main_v5885 : FVec F S32x1024 .f32 := addf main_v5870 main_v0
  let main_v5886 : FVec F S32x1024 .f32 := select main_v5880 main_v5885 main_v39
  let main_cst_816 : FVec F S_ .f32 := constant S_ .f32 0x00000000#32
  let main_v5887 : FVec F S32 .f32 := (fun x v => Host.reduceAdd x v reducesTo_S32x1024_S32_d1 h_S_) main_v5886 main_cst_816
  let main_v5888 : FVec F S32x1024 .f32 := broadcastInDim S32x1024 ![0] bcast_S32_S32x1024_0 main_v5887
  let main_v5889 : IVec S32x32x32 32 := shapeCast S32x32x32 main_v5881 shapeCasts_S32x1024_S32x32x32
  let main_c_817 : IVec S_ 32 := constantI S_ 32 2147483648#32
  let main_v5890 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v5889 main_c_817
  let main_v5891 : IVec S32x1024 32 := shapeCast S32x1024 main_v5890 shapeCasts_S32x32x32_S32x1024
  let main_v5892 : IVec S32x1024 1 := cmpi .sgt main_v5891 main_v40
  let main_v5893 : IVec S32x1024 1 := ori main_v5875 main_v5871
  let main_v5894 : IVec S32x1024 1 := noti main_v5893
  let main_v5895 : IVec S32x1024 1 := cmpf .ogt main_v5870 main_v5888
  let main_v5896 : IVec S32x1024 1 := andi main_v5875 main_v5895
  let main_v5897 : IVec S32x1024 1 := ori main_v5894 main_v5896
  let main_v5898 : IVec S32x1024 1 := andi main_v5892 main_v5897
  let main_v5899 : FVec F S32x1024 .f32 := select main_v5898 main_v5888 main_v5870
  fn_part280 (F := F) main_arg0 main_arg1 main_arg2 main_v0 main_v34 main_v37 main_v38 main_v39 main_v40 main_v41 main_v5871 main_v5875 main_v5880 main_v5884 main_v5898 main_v5899

def fn_part278 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v5841 : FVec F S32x1024 .f32) (main_v5842 : IVec S32x1024 1) (main_v5846 : IVec S32x1024 1) (main_v5851 : IVec S32x1024 1) (main_v5852 : IVec S32x1024 32) (main_v5855 : IVec S32 1) (main_v5857 : FVec F S32x1024 .f32) : IVec S32x32x32 1 :=
  let main_cst_812 : FVec F S_ .f32 := constant S_ .f32 0x00000000#32
  let main_v5858 : FVec F S32 .f32 := (fun x v => Host.reduceAdd x v reducesTo_S32x1024_S32_d1 h_S_) main_v5857 main_cst_812
  let main_v5859 : FVec F S32x1024 .f32 := broadcastInDim S32x1024 ![0] bcast_S32_S32x1024_0 main_v5858
  let main_v5860 : IVec S32x32x32 32 := shapeCast S32x32x32 main_v5852 shapeCasts_S32x1024_S32x32x32
  let main_c_813 : IVec S_ 32 := constantI S_ 32 2147483648#32
  let main_v5861 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v5860 main_c_813
  let main_v5862 : IVec S32x1024 32 := shapeCast S32x1024 main_v5861 shapeCasts_S32x32x32_S32x1024
  let main_v5863 : IVec S32x1024 1 := cmpi .sgt main_v5862 main_v40
  let main_v5864 : IVec S32x1024 1 := ori main_v5846 main_v5842
  let main_v5865 : IVec S32x1024 1 := noti main_v5864
  let main_v5866 : IVec S32x1024 1 := cmpf .ogt main_v5841 main_v5859
  let main_v5867 : IVec S32x1024 1 := andi main_v5846 main_v5866
  let main_v5868 : IVec S32x1024 1 := ori main_v5865 main_v5867
  let main_v5869 : IVec S32x1024 1 := andi main_v5863 main_v5868
  let main_v5870 : FVec F S32x1024 .f32 := select main_v5869 main_v5859 main_v5841
  let main_v5871 : IVec S32x1024 1 := ori main_v5842 main_v5851
  let main_v5872 : IVec S32x1024 1 := andi main_v5851 main_v37
  let main_v5873 : IVec S32x1024 1 := noti main_v5872
  let main_v5874 : IVec S32x1024 1 := andi main_v5846 main_v5873
  let main_v5875 : IVec S32x1024 1 := ori main_v5874 main_v5869
  let main_v5876 : FVec F S32x1024 .f32 := addf main_v5870 main_v34
  let main_v5877 : FVec F S32x1024 .f32 := select main_v5875 main_v5876 main_v38
  let main_cst_814 : FVec F S_ .f32 := constant S_ .f32 0x7F800000#32
  let main_v5878 : FVec F S32 .f32 := (fun x v => Host.reduce FloatOps.minimumf x v reducesTo_S32x1024_S32_d1 h_S_) main_v5877 main_cst_814
  fn_part279 (F := F) main_arg0 main_arg1 main_arg2 main_v0 main_v34 main_v37 main_v38 main_v39 main_v40 main_v41 main_v5855 main_v5870 main_v5871 main_v5875 main_v5877 main_v5878

def fn_part277 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v5812 : FVec F S32x1024 .f32) (main_v5813 : IVec S32x1024 1) (main_v5817 : IVec S32x1024 1) (main_v5822 : IVec S32x1024 1) (main_v5826 : IVec S32 1) (main_v5830 : FVec F S32x1024 .f32) (main_v5834 : IVec S32x1024 1) (main_v5835 : IVec S32x1024 1) : IVec S32x32x32 1 :=
  let main_v5836 : IVec S32x1024 1 := noti main_v5835
  let main_v5837 : IVec S32x1024 1 := cmpf .ogt main_v5812 main_v5830
  let main_v5838 : IVec S32x1024 1 := andi main_v5817 main_v5837
  let main_v5839 : IVec S32x1024 1 := ori main_v5836 main_v5838
  let main_v5840 : IVec S32x1024 1 := andi main_v5834 main_v5839
  let main_v5841 : FVec F S32x1024 .f32 := select main_v5840 main_v5830 main_v5812
  let main_v5842 : IVec S32x1024 1 := ori main_v5813 main_v5822
  let main_v5843 : IVec S32x1024 1 := andi main_v5822 main_v37
  let main_v5844 : IVec S32x1024 1 := noti main_v5843
  let main_v5845 : IVec S32x1024 1 := andi main_v5817 main_v5844
  let main_v5846 : IVec S32x1024 1 := ori main_v5845 main_v5840
  let main_v5847 : FVec F S32x1024 .f32 := addf main_v5841 main_v34
  let main_v5848 : FVec F S32x1024 .f32 := select main_v5846 main_v5847 main_v38
  let main_cst_810 : FVec F S_ .f32 := constant S_ .f32 0x7F800000#32
  let main_v5849 : FVec F S32 .f32 := (fun x v => Host.reduce FloatOps.minimumf x v reducesTo_S32x1024_S32_d1 h_S_) main_v5848 main_cst_810
  let main_v5850 : FVec F S32x1024 .f32 := broadcastInDim S32x1024 ![0] bcast_S32_S32x1024_0 main_v5849
  let main_v5851 : IVec S32x1024 1 := cmpf .oeq main_v5848 main_v5850
  let main_v5852 : IVec S32x1024 32 := (extui 32 · natLt_1_32) main_v5851
  let main_c_811 : IVec S_ 32 := constantI S_ 32 0#32
  let main_v5853 : IVec S32 32 := (fun x v => Host.reduce IntOp.addi x v reducesTo_S32x1024_S32_d1 h_S_) main_v5852 main_c_811
  let main_v5854 : IVec S32 1 := cmpi .eq main_v5853 main_v41
  let main_v5855 : IVec S32 1 := andi main_v5826 main_v5854
  let main_v5856 : FVec F S32x1024 .f32 := addf main_v5841 main_v0
  let main_v5857 : FVec F S32x1024 .f32 := select main_v5851 main_v5856 main_v39
  fn_part278 (F := F) main_arg0 main_arg1 main_arg2 main_v0 main_v34 main_v37 main_v38 main_v39 main_v40 main_v41 main_v5841 main_v5842 main_v5846 main_v5851 main_v5852 main_v5855 main_v5857

def fn_part276 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v5788 : IVec S32x1024 1) (main_v5797 : IVec S32 1) (main_v5811 : IVec S32x1024 1) (main_v5812 : FVec F S32x1024 .f32) (main_v5813 : IVec S32x1024 1) (main_v5815 : IVec S32x1024 1) : IVec S32x32x32 1 :=
  let main_v5816 : IVec S32x1024 1 := andi main_v5788 main_v5815
  let main_v5817 : IVec S32x1024 1 := ori main_v5816 main_v5811
  let main_v5818 : FVec F S32x1024 .f32 := addf main_v5812 main_v34
  let main_v5819 : FVec F S32x1024 .f32 := select main_v5817 main_v5818 main_v38
  let main_cst_806 : FVec F S_ .f32 := constant S_ .f32 0x7F800000#32
  let main_v5820 : FVec F S32 .f32 := (fun x v => Host.reduce FloatOps.minimumf x v reducesTo_S32x1024_S32_d1 h_S_) main_v5819 main_cst_806
  let main_v5821 : FVec F S32x1024 .f32 := broadcastInDim S32x1024 ![0] bcast_S32_S32x1024_0 main_v5820
  let main_v5822 : IVec S32x1024 1 := cmpf .oeq main_v5819 main_v5821
  let main_v5823 : IVec S32x1024 32 := (extui 32 · natLt_1_32) main_v5822
  let main_c_807 : IVec S_ 32 := constantI S_ 32 0#32
  let main_v5824 : IVec S32 32 := (fun x v => Host.reduce IntOp.addi x v reducesTo_S32x1024_S32_d1 h_S_) main_v5823 main_c_807
  let main_v5825 : IVec S32 1 := cmpi .eq main_v5824 main_v41
  let main_v5826 : IVec S32 1 := andi main_v5797 main_v5825
  let main_v5827 : FVec F S32x1024 .f32 := addf main_v5812 main_v0
  let main_v5828 : FVec F S32x1024 .f32 := select main_v5822 main_v5827 main_v39
  let main_cst_808 : FVec F S_ .f32 := constant S_ .f32 0x00000000#32
  let main_v5829 : FVec F S32 .f32 := (fun x v => Host.reduceAdd x v reducesTo_S32x1024_S32_d1 h_S_) main_v5828 main_cst_808
  let main_v5830 : FVec F S32x1024 .f32 := broadcastInDim S32x1024 ![0] bcast_S32_S32x1024_0 main_v5829
  let main_v5831 : IVec S32x32x32 32 := shapeCast S32x32x32 main_v5823 shapeCasts_S32x1024_S32x32x32
  let main_c_809 : IVec S_ 32 := constantI S_ 32 2147483648#32
  let main_v5832 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v5831 main_c_809
  let main_v5833 : IVec S32x1024 32 := shapeCast S32x1024 main_v5832 shapeCasts_S32x32x32_S32x1024
  let main_v5834 : IVec S32x1024 1 := cmpi .sgt main_v5833 main_v40
  let main_v5835 : IVec S32x1024 1 := ori main_v5817 main_v5813
  fn_part277 (F := F) main_arg0 main_arg1 main_arg2 main_v0 main_v34 main_v37 main_v38 main_v39 main_v40 main_v41 main_v5812 main_v5813 main_v5817 main_v5822 main_v5826 main_v5830 main_v5834 main_v5835

def fn_part275 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v5768 : IVec S32 1) (main_v5783 : FVec F S32x1024 .f32) (main_v5784 : IVec S32x1024 1) (main_v5788 : IVec S32x1024 1) (main_v5793 : IVec S32x1024 1) (main_v5794 : IVec S32x1024 32) : IVec S32x32x32 1 :=
  let main_c_803 : IVec S_ 32 := constantI S_ 32 0#32
  let main_v5795 : IVec S32 32 := (fun x v => Host.reduce IntOp.addi x v reducesTo_S32x1024_S32_d1 h_S_) main_v5794 main_c_803
  let main_v5796 : IVec S32 1 := cmpi .eq main_v5795 main_v41
  let main_v5797 : IVec S32 1 := andi main_v5768 main_v5796
  let main_v5798 : FVec F S32x1024 .f32 := addf main_v5783 main_v0
  let main_v5799 : FVec F S32x1024 .f32 := select main_v5793 main_v5798 main_v39
  let main_cst_804 : FVec F S_ .f32 := constant S_ .f32 0x00000000#32
  let main_v5800 : FVec F S32 .f32 := (fun x v => Host.reduceAdd x v reducesTo_S32x1024_S32_d1 h_S_) main_v5799 main_cst_804
  let main_v5801 : FVec F S32x1024 .f32 := broadcastInDim S32x1024 ![0] bcast_S32_S32x1024_0 main_v5800
  let main_v5802 : IVec S32x32x32 32 := shapeCast S32x32x32 main_v5794 shapeCasts_S32x1024_S32x32x32
  let main_c_805 : IVec S_ 32 := constantI S_ 32 2147483648#32
  let main_v5803 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v5802 main_c_805
  let main_v5804 : IVec S32x1024 32 := shapeCast S32x1024 main_v5803 shapeCasts_S32x32x32_S32x1024
  let main_v5805 : IVec S32x1024 1 := cmpi .sgt main_v5804 main_v40
  let main_v5806 : IVec S32x1024 1 := ori main_v5788 main_v5784
  let main_v5807 : IVec S32x1024 1 := noti main_v5806
  let main_v5808 : IVec S32x1024 1 := cmpf .ogt main_v5783 main_v5801
  let main_v5809 : IVec S32x1024 1 := andi main_v5788 main_v5808
  let main_v5810 : IVec S32x1024 1 := ori main_v5807 main_v5809
  let main_v5811 : IVec S32x1024 1 := andi main_v5805 main_v5810
  let main_v5812 : FVec F S32x1024 .f32 := select main_v5811 main_v5801 main_v5783
  let main_v5813 : IVec S32x1024 1 := ori main_v5784 main_v5793
  let main_v5814 : IVec S32x1024 1 := andi main_v5793 main_v37
  let main_v5815 : IVec S32x1024 1 := noti main_v5814
  fn_part276 (F := F) main_arg0 main_arg1 main_arg2 main_v0 main_v34 main_v37 main_v38 main_v39 main_v40 main_v41 main_v5788 main_v5797 main_v5811 main_v5812 main_v5813 main_v5815

def fn_part274 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v5754 : FVec F S32x1024 .f32) (main_v5755 : IVec S32x1024 1) (main_v5759 : IVec S32x1024 1) (main_v5764 : IVec S32x1024 1) (main_v5765 : IVec S32x1024 32) (main_v5768 : IVec S32 1) (main_v5772 : FVec F S32x1024 .f32) : IVec S32x32x32 1 :=
  let main_v5773 : IVec S32x32x32 32 := shapeCast S32x32x32 main_v5765 shapeCasts_S32x1024_S32x32x32
  let main_c_801 : IVec S_ 32 := constantI S_ 32 2147483648#32
  let main_v5774 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v5773 main_c_801
  let main_v5775 : IVec S32x1024 32 := shapeCast S32x1024 main_v5774 shapeCasts_S32x32x32_S32x1024
  let main_v5776 : IVec S32x1024 1 := cmpi .sgt main_v5775 main_v40
  let main_v5777 : IVec S32x1024 1 := ori main_v5759 main_v5755
  let main_v5778 : IVec S32x1024 1 := noti main_v5777
  let main_v5779 : IVec S32x1024 1 := cmpf .ogt main_v5754 main_v5772
  let main_v5780 : IVec S32x1024 1 := andi main_v5759 main_v5779
  let main_v5781 : IVec S32x1024 1 := ori main_v5778 main_v5780
  let main_v5782 : IVec S32x1024 1 := andi main_v5776 main_v5781
  let main_v5783 : FVec F S32x1024 .f32 := select main_v5782 main_v5772 main_v5754
  let main_v5784 : IVec S32x1024 1 := ori main_v5755 main_v5764
  let main_v5785 : IVec S32x1024 1 := andi main_v5764 main_v37
  let main_v5786 : IVec S32x1024 1 := noti main_v5785
  let main_v5787 : IVec S32x1024 1 := andi main_v5759 main_v5786
  let main_v5788 : IVec S32x1024 1 := ori main_v5787 main_v5782
  let main_v5789 : FVec F S32x1024 .f32 := addf main_v5783 main_v34
  let main_v5790 : FVec F S32x1024 .f32 := select main_v5788 main_v5789 main_v38
  let main_cst_802 : FVec F S_ .f32 := constant S_ .f32 0x7F800000#32
  let main_v5791 : FVec F S32 .f32 := (fun x v => Host.reduce FloatOps.minimumf x v reducesTo_S32x1024_S32_d1 h_S_) main_v5790 main_cst_802
  let main_v5792 : FVec F S32x1024 .f32 := broadcastInDim S32x1024 ![0] bcast_S32_S32x1024_0 main_v5791
  let main_v5793 : IVec S32x1024 1 := cmpf .oeq main_v5790 main_v5792
  let main_v5794 : IVec S32x1024 32 := (extui 32 · natLt_1_32) main_v5793
  fn_part275 (F := F) main_arg0 main_arg1 main_arg2 main_v0 main_v34 main_v37 main_v38 main_v39 main_v40 main_v41 main_v5768 main_v5783 main_v5784 main_v5788 main_v5793 main_v5794

def fn_part273 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v5725 : FVec F S32x1024 .f32) (main_v5726 : IVec S32x1024 1) (main_v5730 : IVec S32x1024 1) (main_v5735 : IVec S32x1024 1) (main_v5739 : IVec S32 1) (main_v5743 : FVec F S32x1024 .f32) (main_v5747 : IVec S32x1024 1) (main_v5749 : IVec S32x1024 1) (main_v5751 : IVec S32x1024 1) : IVec S32x32x32 1 :=
  let main_v5752 : IVec S32x1024 1 := ori main_v5749 main_v5751
  let main_v5753 : IVec S32x1024 1 := andi main_v5747 main_v5752
  let main_v5754 : FVec F S32x1024 .f32 := select main_v5753 main_v5743 main_v5725
  let main_v5755 : IVec S32x1024 1 := ori main_v5726 main_v5735
  let main_v5756 : IVec S32x1024 1 := andi main_v5735 main_v37
  let main_v5757 : IVec S32x1024 1 := noti main_v5756
  let main_v5758 : IVec S32x1024 1 := andi main_v5730 main_v5757
  let main_v5759 : IVec S32x1024 1 := ori main_v5758 main_v5753
  let main_v5760 : FVec F S32x1024 .f32 := addf main_v5754 main_v34
  let main_v5761 : FVec F S32x1024 .f32 := select main_v5759 main_v5760 main_v38
  let main_cst_798 : FVec F S_ .f32 := constant S_ .f32 0x7F800000#32
  let main_v5762 : FVec F S32 .f32 := (fun x v => Host.reduce FloatOps.minimumf x v reducesTo_S32x1024_S32_d1 h_S_) main_v5761 main_cst_798
  let main_v5763 : FVec F S32x1024 .f32 := broadcastInDim S32x1024 ![0] bcast_S32_S32x1024_0 main_v5762
  let main_v5764 : IVec S32x1024 1 := cmpf .oeq main_v5761 main_v5763
  let main_v5765 : IVec S32x1024 32 := (extui 32 · natLt_1_32) main_v5764
  let main_c_799 : IVec S_ 32 := constantI S_ 32 0#32
  let main_v5766 : IVec S32 32 := (fun x v => Host.reduce IntOp.addi x v reducesTo_S32x1024_S32_d1 h_S_) main_v5765 main_c_799
  let main_v5767 : IVec S32 1 := cmpi .eq main_v5766 main_v41
  let main_v5768 : IVec S32 1 := andi main_v5739 main_v5767
  let main_v5769 : FVec F S32x1024 .f32 := addf main_v5754 main_v0
  let main_v5770 : FVec F S32x1024 .f32 := select main_v5764 main_v5769 main_v39
  let main_cst_800 : FVec F S_ .f32 := constant S_ .f32 0x00000000#32
  let main_v5771 : FVec F S32 .f32 := (fun x v => Host.reduceAdd x v reducesTo_S32x1024_S32_d1 h_S_) main_v5770 main_cst_800
  let main_v5772 : FVec F S32x1024 .f32 := broadcastInDim S32x1024 ![0] bcast_S32_S32x1024_0 main_v5771
  fn_part274 (F := F) main_arg0 main_arg1 main_arg2 main_v0 main_v34 main_v37 main_v38 main_v39 main_v40 main_v41 main_v5754 main_v5755 main_v5759 main_v5764 main_v5765 main_v5768 main_v5772

def fn_part272 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v5710 : IVec S32 1) (main_v5725 : FVec F S32x1024 .f32) (main_v5726 : IVec S32x1024 1) (main_v5730 : IVec S32x1024 1) (main_v5731 : FVec F S32x1024 .f32) : IVec S32x32x32 1 :=
  let main_v5732 : FVec F S32x1024 .f32 := select main_v5730 main_v5731 main_v38
  let main_cst_794 : FVec F S_ .f32 := constant S_ .f32 0x7F800000#32
  let main_v5733 : FVec F S32 .f32 := (fun x v => Host.reduce FloatOps.minimumf x v reducesTo_S32x1024_S32_d1 h_S_) main_v5732 main_cst_794
  let main_v5734 : FVec F S32x1024 .f32 := broadcastInDim S32x1024 ![0] bcast_S32_S32x1024_0 main_v5733
  let main_v5735 : IVec S32x1024 1 := cmpf .oeq main_v5732 main_v5734
  let main_v5736 : IVec S32x1024 32 := (extui 32 · natLt_1_32) main_v5735
  let main_c_795 : IVec S_ 32 := constantI S_ 32 0#32
  let main_v5737 : IVec S32 32 := (fun x v => Host.reduce IntOp.addi x v reducesTo_S32x1024_S32_d1 h_S_) main_v5736 main_c_795
  let main_v5738 : IVec S32 1 := cmpi .eq main_v5737 main_v41
  let main_v5739 : IVec S32 1 := andi main_v5710 main_v5738
  let main_v5740 : FVec F S32x1024 .f32 := addf main_v5725 main_v0
  let main_v5741 : FVec F S32x1024 .f32 := select main_v5735 main_v5740 main_v39
  let main_cst_796 : FVec F S_ .f32 := constant S_ .f32 0x00000000#32
  let main_v5742 : FVec F S32 .f32 := (fun x v => Host.reduceAdd x v reducesTo_S32x1024_S32_d1 h_S_) main_v5741 main_cst_796
  let main_v5743 : FVec F S32x1024 .f32 := broadcastInDim S32x1024 ![0] bcast_S32_S32x1024_0 main_v5742
  let main_v5744 : IVec S32x32x32 32 := shapeCast S32x32x32 main_v5736 shapeCasts_S32x1024_S32x32x32
  let main_c_797 : IVec S_ 32 := constantI S_ 32 2147483648#32
  let main_v5745 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v5744 main_c_797
  let main_v5746 : IVec S32x1024 32 := shapeCast S32x1024 main_v5745 shapeCasts_S32x32x32_S32x1024
  let main_v5747 : IVec S32x1024 1 := cmpi .sgt main_v5746 main_v40
  let main_v5748 : IVec S32x1024 1 := ori main_v5730 main_v5726
  let main_v5749 : IVec S32x1024 1 := noti main_v5748
  let main_v5750 : IVec S32x1024 1 := cmpf .ogt main_v5725 main_v5743
  let main_v5751 : IVec S32x1024 1 := andi main_v5730 main_v5750
  fn_part273 (F := F) main_arg0 main_arg1 main_arg2 main_v0 main_v34 main_v37 main_v38 main_v39 main_v40 main_v41 main_v5725 main_v5726 main_v5730 main_v5735 main_v5739 main_v5743 main_v5747 main_v5749 main_v5751

def fn_part271 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v5681 : IVec S32 1) (main_v5696 : FVec F S32x1024 .f32) (main_v5697 : IVec S32x1024 1) (main_v5701 : IVec S32x1024 1) (main_v5706 : IVec S32x1024 1) (main_v5707 : IVec S32x1024 32) (main_v5709 : IVec S32 1) : IVec S32x32x32 1 :=
  let main_v5710 : IVec S32 1 := andi main_v5681 main_v5709
  let main_v5711 : FVec F S32x1024 .f32 := addf main_v5696 main_v0
  let main_v5712 : FVec F S32x1024 .f32 := select main_v5706 main_v5711 main_v39
  let main_cst_792 : FVec F S_ .f32 := constant S_ .f32 0x00000000#32
  let main_v5713 : FVec F S32 .f32 := (fun x v => Host.reduceAdd x v reducesTo_S32x1024_S32_d1 h_S_) main_v5712 main_cst_792
  let main_v5714 : FVec F S32x1024 .f32 := broadcastInDim S32x1024 ![0] bcast_S32_S32x1024_0 main_v5713
  let main_v5715 : IVec S32x32x32 32 := shapeCast S32x32x32 main_v5707 shapeCasts_S32x1024_S32x32x32
  let main_c_793 : IVec S_ 32 := constantI S_ 32 2147483648#32
  let main_v5716 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v5715 main_c_793
  let main_v5717 : IVec S32x1024 32 := shapeCast S32x1024 main_v5716 shapeCasts_S32x32x32_S32x1024
  let main_v5718 : IVec S32x1024 1 := cmpi .sgt main_v5717 main_v40
  let main_v5719 : IVec S32x1024 1 := ori main_v5701 main_v5697
  let main_v5720 : IVec S32x1024 1 := noti main_v5719
  let main_v5721 : IVec S32x1024 1 := cmpf .ogt main_v5696 main_v5714
  let main_v5722 : IVec S32x1024 1 := andi main_v5701 main_v5721
  let main_v5723 : IVec S32x1024 1 := ori main_v5720 main_v5722
  let main_v5724 : IVec S32x1024 1 := andi main_v5718 main_v5723
  let main_v5725 : FVec F S32x1024 .f32 := select main_v5724 main_v5714 main_v5696
  let main_v5726 : IVec S32x1024 1 := ori main_v5697 main_v5706
  let main_v5727 : IVec S32x1024 1 := andi main_v5706 main_v37
  let main_v5728 : IVec S32x1024 1 := noti main_v5727
  let main_v5729 : IVec S32x1024 1 := andi main_v5701 main_v5728
  let main_v5730 : IVec S32x1024 1 := ori main_v5729 main_v5724
  let main_v5731 : FVec F S32x1024 .f32 := addf main_v5725 main_v34
  fn_part272 (F := F) main_arg0 main_arg1 main_arg2 main_v0 main_v34 main_v37 main_v38 main_v39 main_v40 main_v41 main_v5710 main_v5725 main_v5726 main_v5730 main_v5731

def fn_part270 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v5667 : FVec F S32x1024 .f32) (main_v5668 : IVec S32x1024 1) (main_v5672 : IVec S32x1024 1) (main_v5677 : IVec S32x1024 1) (main_v5681 : IVec S32 1) (main_v5685 : FVec F S32x1024 .f32) (main_v5687 : IVec S32x32x32 32) : IVec S32x32x32 1 :=
  let main_v5688 : IVec S32x1024 32 := shapeCast S32x1024 main_v5687 shapeCasts_S32x32x32_S32x1024
  let main_v5689 : IVec S32x1024 1 := cmpi .sgt main_v5688 main_v40
  let main_v5690 : IVec S32x1024 1 := ori main_v5672 main_v5668
  let main_v5691 : IVec S32x1024 1 := noti main_v5690
  let main_v5692 : IVec S32x1024 1 := cmpf .ogt main_v5667 main_v5685
  let main_v5693 : IVec S32x1024 1 := andi main_v5672 main_v5692
  let main_v5694 : IVec S32x1024 1 := ori main_v5691 main_v5693
  let main_v5695 : IVec S32x1024 1 := andi main_v5689 main_v5694
  let main_v5696 : FVec F S32x1024 .f32 := select main_v5695 main_v5685 main_v5667
  let main_v5697 : IVec S32x1024 1 := ori main_v5668 main_v5677
  let main_v5698 : IVec S32x1024 1 := andi main_v5677 main_v37
  let main_v5699 : IVec S32x1024 1 := noti main_v5698
  let main_v5700 : IVec S32x1024 1 := andi main_v5672 main_v5699
  let main_v5701 : IVec S32x1024 1 := ori main_v5700 main_v5695
  let main_v5702 : FVec F S32x1024 .f32 := addf main_v5696 main_v34
  let main_v5703 : FVec F S32x1024 .f32 := select main_v5701 main_v5702 main_v38
  let main_cst_790 : FVec F S_ .f32 := constant S_ .f32 0x7F800000#32
  let main_v5704 : FVec F S32 .f32 := (fun x v => Host.reduce FloatOps.minimumf x v reducesTo_S32x1024_S32_d1 h_S_) main_v5703 main_cst_790
  let main_v5705 : FVec F S32x1024 .f32 := broadcastInDim S32x1024 ![0] bcast_S32_S32x1024_0 main_v5704
  let main_v5706 : IVec S32x1024 1 := cmpf .oeq main_v5703 main_v5705
  let main_v5707 : IVec S32x1024 32 := (extui 32 · natLt_1_32) main_v5706
  let main_c_791 : IVec S_ 32 := constantI S_ 32 0#32
  let main_v5708 : IVec S32 32 := (fun x v => Host.reduce IntOp.addi x v reducesTo_S32x1024_S32_d1 h_S_) main_v5707 main_c_791
  let main_v5709 : IVec S32 1 := cmpi .eq main_v5708 main_v41
  fn_part271 (F := F) main_arg0 main_arg1 main_arg2 main_v0 main_v34 main_v37 main_v38 main_v39 main_v40 main_v41 main_v5681 main_v5696 main_v5697 main_v5701 main_v5706 main_v5707 main_v5709

def fn_part269 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v5639 : IVec S32x1024 1) (main_v5643 : IVec S32x1024 1) (main_v5648 : IVec S32x1024 1) (main_v5652 : IVec S32 1) (main_v5666 : IVec S32x1024 1) (main_v5667 : FVec F S32x1024 .f32) : IVec S32x32x32 1 :=
  let main_v5668 : IVec S32x1024 1 := ori main_v5639 main_v5648
  let main_v5669 : IVec S32x1024 1 := andi main_v5648 main_v37
  let main_v5670 : IVec S32x1024 1 := noti main_v5669
  let main_v5671 : IVec S32x1024 1 := andi main_v5643 main_v5670
  let main_v5672 : IVec S32x1024 1 := ori main_v5671 main_v5666
  let main_v5673 : FVec F S32x1024 .f32 := addf main_v5667 main_v34
  let main_v5674 : FVec F S32x1024 .f32 := select main_v5672 main_v5673 main_v38
  let main_cst_786 : FVec F S_ .f32 := constant S_ .f32 0x7F800000#32
  let main_v5675 : FVec F S32 .f32 := (fun x v => Host.reduce FloatOps.minimumf x v reducesTo_S32x1024_S32_d1 h_S_) main_v5674 main_cst_786
  let main_v5676 : FVec F S32x1024 .f32 := broadcastInDim S32x1024 ![0] bcast_S32_S32x1024_0 main_v5675
  let main_v5677 : IVec S32x1024 1 := cmpf .oeq main_v5674 main_v5676
  let main_v5678 : IVec S32x1024 32 := (extui 32 · natLt_1_32) main_v5677
  let main_c_787 : IVec S_ 32 := constantI S_ 32 0#32
  let main_v5679 : IVec S32 32 := (fun x v => Host.reduce IntOp.addi x v reducesTo_S32x1024_S32_d1 h_S_) main_v5678 main_c_787
  let main_v5680 : IVec S32 1 := cmpi .eq main_v5679 main_v41
  let main_v5681 : IVec S32 1 := andi main_v5652 main_v5680
  let main_v5682 : FVec F S32x1024 .f32 := addf main_v5667 main_v0
  let main_v5683 : FVec F S32x1024 .f32 := select main_v5677 main_v5682 main_v39
  let main_cst_788 : FVec F S_ .f32 := constant S_ .f32 0x00000000#32
  let main_v5684 : FVec F S32 .f32 := (fun x v => Host.reduceAdd x v reducesTo_S32x1024_S32_d1 h_S_) main_v5683 main_cst_788
  let main_v5685 : FVec F S32x1024 .f32 := broadcastInDim S32x1024 ![0] bcast_S32_S32x1024_0 main_v5684
  let main_v5686 : IVec S32x32x32 32 := shapeCast S32x32x32 main_v5678 shapeCasts_S32x1024_S32x32x32
  let main_c_789 : IVec S_ 32 := constantI S_ 32 2147483648#32
  let main_v5687 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v5686 main_c_789
  fn_part270 (F := F) main_arg0 main_arg1 main_arg2 main_v0 main_v34 main_v37 main_v38 main_v39 main_v40 main_v41 main_v5667 main_v5668 main_v5672 main_v5677 main_v5681 main_v5685 main_v5687

def fn_part268 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v5623 : IVec S32 1) (main_v5638 : FVec F S32x1024 .f32) (main_v5639 : IVec S32x1024 1) (main_v5643 : IVec S32x1024 1) (main_v5645 : FVec F S32x1024 .f32) (main_v5646 : FVec F S32 .f32) : IVec S32x32x32 1 :=
  let main_v5647 : FVec F S32x1024 .f32 := broadcastInDim S32x1024 ![0] bcast_S32_S32x1024_0 main_v5646
  let main_v5648 : IVec S32x1024 1 := cmpf .oeq main_v5645 main_v5647
  let main_v5649 : IVec S32x1024 32 := (extui 32 · natLt_1_32) main_v5648
  let main_c_783 : IVec S_ 32 := constantI S_ 32 0#32
  let main_v5650 : IVec S32 32 := (fun x v => Host.reduce IntOp.addi x v reducesTo_S32x1024_S32_d1 h_S_) main_v5649 main_c_783
  let main_v5651 : IVec S32 1 := cmpi .eq main_v5650 main_v41
  let main_v5652 : IVec S32 1 := andi main_v5623 main_v5651
  let main_v5653 : FVec F S32x1024 .f32 := addf main_v5638 main_v0
  let main_v5654 : FVec F S32x1024 .f32 := select main_v5648 main_v5653 main_v39
  let main_cst_784 : FVec F S_ .f32 := constant S_ .f32 0x00000000#32
  let main_v5655 : FVec F S32 .f32 := (fun x v => Host.reduceAdd x v reducesTo_S32x1024_S32_d1 h_S_) main_v5654 main_cst_784
  let main_v5656 : FVec F S32x1024 .f32 := broadcastInDim S32x1024 ![0] bcast_S32_S32x1024_0 main_v5655
  let main_v5657 : IVec S32x32x32 32 := shapeCast S32x32x32 main_v5649 shapeCasts_S32x1024_S32x32x32
  let main_c_785 : IVec S_ 32 := constantI S_ 32 2147483648#32
  let main_v5658 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v5657 main_c_785
  let main_v5659 : IVec S32x1024 32 := shapeCast S32x1024 main_v5658 shapeCasts_S32x32x32_S32x1024
  let main_v5660 : IVec S32x1024 1 := cmpi .sgt main_v5659 main_v40
  let main_v5661 : IVec S32x1024 1 := ori main_v5643 main_v5639
  let main_v5662 : IVec S32x1024 1 := noti main_v5661
  let main_v5663 : IVec S32x1024 1 := cmpf .ogt main_v5638 main_v5656
  let main_v5664 : IVec S32x1024 1 := andi main_v5643 main_v5663
  let main_v5665 : IVec S32x1024 1 := ori main_v5662 main_v5664
  let main_v5666 : IVec S32x1024 1 := andi main_v5660 main_v5665
  let main_v5667 : FVec F S32x1024 .f32 := select main_v5666 main_v5656 main_v5638
  fn_part269 (F := F) main_arg0 main_arg1 main_arg2 main_v0 main_v34 main_v37 main_v38 main_v39 main_v40 main_v41 main_v5639 main_v5643 main_v5648 main_v5652 main_v5666 main_v5667

def fn_part267 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v5609 : FVec F S32x1024 .f32) (main_v5610 : IVec S32x1024 1) (main_v5614 : IVec S32x1024 1) (main_v5619 : IVec S32x1024 1) (main_v5620 : IVec S32x1024 32) (main_v5623 : IVec S32 1) (main_v5625 : FVec F S32x1024 .f32) : IVec S32x32x32 1 :=
  let main_cst_780 : FVec F S_ .f32 := constant S_ .f32 0x00000000#32
  let main_v5626 : FVec F S32 .f32 := (fun x v => Host.reduceAdd x v reducesTo_S32x1024_S32_d1 h_S_) main_v5625 main_cst_780
  let main_v5627 : FVec F S32x1024 .f32 := broadcastInDim S32x1024 ![0] bcast_S32_S32x1024_0 main_v5626
  let main_v5628 : IVec S32x32x32 32 := shapeCast S32x32x32 main_v5620 shapeCasts_S32x1024_S32x32x32
  let main_c_781 : IVec S_ 32 := constantI S_ 32 2147483648#32
  let main_v5629 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v5628 main_c_781
  let main_v5630 : IVec S32x1024 32 := shapeCast S32x1024 main_v5629 shapeCasts_S32x32x32_S32x1024
  let main_v5631 : IVec S32x1024 1 := cmpi .sgt main_v5630 main_v40
  let main_v5632 : IVec S32x1024 1 := ori main_v5614 main_v5610
  let main_v5633 : IVec S32x1024 1 := noti main_v5632
  let main_v5634 : IVec S32x1024 1 := cmpf .ogt main_v5609 main_v5627
  let main_v5635 : IVec S32x1024 1 := andi main_v5614 main_v5634
  let main_v5636 : IVec S32x1024 1 := ori main_v5633 main_v5635
  let main_v5637 : IVec S32x1024 1 := andi main_v5631 main_v5636
  let main_v5638 : FVec F S32x1024 .f32 := select main_v5637 main_v5627 main_v5609
  let main_v5639 : IVec S32x1024 1 := ori main_v5610 main_v5619
  let main_v5640 : IVec S32x1024 1 := andi main_v5619 main_v37
  let main_v5641 : IVec S32x1024 1 := noti main_v5640
  let main_v5642 : IVec S32x1024 1 := andi main_v5614 main_v5641
  let main_v5643 : IVec S32x1024 1 := ori main_v5642 main_v5637
  let main_v5644 : FVec F S32x1024 .f32 := addf main_v5638 main_v34
  let main_v5645 : FVec F S32x1024 .f32 := select main_v5643 main_v5644 main_v38
  let main_cst_782 : FVec F S_ .f32 := constant S_ .f32 0x7F800000#32
  let main_v5646 : FVec F S32 .f32 := (fun x v => Host.reduce FloatOps.minimumf x v reducesTo_S32x1024_S32_d1 h_S_) main_v5645 main_cst_782
  fn_part268 (F := F) main_arg0 main_arg1 main_arg2 main_v0 main_v34 main_v37 main_v38 main_v39 main_v40 main_v41 main_v5623 main_v5638 main_v5639 main_v5643 main_v5645 main_v5646

def fn_part266 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v5580 : FVec F S32x1024 .f32) (main_v5581 : IVec S32x1024 1) (main_v5585 : IVec S32x1024 1) (main_v5590 : IVec S32x1024 1) (main_v5594 : IVec S32 1) (main_v5598 : FVec F S32x1024 .f32) (main_v5602 : IVec S32x1024 1) (main_v5603 : IVec S32x1024 1) : IVec S32x32x32 1 :=
  let main_v5604 : IVec S32x1024 1 := noti main_v5603
  let main_v5605 : IVec S32x1024 1 := cmpf .ogt main_v5580 main_v5598
  let main_v5606 : IVec S32x1024 1 := andi main_v5585 main_v5605
  let main_v5607 : IVec S32x1024 1 := ori main_v5604 main_v5606
  let main_v5608 : IVec S32x1024 1 := andi main_v5602 main_v5607
  let main_v5609 : FVec F S32x1024 .f32 := select main_v5608 main_v5598 main_v5580
  let main_v5610 : IVec S32x1024 1 := ori main_v5581 main_v5590
  let main_v5611 : IVec S32x1024 1 := andi main_v5590 main_v37
  let main_v5612 : IVec S32x1024 1 := noti main_v5611
  let main_v5613 : IVec S32x1024 1 := andi main_v5585 main_v5612
  let main_v5614 : IVec S32x1024 1 := ori main_v5613 main_v5608
  let main_v5615 : FVec F S32x1024 .f32 := addf main_v5609 main_v34
  let main_v5616 : FVec F S32x1024 .f32 := select main_v5614 main_v5615 main_v38
  let main_cst_778 : FVec F S_ .f32 := constant S_ .f32 0x7F800000#32
  let main_v5617 : FVec F S32 .f32 := (fun x v => Host.reduce FloatOps.minimumf x v reducesTo_S32x1024_S32_d1 h_S_) main_v5616 main_cst_778
  let main_v5618 : FVec F S32x1024 .f32 := broadcastInDim S32x1024 ![0] bcast_S32_S32x1024_0 main_v5617
  let main_v5619 : IVec S32x1024 1 := cmpf .oeq main_v5616 main_v5618
  let main_v5620 : IVec S32x1024 32 := (extui 32 · natLt_1_32) main_v5619
  let main_c_779 : IVec S_ 32 := constantI S_ 32 0#32
  let main_v5621 : IVec S32 32 := (fun x v => Host.reduce IntOp.addi x v reducesTo_S32x1024_S32_d1 h_S_) main_v5620 main_c_779
  let main_v5622 : IVec S32 1 := cmpi .eq main_v5621 main_v41
  let main_v5623 : IVec S32 1 := andi main_v5594 main_v5622
  let main_v5624 : FVec F S32x1024 .f32 := addf main_v5609 main_v0
  let main_v5625 : FVec F S32x1024 .f32 := select main_v5619 main_v5624 main_v39
  fn_part267 (F := F) main_arg0 main_arg1 main_arg2 main_v0 main_v34 main_v37 main_v38 main_v39 main_v40 main_v41 main_v5609 main_v5610 main_v5614 main_v5619 main_v5620 main_v5623 main_v5625

def fn_part265 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v5556 : IVec S32x1024 1) (main_v5565 : IVec S32 1) (main_v5579 : IVec S32x1024 1) (main_v5580 : FVec F S32x1024 .f32) (main_v5581 : IVec S32x1024 1) (main_v5583 : IVec S32x1024 1) : IVec S32x32x32 1 :=
  let main_v5584 : IVec S32x1024 1 := andi main_v5556 main_v5583
  let main_v5585 : IVec S32x1024 1 := ori main_v5584 main_v5579
  let main_v5586 : FVec F S32x1024 .f32 := addf main_v5580 main_v34
  let main_v5587 : FVec F S32x1024 .f32 := select main_v5585 main_v5586 main_v38
  let main_cst_774 : FVec F S_ .f32 := constant S_ .f32 0x7F800000#32
  let main_v5588 : FVec F S32 .f32 := (fun x v => Host.reduce FloatOps.minimumf x v reducesTo_S32x1024_S32_d1 h_S_) main_v5587 main_cst_774
  let main_v5589 : FVec F S32x1024 .f32 := broadcastInDim S32x1024 ![0] bcast_S32_S32x1024_0 main_v5588
  let main_v5590 : IVec S32x1024 1 := cmpf .oeq main_v5587 main_v5589
  let main_v5591 : IVec S32x1024 32 := (extui 32 · natLt_1_32) main_v5590
  let main_c_775 : IVec S_ 32 := constantI S_ 32 0#32
  let main_v5592 : IVec S32 32 := (fun x v => Host.reduce IntOp.addi x v reducesTo_S32x1024_S32_d1 h_S_) main_v5591 main_c_775
  let main_v5593 : IVec S32 1 := cmpi .eq main_v5592 main_v41
  let main_v5594 : IVec S32 1 := andi main_v5565 main_v5593
  let main_v5595 : FVec F S32x1024 .f32 := addf main_v5580 main_v0
  let main_v5596 : FVec F S32x1024 .f32 := select main_v5590 main_v5595 main_v39
  let main_cst_776 : FVec F S_ .f32 := constant S_ .f32 0x00000000#32
  let main_v5597 : FVec F S32 .f32 := (fun x v => Host.reduceAdd x v reducesTo_S32x1024_S32_d1 h_S_) main_v5596 main_cst_776
  let main_v5598 : FVec F S32x1024 .f32 := broadcastInDim S32x1024 ![0] bcast_S32_S32x1024_0 main_v5597
  let main_v5599 : IVec S32x32x32 32 := shapeCast S32x32x32 main_v5591 shapeCasts_S32x1024_S32x32x32
  let main_c_777 : IVec S_ 32 := constantI S_ 32 2147483648#32
  let main_v5600 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v5599 main_c_777
  let main_v5601 : IVec S32x1024 32 := shapeCast S32x1024 main_v5600 shapeCasts_S32x32x32_S32x1024
  let main_v5602 : IVec S32x1024 1 := cmpi .sgt main_v5601 main_v40
  let main_v5603 : IVec S32x1024 1 := ori main_v5585 main_v5581
  fn_part266 (F := F) main_arg0 main_arg1 main_arg2 main_v0 main_v34 main_v37 main_v38 main_v39 main_v40 main_v41 main_v5580 main_v5581 main_v5585 main_v5590 main_v5594 main_v5598 main_v5602 main_v5603

def fn_part264 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v5536 : IVec S32 1) (main_v5551 : FVec F S32x1024 .f32) (main_v5552 : IVec S32x1024 1) (main_v5556 : IVec S32x1024 1) (main_v5561 : IVec S32x1024 1) (main_v5562 : IVec S32x1024 32) : IVec S32x32x32 1 :=
  let main_c_771 : IVec S_ 32 := constantI S_ 32 0#32
  let main_v5563 : IVec S32 32 := (fun x v => Host.reduce IntOp.addi x v reducesTo_S32x1024_S32_d1 h_S_) main_v5562 main_c_771
  let main_v5564 : IVec S32 1 := cmpi .eq main_v5563 main_v41
  let main_v5565 : IVec S32 1 := andi main_v5536 main_v5564
  let main_v5566 : FVec F S32x1024 .f32 := addf main_v5551 main_v0
  let main_v5567 : FVec F S32x1024 .f32 := select main_v5561 main_v5566 main_v39
  let main_cst_772 : FVec F S_ .f32 := constant S_ .f32 0x00000000#32
  let main_v5568 : FVec F S32 .f32 := (fun x v => Host.reduceAdd x v reducesTo_S32x1024_S32_d1 h_S_) main_v5567 main_cst_772
  let main_v5569 : FVec F S32x1024 .f32 := broadcastInDim S32x1024 ![0] bcast_S32_S32x1024_0 main_v5568
  let main_v5570 : IVec S32x32x32 32 := shapeCast S32x32x32 main_v5562 shapeCasts_S32x1024_S32x32x32
  let main_c_773 : IVec S_ 32 := constantI S_ 32 2147483648#32
  let main_v5571 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v5570 main_c_773
  let main_v5572 : IVec S32x1024 32 := shapeCast S32x1024 main_v5571 shapeCasts_S32x32x32_S32x1024
  let main_v5573 : IVec S32x1024 1 := cmpi .sgt main_v5572 main_v40
  let main_v5574 : IVec S32x1024 1 := ori main_v5556 main_v5552
  let main_v5575 : IVec S32x1024 1 := noti main_v5574
  let main_v5576 : IVec S32x1024 1 := cmpf .ogt main_v5551 main_v5569
  let main_v5577 : IVec S32x1024 1 := andi main_v5556 main_v5576
  let main_v5578 : IVec S32x1024 1 := ori main_v5575 main_v5577
  let main_v5579 : IVec S32x1024 1 := andi main_v5573 main_v5578
  let main_v5580 : FVec F S32x1024 .f32 := select main_v5579 main_v5569 main_v5551
  let main_v5581 : IVec S32x1024 1 := ori main_v5552 main_v5561
  let main_v5582 : IVec S32x1024 1 := andi main_v5561 main_v37
  let main_v5583 : IVec S32x1024 1 := noti main_v5582
  fn_part265 (F := F) main_arg0 main_arg1 main_arg2 main_v0 main_v34 main_v37 main_v38 main_v39 main_v40 main_v41 main_v5556 main_v5565 main_v5579 main_v5580 main_v5581 main_v5583

def fn_part263 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v5522 : FVec F S32x1024 .f32) (main_v5523 : IVec S32x1024 1) (main_v5527 : IVec S32x1024 1) (main_v5532 : IVec S32x1024 1) (main_v5533 : IVec S32x1024 32) (main_v5536 : IVec S32 1) (main_v5540 : FVec F S32x1024 .f32) : IVec S32x32x32 1 :=
  let main_v5541 : IVec S32x32x32 32 := shapeCast S32x32x32 main_v5533 shapeCasts_S32x1024_S32x32x32
  let main_c_769 : IVec S_ 32 := constantI S_ 32 2147483648#32
  let main_v5542 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v5541 main_c_769
  let main_v5543 : IVec S32x1024 32 := shapeCast S32x1024 main_v5542 shapeCasts_S32x32x32_S32x1024
  let main_v5544 : IVec S32x1024 1 := cmpi .sgt main_v5543 main_v40
  let main_v5545 : IVec S32x1024 1 := ori main_v5527 main_v5523
  let main_v5546 : IVec S32x1024 1 := noti main_v5545
  let main_v5547 : IVec S32x1024 1 := cmpf .ogt main_v5522 main_v5540
  let main_v5548 : IVec S32x1024 1 := andi main_v5527 main_v5547
  let main_v5549 : IVec S32x1024 1 := ori main_v5546 main_v5548
  let main_v5550 : IVec S32x1024 1 := andi main_v5544 main_v5549
  let main_v5551 : FVec F S32x1024 .f32 := select main_v5550 main_v5540 main_v5522
  let main_v5552 : IVec S32x1024 1 := ori main_v5523 main_v5532
  let main_v5553 : IVec S32x1024 1 := andi main_v5532 main_v37
  let main_v5554 : IVec S32x1024 1 := noti main_v5553
  let main_v5555 : IVec S32x1024 1 := andi main_v5527 main_v5554
  let main_v5556 : IVec S32x1024 1 := ori main_v5555 main_v5550
  let main_v5557 : FVec F S32x1024 .f32 := addf main_v5551 main_v34
  let main_v5558 : FVec F S32x1024 .f32 := select main_v5556 main_v5557 main_v38
  let main_cst_770 : FVec F S_ .f32 := constant S_ .f32 0x7F800000#32
  let main_v5559 : FVec F S32 .f32 := (fun x v => Host.reduce FloatOps.minimumf x v reducesTo_S32x1024_S32_d1 h_S_) main_v5558 main_cst_770
  let main_v5560 : FVec F S32x1024 .f32 := broadcastInDim S32x1024 ![0] bcast_S32_S32x1024_0 main_v5559
  let main_v5561 : IVec S32x1024 1 := cmpf .oeq main_v5558 main_v5560
  let main_v5562 : IVec S32x1024 32 := (extui 32 · natLt_1_32) main_v5561
  fn_part264 (F := F) main_arg0 main_arg1 main_arg2 main_v0 main_v34 main_v37 main_v38 main_v39 main_v40 main_v41 main_v5536 main_v5551 main_v5552 main_v5556 main_v5561 main_v5562

def fn_part262 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v5493 : FVec F S32x1024 .f32) (main_v5494 : IVec S32x1024 1) (main_v5498 : IVec S32x1024 1) (main_v5503 : IVec S32x1024 1) (main_v5507 : IVec S32 1) (main_v5511 : FVec F S32x1024 .f32) (main_v5515 : IVec S32x1024 1) (main_v5517 : IVec S32x1024 1) (main_v5519 : IVec S32x1024 1) : IVec S32x32x32 1 :=
  let main_v5520 : IVec S32x1024 1 := ori main_v5517 main_v5519
  let main_v5521 : IVec S32x1024 1 := andi main_v5515 main_v5520
  let main_v5522 : FVec F S32x1024 .f32 := select main_v5521 main_v5511 main_v5493
  let main_v5523 : IVec S32x1024 1 := ori main_v5494 main_v5503
  let main_v5524 : IVec S32x1024 1 := andi main_v5503 main_v37
  let main_v5525 : IVec S32x1024 1 := noti main_v5524
  let main_v5526 : IVec S32x1024 1 := andi main_v5498 main_v5525
  let main_v5527 : IVec S32x1024 1 := ori main_v5526 main_v5521
  let main_v5528 : FVec F S32x1024 .f32 := addf main_v5522 main_v34
  let main_v5529 : FVec F S32x1024 .f32 := select main_v5527 main_v5528 main_v38
  let main_cst_766 : FVec F S_ .f32 := constant S_ .f32 0x7F800000#32
  let main_v5530 : FVec F S32 .f32 := (fun x v => Host.reduce FloatOps.minimumf x v reducesTo_S32x1024_S32_d1 h_S_) main_v5529 main_cst_766
  let main_v5531 : FVec F S32x1024 .f32 := broadcastInDim S32x1024 ![0] bcast_S32_S32x1024_0 main_v5530
  let main_v5532 : IVec S32x1024 1 := cmpf .oeq main_v5529 main_v5531
  let main_v5533 : IVec S32x1024 32 := (extui 32 · natLt_1_32) main_v5532
  let main_c_767 : IVec S_ 32 := constantI S_ 32 0#32
  let main_v5534 : IVec S32 32 := (fun x v => Host.reduce IntOp.addi x v reducesTo_S32x1024_S32_d1 h_S_) main_v5533 main_c_767
  let main_v5535 : IVec S32 1 := cmpi .eq main_v5534 main_v41
  let main_v5536 : IVec S32 1 := andi main_v5507 main_v5535
  let main_v5537 : FVec F S32x1024 .f32 := addf main_v5522 main_v0
  let main_v5538 : FVec F S32x1024 .f32 := select main_v5532 main_v5537 main_v39
  let main_cst_768 : FVec F S_ .f32 := constant S_ .f32 0x00000000#32
  let main_v5539 : FVec F S32 .f32 := (fun x v => Host.reduceAdd x v reducesTo_S32x1024_S32_d1 h_S_) main_v5538 main_cst_768
  let main_v5540 : FVec F S32x1024 .f32 := broadcastInDim S32x1024 ![0] bcast_S32_S32x1024_0 main_v5539
  fn_part263 (F := F) main_arg0 main_arg1 main_arg2 main_v0 main_v34 main_v37 main_v38 main_v39 main_v40 main_v41 main_v5522 main_v5523 main_v5527 main_v5532 main_v5533 main_v5536 main_v5540

def fn_part261 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v5478 : IVec S32 1) (main_v5493 : FVec F S32x1024 .f32) (main_v5494 : IVec S32x1024 1) (main_v5498 : IVec S32x1024 1) (main_v5499 : FVec F S32x1024 .f32) : IVec S32x32x32 1 :=
  let main_v5500 : FVec F S32x1024 .f32 := select main_v5498 main_v5499 main_v38
  let main_cst_762 : FVec F S_ .f32 := constant S_ .f32 0x7F800000#32
  let main_v5501 : FVec F S32 .f32 := (fun x v => Host.reduce FloatOps.minimumf x v reducesTo_S32x1024_S32_d1 h_S_) main_v5500 main_cst_762
  let main_v5502 : FVec F S32x1024 .f32 := broadcastInDim S32x1024 ![0] bcast_S32_S32x1024_0 main_v5501
  let main_v5503 : IVec S32x1024 1 := cmpf .oeq main_v5500 main_v5502
  let main_v5504 : IVec S32x1024 32 := (extui 32 · natLt_1_32) main_v5503
  let main_c_763 : IVec S_ 32 := constantI S_ 32 0#32
  let main_v5505 : IVec S32 32 := (fun x v => Host.reduce IntOp.addi x v reducesTo_S32x1024_S32_d1 h_S_) main_v5504 main_c_763
  let main_v5506 : IVec S32 1 := cmpi .eq main_v5505 main_v41
  let main_v5507 : IVec S32 1 := andi main_v5478 main_v5506
  let main_v5508 : FVec F S32x1024 .f32 := addf main_v5493 main_v0
  let main_v5509 : FVec F S32x1024 .f32 := select main_v5503 main_v5508 main_v39
  let main_cst_764 : FVec F S_ .f32 := constant S_ .f32 0x00000000#32
  let main_v5510 : FVec F S32 .f32 := (fun x v => Host.reduceAdd x v reducesTo_S32x1024_S32_d1 h_S_) main_v5509 main_cst_764
  let main_v5511 : FVec F S32x1024 .f32 := broadcastInDim S32x1024 ![0] bcast_S32_S32x1024_0 main_v5510
  let main_v5512 : IVec S32x32x32 32 := shapeCast S32x32x32 main_v5504 shapeCasts_S32x1024_S32x32x32
  let main_c_765 : IVec S_ 32 := constantI S_ 32 2147483648#32
  let main_v5513 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v5512 main_c_765
  let main_v5514 : IVec S32x1024 32 := shapeCast S32x1024 main_v5513 shapeCasts_S32x32x32_S32x1024
  let main_v5515 : IVec S32x1024 1 := cmpi .sgt main_v5514 main_v40
  let main_v5516 : IVec S32x1024 1 := ori main_v5498 main_v5494
  let main_v5517 : IVec S32x1024 1 := noti main_v5516
  let main_v5518 : IVec S32x1024 1 := cmpf .ogt main_v5493 main_v5511
  let main_v5519 : IVec S32x1024 1 := andi main_v5498 main_v5518
  fn_part262 (F := F) main_arg0 main_arg1 main_arg2 main_v0 main_v34 main_v37 main_v38 main_v39 main_v40 main_v41 main_v5493 main_v5494 main_v5498 main_v5503 main_v5507 main_v5511 main_v5515 main_v5517 main_v5519

def fn_part260 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v5449 : IVec S32 1) (main_v5464 : FVec F S32x1024 .f32) (main_v5465 : IVec S32x1024 1) (main_v5469 : IVec S32x1024 1) (main_v5474 : IVec S32x1024 1) (main_v5475 : IVec S32x1024 32) (main_v5477 : IVec S32 1) : IVec S32x32x32 1 :=
  let main_v5478 : IVec S32 1 := andi main_v5449 main_v5477
  let main_v5479 : FVec F S32x1024 .f32 := addf main_v5464 main_v0
  let main_v5480 : FVec F S32x1024 .f32 := select main_v5474 main_v5479 main_v39
  let main_cst_760 : FVec F S_ .f32 := constant S_ .f32 0x00000000#32
  let main_v5481 : FVec F S32 .f32 := (fun x v => Host.reduceAdd x v reducesTo_S32x1024_S32_d1 h_S_) main_v5480 main_cst_760
  let main_v5482 : FVec F S32x1024 .f32 := broadcastInDim S32x1024 ![0] bcast_S32_S32x1024_0 main_v5481
  let main_v5483 : IVec S32x32x32 32 := shapeCast S32x32x32 main_v5475 shapeCasts_S32x1024_S32x32x32
  let main_c_761 : IVec S_ 32 := constantI S_ 32 2147483648#32
  let main_v5484 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v5483 main_c_761
  let main_v5485 : IVec S32x1024 32 := shapeCast S32x1024 main_v5484 shapeCasts_S32x32x32_S32x1024
  let main_v5486 : IVec S32x1024 1 := cmpi .sgt main_v5485 main_v40
  let main_v5487 : IVec S32x1024 1 := ori main_v5469 main_v5465
  let main_v5488 : IVec S32x1024 1 := noti main_v5487
  let main_v5489 : IVec S32x1024 1 := cmpf .ogt main_v5464 main_v5482
  let main_v5490 : IVec S32x1024 1 := andi main_v5469 main_v5489
  let main_v5491 : IVec S32x1024 1 := ori main_v5488 main_v5490
  let main_v5492 : IVec S32x1024 1 := andi main_v5486 main_v5491
  let main_v5493 : FVec F S32x1024 .f32 := select main_v5492 main_v5482 main_v5464
  let main_v5494 : IVec S32x1024 1 := ori main_v5465 main_v5474
  let main_v5495 : IVec S32x1024 1 := andi main_v5474 main_v37
  let main_v5496 : IVec S32x1024 1 := noti main_v5495
  let main_v5497 : IVec S32x1024 1 := andi main_v5469 main_v5496
  let main_v5498 : IVec S32x1024 1 := ori main_v5497 main_v5492
  let main_v5499 : FVec F S32x1024 .f32 := addf main_v5493 main_v34
  fn_part261 (F := F) main_arg0 main_arg1 main_arg2 main_v0 main_v34 main_v37 main_v38 main_v39 main_v40 main_v41 main_v5478 main_v5493 main_v5494 main_v5498 main_v5499

def fn_part259 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v5435 : FVec F S32x1024 .f32) (main_v5436 : IVec S32x1024 1) (main_v5440 : IVec S32x1024 1) (main_v5445 : IVec S32x1024 1) (main_v5449 : IVec S32 1) (main_v5453 : FVec F S32x1024 .f32) (main_v5455 : IVec S32x32x32 32) : IVec S32x32x32 1 :=
  let main_v5456 : IVec S32x1024 32 := shapeCast S32x1024 main_v5455 shapeCasts_S32x32x32_S32x1024
  let main_v5457 : IVec S32x1024 1 := cmpi .sgt main_v5456 main_v40
  let main_v5458 : IVec S32x1024 1 := ori main_v5440 main_v5436
  let main_v5459 : IVec S32x1024 1 := noti main_v5458
  let main_v5460 : IVec S32x1024 1 := cmpf .ogt main_v5435 main_v5453
  let main_v5461 : IVec S32x1024 1 := andi main_v5440 main_v5460
  let main_v5462 : IVec S32x1024 1 := ori main_v5459 main_v5461
  let main_v5463 : IVec S32x1024 1 := andi main_v5457 main_v5462
  let main_v5464 : FVec F S32x1024 .f32 := select main_v5463 main_v5453 main_v5435
  let main_v5465 : IVec S32x1024 1 := ori main_v5436 main_v5445
  let main_v5466 : IVec S32x1024 1 := andi main_v5445 main_v37
  let main_v5467 : IVec S32x1024 1 := noti main_v5466
  let main_v5468 : IVec S32x1024 1 := andi main_v5440 main_v5467
  let main_v5469 : IVec S32x1024 1 := ori main_v5468 main_v5463
  let main_v5470 : FVec F S32x1024 .f32 := addf main_v5464 main_v34
  let main_v5471 : FVec F S32x1024 .f32 := select main_v5469 main_v5470 main_v38
  let main_cst_758 : FVec F S_ .f32 := constant S_ .f32 0x7F800000#32
  let main_v5472 : FVec F S32 .f32 := (fun x v => Host.reduce FloatOps.minimumf x v reducesTo_S32x1024_S32_d1 h_S_) main_v5471 main_cst_758
  let main_v5473 : FVec F S32x1024 .f32 := broadcastInDim S32x1024 ![0] bcast_S32_S32x1024_0 main_v5472
  let main_v5474 : IVec S32x1024 1 := cmpf .oeq main_v5471 main_v5473
  let main_v5475 : IVec S32x1024 32 := (extui 32 · natLt_1_32) main_v5474
  let main_c_759 : IVec S_ 32 := constantI S_ 32 0#32
  let main_v5476 : IVec S32 32 := (fun x v => Host.reduce IntOp.addi x v reducesTo_S32x1024_S32_d1 h_S_) main_v5475 main_c_759
  let main_v5477 : IVec S32 1 := cmpi .eq main_v5476 main_v41
  fn_part260 (F := F) main_arg0 main_arg1 main_arg2 main_v0 main_v34 main_v37 main_v38 main_v39 main_v40 main_v41 main_v5449 main_v5464 main_v5465 main_v5469 main_v5474 main_v5475 main_v5477

def fn_part258 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v5407 : IVec S32x1024 1) (main_v5411 : IVec S32x1024 1) (main_v5416 : IVec S32x1024 1) (main_v5420 : IVec S32 1) (main_v5434 : IVec S32x1024 1) (main_v5435 : FVec F S32x1024 .f32) : IVec S32x32x32 1 :=
  let main_v5436 : IVec S32x1024 1 := ori main_v5407 main_v5416
  let main_v5437 : IVec S32x1024 1 := andi main_v5416 main_v37
  let main_v5438 : IVec S32x1024 1 := noti main_v5437
  let main_v5439 : IVec S32x1024 1 := andi main_v5411 main_v5438
  let main_v5440 : IVec S32x1024 1 := ori main_v5439 main_v5434
  let main_v5441 : FVec F S32x1024 .f32 := addf main_v5435 main_v34
  let main_v5442 : FVec F S32x1024 .f32 := select main_v5440 main_v5441 main_v38
  let main_cst_754 : FVec F S_ .f32 := constant S_ .f32 0x7F800000#32
  let main_v5443 : FVec F S32 .f32 := (fun x v => Host.reduce FloatOps.minimumf x v reducesTo_S32x1024_S32_d1 h_S_) main_v5442 main_cst_754
  let main_v5444 : FVec F S32x1024 .f32 := broadcastInDim S32x1024 ![0] bcast_S32_S32x1024_0 main_v5443
  let main_v5445 : IVec S32x1024 1 := cmpf .oeq main_v5442 main_v5444
  let main_v5446 : IVec S32x1024 32 := (extui 32 · natLt_1_32) main_v5445
  let main_c_755 : IVec S_ 32 := constantI S_ 32 0#32
  let main_v5447 : IVec S32 32 := (fun x v => Host.reduce IntOp.addi x v reducesTo_S32x1024_S32_d1 h_S_) main_v5446 main_c_755
  let main_v5448 : IVec S32 1 := cmpi .eq main_v5447 main_v41
  let main_v5449 : IVec S32 1 := andi main_v5420 main_v5448
  let main_v5450 : FVec F S32x1024 .f32 := addf main_v5435 main_v0
  let main_v5451 : FVec F S32x1024 .f32 := select main_v5445 main_v5450 main_v39
  let main_cst_756 : FVec F S_ .f32 := constant S_ .f32 0x00000000#32
  let main_v5452 : FVec F S32 .f32 := (fun x v => Host.reduceAdd x v reducesTo_S32x1024_S32_d1 h_S_) main_v5451 main_cst_756
  let main_v5453 : FVec F S32x1024 .f32 := broadcastInDim S32x1024 ![0] bcast_S32_S32x1024_0 main_v5452
  let main_v5454 : IVec S32x32x32 32 := shapeCast S32x32x32 main_v5446 shapeCasts_S32x1024_S32x32x32
  let main_c_757 : IVec S_ 32 := constantI S_ 32 2147483648#32
  let main_v5455 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v5454 main_c_757
  fn_part259 (F := F) main_arg0 main_arg1 main_arg2 main_v0 main_v34 main_v37 main_v38 main_v39 main_v40 main_v41 main_v5435 main_v5436 main_v5440 main_v5445 main_v5449 main_v5453 main_v5455

def fn_part257 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v5391 : IVec S32 1) (main_v5406 : FVec F S32x1024 .f32) (main_v5407 : IVec S32x1024 1) (main_v5411 : IVec S32x1024 1) (main_v5413 : FVec F S32x1024 .f32) (main_v5414 : FVec F S32 .f32) : IVec S32x32x32 1 :=
  let main_v5415 : FVec F S32x1024 .f32 := broadcastInDim S32x1024 ![0] bcast_S32_S32x1024_0 main_v5414
  let main_v5416 : IVec S32x1024 1 := cmpf .oeq main_v5413 main_v5415
  let main_v5417 : IVec S32x1024 32 := (extui 32 · natLt_1_32) main_v5416
  let main_c_751 : IVec S_ 32 := constantI S_ 32 0#32
  let main_v5418 : IVec S32 32 := (fun x v => Host.reduce IntOp.addi x v reducesTo_S32x1024_S32_d1 h_S_) main_v5417 main_c_751
  let main_v5419 : IVec S32 1 := cmpi .eq main_v5418 main_v41
  let main_v5420 : IVec S32 1 := andi main_v5391 main_v5419
  let main_v5421 : FVec F S32x1024 .f32 := addf main_v5406 main_v0
  let main_v5422 : FVec F S32x1024 .f32 := select main_v5416 main_v5421 main_v39
  let main_cst_752 : FVec F S_ .f32 := constant S_ .f32 0x00000000#32
  let main_v5423 : FVec F S32 .f32 := (fun x v => Host.reduceAdd x v reducesTo_S32x1024_S32_d1 h_S_) main_v5422 main_cst_752
  let main_v5424 : FVec F S32x1024 .f32 := broadcastInDim S32x1024 ![0] bcast_S32_S32x1024_0 main_v5423
  let main_v5425 : IVec S32x32x32 32 := shapeCast S32x32x32 main_v5417 shapeCasts_S32x1024_S32x32x32
  let main_c_753 : IVec S_ 32 := constantI S_ 32 2147483648#32
  let main_v5426 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v5425 main_c_753
  let main_v5427 : IVec S32x1024 32 := shapeCast S32x1024 main_v5426 shapeCasts_S32x32x32_S32x1024
  let main_v5428 : IVec S32x1024 1 := cmpi .sgt main_v5427 main_v40
  let main_v5429 : IVec S32x1024 1 := ori main_v5411 main_v5407
  let main_v5430 : IVec S32x1024 1 := noti main_v5429
  let main_v5431 : IVec S32x1024 1 := cmpf .ogt main_v5406 main_v5424
  let main_v5432 : IVec S32x1024 1 := andi main_v5411 main_v5431
  let main_v5433 : IVec S32x1024 1 := ori main_v5430 main_v5432
  let main_v5434 : IVec S32x1024 1 := andi main_v5428 main_v5433
  let main_v5435 : FVec F S32x1024 .f32 := select main_v5434 main_v5424 main_v5406
  fn_part258 (F := F) main_arg0 main_arg1 main_arg2 main_v0 main_v34 main_v37 main_v38 main_v39 main_v40 main_v41 main_v5407 main_v5411 main_v5416 main_v5420 main_v5434 main_v5435

def fn_part256 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v5377 : FVec F S32x1024 .f32) (main_v5378 : IVec S32x1024 1) (main_v5382 : IVec S32x1024 1) (main_v5387 : IVec S32x1024 1) (main_v5388 : IVec S32x1024 32) (main_v5391 : IVec S32 1) (main_v5393 : FVec F S32x1024 .f32) : IVec S32x32x32 1 :=
  let main_cst_748 : FVec F S_ .f32 := constant S_ .f32 0x00000000#32
  let main_v5394 : FVec F S32 .f32 := (fun x v => Host.reduceAdd x v reducesTo_S32x1024_S32_d1 h_S_) main_v5393 main_cst_748
  let main_v5395 : FVec F S32x1024 .f32 := broadcastInDim S32x1024 ![0] bcast_S32_S32x1024_0 main_v5394
  let main_v5396 : IVec S32x32x32 32 := shapeCast S32x32x32 main_v5388 shapeCasts_S32x1024_S32x32x32
  let main_c_749 : IVec S_ 32 := constantI S_ 32 2147483648#32
  let main_v5397 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v5396 main_c_749
  let main_v5398 : IVec S32x1024 32 := shapeCast S32x1024 main_v5397 shapeCasts_S32x32x32_S32x1024
  let main_v5399 : IVec S32x1024 1 := cmpi .sgt main_v5398 main_v40
  let main_v5400 : IVec S32x1024 1 := ori main_v5382 main_v5378
  let main_v5401 : IVec S32x1024 1 := noti main_v5400
  let main_v5402 : IVec S32x1024 1 := cmpf .ogt main_v5377 main_v5395
  let main_v5403 : IVec S32x1024 1 := andi main_v5382 main_v5402
  let main_v5404 : IVec S32x1024 1 := ori main_v5401 main_v5403
  let main_v5405 : IVec S32x1024 1 := andi main_v5399 main_v5404
  let main_v5406 : FVec F S32x1024 .f32 := select main_v5405 main_v5395 main_v5377
  let main_v5407 : IVec S32x1024 1 := ori main_v5378 main_v5387
  let main_v5408 : IVec S32x1024 1 := andi main_v5387 main_v37
  let main_v5409 : IVec S32x1024 1 := noti main_v5408
  let main_v5410 : IVec S32x1024 1 := andi main_v5382 main_v5409
  let main_v5411 : IVec S32x1024 1 := ori main_v5410 main_v5405
  let main_v5412 : FVec F S32x1024 .f32 := addf main_v5406 main_v34
  let main_v5413 : FVec F S32x1024 .f32 := select main_v5411 main_v5412 main_v38
  let main_cst_750 : FVec F S_ .f32 := constant S_ .f32 0x7F800000#32
  let main_v5414 : FVec F S32 .f32 := (fun x v => Host.reduce FloatOps.minimumf x v reducesTo_S32x1024_S32_d1 h_S_) main_v5413 main_cst_750
  fn_part257 (F := F) main_arg0 main_arg1 main_arg2 main_v0 main_v34 main_v37 main_v38 main_v39 main_v40 main_v41 main_v5391 main_v5406 main_v5407 main_v5411 main_v5413 main_v5414

def fn_part255 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v5348 : FVec F S32x1024 .f32) (main_v5349 : IVec S32x1024 1) (main_v5353 : IVec S32x1024 1) (main_v5358 : IVec S32x1024 1) (main_v5362 : IVec S32 1) (main_v5366 : FVec F S32x1024 .f32) (main_v5370 : IVec S32x1024 1) (main_v5371 : IVec S32x1024 1) : IVec S32x32x32 1 :=
  let main_v5372 : IVec S32x1024 1 := noti main_v5371
  let main_v5373 : IVec S32x1024 1 := cmpf .ogt main_v5348 main_v5366
  let main_v5374 : IVec S32x1024 1 := andi main_v5353 main_v5373
  let main_v5375 : IVec S32x1024 1 := ori main_v5372 main_v5374
  let main_v5376 : IVec S32x1024 1 := andi main_v5370 main_v5375
  let main_v5377 : FVec F S32x1024 .f32 := select main_v5376 main_v5366 main_v5348
  let main_v5378 : IVec S32x1024 1 := ori main_v5349 main_v5358
  let main_v5379 : IVec S32x1024 1 := andi main_v5358 main_v37
  let main_v5380 : IVec S32x1024 1 := noti main_v5379
  let main_v5381 : IVec S32x1024 1 := andi main_v5353 main_v5380
  let main_v5382 : IVec S32x1024 1 := ori main_v5381 main_v5376
  let main_v5383 : FVec F S32x1024 .f32 := addf main_v5377 main_v34
  let main_v5384 : FVec F S32x1024 .f32 := select main_v5382 main_v5383 main_v38
  let main_cst_746 : FVec F S_ .f32 := constant S_ .f32 0x7F800000#32
  let main_v5385 : FVec F S32 .f32 := (fun x v => Host.reduce FloatOps.minimumf x v reducesTo_S32x1024_S32_d1 h_S_) main_v5384 main_cst_746
  let main_v5386 : FVec F S32x1024 .f32 := broadcastInDim S32x1024 ![0] bcast_S32_S32x1024_0 main_v5385
  let main_v5387 : IVec S32x1024 1 := cmpf .oeq main_v5384 main_v5386
  let main_v5388 : IVec S32x1024 32 := (extui 32 · natLt_1_32) main_v5387
  let main_c_747 : IVec S_ 32 := constantI S_ 32 0#32
  let main_v5389 : IVec S32 32 := (fun x v => Host.reduce IntOp.addi x v reducesTo_S32x1024_S32_d1 h_S_) main_v5388 main_c_747
  let main_v5390 : IVec S32 1 := cmpi .eq main_v5389 main_v41
  let main_v5391 : IVec S32 1 := andi main_v5362 main_v5390
  let main_v5392 : FVec F S32x1024 .f32 := addf main_v5377 main_v0
  let main_v5393 : FVec F S32x1024 .f32 := select main_v5387 main_v5392 main_v39
  fn_part256 (F := F) main_arg0 main_arg1 main_arg2 main_v0 main_v34 main_v37 main_v38 main_v39 main_v40 main_v41 main_v5377 main_v5378 main_v5382 main_v5387 main_v5388 main_v5391 main_v5393

def fn_part254 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v5324 : IVec S32x1024 1) (main_v5333 : IVec S32 1) (main_v5347 : IVec S32x1024 1) (main_v5348 : FVec F S32x1024 .f32) (main_v5349 : IVec S32x1024 1) (main_v5351 : IVec S32x1024 1) : IVec S32x32x32 1 :=
  let main_v5352 : IVec S32x1024 1 := andi main_v5324 main_v5351
  let main_v5353 : IVec S32x1024 1 := ori main_v5352 main_v5347
  let main_v5354 : FVec F S32x1024 .f32 := addf main_v5348 main_v34
  let main_v5355 : FVec F S32x1024 .f32 := select main_v5353 main_v5354 main_v38
  let main_cst_742 : FVec F S_ .f32 := constant S_ .f32 0x7F800000#32
  let main_v5356 : FVec F S32 .f32 := (fun x v => Host.reduce FloatOps.minimumf x v reducesTo_S32x1024_S32_d1 h_S_) main_v5355 main_cst_742
  let main_v5357 : FVec F S32x1024 .f32 := broadcastInDim S32x1024 ![0] bcast_S32_S32x1024_0 main_v5356
  let main_v5358 : IVec S32x1024 1 := cmpf .oeq main_v5355 main_v5357
  let main_v5359 : IVec S32x1024 32 := (extui 32 · natLt_1_32) main_v5358
  let main_c_743 : IVec S_ 32 := constantI S_ 32 0#32
  let main_v5360 : IVec S32 32 := (fun x v => Host.reduce IntOp.addi x v reducesTo_S32x1024_S32_d1 h_S_) main_v5359 main_c_743
  let main_v5361 : IVec S32 1 := cmpi .eq main_v5360 main_v41
  let main_v5362 : IVec S32 1 := andi main_v5333 main_v5361
  let main_v5363 : FVec F S32x1024 .f32 := addf main_v5348 main_v0
  let main_v5364 : FVec F S32x1024 .f32 := select main_v5358 main_v5363 main_v39
  let main_cst_744 : FVec F S_ .f32 := constant S_ .f32 0x00000000#32
  let main_v5365 : FVec F S32 .f32 := (fun x v => Host.reduceAdd x v reducesTo_S32x1024_S32_d1 h_S_) main_v5364 main_cst_744
  let main_v5366 : FVec F S32x1024 .f32 := broadcastInDim S32x1024 ![0] bcast_S32_S32x1024_0 main_v5365
  let main_v5367 : IVec S32x32x32 32 := shapeCast S32x32x32 main_v5359 shapeCasts_S32x1024_S32x32x32
  let main_c_745 : IVec S_ 32 := constantI S_ 32 2147483648#32
  let main_v5368 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v5367 main_c_745
  let main_v5369 : IVec S32x1024 32 := shapeCast S32x1024 main_v5368 shapeCasts_S32x32x32_S32x1024
  let main_v5370 : IVec S32x1024 1 := cmpi .sgt main_v5369 main_v40
  let main_v5371 : IVec S32x1024 1 := ori main_v5353 main_v5349
  fn_part255 (F := F) main_arg0 main_arg1 main_arg2 main_v0 main_v34 main_v37 main_v38 main_v39 main_v40 main_v41 main_v5348 main_v5349 main_v5353 main_v5358 main_v5362 main_v5366 main_v5370 main_v5371

def fn_part253 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v5304 : IVec S32 1) (main_v5319 : FVec F S32x1024 .f32) (main_v5320 : IVec S32x1024 1) (main_v5324 : IVec S32x1024 1) (main_v5329 : IVec S32x1024 1) (main_v5330 : IVec S32x1024 32) : IVec S32x32x32 1 :=
  let main_c_739 : IVec S_ 32 := constantI S_ 32 0#32
  let main_v5331 : IVec S32 32 := (fun x v => Host.reduce IntOp.addi x v reducesTo_S32x1024_S32_d1 h_S_) main_v5330 main_c_739
  let main_v5332 : IVec S32 1 := cmpi .eq main_v5331 main_v41
  let main_v5333 : IVec S32 1 := andi main_v5304 main_v5332
  let main_v5334 : FVec F S32x1024 .f32 := addf main_v5319 main_v0
  let main_v5335 : FVec F S32x1024 .f32 := select main_v5329 main_v5334 main_v39
  let main_cst_740 : FVec F S_ .f32 := constant S_ .f32 0x00000000#32
  let main_v5336 : FVec F S32 .f32 := (fun x v => Host.reduceAdd x v reducesTo_S32x1024_S32_d1 h_S_) main_v5335 main_cst_740
  let main_v5337 : FVec F S32x1024 .f32 := broadcastInDim S32x1024 ![0] bcast_S32_S32x1024_0 main_v5336
  let main_v5338 : IVec S32x32x32 32 := shapeCast S32x32x32 main_v5330 shapeCasts_S32x1024_S32x32x32
  let main_c_741 : IVec S_ 32 := constantI S_ 32 2147483648#32
  let main_v5339 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v5338 main_c_741
  let main_v5340 : IVec S32x1024 32 := shapeCast S32x1024 main_v5339 shapeCasts_S32x32x32_S32x1024
  let main_v5341 : IVec S32x1024 1 := cmpi .sgt main_v5340 main_v40
  let main_v5342 : IVec S32x1024 1 := ori main_v5324 main_v5320
  let main_v5343 : IVec S32x1024 1 := noti main_v5342
  let main_v5344 : IVec S32x1024 1 := cmpf .ogt main_v5319 main_v5337
  let main_v5345 : IVec S32x1024 1 := andi main_v5324 main_v5344
  let main_v5346 : IVec S32x1024 1 := ori main_v5343 main_v5345
  let main_v5347 : IVec S32x1024 1 := andi main_v5341 main_v5346
  let main_v5348 : FVec F S32x1024 .f32 := select main_v5347 main_v5337 main_v5319
  let main_v5349 : IVec S32x1024 1 := ori main_v5320 main_v5329
  let main_v5350 : IVec S32x1024 1 := andi main_v5329 main_v37
  let main_v5351 : IVec S32x1024 1 := noti main_v5350
  fn_part254 (F := F) main_arg0 main_arg1 main_arg2 main_v0 main_v34 main_v37 main_v38 main_v39 main_v40 main_v41 main_v5324 main_v5333 main_v5347 main_v5348 main_v5349 main_v5351

def fn_part252 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v5290 : FVec F S32x1024 .f32) (main_v5291 : IVec S32x1024 1) (main_v5295 : IVec S32x1024 1) (main_v5300 : IVec S32x1024 1) (main_v5301 : IVec S32x1024 32) (main_v5304 : IVec S32 1) (main_v5308 : FVec F S32x1024 .f32) : IVec S32x32x32 1 :=
  let main_v5309 : IVec S32x32x32 32 := shapeCast S32x32x32 main_v5301 shapeCasts_S32x1024_S32x32x32
  let main_c_737 : IVec S_ 32 := constantI S_ 32 2147483648#32
  let main_v5310 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v5309 main_c_737
  let main_v5311 : IVec S32x1024 32 := shapeCast S32x1024 main_v5310 shapeCasts_S32x32x32_S32x1024
  let main_v5312 : IVec S32x1024 1 := cmpi .sgt main_v5311 main_v40
  let main_v5313 : IVec S32x1024 1 := ori main_v5295 main_v5291
  let main_v5314 : IVec S32x1024 1 := noti main_v5313
  let main_v5315 : IVec S32x1024 1 := cmpf .ogt main_v5290 main_v5308
  let main_v5316 : IVec S32x1024 1 := andi main_v5295 main_v5315
  let main_v5317 : IVec S32x1024 1 := ori main_v5314 main_v5316
  let main_v5318 : IVec S32x1024 1 := andi main_v5312 main_v5317
  let main_v5319 : FVec F S32x1024 .f32 := select main_v5318 main_v5308 main_v5290
  let main_v5320 : IVec S32x1024 1 := ori main_v5291 main_v5300
  let main_v5321 : IVec S32x1024 1 := andi main_v5300 main_v37
  let main_v5322 : IVec S32x1024 1 := noti main_v5321
  let main_v5323 : IVec S32x1024 1 := andi main_v5295 main_v5322
  let main_v5324 : IVec S32x1024 1 := ori main_v5323 main_v5318
  let main_v5325 : FVec F S32x1024 .f32 := addf main_v5319 main_v34
  let main_v5326 : FVec F S32x1024 .f32 := select main_v5324 main_v5325 main_v38
  let main_cst_738 : FVec F S_ .f32 := constant S_ .f32 0x7F800000#32
  let main_v5327 : FVec F S32 .f32 := (fun x v => Host.reduce FloatOps.minimumf x v reducesTo_S32x1024_S32_d1 h_S_) main_v5326 main_cst_738
  let main_v5328 : FVec F S32x1024 .f32 := broadcastInDim S32x1024 ![0] bcast_S32_S32x1024_0 main_v5327
  let main_v5329 : IVec S32x1024 1 := cmpf .oeq main_v5326 main_v5328
  let main_v5330 : IVec S32x1024 32 := (extui 32 · natLt_1_32) main_v5329
  fn_part253 (F := F) main_arg0 main_arg1 main_arg2 main_v0 main_v34 main_v37 main_v38 main_v39 main_v40 main_v41 main_v5304 main_v5319 main_v5320 main_v5324 main_v5329 main_v5330

def fn_part251 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v5261 : FVec F S32x1024 .f32) (main_v5262 : IVec S32x1024 1) (main_v5266 : IVec S32x1024 1) (main_v5271 : IVec S32x1024 1) (main_v5275 : IVec S32 1) (main_v5279 : FVec F S32x1024 .f32) (main_v5283 : IVec S32x1024 1) (main_v5285 : IVec S32x1024 1) (main_v5287 : IVec S32x1024 1) : IVec S32x32x32 1 :=
  let main_v5288 : IVec S32x1024 1 := ori main_v5285 main_v5287
  let main_v5289 : IVec S32x1024 1 := andi main_v5283 main_v5288
  let main_v5290 : FVec F S32x1024 .f32 := select main_v5289 main_v5279 main_v5261
  let main_v5291 : IVec S32x1024 1 := ori main_v5262 main_v5271
  let main_v5292 : IVec S32x1024 1 := andi main_v5271 main_v37
  let main_v5293 : IVec S32x1024 1 := noti main_v5292
  let main_v5294 : IVec S32x1024 1 := andi main_v5266 main_v5293
  let main_v5295 : IVec S32x1024 1 := ori main_v5294 main_v5289
  let main_v5296 : FVec F S32x1024 .f32 := addf main_v5290 main_v34
  let main_v5297 : FVec F S32x1024 .f32 := select main_v5295 main_v5296 main_v38
  let main_cst_734 : FVec F S_ .f32 := constant S_ .f32 0x7F800000#32
  let main_v5298 : FVec F S32 .f32 := (fun x v => Host.reduce FloatOps.minimumf x v reducesTo_S32x1024_S32_d1 h_S_) main_v5297 main_cst_734
  let main_v5299 : FVec F S32x1024 .f32 := broadcastInDim S32x1024 ![0] bcast_S32_S32x1024_0 main_v5298
  let main_v5300 : IVec S32x1024 1 := cmpf .oeq main_v5297 main_v5299
  let main_v5301 : IVec S32x1024 32 := (extui 32 · natLt_1_32) main_v5300
  let main_c_735 : IVec S_ 32 := constantI S_ 32 0#32
  let main_v5302 : IVec S32 32 := (fun x v => Host.reduce IntOp.addi x v reducesTo_S32x1024_S32_d1 h_S_) main_v5301 main_c_735
  let main_v5303 : IVec S32 1 := cmpi .eq main_v5302 main_v41
  let main_v5304 : IVec S32 1 := andi main_v5275 main_v5303
  let main_v5305 : FVec F S32x1024 .f32 := addf main_v5290 main_v0
  let main_v5306 : FVec F S32x1024 .f32 := select main_v5300 main_v5305 main_v39
  let main_cst_736 : FVec F S_ .f32 := constant S_ .f32 0x00000000#32
  let main_v5307 : FVec F S32 .f32 := (fun x v => Host.reduceAdd x v reducesTo_S32x1024_S32_d1 h_S_) main_v5306 main_cst_736
  let main_v5308 : FVec F S32x1024 .f32 := broadcastInDim S32x1024 ![0] bcast_S32_S32x1024_0 main_v5307
  fn_part252 (F := F) main_arg0 main_arg1 main_arg2 main_v0 main_v34 main_v37 main_v38 main_v39 main_v40 main_v41 main_v5290 main_v5291 main_v5295 main_v5300 main_v5301 main_v5304 main_v5308

def fn_part250 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v5246 : IVec S32 1) (main_v5261 : FVec F S32x1024 .f32) (main_v5262 : IVec S32x1024 1) (main_v5266 : IVec S32x1024 1) (main_v5267 : FVec F S32x1024 .f32) : IVec S32x32x32 1 :=
  let main_v5268 : FVec F S32x1024 .f32 := select main_v5266 main_v5267 main_v38
  let main_cst_730 : FVec F S_ .f32 := constant S_ .f32 0x7F800000#32
  let main_v5269 : FVec F S32 .f32 := (fun x v => Host.reduce FloatOps.minimumf x v reducesTo_S32x1024_S32_d1 h_S_) main_v5268 main_cst_730
  let main_v5270 : FVec F S32x1024 .f32 := broadcastInDim S32x1024 ![0] bcast_S32_S32x1024_0 main_v5269
  let main_v5271 : IVec S32x1024 1 := cmpf .oeq main_v5268 main_v5270
  let main_v5272 : IVec S32x1024 32 := (extui 32 · natLt_1_32) main_v5271
  let main_c_731 : IVec S_ 32 := constantI S_ 32 0#32
  let main_v5273 : IVec S32 32 := (fun x v => Host.reduce IntOp.addi x v reducesTo_S32x1024_S32_d1 h_S_) main_v5272 main_c_731
  let main_v5274 : IVec S32 1 := cmpi .eq main_v5273 main_v41
  let main_v5275 : IVec S32 1 := andi main_v5246 main_v5274
  let main_v5276 : FVec F S32x1024 .f32 := addf main_v5261 main_v0
  let main_v5277 : FVec F S32x1024 .f32 := select main_v5271 main_v5276 main_v39
  let main_cst_732 : FVec F S_ .f32 := constant S_ .f32 0x00000000#32
  let main_v5278 : FVec F S32 .f32 := (fun x v => Host.reduceAdd x v reducesTo_S32x1024_S32_d1 h_S_) main_v5277 main_cst_732
  let main_v5279 : FVec F S32x1024 .f32 := broadcastInDim S32x1024 ![0] bcast_S32_S32x1024_0 main_v5278
  let main_v5280 : IVec S32x32x32 32 := shapeCast S32x32x32 main_v5272 shapeCasts_S32x1024_S32x32x32
  let main_c_733 : IVec S_ 32 := constantI S_ 32 2147483648#32
  let main_v5281 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v5280 main_c_733
  let main_v5282 : IVec S32x1024 32 := shapeCast S32x1024 main_v5281 shapeCasts_S32x32x32_S32x1024
  let main_v5283 : IVec S32x1024 1 := cmpi .sgt main_v5282 main_v40
  let main_v5284 : IVec S32x1024 1 := ori main_v5266 main_v5262
  let main_v5285 : IVec S32x1024 1 := noti main_v5284
  let main_v5286 : IVec S32x1024 1 := cmpf .ogt main_v5261 main_v5279
  let main_v5287 : IVec S32x1024 1 := andi main_v5266 main_v5286
  fn_part251 (F := F) main_arg0 main_arg1 main_arg2 main_v0 main_v34 main_v37 main_v38 main_v39 main_v40 main_v41 main_v5261 main_v5262 main_v5266 main_v5271 main_v5275 main_v5279 main_v5283 main_v5285 main_v5287

def fn_part249 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v5217 : IVec S32 1) (main_v5232 : FVec F S32x1024 .f32) (main_v5233 : IVec S32x1024 1) (main_v5237 : IVec S32x1024 1) (main_v5242 : IVec S32x1024 1) (main_v5243 : IVec S32x1024 32) (main_v5245 : IVec S32 1) : IVec S32x32x32 1 :=
  let main_v5246 : IVec S32 1 := andi main_v5217 main_v5245
  let main_v5247 : FVec F S32x1024 .f32 := addf main_v5232 main_v0
  let main_v5248 : FVec F S32x1024 .f32 := select main_v5242 main_v5247 main_v39
  let main_cst_728 : FVec F S_ .f32 := constant S_ .f32 0x00000000#32
  let main_v5249 : FVec F S32 .f32 := (fun x v => Host.reduceAdd x v reducesTo_S32x1024_S32_d1 h_S_) main_v5248 main_cst_728
  let main_v5250 : FVec F S32x1024 .f32 := broadcastInDim S32x1024 ![0] bcast_S32_S32x1024_0 main_v5249
  let main_v5251 : IVec S32x32x32 32 := shapeCast S32x32x32 main_v5243 shapeCasts_S32x1024_S32x32x32
  let main_c_729 : IVec S_ 32 := constantI S_ 32 2147483648#32
  let main_v5252 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v5251 main_c_729
  let main_v5253 : IVec S32x1024 32 := shapeCast S32x1024 main_v5252 shapeCasts_S32x32x32_S32x1024
  let main_v5254 : IVec S32x1024 1 := cmpi .sgt main_v5253 main_v40
  let main_v5255 : IVec S32x1024 1 := ori main_v5237 main_v5233
  let main_v5256 : IVec S32x1024 1 := noti main_v5255
  let main_v5257 : IVec S32x1024 1 := cmpf .ogt main_v5232 main_v5250
  let main_v5258 : IVec S32x1024 1 := andi main_v5237 main_v5257
  let main_v5259 : IVec S32x1024 1 := ori main_v5256 main_v5258
  let main_v5260 : IVec S32x1024 1 := andi main_v5254 main_v5259
  let main_v5261 : FVec F S32x1024 .f32 := select main_v5260 main_v5250 main_v5232
  let main_v5262 : IVec S32x1024 1 := ori main_v5233 main_v5242
  let main_v5263 : IVec S32x1024 1 := andi main_v5242 main_v37
  let main_v5264 : IVec S32x1024 1 := noti main_v5263
  let main_v5265 : IVec S32x1024 1 := andi main_v5237 main_v5264
  let main_v5266 : IVec S32x1024 1 := ori main_v5265 main_v5260
  let main_v5267 : FVec F S32x1024 .f32 := addf main_v5261 main_v34
  fn_part250 (F := F) main_arg0 main_arg1 main_arg2 main_v0 main_v34 main_v37 main_v38 main_v39 main_v40 main_v41 main_v5246 main_v5261 main_v5262 main_v5266 main_v5267

def fn_part248 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v5203 : FVec F S32x1024 .f32) (main_v5204 : IVec S32x1024 1) (main_v5208 : IVec S32x1024 1) (main_v5213 : IVec S32x1024 1) (main_v5217 : IVec S32 1) (main_v5221 : FVec F S32x1024 .f32) (main_v5223 : IVec S32x32x32 32) : IVec S32x32x32 1 :=
  let main_v5224 : IVec S32x1024 32 := shapeCast S32x1024 main_v5223 shapeCasts_S32x32x32_S32x1024
  let main_v5225 : IVec S32x1024 1 := cmpi .sgt main_v5224 main_v40
  let main_v5226 : IVec S32x1024 1 := ori main_v5208 main_v5204
  let main_v5227 : IVec S32x1024 1 := noti main_v5226
  let main_v5228 : IVec S32x1024 1 := cmpf .ogt main_v5203 main_v5221
  let main_v5229 : IVec S32x1024 1 := andi main_v5208 main_v5228
  let main_v5230 : IVec S32x1024 1 := ori main_v5227 main_v5229
  let main_v5231 : IVec S32x1024 1 := andi main_v5225 main_v5230
  let main_v5232 : FVec F S32x1024 .f32 := select main_v5231 main_v5221 main_v5203
  let main_v5233 : IVec S32x1024 1 := ori main_v5204 main_v5213
  let main_v5234 : IVec S32x1024 1 := andi main_v5213 main_v37
  let main_v5235 : IVec S32x1024 1 := noti main_v5234
  let main_v5236 : IVec S32x1024 1 := andi main_v5208 main_v5235
  let main_v5237 : IVec S32x1024 1 := ori main_v5236 main_v5231
  let main_v5238 : FVec F S32x1024 .f32 := addf main_v5232 main_v34
  let main_v5239 : FVec F S32x1024 .f32 := select main_v5237 main_v5238 main_v38
  let main_cst_726 : FVec F S_ .f32 := constant S_ .f32 0x7F800000#32
  let main_v5240 : FVec F S32 .f32 := (fun x v => Host.reduce FloatOps.minimumf x v reducesTo_S32x1024_S32_d1 h_S_) main_v5239 main_cst_726
  let main_v5241 : FVec F S32x1024 .f32 := broadcastInDim S32x1024 ![0] bcast_S32_S32x1024_0 main_v5240
  let main_v5242 : IVec S32x1024 1 := cmpf .oeq main_v5239 main_v5241
  let main_v5243 : IVec S32x1024 32 := (extui 32 · natLt_1_32) main_v5242
  let main_c_727 : IVec S_ 32 := constantI S_ 32 0#32
  let main_v5244 : IVec S32 32 := (fun x v => Host.reduce IntOp.addi x v reducesTo_S32x1024_S32_d1 h_S_) main_v5243 main_c_727
  let main_v5245 : IVec S32 1 := cmpi .eq main_v5244 main_v41
  fn_part249 (F := F) main_arg0 main_arg1 main_arg2 main_v0 main_v34 main_v37 main_v38 main_v39 main_v40 main_v41 main_v5217 main_v5232 main_v5233 main_v5237 main_v5242 main_v5243 main_v5245

def fn_part247 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v5175 : IVec S32x1024 1) (main_v5179 : IVec S32x1024 1) (main_v5184 : IVec S32x1024 1) (main_v5188 : IVec S32 1) (main_v5202 : IVec S32x1024 1) (main_v5203 : FVec F S32x1024 .f32) : IVec S32x32x32 1 :=
  let main_v5204 : IVec S32x1024 1 := ori main_v5175 main_v5184
  let main_v5205 : IVec S32x1024 1 := andi main_v5184 main_v37
  let main_v5206 : IVec S32x1024 1 := noti main_v5205
  let main_v5207 : IVec S32x1024 1 := andi main_v5179 main_v5206
  let main_v5208 : IVec S32x1024 1 := ori main_v5207 main_v5202
  let main_v5209 : FVec F S32x1024 .f32 := addf main_v5203 main_v34
  let main_v5210 : FVec F S32x1024 .f32 := select main_v5208 main_v5209 main_v38
  let main_cst_722 : FVec F S_ .f32 := constant S_ .f32 0x7F800000#32
  let main_v5211 : FVec F S32 .f32 := (fun x v => Host.reduce FloatOps.minimumf x v reducesTo_S32x1024_S32_d1 h_S_) main_v5210 main_cst_722
  let main_v5212 : FVec F S32x1024 .f32 := broadcastInDim S32x1024 ![0] bcast_S32_S32x1024_0 main_v5211
  let main_v5213 : IVec S32x1024 1 := cmpf .oeq main_v5210 main_v5212
  let main_v5214 : IVec S32x1024 32 := (extui 32 · natLt_1_32) main_v5213
  let main_c_723 : IVec S_ 32 := constantI S_ 32 0#32
  let main_v5215 : IVec S32 32 := (fun x v => Host.reduce IntOp.addi x v reducesTo_S32x1024_S32_d1 h_S_) main_v5214 main_c_723
  let main_v5216 : IVec S32 1 := cmpi .eq main_v5215 main_v41
  let main_v5217 : IVec S32 1 := andi main_v5188 main_v5216
  let main_v5218 : FVec F S32x1024 .f32 := addf main_v5203 main_v0
  let main_v5219 : FVec F S32x1024 .f32 := select main_v5213 main_v5218 main_v39
  let main_cst_724 : FVec F S_ .f32 := constant S_ .f32 0x00000000#32
  let main_v5220 : FVec F S32 .f32 := (fun x v => Host.reduceAdd x v reducesTo_S32x1024_S32_d1 h_S_) main_v5219 main_cst_724
  let main_v5221 : FVec F S32x1024 .f32 := broadcastInDim S32x1024 ![0] bcast_S32_S32x1024_0 main_v5220
  let main_v5222 : IVec S32x32x32 32 := shapeCast S32x32x32 main_v5214 shapeCasts_S32x1024_S32x32x32
  let main_c_725 : IVec S_ 32 := constantI S_ 32 2147483648#32
  let main_v5223 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v5222 main_c_725
  fn_part248 (F := F) main_arg0 main_arg1 main_arg2 main_v0 main_v34 main_v37 main_v38 main_v39 main_v40 main_v41 main_v5203 main_v5204 main_v5208 main_v5213 main_v5217 main_v5221 main_v5223

def fn_part246 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v5159 : IVec S32 1) (main_v5174 : FVec F S32x1024 .f32) (main_v5175 : IVec S32x1024 1) (main_v5179 : IVec S32x1024 1) (main_v5181 : FVec F S32x1024 .f32) (main_v5182 : FVec F S32 .f32) : IVec S32x32x32 1 :=
  let main_v5183 : FVec F S32x1024 .f32 := broadcastInDim S32x1024 ![0] bcast_S32_S32x1024_0 main_v5182
  let main_v5184 : IVec S32x1024 1 := cmpf .oeq main_v5181 main_v5183
  let main_v5185 : IVec S32x1024 32 := (extui 32 · natLt_1_32) main_v5184
  let main_c_719 : IVec S_ 32 := constantI S_ 32 0#32
  let main_v5186 : IVec S32 32 := (fun x v => Host.reduce IntOp.addi x v reducesTo_S32x1024_S32_d1 h_S_) main_v5185 main_c_719
  let main_v5187 : IVec S32 1 := cmpi .eq main_v5186 main_v41
  let main_v5188 : IVec S32 1 := andi main_v5159 main_v5187
  let main_v5189 : FVec F S32x1024 .f32 := addf main_v5174 main_v0
  let main_v5190 : FVec F S32x1024 .f32 := select main_v5184 main_v5189 main_v39
  let main_cst_720 : FVec F S_ .f32 := constant S_ .f32 0x00000000#32
  let main_v5191 : FVec F S32 .f32 := (fun x v => Host.reduceAdd x v reducesTo_S32x1024_S32_d1 h_S_) main_v5190 main_cst_720
  let main_v5192 : FVec F S32x1024 .f32 := broadcastInDim S32x1024 ![0] bcast_S32_S32x1024_0 main_v5191
  let main_v5193 : IVec S32x32x32 32 := shapeCast S32x32x32 main_v5185 shapeCasts_S32x1024_S32x32x32
  let main_c_721 : IVec S_ 32 := constantI S_ 32 2147483648#32
  let main_v5194 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v5193 main_c_721
  let main_v5195 : IVec S32x1024 32 := shapeCast S32x1024 main_v5194 shapeCasts_S32x32x32_S32x1024
  let main_v5196 : IVec S32x1024 1 := cmpi .sgt main_v5195 main_v40
  let main_v5197 : IVec S32x1024 1 := ori main_v5179 main_v5175
  let main_v5198 : IVec S32x1024 1 := noti main_v5197
  let main_v5199 : IVec S32x1024 1 := cmpf .ogt main_v5174 main_v5192
  let main_v5200 : IVec S32x1024 1 := andi main_v5179 main_v5199
  let main_v5201 : IVec S32x1024 1 := ori main_v5198 main_v5200
  let main_v5202 : IVec S32x1024 1 := andi main_v5196 main_v5201
  let main_v5203 : FVec F S32x1024 .f32 := select main_v5202 main_v5192 main_v5174
  fn_part247 (F := F) main_arg0 main_arg1 main_arg2 main_v0 main_v34 main_v37 main_v38 main_v39 main_v40 main_v41 main_v5175 main_v5179 main_v5184 main_v5188 main_v5202 main_v5203

def fn_part245 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v5145 : FVec F S32x1024 .f32) (main_v5146 : IVec S32x1024 1) (main_v5150 : IVec S32x1024 1) (main_v5155 : IVec S32x1024 1) (main_v5156 : IVec S32x1024 32) (main_v5159 : IVec S32 1) (main_v5161 : FVec F S32x1024 .f32) : IVec S32x32x32 1 :=
  let main_cst_716 : FVec F S_ .f32 := constant S_ .f32 0x00000000#32
  let main_v5162 : FVec F S32 .f32 := (fun x v => Host.reduceAdd x v reducesTo_S32x1024_S32_d1 h_S_) main_v5161 main_cst_716
  let main_v5163 : FVec F S32x1024 .f32 := broadcastInDim S32x1024 ![0] bcast_S32_S32x1024_0 main_v5162
  let main_v5164 : IVec S32x32x32 32 := shapeCast S32x32x32 main_v5156 shapeCasts_S32x1024_S32x32x32
  let main_c_717 : IVec S_ 32 := constantI S_ 32 2147483648#32
  let main_v5165 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v5164 main_c_717
  let main_v5166 : IVec S32x1024 32 := shapeCast S32x1024 main_v5165 shapeCasts_S32x32x32_S32x1024
  let main_v5167 : IVec S32x1024 1 := cmpi .sgt main_v5166 main_v40
  let main_v5168 : IVec S32x1024 1 := ori main_v5150 main_v5146
  let main_v5169 : IVec S32x1024 1 := noti main_v5168
  let main_v5170 : IVec S32x1024 1 := cmpf .ogt main_v5145 main_v5163
  let main_v5171 : IVec S32x1024 1 := andi main_v5150 main_v5170
  let main_v5172 : IVec S32x1024 1 := ori main_v5169 main_v5171
  let main_v5173 : IVec S32x1024 1 := andi main_v5167 main_v5172
  let main_v5174 : FVec F S32x1024 .f32 := select main_v5173 main_v5163 main_v5145
  let main_v5175 : IVec S32x1024 1 := ori main_v5146 main_v5155
  let main_v5176 : IVec S32x1024 1 := andi main_v5155 main_v37
  let main_v5177 : IVec S32x1024 1 := noti main_v5176
  let main_v5178 : IVec S32x1024 1 := andi main_v5150 main_v5177
  let main_v5179 : IVec S32x1024 1 := ori main_v5178 main_v5173
  let main_v5180 : FVec F S32x1024 .f32 := addf main_v5174 main_v34
  let main_v5181 : FVec F S32x1024 .f32 := select main_v5179 main_v5180 main_v38
  let main_cst_718 : FVec F S_ .f32 := constant S_ .f32 0x7F800000#32
  let main_v5182 : FVec F S32 .f32 := (fun x v => Host.reduce FloatOps.minimumf x v reducesTo_S32x1024_S32_d1 h_S_) main_v5181 main_cst_718
  fn_part246 (F := F) main_arg0 main_arg1 main_arg2 main_v0 main_v34 main_v37 main_v38 main_v39 main_v40 main_v41 main_v5159 main_v5174 main_v5175 main_v5179 main_v5181 main_v5182

def fn_part244 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v5116 : FVec F S32x1024 .f32) (main_v5117 : IVec S32x1024 1) (main_v5121 : IVec S32x1024 1) (main_v5126 : IVec S32x1024 1) (main_v5130 : IVec S32 1) (main_v5134 : FVec F S32x1024 .f32) (main_v5138 : IVec S32x1024 1) (main_v5139 : IVec S32x1024 1) : IVec S32x32x32 1 :=
  let main_v5140 : IVec S32x1024 1 := noti main_v5139
  let main_v5141 : IVec S32x1024 1 := cmpf .ogt main_v5116 main_v5134
  let main_v5142 : IVec S32x1024 1 := andi main_v5121 main_v5141
  let main_v5143 : IVec S32x1024 1 := ori main_v5140 main_v5142
  let main_v5144 : IVec S32x1024 1 := andi main_v5138 main_v5143
  let main_v5145 : FVec F S32x1024 .f32 := select main_v5144 main_v5134 main_v5116
  let main_v5146 : IVec S32x1024 1 := ori main_v5117 main_v5126
  let main_v5147 : IVec S32x1024 1 := andi main_v5126 main_v37
  let main_v5148 : IVec S32x1024 1 := noti main_v5147
  let main_v5149 : IVec S32x1024 1 := andi main_v5121 main_v5148
  let main_v5150 : IVec S32x1024 1 := ori main_v5149 main_v5144
  let main_v5151 : FVec F S32x1024 .f32 := addf main_v5145 main_v34
  let main_v5152 : FVec F S32x1024 .f32 := select main_v5150 main_v5151 main_v38
  let main_cst_714 : FVec F S_ .f32 := constant S_ .f32 0x7F800000#32
  let main_v5153 : FVec F S32 .f32 := (fun x v => Host.reduce FloatOps.minimumf x v reducesTo_S32x1024_S32_d1 h_S_) main_v5152 main_cst_714
  let main_v5154 : FVec F S32x1024 .f32 := broadcastInDim S32x1024 ![0] bcast_S32_S32x1024_0 main_v5153
  let main_v5155 : IVec S32x1024 1 := cmpf .oeq main_v5152 main_v5154
  let main_v5156 : IVec S32x1024 32 := (extui 32 · natLt_1_32) main_v5155
  let main_c_715 : IVec S_ 32 := constantI S_ 32 0#32
  let main_v5157 : IVec S32 32 := (fun x v => Host.reduce IntOp.addi x v reducesTo_S32x1024_S32_d1 h_S_) main_v5156 main_c_715
  let main_v5158 : IVec S32 1 := cmpi .eq main_v5157 main_v41
  let main_v5159 : IVec S32 1 := andi main_v5130 main_v5158
  let main_v5160 : FVec F S32x1024 .f32 := addf main_v5145 main_v0
  let main_v5161 : FVec F S32x1024 .f32 := select main_v5155 main_v5160 main_v39
  fn_part245 (F := F) main_arg0 main_arg1 main_arg2 main_v0 main_v34 main_v37 main_v38 main_v39 main_v40 main_v41 main_v5145 main_v5146 main_v5150 main_v5155 main_v5156 main_v5159 main_v5161

def fn_part243 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v5092 : IVec S32x1024 1) (main_v5101 : IVec S32 1) (main_v5115 : IVec S32x1024 1) (main_v5116 : FVec F S32x1024 .f32) (main_v5117 : IVec S32x1024 1) (main_v5119 : IVec S32x1024 1) : IVec S32x32x32 1 :=
  let main_v5120 : IVec S32x1024 1 := andi main_v5092 main_v5119
  let main_v5121 : IVec S32x1024 1 := ori main_v5120 main_v5115
  let main_v5122 : FVec F S32x1024 .f32 := addf main_v5116 main_v34
  let main_v5123 : FVec F S32x1024 .f32 := select main_v5121 main_v5122 main_v38
  let main_cst_710 : FVec F S_ .f32 := constant S_ .f32 0x7F800000#32
  let main_v5124 : FVec F S32 .f32 := (fun x v => Host.reduce FloatOps.minimumf x v reducesTo_S32x1024_S32_d1 h_S_) main_v5123 main_cst_710
  let main_v5125 : FVec F S32x1024 .f32 := broadcastInDim S32x1024 ![0] bcast_S32_S32x1024_0 main_v5124
  let main_v5126 : IVec S32x1024 1 := cmpf .oeq main_v5123 main_v5125
  let main_v5127 : IVec S32x1024 32 := (extui 32 · natLt_1_32) main_v5126
  let main_c_711 : IVec S_ 32 := constantI S_ 32 0#32
  let main_v5128 : IVec S32 32 := (fun x v => Host.reduce IntOp.addi x v reducesTo_S32x1024_S32_d1 h_S_) main_v5127 main_c_711
  let main_v5129 : IVec S32 1 := cmpi .eq main_v5128 main_v41
  let main_v5130 : IVec S32 1 := andi main_v5101 main_v5129
  let main_v5131 : FVec F S32x1024 .f32 := addf main_v5116 main_v0
  let main_v5132 : FVec F S32x1024 .f32 := select main_v5126 main_v5131 main_v39
  let main_cst_712 : FVec F S_ .f32 := constant S_ .f32 0x00000000#32
  let main_v5133 : FVec F S32 .f32 := (fun x v => Host.reduceAdd x v reducesTo_S32x1024_S32_d1 h_S_) main_v5132 main_cst_712
  let main_v5134 : FVec F S32x1024 .f32 := broadcastInDim S32x1024 ![0] bcast_S32_S32x1024_0 main_v5133
  let main_v5135 : IVec S32x32x32 32 := shapeCast S32x32x32 main_v5127 shapeCasts_S32x1024_S32x32x32
  let main_c_713 : IVec S_ 32 := constantI S_ 32 2147483648#32
  let main_v5136 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v5135 main_c_713
  let main_v5137 : IVec S32x1024 32 := shapeCast S32x1024 main_v5136 shapeCasts_S32x32x32_S32x1024
  let main_v5138 : IVec S32x1024 1 := cmpi .sgt main_v5137 main_v40
  let main_v5139 : IVec S32x1024 1 := ori main_v5121 main_v5117
  fn_part244 (F := F) main_arg0 main_arg1 main_arg2 main_v0 main_v34 main_v37 main_v38 main_v39 main_v40 main_v41 main_v5116 main_v5117 main_v5121 main_v5126 main_v5130 main_v5134 main_v5138 main_v5139

def fn_part242 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v5072 : IVec S32 1) (main_v5087 : FVec F S32x1024 .f32) (main_v5088 : IVec S32x1024 1) (main_v5092 : IVec S32x1024 1) (main_v5097 : IVec S32x1024 1) (main_v5098 : IVec S32x1024 32) : IVec S32x32x32 1 :=
  let main_c_707 : IVec S_ 32 := constantI S_ 32 0#32
  let main_v5099 : IVec S32 32 := (fun x v => Host.reduce IntOp.addi x v reducesTo_S32x1024_S32_d1 h_S_) main_v5098 main_c_707
  let main_v5100 : IVec S32 1 := cmpi .eq main_v5099 main_v41
  let main_v5101 : IVec S32 1 := andi main_v5072 main_v5100
  let main_v5102 : FVec F S32x1024 .f32 := addf main_v5087 main_v0
  let main_v5103 : FVec F S32x1024 .f32 := select main_v5097 main_v5102 main_v39
  let main_cst_708 : FVec F S_ .f32 := constant S_ .f32 0x00000000#32
  let main_v5104 : FVec F S32 .f32 := (fun x v => Host.reduceAdd x v reducesTo_S32x1024_S32_d1 h_S_) main_v5103 main_cst_708
  let main_v5105 : FVec F S32x1024 .f32 := broadcastInDim S32x1024 ![0] bcast_S32_S32x1024_0 main_v5104
  let main_v5106 : IVec S32x32x32 32 := shapeCast S32x32x32 main_v5098 shapeCasts_S32x1024_S32x32x32
  let main_c_709 : IVec S_ 32 := constantI S_ 32 2147483648#32
  let main_v5107 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v5106 main_c_709
  let main_v5108 : IVec S32x1024 32 := shapeCast S32x1024 main_v5107 shapeCasts_S32x32x32_S32x1024
  let main_v5109 : IVec S32x1024 1 := cmpi .sgt main_v5108 main_v40
  let main_v5110 : IVec S32x1024 1 := ori main_v5092 main_v5088
  let main_v5111 : IVec S32x1024 1 := noti main_v5110
  let main_v5112 : IVec S32x1024 1 := cmpf .ogt main_v5087 main_v5105
  let main_v5113 : IVec S32x1024 1 := andi main_v5092 main_v5112
  let main_v5114 : IVec S32x1024 1 := ori main_v5111 main_v5113
  let main_v5115 : IVec S32x1024 1 := andi main_v5109 main_v5114
  let main_v5116 : FVec F S32x1024 .f32 := select main_v5115 main_v5105 main_v5087
  let main_v5117 : IVec S32x1024 1 := ori main_v5088 main_v5097
  let main_v5118 : IVec S32x1024 1 := andi main_v5097 main_v37
  let main_v5119 : IVec S32x1024 1 := noti main_v5118
  fn_part243 (F := F) main_arg0 main_arg1 main_arg2 main_v0 main_v34 main_v37 main_v38 main_v39 main_v40 main_v41 main_v5092 main_v5101 main_v5115 main_v5116 main_v5117 main_v5119

def fn_part241 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v5058 : FVec F S32x1024 .f32) (main_v5059 : IVec S32x1024 1) (main_v5063 : IVec S32x1024 1) (main_v5068 : IVec S32x1024 1) (main_v5069 : IVec S32x1024 32) (main_v5072 : IVec S32 1) (main_v5076 : FVec F S32x1024 .f32) : IVec S32x32x32 1 :=
  let main_v5077 : IVec S32x32x32 32 := shapeCast S32x32x32 main_v5069 shapeCasts_S32x1024_S32x32x32
  let main_c_705 : IVec S_ 32 := constantI S_ 32 2147483648#32
  let main_v5078 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v5077 main_c_705
  let main_v5079 : IVec S32x1024 32 := shapeCast S32x1024 main_v5078 shapeCasts_S32x32x32_S32x1024
  let main_v5080 : IVec S32x1024 1 := cmpi .sgt main_v5079 main_v40
  let main_v5081 : IVec S32x1024 1 := ori main_v5063 main_v5059
  let main_v5082 : IVec S32x1024 1 := noti main_v5081
  let main_v5083 : IVec S32x1024 1 := cmpf .ogt main_v5058 main_v5076
  let main_v5084 : IVec S32x1024 1 := andi main_v5063 main_v5083
  let main_v5085 : IVec S32x1024 1 := ori main_v5082 main_v5084
  let main_v5086 : IVec S32x1024 1 := andi main_v5080 main_v5085
  let main_v5087 : FVec F S32x1024 .f32 := select main_v5086 main_v5076 main_v5058
  let main_v5088 : IVec S32x1024 1 := ori main_v5059 main_v5068
  let main_v5089 : IVec S32x1024 1 := andi main_v5068 main_v37
  let main_v5090 : IVec S32x1024 1 := noti main_v5089
  let main_v5091 : IVec S32x1024 1 := andi main_v5063 main_v5090
  let main_v5092 : IVec S32x1024 1 := ori main_v5091 main_v5086
  let main_v5093 : FVec F S32x1024 .f32 := addf main_v5087 main_v34
  let main_v5094 : FVec F S32x1024 .f32 := select main_v5092 main_v5093 main_v38
  let main_cst_706 : FVec F S_ .f32 := constant S_ .f32 0x7F800000#32
  let main_v5095 : FVec F S32 .f32 := (fun x v => Host.reduce FloatOps.minimumf x v reducesTo_S32x1024_S32_d1 h_S_) main_v5094 main_cst_706
  let main_v5096 : FVec F S32x1024 .f32 := broadcastInDim S32x1024 ![0] bcast_S32_S32x1024_0 main_v5095
  let main_v5097 : IVec S32x1024 1 := cmpf .oeq main_v5094 main_v5096
  let main_v5098 : IVec S32x1024 32 := (extui 32 · natLt_1_32) main_v5097
  fn_part242 (F := F) main_arg0 main_arg1 main_arg2 main_v0 main_v34 main_v37 main_v38 main_v39 main_v40 main_v41 main_v5072 main_v5087 main_v5088 main_v5092 main_v5097 main_v5098

def fn_part240 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v5029 : FVec F S32x1024 .f32) (main_v5030 : IVec S32x1024 1) (main_v5034 : IVec S32x1024 1) (main_v5039 : IVec S32x1024 1) (main_v5043 : IVec S32 1) (main_v5047 : FVec F S32x1024 .f32) (main_v5051 : IVec S32x1024 1) (main_v5053 : IVec S32x1024 1) (main_v5055 : IVec S32x1024 1) : IVec S32x32x32 1 :=
  let main_v5056 : IVec S32x1024 1 := ori main_v5053 main_v5055
  let main_v5057 : IVec S32x1024 1 := andi main_v5051 main_v5056
  let main_v5058 : FVec F S32x1024 .f32 := select main_v5057 main_v5047 main_v5029
  let main_v5059 : IVec S32x1024 1 := ori main_v5030 main_v5039
  let main_v5060 : IVec S32x1024 1 := andi main_v5039 main_v37
  let main_v5061 : IVec S32x1024 1 := noti main_v5060
  let main_v5062 : IVec S32x1024 1 := andi main_v5034 main_v5061
  let main_v5063 : IVec S32x1024 1 := ori main_v5062 main_v5057
  let main_v5064 : FVec F S32x1024 .f32 := addf main_v5058 main_v34
  let main_v5065 : FVec F S32x1024 .f32 := select main_v5063 main_v5064 main_v38
  let main_cst_702 : FVec F S_ .f32 := constant S_ .f32 0x7F800000#32
  let main_v5066 : FVec F S32 .f32 := (fun x v => Host.reduce FloatOps.minimumf x v reducesTo_S32x1024_S32_d1 h_S_) main_v5065 main_cst_702
  let main_v5067 : FVec F S32x1024 .f32 := broadcastInDim S32x1024 ![0] bcast_S32_S32x1024_0 main_v5066
  let main_v5068 : IVec S32x1024 1 := cmpf .oeq main_v5065 main_v5067
  let main_v5069 : IVec S32x1024 32 := (extui 32 · natLt_1_32) main_v5068
  let main_c_703 : IVec S_ 32 := constantI S_ 32 0#32
  let main_v5070 : IVec S32 32 := (fun x v => Host.reduce IntOp.addi x v reducesTo_S32x1024_S32_d1 h_S_) main_v5069 main_c_703
  let main_v5071 : IVec S32 1 := cmpi .eq main_v5070 main_v41
  let main_v5072 : IVec S32 1 := andi main_v5043 main_v5071
  let main_v5073 : FVec F S32x1024 .f32 := addf main_v5058 main_v0
  let main_v5074 : FVec F S32x1024 .f32 := select main_v5068 main_v5073 main_v39
  let main_cst_704 : FVec F S_ .f32 := constant S_ .f32 0x00000000#32
  let main_v5075 : FVec F S32 .f32 := (fun x v => Host.reduceAdd x v reducesTo_S32x1024_S32_d1 h_S_) main_v5074 main_cst_704
  let main_v5076 : FVec F S32x1024 .f32 := broadcastInDim S32x1024 ![0] bcast_S32_S32x1024_0 main_v5075
  fn_part241 (F := F) main_arg0 main_arg1 main_arg2 main_v0 main_v34 main_v37 main_v38 main_v39 main_v40 main_v41 main_v5058 main_v5059 main_v5063 main_v5068 main_v5069 main_v5072 main_v5076

def fn_part239 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v5014 : IVec S32 1) (main_v5029 : FVec F S32x1024 .f32) (main_v5030 : IVec S32x1024 1) (main_v5034 : IVec S32x1024 1) (main_v5035 : FVec F S32x1024 .f32) : IVec S32x32x32 1 :=
  let main_v5036 : FVec F S32x1024 .f32 := select main_v5034 main_v5035 main_v38
  let main_cst_698 : FVec F S_ .f32 := constant S_ .f32 0x7F800000#32
  let main_v5037 : FVec F S32 .f32 := (fun x v => Host.reduce FloatOps.minimumf x v reducesTo_S32x1024_S32_d1 h_S_) main_v5036 main_cst_698
  let main_v5038 : FVec F S32x1024 .f32 := broadcastInDim S32x1024 ![0] bcast_S32_S32x1024_0 main_v5037
  let main_v5039 : IVec S32x1024 1 := cmpf .oeq main_v5036 main_v5038
  let main_v5040 : IVec S32x1024 32 := (extui 32 · natLt_1_32) main_v5039
  let main_c_699 : IVec S_ 32 := constantI S_ 32 0#32
  let main_v5041 : IVec S32 32 := (fun x v => Host.reduce IntOp.addi x v reducesTo_S32x1024_S32_d1 h_S_) main_v5040 main_c_699
  let main_v5042 : IVec S32 1 := cmpi .eq main_v5041 main_v41
  let main_v5043 : IVec S32 1 := andi main_v5014 main_v5042
  let main_v5044 : FVec F S32x1024 .f32 := addf main_v5029 main_v0
  let main_v5045 : FVec F S32x1024 .f32 := select main_v5039 main_v5044 main_v39
  let main_cst_700 : FVec F S_ .f32 := constant S_ .f32 0x00000000#32
  let main_v5046 : FVec F S32 .f32 := (fun x v => Host.reduceAdd x v reducesTo_S32x1024_S32_d1 h_S_) main_v5045 main_cst_700
  let main_v5047 : FVec F S32x1024 .f32 := broadcastInDim S32x1024 ![0] bcast_S32_S32x1024_0 main_v5046
  let main_v5048 : IVec S32x32x32 32 := shapeCast S32x32x32 main_v5040 shapeCasts_S32x1024_S32x32x32
  let main_c_701 : IVec S_ 32 := constantI S_ 32 2147483648#32
  let main_v5049 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v5048 main_c_701
  let main_v5050 : IVec S32x1024 32 := shapeCast S32x1024 main_v5049 shapeCasts_S32x32x32_S32x1024
  let main_v5051 : IVec S32x1024 1 := cmpi .sgt main_v5050 main_v40
  let main_v5052 : IVec S32x1024 1 := ori main_v5034 main_v5030
  let main_v5053 : IVec S32x1024 1 := noti main_v5052
  let main_v5054 : IVec S32x1024 1 := cmpf .ogt main_v5029 main_v5047
  let main_v5055 : IVec S32x1024 1 := andi main_v5034 main_v5054
  fn_part240 (F := F) main_arg0 main_arg1 main_arg2 main_v0 main_v34 main_v37 main_v38 main_v39 main_v40 main_v41 main_v5029 main_v5030 main_v5034 main_v5039 main_v5043 main_v5047 main_v5051 main_v5053 main_v5055

def fn_part238 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v4985 : IVec S32 1) (main_v5000 : FVec F S32x1024 .f32) (main_v5001 : IVec S32x1024 1) (main_v5005 : IVec S32x1024 1) (main_v5010 : IVec S32x1024 1) (main_v5011 : IVec S32x1024 32) (main_v5013 : IVec S32 1) : IVec S32x32x32 1 :=
  let main_v5014 : IVec S32 1 := andi main_v4985 main_v5013
  let main_v5015 : FVec F S32x1024 .f32 := addf main_v5000 main_v0
  let main_v5016 : FVec F S32x1024 .f32 := select main_v5010 main_v5015 main_v39
  let main_cst_696 : FVec F S_ .f32 := constant S_ .f32 0x00000000#32
  let main_v5017 : FVec F S32 .f32 := (fun x v => Host.reduceAdd x v reducesTo_S32x1024_S32_d1 h_S_) main_v5016 main_cst_696
  let main_v5018 : FVec F S32x1024 .f32 := broadcastInDim S32x1024 ![0] bcast_S32_S32x1024_0 main_v5017
  let main_v5019 : IVec S32x32x32 32 := shapeCast S32x32x32 main_v5011 shapeCasts_S32x1024_S32x32x32
  let main_c_697 : IVec S_ 32 := constantI S_ 32 2147483648#32
  let main_v5020 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v5019 main_c_697
  let main_v5021 : IVec S32x1024 32 := shapeCast S32x1024 main_v5020 shapeCasts_S32x32x32_S32x1024
  let main_v5022 : IVec S32x1024 1 := cmpi .sgt main_v5021 main_v40
  let main_v5023 : IVec S32x1024 1 := ori main_v5005 main_v5001
  let main_v5024 : IVec S32x1024 1 := noti main_v5023
  let main_v5025 : IVec S32x1024 1 := cmpf .ogt main_v5000 main_v5018
  let main_v5026 : IVec S32x1024 1 := andi main_v5005 main_v5025
  let main_v5027 : IVec S32x1024 1 := ori main_v5024 main_v5026
  let main_v5028 : IVec S32x1024 1 := andi main_v5022 main_v5027
  let main_v5029 : FVec F S32x1024 .f32 := select main_v5028 main_v5018 main_v5000
  let main_v5030 : IVec S32x1024 1 := ori main_v5001 main_v5010
  let main_v5031 : IVec S32x1024 1 := andi main_v5010 main_v37
  let main_v5032 : IVec S32x1024 1 := noti main_v5031
  let main_v5033 : IVec S32x1024 1 := andi main_v5005 main_v5032
  let main_v5034 : IVec S32x1024 1 := ori main_v5033 main_v5028
  let main_v5035 : FVec F S32x1024 .f32 := addf main_v5029 main_v34
  fn_part239 (F := F) main_arg0 main_arg1 main_arg2 main_v0 main_v34 main_v37 main_v38 main_v39 main_v40 main_v41 main_v5014 main_v5029 main_v5030 main_v5034 main_v5035

def fn_part237 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v4971 : FVec F S32x1024 .f32) (main_v4972 : IVec S32x1024 1) (main_v4976 : IVec S32x1024 1) (main_v4981 : IVec S32x1024 1) (main_v4985 : IVec S32 1) (main_v4989 : FVec F S32x1024 .f32) (main_v4991 : IVec S32x32x32 32) : IVec S32x32x32 1 :=
  let main_v4992 : IVec S32x1024 32 := shapeCast S32x1024 main_v4991 shapeCasts_S32x32x32_S32x1024
  let main_v4993 : IVec S32x1024 1 := cmpi .sgt main_v4992 main_v40
  let main_v4994 : IVec S32x1024 1 := ori main_v4976 main_v4972
  let main_v4995 : IVec S32x1024 1 := noti main_v4994
  let main_v4996 : IVec S32x1024 1 := cmpf .ogt main_v4971 main_v4989
  let main_v4997 : IVec S32x1024 1 := andi main_v4976 main_v4996
  let main_v4998 : IVec S32x1024 1 := ori main_v4995 main_v4997
  let main_v4999 : IVec S32x1024 1 := andi main_v4993 main_v4998
  let main_v5000 : FVec F S32x1024 .f32 := select main_v4999 main_v4989 main_v4971
  let main_v5001 : IVec S32x1024 1 := ori main_v4972 main_v4981
  let main_v5002 : IVec S32x1024 1 := andi main_v4981 main_v37
  let main_v5003 : IVec S32x1024 1 := noti main_v5002
  let main_v5004 : IVec S32x1024 1 := andi main_v4976 main_v5003
  let main_v5005 : IVec S32x1024 1 := ori main_v5004 main_v4999
  let main_v5006 : FVec F S32x1024 .f32 := addf main_v5000 main_v34
  let main_v5007 : FVec F S32x1024 .f32 := select main_v5005 main_v5006 main_v38
  let main_cst_694 : FVec F S_ .f32 := constant S_ .f32 0x7F800000#32
  let main_v5008 : FVec F S32 .f32 := (fun x v => Host.reduce FloatOps.minimumf x v reducesTo_S32x1024_S32_d1 h_S_) main_v5007 main_cst_694
  let main_v5009 : FVec F S32x1024 .f32 := broadcastInDim S32x1024 ![0] bcast_S32_S32x1024_0 main_v5008
  let main_v5010 : IVec S32x1024 1 := cmpf .oeq main_v5007 main_v5009
  let main_v5011 : IVec S32x1024 32 := (extui 32 · natLt_1_32) main_v5010
  let main_c_695 : IVec S_ 32 := constantI S_ 32 0#32
  let main_v5012 : IVec S32 32 := (fun x v => Host.reduce IntOp.addi x v reducesTo_S32x1024_S32_d1 h_S_) main_v5011 main_c_695
  let main_v5013 : IVec S32 1 := cmpi .eq main_v5012 main_v41
  fn_part238 (F := F) main_arg0 main_arg1 main_arg2 main_v0 main_v34 main_v37 main_v38 main_v39 main_v40 main_v41 main_v4985 main_v5000 main_v5001 main_v5005 main_v5010 main_v5011 main_v5013

def fn_part236 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v4943 : IVec S32x1024 1) (main_v4947 : IVec S32x1024 1) (main_v4952 : IVec S32x1024 1) (main_v4956 : IVec S32 1) (main_v4970 : IVec S32x1024 1) (main_v4971 : FVec F S32x1024 .f32) : IVec S32x32x32 1 :=
  let main_v4972 : IVec S32x1024 1 := ori main_v4943 main_v4952
  let main_v4973 : IVec S32x1024 1 := andi main_v4952 main_v37
  let main_v4974 : IVec S32x1024 1 := noti main_v4973
  let main_v4975 : IVec S32x1024 1 := andi main_v4947 main_v4974
  let main_v4976 : IVec S32x1024 1 := ori main_v4975 main_v4970
  let main_v4977 : FVec F S32x1024 .f32 := addf main_v4971 main_v34
  let main_v4978 : FVec F S32x1024 .f32 := select main_v4976 main_v4977 main_v38
  let main_cst_690 : FVec F S_ .f32 := constant S_ .f32 0x7F800000#32
  let main_v4979 : FVec F S32 .f32 := (fun x v => Host.reduce FloatOps.minimumf x v reducesTo_S32x1024_S32_d1 h_S_) main_v4978 main_cst_690
  let main_v4980 : FVec F S32x1024 .f32 := broadcastInDim S32x1024 ![0] bcast_S32_S32x1024_0 main_v4979
  let main_v4981 : IVec S32x1024 1 := cmpf .oeq main_v4978 main_v4980
  let main_v4982 : IVec S32x1024 32 := (extui 32 · natLt_1_32) main_v4981
  let main_c_691 : IVec S_ 32 := constantI S_ 32 0#32
  let main_v4983 : IVec S32 32 := (fun x v => Host.reduce IntOp.addi x v reducesTo_S32x1024_S32_d1 h_S_) main_v4982 main_c_691
  let main_v4984 : IVec S32 1 := cmpi .eq main_v4983 main_v41
  let main_v4985 : IVec S32 1 := andi main_v4956 main_v4984
  let main_v4986 : FVec F S32x1024 .f32 := addf main_v4971 main_v0
  let main_v4987 : FVec F S32x1024 .f32 := select main_v4981 main_v4986 main_v39
  let main_cst_692 : FVec F S_ .f32 := constant S_ .f32 0x00000000#32
  let main_v4988 : FVec F S32 .f32 := (fun x v => Host.reduceAdd x v reducesTo_S32x1024_S32_d1 h_S_) main_v4987 main_cst_692
  let main_v4989 : FVec F S32x1024 .f32 := broadcastInDim S32x1024 ![0] bcast_S32_S32x1024_0 main_v4988
  let main_v4990 : IVec S32x32x32 32 := shapeCast S32x32x32 main_v4982 shapeCasts_S32x1024_S32x32x32
  let main_c_693 : IVec S_ 32 := constantI S_ 32 2147483648#32
  let main_v4991 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v4990 main_c_693
  fn_part237 (F := F) main_arg0 main_arg1 main_arg2 main_v0 main_v34 main_v37 main_v38 main_v39 main_v40 main_v41 main_v4971 main_v4972 main_v4976 main_v4981 main_v4985 main_v4989 main_v4991

def fn_part235 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v4927 : IVec S32 1) (main_v4942 : FVec F S32x1024 .f32) (main_v4943 : IVec S32x1024 1) (main_v4947 : IVec S32x1024 1) (main_v4949 : FVec F S32x1024 .f32) (main_v4950 : FVec F S32 .f32) : IVec S32x32x32 1 :=
  let main_v4951 : FVec F S32x1024 .f32 := broadcastInDim S32x1024 ![0] bcast_S32_S32x1024_0 main_v4950
  let main_v4952 : IVec S32x1024 1 := cmpf .oeq main_v4949 main_v4951
  let main_v4953 : IVec S32x1024 32 := (extui 32 · natLt_1_32) main_v4952
  let main_c_687 : IVec S_ 32 := constantI S_ 32 0#32
  let main_v4954 : IVec S32 32 := (fun x v => Host.reduce IntOp.addi x v reducesTo_S32x1024_S32_d1 h_S_) main_v4953 main_c_687
  let main_v4955 : IVec S32 1 := cmpi .eq main_v4954 main_v41
  let main_v4956 : IVec S32 1 := andi main_v4927 main_v4955
  let main_v4957 : FVec F S32x1024 .f32 := addf main_v4942 main_v0
  let main_v4958 : FVec F S32x1024 .f32 := select main_v4952 main_v4957 main_v39
  let main_cst_688 : FVec F S_ .f32 := constant S_ .f32 0x00000000#32
  let main_v4959 : FVec F S32 .f32 := (fun x v => Host.reduceAdd x v reducesTo_S32x1024_S32_d1 h_S_) main_v4958 main_cst_688
  let main_v4960 : FVec F S32x1024 .f32 := broadcastInDim S32x1024 ![0] bcast_S32_S32x1024_0 main_v4959
  let main_v4961 : IVec S32x32x32 32 := shapeCast S32x32x32 main_v4953 shapeCasts_S32x1024_S32x32x32
  let main_c_689 : IVec S_ 32 := constantI S_ 32 2147483648#32
  let main_v4962 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v4961 main_c_689
  let main_v4963 : IVec S32x1024 32 := shapeCast S32x1024 main_v4962 shapeCasts_S32x32x32_S32x1024
  let main_v4964 : IVec S32x1024 1 := cmpi .sgt main_v4963 main_v40
  let main_v4965 : IVec S32x1024 1 := ori main_v4947 main_v4943
  let main_v4966 : IVec S32x1024 1 := noti main_v4965
  let main_v4967 : IVec S32x1024 1 := cmpf .ogt main_v4942 main_v4960
  let main_v4968 : IVec S32x1024 1 := andi main_v4947 main_v4967
  let main_v4969 : IVec S32x1024 1 := ori main_v4966 main_v4968
  let main_v4970 : IVec S32x1024 1 := andi main_v4964 main_v4969
  let main_v4971 : FVec F S32x1024 .f32 := select main_v4970 main_v4960 main_v4942
  fn_part236 (F := F) main_arg0 main_arg1 main_arg2 main_v0 main_v34 main_v37 main_v38 main_v39 main_v40 main_v41 main_v4943 main_v4947 main_v4952 main_v4956 main_v4970 main_v4971

def fn_part234 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v4913 : FVec F S32x1024 .f32) (main_v4914 : IVec S32x1024 1) (main_v4918 : IVec S32x1024 1) (main_v4923 : IVec S32x1024 1) (main_v4924 : IVec S32x1024 32) (main_v4927 : IVec S32 1) (main_v4929 : FVec F S32x1024 .f32) : IVec S32x32x32 1 :=
  let main_cst_684 : FVec F S_ .f32 := constant S_ .f32 0x00000000#32
  let main_v4930 : FVec F S32 .f32 := (fun x v => Host.reduceAdd x v reducesTo_S32x1024_S32_d1 h_S_) main_v4929 main_cst_684
  let main_v4931 : FVec F S32x1024 .f32 := broadcastInDim S32x1024 ![0] bcast_S32_S32x1024_0 main_v4930
  let main_v4932 : IVec S32x32x32 32 := shapeCast S32x32x32 main_v4924 shapeCasts_S32x1024_S32x32x32
  let main_c_685 : IVec S_ 32 := constantI S_ 32 2147483648#32
  let main_v4933 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v4932 main_c_685
  let main_v4934 : IVec S32x1024 32 := shapeCast S32x1024 main_v4933 shapeCasts_S32x32x32_S32x1024
  let main_v4935 : IVec S32x1024 1 := cmpi .sgt main_v4934 main_v40
  let main_v4936 : IVec S32x1024 1 := ori main_v4918 main_v4914
  let main_v4937 : IVec S32x1024 1 := noti main_v4936
  let main_v4938 : IVec S32x1024 1 := cmpf .ogt main_v4913 main_v4931
  let main_v4939 : IVec S32x1024 1 := andi main_v4918 main_v4938
  let main_v4940 : IVec S32x1024 1 := ori main_v4937 main_v4939
  let main_v4941 : IVec S32x1024 1 := andi main_v4935 main_v4940
  let main_v4942 : FVec F S32x1024 .f32 := select main_v4941 main_v4931 main_v4913
  let main_v4943 : IVec S32x1024 1 := ori main_v4914 main_v4923
  let main_v4944 : IVec S32x1024 1 := andi main_v4923 main_v37
  let main_v4945 : IVec S32x1024 1 := noti main_v4944
  let main_v4946 : IVec S32x1024 1 := andi main_v4918 main_v4945
  let main_v4947 : IVec S32x1024 1 := ori main_v4946 main_v4941
  let main_v4948 : FVec F S32x1024 .f32 := addf main_v4942 main_v34
  let main_v4949 : FVec F S32x1024 .f32 := select main_v4947 main_v4948 main_v38
  let main_cst_686 : FVec F S_ .f32 := constant S_ .f32 0x7F800000#32
  let main_v4950 : FVec F S32 .f32 := (fun x v => Host.reduce FloatOps.minimumf x v reducesTo_S32x1024_S32_d1 h_S_) main_v4949 main_cst_686
  fn_part235 (F := F) main_arg0 main_arg1 main_arg2 main_v0 main_v34 main_v37 main_v38 main_v39 main_v40 main_v41 main_v4927 main_v4942 main_v4943 main_v4947 main_v4949 main_v4950

def fn_part233 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v4884 : FVec F S32x1024 .f32) (main_v4885 : IVec S32x1024 1) (main_v4889 : IVec S32x1024 1) (main_v4894 : IVec S32x1024 1) (main_v4898 : IVec S32 1) (main_v4902 : FVec F S32x1024 .f32) (main_v4906 : IVec S32x1024 1) (main_v4907 : IVec S32x1024 1) : IVec S32x32x32 1 :=
  let main_v4908 : IVec S32x1024 1 := noti main_v4907
  let main_v4909 : IVec S32x1024 1 := cmpf .ogt main_v4884 main_v4902
  let main_v4910 : IVec S32x1024 1 := andi main_v4889 main_v4909
  let main_v4911 : IVec S32x1024 1 := ori main_v4908 main_v4910
  let main_v4912 : IVec S32x1024 1 := andi main_v4906 main_v4911
  let main_v4913 : FVec F S32x1024 .f32 := select main_v4912 main_v4902 main_v4884
  let main_v4914 : IVec S32x1024 1 := ori main_v4885 main_v4894
  let main_v4915 : IVec S32x1024 1 := andi main_v4894 main_v37
  let main_v4916 : IVec S32x1024 1 := noti main_v4915
  let main_v4917 : IVec S32x1024 1 := andi main_v4889 main_v4916
  let main_v4918 : IVec S32x1024 1 := ori main_v4917 main_v4912
  let main_v4919 : FVec F S32x1024 .f32 := addf main_v4913 main_v34
  let main_v4920 : FVec F S32x1024 .f32 := select main_v4918 main_v4919 main_v38
  let main_cst_682 : FVec F S_ .f32 := constant S_ .f32 0x7F800000#32
  let main_v4921 : FVec F S32 .f32 := (fun x v => Host.reduce FloatOps.minimumf x v reducesTo_S32x1024_S32_d1 h_S_) main_v4920 main_cst_682
  let main_v4922 : FVec F S32x1024 .f32 := broadcastInDim S32x1024 ![0] bcast_S32_S32x1024_0 main_v4921
  let main_v4923 : IVec S32x1024 1 := cmpf .oeq main_v4920 main_v4922
  let main_v4924 : IVec S32x1024 32 := (extui 32 · natLt_1_32) main_v4923
  let main_c_683 : IVec S_ 32 := constantI S_ 32 0#32
  let main_v4925 : IVec S32 32 := (fun x v => Host.reduce IntOp.addi x v reducesTo_S32x1024_S32_d1 h_S_) main_v4924 main_c_683
  let main_v4926 : IVec S32 1 := cmpi .eq main_v4925 main_v41
  let main_v4927 : IVec S32 1 := andi main_v4898 main_v4926
  let main_v4928 : FVec F S32x1024 .f32 := addf main_v4913 main_v0
  let main_v4929 : FVec F S32x1024 .f32 := select main_v4923 main_v4928 main_v39
  fn_part234 (F := F) main_arg0 main_arg1 main_arg2 main_v0 main_v34 main_v37 main_v38 main_v39 main_v40 main_v41 main_v4913 main_v4914 main_v4918 main_v4923 main_v4924 main_v4927 main_v4929

def fn_part232 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v4860 : IVec S32x1024 1) (main_v4869 : IVec S32 1) (main_v4883 : IVec S32x1024 1) (main_v4884 : FVec F S32x1024 .f32) (main_v4885 : IVec S32x1024 1) (main_v4887 : IVec S32x1024 1) : IVec S32x32x32 1 :=
  let main_v4888 : IVec S32x1024 1 := andi main_v4860 main_v4887
  let main_v4889 : IVec S32x1024 1 := ori main_v4888 main_v4883
  let main_v4890 : FVec F S32x1024 .f32 := addf main_v4884 main_v34
  let main_v4891 : FVec F S32x1024 .f32 := select main_v4889 main_v4890 main_v38
  let main_cst_678 : FVec F S_ .f32 := constant S_ .f32 0x7F800000#32
  let main_v4892 : FVec F S32 .f32 := (fun x v => Host.reduce FloatOps.minimumf x v reducesTo_S32x1024_S32_d1 h_S_) main_v4891 main_cst_678
  let main_v4893 : FVec F S32x1024 .f32 := broadcastInDim S32x1024 ![0] bcast_S32_S32x1024_0 main_v4892
  let main_v4894 : IVec S32x1024 1 := cmpf .oeq main_v4891 main_v4893
  let main_v4895 : IVec S32x1024 32 := (extui 32 · natLt_1_32) main_v4894
  let main_c_679 : IVec S_ 32 := constantI S_ 32 0#32
  let main_v4896 : IVec S32 32 := (fun x v => Host.reduce IntOp.addi x v reducesTo_S32x1024_S32_d1 h_S_) main_v4895 main_c_679
  let main_v4897 : IVec S32 1 := cmpi .eq main_v4896 main_v41
  let main_v4898 : IVec S32 1 := andi main_v4869 main_v4897
  let main_v4899 : FVec F S32x1024 .f32 := addf main_v4884 main_v0
  let main_v4900 : FVec F S32x1024 .f32 := select main_v4894 main_v4899 main_v39
  let main_cst_680 : FVec F S_ .f32 := constant S_ .f32 0x00000000#32
  let main_v4901 : FVec F S32 .f32 := (fun x v => Host.reduceAdd x v reducesTo_S32x1024_S32_d1 h_S_) main_v4900 main_cst_680
  let main_v4902 : FVec F S32x1024 .f32 := broadcastInDim S32x1024 ![0] bcast_S32_S32x1024_0 main_v4901
  let main_v4903 : IVec S32x32x32 32 := shapeCast S32x32x32 main_v4895 shapeCasts_S32x1024_S32x32x32
  let main_c_681 : IVec S_ 32 := constantI S_ 32 2147483648#32
  let main_v4904 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v4903 main_c_681
  let main_v4905 : IVec S32x1024 32 := shapeCast S32x1024 main_v4904 shapeCasts_S32x32x32_S32x1024
  let main_v4906 : IVec S32x1024 1 := cmpi .sgt main_v4905 main_v40
  let main_v4907 : IVec S32x1024 1 := ori main_v4889 main_v4885
  fn_part233 (F := F) main_arg0 main_arg1 main_arg2 main_v0 main_v34 main_v37 main_v38 main_v39 main_v40 main_v41 main_v4884 main_v4885 main_v4889 main_v4894 main_v4898 main_v4902 main_v4906 main_v4907

def fn_part231 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v4840 : IVec S32 1) (main_v4855 : FVec F S32x1024 .f32) (main_v4856 : IVec S32x1024 1) (main_v4860 : IVec S32x1024 1) (main_v4865 : IVec S32x1024 1) (main_v4866 : IVec S32x1024 32) : IVec S32x32x32 1 :=
  let main_c_675 : IVec S_ 32 := constantI S_ 32 0#32
  let main_v4867 : IVec S32 32 := (fun x v => Host.reduce IntOp.addi x v reducesTo_S32x1024_S32_d1 h_S_) main_v4866 main_c_675
  let main_v4868 : IVec S32 1 := cmpi .eq main_v4867 main_v41
  let main_v4869 : IVec S32 1 := andi main_v4840 main_v4868
  let main_v4870 : FVec F S32x1024 .f32 := addf main_v4855 main_v0
  let main_v4871 : FVec F S32x1024 .f32 := select main_v4865 main_v4870 main_v39
  let main_cst_676 : FVec F S_ .f32 := constant S_ .f32 0x00000000#32
  let main_v4872 : FVec F S32 .f32 := (fun x v => Host.reduceAdd x v reducesTo_S32x1024_S32_d1 h_S_) main_v4871 main_cst_676
  let main_v4873 : FVec F S32x1024 .f32 := broadcastInDim S32x1024 ![0] bcast_S32_S32x1024_0 main_v4872
  let main_v4874 : IVec S32x32x32 32 := shapeCast S32x32x32 main_v4866 shapeCasts_S32x1024_S32x32x32
  let main_c_677 : IVec S_ 32 := constantI S_ 32 2147483648#32
  let main_v4875 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v4874 main_c_677
  let main_v4876 : IVec S32x1024 32 := shapeCast S32x1024 main_v4875 shapeCasts_S32x32x32_S32x1024
  let main_v4877 : IVec S32x1024 1 := cmpi .sgt main_v4876 main_v40
  let main_v4878 : IVec S32x1024 1 := ori main_v4860 main_v4856
  let main_v4879 : IVec S32x1024 1 := noti main_v4878
  let main_v4880 : IVec S32x1024 1 := cmpf .ogt main_v4855 main_v4873
  let main_v4881 : IVec S32x1024 1 := andi main_v4860 main_v4880
  let main_v4882 : IVec S32x1024 1 := ori main_v4879 main_v4881
  let main_v4883 : IVec S32x1024 1 := andi main_v4877 main_v4882
  let main_v4884 : FVec F S32x1024 .f32 := select main_v4883 main_v4873 main_v4855
  let main_v4885 : IVec S32x1024 1 := ori main_v4856 main_v4865
  let main_v4886 : IVec S32x1024 1 := andi main_v4865 main_v37
  let main_v4887 : IVec S32x1024 1 := noti main_v4886
  fn_part232 (F := F) main_arg0 main_arg1 main_arg2 main_v0 main_v34 main_v37 main_v38 main_v39 main_v40 main_v41 main_v4860 main_v4869 main_v4883 main_v4884 main_v4885 main_v4887

def fn_part230 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v4826 : FVec F S32x1024 .f32) (main_v4827 : IVec S32x1024 1) (main_v4831 : IVec S32x1024 1) (main_v4836 : IVec S32x1024 1) (main_v4837 : IVec S32x1024 32) (main_v4840 : IVec S32 1) (main_v4844 : FVec F S32x1024 .f32) : IVec S32x32x32 1 :=
  let main_v4845 : IVec S32x32x32 32 := shapeCast S32x32x32 main_v4837 shapeCasts_S32x1024_S32x32x32
  let main_c_673 : IVec S_ 32 := constantI S_ 32 2147483648#32
  let main_v4846 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v4845 main_c_673
  let main_v4847 : IVec S32x1024 32 := shapeCast S32x1024 main_v4846 shapeCasts_S32x32x32_S32x1024
  let main_v4848 : IVec S32x1024 1 := cmpi .sgt main_v4847 main_v40
  let main_v4849 : IVec S32x1024 1 := ori main_v4831 main_v4827
  let main_v4850 : IVec S32x1024 1 := noti main_v4849
  let main_v4851 : IVec S32x1024 1 := cmpf .ogt main_v4826 main_v4844
  let main_v4852 : IVec S32x1024 1 := andi main_v4831 main_v4851
  let main_v4853 : IVec S32x1024 1 := ori main_v4850 main_v4852
  let main_v4854 : IVec S32x1024 1 := andi main_v4848 main_v4853
  let main_v4855 : FVec F S32x1024 .f32 := select main_v4854 main_v4844 main_v4826
  let main_v4856 : IVec S32x1024 1 := ori main_v4827 main_v4836
  let main_v4857 : IVec S32x1024 1 := andi main_v4836 main_v37
  let main_v4858 : IVec S32x1024 1 := noti main_v4857
  let main_v4859 : IVec S32x1024 1 := andi main_v4831 main_v4858
  let main_v4860 : IVec S32x1024 1 := ori main_v4859 main_v4854
  let main_v4861 : FVec F S32x1024 .f32 := addf main_v4855 main_v34
  let main_v4862 : FVec F S32x1024 .f32 := select main_v4860 main_v4861 main_v38
  let main_cst_674 : FVec F S_ .f32 := constant S_ .f32 0x7F800000#32
  let main_v4863 : FVec F S32 .f32 := (fun x v => Host.reduce FloatOps.minimumf x v reducesTo_S32x1024_S32_d1 h_S_) main_v4862 main_cst_674
  let main_v4864 : FVec F S32x1024 .f32 := broadcastInDim S32x1024 ![0] bcast_S32_S32x1024_0 main_v4863
  let main_v4865 : IVec S32x1024 1 := cmpf .oeq main_v4862 main_v4864
  let main_v4866 : IVec S32x1024 32 := (extui 32 · natLt_1_32) main_v4865
  fn_part231 (F := F) main_arg0 main_arg1 main_arg2 main_v0 main_v34 main_v37 main_v38 main_v39 main_v40 main_v41 main_v4840 main_v4855 main_v4856 main_v4860 main_v4865 main_v4866

def fn_part229 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v4797 : FVec F S32x1024 .f32) (main_v4798 : IVec S32x1024 1) (main_v4802 : IVec S32x1024 1) (main_v4807 : IVec S32x1024 1) (main_v4811 : IVec S32 1) (main_v4815 : FVec F S32x1024 .f32) (main_v4819 : IVec S32x1024 1) (main_v4821 : IVec S32x1024 1) (main_v4823 : IVec S32x1024 1) : IVec S32x32x32 1 :=
  let main_v4824 : IVec S32x1024 1 := ori main_v4821 main_v4823
  let main_v4825 : IVec S32x1024 1 := andi main_v4819 main_v4824
  let main_v4826 : FVec F S32x1024 .f32 := select main_v4825 main_v4815 main_v4797
  let main_v4827 : IVec S32x1024 1 := ori main_v4798 main_v4807
  let main_v4828 : IVec S32x1024 1 := andi main_v4807 main_v37
  let main_v4829 : IVec S32x1024 1 := noti main_v4828
  let main_v4830 : IVec S32x1024 1 := andi main_v4802 main_v4829
  let main_v4831 : IVec S32x1024 1 := ori main_v4830 main_v4825
  let main_v4832 : FVec F S32x1024 .f32 := addf main_v4826 main_v34
  let main_v4833 : FVec F S32x1024 .f32 := select main_v4831 main_v4832 main_v38
  let main_cst_670 : FVec F S_ .f32 := constant S_ .f32 0x7F800000#32
  let main_v4834 : FVec F S32 .f32 := (fun x v => Host.reduce FloatOps.minimumf x v reducesTo_S32x1024_S32_d1 h_S_) main_v4833 main_cst_670
  let main_v4835 : FVec F S32x1024 .f32 := broadcastInDim S32x1024 ![0] bcast_S32_S32x1024_0 main_v4834
  let main_v4836 : IVec S32x1024 1 := cmpf .oeq main_v4833 main_v4835
  let main_v4837 : IVec S32x1024 32 := (extui 32 · natLt_1_32) main_v4836
  let main_c_671 : IVec S_ 32 := constantI S_ 32 0#32
  let main_v4838 : IVec S32 32 := (fun x v => Host.reduce IntOp.addi x v reducesTo_S32x1024_S32_d1 h_S_) main_v4837 main_c_671
  let main_v4839 : IVec S32 1 := cmpi .eq main_v4838 main_v41
  let main_v4840 : IVec S32 1 := andi main_v4811 main_v4839
  let main_v4841 : FVec F S32x1024 .f32 := addf main_v4826 main_v0
  let main_v4842 : FVec F S32x1024 .f32 := select main_v4836 main_v4841 main_v39
  let main_cst_672 : FVec F S_ .f32 := constant S_ .f32 0x00000000#32
  let main_v4843 : FVec F S32 .f32 := (fun x v => Host.reduceAdd x v reducesTo_S32x1024_S32_d1 h_S_) main_v4842 main_cst_672
  let main_v4844 : FVec F S32x1024 .f32 := broadcastInDim S32x1024 ![0] bcast_S32_S32x1024_0 main_v4843
  fn_part230 (F := F) main_arg0 main_arg1 main_arg2 main_v0 main_v34 main_v37 main_v38 main_v39 main_v40 main_v41 main_v4826 main_v4827 main_v4831 main_v4836 main_v4837 main_v4840 main_v4844

def fn_part228 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v4782 : IVec S32 1) (main_v4797 : FVec F S32x1024 .f32) (main_v4798 : IVec S32x1024 1) (main_v4802 : IVec S32x1024 1) (main_v4803 : FVec F S32x1024 .f32) : IVec S32x32x32 1 :=
  let main_v4804 : FVec F S32x1024 .f32 := select main_v4802 main_v4803 main_v38
  let main_cst_666 : FVec F S_ .f32 := constant S_ .f32 0x7F800000#32
  let main_v4805 : FVec F S32 .f32 := (fun x v => Host.reduce FloatOps.minimumf x v reducesTo_S32x1024_S32_d1 h_S_) main_v4804 main_cst_666
  let main_v4806 : FVec F S32x1024 .f32 := broadcastInDim S32x1024 ![0] bcast_S32_S32x1024_0 main_v4805
  let main_v4807 : IVec S32x1024 1 := cmpf .oeq main_v4804 main_v4806
  let main_v4808 : IVec S32x1024 32 := (extui 32 · natLt_1_32) main_v4807
  let main_c_667 : IVec S_ 32 := constantI S_ 32 0#32
  let main_v4809 : IVec S32 32 := (fun x v => Host.reduce IntOp.addi x v reducesTo_S32x1024_S32_d1 h_S_) main_v4808 main_c_667
  let main_v4810 : IVec S32 1 := cmpi .eq main_v4809 main_v41
  let main_v4811 : IVec S32 1 := andi main_v4782 main_v4810
  let main_v4812 : FVec F S32x1024 .f32 := addf main_v4797 main_v0
  let main_v4813 : FVec F S32x1024 .f32 := select main_v4807 main_v4812 main_v39
  let main_cst_668 : FVec F S_ .f32 := constant S_ .f32 0x00000000#32
  let main_v4814 : FVec F S32 .f32 := (fun x v => Host.reduceAdd x v reducesTo_S32x1024_S32_d1 h_S_) main_v4813 main_cst_668
  let main_v4815 : FVec F S32x1024 .f32 := broadcastInDim S32x1024 ![0] bcast_S32_S32x1024_0 main_v4814
  let main_v4816 : IVec S32x32x32 32 := shapeCast S32x32x32 main_v4808 shapeCasts_S32x1024_S32x32x32
  let main_c_669 : IVec S_ 32 := constantI S_ 32 2147483648#32
  let main_v4817 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v4816 main_c_669
  let main_v4818 : IVec S32x1024 32 := shapeCast S32x1024 main_v4817 shapeCasts_S32x32x32_S32x1024
  let main_v4819 : IVec S32x1024 1 := cmpi .sgt main_v4818 main_v40
  let main_v4820 : IVec S32x1024 1 := ori main_v4802 main_v4798
  let main_v4821 : IVec S32x1024 1 := noti main_v4820
  let main_v4822 : IVec S32x1024 1 := cmpf .ogt main_v4797 main_v4815
  let main_v4823 : IVec S32x1024 1 := andi main_v4802 main_v4822
  fn_part229 (F := F) main_arg0 main_arg1 main_arg2 main_v0 main_v34 main_v37 main_v38 main_v39 main_v40 main_v41 main_v4797 main_v4798 main_v4802 main_v4807 main_v4811 main_v4815 main_v4819 main_v4821 main_v4823

def fn_part227 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v4753 : IVec S32 1) (main_v4768 : FVec F S32x1024 .f32) (main_v4769 : IVec S32x1024 1) (main_v4773 : IVec S32x1024 1) (main_v4778 : IVec S32x1024 1) (main_v4779 : IVec S32x1024 32) (main_v4781 : IVec S32 1) : IVec S32x32x32 1 :=
  let main_v4782 : IVec S32 1 := andi main_v4753 main_v4781
  let main_v4783 : FVec F S32x1024 .f32 := addf main_v4768 main_v0
  let main_v4784 : FVec F S32x1024 .f32 := select main_v4778 main_v4783 main_v39
  let main_cst_664 : FVec F S_ .f32 := constant S_ .f32 0x00000000#32
  let main_v4785 : FVec F S32 .f32 := (fun x v => Host.reduceAdd x v reducesTo_S32x1024_S32_d1 h_S_) main_v4784 main_cst_664
  let main_v4786 : FVec F S32x1024 .f32 := broadcastInDim S32x1024 ![0] bcast_S32_S32x1024_0 main_v4785
  let main_v4787 : IVec S32x32x32 32 := shapeCast S32x32x32 main_v4779 shapeCasts_S32x1024_S32x32x32
  let main_c_665 : IVec S_ 32 := constantI S_ 32 2147483648#32
  let main_v4788 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v4787 main_c_665
  let main_v4789 : IVec S32x1024 32 := shapeCast S32x1024 main_v4788 shapeCasts_S32x32x32_S32x1024
  let main_v4790 : IVec S32x1024 1 := cmpi .sgt main_v4789 main_v40
  let main_v4791 : IVec S32x1024 1 := ori main_v4773 main_v4769
  let main_v4792 : IVec S32x1024 1 := noti main_v4791
  let main_v4793 : IVec S32x1024 1 := cmpf .ogt main_v4768 main_v4786
  let main_v4794 : IVec S32x1024 1 := andi main_v4773 main_v4793
  let main_v4795 : IVec S32x1024 1 := ori main_v4792 main_v4794
  let main_v4796 : IVec S32x1024 1 := andi main_v4790 main_v4795
  let main_v4797 : FVec F S32x1024 .f32 := select main_v4796 main_v4786 main_v4768
  let main_v4798 : IVec S32x1024 1 := ori main_v4769 main_v4778
  let main_v4799 : IVec S32x1024 1 := andi main_v4778 main_v37
  let main_v4800 : IVec S32x1024 1 := noti main_v4799
  let main_v4801 : IVec S32x1024 1 := andi main_v4773 main_v4800
  let main_v4802 : IVec S32x1024 1 := ori main_v4801 main_v4796
  let main_v4803 : FVec F S32x1024 .f32 := addf main_v4797 main_v34
  fn_part228 (F := F) main_arg0 main_arg1 main_arg2 main_v0 main_v34 main_v37 main_v38 main_v39 main_v40 main_v41 main_v4782 main_v4797 main_v4798 main_v4802 main_v4803

def fn_part226 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v4739 : FVec F S32x1024 .f32) (main_v4740 : IVec S32x1024 1) (main_v4744 : IVec S32x1024 1) (main_v4749 : IVec S32x1024 1) (main_v4753 : IVec S32 1) (main_v4757 : FVec F S32x1024 .f32) (main_v4759 : IVec S32x32x32 32) : IVec S32x32x32 1 :=
  let main_v4760 : IVec S32x1024 32 := shapeCast S32x1024 main_v4759 shapeCasts_S32x32x32_S32x1024
  let main_v4761 : IVec S32x1024 1 := cmpi .sgt main_v4760 main_v40
  let main_v4762 : IVec S32x1024 1 := ori main_v4744 main_v4740
  let main_v4763 : IVec S32x1024 1 := noti main_v4762
  let main_v4764 : IVec S32x1024 1 := cmpf .ogt main_v4739 main_v4757
  let main_v4765 : IVec S32x1024 1 := andi main_v4744 main_v4764
  let main_v4766 : IVec S32x1024 1 := ori main_v4763 main_v4765
  let main_v4767 : IVec S32x1024 1 := andi main_v4761 main_v4766
  let main_v4768 : FVec F S32x1024 .f32 := select main_v4767 main_v4757 main_v4739
  let main_v4769 : IVec S32x1024 1 := ori main_v4740 main_v4749
  let main_v4770 : IVec S32x1024 1 := andi main_v4749 main_v37
  let main_v4771 : IVec S32x1024 1 := noti main_v4770
  let main_v4772 : IVec S32x1024 1 := andi main_v4744 main_v4771
  let main_v4773 : IVec S32x1024 1 := ori main_v4772 main_v4767
  let main_v4774 : FVec F S32x1024 .f32 := addf main_v4768 main_v34
  let main_v4775 : FVec F S32x1024 .f32 := select main_v4773 main_v4774 main_v38
  let main_cst_662 : FVec F S_ .f32 := constant S_ .f32 0x7F800000#32
  let main_v4776 : FVec F S32 .f32 := (fun x v => Host.reduce FloatOps.minimumf x v reducesTo_S32x1024_S32_d1 h_S_) main_v4775 main_cst_662
  let main_v4777 : FVec F S32x1024 .f32 := broadcastInDim S32x1024 ![0] bcast_S32_S32x1024_0 main_v4776
  let main_v4778 : IVec S32x1024 1 := cmpf .oeq main_v4775 main_v4777
  let main_v4779 : IVec S32x1024 32 := (extui 32 · natLt_1_32) main_v4778
  let main_c_663 : IVec S_ 32 := constantI S_ 32 0#32
  let main_v4780 : IVec S32 32 := (fun x v => Host.reduce IntOp.addi x v reducesTo_S32x1024_S32_d1 h_S_) main_v4779 main_c_663
  let main_v4781 : IVec S32 1 := cmpi .eq main_v4780 main_v41
  fn_part227 (F := F) main_arg0 main_arg1 main_arg2 main_v0 main_v34 main_v37 main_v38 main_v39 main_v40 main_v41 main_v4753 main_v4768 main_v4769 main_v4773 main_v4778 main_v4779 main_v4781

def fn_part225 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v4711 : IVec S32x1024 1) (main_v4715 : IVec S32x1024 1) (main_v4720 : IVec S32x1024 1) (main_v4724 : IVec S32 1) (main_v4738 : IVec S32x1024 1) (main_v4739 : FVec F S32x1024 .f32) : IVec S32x32x32 1 :=
  let main_v4740 : IVec S32x1024 1 := ori main_v4711 main_v4720
  let main_v4741 : IVec S32x1024 1 := andi main_v4720 main_v37
  let main_v4742 : IVec S32x1024 1 := noti main_v4741
  let main_v4743 : IVec S32x1024 1 := andi main_v4715 main_v4742
  let main_v4744 : IVec S32x1024 1 := ori main_v4743 main_v4738
  let main_v4745 : FVec F S32x1024 .f32 := addf main_v4739 main_v34
  let main_v4746 : FVec F S32x1024 .f32 := select main_v4744 main_v4745 main_v38
  let main_cst_658 : FVec F S_ .f32 := constant S_ .f32 0x7F800000#32
  let main_v4747 : FVec F S32 .f32 := (fun x v => Host.reduce FloatOps.minimumf x v reducesTo_S32x1024_S32_d1 h_S_) main_v4746 main_cst_658
  let main_v4748 : FVec F S32x1024 .f32 := broadcastInDim S32x1024 ![0] bcast_S32_S32x1024_0 main_v4747
  let main_v4749 : IVec S32x1024 1 := cmpf .oeq main_v4746 main_v4748
  let main_v4750 : IVec S32x1024 32 := (extui 32 · natLt_1_32) main_v4749
  let main_c_659 : IVec S_ 32 := constantI S_ 32 0#32
  let main_v4751 : IVec S32 32 := (fun x v => Host.reduce IntOp.addi x v reducesTo_S32x1024_S32_d1 h_S_) main_v4750 main_c_659
  let main_v4752 : IVec S32 1 := cmpi .eq main_v4751 main_v41
  let main_v4753 : IVec S32 1 := andi main_v4724 main_v4752
  let main_v4754 : FVec F S32x1024 .f32 := addf main_v4739 main_v0
  let main_v4755 : FVec F S32x1024 .f32 := select main_v4749 main_v4754 main_v39
  let main_cst_660 : FVec F S_ .f32 := constant S_ .f32 0x00000000#32
  let main_v4756 : FVec F S32 .f32 := (fun x v => Host.reduceAdd x v reducesTo_S32x1024_S32_d1 h_S_) main_v4755 main_cst_660
  let main_v4757 : FVec F S32x1024 .f32 := broadcastInDim S32x1024 ![0] bcast_S32_S32x1024_0 main_v4756
  let main_v4758 : IVec S32x32x32 32 := shapeCast S32x32x32 main_v4750 shapeCasts_S32x1024_S32x32x32
  let main_c_661 : IVec S_ 32 := constantI S_ 32 2147483648#32
  let main_v4759 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v4758 main_c_661
  fn_part226 (F := F) main_arg0 main_arg1 main_arg2 main_v0 main_v34 main_v37 main_v38 main_v39 main_v40 main_v41 main_v4739 main_v4740 main_v4744 main_v4749 main_v4753 main_v4757 main_v4759

def fn_part224 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v4695 : IVec S32 1) (main_v4710 : FVec F S32x1024 .f32) (main_v4711 : IVec S32x1024 1) (main_v4715 : IVec S32x1024 1) (main_v4717 : FVec F S32x1024 .f32) (main_v4718 : FVec F S32 .f32) : IVec S32x32x32 1 :=
  let main_v4719 : FVec F S32x1024 .f32 := broadcastInDim S32x1024 ![0] bcast_S32_S32x1024_0 main_v4718
  let main_v4720 : IVec S32x1024 1 := cmpf .oeq main_v4717 main_v4719
  let main_v4721 : IVec S32x1024 32 := (extui 32 · natLt_1_32) main_v4720
  let main_c_655 : IVec S_ 32 := constantI S_ 32 0#32
  let main_v4722 : IVec S32 32 := (fun x v => Host.reduce IntOp.addi x v reducesTo_S32x1024_S32_d1 h_S_) main_v4721 main_c_655
  let main_v4723 : IVec S32 1 := cmpi .eq main_v4722 main_v41
  let main_v4724 : IVec S32 1 := andi main_v4695 main_v4723
  let main_v4725 : FVec F S32x1024 .f32 := addf main_v4710 main_v0
  let main_v4726 : FVec F S32x1024 .f32 := select main_v4720 main_v4725 main_v39
  let main_cst_656 : FVec F S_ .f32 := constant S_ .f32 0x00000000#32
  let main_v4727 : FVec F S32 .f32 := (fun x v => Host.reduceAdd x v reducesTo_S32x1024_S32_d1 h_S_) main_v4726 main_cst_656
  let main_v4728 : FVec F S32x1024 .f32 := broadcastInDim S32x1024 ![0] bcast_S32_S32x1024_0 main_v4727
  let main_v4729 : IVec S32x32x32 32 := shapeCast S32x32x32 main_v4721 shapeCasts_S32x1024_S32x32x32
  let main_c_657 : IVec S_ 32 := constantI S_ 32 2147483648#32
  let main_v4730 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v4729 main_c_657
  let main_v4731 : IVec S32x1024 32 := shapeCast S32x1024 main_v4730 shapeCasts_S32x32x32_S32x1024
  let main_v4732 : IVec S32x1024 1 := cmpi .sgt main_v4731 main_v40
  let main_v4733 : IVec S32x1024 1 := ori main_v4715 main_v4711
  let main_v4734 : IVec S32x1024 1 := noti main_v4733
  let main_v4735 : IVec S32x1024 1 := cmpf .ogt main_v4710 main_v4728
  let main_v4736 : IVec S32x1024 1 := andi main_v4715 main_v4735
  let main_v4737 : IVec S32x1024 1 := ori main_v4734 main_v4736
  let main_v4738 : IVec S32x1024 1 := andi main_v4732 main_v4737
  let main_v4739 : FVec F S32x1024 .f32 := select main_v4738 main_v4728 main_v4710
  fn_part225 (F := F) main_arg0 main_arg1 main_arg2 main_v0 main_v34 main_v37 main_v38 main_v39 main_v40 main_v41 main_v4711 main_v4715 main_v4720 main_v4724 main_v4738 main_v4739

def fn_part223 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v4681 : FVec F S32x1024 .f32) (main_v4682 : IVec S32x1024 1) (main_v4686 : IVec S32x1024 1) (main_v4691 : IVec S32x1024 1) (main_v4692 : IVec S32x1024 32) (main_v4695 : IVec S32 1) (main_v4697 : FVec F S32x1024 .f32) : IVec S32x32x32 1 :=
  let main_cst_652 : FVec F S_ .f32 := constant S_ .f32 0x00000000#32
  let main_v4698 : FVec F S32 .f32 := (fun x v => Host.reduceAdd x v reducesTo_S32x1024_S32_d1 h_S_) main_v4697 main_cst_652
  let main_v4699 : FVec F S32x1024 .f32 := broadcastInDim S32x1024 ![0] bcast_S32_S32x1024_0 main_v4698
  let main_v4700 : IVec S32x32x32 32 := shapeCast S32x32x32 main_v4692 shapeCasts_S32x1024_S32x32x32
  let main_c_653 : IVec S_ 32 := constantI S_ 32 2147483648#32
  let main_v4701 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v4700 main_c_653
  let main_v4702 : IVec S32x1024 32 := shapeCast S32x1024 main_v4701 shapeCasts_S32x32x32_S32x1024
  let main_v4703 : IVec S32x1024 1 := cmpi .sgt main_v4702 main_v40
  let main_v4704 : IVec S32x1024 1 := ori main_v4686 main_v4682
  let main_v4705 : IVec S32x1024 1 := noti main_v4704
  let main_v4706 : IVec S32x1024 1 := cmpf .ogt main_v4681 main_v4699
  let main_v4707 : IVec S32x1024 1 := andi main_v4686 main_v4706
  let main_v4708 : IVec S32x1024 1 := ori main_v4705 main_v4707
  let main_v4709 : IVec S32x1024 1 := andi main_v4703 main_v4708
  let main_v4710 : FVec F S32x1024 .f32 := select main_v4709 main_v4699 main_v4681
  let main_v4711 : IVec S32x1024 1 := ori main_v4682 main_v4691
  let main_v4712 : IVec S32x1024 1 := andi main_v4691 main_v37
  let main_v4713 : IVec S32x1024 1 := noti main_v4712
  let main_v4714 : IVec S32x1024 1 := andi main_v4686 main_v4713
  let main_v4715 : IVec S32x1024 1 := ori main_v4714 main_v4709
  let main_v4716 : FVec F S32x1024 .f32 := addf main_v4710 main_v34
  let main_v4717 : FVec F S32x1024 .f32 := select main_v4715 main_v4716 main_v38
  let main_cst_654 : FVec F S_ .f32 := constant S_ .f32 0x7F800000#32
  let main_v4718 : FVec F S32 .f32 := (fun x v => Host.reduce FloatOps.minimumf x v reducesTo_S32x1024_S32_d1 h_S_) main_v4717 main_cst_654
  fn_part224 (F := F) main_arg0 main_arg1 main_arg2 main_v0 main_v34 main_v37 main_v38 main_v39 main_v40 main_v41 main_v4695 main_v4710 main_v4711 main_v4715 main_v4717 main_v4718

def fn_part222 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v4652 : FVec F S32x1024 .f32) (main_v4653 : IVec S32x1024 1) (main_v4657 : IVec S32x1024 1) (main_v4662 : IVec S32x1024 1) (main_v4666 : IVec S32 1) (main_v4670 : FVec F S32x1024 .f32) (main_v4674 : IVec S32x1024 1) (main_v4675 : IVec S32x1024 1) : IVec S32x32x32 1 :=
  let main_v4676 : IVec S32x1024 1 := noti main_v4675
  let main_v4677 : IVec S32x1024 1 := cmpf .ogt main_v4652 main_v4670
  let main_v4678 : IVec S32x1024 1 := andi main_v4657 main_v4677
  let main_v4679 : IVec S32x1024 1 := ori main_v4676 main_v4678
  let main_v4680 : IVec S32x1024 1 := andi main_v4674 main_v4679
  let main_v4681 : FVec F S32x1024 .f32 := select main_v4680 main_v4670 main_v4652
  let main_v4682 : IVec S32x1024 1 := ori main_v4653 main_v4662
  let main_v4683 : IVec S32x1024 1 := andi main_v4662 main_v37
  let main_v4684 : IVec S32x1024 1 := noti main_v4683
  let main_v4685 : IVec S32x1024 1 := andi main_v4657 main_v4684
  let main_v4686 : IVec S32x1024 1 := ori main_v4685 main_v4680
  let main_v4687 : FVec F S32x1024 .f32 := addf main_v4681 main_v34
  let main_v4688 : FVec F S32x1024 .f32 := select main_v4686 main_v4687 main_v38
  let main_cst_650 : FVec F S_ .f32 := constant S_ .f32 0x7F800000#32
  let main_v4689 : FVec F S32 .f32 := (fun x v => Host.reduce FloatOps.minimumf x v reducesTo_S32x1024_S32_d1 h_S_) main_v4688 main_cst_650
  let main_v4690 : FVec F S32x1024 .f32 := broadcastInDim S32x1024 ![0] bcast_S32_S32x1024_0 main_v4689
  let main_v4691 : IVec S32x1024 1 := cmpf .oeq main_v4688 main_v4690
  let main_v4692 : IVec S32x1024 32 := (extui 32 · natLt_1_32) main_v4691
  let main_c_651 : IVec S_ 32 := constantI S_ 32 0#32
  let main_v4693 : IVec S32 32 := (fun x v => Host.reduce IntOp.addi x v reducesTo_S32x1024_S32_d1 h_S_) main_v4692 main_c_651
  let main_v4694 : IVec S32 1 := cmpi .eq main_v4693 main_v41
  let main_v4695 : IVec S32 1 := andi main_v4666 main_v4694
  let main_v4696 : FVec F S32x1024 .f32 := addf main_v4681 main_v0
  let main_v4697 : FVec F S32x1024 .f32 := select main_v4691 main_v4696 main_v39
  fn_part223 (F := F) main_arg0 main_arg1 main_arg2 main_v0 main_v34 main_v37 main_v38 main_v39 main_v40 main_v41 main_v4681 main_v4682 main_v4686 main_v4691 main_v4692 main_v4695 main_v4697

def fn_part221 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v4628 : IVec S32x1024 1) (main_v4637 : IVec S32 1) (main_v4651 : IVec S32x1024 1) (main_v4652 : FVec F S32x1024 .f32) (main_v4653 : IVec S32x1024 1) (main_v4655 : IVec S32x1024 1) : IVec S32x32x32 1 :=
  let main_v4656 : IVec S32x1024 1 := andi main_v4628 main_v4655
  let main_v4657 : IVec S32x1024 1 := ori main_v4656 main_v4651
  let main_v4658 : FVec F S32x1024 .f32 := addf main_v4652 main_v34
  let main_v4659 : FVec F S32x1024 .f32 := select main_v4657 main_v4658 main_v38
  let main_cst_646 : FVec F S_ .f32 := constant S_ .f32 0x7F800000#32
  let main_v4660 : FVec F S32 .f32 := (fun x v => Host.reduce FloatOps.minimumf x v reducesTo_S32x1024_S32_d1 h_S_) main_v4659 main_cst_646
  let main_v4661 : FVec F S32x1024 .f32 := broadcastInDim S32x1024 ![0] bcast_S32_S32x1024_0 main_v4660
  let main_v4662 : IVec S32x1024 1 := cmpf .oeq main_v4659 main_v4661
  let main_v4663 : IVec S32x1024 32 := (extui 32 · natLt_1_32) main_v4662
  let main_c_647 : IVec S_ 32 := constantI S_ 32 0#32
  let main_v4664 : IVec S32 32 := (fun x v => Host.reduce IntOp.addi x v reducesTo_S32x1024_S32_d1 h_S_) main_v4663 main_c_647
  let main_v4665 : IVec S32 1 := cmpi .eq main_v4664 main_v41
  let main_v4666 : IVec S32 1 := andi main_v4637 main_v4665
  let main_v4667 : FVec F S32x1024 .f32 := addf main_v4652 main_v0
  let main_v4668 : FVec F S32x1024 .f32 := select main_v4662 main_v4667 main_v39
  let main_cst_648 : FVec F S_ .f32 := constant S_ .f32 0x00000000#32
  let main_v4669 : FVec F S32 .f32 := (fun x v => Host.reduceAdd x v reducesTo_S32x1024_S32_d1 h_S_) main_v4668 main_cst_648
  let main_v4670 : FVec F S32x1024 .f32 := broadcastInDim S32x1024 ![0] bcast_S32_S32x1024_0 main_v4669
  let main_v4671 : IVec S32x32x32 32 := shapeCast S32x32x32 main_v4663 shapeCasts_S32x1024_S32x32x32
  let main_c_649 : IVec S_ 32 := constantI S_ 32 2147483648#32
  let main_v4672 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v4671 main_c_649
  let main_v4673 : IVec S32x1024 32 := shapeCast S32x1024 main_v4672 shapeCasts_S32x32x32_S32x1024
  let main_v4674 : IVec S32x1024 1 := cmpi .sgt main_v4673 main_v40
  let main_v4675 : IVec S32x1024 1 := ori main_v4657 main_v4653
  fn_part222 (F := F) main_arg0 main_arg1 main_arg2 main_v0 main_v34 main_v37 main_v38 main_v39 main_v40 main_v41 main_v4652 main_v4653 main_v4657 main_v4662 main_v4666 main_v4670 main_v4674 main_v4675

def fn_part220 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v4608 : IVec S32 1) (main_v4623 : FVec F S32x1024 .f32) (main_v4624 : IVec S32x1024 1) (main_v4628 : IVec S32x1024 1) (main_v4633 : IVec S32x1024 1) (main_v4634 : IVec S32x1024 32) : IVec S32x32x32 1 :=
  let main_c_643 : IVec S_ 32 := constantI S_ 32 0#32
  let main_v4635 : IVec S32 32 := (fun x v => Host.reduce IntOp.addi x v reducesTo_S32x1024_S32_d1 h_S_) main_v4634 main_c_643
  let main_v4636 : IVec S32 1 := cmpi .eq main_v4635 main_v41
  let main_v4637 : IVec S32 1 := andi main_v4608 main_v4636
  let main_v4638 : FVec F S32x1024 .f32 := addf main_v4623 main_v0
  let main_v4639 : FVec F S32x1024 .f32 := select main_v4633 main_v4638 main_v39
  let main_cst_644 : FVec F S_ .f32 := constant S_ .f32 0x00000000#32
  let main_v4640 : FVec F S32 .f32 := (fun x v => Host.reduceAdd x v reducesTo_S32x1024_S32_d1 h_S_) main_v4639 main_cst_644
  let main_v4641 : FVec F S32x1024 .f32 := broadcastInDim S32x1024 ![0] bcast_S32_S32x1024_0 main_v4640
  let main_v4642 : IVec S32x32x32 32 := shapeCast S32x32x32 main_v4634 shapeCasts_S32x1024_S32x32x32
  let main_c_645 : IVec S_ 32 := constantI S_ 32 2147483648#32
  let main_v4643 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v4642 main_c_645
  let main_v4644 : IVec S32x1024 32 := shapeCast S32x1024 main_v4643 shapeCasts_S32x32x32_S32x1024
  let main_v4645 : IVec S32x1024 1 := cmpi .sgt main_v4644 main_v40
  let main_v4646 : IVec S32x1024 1 := ori main_v4628 main_v4624
  let main_v4647 : IVec S32x1024 1 := noti main_v4646
  let main_v4648 : IVec S32x1024 1 := cmpf .ogt main_v4623 main_v4641
  let main_v4649 : IVec S32x1024 1 := andi main_v4628 main_v4648
  let main_v4650 : IVec S32x1024 1 := ori main_v4647 main_v4649
  let main_v4651 : IVec S32x1024 1 := andi main_v4645 main_v4650
  let main_v4652 : FVec F S32x1024 .f32 := select main_v4651 main_v4641 main_v4623
  let main_v4653 : IVec S32x1024 1 := ori main_v4624 main_v4633
  let main_v4654 : IVec S32x1024 1 := andi main_v4633 main_v37
  let main_v4655 : IVec S32x1024 1 := noti main_v4654
  fn_part221 (F := F) main_arg0 main_arg1 main_arg2 main_v0 main_v34 main_v37 main_v38 main_v39 main_v40 main_v41 main_v4628 main_v4637 main_v4651 main_v4652 main_v4653 main_v4655

def fn_part219 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v4594 : FVec F S32x1024 .f32) (main_v4595 : IVec S32x1024 1) (main_v4599 : IVec S32x1024 1) (main_v4604 : IVec S32x1024 1) (main_v4605 : IVec S32x1024 32) (main_v4608 : IVec S32 1) (main_v4612 : FVec F S32x1024 .f32) : IVec S32x32x32 1 :=
  let main_v4613 : IVec S32x32x32 32 := shapeCast S32x32x32 main_v4605 shapeCasts_S32x1024_S32x32x32
  let main_c_641 : IVec S_ 32 := constantI S_ 32 2147483648#32
  let main_v4614 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v4613 main_c_641
  let main_v4615 : IVec S32x1024 32 := shapeCast S32x1024 main_v4614 shapeCasts_S32x32x32_S32x1024
  let main_v4616 : IVec S32x1024 1 := cmpi .sgt main_v4615 main_v40
  let main_v4617 : IVec S32x1024 1 := ori main_v4599 main_v4595
  let main_v4618 : IVec S32x1024 1 := noti main_v4617
  let main_v4619 : IVec S32x1024 1 := cmpf .ogt main_v4594 main_v4612
  let main_v4620 : IVec S32x1024 1 := andi main_v4599 main_v4619
  let main_v4621 : IVec S32x1024 1 := ori main_v4618 main_v4620
  let main_v4622 : IVec S32x1024 1 := andi main_v4616 main_v4621
  let main_v4623 : FVec F S32x1024 .f32 := select main_v4622 main_v4612 main_v4594
  let main_v4624 : IVec S32x1024 1 := ori main_v4595 main_v4604
  let main_v4625 : IVec S32x1024 1 := andi main_v4604 main_v37
  let main_v4626 : IVec S32x1024 1 := noti main_v4625
  let main_v4627 : IVec S32x1024 1 := andi main_v4599 main_v4626
  let main_v4628 : IVec S32x1024 1 := ori main_v4627 main_v4622
  let main_v4629 : FVec F S32x1024 .f32 := addf main_v4623 main_v34
  let main_v4630 : FVec F S32x1024 .f32 := select main_v4628 main_v4629 main_v38
  let main_cst_642 : FVec F S_ .f32 := constant S_ .f32 0x7F800000#32
  let main_v4631 : FVec F S32 .f32 := (fun x v => Host.reduce FloatOps.minimumf x v reducesTo_S32x1024_S32_d1 h_S_) main_v4630 main_cst_642
  let main_v4632 : FVec F S32x1024 .f32 := broadcastInDim S32x1024 ![0] bcast_S32_S32x1024_0 main_v4631
  let main_v4633 : IVec S32x1024 1 := cmpf .oeq main_v4630 main_v4632
  let main_v4634 : IVec S32x1024 32 := (extui 32 · natLt_1_32) main_v4633
  fn_part220 (F := F) main_arg0 main_arg1 main_arg2 main_v0 main_v34 main_v37 main_v38 main_v39 main_v40 main_v41 main_v4608 main_v4623 main_v4624 main_v4628 main_v4633 main_v4634

def fn_part218 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v4565 : FVec F S32x1024 .f32) (main_v4566 : IVec S32x1024 1) (main_v4570 : IVec S32x1024 1) (main_v4575 : IVec S32x1024 1) (main_v4579 : IVec S32 1) (main_v4583 : FVec F S32x1024 .f32) (main_v4587 : IVec S32x1024 1) (main_v4589 : IVec S32x1024 1) (main_v4591 : IVec S32x1024 1) : IVec S32x32x32 1 :=
  let main_v4592 : IVec S32x1024 1 := ori main_v4589 main_v4591
  let main_v4593 : IVec S32x1024 1 := andi main_v4587 main_v4592
  let main_v4594 : FVec F S32x1024 .f32 := select main_v4593 main_v4583 main_v4565
  let main_v4595 : IVec S32x1024 1 := ori main_v4566 main_v4575
  let main_v4596 : IVec S32x1024 1 := andi main_v4575 main_v37
  let main_v4597 : IVec S32x1024 1 := noti main_v4596
  let main_v4598 : IVec S32x1024 1 := andi main_v4570 main_v4597
  let main_v4599 : IVec S32x1024 1 := ori main_v4598 main_v4593
  let main_v4600 : FVec F S32x1024 .f32 := addf main_v4594 main_v34
  let main_v4601 : FVec F S32x1024 .f32 := select main_v4599 main_v4600 main_v38
  let main_cst_638 : FVec F S_ .f32 := constant S_ .f32 0x7F800000#32
  let main_v4602 : FVec F S32 .f32 := (fun x v => Host.reduce FloatOps.minimumf x v reducesTo_S32x1024_S32_d1 h_S_) main_v4601 main_cst_638
  let main_v4603 : FVec F S32x1024 .f32 := broadcastInDim S32x1024 ![0] bcast_S32_S32x1024_0 main_v4602
  let main_v4604 : IVec S32x1024 1 := cmpf .oeq main_v4601 main_v4603
  let main_v4605 : IVec S32x1024 32 := (extui 32 · natLt_1_32) main_v4604
  let main_c_639 : IVec S_ 32 := constantI S_ 32 0#32
  let main_v4606 : IVec S32 32 := (fun x v => Host.reduce IntOp.addi x v reducesTo_S32x1024_S32_d1 h_S_) main_v4605 main_c_639
  let main_v4607 : IVec S32 1 := cmpi .eq main_v4606 main_v41
  let main_v4608 : IVec S32 1 := andi main_v4579 main_v4607
  let main_v4609 : FVec F S32x1024 .f32 := addf main_v4594 main_v0
  let main_v4610 : FVec F S32x1024 .f32 := select main_v4604 main_v4609 main_v39
  let main_cst_640 : FVec F S_ .f32 := constant S_ .f32 0x00000000#32
  let main_v4611 : FVec F S32 .f32 := (fun x v => Host.reduceAdd x v reducesTo_S32x1024_S32_d1 h_S_) main_v4610 main_cst_640
  let main_v4612 : FVec F S32x1024 .f32 := broadcastInDim S32x1024 ![0] bcast_S32_S32x1024_0 main_v4611
  fn_part219 (F := F) main_arg0 main_arg1 main_arg2 main_v0 main_v34 main_v37 main_v38 main_v39 main_v40 main_v41 main_v4594 main_v4595 main_v4599 main_v4604 main_v4605 main_v4608 main_v4612

def fn_part217 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v4550 : IVec S32 1) (main_v4565 : FVec F S32x1024 .f32) (main_v4566 : IVec S32x1024 1) (main_v4570 : IVec S32x1024 1) (main_v4571 : FVec F S32x1024 .f32) : IVec S32x32x32 1 :=
  let main_v4572 : FVec F S32x1024 .f32 := select main_v4570 main_v4571 main_v38
  let main_cst_634 : FVec F S_ .f32 := constant S_ .f32 0x7F800000#32
  let main_v4573 : FVec F S32 .f32 := (fun x v => Host.reduce FloatOps.minimumf x v reducesTo_S32x1024_S32_d1 h_S_) main_v4572 main_cst_634
  let main_v4574 : FVec F S32x1024 .f32 := broadcastInDim S32x1024 ![0] bcast_S32_S32x1024_0 main_v4573
  let main_v4575 : IVec S32x1024 1 := cmpf .oeq main_v4572 main_v4574
  let main_v4576 : IVec S32x1024 32 := (extui 32 · natLt_1_32) main_v4575
  let main_c_635 : IVec S_ 32 := constantI S_ 32 0#32
  let main_v4577 : IVec S32 32 := (fun x v => Host.reduce IntOp.addi x v reducesTo_S32x1024_S32_d1 h_S_) main_v4576 main_c_635
  let main_v4578 : IVec S32 1 := cmpi .eq main_v4577 main_v41
  let main_v4579 : IVec S32 1 := andi main_v4550 main_v4578
  let main_v4580 : FVec F S32x1024 .f32 := addf main_v4565 main_v0
  let main_v4581 : FVec F S32x1024 .f32 := select main_v4575 main_v4580 main_v39
  let main_cst_636 : FVec F S_ .f32 := constant S_ .f32 0x00000000#32
  let main_v4582 : FVec F S32 .f32 := (fun x v => Host.reduceAdd x v reducesTo_S32x1024_S32_d1 h_S_) main_v4581 main_cst_636
  let main_v4583 : FVec F S32x1024 .f32 := broadcastInDim S32x1024 ![0] bcast_S32_S32x1024_0 main_v4582
  let main_v4584 : IVec S32x32x32 32 := shapeCast S32x32x32 main_v4576 shapeCasts_S32x1024_S32x32x32
  let main_c_637 : IVec S_ 32 := constantI S_ 32 2147483648#32
  let main_v4585 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v4584 main_c_637
  let main_v4586 : IVec S32x1024 32 := shapeCast S32x1024 main_v4585 shapeCasts_S32x32x32_S32x1024
  let main_v4587 : IVec S32x1024 1 := cmpi .sgt main_v4586 main_v40
  let main_v4588 : IVec S32x1024 1 := ori main_v4570 main_v4566
  let main_v4589 : IVec S32x1024 1 := noti main_v4588
  let main_v4590 : IVec S32x1024 1 := cmpf .ogt main_v4565 main_v4583
  let main_v4591 : IVec S32x1024 1 := andi main_v4570 main_v4590
  fn_part218 (F := F) main_arg0 main_arg1 main_arg2 main_v0 main_v34 main_v37 main_v38 main_v39 main_v40 main_v41 main_v4565 main_v4566 main_v4570 main_v4575 main_v4579 main_v4583 main_v4587 main_v4589 main_v4591

def fn_part216 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v4521 : IVec S32 1) (main_v4536 : FVec F S32x1024 .f32) (main_v4537 : IVec S32x1024 1) (main_v4541 : IVec S32x1024 1) (main_v4546 : IVec S32x1024 1) (main_v4547 : IVec S32x1024 32) (main_v4549 : IVec S32 1) : IVec S32x32x32 1 :=
  let main_v4550 : IVec S32 1 := andi main_v4521 main_v4549
  let main_v4551 : FVec F S32x1024 .f32 := addf main_v4536 main_v0
  let main_v4552 : FVec F S32x1024 .f32 := select main_v4546 main_v4551 main_v39
  let main_cst_632 : FVec F S_ .f32 := constant S_ .f32 0x00000000#32
  let main_v4553 : FVec F S32 .f32 := (fun x v => Host.reduceAdd x v reducesTo_S32x1024_S32_d1 h_S_) main_v4552 main_cst_632
  let main_v4554 : FVec F S32x1024 .f32 := broadcastInDim S32x1024 ![0] bcast_S32_S32x1024_0 main_v4553
  let main_v4555 : IVec S32x32x32 32 := shapeCast S32x32x32 main_v4547 shapeCasts_S32x1024_S32x32x32
  let main_c_633 : IVec S_ 32 := constantI S_ 32 2147483648#32
  let main_v4556 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v4555 main_c_633
  let main_v4557 : IVec S32x1024 32 := shapeCast S32x1024 main_v4556 shapeCasts_S32x32x32_S32x1024
  let main_v4558 : IVec S32x1024 1 := cmpi .sgt main_v4557 main_v40
  let main_v4559 : IVec S32x1024 1 := ori main_v4541 main_v4537
  let main_v4560 : IVec S32x1024 1 := noti main_v4559
  let main_v4561 : IVec S32x1024 1 := cmpf .ogt main_v4536 main_v4554
  let main_v4562 : IVec S32x1024 1 := andi main_v4541 main_v4561
  let main_v4563 : IVec S32x1024 1 := ori main_v4560 main_v4562
  let main_v4564 : IVec S32x1024 1 := andi main_v4558 main_v4563
  let main_v4565 : FVec F S32x1024 .f32 := select main_v4564 main_v4554 main_v4536
  let main_v4566 : IVec S32x1024 1 := ori main_v4537 main_v4546
  let main_v4567 : IVec S32x1024 1 := andi main_v4546 main_v37
  let main_v4568 : IVec S32x1024 1 := noti main_v4567
  let main_v4569 : IVec S32x1024 1 := andi main_v4541 main_v4568
  let main_v4570 : IVec S32x1024 1 := ori main_v4569 main_v4564
  let main_v4571 : FVec F S32x1024 .f32 := addf main_v4565 main_v34
  fn_part217 (F := F) main_arg0 main_arg1 main_arg2 main_v0 main_v34 main_v37 main_v38 main_v39 main_v40 main_v41 main_v4550 main_v4565 main_v4566 main_v4570 main_v4571

def fn_part215 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v4507 : FVec F S32x1024 .f32) (main_v4508 : IVec S32x1024 1) (main_v4512 : IVec S32x1024 1) (main_v4517 : IVec S32x1024 1) (main_v4521 : IVec S32 1) (main_v4525 : FVec F S32x1024 .f32) (main_v4527 : IVec S32x32x32 32) : IVec S32x32x32 1 :=
  let main_v4528 : IVec S32x1024 32 := shapeCast S32x1024 main_v4527 shapeCasts_S32x32x32_S32x1024
  let main_v4529 : IVec S32x1024 1 := cmpi .sgt main_v4528 main_v40
  let main_v4530 : IVec S32x1024 1 := ori main_v4512 main_v4508
  let main_v4531 : IVec S32x1024 1 := noti main_v4530
  let main_v4532 : IVec S32x1024 1 := cmpf .ogt main_v4507 main_v4525
  let main_v4533 : IVec S32x1024 1 := andi main_v4512 main_v4532
  let main_v4534 : IVec S32x1024 1 := ori main_v4531 main_v4533
  let main_v4535 : IVec S32x1024 1 := andi main_v4529 main_v4534
  let main_v4536 : FVec F S32x1024 .f32 := select main_v4535 main_v4525 main_v4507
  let main_v4537 : IVec S32x1024 1 := ori main_v4508 main_v4517
  let main_v4538 : IVec S32x1024 1 := andi main_v4517 main_v37
  let main_v4539 : IVec S32x1024 1 := noti main_v4538
  let main_v4540 : IVec S32x1024 1 := andi main_v4512 main_v4539
  let main_v4541 : IVec S32x1024 1 := ori main_v4540 main_v4535
  let main_v4542 : FVec F S32x1024 .f32 := addf main_v4536 main_v34
  let main_v4543 : FVec F S32x1024 .f32 := select main_v4541 main_v4542 main_v38
  let main_cst_630 : FVec F S_ .f32 := constant S_ .f32 0x7F800000#32
  let main_v4544 : FVec F S32 .f32 := (fun x v => Host.reduce FloatOps.minimumf x v reducesTo_S32x1024_S32_d1 h_S_) main_v4543 main_cst_630
  let main_v4545 : FVec F S32x1024 .f32 := broadcastInDim S32x1024 ![0] bcast_S32_S32x1024_0 main_v4544
  let main_v4546 : IVec S32x1024 1 := cmpf .oeq main_v4543 main_v4545
  let main_v4547 : IVec S32x1024 32 := (extui 32 · natLt_1_32) main_v4546
  let main_c_631 : IVec S_ 32 := constantI S_ 32 0#32
  let main_v4548 : IVec S32 32 := (fun x v => Host.reduce IntOp.addi x v reducesTo_S32x1024_S32_d1 h_S_) main_v4547 main_c_631
  let main_v4549 : IVec S32 1 := cmpi .eq main_v4548 main_v41
  fn_part216 (F := F) main_arg0 main_arg1 main_arg2 main_v0 main_v34 main_v37 main_v38 main_v39 main_v40 main_v41 main_v4521 main_v4536 main_v4537 main_v4541 main_v4546 main_v4547 main_v4549

def fn_part214 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v4479 : IVec S32x1024 1) (main_v4483 : IVec S32x1024 1) (main_v4488 : IVec S32x1024 1) (main_v4492 : IVec S32 1) (main_v4506 : IVec S32x1024 1) (main_v4507 : FVec F S32x1024 .f32) : IVec S32x32x32 1 :=
  let main_v4508 : IVec S32x1024 1 := ori main_v4479 main_v4488
  let main_v4509 : IVec S32x1024 1 := andi main_v4488 main_v37
  let main_v4510 : IVec S32x1024 1 := noti main_v4509
  let main_v4511 : IVec S32x1024 1 := andi main_v4483 main_v4510
  let main_v4512 : IVec S32x1024 1 := ori main_v4511 main_v4506
  let main_v4513 : FVec F S32x1024 .f32 := addf main_v4507 main_v34
  let main_v4514 : FVec F S32x1024 .f32 := select main_v4512 main_v4513 main_v38
  let main_cst_626 : FVec F S_ .f32 := constant S_ .f32 0x7F800000#32
  let main_v4515 : FVec F S32 .f32 := (fun x v => Host.reduce FloatOps.minimumf x v reducesTo_S32x1024_S32_d1 h_S_) main_v4514 main_cst_626
  let main_v4516 : FVec F S32x1024 .f32 := broadcastInDim S32x1024 ![0] bcast_S32_S32x1024_0 main_v4515
  let main_v4517 : IVec S32x1024 1 := cmpf .oeq main_v4514 main_v4516
  let main_v4518 : IVec S32x1024 32 := (extui 32 · natLt_1_32) main_v4517
  let main_c_627 : IVec S_ 32 := constantI S_ 32 0#32
  let main_v4519 : IVec S32 32 := (fun x v => Host.reduce IntOp.addi x v reducesTo_S32x1024_S32_d1 h_S_) main_v4518 main_c_627
  let main_v4520 : IVec S32 1 := cmpi .eq main_v4519 main_v41
  let main_v4521 : IVec S32 1 := andi main_v4492 main_v4520
  let main_v4522 : FVec F S32x1024 .f32 := addf main_v4507 main_v0
  let main_v4523 : FVec F S32x1024 .f32 := select main_v4517 main_v4522 main_v39
  let main_cst_628 : FVec F S_ .f32 := constant S_ .f32 0x00000000#32
  let main_v4524 : FVec F S32 .f32 := (fun x v => Host.reduceAdd x v reducesTo_S32x1024_S32_d1 h_S_) main_v4523 main_cst_628
  let main_v4525 : FVec F S32x1024 .f32 := broadcastInDim S32x1024 ![0] bcast_S32_S32x1024_0 main_v4524
  let main_v4526 : IVec S32x32x32 32 := shapeCast S32x32x32 main_v4518 shapeCasts_S32x1024_S32x32x32
  let main_c_629 : IVec S_ 32 := constantI S_ 32 2147483648#32
  let main_v4527 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v4526 main_c_629
  fn_part215 (F := F) main_arg0 main_arg1 main_arg2 main_v0 main_v34 main_v37 main_v38 main_v39 main_v40 main_v41 main_v4507 main_v4508 main_v4512 main_v4517 main_v4521 main_v4525 main_v4527

def fn_part213 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v4463 : IVec S32 1) (main_v4478 : FVec F S32x1024 .f32) (main_v4479 : IVec S32x1024 1) (main_v4483 : IVec S32x1024 1) (main_v4485 : FVec F S32x1024 .f32) (main_v4486 : FVec F S32 .f32) : IVec S32x32x32 1 :=
  let main_v4487 : FVec F S32x1024 .f32 := broadcastInDim S32x1024 ![0] bcast_S32_S32x1024_0 main_v4486
  let main_v4488 : IVec S32x1024 1 := cmpf .oeq main_v4485 main_v4487
  let main_v4489 : IVec S32x1024 32 := (extui 32 · natLt_1_32) main_v4488
  let main_c_623 : IVec S_ 32 := constantI S_ 32 0#32
  let main_v4490 : IVec S32 32 := (fun x v => Host.reduce IntOp.addi x v reducesTo_S32x1024_S32_d1 h_S_) main_v4489 main_c_623
  let main_v4491 : IVec S32 1 := cmpi .eq main_v4490 main_v41
  let main_v4492 : IVec S32 1 := andi main_v4463 main_v4491
  let main_v4493 : FVec F S32x1024 .f32 := addf main_v4478 main_v0
  let main_v4494 : FVec F S32x1024 .f32 := select main_v4488 main_v4493 main_v39
  let main_cst_624 : FVec F S_ .f32 := constant S_ .f32 0x00000000#32
  let main_v4495 : FVec F S32 .f32 := (fun x v => Host.reduceAdd x v reducesTo_S32x1024_S32_d1 h_S_) main_v4494 main_cst_624
  let main_v4496 : FVec F S32x1024 .f32 := broadcastInDim S32x1024 ![0] bcast_S32_S32x1024_0 main_v4495
  let main_v4497 : IVec S32x32x32 32 := shapeCast S32x32x32 main_v4489 shapeCasts_S32x1024_S32x32x32
  let main_c_625 : IVec S_ 32 := constantI S_ 32 2147483648#32
  let main_v4498 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v4497 main_c_625
  let main_v4499 : IVec S32x1024 32 := shapeCast S32x1024 main_v4498 shapeCasts_S32x32x32_S32x1024
  let main_v4500 : IVec S32x1024 1 := cmpi .sgt main_v4499 main_v40
  let main_v4501 : IVec S32x1024 1 := ori main_v4483 main_v4479
  let main_v4502 : IVec S32x1024 1 := noti main_v4501
  let main_v4503 : IVec S32x1024 1 := cmpf .ogt main_v4478 main_v4496
  let main_v4504 : IVec S32x1024 1 := andi main_v4483 main_v4503
  let main_v4505 : IVec S32x1024 1 := ori main_v4502 main_v4504
  let main_v4506 : IVec S32x1024 1 := andi main_v4500 main_v4505
  let main_v4507 : FVec F S32x1024 .f32 := select main_v4506 main_v4496 main_v4478
  fn_part214 (F := F) main_arg0 main_arg1 main_arg2 main_v0 main_v34 main_v37 main_v38 main_v39 main_v40 main_v41 main_v4479 main_v4483 main_v4488 main_v4492 main_v4506 main_v4507

def fn_part212 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v4449 : FVec F S32x1024 .f32) (main_v4450 : IVec S32x1024 1) (main_v4454 : IVec S32x1024 1) (main_v4459 : IVec S32x1024 1) (main_v4460 : IVec S32x1024 32) (main_v4463 : IVec S32 1) (main_v4465 : FVec F S32x1024 .f32) : IVec S32x32x32 1 :=
  let main_cst_620 : FVec F S_ .f32 := constant S_ .f32 0x00000000#32
  let main_v4466 : FVec F S32 .f32 := (fun x v => Host.reduceAdd x v reducesTo_S32x1024_S32_d1 h_S_) main_v4465 main_cst_620
  let main_v4467 : FVec F S32x1024 .f32 := broadcastInDim S32x1024 ![0] bcast_S32_S32x1024_0 main_v4466
  let main_v4468 : IVec S32x32x32 32 := shapeCast S32x32x32 main_v4460 shapeCasts_S32x1024_S32x32x32
  let main_c_621 : IVec S_ 32 := constantI S_ 32 2147483648#32
  let main_v4469 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v4468 main_c_621
  let main_v4470 : IVec S32x1024 32 := shapeCast S32x1024 main_v4469 shapeCasts_S32x32x32_S32x1024
  let main_v4471 : IVec S32x1024 1 := cmpi .sgt main_v4470 main_v40
  let main_v4472 : IVec S32x1024 1 := ori main_v4454 main_v4450
  let main_v4473 : IVec S32x1024 1 := noti main_v4472
  let main_v4474 : IVec S32x1024 1 := cmpf .ogt main_v4449 main_v4467
  let main_v4475 : IVec S32x1024 1 := andi main_v4454 main_v4474
  let main_v4476 : IVec S32x1024 1 := ori main_v4473 main_v4475
  let main_v4477 : IVec S32x1024 1 := andi main_v4471 main_v4476
  let main_v4478 : FVec F S32x1024 .f32 := select main_v4477 main_v4467 main_v4449
  let main_v4479 : IVec S32x1024 1 := ori main_v4450 main_v4459
  let main_v4480 : IVec S32x1024 1 := andi main_v4459 main_v37
  let main_v4481 : IVec S32x1024 1 := noti main_v4480
  let main_v4482 : IVec S32x1024 1 := andi main_v4454 main_v4481
  let main_v4483 : IVec S32x1024 1 := ori main_v4482 main_v4477
  let main_v4484 : FVec F S32x1024 .f32 := addf main_v4478 main_v34
  let main_v4485 : FVec F S32x1024 .f32 := select main_v4483 main_v4484 main_v38
  let main_cst_622 : FVec F S_ .f32 := constant S_ .f32 0x7F800000#32
  let main_v4486 : FVec F S32 .f32 := (fun x v => Host.reduce FloatOps.minimumf x v reducesTo_S32x1024_S32_d1 h_S_) main_v4485 main_cst_622
  fn_part213 (F := F) main_arg0 main_arg1 main_arg2 main_v0 main_v34 main_v37 main_v38 main_v39 main_v40 main_v41 main_v4463 main_v4478 main_v4479 main_v4483 main_v4485 main_v4486

def fn_part211 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v4420 : FVec F S32x1024 .f32) (main_v4421 : IVec S32x1024 1) (main_v4425 : IVec S32x1024 1) (main_v4430 : IVec S32x1024 1) (main_v4434 : IVec S32 1) (main_v4438 : FVec F S32x1024 .f32) (main_v4442 : IVec S32x1024 1) (main_v4443 : IVec S32x1024 1) : IVec S32x32x32 1 :=
  let main_v4444 : IVec S32x1024 1 := noti main_v4443
  let main_v4445 : IVec S32x1024 1 := cmpf .ogt main_v4420 main_v4438
  let main_v4446 : IVec S32x1024 1 := andi main_v4425 main_v4445
  let main_v4447 : IVec S32x1024 1 := ori main_v4444 main_v4446
  let main_v4448 : IVec S32x1024 1 := andi main_v4442 main_v4447
  let main_v4449 : FVec F S32x1024 .f32 := select main_v4448 main_v4438 main_v4420
  let main_v4450 : IVec S32x1024 1 := ori main_v4421 main_v4430
  let main_v4451 : IVec S32x1024 1 := andi main_v4430 main_v37
  let main_v4452 : IVec S32x1024 1 := noti main_v4451
  let main_v4453 : IVec S32x1024 1 := andi main_v4425 main_v4452
  let main_v4454 : IVec S32x1024 1 := ori main_v4453 main_v4448
  let main_v4455 : FVec F S32x1024 .f32 := addf main_v4449 main_v34
  let main_v4456 : FVec F S32x1024 .f32 := select main_v4454 main_v4455 main_v38
  let main_cst_618 : FVec F S_ .f32 := constant S_ .f32 0x7F800000#32
  let main_v4457 : FVec F S32 .f32 := (fun x v => Host.reduce FloatOps.minimumf x v reducesTo_S32x1024_S32_d1 h_S_) main_v4456 main_cst_618
  let main_v4458 : FVec F S32x1024 .f32 := broadcastInDim S32x1024 ![0] bcast_S32_S32x1024_0 main_v4457
  let main_v4459 : IVec S32x1024 1 := cmpf .oeq main_v4456 main_v4458
  let main_v4460 : IVec S32x1024 32 := (extui 32 · natLt_1_32) main_v4459
  let main_c_619 : IVec S_ 32 := constantI S_ 32 0#32
  let main_v4461 : IVec S32 32 := (fun x v => Host.reduce IntOp.addi x v reducesTo_S32x1024_S32_d1 h_S_) main_v4460 main_c_619
  let main_v4462 : IVec S32 1 := cmpi .eq main_v4461 main_v41
  let main_v4463 : IVec S32 1 := andi main_v4434 main_v4462
  let main_v4464 : FVec F S32x1024 .f32 := addf main_v4449 main_v0
  let main_v4465 : FVec F S32x1024 .f32 := select main_v4459 main_v4464 main_v39
  fn_part212 (F := F) main_arg0 main_arg1 main_arg2 main_v0 main_v34 main_v37 main_v38 main_v39 main_v40 main_v41 main_v4449 main_v4450 main_v4454 main_v4459 main_v4460 main_v4463 main_v4465

def fn_part210 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v4396 : IVec S32x1024 1) (main_v4405 : IVec S32 1) (main_v4419 : IVec S32x1024 1) (main_v4420 : FVec F S32x1024 .f32) (main_v4421 : IVec S32x1024 1) (main_v4423 : IVec S32x1024 1) : IVec S32x32x32 1 :=
  let main_v4424 : IVec S32x1024 1 := andi main_v4396 main_v4423
  let main_v4425 : IVec S32x1024 1 := ori main_v4424 main_v4419
  let main_v4426 : FVec F S32x1024 .f32 := addf main_v4420 main_v34
  let main_v4427 : FVec F S32x1024 .f32 := select main_v4425 main_v4426 main_v38
  let main_cst_614 : FVec F S_ .f32 := constant S_ .f32 0x7F800000#32
  let main_v4428 : FVec F S32 .f32 := (fun x v => Host.reduce FloatOps.minimumf x v reducesTo_S32x1024_S32_d1 h_S_) main_v4427 main_cst_614
  let main_v4429 : FVec F S32x1024 .f32 := broadcastInDim S32x1024 ![0] bcast_S32_S32x1024_0 main_v4428
  let main_v4430 : IVec S32x1024 1 := cmpf .oeq main_v4427 main_v4429
  let main_v4431 : IVec S32x1024 32 := (extui 32 · natLt_1_32) main_v4430
  let main_c_615 : IVec S_ 32 := constantI S_ 32 0#32
  let main_v4432 : IVec S32 32 := (fun x v => Host.reduce IntOp.addi x v reducesTo_S32x1024_S32_d1 h_S_) main_v4431 main_c_615
  let main_v4433 : IVec S32 1 := cmpi .eq main_v4432 main_v41
  let main_v4434 : IVec S32 1 := andi main_v4405 main_v4433
  let main_v4435 : FVec F S32x1024 .f32 := addf main_v4420 main_v0
  let main_v4436 : FVec F S32x1024 .f32 := select main_v4430 main_v4435 main_v39
  let main_cst_616 : FVec F S_ .f32 := constant S_ .f32 0x00000000#32
  let main_v4437 : FVec F S32 .f32 := (fun x v => Host.reduceAdd x v reducesTo_S32x1024_S32_d1 h_S_) main_v4436 main_cst_616
  let main_v4438 : FVec F S32x1024 .f32 := broadcastInDim S32x1024 ![0] bcast_S32_S32x1024_0 main_v4437
  let main_v4439 : IVec S32x32x32 32 := shapeCast S32x32x32 main_v4431 shapeCasts_S32x1024_S32x32x32
  let main_c_617 : IVec S_ 32 := constantI S_ 32 2147483648#32
  let main_v4440 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v4439 main_c_617
  let main_v4441 : IVec S32x1024 32 := shapeCast S32x1024 main_v4440 shapeCasts_S32x32x32_S32x1024
  let main_v4442 : IVec S32x1024 1 := cmpi .sgt main_v4441 main_v40
  let main_v4443 : IVec S32x1024 1 := ori main_v4425 main_v4421
  fn_part211 (F := F) main_arg0 main_arg1 main_arg2 main_v0 main_v34 main_v37 main_v38 main_v39 main_v40 main_v41 main_v4420 main_v4421 main_v4425 main_v4430 main_v4434 main_v4438 main_v4442 main_v4443

def fn_part209 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v4376 : IVec S32 1) (main_v4391 : FVec F S32x1024 .f32) (main_v4392 : IVec S32x1024 1) (main_v4396 : IVec S32x1024 1) (main_v4401 : IVec S32x1024 1) (main_v4402 : IVec S32x1024 32) : IVec S32x32x32 1 :=
  let main_c_611 : IVec S_ 32 := constantI S_ 32 0#32
  let main_v4403 : IVec S32 32 := (fun x v => Host.reduce IntOp.addi x v reducesTo_S32x1024_S32_d1 h_S_) main_v4402 main_c_611
  let main_v4404 : IVec S32 1 := cmpi .eq main_v4403 main_v41
  let main_v4405 : IVec S32 1 := andi main_v4376 main_v4404
  let main_v4406 : FVec F S32x1024 .f32 := addf main_v4391 main_v0
  let main_v4407 : FVec F S32x1024 .f32 := select main_v4401 main_v4406 main_v39
  let main_cst_612 : FVec F S_ .f32 := constant S_ .f32 0x00000000#32
  let main_v4408 : FVec F S32 .f32 := (fun x v => Host.reduceAdd x v reducesTo_S32x1024_S32_d1 h_S_) main_v4407 main_cst_612
  let main_v4409 : FVec F S32x1024 .f32 := broadcastInDim S32x1024 ![0] bcast_S32_S32x1024_0 main_v4408
  let main_v4410 : IVec S32x32x32 32 := shapeCast S32x32x32 main_v4402 shapeCasts_S32x1024_S32x32x32
  let main_c_613 : IVec S_ 32 := constantI S_ 32 2147483648#32
  let main_v4411 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v4410 main_c_613
  let main_v4412 : IVec S32x1024 32 := shapeCast S32x1024 main_v4411 shapeCasts_S32x32x32_S32x1024
  let main_v4413 : IVec S32x1024 1 := cmpi .sgt main_v4412 main_v40
  let main_v4414 : IVec S32x1024 1 := ori main_v4396 main_v4392
  let main_v4415 : IVec S32x1024 1 := noti main_v4414
  let main_v4416 : IVec S32x1024 1 := cmpf .ogt main_v4391 main_v4409
  let main_v4417 : IVec S32x1024 1 := andi main_v4396 main_v4416
  let main_v4418 : IVec S32x1024 1 := ori main_v4415 main_v4417
  let main_v4419 : IVec S32x1024 1 := andi main_v4413 main_v4418
  let main_v4420 : FVec F S32x1024 .f32 := select main_v4419 main_v4409 main_v4391
  let main_v4421 : IVec S32x1024 1 := ori main_v4392 main_v4401
  let main_v4422 : IVec S32x1024 1 := andi main_v4401 main_v37
  let main_v4423 : IVec S32x1024 1 := noti main_v4422
  fn_part210 (F := F) main_arg0 main_arg1 main_arg2 main_v0 main_v34 main_v37 main_v38 main_v39 main_v40 main_v41 main_v4396 main_v4405 main_v4419 main_v4420 main_v4421 main_v4423

def fn_part208 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v4362 : FVec F S32x1024 .f32) (main_v4363 : IVec S32x1024 1) (main_v4367 : IVec S32x1024 1) (main_v4372 : IVec S32x1024 1) (main_v4373 : IVec S32x1024 32) (main_v4376 : IVec S32 1) (main_v4380 : FVec F S32x1024 .f32) : IVec S32x32x32 1 :=
  let main_v4381 : IVec S32x32x32 32 := shapeCast S32x32x32 main_v4373 shapeCasts_S32x1024_S32x32x32
  let main_c_609 : IVec S_ 32 := constantI S_ 32 2147483648#32
  let main_v4382 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v4381 main_c_609
  let main_v4383 : IVec S32x1024 32 := shapeCast S32x1024 main_v4382 shapeCasts_S32x32x32_S32x1024
  let main_v4384 : IVec S32x1024 1 := cmpi .sgt main_v4383 main_v40
  let main_v4385 : IVec S32x1024 1 := ori main_v4367 main_v4363
  let main_v4386 : IVec S32x1024 1 := noti main_v4385
  let main_v4387 : IVec S32x1024 1 := cmpf .ogt main_v4362 main_v4380
  let main_v4388 : IVec S32x1024 1 := andi main_v4367 main_v4387
  let main_v4389 : IVec S32x1024 1 := ori main_v4386 main_v4388
  let main_v4390 : IVec S32x1024 1 := andi main_v4384 main_v4389
  let main_v4391 : FVec F S32x1024 .f32 := select main_v4390 main_v4380 main_v4362
  let main_v4392 : IVec S32x1024 1 := ori main_v4363 main_v4372
  let main_v4393 : IVec S32x1024 1 := andi main_v4372 main_v37
  let main_v4394 : IVec S32x1024 1 := noti main_v4393
  let main_v4395 : IVec S32x1024 1 := andi main_v4367 main_v4394
  let main_v4396 : IVec S32x1024 1 := ori main_v4395 main_v4390
  let main_v4397 : FVec F S32x1024 .f32 := addf main_v4391 main_v34
  let main_v4398 : FVec F S32x1024 .f32 := select main_v4396 main_v4397 main_v38
  let main_cst_610 : FVec F S_ .f32 := constant S_ .f32 0x7F800000#32
  let main_v4399 : FVec F S32 .f32 := (fun x v => Host.reduce FloatOps.minimumf x v reducesTo_S32x1024_S32_d1 h_S_) main_v4398 main_cst_610
  let main_v4400 : FVec F S32x1024 .f32 := broadcastInDim S32x1024 ![0] bcast_S32_S32x1024_0 main_v4399
  let main_v4401 : IVec S32x1024 1 := cmpf .oeq main_v4398 main_v4400
  let main_v4402 : IVec S32x1024 32 := (extui 32 · natLt_1_32) main_v4401
  fn_part209 (F := F) main_arg0 main_arg1 main_arg2 main_v0 main_v34 main_v37 main_v38 main_v39 main_v40 main_v41 main_v4376 main_v4391 main_v4392 main_v4396 main_v4401 main_v4402

def fn_part207 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v4333 : FVec F S32x1024 .f32) (main_v4334 : IVec S32x1024 1) (main_v4338 : IVec S32x1024 1) (main_v4343 : IVec S32x1024 1) (main_v4347 : IVec S32 1) (main_v4351 : FVec F S32x1024 .f32) (main_v4355 : IVec S32x1024 1) (main_v4357 : IVec S32x1024 1) (main_v4359 : IVec S32x1024 1) : IVec S32x32x32 1 :=
  let main_v4360 : IVec S32x1024 1 := ori main_v4357 main_v4359
  let main_v4361 : IVec S32x1024 1 := andi main_v4355 main_v4360
  let main_v4362 : FVec F S32x1024 .f32 := select main_v4361 main_v4351 main_v4333
  let main_v4363 : IVec S32x1024 1 := ori main_v4334 main_v4343
  let main_v4364 : IVec S32x1024 1 := andi main_v4343 main_v37
  let main_v4365 : IVec S32x1024 1 := noti main_v4364
  let main_v4366 : IVec S32x1024 1 := andi main_v4338 main_v4365
  let main_v4367 : IVec S32x1024 1 := ori main_v4366 main_v4361
  let main_v4368 : FVec F S32x1024 .f32 := addf main_v4362 main_v34
  let main_v4369 : FVec F S32x1024 .f32 := select main_v4367 main_v4368 main_v38
  let main_cst_606 : FVec F S_ .f32 := constant S_ .f32 0x7F800000#32
  let main_v4370 : FVec F S32 .f32 := (fun x v => Host.reduce FloatOps.minimumf x v reducesTo_S32x1024_S32_d1 h_S_) main_v4369 main_cst_606
  let main_v4371 : FVec F S32x1024 .f32 := broadcastInDim S32x1024 ![0] bcast_S32_S32x1024_0 main_v4370
  let main_v4372 : IVec S32x1024 1 := cmpf .oeq main_v4369 main_v4371
  let main_v4373 : IVec S32x1024 32 := (extui 32 · natLt_1_32) main_v4372
  let main_c_607 : IVec S_ 32 := constantI S_ 32 0#32
  let main_v4374 : IVec S32 32 := (fun x v => Host.reduce IntOp.addi x v reducesTo_S32x1024_S32_d1 h_S_) main_v4373 main_c_607
  let main_v4375 : IVec S32 1 := cmpi .eq main_v4374 main_v41
  let main_v4376 : IVec S32 1 := andi main_v4347 main_v4375
  let main_v4377 : FVec F S32x1024 .f32 := addf main_v4362 main_v0
  let main_v4378 : FVec F S32x1024 .f32 := select main_v4372 main_v4377 main_v39
  let main_cst_608 : FVec F S_ .f32 := constant S_ .f32 0x00000000#32
  let main_v4379 : FVec F S32 .f32 := (fun x v => Host.reduceAdd x v reducesTo_S32x1024_S32_d1 h_S_) main_v4378 main_cst_608
  let main_v4380 : FVec F S32x1024 .f32 := broadcastInDim S32x1024 ![0] bcast_S32_S32x1024_0 main_v4379
  fn_part208 (F := F) main_arg0 main_arg1 main_arg2 main_v0 main_v34 main_v37 main_v38 main_v39 main_v40 main_v41 main_v4362 main_v4363 main_v4367 main_v4372 main_v4373 main_v4376 main_v4380

def fn_part206 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v4318 : IVec S32 1) (main_v4333 : FVec F S32x1024 .f32) (main_v4334 : IVec S32x1024 1) (main_v4338 : IVec S32x1024 1) (main_v4339 : FVec F S32x1024 .f32) : IVec S32x32x32 1 :=
  let main_v4340 : FVec F S32x1024 .f32 := select main_v4338 main_v4339 main_v38
  let main_cst_602 : FVec F S_ .f32 := constant S_ .f32 0x7F800000#32
  let main_v4341 : FVec F S32 .f32 := (fun x v => Host.reduce FloatOps.minimumf x v reducesTo_S32x1024_S32_d1 h_S_) main_v4340 main_cst_602
  let main_v4342 : FVec F S32x1024 .f32 := broadcastInDim S32x1024 ![0] bcast_S32_S32x1024_0 main_v4341
  let main_v4343 : IVec S32x1024 1 := cmpf .oeq main_v4340 main_v4342
  let main_v4344 : IVec S32x1024 32 := (extui 32 · natLt_1_32) main_v4343
  let main_c_603 : IVec S_ 32 := constantI S_ 32 0#32
  let main_v4345 : IVec S32 32 := (fun x v => Host.reduce IntOp.addi x v reducesTo_S32x1024_S32_d1 h_S_) main_v4344 main_c_603
  let main_v4346 : IVec S32 1 := cmpi .eq main_v4345 main_v41
  let main_v4347 : IVec S32 1 := andi main_v4318 main_v4346
  let main_v4348 : FVec F S32x1024 .f32 := addf main_v4333 main_v0
  let main_v4349 : FVec F S32x1024 .f32 := select main_v4343 main_v4348 main_v39
  let main_cst_604 : FVec F S_ .f32 := constant S_ .f32 0x00000000#32
  let main_v4350 : FVec F S32 .f32 := (fun x v => Host.reduceAdd x v reducesTo_S32x1024_S32_d1 h_S_) main_v4349 main_cst_604
  let main_v4351 : FVec F S32x1024 .f32 := broadcastInDim S32x1024 ![0] bcast_S32_S32x1024_0 main_v4350
  let main_v4352 : IVec S32x32x32 32 := shapeCast S32x32x32 main_v4344 shapeCasts_S32x1024_S32x32x32
  let main_c_605 : IVec S_ 32 := constantI S_ 32 2147483648#32
  let main_v4353 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v4352 main_c_605
  let main_v4354 : IVec S32x1024 32 := shapeCast S32x1024 main_v4353 shapeCasts_S32x32x32_S32x1024
  let main_v4355 : IVec S32x1024 1 := cmpi .sgt main_v4354 main_v40
  let main_v4356 : IVec S32x1024 1 := ori main_v4338 main_v4334
  let main_v4357 : IVec S32x1024 1 := noti main_v4356
  let main_v4358 : IVec S32x1024 1 := cmpf .ogt main_v4333 main_v4351
  let main_v4359 : IVec S32x1024 1 := andi main_v4338 main_v4358
  fn_part207 (F := F) main_arg0 main_arg1 main_arg2 main_v0 main_v34 main_v37 main_v38 main_v39 main_v40 main_v41 main_v4333 main_v4334 main_v4338 main_v4343 main_v4347 main_v4351 main_v4355 main_v4357 main_v4359

def fn_part205 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v4289 : IVec S32 1) (main_v4304 : FVec F S32x1024 .f32) (main_v4305 : IVec S32x1024 1) (main_v4309 : IVec S32x1024 1) (main_v4314 : IVec S32x1024 1) (main_v4315 : IVec S32x1024 32) (main_v4317 : IVec S32 1) : IVec S32x32x32 1 :=
  let main_v4318 : IVec S32 1 := andi main_v4289 main_v4317
  let main_v4319 : FVec F S32x1024 .f32 := addf main_v4304 main_v0
  let main_v4320 : FVec F S32x1024 .f32 := select main_v4314 main_v4319 main_v39
  let main_cst_600 : FVec F S_ .f32 := constant S_ .f32 0x00000000#32
  let main_v4321 : FVec F S32 .f32 := (fun x v => Host.reduceAdd x v reducesTo_S32x1024_S32_d1 h_S_) main_v4320 main_cst_600
  let main_v4322 : FVec F S32x1024 .f32 := broadcastInDim S32x1024 ![0] bcast_S32_S32x1024_0 main_v4321
  let main_v4323 : IVec S32x32x32 32 := shapeCast S32x32x32 main_v4315 shapeCasts_S32x1024_S32x32x32
  let main_c_601 : IVec S_ 32 := constantI S_ 32 2147483648#32
  let main_v4324 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v4323 main_c_601
  let main_v4325 : IVec S32x1024 32 := shapeCast S32x1024 main_v4324 shapeCasts_S32x32x32_S32x1024
  let main_v4326 : IVec S32x1024 1 := cmpi .sgt main_v4325 main_v40
  let main_v4327 : IVec S32x1024 1 := ori main_v4309 main_v4305
  let main_v4328 : IVec S32x1024 1 := noti main_v4327
  let main_v4329 : IVec S32x1024 1 := cmpf .ogt main_v4304 main_v4322
  let main_v4330 : IVec S32x1024 1 := andi main_v4309 main_v4329
  let main_v4331 : IVec S32x1024 1 := ori main_v4328 main_v4330
  let main_v4332 : IVec S32x1024 1 := andi main_v4326 main_v4331
  let main_v4333 : FVec F S32x1024 .f32 := select main_v4332 main_v4322 main_v4304
  let main_v4334 : IVec S32x1024 1 := ori main_v4305 main_v4314
  let main_v4335 : IVec S32x1024 1 := andi main_v4314 main_v37
  let main_v4336 : IVec S32x1024 1 := noti main_v4335
  let main_v4337 : IVec S32x1024 1 := andi main_v4309 main_v4336
  let main_v4338 : IVec S32x1024 1 := ori main_v4337 main_v4332
  let main_v4339 : FVec F S32x1024 .f32 := addf main_v4333 main_v34
  fn_part206 (F := F) main_arg0 main_arg1 main_arg2 main_v0 main_v34 main_v37 main_v38 main_v39 main_v40 main_v41 main_v4318 main_v4333 main_v4334 main_v4338 main_v4339

def fn_part204 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v4275 : FVec F S32x1024 .f32) (main_v4276 : IVec S32x1024 1) (main_v4280 : IVec S32x1024 1) (main_v4285 : IVec S32x1024 1) (main_v4289 : IVec S32 1) (main_v4293 : FVec F S32x1024 .f32) (main_v4295 : IVec S32x32x32 32) : IVec S32x32x32 1 :=
  let main_v4296 : IVec S32x1024 32 := shapeCast S32x1024 main_v4295 shapeCasts_S32x32x32_S32x1024
  let main_v4297 : IVec S32x1024 1 := cmpi .sgt main_v4296 main_v40
  let main_v4298 : IVec S32x1024 1 := ori main_v4280 main_v4276
  let main_v4299 : IVec S32x1024 1 := noti main_v4298
  let main_v4300 : IVec S32x1024 1 := cmpf .ogt main_v4275 main_v4293
  let main_v4301 : IVec S32x1024 1 := andi main_v4280 main_v4300
  let main_v4302 : IVec S32x1024 1 := ori main_v4299 main_v4301
  let main_v4303 : IVec S32x1024 1 := andi main_v4297 main_v4302
  let main_v4304 : FVec F S32x1024 .f32 := select main_v4303 main_v4293 main_v4275
  let main_v4305 : IVec S32x1024 1 := ori main_v4276 main_v4285
  let main_v4306 : IVec S32x1024 1 := andi main_v4285 main_v37
  let main_v4307 : IVec S32x1024 1 := noti main_v4306
  let main_v4308 : IVec S32x1024 1 := andi main_v4280 main_v4307
  let main_v4309 : IVec S32x1024 1 := ori main_v4308 main_v4303
  let main_v4310 : FVec F S32x1024 .f32 := addf main_v4304 main_v34
  let main_v4311 : FVec F S32x1024 .f32 := select main_v4309 main_v4310 main_v38
  let main_cst_598 : FVec F S_ .f32 := constant S_ .f32 0x7F800000#32
  let main_v4312 : FVec F S32 .f32 := (fun x v => Host.reduce FloatOps.minimumf x v reducesTo_S32x1024_S32_d1 h_S_) main_v4311 main_cst_598
  let main_v4313 : FVec F S32x1024 .f32 := broadcastInDim S32x1024 ![0] bcast_S32_S32x1024_0 main_v4312
  let main_v4314 : IVec S32x1024 1 := cmpf .oeq main_v4311 main_v4313
  let main_v4315 : IVec S32x1024 32 := (extui 32 · natLt_1_32) main_v4314
  let main_c_599 : IVec S_ 32 := constantI S_ 32 0#32
  let main_v4316 : IVec S32 32 := (fun x v => Host.reduce IntOp.addi x v reducesTo_S32x1024_S32_d1 h_S_) main_v4315 main_c_599
  let main_v4317 : IVec S32 1 := cmpi .eq main_v4316 main_v41
  fn_part205 (F := F) main_arg0 main_arg1 main_arg2 main_v0 main_v34 main_v37 main_v38 main_v39 main_v40 main_v41 main_v4289 main_v4304 main_v4305 main_v4309 main_v4314 main_v4315 main_v4317

def fn_part203 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v4247 : IVec S32x1024 1) (main_v4251 : IVec S32x1024 1) (main_v4256 : IVec S32x1024 1) (main_v4260 : IVec S32 1) (main_v4274 : IVec S32x1024 1) (main_v4275 : FVec F S32x1024 .f32) : IVec S32x32x32 1 :=
  let main_v4276 : IVec S32x1024 1 := ori main_v4247 main_v4256
  let main_v4277 : IVec S32x1024 1 := andi main_v4256 main_v37
  let main_v4278 : IVec S32x1024 1 := noti main_v4277
  let main_v4279 : IVec S32x1024 1 := andi main_v4251 main_v4278
  let main_v4280 : IVec S32x1024 1 := ori main_v4279 main_v4274
  let main_v4281 : FVec F S32x1024 .f32 := addf main_v4275 main_v34
  let main_v4282 : FVec F S32x1024 .f32 := select main_v4280 main_v4281 main_v38
  let main_cst_594 : FVec F S_ .f32 := constant S_ .f32 0x7F800000#32
  let main_v4283 : FVec F S32 .f32 := (fun x v => Host.reduce FloatOps.minimumf x v reducesTo_S32x1024_S32_d1 h_S_) main_v4282 main_cst_594
  let main_v4284 : FVec F S32x1024 .f32 := broadcastInDim S32x1024 ![0] bcast_S32_S32x1024_0 main_v4283
  let main_v4285 : IVec S32x1024 1 := cmpf .oeq main_v4282 main_v4284
  let main_v4286 : IVec S32x1024 32 := (extui 32 · natLt_1_32) main_v4285
  let main_c_595 : IVec S_ 32 := constantI S_ 32 0#32
  let main_v4287 : IVec S32 32 := (fun x v => Host.reduce IntOp.addi x v reducesTo_S32x1024_S32_d1 h_S_) main_v4286 main_c_595
  let main_v4288 : IVec S32 1 := cmpi .eq main_v4287 main_v41
  let main_v4289 : IVec S32 1 := andi main_v4260 main_v4288
  let main_v4290 : FVec F S32x1024 .f32 := addf main_v4275 main_v0
  let main_v4291 : FVec F S32x1024 .f32 := select main_v4285 main_v4290 main_v39
  let main_cst_596 : FVec F S_ .f32 := constant S_ .f32 0x00000000#32
  let main_v4292 : FVec F S32 .f32 := (fun x v => Host.reduceAdd x v reducesTo_S32x1024_S32_d1 h_S_) main_v4291 main_cst_596
  let main_v4293 : FVec F S32x1024 .f32 := broadcastInDim S32x1024 ![0] bcast_S32_S32x1024_0 main_v4292
  let main_v4294 : IVec S32x32x32 32 := shapeCast S32x32x32 main_v4286 shapeCasts_S32x1024_S32x32x32
  let main_c_597 : IVec S_ 32 := constantI S_ 32 2147483648#32
  let main_v4295 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v4294 main_c_597
  fn_part204 (F := F) main_arg0 main_arg1 main_arg2 main_v0 main_v34 main_v37 main_v38 main_v39 main_v40 main_v41 main_v4275 main_v4276 main_v4280 main_v4285 main_v4289 main_v4293 main_v4295

def fn_part202 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v4231 : IVec S32 1) (main_v4246 : FVec F S32x1024 .f32) (main_v4247 : IVec S32x1024 1) (main_v4251 : IVec S32x1024 1) (main_v4253 : FVec F S32x1024 .f32) (main_v4254 : FVec F S32 .f32) : IVec S32x32x32 1 :=
  let main_v4255 : FVec F S32x1024 .f32 := broadcastInDim S32x1024 ![0] bcast_S32_S32x1024_0 main_v4254
  let main_v4256 : IVec S32x1024 1 := cmpf .oeq main_v4253 main_v4255
  let main_v4257 : IVec S32x1024 32 := (extui 32 · natLt_1_32) main_v4256
  let main_c_591 : IVec S_ 32 := constantI S_ 32 0#32
  let main_v4258 : IVec S32 32 := (fun x v => Host.reduce IntOp.addi x v reducesTo_S32x1024_S32_d1 h_S_) main_v4257 main_c_591
  let main_v4259 : IVec S32 1 := cmpi .eq main_v4258 main_v41
  let main_v4260 : IVec S32 1 := andi main_v4231 main_v4259
  let main_v4261 : FVec F S32x1024 .f32 := addf main_v4246 main_v0
  let main_v4262 : FVec F S32x1024 .f32 := select main_v4256 main_v4261 main_v39
  let main_cst_592 : FVec F S_ .f32 := constant S_ .f32 0x00000000#32
  let main_v4263 : FVec F S32 .f32 := (fun x v => Host.reduceAdd x v reducesTo_S32x1024_S32_d1 h_S_) main_v4262 main_cst_592
  let main_v4264 : FVec F S32x1024 .f32 := broadcastInDim S32x1024 ![0] bcast_S32_S32x1024_0 main_v4263
  let main_v4265 : IVec S32x32x32 32 := shapeCast S32x32x32 main_v4257 shapeCasts_S32x1024_S32x32x32
  let main_c_593 : IVec S_ 32 := constantI S_ 32 2147483648#32
  let main_v4266 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v4265 main_c_593
  let main_v4267 : IVec S32x1024 32 := shapeCast S32x1024 main_v4266 shapeCasts_S32x32x32_S32x1024
  let main_v4268 : IVec S32x1024 1 := cmpi .sgt main_v4267 main_v40
  let main_v4269 : IVec S32x1024 1 := ori main_v4251 main_v4247
  let main_v4270 : IVec S32x1024 1 := noti main_v4269
  let main_v4271 : IVec S32x1024 1 := cmpf .ogt main_v4246 main_v4264
  let main_v4272 : IVec S32x1024 1 := andi main_v4251 main_v4271
  let main_v4273 : IVec S32x1024 1 := ori main_v4270 main_v4272
  let main_v4274 : IVec S32x1024 1 := andi main_v4268 main_v4273
  let main_v4275 : FVec F S32x1024 .f32 := select main_v4274 main_v4264 main_v4246
  fn_part203 (F := F) main_arg0 main_arg1 main_arg2 main_v0 main_v34 main_v37 main_v38 main_v39 main_v40 main_v41 main_v4247 main_v4251 main_v4256 main_v4260 main_v4274 main_v4275

def fn_part201 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v4217 : FVec F S32x1024 .f32) (main_v4218 : IVec S32x1024 1) (main_v4222 : IVec S32x1024 1) (main_v4227 : IVec S32x1024 1) (main_v4228 : IVec S32x1024 32) (main_v4231 : IVec S32 1) (main_v4233 : FVec F S32x1024 .f32) : IVec S32x32x32 1 :=
  let main_cst_588 : FVec F S_ .f32 := constant S_ .f32 0x00000000#32
  let main_v4234 : FVec F S32 .f32 := (fun x v => Host.reduceAdd x v reducesTo_S32x1024_S32_d1 h_S_) main_v4233 main_cst_588
  let main_v4235 : FVec F S32x1024 .f32 := broadcastInDim S32x1024 ![0] bcast_S32_S32x1024_0 main_v4234
  let main_v4236 : IVec S32x32x32 32 := shapeCast S32x32x32 main_v4228 shapeCasts_S32x1024_S32x32x32
  let main_c_589 : IVec S_ 32 := constantI S_ 32 2147483648#32
  let main_v4237 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v4236 main_c_589
  let main_v4238 : IVec S32x1024 32 := shapeCast S32x1024 main_v4237 shapeCasts_S32x32x32_S32x1024
  let main_v4239 : IVec S32x1024 1 := cmpi .sgt main_v4238 main_v40
  let main_v4240 : IVec S32x1024 1 := ori main_v4222 main_v4218
  let main_v4241 : IVec S32x1024 1 := noti main_v4240
  let main_v4242 : IVec S32x1024 1 := cmpf .ogt main_v4217 main_v4235
  let main_v4243 : IVec S32x1024 1 := andi main_v4222 main_v4242
  let main_v4244 : IVec S32x1024 1 := ori main_v4241 main_v4243
  let main_v4245 : IVec S32x1024 1 := andi main_v4239 main_v4244
  let main_v4246 : FVec F S32x1024 .f32 := select main_v4245 main_v4235 main_v4217
  let main_v4247 : IVec S32x1024 1 := ori main_v4218 main_v4227
  let main_v4248 : IVec S32x1024 1 := andi main_v4227 main_v37
  let main_v4249 : IVec S32x1024 1 := noti main_v4248
  let main_v4250 : IVec S32x1024 1 := andi main_v4222 main_v4249
  let main_v4251 : IVec S32x1024 1 := ori main_v4250 main_v4245
  let main_v4252 : FVec F S32x1024 .f32 := addf main_v4246 main_v34
  let main_v4253 : FVec F S32x1024 .f32 := select main_v4251 main_v4252 main_v38
  let main_cst_590 : FVec F S_ .f32 := constant S_ .f32 0x7F800000#32
  let main_v4254 : FVec F S32 .f32 := (fun x v => Host.reduce FloatOps.minimumf x v reducesTo_S32x1024_S32_d1 h_S_) main_v4253 main_cst_590
  fn_part202 (F := F) main_arg0 main_arg1 main_arg2 main_v0 main_v34 main_v37 main_v38 main_v39 main_v40 main_v41 main_v4231 main_v4246 main_v4247 main_v4251 main_v4253 main_v4254

def fn_part200 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v4188 : FVec F S32x1024 .f32) (main_v4189 : IVec S32x1024 1) (main_v4193 : IVec S32x1024 1) (main_v4198 : IVec S32x1024 1) (main_v4202 : IVec S32 1) (main_v4206 : FVec F S32x1024 .f32) (main_v4210 : IVec S32x1024 1) (main_v4211 : IVec S32x1024 1) : IVec S32x32x32 1 :=
  let main_v4212 : IVec S32x1024 1 := noti main_v4211
  let main_v4213 : IVec S32x1024 1 := cmpf .ogt main_v4188 main_v4206
  let main_v4214 : IVec S32x1024 1 := andi main_v4193 main_v4213
  let main_v4215 : IVec S32x1024 1 := ori main_v4212 main_v4214
  let main_v4216 : IVec S32x1024 1 := andi main_v4210 main_v4215
  let main_v4217 : FVec F S32x1024 .f32 := select main_v4216 main_v4206 main_v4188
  let main_v4218 : IVec S32x1024 1 := ori main_v4189 main_v4198
  let main_v4219 : IVec S32x1024 1 := andi main_v4198 main_v37
  let main_v4220 : IVec S32x1024 1 := noti main_v4219
  let main_v4221 : IVec S32x1024 1 := andi main_v4193 main_v4220
  let main_v4222 : IVec S32x1024 1 := ori main_v4221 main_v4216
  let main_v4223 : FVec F S32x1024 .f32 := addf main_v4217 main_v34
  let main_v4224 : FVec F S32x1024 .f32 := select main_v4222 main_v4223 main_v38
  let main_cst_586 : FVec F S_ .f32 := constant S_ .f32 0x7F800000#32
  let main_v4225 : FVec F S32 .f32 := (fun x v => Host.reduce FloatOps.minimumf x v reducesTo_S32x1024_S32_d1 h_S_) main_v4224 main_cst_586
  let main_v4226 : FVec F S32x1024 .f32 := broadcastInDim S32x1024 ![0] bcast_S32_S32x1024_0 main_v4225
  let main_v4227 : IVec S32x1024 1 := cmpf .oeq main_v4224 main_v4226
  let main_v4228 : IVec S32x1024 32 := (extui 32 · natLt_1_32) main_v4227
  let main_c_587 : IVec S_ 32 := constantI S_ 32 0#32
  let main_v4229 : IVec S32 32 := (fun x v => Host.reduce IntOp.addi x v reducesTo_S32x1024_S32_d1 h_S_) main_v4228 main_c_587
  let main_v4230 : IVec S32 1 := cmpi .eq main_v4229 main_v41
  let main_v4231 : IVec S32 1 := andi main_v4202 main_v4230
  let main_v4232 : FVec F S32x1024 .f32 := addf main_v4217 main_v0
  let main_v4233 : FVec F S32x1024 .f32 := select main_v4227 main_v4232 main_v39
  fn_part201 (F := F) main_arg0 main_arg1 main_arg2 main_v0 main_v34 main_v37 main_v38 main_v39 main_v40 main_v41 main_v4217 main_v4218 main_v4222 main_v4227 main_v4228 main_v4231 main_v4233

def fn_part199 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v4164 : IVec S32x1024 1) (main_v4173 : IVec S32 1) (main_v4187 : IVec S32x1024 1) (main_v4188 : FVec F S32x1024 .f32) (main_v4189 : IVec S32x1024 1) (main_v4191 : IVec S32x1024 1) : IVec S32x32x32 1 :=
  let main_v4192 : IVec S32x1024 1 := andi main_v4164 main_v4191
  let main_v4193 : IVec S32x1024 1 := ori main_v4192 main_v4187
  let main_v4194 : FVec F S32x1024 .f32 := addf main_v4188 main_v34
  let main_v4195 : FVec F S32x1024 .f32 := select main_v4193 main_v4194 main_v38
  let main_cst_582 : FVec F S_ .f32 := constant S_ .f32 0x7F800000#32
  let main_v4196 : FVec F S32 .f32 := (fun x v => Host.reduce FloatOps.minimumf x v reducesTo_S32x1024_S32_d1 h_S_) main_v4195 main_cst_582
  let main_v4197 : FVec F S32x1024 .f32 := broadcastInDim S32x1024 ![0] bcast_S32_S32x1024_0 main_v4196
  let main_v4198 : IVec S32x1024 1 := cmpf .oeq main_v4195 main_v4197
  let main_v4199 : IVec S32x1024 32 := (extui 32 · natLt_1_32) main_v4198
  let main_c_583 : IVec S_ 32 := constantI S_ 32 0#32
  let main_v4200 : IVec S32 32 := (fun x v => Host.reduce IntOp.addi x v reducesTo_S32x1024_S32_d1 h_S_) main_v4199 main_c_583
  let main_v4201 : IVec S32 1 := cmpi .eq main_v4200 main_v41
  let main_v4202 : IVec S32 1 := andi main_v4173 main_v4201
  let main_v4203 : FVec F S32x1024 .f32 := addf main_v4188 main_v0
  let main_v4204 : FVec F S32x1024 .f32 := select main_v4198 main_v4203 main_v39
  let main_cst_584 : FVec F S_ .f32 := constant S_ .f32 0x00000000#32
  let main_v4205 : FVec F S32 .f32 := (fun x v => Host.reduceAdd x v reducesTo_S32x1024_S32_d1 h_S_) main_v4204 main_cst_584
  let main_v4206 : FVec F S32x1024 .f32 := broadcastInDim S32x1024 ![0] bcast_S32_S32x1024_0 main_v4205
  let main_v4207 : IVec S32x32x32 32 := shapeCast S32x32x32 main_v4199 shapeCasts_S32x1024_S32x32x32
  let main_c_585 : IVec S_ 32 := constantI S_ 32 2147483648#32
  let main_v4208 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v4207 main_c_585
  let main_v4209 : IVec S32x1024 32 := shapeCast S32x1024 main_v4208 shapeCasts_S32x32x32_S32x1024
  let main_v4210 : IVec S32x1024 1 := cmpi .sgt main_v4209 main_v40
  let main_v4211 : IVec S32x1024 1 := ori main_v4193 main_v4189
  fn_part200 (F := F) main_arg0 main_arg1 main_arg2 main_v0 main_v34 main_v37 main_v38 main_v39 main_v40 main_v41 main_v4188 main_v4189 main_v4193 main_v4198 main_v4202 main_v4206 main_v4210 main_v4211

def fn_part198 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v4144 : IVec S32 1) (main_v4159 : FVec F S32x1024 .f32) (main_v4160 : IVec S32x1024 1) (main_v4164 : IVec S32x1024 1) (main_v4169 : IVec S32x1024 1) (main_v4170 : IVec S32x1024 32) : IVec S32x32x32 1 :=
  let main_c_579 : IVec S_ 32 := constantI S_ 32 0#32
  let main_v4171 : IVec S32 32 := (fun x v => Host.reduce IntOp.addi x v reducesTo_S32x1024_S32_d1 h_S_) main_v4170 main_c_579
  let main_v4172 : IVec S32 1 := cmpi .eq main_v4171 main_v41
  let main_v4173 : IVec S32 1 := andi main_v4144 main_v4172
  let main_v4174 : FVec F S32x1024 .f32 := addf main_v4159 main_v0
  let main_v4175 : FVec F S32x1024 .f32 := select main_v4169 main_v4174 main_v39
  let main_cst_580 : FVec F S_ .f32 := constant S_ .f32 0x00000000#32
  let main_v4176 : FVec F S32 .f32 := (fun x v => Host.reduceAdd x v reducesTo_S32x1024_S32_d1 h_S_) main_v4175 main_cst_580
  let main_v4177 : FVec F S32x1024 .f32 := broadcastInDim S32x1024 ![0] bcast_S32_S32x1024_0 main_v4176
  let main_v4178 : IVec S32x32x32 32 := shapeCast S32x32x32 main_v4170 shapeCasts_S32x1024_S32x32x32
  let main_c_581 : IVec S_ 32 := constantI S_ 32 2147483648#32
  let main_v4179 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v4178 main_c_581
  let main_v4180 : IVec S32x1024 32 := shapeCast S32x1024 main_v4179 shapeCasts_S32x32x32_S32x1024
  let main_v4181 : IVec S32x1024 1 := cmpi .sgt main_v4180 main_v40
  let main_v4182 : IVec S32x1024 1 := ori main_v4164 main_v4160
  let main_v4183 : IVec S32x1024 1 := noti main_v4182
  let main_v4184 : IVec S32x1024 1 := cmpf .ogt main_v4159 main_v4177
  let main_v4185 : IVec S32x1024 1 := andi main_v4164 main_v4184
  let main_v4186 : IVec S32x1024 1 := ori main_v4183 main_v4185
  let main_v4187 : IVec S32x1024 1 := andi main_v4181 main_v4186
  let main_v4188 : FVec F S32x1024 .f32 := select main_v4187 main_v4177 main_v4159
  let main_v4189 : IVec S32x1024 1 := ori main_v4160 main_v4169
  let main_v4190 : IVec S32x1024 1 := andi main_v4169 main_v37
  let main_v4191 : IVec S32x1024 1 := noti main_v4190
  fn_part199 (F := F) main_arg0 main_arg1 main_arg2 main_v0 main_v34 main_v37 main_v38 main_v39 main_v40 main_v41 main_v4164 main_v4173 main_v4187 main_v4188 main_v4189 main_v4191

def fn_part197 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v4130 : FVec F S32x1024 .f32) (main_v4131 : IVec S32x1024 1) (main_v4135 : IVec S32x1024 1) (main_v4140 : IVec S32x1024 1) (main_v4141 : IVec S32x1024 32) (main_v4144 : IVec S32 1) (main_v4148 : FVec F S32x1024 .f32) : IVec S32x32x32 1 :=
  let main_v4149 : IVec S32x32x32 32 := shapeCast S32x32x32 main_v4141 shapeCasts_S32x1024_S32x32x32
  let main_c_577 : IVec S_ 32 := constantI S_ 32 2147483648#32
  let main_v4150 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v4149 main_c_577
  let main_v4151 : IVec S32x1024 32 := shapeCast S32x1024 main_v4150 shapeCasts_S32x32x32_S32x1024
  let main_v4152 : IVec S32x1024 1 := cmpi .sgt main_v4151 main_v40
  let main_v4153 : IVec S32x1024 1 := ori main_v4135 main_v4131
  let main_v4154 : IVec S32x1024 1 := noti main_v4153
  let main_v4155 : IVec S32x1024 1 := cmpf .ogt main_v4130 main_v4148
  let main_v4156 : IVec S32x1024 1 := andi main_v4135 main_v4155
  let main_v4157 : IVec S32x1024 1 := ori main_v4154 main_v4156
  let main_v4158 : IVec S32x1024 1 := andi main_v4152 main_v4157
  let main_v4159 : FVec F S32x1024 .f32 := select main_v4158 main_v4148 main_v4130
  let main_v4160 : IVec S32x1024 1 := ori main_v4131 main_v4140
  let main_v4161 : IVec S32x1024 1 := andi main_v4140 main_v37
  let main_v4162 : IVec S32x1024 1 := noti main_v4161
  let main_v4163 : IVec S32x1024 1 := andi main_v4135 main_v4162
  let main_v4164 : IVec S32x1024 1 := ori main_v4163 main_v4158
  let main_v4165 : FVec F S32x1024 .f32 := addf main_v4159 main_v34
  let main_v4166 : FVec F S32x1024 .f32 := select main_v4164 main_v4165 main_v38
  let main_cst_578 : FVec F S_ .f32 := constant S_ .f32 0x7F800000#32
  let main_v4167 : FVec F S32 .f32 := (fun x v => Host.reduce FloatOps.minimumf x v reducesTo_S32x1024_S32_d1 h_S_) main_v4166 main_cst_578
  let main_v4168 : FVec F S32x1024 .f32 := broadcastInDim S32x1024 ![0] bcast_S32_S32x1024_0 main_v4167
  let main_v4169 : IVec S32x1024 1 := cmpf .oeq main_v4166 main_v4168
  let main_v4170 : IVec S32x1024 32 := (extui 32 · natLt_1_32) main_v4169
  fn_part198 (F := F) main_arg0 main_arg1 main_arg2 main_v0 main_v34 main_v37 main_v38 main_v39 main_v40 main_v41 main_v4144 main_v4159 main_v4160 main_v4164 main_v4169 main_v4170

def fn_part196 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v4101 : FVec F S32x1024 .f32) (main_v4102 : IVec S32x1024 1) (main_v4106 : IVec S32x1024 1) (main_v4111 : IVec S32x1024 1) (main_v4115 : IVec S32 1) (main_v4119 : FVec F S32x1024 .f32) (main_v4123 : IVec S32x1024 1) (main_v4125 : IVec S32x1024 1) (main_v4127 : IVec S32x1024 1) : IVec S32x32x32 1 :=
  let main_v4128 : IVec S32x1024 1 := ori main_v4125 main_v4127
  let main_v4129 : IVec S32x1024 1 := andi main_v4123 main_v4128
  let main_v4130 : FVec F S32x1024 .f32 := select main_v4129 main_v4119 main_v4101
  let main_v4131 : IVec S32x1024 1 := ori main_v4102 main_v4111
  let main_v4132 : IVec S32x1024 1 := andi main_v4111 main_v37
  let main_v4133 : IVec S32x1024 1 := noti main_v4132
  let main_v4134 : IVec S32x1024 1 := andi main_v4106 main_v4133
  let main_v4135 : IVec S32x1024 1 := ori main_v4134 main_v4129
  let main_v4136 : FVec F S32x1024 .f32 := addf main_v4130 main_v34
  let main_v4137 : FVec F S32x1024 .f32 := select main_v4135 main_v4136 main_v38
  let main_cst_574 : FVec F S_ .f32 := constant S_ .f32 0x7F800000#32
  let main_v4138 : FVec F S32 .f32 := (fun x v => Host.reduce FloatOps.minimumf x v reducesTo_S32x1024_S32_d1 h_S_) main_v4137 main_cst_574
  let main_v4139 : FVec F S32x1024 .f32 := broadcastInDim S32x1024 ![0] bcast_S32_S32x1024_0 main_v4138
  let main_v4140 : IVec S32x1024 1 := cmpf .oeq main_v4137 main_v4139
  let main_v4141 : IVec S32x1024 32 := (extui 32 · natLt_1_32) main_v4140
  let main_c_575 : IVec S_ 32 := constantI S_ 32 0#32
  let main_v4142 : IVec S32 32 := (fun x v => Host.reduce IntOp.addi x v reducesTo_S32x1024_S32_d1 h_S_) main_v4141 main_c_575
  let main_v4143 : IVec S32 1 := cmpi .eq main_v4142 main_v41
  let main_v4144 : IVec S32 1 := andi main_v4115 main_v4143
  let main_v4145 : FVec F S32x1024 .f32 := addf main_v4130 main_v0
  let main_v4146 : FVec F S32x1024 .f32 := select main_v4140 main_v4145 main_v39
  let main_cst_576 : FVec F S_ .f32 := constant S_ .f32 0x00000000#32
  let main_v4147 : FVec F S32 .f32 := (fun x v => Host.reduceAdd x v reducesTo_S32x1024_S32_d1 h_S_) main_v4146 main_cst_576
  let main_v4148 : FVec F S32x1024 .f32 := broadcastInDim S32x1024 ![0] bcast_S32_S32x1024_0 main_v4147
  fn_part197 (F := F) main_arg0 main_arg1 main_arg2 main_v0 main_v34 main_v37 main_v38 main_v39 main_v40 main_v41 main_v4130 main_v4131 main_v4135 main_v4140 main_v4141 main_v4144 main_v4148

def fn_part195 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v4086 : IVec S32 1) (main_v4101 : FVec F S32x1024 .f32) (main_v4102 : IVec S32x1024 1) (main_v4106 : IVec S32x1024 1) (main_v4107 : FVec F S32x1024 .f32) : IVec S32x32x32 1 :=
  let main_v4108 : FVec F S32x1024 .f32 := select main_v4106 main_v4107 main_v38
  let main_cst_570 : FVec F S_ .f32 := constant S_ .f32 0x7F800000#32
  let main_v4109 : FVec F S32 .f32 := (fun x v => Host.reduce FloatOps.minimumf x v reducesTo_S32x1024_S32_d1 h_S_) main_v4108 main_cst_570
  let main_v4110 : FVec F S32x1024 .f32 := broadcastInDim S32x1024 ![0] bcast_S32_S32x1024_0 main_v4109
  let main_v4111 : IVec S32x1024 1 := cmpf .oeq main_v4108 main_v4110
  let main_v4112 : IVec S32x1024 32 := (extui 32 · natLt_1_32) main_v4111
  let main_c_571 : IVec S_ 32 := constantI S_ 32 0#32
  let main_v4113 : IVec S32 32 := (fun x v => Host.reduce IntOp.addi x v reducesTo_S32x1024_S32_d1 h_S_) main_v4112 main_c_571
  let main_v4114 : IVec S32 1 := cmpi .eq main_v4113 main_v41
  let main_v4115 : IVec S32 1 := andi main_v4086 main_v4114
  let main_v4116 : FVec F S32x1024 .f32 := addf main_v4101 main_v0
  let main_v4117 : FVec F S32x1024 .f32 := select main_v4111 main_v4116 main_v39
  let main_cst_572 : FVec F S_ .f32 := constant S_ .f32 0x00000000#32
  let main_v4118 : FVec F S32 .f32 := (fun x v => Host.reduceAdd x v reducesTo_S32x1024_S32_d1 h_S_) main_v4117 main_cst_572
  let main_v4119 : FVec F S32x1024 .f32 := broadcastInDim S32x1024 ![0] bcast_S32_S32x1024_0 main_v4118
  let main_v4120 : IVec S32x32x32 32 := shapeCast S32x32x32 main_v4112 shapeCasts_S32x1024_S32x32x32
  let main_c_573 : IVec S_ 32 := constantI S_ 32 2147483648#32
  let main_v4121 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v4120 main_c_573
  let main_v4122 : IVec S32x1024 32 := shapeCast S32x1024 main_v4121 shapeCasts_S32x32x32_S32x1024
  let main_v4123 : IVec S32x1024 1 := cmpi .sgt main_v4122 main_v40
  let main_v4124 : IVec S32x1024 1 := ori main_v4106 main_v4102
  let main_v4125 : IVec S32x1024 1 := noti main_v4124
  let main_v4126 : IVec S32x1024 1 := cmpf .ogt main_v4101 main_v4119
  let main_v4127 : IVec S32x1024 1 := andi main_v4106 main_v4126
  fn_part196 (F := F) main_arg0 main_arg1 main_arg2 main_v0 main_v34 main_v37 main_v38 main_v39 main_v40 main_v41 main_v4101 main_v4102 main_v4106 main_v4111 main_v4115 main_v4119 main_v4123 main_v4125 main_v4127

def fn_part194 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v4057 : IVec S32 1) (main_v4072 : FVec F S32x1024 .f32) (main_v4073 : IVec S32x1024 1) (main_v4077 : IVec S32x1024 1) (main_v4082 : IVec S32x1024 1) (main_v4083 : IVec S32x1024 32) (main_v4085 : IVec S32 1) : IVec S32x32x32 1 :=
  let main_v4086 : IVec S32 1 := andi main_v4057 main_v4085
  let main_v4087 : FVec F S32x1024 .f32 := addf main_v4072 main_v0
  let main_v4088 : FVec F S32x1024 .f32 := select main_v4082 main_v4087 main_v39
  let main_cst_568 : FVec F S_ .f32 := constant S_ .f32 0x00000000#32
  let main_v4089 : FVec F S32 .f32 := (fun x v => Host.reduceAdd x v reducesTo_S32x1024_S32_d1 h_S_) main_v4088 main_cst_568
  let main_v4090 : FVec F S32x1024 .f32 := broadcastInDim S32x1024 ![0] bcast_S32_S32x1024_0 main_v4089
  let main_v4091 : IVec S32x32x32 32 := shapeCast S32x32x32 main_v4083 shapeCasts_S32x1024_S32x32x32
  let main_c_569 : IVec S_ 32 := constantI S_ 32 2147483648#32
  let main_v4092 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v4091 main_c_569
  let main_v4093 : IVec S32x1024 32 := shapeCast S32x1024 main_v4092 shapeCasts_S32x32x32_S32x1024
  let main_v4094 : IVec S32x1024 1 := cmpi .sgt main_v4093 main_v40
  let main_v4095 : IVec S32x1024 1 := ori main_v4077 main_v4073
  let main_v4096 : IVec S32x1024 1 := noti main_v4095
  let main_v4097 : IVec S32x1024 1 := cmpf .ogt main_v4072 main_v4090
  let main_v4098 : IVec S32x1024 1 := andi main_v4077 main_v4097
  let main_v4099 : IVec S32x1024 1 := ori main_v4096 main_v4098
  let main_v4100 : IVec S32x1024 1 := andi main_v4094 main_v4099
  let main_v4101 : FVec F S32x1024 .f32 := select main_v4100 main_v4090 main_v4072
  let main_v4102 : IVec S32x1024 1 := ori main_v4073 main_v4082
  let main_v4103 : IVec S32x1024 1 := andi main_v4082 main_v37
  let main_v4104 : IVec S32x1024 1 := noti main_v4103
  let main_v4105 : IVec S32x1024 1 := andi main_v4077 main_v4104
  let main_v4106 : IVec S32x1024 1 := ori main_v4105 main_v4100
  let main_v4107 : FVec F S32x1024 .f32 := addf main_v4101 main_v34
  fn_part195 (F := F) main_arg0 main_arg1 main_arg2 main_v0 main_v34 main_v37 main_v38 main_v39 main_v40 main_v41 main_v4086 main_v4101 main_v4102 main_v4106 main_v4107

def fn_part193 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v4043 : FVec F S32x1024 .f32) (main_v4044 : IVec S32x1024 1) (main_v4048 : IVec S32x1024 1) (main_v4053 : IVec S32x1024 1) (main_v4057 : IVec S32 1) (main_v4061 : FVec F S32x1024 .f32) (main_v4063 : IVec S32x32x32 32) : IVec S32x32x32 1 :=
  let main_v4064 : IVec S32x1024 32 := shapeCast S32x1024 main_v4063 shapeCasts_S32x32x32_S32x1024
  let main_v4065 : IVec S32x1024 1 := cmpi .sgt main_v4064 main_v40
  let main_v4066 : IVec S32x1024 1 := ori main_v4048 main_v4044
  let main_v4067 : IVec S32x1024 1 := noti main_v4066
  let main_v4068 : IVec S32x1024 1 := cmpf .ogt main_v4043 main_v4061
  let main_v4069 : IVec S32x1024 1 := andi main_v4048 main_v4068
  let main_v4070 : IVec S32x1024 1 := ori main_v4067 main_v4069
  let main_v4071 : IVec S32x1024 1 := andi main_v4065 main_v4070
  let main_v4072 : FVec F S32x1024 .f32 := select main_v4071 main_v4061 main_v4043
  let main_v4073 : IVec S32x1024 1 := ori main_v4044 main_v4053
  let main_v4074 : IVec S32x1024 1 := andi main_v4053 main_v37
  let main_v4075 : IVec S32x1024 1 := noti main_v4074
  let main_v4076 : IVec S32x1024 1 := andi main_v4048 main_v4075
  let main_v4077 : IVec S32x1024 1 := ori main_v4076 main_v4071
  let main_v4078 : FVec F S32x1024 .f32 := addf main_v4072 main_v34
  let main_v4079 : FVec F S32x1024 .f32 := select main_v4077 main_v4078 main_v38
  let main_cst_566 : FVec F S_ .f32 := constant S_ .f32 0x7F800000#32
  let main_v4080 : FVec F S32 .f32 := (fun x v => Host.reduce FloatOps.minimumf x v reducesTo_S32x1024_S32_d1 h_S_) main_v4079 main_cst_566
  let main_v4081 : FVec F S32x1024 .f32 := broadcastInDim S32x1024 ![0] bcast_S32_S32x1024_0 main_v4080
  let main_v4082 : IVec S32x1024 1 := cmpf .oeq main_v4079 main_v4081
  let main_v4083 : IVec S32x1024 32 := (extui 32 · natLt_1_32) main_v4082
  let main_c_567 : IVec S_ 32 := constantI S_ 32 0#32
  let main_v4084 : IVec S32 32 := (fun x v => Host.reduce IntOp.addi x v reducesTo_S32x1024_S32_d1 h_S_) main_v4083 main_c_567
  let main_v4085 : IVec S32 1 := cmpi .eq main_v4084 main_v41
  fn_part194 (F := F) main_arg0 main_arg1 main_arg2 main_v0 main_v34 main_v37 main_v38 main_v39 main_v40 main_v41 main_v4057 main_v4072 main_v4073 main_v4077 main_v4082 main_v4083 main_v4085

def fn_part192 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v4015 : IVec S32x1024 1) (main_v4019 : IVec S32x1024 1) (main_v4024 : IVec S32x1024 1) (main_v4028 : IVec S32 1) (main_v4042 : IVec S32x1024 1) (main_v4043 : FVec F S32x1024 .f32) : IVec S32x32x32 1 :=
  let main_v4044 : IVec S32x1024 1 := ori main_v4015 main_v4024
  let main_v4045 : IVec S32x1024 1 := andi main_v4024 main_v37
  let main_v4046 : IVec S32x1024 1 := noti main_v4045
  let main_v4047 : IVec S32x1024 1 := andi main_v4019 main_v4046
  let main_v4048 : IVec S32x1024 1 := ori main_v4047 main_v4042
  let main_v4049 : FVec F S32x1024 .f32 := addf main_v4043 main_v34
  let main_v4050 : FVec F S32x1024 .f32 := select main_v4048 main_v4049 main_v38
  let main_cst_562 : FVec F S_ .f32 := constant S_ .f32 0x7F800000#32
  let main_v4051 : FVec F S32 .f32 := (fun x v => Host.reduce FloatOps.minimumf x v reducesTo_S32x1024_S32_d1 h_S_) main_v4050 main_cst_562
  let main_v4052 : FVec F S32x1024 .f32 := broadcastInDim S32x1024 ![0] bcast_S32_S32x1024_0 main_v4051
  let main_v4053 : IVec S32x1024 1 := cmpf .oeq main_v4050 main_v4052
  let main_v4054 : IVec S32x1024 32 := (extui 32 · natLt_1_32) main_v4053
  let main_c_563 : IVec S_ 32 := constantI S_ 32 0#32
  let main_v4055 : IVec S32 32 := (fun x v => Host.reduce IntOp.addi x v reducesTo_S32x1024_S32_d1 h_S_) main_v4054 main_c_563
  let main_v4056 : IVec S32 1 := cmpi .eq main_v4055 main_v41
  let main_v4057 : IVec S32 1 := andi main_v4028 main_v4056
  let main_v4058 : FVec F S32x1024 .f32 := addf main_v4043 main_v0
  let main_v4059 : FVec F S32x1024 .f32 := select main_v4053 main_v4058 main_v39
  let main_cst_564 : FVec F S_ .f32 := constant S_ .f32 0x00000000#32
  let main_v4060 : FVec F S32 .f32 := (fun x v => Host.reduceAdd x v reducesTo_S32x1024_S32_d1 h_S_) main_v4059 main_cst_564
  let main_v4061 : FVec F S32x1024 .f32 := broadcastInDim S32x1024 ![0] bcast_S32_S32x1024_0 main_v4060
  let main_v4062 : IVec S32x32x32 32 := shapeCast S32x32x32 main_v4054 shapeCasts_S32x1024_S32x32x32
  let main_c_565 : IVec S_ 32 := constantI S_ 32 2147483648#32
  let main_v4063 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v4062 main_c_565
  fn_part193 (F := F) main_arg0 main_arg1 main_arg2 main_v0 main_v34 main_v37 main_v38 main_v39 main_v40 main_v41 main_v4043 main_v4044 main_v4048 main_v4053 main_v4057 main_v4061 main_v4063

def fn_part191 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v3999 : IVec S32 1) (main_v4014 : FVec F S32x1024 .f32) (main_v4015 : IVec S32x1024 1) (main_v4019 : IVec S32x1024 1) (main_v4021 : FVec F S32x1024 .f32) (main_v4022 : FVec F S32 .f32) : IVec S32x32x32 1 :=
  let main_v4023 : FVec F S32x1024 .f32 := broadcastInDim S32x1024 ![0] bcast_S32_S32x1024_0 main_v4022
  let main_v4024 : IVec S32x1024 1 := cmpf .oeq main_v4021 main_v4023
  let main_v4025 : IVec S32x1024 32 := (extui 32 · natLt_1_32) main_v4024
  let main_c_559 : IVec S_ 32 := constantI S_ 32 0#32
  let main_v4026 : IVec S32 32 := (fun x v => Host.reduce IntOp.addi x v reducesTo_S32x1024_S32_d1 h_S_) main_v4025 main_c_559
  let main_v4027 : IVec S32 1 := cmpi .eq main_v4026 main_v41
  let main_v4028 : IVec S32 1 := andi main_v3999 main_v4027
  let main_v4029 : FVec F S32x1024 .f32 := addf main_v4014 main_v0
  let main_v4030 : FVec F S32x1024 .f32 := select main_v4024 main_v4029 main_v39
  let main_cst_560 : FVec F S_ .f32 := constant S_ .f32 0x00000000#32
  let main_v4031 : FVec F S32 .f32 := (fun x v => Host.reduceAdd x v reducesTo_S32x1024_S32_d1 h_S_) main_v4030 main_cst_560
  let main_v4032 : FVec F S32x1024 .f32 := broadcastInDim S32x1024 ![0] bcast_S32_S32x1024_0 main_v4031
  let main_v4033 : IVec S32x32x32 32 := shapeCast S32x32x32 main_v4025 shapeCasts_S32x1024_S32x32x32
  let main_c_561 : IVec S_ 32 := constantI S_ 32 2147483648#32
  let main_v4034 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v4033 main_c_561
  let main_v4035 : IVec S32x1024 32 := shapeCast S32x1024 main_v4034 shapeCasts_S32x32x32_S32x1024
  let main_v4036 : IVec S32x1024 1 := cmpi .sgt main_v4035 main_v40
  let main_v4037 : IVec S32x1024 1 := ori main_v4019 main_v4015
  let main_v4038 : IVec S32x1024 1 := noti main_v4037
  let main_v4039 : IVec S32x1024 1 := cmpf .ogt main_v4014 main_v4032
  let main_v4040 : IVec S32x1024 1 := andi main_v4019 main_v4039
  let main_v4041 : IVec S32x1024 1 := ori main_v4038 main_v4040
  let main_v4042 : IVec S32x1024 1 := andi main_v4036 main_v4041
  let main_v4043 : FVec F S32x1024 .f32 := select main_v4042 main_v4032 main_v4014
  fn_part192 (F := F) main_arg0 main_arg1 main_arg2 main_v0 main_v34 main_v37 main_v38 main_v39 main_v40 main_v41 main_v4015 main_v4019 main_v4024 main_v4028 main_v4042 main_v4043

def fn_part190 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v3985 : FVec F S32x1024 .f32) (main_v3986 : IVec S32x1024 1) (main_v3990 : IVec S32x1024 1) (main_v3995 : IVec S32x1024 1) (main_v3996 : IVec S32x1024 32) (main_v3999 : IVec S32 1) (main_v4001 : FVec F S32x1024 .f32) : IVec S32x32x32 1 :=
  let main_cst_556 : FVec F S_ .f32 := constant S_ .f32 0x00000000#32
  let main_v4002 : FVec F S32 .f32 := (fun x v => Host.reduceAdd x v reducesTo_S32x1024_S32_d1 h_S_) main_v4001 main_cst_556
  let main_v4003 : FVec F S32x1024 .f32 := broadcastInDim S32x1024 ![0] bcast_S32_S32x1024_0 main_v4002
  let main_v4004 : IVec S32x32x32 32 := shapeCast S32x32x32 main_v3996 shapeCasts_S32x1024_S32x32x32
  let main_c_557 : IVec S_ 32 := constantI S_ 32 2147483648#32
  let main_v4005 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v4004 main_c_557
  let main_v4006 : IVec S32x1024 32 := shapeCast S32x1024 main_v4005 shapeCasts_S32x32x32_S32x1024
  let main_v4007 : IVec S32x1024 1 := cmpi .sgt main_v4006 main_v40
  let main_v4008 : IVec S32x1024 1 := ori main_v3990 main_v3986
  let main_v4009 : IVec S32x1024 1 := noti main_v4008
  let main_v4010 : IVec S32x1024 1 := cmpf .ogt main_v3985 main_v4003
  let main_v4011 : IVec S32x1024 1 := andi main_v3990 main_v4010
  let main_v4012 : IVec S32x1024 1 := ori main_v4009 main_v4011
  let main_v4013 : IVec S32x1024 1 := andi main_v4007 main_v4012
  let main_v4014 : FVec F S32x1024 .f32 := select main_v4013 main_v4003 main_v3985
  let main_v4015 : IVec S32x1024 1 := ori main_v3986 main_v3995
  let main_v4016 : IVec S32x1024 1 := andi main_v3995 main_v37
  let main_v4017 : IVec S32x1024 1 := noti main_v4016
  let main_v4018 : IVec S32x1024 1 := andi main_v3990 main_v4017
  let main_v4019 : IVec S32x1024 1 := ori main_v4018 main_v4013
  let main_v4020 : FVec F S32x1024 .f32 := addf main_v4014 main_v34
  let main_v4021 : FVec F S32x1024 .f32 := select main_v4019 main_v4020 main_v38
  let main_cst_558 : FVec F S_ .f32 := constant S_ .f32 0x7F800000#32
  let main_v4022 : FVec F S32 .f32 := (fun x v => Host.reduce FloatOps.minimumf x v reducesTo_S32x1024_S32_d1 h_S_) main_v4021 main_cst_558
  fn_part191 (F := F) main_arg0 main_arg1 main_arg2 main_v0 main_v34 main_v37 main_v38 main_v39 main_v40 main_v41 main_v3999 main_v4014 main_v4015 main_v4019 main_v4021 main_v4022

def fn_part189 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v3956 : FVec F S32x1024 .f32) (main_v3957 : IVec S32x1024 1) (main_v3961 : IVec S32x1024 1) (main_v3966 : IVec S32x1024 1) (main_v3970 : IVec S32 1) (main_v3974 : FVec F S32x1024 .f32) (main_v3978 : IVec S32x1024 1) (main_v3979 : IVec S32x1024 1) : IVec S32x32x32 1 :=
  let main_v3980 : IVec S32x1024 1 := noti main_v3979
  let main_v3981 : IVec S32x1024 1 := cmpf .ogt main_v3956 main_v3974
  let main_v3982 : IVec S32x1024 1 := andi main_v3961 main_v3981
  let main_v3983 : IVec S32x1024 1 := ori main_v3980 main_v3982
  let main_v3984 : IVec S32x1024 1 := andi main_v3978 main_v3983
  let main_v3985 : FVec F S32x1024 .f32 := select main_v3984 main_v3974 main_v3956
  let main_v3986 : IVec S32x1024 1 := ori main_v3957 main_v3966
  let main_v3987 : IVec S32x1024 1 := andi main_v3966 main_v37
  let main_v3988 : IVec S32x1024 1 := noti main_v3987
  let main_v3989 : IVec S32x1024 1 := andi main_v3961 main_v3988
  let main_v3990 : IVec S32x1024 1 := ori main_v3989 main_v3984
  let main_v3991 : FVec F S32x1024 .f32 := addf main_v3985 main_v34
  let main_v3992 : FVec F S32x1024 .f32 := select main_v3990 main_v3991 main_v38
  let main_cst_554 : FVec F S_ .f32 := constant S_ .f32 0x7F800000#32
  let main_v3993 : FVec F S32 .f32 := (fun x v => Host.reduce FloatOps.minimumf x v reducesTo_S32x1024_S32_d1 h_S_) main_v3992 main_cst_554
  let main_v3994 : FVec F S32x1024 .f32 := broadcastInDim S32x1024 ![0] bcast_S32_S32x1024_0 main_v3993
  let main_v3995 : IVec S32x1024 1 := cmpf .oeq main_v3992 main_v3994
  let main_v3996 : IVec S32x1024 32 := (extui 32 · natLt_1_32) main_v3995
  let main_c_555 : IVec S_ 32 := constantI S_ 32 0#32
  let main_v3997 : IVec S32 32 := (fun x v => Host.reduce IntOp.addi x v reducesTo_S32x1024_S32_d1 h_S_) main_v3996 main_c_555
  let main_v3998 : IVec S32 1 := cmpi .eq main_v3997 main_v41
  let main_v3999 : IVec S32 1 := andi main_v3970 main_v3998
  let main_v4000 : FVec F S32x1024 .f32 := addf main_v3985 main_v0
  let main_v4001 : FVec F S32x1024 .f32 := select main_v3995 main_v4000 main_v39
  fn_part190 (F := F) main_arg0 main_arg1 main_arg2 main_v0 main_v34 main_v37 main_v38 main_v39 main_v40 main_v41 main_v3985 main_v3986 main_v3990 main_v3995 main_v3996 main_v3999 main_v4001

def fn_part188 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v3932 : IVec S32x1024 1) (main_v3941 : IVec S32 1) (main_v3955 : IVec S32x1024 1) (main_v3956 : FVec F S32x1024 .f32) (main_v3957 : IVec S32x1024 1) (main_v3959 : IVec S32x1024 1) : IVec S32x32x32 1 :=
  let main_v3960 : IVec S32x1024 1 := andi main_v3932 main_v3959
  let main_v3961 : IVec S32x1024 1 := ori main_v3960 main_v3955
  let main_v3962 : FVec F S32x1024 .f32 := addf main_v3956 main_v34
  let main_v3963 : FVec F S32x1024 .f32 := select main_v3961 main_v3962 main_v38
  let main_cst_550 : FVec F S_ .f32 := constant S_ .f32 0x7F800000#32
  let main_v3964 : FVec F S32 .f32 := (fun x v => Host.reduce FloatOps.minimumf x v reducesTo_S32x1024_S32_d1 h_S_) main_v3963 main_cst_550
  let main_v3965 : FVec F S32x1024 .f32 := broadcastInDim S32x1024 ![0] bcast_S32_S32x1024_0 main_v3964
  let main_v3966 : IVec S32x1024 1 := cmpf .oeq main_v3963 main_v3965
  let main_v3967 : IVec S32x1024 32 := (extui 32 · natLt_1_32) main_v3966
  let main_c_551 : IVec S_ 32 := constantI S_ 32 0#32
  let main_v3968 : IVec S32 32 := (fun x v => Host.reduce IntOp.addi x v reducesTo_S32x1024_S32_d1 h_S_) main_v3967 main_c_551
  let main_v3969 : IVec S32 1 := cmpi .eq main_v3968 main_v41
  let main_v3970 : IVec S32 1 := andi main_v3941 main_v3969
  let main_v3971 : FVec F S32x1024 .f32 := addf main_v3956 main_v0
  let main_v3972 : FVec F S32x1024 .f32 := select main_v3966 main_v3971 main_v39
  let main_cst_552 : FVec F S_ .f32 := constant S_ .f32 0x00000000#32
  let main_v3973 : FVec F S32 .f32 := (fun x v => Host.reduceAdd x v reducesTo_S32x1024_S32_d1 h_S_) main_v3972 main_cst_552
  let main_v3974 : FVec F S32x1024 .f32 := broadcastInDim S32x1024 ![0] bcast_S32_S32x1024_0 main_v3973
  let main_v3975 : IVec S32x32x32 32 := shapeCast S32x32x32 main_v3967 shapeCasts_S32x1024_S32x32x32
  let main_c_553 : IVec S_ 32 := constantI S_ 32 2147483648#32
  let main_v3976 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v3975 main_c_553
  let main_v3977 : IVec S32x1024 32 := shapeCast S32x1024 main_v3976 shapeCasts_S32x32x32_S32x1024
  let main_v3978 : IVec S32x1024 1 := cmpi .sgt main_v3977 main_v40
  let main_v3979 : IVec S32x1024 1 := ori main_v3961 main_v3957
  fn_part189 (F := F) main_arg0 main_arg1 main_arg2 main_v0 main_v34 main_v37 main_v38 main_v39 main_v40 main_v41 main_v3956 main_v3957 main_v3961 main_v3966 main_v3970 main_v3974 main_v3978 main_v3979

def fn_part187 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v3912 : IVec S32 1) (main_v3927 : FVec F S32x1024 .f32) (main_v3928 : IVec S32x1024 1) (main_v3932 : IVec S32x1024 1) (main_v3937 : IVec S32x1024 1) (main_v3938 : IVec S32x1024 32) : IVec S32x32x32 1 :=
  let main_c_547 : IVec S_ 32 := constantI S_ 32 0#32
  let main_v3939 : IVec S32 32 := (fun x v => Host.reduce IntOp.addi x v reducesTo_S32x1024_S32_d1 h_S_) main_v3938 main_c_547
  let main_v3940 : IVec S32 1 := cmpi .eq main_v3939 main_v41
  let main_v3941 : IVec S32 1 := andi main_v3912 main_v3940
  let main_v3942 : FVec F S32x1024 .f32 := addf main_v3927 main_v0
  let main_v3943 : FVec F S32x1024 .f32 := select main_v3937 main_v3942 main_v39
  let main_cst_548 : FVec F S_ .f32 := constant S_ .f32 0x00000000#32
  let main_v3944 : FVec F S32 .f32 := (fun x v => Host.reduceAdd x v reducesTo_S32x1024_S32_d1 h_S_) main_v3943 main_cst_548
  let main_v3945 : FVec F S32x1024 .f32 := broadcastInDim S32x1024 ![0] bcast_S32_S32x1024_0 main_v3944
  let main_v3946 : IVec S32x32x32 32 := shapeCast S32x32x32 main_v3938 shapeCasts_S32x1024_S32x32x32
  let main_c_549 : IVec S_ 32 := constantI S_ 32 2147483648#32
  let main_v3947 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v3946 main_c_549
  let main_v3948 : IVec S32x1024 32 := shapeCast S32x1024 main_v3947 shapeCasts_S32x32x32_S32x1024
  let main_v3949 : IVec S32x1024 1 := cmpi .sgt main_v3948 main_v40
  let main_v3950 : IVec S32x1024 1 := ori main_v3932 main_v3928
  let main_v3951 : IVec S32x1024 1 := noti main_v3950
  let main_v3952 : IVec S32x1024 1 := cmpf .ogt main_v3927 main_v3945
  let main_v3953 : IVec S32x1024 1 := andi main_v3932 main_v3952
  let main_v3954 : IVec S32x1024 1 := ori main_v3951 main_v3953
  let main_v3955 : IVec S32x1024 1 := andi main_v3949 main_v3954
  let main_v3956 : FVec F S32x1024 .f32 := select main_v3955 main_v3945 main_v3927
  let main_v3957 : IVec S32x1024 1 := ori main_v3928 main_v3937
  let main_v3958 : IVec S32x1024 1 := andi main_v3937 main_v37
  let main_v3959 : IVec S32x1024 1 := noti main_v3958
  fn_part188 (F := F) main_arg0 main_arg1 main_arg2 main_v0 main_v34 main_v37 main_v38 main_v39 main_v40 main_v41 main_v3932 main_v3941 main_v3955 main_v3956 main_v3957 main_v3959

def fn_part186 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v3898 : FVec F S32x1024 .f32) (main_v3899 : IVec S32x1024 1) (main_v3903 : IVec S32x1024 1) (main_v3908 : IVec S32x1024 1) (main_v3909 : IVec S32x1024 32) (main_v3912 : IVec S32 1) (main_v3916 : FVec F S32x1024 .f32) : IVec S32x32x32 1 :=
  let main_v3917 : IVec S32x32x32 32 := shapeCast S32x32x32 main_v3909 shapeCasts_S32x1024_S32x32x32
  let main_c_545 : IVec S_ 32 := constantI S_ 32 2147483648#32
  let main_v3918 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v3917 main_c_545
  let main_v3919 : IVec S32x1024 32 := shapeCast S32x1024 main_v3918 shapeCasts_S32x32x32_S32x1024
  let main_v3920 : IVec S32x1024 1 := cmpi .sgt main_v3919 main_v40
  let main_v3921 : IVec S32x1024 1 := ori main_v3903 main_v3899
  let main_v3922 : IVec S32x1024 1 := noti main_v3921
  let main_v3923 : IVec S32x1024 1 := cmpf .ogt main_v3898 main_v3916
  let main_v3924 : IVec S32x1024 1 := andi main_v3903 main_v3923
  let main_v3925 : IVec S32x1024 1 := ori main_v3922 main_v3924
  let main_v3926 : IVec S32x1024 1 := andi main_v3920 main_v3925
  let main_v3927 : FVec F S32x1024 .f32 := select main_v3926 main_v3916 main_v3898
  let main_v3928 : IVec S32x1024 1 := ori main_v3899 main_v3908
  let main_v3929 : IVec S32x1024 1 := andi main_v3908 main_v37
  let main_v3930 : IVec S32x1024 1 := noti main_v3929
  let main_v3931 : IVec S32x1024 1 := andi main_v3903 main_v3930
  let main_v3932 : IVec S32x1024 1 := ori main_v3931 main_v3926
  let main_v3933 : FVec F S32x1024 .f32 := addf main_v3927 main_v34
  let main_v3934 : FVec F S32x1024 .f32 := select main_v3932 main_v3933 main_v38
  let main_cst_546 : FVec F S_ .f32 := constant S_ .f32 0x7F800000#32
  let main_v3935 : FVec F S32 .f32 := (fun x v => Host.reduce FloatOps.minimumf x v reducesTo_S32x1024_S32_d1 h_S_) main_v3934 main_cst_546
  let main_v3936 : FVec F S32x1024 .f32 := broadcastInDim S32x1024 ![0] bcast_S32_S32x1024_0 main_v3935
  let main_v3937 : IVec S32x1024 1 := cmpf .oeq main_v3934 main_v3936
  let main_v3938 : IVec S32x1024 32 := (extui 32 · natLt_1_32) main_v3937
  fn_part187 (F := F) main_arg0 main_arg1 main_arg2 main_v0 main_v34 main_v37 main_v38 main_v39 main_v40 main_v41 main_v3912 main_v3927 main_v3928 main_v3932 main_v3937 main_v3938

def fn_part185 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v3869 : FVec F S32x1024 .f32) (main_v3870 : IVec S32x1024 1) (main_v3874 : IVec S32x1024 1) (main_v3879 : IVec S32x1024 1) (main_v3883 : IVec S32 1) (main_v3887 : FVec F S32x1024 .f32) (main_v3891 : IVec S32x1024 1) (main_v3893 : IVec S32x1024 1) (main_v3895 : IVec S32x1024 1) : IVec S32x32x32 1 :=
  let main_v3896 : IVec S32x1024 1 := ori main_v3893 main_v3895
  let main_v3897 : IVec S32x1024 1 := andi main_v3891 main_v3896
  let main_v3898 : FVec F S32x1024 .f32 := select main_v3897 main_v3887 main_v3869
  let main_v3899 : IVec S32x1024 1 := ori main_v3870 main_v3879
  let main_v3900 : IVec S32x1024 1 := andi main_v3879 main_v37
  let main_v3901 : IVec S32x1024 1 := noti main_v3900
  let main_v3902 : IVec S32x1024 1 := andi main_v3874 main_v3901
  let main_v3903 : IVec S32x1024 1 := ori main_v3902 main_v3897
  let main_v3904 : FVec F S32x1024 .f32 := addf main_v3898 main_v34
  let main_v3905 : FVec F S32x1024 .f32 := select main_v3903 main_v3904 main_v38
  let main_cst_542 : FVec F S_ .f32 := constant S_ .f32 0x7F800000#32
  let main_v3906 : FVec F S32 .f32 := (fun x v => Host.reduce FloatOps.minimumf x v reducesTo_S32x1024_S32_d1 h_S_) main_v3905 main_cst_542
  let main_v3907 : FVec F S32x1024 .f32 := broadcastInDim S32x1024 ![0] bcast_S32_S32x1024_0 main_v3906
  let main_v3908 : IVec S32x1024 1 := cmpf .oeq main_v3905 main_v3907
  let main_v3909 : IVec S32x1024 32 := (extui 32 · natLt_1_32) main_v3908
  let main_c_543 : IVec S_ 32 := constantI S_ 32 0#32
  let main_v3910 : IVec S32 32 := (fun x v => Host.reduce IntOp.addi x v reducesTo_S32x1024_S32_d1 h_S_) main_v3909 main_c_543
  let main_v3911 : IVec S32 1 := cmpi .eq main_v3910 main_v41
  let main_v3912 : IVec S32 1 := andi main_v3883 main_v3911
  let main_v3913 : FVec F S32x1024 .f32 := addf main_v3898 main_v0
  let main_v3914 : FVec F S32x1024 .f32 := select main_v3908 main_v3913 main_v39
  let main_cst_544 : FVec F S_ .f32 := constant S_ .f32 0x00000000#32
  let main_v3915 : FVec F S32 .f32 := (fun x v => Host.reduceAdd x v reducesTo_S32x1024_S32_d1 h_S_) main_v3914 main_cst_544
  let main_v3916 : FVec F S32x1024 .f32 := broadcastInDim S32x1024 ![0] bcast_S32_S32x1024_0 main_v3915
  fn_part186 (F := F) main_arg0 main_arg1 main_arg2 main_v0 main_v34 main_v37 main_v38 main_v39 main_v40 main_v41 main_v3898 main_v3899 main_v3903 main_v3908 main_v3909 main_v3912 main_v3916

def fn_part184 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v3854 : IVec S32 1) (main_v3869 : FVec F S32x1024 .f32) (main_v3870 : IVec S32x1024 1) (main_v3874 : IVec S32x1024 1) (main_v3875 : FVec F S32x1024 .f32) : IVec S32x32x32 1 :=
  let main_v3876 : FVec F S32x1024 .f32 := select main_v3874 main_v3875 main_v38
  let main_cst_538 : FVec F S_ .f32 := constant S_ .f32 0x7F800000#32
  let main_v3877 : FVec F S32 .f32 := (fun x v => Host.reduce FloatOps.minimumf x v reducesTo_S32x1024_S32_d1 h_S_) main_v3876 main_cst_538
  let main_v3878 : FVec F S32x1024 .f32 := broadcastInDim S32x1024 ![0] bcast_S32_S32x1024_0 main_v3877
  let main_v3879 : IVec S32x1024 1 := cmpf .oeq main_v3876 main_v3878
  let main_v3880 : IVec S32x1024 32 := (extui 32 · natLt_1_32) main_v3879
  let main_c_539 : IVec S_ 32 := constantI S_ 32 0#32
  let main_v3881 : IVec S32 32 := (fun x v => Host.reduce IntOp.addi x v reducesTo_S32x1024_S32_d1 h_S_) main_v3880 main_c_539
  let main_v3882 : IVec S32 1 := cmpi .eq main_v3881 main_v41
  let main_v3883 : IVec S32 1 := andi main_v3854 main_v3882
  let main_v3884 : FVec F S32x1024 .f32 := addf main_v3869 main_v0
  let main_v3885 : FVec F S32x1024 .f32 := select main_v3879 main_v3884 main_v39
  let main_cst_540 : FVec F S_ .f32 := constant S_ .f32 0x00000000#32
  let main_v3886 : FVec F S32 .f32 := (fun x v => Host.reduceAdd x v reducesTo_S32x1024_S32_d1 h_S_) main_v3885 main_cst_540
  let main_v3887 : FVec F S32x1024 .f32 := broadcastInDim S32x1024 ![0] bcast_S32_S32x1024_0 main_v3886
  let main_v3888 : IVec S32x32x32 32 := shapeCast S32x32x32 main_v3880 shapeCasts_S32x1024_S32x32x32
  let main_c_541 : IVec S_ 32 := constantI S_ 32 2147483648#32
  let main_v3889 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v3888 main_c_541
  let main_v3890 : IVec S32x1024 32 := shapeCast S32x1024 main_v3889 shapeCasts_S32x32x32_S32x1024
  let main_v3891 : IVec S32x1024 1 := cmpi .sgt main_v3890 main_v40
  let main_v3892 : IVec S32x1024 1 := ori main_v3874 main_v3870
  let main_v3893 : IVec S32x1024 1 := noti main_v3892
  let main_v3894 : IVec S32x1024 1 := cmpf .ogt main_v3869 main_v3887
  let main_v3895 : IVec S32x1024 1 := andi main_v3874 main_v3894
  fn_part185 (F := F) main_arg0 main_arg1 main_arg2 main_v0 main_v34 main_v37 main_v38 main_v39 main_v40 main_v41 main_v3869 main_v3870 main_v3874 main_v3879 main_v3883 main_v3887 main_v3891 main_v3893 main_v3895

def fn_part183 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v3825 : IVec S32 1) (main_v3840 : FVec F S32x1024 .f32) (main_v3841 : IVec S32x1024 1) (main_v3845 : IVec S32x1024 1) (main_v3850 : IVec S32x1024 1) (main_v3851 : IVec S32x1024 32) (main_v3853 : IVec S32 1) : IVec S32x32x32 1 :=
  let main_v3854 : IVec S32 1 := andi main_v3825 main_v3853
  let main_v3855 : FVec F S32x1024 .f32 := addf main_v3840 main_v0
  let main_v3856 : FVec F S32x1024 .f32 := select main_v3850 main_v3855 main_v39
  let main_cst_536 : FVec F S_ .f32 := constant S_ .f32 0x00000000#32
  let main_v3857 : FVec F S32 .f32 := (fun x v => Host.reduceAdd x v reducesTo_S32x1024_S32_d1 h_S_) main_v3856 main_cst_536
  let main_v3858 : FVec F S32x1024 .f32 := broadcastInDim S32x1024 ![0] bcast_S32_S32x1024_0 main_v3857
  let main_v3859 : IVec S32x32x32 32 := shapeCast S32x32x32 main_v3851 shapeCasts_S32x1024_S32x32x32
  let main_c_537 : IVec S_ 32 := constantI S_ 32 2147483648#32
  let main_v3860 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v3859 main_c_537
  let main_v3861 : IVec S32x1024 32 := shapeCast S32x1024 main_v3860 shapeCasts_S32x32x32_S32x1024
  let main_v3862 : IVec S32x1024 1 := cmpi .sgt main_v3861 main_v40
  let main_v3863 : IVec S32x1024 1 := ori main_v3845 main_v3841
  let main_v3864 : IVec S32x1024 1 := noti main_v3863
  let main_v3865 : IVec S32x1024 1 := cmpf .ogt main_v3840 main_v3858
  let main_v3866 : IVec S32x1024 1 := andi main_v3845 main_v3865
  let main_v3867 : IVec S32x1024 1 := ori main_v3864 main_v3866
  let main_v3868 : IVec S32x1024 1 := andi main_v3862 main_v3867
  let main_v3869 : FVec F S32x1024 .f32 := select main_v3868 main_v3858 main_v3840
  let main_v3870 : IVec S32x1024 1 := ori main_v3841 main_v3850
  let main_v3871 : IVec S32x1024 1 := andi main_v3850 main_v37
  let main_v3872 : IVec S32x1024 1 := noti main_v3871
  let main_v3873 : IVec S32x1024 1 := andi main_v3845 main_v3872
  let main_v3874 : IVec S32x1024 1 := ori main_v3873 main_v3868
  let main_v3875 : FVec F S32x1024 .f32 := addf main_v3869 main_v34
  fn_part184 (F := F) main_arg0 main_arg1 main_arg2 main_v0 main_v34 main_v37 main_v38 main_v39 main_v40 main_v41 main_v3854 main_v3869 main_v3870 main_v3874 main_v3875

def fn_part182 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v3811 : FVec F S32x1024 .f32) (main_v3812 : IVec S32x1024 1) (main_v3816 : IVec S32x1024 1) (main_v3821 : IVec S32x1024 1) (main_v3825 : IVec S32 1) (main_v3829 : FVec F S32x1024 .f32) (main_v3831 : IVec S32x32x32 32) : IVec S32x32x32 1 :=
  let main_v3832 : IVec S32x1024 32 := shapeCast S32x1024 main_v3831 shapeCasts_S32x32x32_S32x1024
  let main_v3833 : IVec S32x1024 1 := cmpi .sgt main_v3832 main_v40
  let main_v3834 : IVec S32x1024 1 := ori main_v3816 main_v3812
  let main_v3835 : IVec S32x1024 1 := noti main_v3834
  let main_v3836 : IVec S32x1024 1 := cmpf .ogt main_v3811 main_v3829
  let main_v3837 : IVec S32x1024 1 := andi main_v3816 main_v3836
  let main_v3838 : IVec S32x1024 1 := ori main_v3835 main_v3837
  let main_v3839 : IVec S32x1024 1 := andi main_v3833 main_v3838
  let main_v3840 : FVec F S32x1024 .f32 := select main_v3839 main_v3829 main_v3811
  let main_v3841 : IVec S32x1024 1 := ori main_v3812 main_v3821
  let main_v3842 : IVec S32x1024 1 := andi main_v3821 main_v37
  let main_v3843 : IVec S32x1024 1 := noti main_v3842
  let main_v3844 : IVec S32x1024 1 := andi main_v3816 main_v3843
  let main_v3845 : IVec S32x1024 1 := ori main_v3844 main_v3839
  let main_v3846 : FVec F S32x1024 .f32 := addf main_v3840 main_v34
  let main_v3847 : FVec F S32x1024 .f32 := select main_v3845 main_v3846 main_v38
  let main_cst_534 : FVec F S_ .f32 := constant S_ .f32 0x7F800000#32
  let main_v3848 : FVec F S32 .f32 := (fun x v => Host.reduce FloatOps.minimumf x v reducesTo_S32x1024_S32_d1 h_S_) main_v3847 main_cst_534
  let main_v3849 : FVec F S32x1024 .f32 := broadcastInDim S32x1024 ![0] bcast_S32_S32x1024_0 main_v3848
  let main_v3850 : IVec S32x1024 1 := cmpf .oeq main_v3847 main_v3849
  let main_v3851 : IVec S32x1024 32 := (extui 32 · natLt_1_32) main_v3850
  let main_c_535 : IVec S_ 32 := constantI S_ 32 0#32
  let main_v3852 : IVec S32 32 := (fun x v => Host.reduce IntOp.addi x v reducesTo_S32x1024_S32_d1 h_S_) main_v3851 main_c_535
  let main_v3853 : IVec S32 1 := cmpi .eq main_v3852 main_v41
  fn_part183 (F := F) main_arg0 main_arg1 main_arg2 main_v0 main_v34 main_v37 main_v38 main_v39 main_v40 main_v41 main_v3825 main_v3840 main_v3841 main_v3845 main_v3850 main_v3851 main_v3853

def fn_part181 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v3783 : IVec S32x1024 1) (main_v3787 : IVec S32x1024 1) (main_v3792 : IVec S32x1024 1) (main_v3796 : IVec S32 1) (main_v3810 : IVec S32x1024 1) (main_v3811 : FVec F S32x1024 .f32) : IVec S32x32x32 1 :=
  let main_v3812 : IVec S32x1024 1 := ori main_v3783 main_v3792
  let main_v3813 : IVec S32x1024 1 := andi main_v3792 main_v37
  let main_v3814 : IVec S32x1024 1 := noti main_v3813
  let main_v3815 : IVec S32x1024 1 := andi main_v3787 main_v3814
  let main_v3816 : IVec S32x1024 1 := ori main_v3815 main_v3810
  let main_v3817 : FVec F S32x1024 .f32 := addf main_v3811 main_v34
  let main_v3818 : FVec F S32x1024 .f32 := select main_v3816 main_v3817 main_v38
  let main_cst_530 : FVec F S_ .f32 := constant S_ .f32 0x7F800000#32
  let main_v3819 : FVec F S32 .f32 := (fun x v => Host.reduce FloatOps.minimumf x v reducesTo_S32x1024_S32_d1 h_S_) main_v3818 main_cst_530
  let main_v3820 : FVec F S32x1024 .f32 := broadcastInDim S32x1024 ![0] bcast_S32_S32x1024_0 main_v3819
  let main_v3821 : IVec S32x1024 1 := cmpf .oeq main_v3818 main_v3820
  let main_v3822 : IVec S32x1024 32 := (extui 32 · natLt_1_32) main_v3821
  let main_c_531 : IVec S_ 32 := constantI S_ 32 0#32
  let main_v3823 : IVec S32 32 := (fun x v => Host.reduce IntOp.addi x v reducesTo_S32x1024_S32_d1 h_S_) main_v3822 main_c_531
  let main_v3824 : IVec S32 1 := cmpi .eq main_v3823 main_v41
  let main_v3825 : IVec S32 1 := andi main_v3796 main_v3824
  let main_v3826 : FVec F S32x1024 .f32 := addf main_v3811 main_v0
  let main_v3827 : FVec F S32x1024 .f32 := select main_v3821 main_v3826 main_v39
  let main_cst_532 : FVec F S_ .f32 := constant S_ .f32 0x00000000#32
  let main_v3828 : FVec F S32 .f32 := (fun x v => Host.reduceAdd x v reducesTo_S32x1024_S32_d1 h_S_) main_v3827 main_cst_532
  let main_v3829 : FVec F S32x1024 .f32 := broadcastInDim S32x1024 ![0] bcast_S32_S32x1024_0 main_v3828
  let main_v3830 : IVec S32x32x32 32 := shapeCast S32x32x32 main_v3822 shapeCasts_S32x1024_S32x32x32
  let main_c_533 : IVec S_ 32 := constantI S_ 32 2147483648#32
  let main_v3831 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v3830 main_c_533
  fn_part182 (F := F) main_arg0 main_arg1 main_arg2 main_v0 main_v34 main_v37 main_v38 main_v39 main_v40 main_v41 main_v3811 main_v3812 main_v3816 main_v3821 main_v3825 main_v3829 main_v3831

def fn_part180 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v3767 : IVec S32 1) (main_v3782 : FVec F S32x1024 .f32) (main_v3783 : IVec S32x1024 1) (main_v3787 : IVec S32x1024 1) (main_v3789 : FVec F S32x1024 .f32) (main_v3790 : FVec F S32 .f32) : IVec S32x32x32 1 :=
  let main_v3791 : FVec F S32x1024 .f32 := broadcastInDim S32x1024 ![0] bcast_S32_S32x1024_0 main_v3790
  let main_v3792 : IVec S32x1024 1 := cmpf .oeq main_v3789 main_v3791
  let main_v3793 : IVec S32x1024 32 := (extui 32 · natLt_1_32) main_v3792
  let main_c_527 : IVec S_ 32 := constantI S_ 32 0#32
  let main_v3794 : IVec S32 32 := (fun x v => Host.reduce IntOp.addi x v reducesTo_S32x1024_S32_d1 h_S_) main_v3793 main_c_527
  let main_v3795 : IVec S32 1 := cmpi .eq main_v3794 main_v41
  let main_v3796 : IVec S32 1 := andi main_v3767 main_v3795
  let main_v3797 : FVec F S32x1024 .f32 := addf main_v3782 main_v0
  let main_v3798 : FVec F S32x1024 .f32 := select main_v3792 main_v3797 main_v39
  let main_cst_528 : FVec F S_ .f32 := constant S_ .f32 0x00000000#32
  let main_v3799 : FVec F S32 .f32 := (fun x v => Host.reduceAdd x v reducesTo_S32x1024_S32_d1 h_S_) main_v3798 main_cst_528
  let main_v3800 : FVec F S32x1024 .f32 := broadcastInDim S32x1024 ![0] bcast_S32_S32x1024_0 main_v3799
  let main_v3801 : IVec S32x32x32 32 := shapeCast S32x32x32 main_v3793 shapeCasts_S32x1024_S32x32x32
  let main_c_529 : IVec S_ 32 := constantI S_ 32 2147483648#32
  let main_v3802 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v3801 main_c_529
  let main_v3803 : IVec S32x1024 32 := shapeCast S32x1024 main_v3802 shapeCasts_S32x32x32_S32x1024
  let main_v3804 : IVec S32x1024 1 := cmpi .sgt main_v3803 main_v40
  let main_v3805 : IVec S32x1024 1 := ori main_v3787 main_v3783
  let main_v3806 : IVec S32x1024 1 := noti main_v3805
  let main_v3807 : IVec S32x1024 1 := cmpf .ogt main_v3782 main_v3800
  let main_v3808 : IVec S32x1024 1 := andi main_v3787 main_v3807
  let main_v3809 : IVec S32x1024 1 := ori main_v3806 main_v3808
  let main_v3810 : IVec S32x1024 1 := andi main_v3804 main_v3809
  let main_v3811 : FVec F S32x1024 .f32 := select main_v3810 main_v3800 main_v3782
  fn_part181 (F := F) main_arg0 main_arg1 main_arg2 main_v0 main_v34 main_v37 main_v38 main_v39 main_v40 main_v41 main_v3783 main_v3787 main_v3792 main_v3796 main_v3810 main_v3811

def fn_part179 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v3753 : FVec F S32x1024 .f32) (main_v3754 : IVec S32x1024 1) (main_v3758 : IVec S32x1024 1) (main_v3763 : IVec S32x1024 1) (main_v3764 : IVec S32x1024 32) (main_v3767 : IVec S32 1) (main_v3769 : FVec F S32x1024 .f32) : IVec S32x32x32 1 :=
  let main_cst_524 : FVec F S_ .f32 := constant S_ .f32 0x00000000#32
  let main_v3770 : FVec F S32 .f32 := (fun x v => Host.reduceAdd x v reducesTo_S32x1024_S32_d1 h_S_) main_v3769 main_cst_524
  let main_v3771 : FVec F S32x1024 .f32 := broadcastInDim S32x1024 ![0] bcast_S32_S32x1024_0 main_v3770
  let main_v3772 : IVec S32x32x32 32 := shapeCast S32x32x32 main_v3764 shapeCasts_S32x1024_S32x32x32
  let main_c_525 : IVec S_ 32 := constantI S_ 32 2147483648#32
  let main_v3773 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v3772 main_c_525
  let main_v3774 : IVec S32x1024 32 := shapeCast S32x1024 main_v3773 shapeCasts_S32x32x32_S32x1024
  let main_v3775 : IVec S32x1024 1 := cmpi .sgt main_v3774 main_v40
  let main_v3776 : IVec S32x1024 1 := ori main_v3758 main_v3754
  let main_v3777 : IVec S32x1024 1 := noti main_v3776
  let main_v3778 : IVec S32x1024 1 := cmpf .ogt main_v3753 main_v3771
  let main_v3779 : IVec S32x1024 1 := andi main_v3758 main_v3778
  let main_v3780 : IVec S32x1024 1 := ori main_v3777 main_v3779
  let main_v3781 : IVec S32x1024 1 := andi main_v3775 main_v3780
  let main_v3782 : FVec F S32x1024 .f32 := select main_v3781 main_v3771 main_v3753
  let main_v3783 : IVec S32x1024 1 := ori main_v3754 main_v3763
  let main_v3784 : IVec S32x1024 1 := andi main_v3763 main_v37
  let main_v3785 : IVec S32x1024 1 := noti main_v3784
  let main_v3786 : IVec S32x1024 1 := andi main_v3758 main_v3785
  let main_v3787 : IVec S32x1024 1 := ori main_v3786 main_v3781
  let main_v3788 : FVec F S32x1024 .f32 := addf main_v3782 main_v34
  let main_v3789 : FVec F S32x1024 .f32 := select main_v3787 main_v3788 main_v38
  let main_cst_526 : FVec F S_ .f32 := constant S_ .f32 0x7F800000#32
  let main_v3790 : FVec F S32 .f32 := (fun x v => Host.reduce FloatOps.minimumf x v reducesTo_S32x1024_S32_d1 h_S_) main_v3789 main_cst_526
  fn_part180 (F := F) main_arg0 main_arg1 main_arg2 main_v0 main_v34 main_v37 main_v38 main_v39 main_v40 main_v41 main_v3767 main_v3782 main_v3783 main_v3787 main_v3789 main_v3790

def fn_part178 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v3724 : FVec F S32x1024 .f32) (main_v3725 : IVec S32x1024 1) (main_v3729 : IVec S32x1024 1) (main_v3734 : IVec S32x1024 1) (main_v3738 : IVec S32 1) (main_v3742 : FVec F S32x1024 .f32) (main_v3746 : IVec S32x1024 1) (main_v3747 : IVec S32x1024 1) : IVec S32x32x32 1 :=
  let main_v3748 : IVec S32x1024 1 := noti main_v3747
  let main_v3749 : IVec S32x1024 1 := cmpf .ogt main_v3724 main_v3742
  let main_v3750 : IVec S32x1024 1 := andi main_v3729 main_v3749
  let main_v3751 : IVec S32x1024 1 := ori main_v3748 main_v3750
  let main_v3752 : IVec S32x1024 1 := andi main_v3746 main_v3751
  let main_v3753 : FVec F S32x1024 .f32 := select main_v3752 main_v3742 main_v3724
  let main_v3754 : IVec S32x1024 1 := ori main_v3725 main_v3734
  let main_v3755 : IVec S32x1024 1 := andi main_v3734 main_v37
  let main_v3756 : IVec S32x1024 1 := noti main_v3755
  let main_v3757 : IVec S32x1024 1 := andi main_v3729 main_v3756
  let main_v3758 : IVec S32x1024 1 := ori main_v3757 main_v3752
  let main_v3759 : FVec F S32x1024 .f32 := addf main_v3753 main_v34
  let main_v3760 : FVec F S32x1024 .f32 := select main_v3758 main_v3759 main_v38
  let main_cst_522 : FVec F S_ .f32 := constant S_ .f32 0x7F800000#32
  let main_v3761 : FVec F S32 .f32 := (fun x v => Host.reduce FloatOps.minimumf x v reducesTo_S32x1024_S32_d1 h_S_) main_v3760 main_cst_522
  let main_v3762 : FVec F S32x1024 .f32 := broadcastInDim S32x1024 ![0] bcast_S32_S32x1024_0 main_v3761
  let main_v3763 : IVec S32x1024 1 := cmpf .oeq main_v3760 main_v3762
  let main_v3764 : IVec S32x1024 32 := (extui 32 · natLt_1_32) main_v3763
  let main_c_523 : IVec S_ 32 := constantI S_ 32 0#32
  let main_v3765 : IVec S32 32 := (fun x v => Host.reduce IntOp.addi x v reducesTo_S32x1024_S32_d1 h_S_) main_v3764 main_c_523
  let main_v3766 : IVec S32 1 := cmpi .eq main_v3765 main_v41
  let main_v3767 : IVec S32 1 := andi main_v3738 main_v3766
  let main_v3768 : FVec F S32x1024 .f32 := addf main_v3753 main_v0
  let main_v3769 : FVec F S32x1024 .f32 := select main_v3763 main_v3768 main_v39
  fn_part179 (F := F) main_arg0 main_arg1 main_arg2 main_v0 main_v34 main_v37 main_v38 main_v39 main_v40 main_v41 main_v3753 main_v3754 main_v3758 main_v3763 main_v3764 main_v3767 main_v3769

def fn_part177 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v3700 : IVec S32x1024 1) (main_v3709 : IVec S32 1) (main_v3723 : IVec S32x1024 1) (main_v3724 : FVec F S32x1024 .f32) (main_v3725 : IVec S32x1024 1) (main_v3727 : IVec S32x1024 1) : IVec S32x32x32 1 :=
  let main_v3728 : IVec S32x1024 1 := andi main_v3700 main_v3727
  let main_v3729 : IVec S32x1024 1 := ori main_v3728 main_v3723
  let main_v3730 : FVec F S32x1024 .f32 := addf main_v3724 main_v34
  let main_v3731 : FVec F S32x1024 .f32 := select main_v3729 main_v3730 main_v38
  let main_cst_518 : FVec F S_ .f32 := constant S_ .f32 0x7F800000#32
  let main_v3732 : FVec F S32 .f32 := (fun x v => Host.reduce FloatOps.minimumf x v reducesTo_S32x1024_S32_d1 h_S_) main_v3731 main_cst_518
  let main_v3733 : FVec F S32x1024 .f32 := broadcastInDim S32x1024 ![0] bcast_S32_S32x1024_0 main_v3732
  let main_v3734 : IVec S32x1024 1 := cmpf .oeq main_v3731 main_v3733
  let main_v3735 : IVec S32x1024 32 := (extui 32 · natLt_1_32) main_v3734
  let main_c_519 : IVec S_ 32 := constantI S_ 32 0#32
  let main_v3736 : IVec S32 32 := (fun x v => Host.reduce IntOp.addi x v reducesTo_S32x1024_S32_d1 h_S_) main_v3735 main_c_519
  let main_v3737 : IVec S32 1 := cmpi .eq main_v3736 main_v41
  let main_v3738 : IVec S32 1 := andi main_v3709 main_v3737
  let main_v3739 : FVec F S32x1024 .f32 := addf main_v3724 main_v0
  let main_v3740 : FVec F S32x1024 .f32 := select main_v3734 main_v3739 main_v39
  let main_cst_520 : FVec F S_ .f32 := constant S_ .f32 0x00000000#32
  let main_v3741 : FVec F S32 .f32 := (fun x v => Host.reduceAdd x v reducesTo_S32x1024_S32_d1 h_S_) main_v3740 main_cst_520
  let main_v3742 : FVec F S32x1024 .f32 := broadcastInDim S32x1024 ![0] bcast_S32_S32x1024_0 main_v3741
  let main_v3743 : IVec S32x32x32 32 := shapeCast S32x32x32 main_v3735 shapeCasts_S32x1024_S32x32x32
  let main_c_521 : IVec S_ 32 := constantI S_ 32 2147483648#32
  let main_v3744 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v3743 main_c_521
  let main_v3745 : IVec S32x1024 32 := shapeCast S32x1024 main_v3744 shapeCasts_S32x32x32_S32x1024
  let main_v3746 : IVec S32x1024 1 := cmpi .sgt main_v3745 main_v40
  let main_v3747 : IVec S32x1024 1 := ori main_v3729 main_v3725
  fn_part178 (F := F) main_arg0 main_arg1 main_arg2 main_v0 main_v34 main_v37 main_v38 main_v39 main_v40 main_v41 main_v3724 main_v3725 main_v3729 main_v3734 main_v3738 main_v3742 main_v3746 main_v3747

def fn_part176 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v3680 : IVec S32 1) (main_v3695 : FVec F S32x1024 .f32) (main_v3696 : IVec S32x1024 1) (main_v3700 : IVec S32x1024 1) (main_v3705 : IVec S32x1024 1) (main_v3706 : IVec S32x1024 32) : IVec S32x32x32 1 :=
  let main_c_515 : IVec S_ 32 := constantI S_ 32 0#32
  let main_v3707 : IVec S32 32 := (fun x v => Host.reduce IntOp.addi x v reducesTo_S32x1024_S32_d1 h_S_) main_v3706 main_c_515
  let main_v3708 : IVec S32 1 := cmpi .eq main_v3707 main_v41
  let main_v3709 : IVec S32 1 := andi main_v3680 main_v3708
  let main_v3710 : FVec F S32x1024 .f32 := addf main_v3695 main_v0
  let main_v3711 : FVec F S32x1024 .f32 := select main_v3705 main_v3710 main_v39
  let main_cst_516 : FVec F S_ .f32 := constant S_ .f32 0x00000000#32
  let main_v3712 : FVec F S32 .f32 := (fun x v => Host.reduceAdd x v reducesTo_S32x1024_S32_d1 h_S_) main_v3711 main_cst_516
  let main_v3713 : FVec F S32x1024 .f32 := broadcastInDim S32x1024 ![0] bcast_S32_S32x1024_0 main_v3712
  let main_v3714 : IVec S32x32x32 32 := shapeCast S32x32x32 main_v3706 shapeCasts_S32x1024_S32x32x32
  let main_c_517 : IVec S_ 32 := constantI S_ 32 2147483648#32
  let main_v3715 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v3714 main_c_517
  let main_v3716 : IVec S32x1024 32 := shapeCast S32x1024 main_v3715 shapeCasts_S32x32x32_S32x1024
  let main_v3717 : IVec S32x1024 1 := cmpi .sgt main_v3716 main_v40
  let main_v3718 : IVec S32x1024 1 := ori main_v3700 main_v3696
  let main_v3719 : IVec S32x1024 1 := noti main_v3718
  let main_v3720 : IVec S32x1024 1 := cmpf .ogt main_v3695 main_v3713
  let main_v3721 : IVec S32x1024 1 := andi main_v3700 main_v3720
  let main_v3722 : IVec S32x1024 1 := ori main_v3719 main_v3721
  let main_v3723 : IVec S32x1024 1 := andi main_v3717 main_v3722
  let main_v3724 : FVec F S32x1024 .f32 := select main_v3723 main_v3713 main_v3695
  let main_v3725 : IVec S32x1024 1 := ori main_v3696 main_v3705
  let main_v3726 : IVec S32x1024 1 := andi main_v3705 main_v37
  let main_v3727 : IVec S32x1024 1 := noti main_v3726
  fn_part177 (F := F) main_arg0 main_arg1 main_arg2 main_v0 main_v34 main_v37 main_v38 main_v39 main_v40 main_v41 main_v3700 main_v3709 main_v3723 main_v3724 main_v3725 main_v3727

def fn_part175 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v3666 : FVec F S32x1024 .f32) (main_v3667 : IVec S32x1024 1) (main_v3671 : IVec S32x1024 1) (main_v3676 : IVec S32x1024 1) (main_v3677 : IVec S32x1024 32) (main_v3680 : IVec S32 1) (main_v3684 : FVec F S32x1024 .f32) : IVec S32x32x32 1 :=
  let main_v3685 : IVec S32x32x32 32 := shapeCast S32x32x32 main_v3677 shapeCasts_S32x1024_S32x32x32
  let main_c_513 : IVec S_ 32 := constantI S_ 32 2147483648#32
  let main_v3686 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v3685 main_c_513
  let main_v3687 : IVec S32x1024 32 := shapeCast S32x1024 main_v3686 shapeCasts_S32x32x32_S32x1024
  let main_v3688 : IVec S32x1024 1 := cmpi .sgt main_v3687 main_v40
  let main_v3689 : IVec S32x1024 1 := ori main_v3671 main_v3667
  let main_v3690 : IVec S32x1024 1 := noti main_v3689
  let main_v3691 : IVec S32x1024 1 := cmpf .ogt main_v3666 main_v3684
  let main_v3692 : IVec S32x1024 1 := andi main_v3671 main_v3691
  let main_v3693 : IVec S32x1024 1 := ori main_v3690 main_v3692
  let main_v3694 : IVec S32x1024 1 := andi main_v3688 main_v3693
  let main_v3695 : FVec F S32x1024 .f32 := select main_v3694 main_v3684 main_v3666
  let main_v3696 : IVec S32x1024 1 := ori main_v3667 main_v3676
  let main_v3697 : IVec S32x1024 1 := andi main_v3676 main_v37
  let main_v3698 : IVec S32x1024 1 := noti main_v3697
  let main_v3699 : IVec S32x1024 1 := andi main_v3671 main_v3698
  let main_v3700 : IVec S32x1024 1 := ori main_v3699 main_v3694
  let main_v3701 : FVec F S32x1024 .f32 := addf main_v3695 main_v34
  let main_v3702 : FVec F S32x1024 .f32 := select main_v3700 main_v3701 main_v38
  let main_cst_514 : FVec F S_ .f32 := constant S_ .f32 0x7F800000#32
  let main_v3703 : FVec F S32 .f32 := (fun x v => Host.reduce FloatOps.minimumf x v reducesTo_S32x1024_S32_d1 h_S_) main_v3702 main_cst_514
  let main_v3704 : FVec F S32x1024 .f32 := broadcastInDim S32x1024 ![0] bcast_S32_S32x1024_0 main_v3703
  let main_v3705 : IVec S32x1024 1 := cmpf .oeq main_v3702 main_v3704
  let main_v3706 : IVec S32x1024 32 := (extui 32 · natLt_1_32) main_v3705
  fn_part176 (F := F) main_arg0 main_arg1 main_arg2 main_v0 main_v34 main_v37 main_v38 main_v39 main_v40 main_v41 main_v3680 main_v3695 main_v3696 main_v3700 main_v3705 main_v3706

def fn_part174 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v3637 : FVec F S32x1024 .f32) (main_v3638 : IVec S32x1024 1) (main_v3642 : IVec S32x1024 1) (main_v3647 : IVec S32x1024 1) (main_v3651 : IVec S32 1) (main_v3655 : FVec F S32x1024 .f32) (main_v3659 : IVec S32x1024 1) (main_v3661 : IVec S32x1024 1) (main_v3663 : IVec S32x1024 1) : IVec S32x32x32 1 :=
  let main_v3664 : IVec S32x1024 1 := ori main_v3661 main_v3663
  let main_v3665 : IVec S32x1024 1 := andi main_v3659 main_v3664
  let main_v3666 : FVec F S32x1024 .f32 := select main_v3665 main_v3655 main_v3637
  let main_v3667 : IVec S32x1024 1 := ori main_v3638 main_v3647
  let main_v3668 : IVec S32x1024 1 := andi main_v3647 main_v37
  let main_v3669 : IVec S32x1024 1 := noti main_v3668
  let main_v3670 : IVec S32x1024 1 := andi main_v3642 main_v3669
  let main_v3671 : IVec S32x1024 1 := ori main_v3670 main_v3665
  let main_v3672 : FVec F S32x1024 .f32 := addf main_v3666 main_v34
  let main_v3673 : FVec F S32x1024 .f32 := select main_v3671 main_v3672 main_v38
  let main_cst_510 : FVec F S_ .f32 := constant S_ .f32 0x7F800000#32
  let main_v3674 : FVec F S32 .f32 := (fun x v => Host.reduce FloatOps.minimumf x v reducesTo_S32x1024_S32_d1 h_S_) main_v3673 main_cst_510
  let main_v3675 : FVec F S32x1024 .f32 := broadcastInDim S32x1024 ![0] bcast_S32_S32x1024_0 main_v3674
  let main_v3676 : IVec S32x1024 1 := cmpf .oeq main_v3673 main_v3675
  let main_v3677 : IVec S32x1024 32 := (extui 32 · natLt_1_32) main_v3676
  let main_c_511 : IVec S_ 32 := constantI S_ 32 0#32
  let main_v3678 : IVec S32 32 := (fun x v => Host.reduce IntOp.addi x v reducesTo_S32x1024_S32_d1 h_S_) main_v3677 main_c_511
  let main_v3679 : IVec S32 1 := cmpi .eq main_v3678 main_v41
  let main_v3680 : IVec S32 1 := andi main_v3651 main_v3679
  let main_v3681 : FVec F S32x1024 .f32 := addf main_v3666 main_v0
  let main_v3682 : FVec F S32x1024 .f32 := select main_v3676 main_v3681 main_v39
  let main_cst_512 : FVec F S_ .f32 := constant S_ .f32 0x00000000#32
  let main_v3683 : FVec F S32 .f32 := (fun x v => Host.reduceAdd x v reducesTo_S32x1024_S32_d1 h_S_) main_v3682 main_cst_512
  let main_v3684 : FVec F S32x1024 .f32 := broadcastInDim S32x1024 ![0] bcast_S32_S32x1024_0 main_v3683
  fn_part175 (F := F) main_arg0 main_arg1 main_arg2 main_v0 main_v34 main_v37 main_v38 main_v39 main_v40 main_v41 main_v3666 main_v3667 main_v3671 main_v3676 main_v3677 main_v3680 main_v3684

def fn_part173 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v3622 : IVec S32 1) (main_v3637 : FVec F S32x1024 .f32) (main_v3638 : IVec S32x1024 1) (main_v3642 : IVec S32x1024 1) (main_v3643 : FVec F S32x1024 .f32) : IVec S32x32x32 1 :=
  let main_v3644 : FVec F S32x1024 .f32 := select main_v3642 main_v3643 main_v38
  let main_cst_506 : FVec F S_ .f32 := constant S_ .f32 0x7F800000#32
  let main_v3645 : FVec F S32 .f32 := (fun x v => Host.reduce FloatOps.minimumf x v reducesTo_S32x1024_S32_d1 h_S_) main_v3644 main_cst_506
  let main_v3646 : FVec F S32x1024 .f32 := broadcastInDim S32x1024 ![0] bcast_S32_S32x1024_0 main_v3645
  let main_v3647 : IVec S32x1024 1 := cmpf .oeq main_v3644 main_v3646
  let main_v3648 : IVec S32x1024 32 := (extui 32 · natLt_1_32) main_v3647
  let main_c_507 : IVec S_ 32 := constantI S_ 32 0#32
  let main_v3649 : IVec S32 32 := (fun x v => Host.reduce IntOp.addi x v reducesTo_S32x1024_S32_d1 h_S_) main_v3648 main_c_507
  let main_v3650 : IVec S32 1 := cmpi .eq main_v3649 main_v41
  let main_v3651 : IVec S32 1 := andi main_v3622 main_v3650
  let main_v3652 : FVec F S32x1024 .f32 := addf main_v3637 main_v0
  let main_v3653 : FVec F S32x1024 .f32 := select main_v3647 main_v3652 main_v39
  let main_cst_508 : FVec F S_ .f32 := constant S_ .f32 0x00000000#32
  let main_v3654 : FVec F S32 .f32 := (fun x v => Host.reduceAdd x v reducesTo_S32x1024_S32_d1 h_S_) main_v3653 main_cst_508
  let main_v3655 : FVec F S32x1024 .f32 := broadcastInDim S32x1024 ![0] bcast_S32_S32x1024_0 main_v3654
  let main_v3656 : IVec S32x32x32 32 := shapeCast S32x32x32 main_v3648 shapeCasts_S32x1024_S32x32x32
  let main_c_509 : IVec S_ 32 := constantI S_ 32 2147483648#32
  let main_v3657 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v3656 main_c_509
  let main_v3658 : IVec S32x1024 32 := shapeCast S32x1024 main_v3657 shapeCasts_S32x32x32_S32x1024
  let main_v3659 : IVec S32x1024 1 := cmpi .sgt main_v3658 main_v40
  let main_v3660 : IVec S32x1024 1 := ori main_v3642 main_v3638
  let main_v3661 : IVec S32x1024 1 := noti main_v3660
  let main_v3662 : IVec S32x1024 1 := cmpf .ogt main_v3637 main_v3655
  let main_v3663 : IVec S32x1024 1 := andi main_v3642 main_v3662
  fn_part174 (F := F) main_arg0 main_arg1 main_arg2 main_v0 main_v34 main_v37 main_v38 main_v39 main_v40 main_v41 main_v3637 main_v3638 main_v3642 main_v3647 main_v3651 main_v3655 main_v3659 main_v3661 main_v3663

def fn_part172 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v3593 : IVec S32 1) (main_v3608 : FVec F S32x1024 .f32) (main_v3609 : IVec S32x1024 1) (main_v3613 : IVec S32x1024 1) (main_v3618 : IVec S32x1024 1) (main_v3619 : IVec S32x1024 32) (main_v3621 : IVec S32 1) : IVec S32x32x32 1 :=
  let main_v3622 : IVec S32 1 := andi main_v3593 main_v3621
  let main_v3623 : FVec F S32x1024 .f32 := addf main_v3608 main_v0
  let main_v3624 : FVec F S32x1024 .f32 := select main_v3618 main_v3623 main_v39
  let main_cst_504 : FVec F S_ .f32 := constant S_ .f32 0x00000000#32
  let main_v3625 : FVec F S32 .f32 := (fun x v => Host.reduceAdd x v reducesTo_S32x1024_S32_d1 h_S_) main_v3624 main_cst_504
  let main_v3626 : FVec F S32x1024 .f32 := broadcastInDim S32x1024 ![0] bcast_S32_S32x1024_0 main_v3625
  let main_v3627 : IVec S32x32x32 32 := shapeCast S32x32x32 main_v3619 shapeCasts_S32x1024_S32x32x32
  let main_c_505 : IVec S_ 32 := constantI S_ 32 2147483648#32
  let main_v3628 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v3627 main_c_505
  let main_v3629 : IVec S32x1024 32 := shapeCast S32x1024 main_v3628 shapeCasts_S32x32x32_S32x1024
  let main_v3630 : IVec S32x1024 1 := cmpi .sgt main_v3629 main_v40
  let main_v3631 : IVec S32x1024 1 := ori main_v3613 main_v3609
  let main_v3632 : IVec S32x1024 1 := noti main_v3631
  let main_v3633 : IVec S32x1024 1 := cmpf .ogt main_v3608 main_v3626
  let main_v3634 : IVec S32x1024 1 := andi main_v3613 main_v3633
  let main_v3635 : IVec S32x1024 1 := ori main_v3632 main_v3634
  let main_v3636 : IVec S32x1024 1 := andi main_v3630 main_v3635
  let main_v3637 : FVec F S32x1024 .f32 := select main_v3636 main_v3626 main_v3608
  let main_v3638 : IVec S32x1024 1 := ori main_v3609 main_v3618
  let main_v3639 : IVec S32x1024 1 := andi main_v3618 main_v37
  let main_v3640 : IVec S32x1024 1 := noti main_v3639
  let main_v3641 : IVec S32x1024 1 := andi main_v3613 main_v3640
  let main_v3642 : IVec S32x1024 1 := ori main_v3641 main_v3636
  let main_v3643 : FVec F S32x1024 .f32 := addf main_v3637 main_v34
  fn_part173 (F := F) main_arg0 main_arg1 main_arg2 main_v0 main_v34 main_v37 main_v38 main_v39 main_v40 main_v41 main_v3622 main_v3637 main_v3638 main_v3642 main_v3643

def fn_part171 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v3579 : FVec F S32x1024 .f32) (main_v3580 : IVec S32x1024 1) (main_v3584 : IVec S32x1024 1) (main_v3589 : IVec S32x1024 1) (main_v3593 : IVec S32 1) (main_v3597 : FVec F S32x1024 .f32) (main_v3599 : IVec S32x32x32 32) : IVec S32x32x32 1 :=
  let main_v3600 : IVec S32x1024 32 := shapeCast S32x1024 main_v3599 shapeCasts_S32x32x32_S32x1024
  let main_v3601 : IVec S32x1024 1 := cmpi .sgt main_v3600 main_v40
  let main_v3602 : IVec S32x1024 1 := ori main_v3584 main_v3580
  let main_v3603 : IVec S32x1024 1 := noti main_v3602
  let main_v3604 : IVec S32x1024 1 := cmpf .ogt main_v3579 main_v3597
  let main_v3605 : IVec S32x1024 1 := andi main_v3584 main_v3604
  let main_v3606 : IVec S32x1024 1 := ori main_v3603 main_v3605
  let main_v3607 : IVec S32x1024 1 := andi main_v3601 main_v3606
  let main_v3608 : FVec F S32x1024 .f32 := select main_v3607 main_v3597 main_v3579
  let main_v3609 : IVec S32x1024 1 := ori main_v3580 main_v3589
  let main_v3610 : IVec S32x1024 1 := andi main_v3589 main_v37
  let main_v3611 : IVec S32x1024 1 := noti main_v3610
  let main_v3612 : IVec S32x1024 1 := andi main_v3584 main_v3611
  let main_v3613 : IVec S32x1024 1 := ori main_v3612 main_v3607
  let main_v3614 : FVec F S32x1024 .f32 := addf main_v3608 main_v34
  let main_v3615 : FVec F S32x1024 .f32 := select main_v3613 main_v3614 main_v38
  let main_cst_502 : FVec F S_ .f32 := constant S_ .f32 0x7F800000#32
  let main_v3616 : FVec F S32 .f32 := (fun x v => Host.reduce FloatOps.minimumf x v reducesTo_S32x1024_S32_d1 h_S_) main_v3615 main_cst_502
  let main_v3617 : FVec F S32x1024 .f32 := broadcastInDim S32x1024 ![0] bcast_S32_S32x1024_0 main_v3616
  let main_v3618 : IVec S32x1024 1 := cmpf .oeq main_v3615 main_v3617
  let main_v3619 : IVec S32x1024 32 := (extui 32 · natLt_1_32) main_v3618
  let main_c_503 : IVec S_ 32 := constantI S_ 32 0#32
  let main_v3620 : IVec S32 32 := (fun x v => Host.reduce IntOp.addi x v reducesTo_S32x1024_S32_d1 h_S_) main_v3619 main_c_503
  let main_v3621 : IVec S32 1 := cmpi .eq main_v3620 main_v41
  fn_part172 (F := F) main_arg0 main_arg1 main_arg2 main_v0 main_v34 main_v37 main_v38 main_v39 main_v40 main_v41 main_v3593 main_v3608 main_v3609 main_v3613 main_v3618 main_v3619 main_v3621

def fn_part170 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v3551 : IVec S32x1024 1) (main_v3555 : IVec S32x1024 1) (main_v3560 : IVec S32x1024 1) (main_v3564 : IVec S32 1) (main_v3578 : IVec S32x1024 1) (main_v3579 : FVec F S32x1024 .f32) : IVec S32x32x32 1 :=
  let main_v3580 : IVec S32x1024 1 := ori main_v3551 main_v3560
  let main_v3581 : IVec S32x1024 1 := andi main_v3560 main_v37
  let main_v3582 : IVec S32x1024 1 := noti main_v3581
  let main_v3583 : IVec S32x1024 1 := andi main_v3555 main_v3582
  let main_v3584 : IVec S32x1024 1 := ori main_v3583 main_v3578
  let main_v3585 : FVec F S32x1024 .f32 := addf main_v3579 main_v34
  let main_v3586 : FVec F S32x1024 .f32 := select main_v3584 main_v3585 main_v38
  let main_cst_498 : FVec F S_ .f32 := constant S_ .f32 0x7F800000#32
  let main_v3587 : FVec F S32 .f32 := (fun x v => Host.reduce FloatOps.minimumf x v reducesTo_S32x1024_S32_d1 h_S_) main_v3586 main_cst_498
  let main_v3588 : FVec F S32x1024 .f32 := broadcastInDim S32x1024 ![0] bcast_S32_S32x1024_0 main_v3587
  let main_v3589 : IVec S32x1024 1 := cmpf .oeq main_v3586 main_v3588
  let main_v3590 : IVec S32x1024 32 := (extui 32 · natLt_1_32) main_v3589
  let main_c_499 : IVec S_ 32 := constantI S_ 32 0#32
  let main_v3591 : IVec S32 32 := (fun x v => Host.reduce IntOp.addi x v reducesTo_S32x1024_S32_d1 h_S_) main_v3590 main_c_499
  let main_v3592 : IVec S32 1 := cmpi .eq main_v3591 main_v41
  let main_v3593 : IVec S32 1 := andi main_v3564 main_v3592
  let main_v3594 : FVec F S32x1024 .f32 := addf main_v3579 main_v0
  let main_v3595 : FVec F S32x1024 .f32 := select main_v3589 main_v3594 main_v39
  let main_cst_500 : FVec F S_ .f32 := constant S_ .f32 0x00000000#32
  let main_v3596 : FVec F S32 .f32 := (fun x v => Host.reduceAdd x v reducesTo_S32x1024_S32_d1 h_S_) main_v3595 main_cst_500
  let main_v3597 : FVec F S32x1024 .f32 := broadcastInDim S32x1024 ![0] bcast_S32_S32x1024_0 main_v3596
  let main_v3598 : IVec S32x32x32 32 := shapeCast S32x32x32 main_v3590 shapeCasts_S32x1024_S32x32x32
  let main_c_501 : IVec S_ 32 := constantI S_ 32 2147483648#32
  let main_v3599 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v3598 main_c_501
  fn_part171 (F := F) main_arg0 main_arg1 main_arg2 main_v0 main_v34 main_v37 main_v38 main_v39 main_v40 main_v41 main_v3579 main_v3580 main_v3584 main_v3589 main_v3593 main_v3597 main_v3599

def fn_part169 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v3535 : IVec S32 1) (main_v3550 : FVec F S32x1024 .f32) (main_v3551 : IVec S32x1024 1) (main_v3555 : IVec S32x1024 1) (main_v3557 : FVec F S32x1024 .f32) (main_v3558 : FVec F S32 .f32) : IVec S32x32x32 1 :=
  let main_v3559 : FVec F S32x1024 .f32 := broadcastInDim S32x1024 ![0] bcast_S32_S32x1024_0 main_v3558
  let main_v3560 : IVec S32x1024 1 := cmpf .oeq main_v3557 main_v3559
  let main_v3561 : IVec S32x1024 32 := (extui 32 · natLt_1_32) main_v3560
  let main_c_495 : IVec S_ 32 := constantI S_ 32 0#32
  let main_v3562 : IVec S32 32 := (fun x v => Host.reduce IntOp.addi x v reducesTo_S32x1024_S32_d1 h_S_) main_v3561 main_c_495
  let main_v3563 : IVec S32 1 := cmpi .eq main_v3562 main_v41
  let main_v3564 : IVec S32 1 := andi main_v3535 main_v3563
  let main_v3565 : FVec F S32x1024 .f32 := addf main_v3550 main_v0
  let main_v3566 : FVec F S32x1024 .f32 := select main_v3560 main_v3565 main_v39
  let main_cst_496 : FVec F S_ .f32 := constant S_ .f32 0x00000000#32
  let main_v3567 : FVec F S32 .f32 := (fun x v => Host.reduceAdd x v reducesTo_S32x1024_S32_d1 h_S_) main_v3566 main_cst_496
  let main_v3568 : FVec F S32x1024 .f32 := broadcastInDim S32x1024 ![0] bcast_S32_S32x1024_0 main_v3567
  let main_v3569 : IVec S32x32x32 32 := shapeCast S32x32x32 main_v3561 shapeCasts_S32x1024_S32x32x32
  let main_c_497 : IVec S_ 32 := constantI S_ 32 2147483648#32
  let main_v3570 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v3569 main_c_497
  let main_v3571 : IVec S32x1024 32 := shapeCast S32x1024 main_v3570 shapeCasts_S32x32x32_S32x1024
  let main_v3572 : IVec S32x1024 1 := cmpi .sgt main_v3571 main_v40
  let main_v3573 : IVec S32x1024 1 := ori main_v3555 main_v3551
  let main_v3574 : IVec S32x1024 1 := noti main_v3573
  let main_v3575 : IVec S32x1024 1 := cmpf .ogt main_v3550 main_v3568
  let main_v3576 : IVec S32x1024 1 := andi main_v3555 main_v3575
  let main_v3577 : IVec S32x1024 1 := ori main_v3574 main_v3576
  let main_v3578 : IVec S32x1024 1 := andi main_v3572 main_v3577
  let main_v3579 : FVec F S32x1024 .f32 := select main_v3578 main_v3568 main_v3550
  fn_part170 (F := F) main_arg0 main_arg1 main_arg2 main_v0 main_v34 main_v37 main_v38 main_v39 main_v40 main_v41 main_v3551 main_v3555 main_v3560 main_v3564 main_v3578 main_v3579

def fn_part168 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v3521 : FVec F S32x1024 .f32) (main_v3522 : IVec S32x1024 1) (main_v3526 : IVec S32x1024 1) (main_v3531 : IVec S32x1024 1) (main_v3532 : IVec S32x1024 32) (main_v3535 : IVec S32 1) (main_v3537 : FVec F S32x1024 .f32) : IVec S32x32x32 1 :=
  let main_cst_492 : FVec F S_ .f32 := constant S_ .f32 0x00000000#32
  let main_v3538 : FVec F S32 .f32 := (fun x v => Host.reduceAdd x v reducesTo_S32x1024_S32_d1 h_S_) main_v3537 main_cst_492
  let main_v3539 : FVec F S32x1024 .f32 := broadcastInDim S32x1024 ![0] bcast_S32_S32x1024_0 main_v3538
  let main_v3540 : IVec S32x32x32 32 := shapeCast S32x32x32 main_v3532 shapeCasts_S32x1024_S32x32x32
  let main_c_493 : IVec S_ 32 := constantI S_ 32 2147483648#32
  let main_v3541 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v3540 main_c_493
  let main_v3542 : IVec S32x1024 32 := shapeCast S32x1024 main_v3541 shapeCasts_S32x32x32_S32x1024
  let main_v3543 : IVec S32x1024 1 := cmpi .sgt main_v3542 main_v40
  let main_v3544 : IVec S32x1024 1 := ori main_v3526 main_v3522
  let main_v3545 : IVec S32x1024 1 := noti main_v3544
  let main_v3546 : IVec S32x1024 1 := cmpf .ogt main_v3521 main_v3539
  let main_v3547 : IVec S32x1024 1 := andi main_v3526 main_v3546
  let main_v3548 : IVec S32x1024 1 := ori main_v3545 main_v3547
  let main_v3549 : IVec S32x1024 1 := andi main_v3543 main_v3548
  let main_v3550 : FVec F S32x1024 .f32 := select main_v3549 main_v3539 main_v3521
  let main_v3551 : IVec S32x1024 1 := ori main_v3522 main_v3531
  let main_v3552 : IVec S32x1024 1 := andi main_v3531 main_v37
  let main_v3553 : IVec S32x1024 1 := noti main_v3552
  let main_v3554 : IVec S32x1024 1 := andi main_v3526 main_v3553
  let main_v3555 : IVec S32x1024 1 := ori main_v3554 main_v3549
  let main_v3556 : FVec F S32x1024 .f32 := addf main_v3550 main_v34
  let main_v3557 : FVec F S32x1024 .f32 := select main_v3555 main_v3556 main_v38
  let main_cst_494 : FVec F S_ .f32 := constant S_ .f32 0x7F800000#32
  let main_v3558 : FVec F S32 .f32 := (fun x v => Host.reduce FloatOps.minimumf x v reducesTo_S32x1024_S32_d1 h_S_) main_v3557 main_cst_494
  fn_part169 (F := F) main_arg0 main_arg1 main_arg2 main_v0 main_v34 main_v37 main_v38 main_v39 main_v40 main_v41 main_v3535 main_v3550 main_v3551 main_v3555 main_v3557 main_v3558

def fn_part167 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v3492 : FVec F S32x1024 .f32) (main_v3493 : IVec S32x1024 1) (main_v3497 : IVec S32x1024 1) (main_v3502 : IVec S32x1024 1) (main_v3506 : IVec S32 1) (main_v3510 : FVec F S32x1024 .f32) (main_v3514 : IVec S32x1024 1) (main_v3515 : IVec S32x1024 1) : IVec S32x32x32 1 :=
  let main_v3516 : IVec S32x1024 1 := noti main_v3515
  let main_v3517 : IVec S32x1024 1 := cmpf .ogt main_v3492 main_v3510
  let main_v3518 : IVec S32x1024 1 := andi main_v3497 main_v3517
  let main_v3519 : IVec S32x1024 1 := ori main_v3516 main_v3518
  let main_v3520 : IVec S32x1024 1 := andi main_v3514 main_v3519
  let main_v3521 : FVec F S32x1024 .f32 := select main_v3520 main_v3510 main_v3492
  let main_v3522 : IVec S32x1024 1 := ori main_v3493 main_v3502
  let main_v3523 : IVec S32x1024 1 := andi main_v3502 main_v37
  let main_v3524 : IVec S32x1024 1 := noti main_v3523
  let main_v3525 : IVec S32x1024 1 := andi main_v3497 main_v3524
  let main_v3526 : IVec S32x1024 1 := ori main_v3525 main_v3520
  let main_v3527 : FVec F S32x1024 .f32 := addf main_v3521 main_v34
  let main_v3528 : FVec F S32x1024 .f32 := select main_v3526 main_v3527 main_v38
  let main_cst_490 : FVec F S_ .f32 := constant S_ .f32 0x7F800000#32
  let main_v3529 : FVec F S32 .f32 := (fun x v => Host.reduce FloatOps.minimumf x v reducesTo_S32x1024_S32_d1 h_S_) main_v3528 main_cst_490
  let main_v3530 : FVec F S32x1024 .f32 := broadcastInDim S32x1024 ![0] bcast_S32_S32x1024_0 main_v3529
  let main_v3531 : IVec S32x1024 1 := cmpf .oeq main_v3528 main_v3530
  let main_v3532 : IVec S32x1024 32 := (extui 32 · natLt_1_32) main_v3531
  let main_c_491 : IVec S_ 32 := constantI S_ 32 0#32
  let main_v3533 : IVec S32 32 := (fun x v => Host.reduce IntOp.addi x v reducesTo_S32x1024_S32_d1 h_S_) main_v3532 main_c_491
  let main_v3534 : IVec S32 1 := cmpi .eq main_v3533 main_v41
  let main_v3535 : IVec S32 1 := andi main_v3506 main_v3534
  let main_v3536 : FVec F S32x1024 .f32 := addf main_v3521 main_v0
  let main_v3537 : FVec F S32x1024 .f32 := select main_v3531 main_v3536 main_v39
  fn_part168 (F := F) main_arg0 main_arg1 main_arg2 main_v0 main_v34 main_v37 main_v38 main_v39 main_v40 main_v41 main_v3521 main_v3522 main_v3526 main_v3531 main_v3532 main_v3535 main_v3537

def fn_part166 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v3468 : IVec S32x1024 1) (main_v3477 : IVec S32 1) (main_v3491 : IVec S32x1024 1) (main_v3492 : FVec F S32x1024 .f32) (main_v3493 : IVec S32x1024 1) (main_v3495 : IVec S32x1024 1) : IVec S32x32x32 1 :=
  let main_v3496 : IVec S32x1024 1 := andi main_v3468 main_v3495
  let main_v3497 : IVec S32x1024 1 := ori main_v3496 main_v3491
  let main_v3498 : FVec F S32x1024 .f32 := addf main_v3492 main_v34
  let main_v3499 : FVec F S32x1024 .f32 := select main_v3497 main_v3498 main_v38
  let main_cst_486 : FVec F S_ .f32 := constant S_ .f32 0x7F800000#32
  let main_v3500 : FVec F S32 .f32 := (fun x v => Host.reduce FloatOps.minimumf x v reducesTo_S32x1024_S32_d1 h_S_) main_v3499 main_cst_486
  let main_v3501 : FVec F S32x1024 .f32 := broadcastInDim S32x1024 ![0] bcast_S32_S32x1024_0 main_v3500
  let main_v3502 : IVec S32x1024 1 := cmpf .oeq main_v3499 main_v3501
  let main_v3503 : IVec S32x1024 32 := (extui 32 · natLt_1_32) main_v3502
  let main_c_487 : IVec S_ 32 := constantI S_ 32 0#32
  let main_v3504 : IVec S32 32 := (fun x v => Host.reduce IntOp.addi x v reducesTo_S32x1024_S32_d1 h_S_) main_v3503 main_c_487
  let main_v3505 : IVec S32 1 := cmpi .eq main_v3504 main_v41
  let main_v3506 : IVec S32 1 := andi main_v3477 main_v3505
  let main_v3507 : FVec F S32x1024 .f32 := addf main_v3492 main_v0
  let main_v3508 : FVec F S32x1024 .f32 := select main_v3502 main_v3507 main_v39
  let main_cst_488 : FVec F S_ .f32 := constant S_ .f32 0x00000000#32
  let main_v3509 : FVec F S32 .f32 := (fun x v => Host.reduceAdd x v reducesTo_S32x1024_S32_d1 h_S_) main_v3508 main_cst_488
  let main_v3510 : FVec F S32x1024 .f32 := broadcastInDim S32x1024 ![0] bcast_S32_S32x1024_0 main_v3509
  let main_v3511 : IVec S32x32x32 32 := shapeCast S32x32x32 main_v3503 shapeCasts_S32x1024_S32x32x32
  let main_c_489 : IVec S_ 32 := constantI S_ 32 2147483648#32
  let main_v3512 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v3511 main_c_489
  let main_v3513 : IVec S32x1024 32 := shapeCast S32x1024 main_v3512 shapeCasts_S32x32x32_S32x1024
  let main_v3514 : IVec S32x1024 1 := cmpi .sgt main_v3513 main_v40
  let main_v3515 : IVec S32x1024 1 := ori main_v3497 main_v3493
  fn_part167 (F := F) main_arg0 main_arg1 main_arg2 main_v0 main_v34 main_v37 main_v38 main_v39 main_v40 main_v41 main_v3492 main_v3493 main_v3497 main_v3502 main_v3506 main_v3510 main_v3514 main_v3515

def fn_part165 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v3448 : IVec S32 1) (main_v3463 : FVec F S32x1024 .f32) (main_v3464 : IVec S32x1024 1) (main_v3468 : IVec S32x1024 1) (main_v3473 : IVec S32x1024 1) (main_v3474 : IVec S32x1024 32) : IVec S32x32x32 1 :=
  let main_c_483 : IVec S_ 32 := constantI S_ 32 0#32
  let main_v3475 : IVec S32 32 := (fun x v => Host.reduce IntOp.addi x v reducesTo_S32x1024_S32_d1 h_S_) main_v3474 main_c_483
  let main_v3476 : IVec S32 1 := cmpi .eq main_v3475 main_v41
  let main_v3477 : IVec S32 1 := andi main_v3448 main_v3476
  let main_v3478 : FVec F S32x1024 .f32 := addf main_v3463 main_v0
  let main_v3479 : FVec F S32x1024 .f32 := select main_v3473 main_v3478 main_v39
  let main_cst_484 : FVec F S_ .f32 := constant S_ .f32 0x00000000#32
  let main_v3480 : FVec F S32 .f32 := (fun x v => Host.reduceAdd x v reducesTo_S32x1024_S32_d1 h_S_) main_v3479 main_cst_484
  let main_v3481 : FVec F S32x1024 .f32 := broadcastInDim S32x1024 ![0] bcast_S32_S32x1024_0 main_v3480
  let main_v3482 : IVec S32x32x32 32 := shapeCast S32x32x32 main_v3474 shapeCasts_S32x1024_S32x32x32
  let main_c_485 : IVec S_ 32 := constantI S_ 32 2147483648#32
  let main_v3483 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v3482 main_c_485
  let main_v3484 : IVec S32x1024 32 := shapeCast S32x1024 main_v3483 shapeCasts_S32x32x32_S32x1024
  let main_v3485 : IVec S32x1024 1 := cmpi .sgt main_v3484 main_v40
  let main_v3486 : IVec S32x1024 1 := ori main_v3468 main_v3464
  let main_v3487 : IVec S32x1024 1 := noti main_v3486
  let main_v3488 : IVec S32x1024 1 := cmpf .ogt main_v3463 main_v3481
  let main_v3489 : IVec S32x1024 1 := andi main_v3468 main_v3488
  let main_v3490 : IVec S32x1024 1 := ori main_v3487 main_v3489
  let main_v3491 : IVec S32x1024 1 := andi main_v3485 main_v3490
  let main_v3492 : FVec F S32x1024 .f32 := select main_v3491 main_v3481 main_v3463
  let main_v3493 : IVec S32x1024 1 := ori main_v3464 main_v3473
  let main_v3494 : IVec S32x1024 1 := andi main_v3473 main_v37
  let main_v3495 : IVec S32x1024 1 := noti main_v3494
  fn_part166 (F := F) main_arg0 main_arg1 main_arg2 main_v0 main_v34 main_v37 main_v38 main_v39 main_v40 main_v41 main_v3468 main_v3477 main_v3491 main_v3492 main_v3493 main_v3495

def fn_part164 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v3434 : FVec F S32x1024 .f32) (main_v3435 : IVec S32x1024 1) (main_v3439 : IVec S32x1024 1) (main_v3444 : IVec S32x1024 1) (main_v3445 : IVec S32x1024 32) (main_v3448 : IVec S32 1) (main_v3452 : FVec F S32x1024 .f32) : IVec S32x32x32 1 :=
  let main_v3453 : IVec S32x32x32 32 := shapeCast S32x32x32 main_v3445 shapeCasts_S32x1024_S32x32x32
  let main_c_481 : IVec S_ 32 := constantI S_ 32 2147483648#32
  let main_v3454 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v3453 main_c_481
  let main_v3455 : IVec S32x1024 32 := shapeCast S32x1024 main_v3454 shapeCasts_S32x32x32_S32x1024
  let main_v3456 : IVec S32x1024 1 := cmpi .sgt main_v3455 main_v40
  let main_v3457 : IVec S32x1024 1 := ori main_v3439 main_v3435
  let main_v3458 : IVec S32x1024 1 := noti main_v3457
  let main_v3459 : IVec S32x1024 1 := cmpf .ogt main_v3434 main_v3452
  let main_v3460 : IVec S32x1024 1 := andi main_v3439 main_v3459
  let main_v3461 : IVec S32x1024 1 := ori main_v3458 main_v3460
  let main_v3462 : IVec S32x1024 1 := andi main_v3456 main_v3461
  let main_v3463 : FVec F S32x1024 .f32 := select main_v3462 main_v3452 main_v3434
  let main_v3464 : IVec S32x1024 1 := ori main_v3435 main_v3444
  let main_v3465 : IVec S32x1024 1 := andi main_v3444 main_v37
  let main_v3466 : IVec S32x1024 1 := noti main_v3465
  let main_v3467 : IVec S32x1024 1 := andi main_v3439 main_v3466
  let main_v3468 : IVec S32x1024 1 := ori main_v3467 main_v3462
  let main_v3469 : FVec F S32x1024 .f32 := addf main_v3463 main_v34
  let main_v3470 : FVec F S32x1024 .f32 := select main_v3468 main_v3469 main_v38
  let main_cst_482 : FVec F S_ .f32 := constant S_ .f32 0x7F800000#32
  let main_v3471 : FVec F S32 .f32 := (fun x v => Host.reduce FloatOps.minimumf x v reducesTo_S32x1024_S32_d1 h_S_) main_v3470 main_cst_482
  let main_v3472 : FVec F S32x1024 .f32 := broadcastInDim S32x1024 ![0] bcast_S32_S32x1024_0 main_v3471
  let main_v3473 : IVec S32x1024 1 := cmpf .oeq main_v3470 main_v3472
  let main_v3474 : IVec S32x1024 32 := (extui 32 · natLt_1_32) main_v3473
  fn_part165 (F := F) main_arg0 main_arg1 main_arg2 main_v0 main_v34 main_v37 main_v38 main_v39 main_v40 main_v41 main_v3448 main_v3463 main_v3464 main_v3468 main_v3473 main_v3474

def fn_part163 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v3405 : FVec F S32x1024 .f32) (main_v3406 : IVec S32x1024 1) (main_v3410 : IVec S32x1024 1) (main_v3415 : IVec S32x1024 1) (main_v3419 : IVec S32 1) (main_v3423 : FVec F S32x1024 .f32) (main_v3427 : IVec S32x1024 1) (main_v3429 : IVec S32x1024 1) (main_v3431 : IVec S32x1024 1) : IVec S32x32x32 1 :=
  let main_v3432 : IVec S32x1024 1 := ori main_v3429 main_v3431
  let main_v3433 : IVec S32x1024 1 := andi main_v3427 main_v3432
  let main_v3434 : FVec F S32x1024 .f32 := select main_v3433 main_v3423 main_v3405
  let main_v3435 : IVec S32x1024 1 := ori main_v3406 main_v3415
  let main_v3436 : IVec S32x1024 1 := andi main_v3415 main_v37
  let main_v3437 : IVec S32x1024 1 := noti main_v3436
  let main_v3438 : IVec S32x1024 1 := andi main_v3410 main_v3437
  let main_v3439 : IVec S32x1024 1 := ori main_v3438 main_v3433
  let main_v3440 : FVec F S32x1024 .f32 := addf main_v3434 main_v34
  let main_v3441 : FVec F S32x1024 .f32 := select main_v3439 main_v3440 main_v38
  let main_cst_478 : FVec F S_ .f32 := constant S_ .f32 0x7F800000#32
  let main_v3442 : FVec F S32 .f32 := (fun x v => Host.reduce FloatOps.minimumf x v reducesTo_S32x1024_S32_d1 h_S_) main_v3441 main_cst_478
  let main_v3443 : FVec F S32x1024 .f32 := broadcastInDim S32x1024 ![0] bcast_S32_S32x1024_0 main_v3442
  let main_v3444 : IVec S32x1024 1 := cmpf .oeq main_v3441 main_v3443
  let main_v3445 : IVec S32x1024 32 := (extui 32 · natLt_1_32) main_v3444
  let main_c_479 : IVec S_ 32 := constantI S_ 32 0#32
  let main_v3446 : IVec S32 32 := (fun x v => Host.reduce IntOp.addi x v reducesTo_S32x1024_S32_d1 h_S_) main_v3445 main_c_479
  let main_v3447 : IVec S32 1 := cmpi .eq main_v3446 main_v41
  let main_v3448 : IVec S32 1 := andi main_v3419 main_v3447
  let main_v3449 : FVec F S32x1024 .f32 := addf main_v3434 main_v0
  let main_v3450 : FVec F S32x1024 .f32 := select main_v3444 main_v3449 main_v39
  let main_cst_480 : FVec F S_ .f32 := constant S_ .f32 0x00000000#32
  let main_v3451 : FVec F S32 .f32 := (fun x v => Host.reduceAdd x v reducesTo_S32x1024_S32_d1 h_S_) main_v3450 main_cst_480
  let main_v3452 : FVec F S32x1024 .f32 := broadcastInDim S32x1024 ![0] bcast_S32_S32x1024_0 main_v3451
  fn_part164 (F := F) main_arg0 main_arg1 main_arg2 main_v0 main_v34 main_v37 main_v38 main_v39 main_v40 main_v41 main_v3434 main_v3435 main_v3439 main_v3444 main_v3445 main_v3448 main_v3452

def fn_part162 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v3390 : IVec S32 1) (main_v3405 : FVec F S32x1024 .f32) (main_v3406 : IVec S32x1024 1) (main_v3410 : IVec S32x1024 1) (main_v3411 : FVec F S32x1024 .f32) : IVec S32x32x32 1 :=
  let main_v3412 : FVec F S32x1024 .f32 := select main_v3410 main_v3411 main_v38
  let main_cst_474 : FVec F S_ .f32 := constant S_ .f32 0x7F800000#32
  let main_v3413 : FVec F S32 .f32 := (fun x v => Host.reduce FloatOps.minimumf x v reducesTo_S32x1024_S32_d1 h_S_) main_v3412 main_cst_474
  let main_v3414 : FVec F S32x1024 .f32 := broadcastInDim S32x1024 ![0] bcast_S32_S32x1024_0 main_v3413
  let main_v3415 : IVec S32x1024 1 := cmpf .oeq main_v3412 main_v3414
  let main_v3416 : IVec S32x1024 32 := (extui 32 · natLt_1_32) main_v3415
  let main_c_475 : IVec S_ 32 := constantI S_ 32 0#32
  let main_v3417 : IVec S32 32 := (fun x v => Host.reduce IntOp.addi x v reducesTo_S32x1024_S32_d1 h_S_) main_v3416 main_c_475
  let main_v3418 : IVec S32 1 := cmpi .eq main_v3417 main_v41
  let main_v3419 : IVec S32 1 := andi main_v3390 main_v3418
  let main_v3420 : FVec F S32x1024 .f32 := addf main_v3405 main_v0
  let main_v3421 : FVec F S32x1024 .f32 := select main_v3415 main_v3420 main_v39
  let main_cst_476 : FVec F S_ .f32 := constant S_ .f32 0x00000000#32
  let main_v3422 : FVec F S32 .f32 := (fun x v => Host.reduceAdd x v reducesTo_S32x1024_S32_d1 h_S_) main_v3421 main_cst_476
  let main_v3423 : FVec F S32x1024 .f32 := broadcastInDim S32x1024 ![0] bcast_S32_S32x1024_0 main_v3422
  let main_v3424 : IVec S32x32x32 32 := shapeCast S32x32x32 main_v3416 shapeCasts_S32x1024_S32x32x32
  let main_c_477 : IVec S_ 32 := constantI S_ 32 2147483648#32
  let main_v3425 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v3424 main_c_477
  let main_v3426 : IVec S32x1024 32 := shapeCast S32x1024 main_v3425 shapeCasts_S32x32x32_S32x1024
  let main_v3427 : IVec S32x1024 1 := cmpi .sgt main_v3426 main_v40
  let main_v3428 : IVec S32x1024 1 := ori main_v3410 main_v3406
  let main_v3429 : IVec S32x1024 1 := noti main_v3428
  let main_v3430 : IVec S32x1024 1 := cmpf .ogt main_v3405 main_v3423
  let main_v3431 : IVec S32x1024 1 := andi main_v3410 main_v3430
  fn_part163 (F := F) main_arg0 main_arg1 main_arg2 main_v0 main_v34 main_v37 main_v38 main_v39 main_v40 main_v41 main_v3405 main_v3406 main_v3410 main_v3415 main_v3419 main_v3423 main_v3427 main_v3429 main_v3431

def fn_part161 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v3361 : IVec S32 1) (main_v3376 : FVec F S32x1024 .f32) (main_v3377 : IVec S32x1024 1) (main_v3381 : IVec S32x1024 1) (main_v3386 : IVec S32x1024 1) (main_v3387 : IVec S32x1024 32) (main_v3389 : IVec S32 1) : IVec S32x32x32 1 :=
  let main_v3390 : IVec S32 1 := andi main_v3361 main_v3389
  let main_v3391 : FVec F S32x1024 .f32 := addf main_v3376 main_v0
  let main_v3392 : FVec F S32x1024 .f32 := select main_v3386 main_v3391 main_v39
  let main_cst_472 : FVec F S_ .f32 := constant S_ .f32 0x00000000#32
  let main_v3393 : FVec F S32 .f32 := (fun x v => Host.reduceAdd x v reducesTo_S32x1024_S32_d1 h_S_) main_v3392 main_cst_472
  let main_v3394 : FVec F S32x1024 .f32 := broadcastInDim S32x1024 ![0] bcast_S32_S32x1024_0 main_v3393
  let main_v3395 : IVec S32x32x32 32 := shapeCast S32x32x32 main_v3387 shapeCasts_S32x1024_S32x32x32
  let main_c_473 : IVec S_ 32 := constantI S_ 32 2147483648#32
  let main_v3396 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v3395 main_c_473
  let main_v3397 : IVec S32x1024 32 := shapeCast S32x1024 main_v3396 shapeCasts_S32x32x32_S32x1024
  let main_v3398 : IVec S32x1024 1 := cmpi .sgt main_v3397 main_v40
  let main_v3399 : IVec S32x1024 1 := ori main_v3381 main_v3377
  let main_v3400 : IVec S32x1024 1 := noti main_v3399
  let main_v3401 : IVec S32x1024 1 := cmpf .ogt main_v3376 main_v3394
  let main_v3402 : IVec S32x1024 1 := andi main_v3381 main_v3401
  let main_v3403 : IVec S32x1024 1 := ori main_v3400 main_v3402
  let main_v3404 : IVec S32x1024 1 := andi main_v3398 main_v3403
  let main_v3405 : FVec F S32x1024 .f32 := select main_v3404 main_v3394 main_v3376
  let main_v3406 : IVec S32x1024 1 := ori main_v3377 main_v3386
  let main_v3407 : IVec S32x1024 1 := andi main_v3386 main_v37
  let main_v3408 : IVec S32x1024 1 := noti main_v3407
  let main_v3409 : IVec S32x1024 1 := andi main_v3381 main_v3408
  let main_v3410 : IVec S32x1024 1 := ori main_v3409 main_v3404
  let main_v3411 : FVec F S32x1024 .f32 := addf main_v3405 main_v34
  fn_part162 (F := F) main_arg0 main_arg1 main_arg2 main_v0 main_v34 main_v37 main_v38 main_v39 main_v40 main_v41 main_v3390 main_v3405 main_v3406 main_v3410 main_v3411

def fn_part160 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v3347 : FVec F S32x1024 .f32) (main_v3348 : IVec S32x1024 1) (main_v3352 : IVec S32x1024 1) (main_v3357 : IVec S32x1024 1) (main_v3361 : IVec S32 1) (main_v3365 : FVec F S32x1024 .f32) (main_v3367 : IVec S32x32x32 32) : IVec S32x32x32 1 :=
  let main_v3368 : IVec S32x1024 32 := shapeCast S32x1024 main_v3367 shapeCasts_S32x32x32_S32x1024
  let main_v3369 : IVec S32x1024 1 := cmpi .sgt main_v3368 main_v40
  let main_v3370 : IVec S32x1024 1 := ori main_v3352 main_v3348
  let main_v3371 : IVec S32x1024 1 := noti main_v3370
  let main_v3372 : IVec S32x1024 1 := cmpf .ogt main_v3347 main_v3365
  let main_v3373 : IVec S32x1024 1 := andi main_v3352 main_v3372
  let main_v3374 : IVec S32x1024 1 := ori main_v3371 main_v3373
  let main_v3375 : IVec S32x1024 1 := andi main_v3369 main_v3374
  let main_v3376 : FVec F S32x1024 .f32 := select main_v3375 main_v3365 main_v3347
  let main_v3377 : IVec S32x1024 1 := ori main_v3348 main_v3357
  let main_v3378 : IVec S32x1024 1 := andi main_v3357 main_v37
  let main_v3379 : IVec S32x1024 1 := noti main_v3378
  let main_v3380 : IVec S32x1024 1 := andi main_v3352 main_v3379
  let main_v3381 : IVec S32x1024 1 := ori main_v3380 main_v3375
  let main_v3382 : FVec F S32x1024 .f32 := addf main_v3376 main_v34
  let main_v3383 : FVec F S32x1024 .f32 := select main_v3381 main_v3382 main_v38
  let main_cst_470 : FVec F S_ .f32 := constant S_ .f32 0x7F800000#32
  let main_v3384 : FVec F S32 .f32 := (fun x v => Host.reduce FloatOps.minimumf x v reducesTo_S32x1024_S32_d1 h_S_) main_v3383 main_cst_470
  let main_v3385 : FVec F S32x1024 .f32 := broadcastInDim S32x1024 ![0] bcast_S32_S32x1024_0 main_v3384
  let main_v3386 : IVec S32x1024 1 := cmpf .oeq main_v3383 main_v3385
  let main_v3387 : IVec S32x1024 32 := (extui 32 · natLt_1_32) main_v3386
  let main_c_471 : IVec S_ 32 := constantI S_ 32 0#32
  let main_v3388 : IVec S32 32 := (fun x v => Host.reduce IntOp.addi x v reducesTo_S32x1024_S32_d1 h_S_) main_v3387 main_c_471
  let main_v3389 : IVec S32 1 := cmpi .eq main_v3388 main_v41
  fn_part161 (F := F) main_arg0 main_arg1 main_arg2 main_v0 main_v34 main_v37 main_v38 main_v39 main_v40 main_v41 main_v3361 main_v3376 main_v3377 main_v3381 main_v3386 main_v3387 main_v3389

def fn_part159 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v3319 : IVec S32x1024 1) (main_v3323 : IVec S32x1024 1) (main_v3328 : IVec S32x1024 1) (main_v3332 : IVec S32 1) (main_v3346 : IVec S32x1024 1) (main_v3347 : FVec F S32x1024 .f32) : IVec S32x32x32 1 :=
  let main_v3348 : IVec S32x1024 1 := ori main_v3319 main_v3328
  let main_v3349 : IVec S32x1024 1 := andi main_v3328 main_v37
  let main_v3350 : IVec S32x1024 1 := noti main_v3349
  let main_v3351 : IVec S32x1024 1 := andi main_v3323 main_v3350
  let main_v3352 : IVec S32x1024 1 := ori main_v3351 main_v3346
  let main_v3353 : FVec F S32x1024 .f32 := addf main_v3347 main_v34
  let main_v3354 : FVec F S32x1024 .f32 := select main_v3352 main_v3353 main_v38
  let main_cst_466 : FVec F S_ .f32 := constant S_ .f32 0x7F800000#32
  let main_v3355 : FVec F S32 .f32 := (fun x v => Host.reduce FloatOps.minimumf x v reducesTo_S32x1024_S32_d1 h_S_) main_v3354 main_cst_466
  let main_v3356 : FVec F S32x1024 .f32 := broadcastInDim S32x1024 ![0] bcast_S32_S32x1024_0 main_v3355
  let main_v3357 : IVec S32x1024 1 := cmpf .oeq main_v3354 main_v3356
  let main_v3358 : IVec S32x1024 32 := (extui 32 · natLt_1_32) main_v3357
  let main_c_467 : IVec S_ 32 := constantI S_ 32 0#32
  let main_v3359 : IVec S32 32 := (fun x v => Host.reduce IntOp.addi x v reducesTo_S32x1024_S32_d1 h_S_) main_v3358 main_c_467
  let main_v3360 : IVec S32 1 := cmpi .eq main_v3359 main_v41
  let main_v3361 : IVec S32 1 := andi main_v3332 main_v3360
  let main_v3362 : FVec F S32x1024 .f32 := addf main_v3347 main_v0
  let main_v3363 : FVec F S32x1024 .f32 := select main_v3357 main_v3362 main_v39
  let main_cst_468 : FVec F S_ .f32 := constant S_ .f32 0x00000000#32
  let main_v3364 : FVec F S32 .f32 := (fun x v => Host.reduceAdd x v reducesTo_S32x1024_S32_d1 h_S_) main_v3363 main_cst_468
  let main_v3365 : FVec F S32x1024 .f32 := broadcastInDim S32x1024 ![0] bcast_S32_S32x1024_0 main_v3364
  let main_v3366 : IVec S32x32x32 32 := shapeCast S32x32x32 main_v3358 shapeCasts_S32x1024_S32x32x32
  let main_c_469 : IVec S_ 32 := constantI S_ 32 2147483648#32
  let main_v3367 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v3366 main_c_469
  fn_part160 (F := F) main_arg0 main_arg1 main_arg2 main_v0 main_v34 main_v37 main_v38 main_v39 main_v40 main_v41 main_v3347 main_v3348 main_v3352 main_v3357 main_v3361 main_v3365 main_v3367

def fn_part158 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v3303 : IVec S32 1) (main_v3318 : FVec F S32x1024 .f32) (main_v3319 : IVec S32x1024 1) (main_v3323 : IVec S32x1024 1) (main_v3325 : FVec F S32x1024 .f32) (main_v3326 : FVec F S32 .f32) : IVec S32x32x32 1 :=
  let main_v3327 : FVec F S32x1024 .f32 := broadcastInDim S32x1024 ![0] bcast_S32_S32x1024_0 main_v3326
  let main_v3328 : IVec S32x1024 1 := cmpf .oeq main_v3325 main_v3327
  let main_v3329 : IVec S32x1024 32 := (extui 32 · natLt_1_32) main_v3328
  let main_c_463 : IVec S_ 32 := constantI S_ 32 0#32
  let main_v3330 : IVec S32 32 := (fun x v => Host.reduce IntOp.addi x v reducesTo_S32x1024_S32_d1 h_S_) main_v3329 main_c_463
  let main_v3331 : IVec S32 1 := cmpi .eq main_v3330 main_v41
  let main_v3332 : IVec S32 1 := andi main_v3303 main_v3331
  let main_v3333 : FVec F S32x1024 .f32 := addf main_v3318 main_v0
  let main_v3334 : FVec F S32x1024 .f32 := select main_v3328 main_v3333 main_v39
  let main_cst_464 : FVec F S_ .f32 := constant S_ .f32 0x00000000#32
  let main_v3335 : FVec F S32 .f32 := (fun x v => Host.reduceAdd x v reducesTo_S32x1024_S32_d1 h_S_) main_v3334 main_cst_464
  let main_v3336 : FVec F S32x1024 .f32 := broadcastInDim S32x1024 ![0] bcast_S32_S32x1024_0 main_v3335
  let main_v3337 : IVec S32x32x32 32 := shapeCast S32x32x32 main_v3329 shapeCasts_S32x1024_S32x32x32
  let main_c_465 : IVec S_ 32 := constantI S_ 32 2147483648#32
  let main_v3338 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v3337 main_c_465
  let main_v3339 : IVec S32x1024 32 := shapeCast S32x1024 main_v3338 shapeCasts_S32x32x32_S32x1024
  let main_v3340 : IVec S32x1024 1 := cmpi .sgt main_v3339 main_v40
  let main_v3341 : IVec S32x1024 1 := ori main_v3323 main_v3319
  let main_v3342 : IVec S32x1024 1 := noti main_v3341
  let main_v3343 : IVec S32x1024 1 := cmpf .ogt main_v3318 main_v3336
  let main_v3344 : IVec S32x1024 1 := andi main_v3323 main_v3343
  let main_v3345 : IVec S32x1024 1 := ori main_v3342 main_v3344
  let main_v3346 : IVec S32x1024 1 := andi main_v3340 main_v3345
  let main_v3347 : FVec F S32x1024 .f32 := select main_v3346 main_v3336 main_v3318
  fn_part159 (F := F) main_arg0 main_arg1 main_arg2 main_v0 main_v34 main_v37 main_v38 main_v39 main_v40 main_v41 main_v3319 main_v3323 main_v3328 main_v3332 main_v3346 main_v3347

def fn_part157 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v3289 : FVec F S32x1024 .f32) (main_v3290 : IVec S32x1024 1) (main_v3294 : IVec S32x1024 1) (main_v3299 : IVec S32x1024 1) (main_v3300 : IVec S32x1024 32) (main_v3303 : IVec S32 1) (main_v3305 : FVec F S32x1024 .f32) : IVec S32x32x32 1 :=
  let main_cst_460 : FVec F S_ .f32 := constant S_ .f32 0x00000000#32
  let main_v3306 : FVec F S32 .f32 := (fun x v => Host.reduceAdd x v reducesTo_S32x1024_S32_d1 h_S_) main_v3305 main_cst_460
  let main_v3307 : FVec F S32x1024 .f32 := broadcastInDim S32x1024 ![0] bcast_S32_S32x1024_0 main_v3306
  let main_v3308 : IVec S32x32x32 32 := shapeCast S32x32x32 main_v3300 shapeCasts_S32x1024_S32x32x32
  let main_c_461 : IVec S_ 32 := constantI S_ 32 2147483648#32
  let main_v3309 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v3308 main_c_461
  let main_v3310 : IVec S32x1024 32 := shapeCast S32x1024 main_v3309 shapeCasts_S32x32x32_S32x1024
  let main_v3311 : IVec S32x1024 1 := cmpi .sgt main_v3310 main_v40
  let main_v3312 : IVec S32x1024 1 := ori main_v3294 main_v3290
  let main_v3313 : IVec S32x1024 1 := noti main_v3312
  let main_v3314 : IVec S32x1024 1 := cmpf .ogt main_v3289 main_v3307
  let main_v3315 : IVec S32x1024 1 := andi main_v3294 main_v3314
  let main_v3316 : IVec S32x1024 1 := ori main_v3313 main_v3315
  let main_v3317 : IVec S32x1024 1 := andi main_v3311 main_v3316
  let main_v3318 : FVec F S32x1024 .f32 := select main_v3317 main_v3307 main_v3289
  let main_v3319 : IVec S32x1024 1 := ori main_v3290 main_v3299
  let main_v3320 : IVec S32x1024 1 := andi main_v3299 main_v37
  let main_v3321 : IVec S32x1024 1 := noti main_v3320
  let main_v3322 : IVec S32x1024 1 := andi main_v3294 main_v3321
  let main_v3323 : IVec S32x1024 1 := ori main_v3322 main_v3317
  let main_v3324 : FVec F S32x1024 .f32 := addf main_v3318 main_v34
  let main_v3325 : FVec F S32x1024 .f32 := select main_v3323 main_v3324 main_v38
  let main_cst_462 : FVec F S_ .f32 := constant S_ .f32 0x7F800000#32
  let main_v3326 : FVec F S32 .f32 := (fun x v => Host.reduce FloatOps.minimumf x v reducesTo_S32x1024_S32_d1 h_S_) main_v3325 main_cst_462
  fn_part158 (F := F) main_arg0 main_arg1 main_arg2 main_v0 main_v34 main_v37 main_v38 main_v39 main_v40 main_v41 main_v3303 main_v3318 main_v3319 main_v3323 main_v3325 main_v3326

def fn_part156 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v3260 : FVec F S32x1024 .f32) (main_v3261 : IVec S32x1024 1) (main_v3265 : IVec S32x1024 1) (main_v3270 : IVec S32x1024 1) (main_v3274 : IVec S32 1) (main_v3278 : FVec F S32x1024 .f32) (main_v3282 : IVec S32x1024 1) (main_v3283 : IVec S32x1024 1) : IVec S32x32x32 1 :=
  let main_v3284 : IVec S32x1024 1 := noti main_v3283
  let main_v3285 : IVec S32x1024 1 := cmpf .ogt main_v3260 main_v3278
  let main_v3286 : IVec S32x1024 1 := andi main_v3265 main_v3285
  let main_v3287 : IVec S32x1024 1 := ori main_v3284 main_v3286
  let main_v3288 : IVec S32x1024 1 := andi main_v3282 main_v3287
  let main_v3289 : FVec F S32x1024 .f32 := select main_v3288 main_v3278 main_v3260
  let main_v3290 : IVec S32x1024 1 := ori main_v3261 main_v3270
  let main_v3291 : IVec S32x1024 1 := andi main_v3270 main_v37
  let main_v3292 : IVec S32x1024 1 := noti main_v3291
  let main_v3293 : IVec S32x1024 1 := andi main_v3265 main_v3292
  let main_v3294 : IVec S32x1024 1 := ori main_v3293 main_v3288
  let main_v3295 : FVec F S32x1024 .f32 := addf main_v3289 main_v34
  let main_v3296 : FVec F S32x1024 .f32 := select main_v3294 main_v3295 main_v38
  let main_cst_458 : FVec F S_ .f32 := constant S_ .f32 0x7F800000#32
  let main_v3297 : FVec F S32 .f32 := (fun x v => Host.reduce FloatOps.minimumf x v reducesTo_S32x1024_S32_d1 h_S_) main_v3296 main_cst_458
  let main_v3298 : FVec F S32x1024 .f32 := broadcastInDim S32x1024 ![0] bcast_S32_S32x1024_0 main_v3297
  let main_v3299 : IVec S32x1024 1 := cmpf .oeq main_v3296 main_v3298
  let main_v3300 : IVec S32x1024 32 := (extui 32 · natLt_1_32) main_v3299
  let main_c_459 : IVec S_ 32 := constantI S_ 32 0#32
  let main_v3301 : IVec S32 32 := (fun x v => Host.reduce IntOp.addi x v reducesTo_S32x1024_S32_d1 h_S_) main_v3300 main_c_459
  let main_v3302 : IVec S32 1 := cmpi .eq main_v3301 main_v41
  let main_v3303 : IVec S32 1 := andi main_v3274 main_v3302
  let main_v3304 : FVec F S32x1024 .f32 := addf main_v3289 main_v0
  let main_v3305 : FVec F S32x1024 .f32 := select main_v3299 main_v3304 main_v39
  fn_part157 (F := F) main_arg0 main_arg1 main_arg2 main_v0 main_v34 main_v37 main_v38 main_v39 main_v40 main_v41 main_v3289 main_v3290 main_v3294 main_v3299 main_v3300 main_v3303 main_v3305

def fn_part155 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v3236 : IVec S32x1024 1) (main_v3245 : IVec S32 1) (main_v3259 : IVec S32x1024 1) (main_v3260 : FVec F S32x1024 .f32) (main_v3261 : IVec S32x1024 1) (main_v3263 : IVec S32x1024 1) : IVec S32x32x32 1 :=
  let main_v3264 : IVec S32x1024 1 := andi main_v3236 main_v3263
  let main_v3265 : IVec S32x1024 1 := ori main_v3264 main_v3259
  let main_v3266 : FVec F S32x1024 .f32 := addf main_v3260 main_v34
  let main_v3267 : FVec F S32x1024 .f32 := select main_v3265 main_v3266 main_v38
  let main_cst_454 : FVec F S_ .f32 := constant S_ .f32 0x7F800000#32
  let main_v3268 : FVec F S32 .f32 := (fun x v => Host.reduce FloatOps.minimumf x v reducesTo_S32x1024_S32_d1 h_S_) main_v3267 main_cst_454
  let main_v3269 : FVec F S32x1024 .f32 := broadcastInDim S32x1024 ![0] bcast_S32_S32x1024_0 main_v3268
  let main_v3270 : IVec S32x1024 1 := cmpf .oeq main_v3267 main_v3269
  let main_v3271 : IVec S32x1024 32 := (extui 32 · natLt_1_32) main_v3270
  let main_c_455 : IVec S_ 32 := constantI S_ 32 0#32
  let main_v3272 : IVec S32 32 := (fun x v => Host.reduce IntOp.addi x v reducesTo_S32x1024_S32_d1 h_S_) main_v3271 main_c_455
  let main_v3273 : IVec S32 1 := cmpi .eq main_v3272 main_v41
  let main_v3274 : IVec S32 1 := andi main_v3245 main_v3273
  let main_v3275 : FVec F S32x1024 .f32 := addf main_v3260 main_v0
  let main_v3276 : FVec F S32x1024 .f32 := select main_v3270 main_v3275 main_v39
  let main_cst_456 : FVec F S_ .f32 := constant S_ .f32 0x00000000#32
  let main_v3277 : FVec F S32 .f32 := (fun x v => Host.reduceAdd x v reducesTo_S32x1024_S32_d1 h_S_) main_v3276 main_cst_456
  let main_v3278 : FVec F S32x1024 .f32 := broadcastInDim S32x1024 ![0] bcast_S32_S32x1024_0 main_v3277
  let main_v3279 : IVec S32x32x32 32 := shapeCast S32x32x32 main_v3271 shapeCasts_S32x1024_S32x32x32
  let main_c_457 : IVec S_ 32 := constantI S_ 32 2147483648#32
  let main_v3280 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v3279 main_c_457
  let main_v3281 : IVec S32x1024 32 := shapeCast S32x1024 main_v3280 shapeCasts_S32x32x32_S32x1024
  let main_v3282 : IVec S32x1024 1 := cmpi .sgt main_v3281 main_v40
  let main_v3283 : IVec S32x1024 1 := ori main_v3265 main_v3261
  fn_part156 (F := F) main_arg0 main_arg1 main_arg2 main_v0 main_v34 main_v37 main_v38 main_v39 main_v40 main_v41 main_v3260 main_v3261 main_v3265 main_v3270 main_v3274 main_v3278 main_v3282 main_v3283

def fn_part154 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v3216 : IVec S32 1) (main_v3231 : FVec F S32x1024 .f32) (main_v3232 : IVec S32x1024 1) (main_v3236 : IVec S32x1024 1) (main_v3241 : IVec S32x1024 1) (main_v3242 : IVec S32x1024 32) : IVec S32x32x32 1 :=
  let main_c_451 : IVec S_ 32 := constantI S_ 32 0#32
  let main_v3243 : IVec S32 32 := (fun x v => Host.reduce IntOp.addi x v reducesTo_S32x1024_S32_d1 h_S_) main_v3242 main_c_451
  let main_v3244 : IVec S32 1 := cmpi .eq main_v3243 main_v41
  let main_v3245 : IVec S32 1 := andi main_v3216 main_v3244
  let main_v3246 : FVec F S32x1024 .f32 := addf main_v3231 main_v0
  let main_v3247 : FVec F S32x1024 .f32 := select main_v3241 main_v3246 main_v39
  let main_cst_452 : FVec F S_ .f32 := constant S_ .f32 0x00000000#32
  let main_v3248 : FVec F S32 .f32 := (fun x v => Host.reduceAdd x v reducesTo_S32x1024_S32_d1 h_S_) main_v3247 main_cst_452
  let main_v3249 : FVec F S32x1024 .f32 := broadcastInDim S32x1024 ![0] bcast_S32_S32x1024_0 main_v3248
  let main_v3250 : IVec S32x32x32 32 := shapeCast S32x32x32 main_v3242 shapeCasts_S32x1024_S32x32x32
  let main_c_453 : IVec S_ 32 := constantI S_ 32 2147483648#32
  let main_v3251 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v3250 main_c_453
  let main_v3252 : IVec S32x1024 32 := shapeCast S32x1024 main_v3251 shapeCasts_S32x32x32_S32x1024
  let main_v3253 : IVec S32x1024 1 := cmpi .sgt main_v3252 main_v40
  let main_v3254 : IVec S32x1024 1 := ori main_v3236 main_v3232
  let main_v3255 : IVec S32x1024 1 := noti main_v3254
  let main_v3256 : IVec S32x1024 1 := cmpf .ogt main_v3231 main_v3249
  let main_v3257 : IVec S32x1024 1 := andi main_v3236 main_v3256
  let main_v3258 : IVec S32x1024 1 := ori main_v3255 main_v3257
  let main_v3259 : IVec S32x1024 1 := andi main_v3253 main_v3258
  let main_v3260 : FVec F S32x1024 .f32 := select main_v3259 main_v3249 main_v3231
  let main_v3261 : IVec S32x1024 1 := ori main_v3232 main_v3241
  let main_v3262 : IVec S32x1024 1 := andi main_v3241 main_v37
  let main_v3263 : IVec S32x1024 1 := noti main_v3262
  fn_part155 (F := F) main_arg0 main_arg1 main_arg2 main_v0 main_v34 main_v37 main_v38 main_v39 main_v40 main_v41 main_v3236 main_v3245 main_v3259 main_v3260 main_v3261 main_v3263

def fn_part153 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v3202 : FVec F S32x1024 .f32) (main_v3203 : IVec S32x1024 1) (main_v3207 : IVec S32x1024 1) (main_v3212 : IVec S32x1024 1) (main_v3213 : IVec S32x1024 32) (main_v3216 : IVec S32 1) (main_v3220 : FVec F S32x1024 .f32) : IVec S32x32x32 1 :=
  let main_v3221 : IVec S32x32x32 32 := shapeCast S32x32x32 main_v3213 shapeCasts_S32x1024_S32x32x32
  let main_c_449 : IVec S_ 32 := constantI S_ 32 2147483648#32
  let main_v3222 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v3221 main_c_449
  let main_v3223 : IVec S32x1024 32 := shapeCast S32x1024 main_v3222 shapeCasts_S32x32x32_S32x1024
  let main_v3224 : IVec S32x1024 1 := cmpi .sgt main_v3223 main_v40
  let main_v3225 : IVec S32x1024 1 := ori main_v3207 main_v3203
  let main_v3226 : IVec S32x1024 1 := noti main_v3225
  let main_v3227 : IVec S32x1024 1 := cmpf .ogt main_v3202 main_v3220
  let main_v3228 : IVec S32x1024 1 := andi main_v3207 main_v3227
  let main_v3229 : IVec S32x1024 1 := ori main_v3226 main_v3228
  let main_v3230 : IVec S32x1024 1 := andi main_v3224 main_v3229
  let main_v3231 : FVec F S32x1024 .f32 := select main_v3230 main_v3220 main_v3202
  let main_v3232 : IVec S32x1024 1 := ori main_v3203 main_v3212
  let main_v3233 : IVec S32x1024 1 := andi main_v3212 main_v37
  let main_v3234 : IVec S32x1024 1 := noti main_v3233
  let main_v3235 : IVec S32x1024 1 := andi main_v3207 main_v3234
  let main_v3236 : IVec S32x1024 1 := ori main_v3235 main_v3230
  let main_v3237 : FVec F S32x1024 .f32 := addf main_v3231 main_v34
  let main_v3238 : FVec F S32x1024 .f32 := select main_v3236 main_v3237 main_v38
  let main_cst_450 : FVec F S_ .f32 := constant S_ .f32 0x7F800000#32
  let main_v3239 : FVec F S32 .f32 := (fun x v => Host.reduce FloatOps.minimumf x v reducesTo_S32x1024_S32_d1 h_S_) main_v3238 main_cst_450
  let main_v3240 : FVec F S32x1024 .f32 := broadcastInDim S32x1024 ![0] bcast_S32_S32x1024_0 main_v3239
  let main_v3241 : IVec S32x1024 1 := cmpf .oeq main_v3238 main_v3240
  let main_v3242 : IVec S32x1024 32 := (extui 32 · natLt_1_32) main_v3241
  fn_part154 (F := F) main_arg0 main_arg1 main_arg2 main_v0 main_v34 main_v37 main_v38 main_v39 main_v40 main_v41 main_v3216 main_v3231 main_v3232 main_v3236 main_v3241 main_v3242

def fn_part152 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v3173 : FVec F S32x1024 .f32) (main_v3174 : IVec S32x1024 1) (main_v3178 : IVec S32x1024 1) (main_v3183 : IVec S32x1024 1) (main_v3187 : IVec S32 1) (main_v3191 : FVec F S32x1024 .f32) (main_v3195 : IVec S32x1024 1) (main_v3197 : IVec S32x1024 1) (main_v3199 : IVec S32x1024 1) : IVec S32x32x32 1 :=
  let main_v3200 : IVec S32x1024 1 := ori main_v3197 main_v3199
  let main_v3201 : IVec S32x1024 1 := andi main_v3195 main_v3200
  let main_v3202 : FVec F S32x1024 .f32 := select main_v3201 main_v3191 main_v3173
  let main_v3203 : IVec S32x1024 1 := ori main_v3174 main_v3183
  let main_v3204 : IVec S32x1024 1 := andi main_v3183 main_v37
  let main_v3205 : IVec S32x1024 1 := noti main_v3204
  let main_v3206 : IVec S32x1024 1 := andi main_v3178 main_v3205
  let main_v3207 : IVec S32x1024 1 := ori main_v3206 main_v3201
  let main_v3208 : FVec F S32x1024 .f32 := addf main_v3202 main_v34
  let main_v3209 : FVec F S32x1024 .f32 := select main_v3207 main_v3208 main_v38
  let main_cst_446 : FVec F S_ .f32 := constant S_ .f32 0x7F800000#32
  let main_v3210 : FVec F S32 .f32 := (fun x v => Host.reduce FloatOps.minimumf x v reducesTo_S32x1024_S32_d1 h_S_) main_v3209 main_cst_446
  let main_v3211 : FVec F S32x1024 .f32 := broadcastInDim S32x1024 ![0] bcast_S32_S32x1024_0 main_v3210
  let main_v3212 : IVec S32x1024 1 := cmpf .oeq main_v3209 main_v3211
  let main_v3213 : IVec S32x1024 32 := (extui 32 · natLt_1_32) main_v3212
  let main_c_447 : IVec S_ 32 := constantI S_ 32 0#32
  let main_v3214 : IVec S32 32 := (fun x v => Host.reduce IntOp.addi x v reducesTo_S32x1024_S32_d1 h_S_) main_v3213 main_c_447
  let main_v3215 : IVec S32 1 := cmpi .eq main_v3214 main_v41
  let main_v3216 : IVec S32 1 := andi main_v3187 main_v3215
  let main_v3217 : FVec F S32x1024 .f32 := addf main_v3202 main_v0
  let main_v3218 : FVec F S32x1024 .f32 := select main_v3212 main_v3217 main_v39
  let main_cst_448 : FVec F S_ .f32 := constant S_ .f32 0x00000000#32
  let main_v3219 : FVec F S32 .f32 := (fun x v => Host.reduceAdd x v reducesTo_S32x1024_S32_d1 h_S_) main_v3218 main_cst_448
  let main_v3220 : FVec F S32x1024 .f32 := broadcastInDim S32x1024 ![0] bcast_S32_S32x1024_0 main_v3219
  fn_part153 (F := F) main_arg0 main_arg1 main_arg2 main_v0 main_v34 main_v37 main_v38 main_v39 main_v40 main_v41 main_v3202 main_v3203 main_v3207 main_v3212 main_v3213 main_v3216 main_v3220

def fn_part151 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v3158 : IVec S32 1) (main_v3173 : FVec F S32x1024 .f32) (main_v3174 : IVec S32x1024 1) (main_v3178 : IVec S32x1024 1) (main_v3179 : FVec F S32x1024 .f32) : IVec S32x32x32 1 :=
  let main_v3180 : FVec F S32x1024 .f32 := select main_v3178 main_v3179 main_v38
  let main_cst_442 : FVec F S_ .f32 := constant S_ .f32 0x7F800000#32
  let main_v3181 : FVec F S32 .f32 := (fun x v => Host.reduce FloatOps.minimumf x v reducesTo_S32x1024_S32_d1 h_S_) main_v3180 main_cst_442
  let main_v3182 : FVec F S32x1024 .f32 := broadcastInDim S32x1024 ![0] bcast_S32_S32x1024_0 main_v3181
  let main_v3183 : IVec S32x1024 1 := cmpf .oeq main_v3180 main_v3182
  let main_v3184 : IVec S32x1024 32 := (extui 32 · natLt_1_32) main_v3183
  let main_c_443 : IVec S_ 32 := constantI S_ 32 0#32
  let main_v3185 : IVec S32 32 := (fun x v => Host.reduce IntOp.addi x v reducesTo_S32x1024_S32_d1 h_S_) main_v3184 main_c_443
  let main_v3186 : IVec S32 1 := cmpi .eq main_v3185 main_v41
  let main_v3187 : IVec S32 1 := andi main_v3158 main_v3186
  let main_v3188 : FVec F S32x1024 .f32 := addf main_v3173 main_v0
  let main_v3189 : FVec F S32x1024 .f32 := select main_v3183 main_v3188 main_v39
  let main_cst_444 : FVec F S_ .f32 := constant S_ .f32 0x00000000#32
  let main_v3190 : FVec F S32 .f32 := (fun x v => Host.reduceAdd x v reducesTo_S32x1024_S32_d1 h_S_) main_v3189 main_cst_444
  let main_v3191 : FVec F S32x1024 .f32 := broadcastInDim S32x1024 ![0] bcast_S32_S32x1024_0 main_v3190
  let main_v3192 : IVec S32x32x32 32 := shapeCast S32x32x32 main_v3184 shapeCasts_S32x1024_S32x32x32
  let main_c_445 : IVec S_ 32 := constantI S_ 32 2147483648#32
  let main_v3193 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v3192 main_c_445
  let main_v3194 : IVec S32x1024 32 := shapeCast S32x1024 main_v3193 shapeCasts_S32x32x32_S32x1024
  let main_v3195 : IVec S32x1024 1 := cmpi .sgt main_v3194 main_v40
  let main_v3196 : IVec S32x1024 1 := ori main_v3178 main_v3174
  let main_v3197 : IVec S32x1024 1 := noti main_v3196
  let main_v3198 : IVec S32x1024 1 := cmpf .ogt main_v3173 main_v3191
  let main_v3199 : IVec S32x1024 1 := andi main_v3178 main_v3198
  fn_part152 (F := F) main_arg0 main_arg1 main_arg2 main_v0 main_v34 main_v37 main_v38 main_v39 main_v40 main_v41 main_v3173 main_v3174 main_v3178 main_v3183 main_v3187 main_v3191 main_v3195 main_v3197 main_v3199

def fn_part150 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v3129 : IVec S32 1) (main_v3144 : FVec F S32x1024 .f32) (main_v3145 : IVec S32x1024 1) (main_v3149 : IVec S32x1024 1) (main_v3154 : IVec S32x1024 1) (main_v3155 : IVec S32x1024 32) (main_v3157 : IVec S32 1) : IVec S32x32x32 1 :=
  let main_v3158 : IVec S32 1 := andi main_v3129 main_v3157
  let main_v3159 : FVec F S32x1024 .f32 := addf main_v3144 main_v0
  let main_v3160 : FVec F S32x1024 .f32 := select main_v3154 main_v3159 main_v39
  let main_cst_440 : FVec F S_ .f32 := constant S_ .f32 0x00000000#32
  let main_v3161 : FVec F S32 .f32 := (fun x v => Host.reduceAdd x v reducesTo_S32x1024_S32_d1 h_S_) main_v3160 main_cst_440
  let main_v3162 : FVec F S32x1024 .f32 := broadcastInDim S32x1024 ![0] bcast_S32_S32x1024_0 main_v3161
  let main_v3163 : IVec S32x32x32 32 := shapeCast S32x32x32 main_v3155 shapeCasts_S32x1024_S32x32x32
  let main_c_441 : IVec S_ 32 := constantI S_ 32 2147483648#32
  let main_v3164 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v3163 main_c_441
  let main_v3165 : IVec S32x1024 32 := shapeCast S32x1024 main_v3164 shapeCasts_S32x32x32_S32x1024
  let main_v3166 : IVec S32x1024 1 := cmpi .sgt main_v3165 main_v40
  let main_v3167 : IVec S32x1024 1 := ori main_v3149 main_v3145
  let main_v3168 : IVec S32x1024 1 := noti main_v3167
  let main_v3169 : IVec S32x1024 1 := cmpf .ogt main_v3144 main_v3162
  let main_v3170 : IVec S32x1024 1 := andi main_v3149 main_v3169
  let main_v3171 : IVec S32x1024 1 := ori main_v3168 main_v3170
  let main_v3172 : IVec S32x1024 1 := andi main_v3166 main_v3171
  let main_v3173 : FVec F S32x1024 .f32 := select main_v3172 main_v3162 main_v3144
  let main_v3174 : IVec S32x1024 1 := ori main_v3145 main_v3154
  let main_v3175 : IVec S32x1024 1 := andi main_v3154 main_v37
  let main_v3176 : IVec S32x1024 1 := noti main_v3175
  let main_v3177 : IVec S32x1024 1 := andi main_v3149 main_v3176
  let main_v3178 : IVec S32x1024 1 := ori main_v3177 main_v3172
  let main_v3179 : FVec F S32x1024 .f32 := addf main_v3173 main_v34
  fn_part151 (F := F) main_arg0 main_arg1 main_arg2 main_v0 main_v34 main_v37 main_v38 main_v39 main_v40 main_v41 main_v3158 main_v3173 main_v3174 main_v3178 main_v3179

def fn_part149 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v3115 : FVec F S32x1024 .f32) (main_v3116 : IVec S32x1024 1) (main_v3120 : IVec S32x1024 1) (main_v3125 : IVec S32x1024 1) (main_v3129 : IVec S32 1) (main_v3133 : FVec F S32x1024 .f32) (main_v3135 : IVec S32x32x32 32) : IVec S32x32x32 1 :=
  let main_v3136 : IVec S32x1024 32 := shapeCast S32x1024 main_v3135 shapeCasts_S32x32x32_S32x1024
  let main_v3137 : IVec S32x1024 1 := cmpi .sgt main_v3136 main_v40
  let main_v3138 : IVec S32x1024 1 := ori main_v3120 main_v3116
  let main_v3139 : IVec S32x1024 1 := noti main_v3138
  let main_v3140 : IVec S32x1024 1 := cmpf .ogt main_v3115 main_v3133
  let main_v3141 : IVec S32x1024 1 := andi main_v3120 main_v3140
  let main_v3142 : IVec S32x1024 1 := ori main_v3139 main_v3141
  let main_v3143 : IVec S32x1024 1 := andi main_v3137 main_v3142
  let main_v3144 : FVec F S32x1024 .f32 := select main_v3143 main_v3133 main_v3115
  let main_v3145 : IVec S32x1024 1 := ori main_v3116 main_v3125
  let main_v3146 : IVec S32x1024 1 := andi main_v3125 main_v37
  let main_v3147 : IVec S32x1024 1 := noti main_v3146
  let main_v3148 : IVec S32x1024 1 := andi main_v3120 main_v3147
  let main_v3149 : IVec S32x1024 1 := ori main_v3148 main_v3143
  let main_v3150 : FVec F S32x1024 .f32 := addf main_v3144 main_v34
  let main_v3151 : FVec F S32x1024 .f32 := select main_v3149 main_v3150 main_v38
  let main_cst_438 : FVec F S_ .f32 := constant S_ .f32 0x7F800000#32
  let main_v3152 : FVec F S32 .f32 := (fun x v => Host.reduce FloatOps.minimumf x v reducesTo_S32x1024_S32_d1 h_S_) main_v3151 main_cst_438
  let main_v3153 : FVec F S32x1024 .f32 := broadcastInDim S32x1024 ![0] bcast_S32_S32x1024_0 main_v3152
  let main_v3154 : IVec S32x1024 1 := cmpf .oeq main_v3151 main_v3153
  let main_v3155 : IVec S32x1024 32 := (extui 32 · natLt_1_32) main_v3154
  let main_c_439 : IVec S_ 32 := constantI S_ 32 0#32
  let main_v3156 : IVec S32 32 := (fun x v => Host.reduce IntOp.addi x v reducesTo_S32x1024_S32_d1 h_S_) main_v3155 main_c_439
  let main_v3157 : IVec S32 1 := cmpi .eq main_v3156 main_v41
  fn_part150 (F := F) main_arg0 main_arg1 main_arg2 main_v0 main_v34 main_v37 main_v38 main_v39 main_v40 main_v41 main_v3129 main_v3144 main_v3145 main_v3149 main_v3154 main_v3155 main_v3157

def fn_part148 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v3087 : IVec S32x1024 1) (main_v3091 : IVec S32x1024 1) (main_v3096 : IVec S32x1024 1) (main_v3100 : IVec S32 1) (main_v3114 : IVec S32x1024 1) (main_v3115 : FVec F S32x1024 .f32) : IVec S32x32x32 1 :=
  let main_v3116 : IVec S32x1024 1 := ori main_v3087 main_v3096
  let main_v3117 : IVec S32x1024 1 := andi main_v3096 main_v37
  let main_v3118 : IVec S32x1024 1 := noti main_v3117
  let main_v3119 : IVec S32x1024 1 := andi main_v3091 main_v3118
  let main_v3120 : IVec S32x1024 1 := ori main_v3119 main_v3114
  let main_v3121 : FVec F S32x1024 .f32 := addf main_v3115 main_v34
  let main_v3122 : FVec F S32x1024 .f32 := select main_v3120 main_v3121 main_v38
  let main_cst_434 : FVec F S_ .f32 := constant S_ .f32 0x7F800000#32
  let main_v3123 : FVec F S32 .f32 := (fun x v => Host.reduce FloatOps.minimumf x v reducesTo_S32x1024_S32_d1 h_S_) main_v3122 main_cst_434
  let main_v3124 : FVec F S32x1024 .f32 := broadcastInDim S32x1024 ![0] bcast_S32_S32x1024_0 main_v3123
  let main_v3125 : IVec S32x1024 1 := cmpf .oeq main_v3122 main_v3124
  let main_v3126 : IVec S32x1024 32 := (extui 32 · natLt_1_32) main_v3125
  let main_c_435 : IVec S_ 32 := constantI S_ 32 0#32
  let main_v3127 : IVec S32 32 := (fun x v => Host.reduce IntOp.addi x v reducesTo_S32x1024_S32_d1 h_S_) main_v3126 main_c_435
  let main_v3128 : IVec S32 1 := cmpi .eq main_v3127 main_v41
  let main_v3129 : IVec S32 1 := andi main_v3100 main_v3128
  let main_v3130 : FVec F S32x1024 .f32 := addf main_v3115 main_v0
  let main_v3131 : FVec F S32x1024 .f32 := select main_v3125 main_v3130 main_v39
  let main_cst_436 : FVec F S_ .f32 := constant S_ .f32 0x00000000#32
  let main_v3132 : FVec F S32 .f32 := (fun x v => Host.reduceAdd x v reducesTo_S32x1024_S32_d1 h_S_) main_v3131 main_cst_436
  let main_v3133 : FVec F S32x1024 .f32 := broadcastInDim S32x1024 ![0] bcast_S32_S32x1024_0 main_v3132
  let main_v3134 : IVec S32x32x32 32 := shapeCast S32x32x32 main_v3126 shapeCasts_S32x1024_S32x32x32
  let main_c_437 : IVec S_ 32 := constantI S_ 32 2147483648#32
  let main_v3135 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v3134 main_c_437
  fn_part149 (F := F) main_arg0 main_arg1 main_arg2 main_v0 main_v34 main_v37 main_v38 main_v39 main_v40 main_v41 main_v3115 main_v3116 main_v3120 main_v3125 main_v3129 main_v3133 main_v3135

def fn_part147 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v3071 : IVec S32 1) (main_v3086 : FVec F S32x1024 .f32) (main_v3087 : IVec S32x1024 1) (main_v3091 : IVec S32x1024 1) (main_v3093 : FVec F S32x1024 .f32) (main_v3094 : FVec F S32 .f32) : IVec S32x32x32 1 :=
  let main_v3095 : FVec F S32x1024 .f32 := broadcastInDim S32x1024 ![0] bcast_S32_S32x1024_0 main_v3094
  let main_v3096 : IVec S32x1024 1 := cmpf .oeq main_v3093 main_v3095
  let main_v3097 : IVec S32x1024 32 := (extui 32 · natLt_1_32) main_v3096
  let main_c_431 : IVec S_ 32 := constantI S_ 32 0#32
  let main_v3098 : IVec S32 32 := (fun x v => Host.reduce IntOp.addi x v reducesTo_S32x1024_S32_d1 h_S_) main_v3097 main_c_431
  let main_v3099 : IVec S32 1 := cmpi .eq main_v3098 main_v41
  let main_v3100 : IVec S32 1 := andi main_v3071 main_v3099
  let main_v3101 : FVec F S32x1024 .f32 := addf main_v3086 main_v0
  let main_v3102 : FVec F S32x1024 .f32 := select main_v3096 main_v3101 main_v39
  let main_cst_432 : FVec F S_ .f32 := constant S_ .f32 0x00000000#32
  let main_v3103 : FVec F S32 .f32 := (fun x v => Host.reduceAdd x v reducesTo_S32x1024_S32_d1 h_S_) main_v3102 main_cst_432
  let main_v3104 : FVec F S32x1024 .f32 := broadcastInDim S32x1024 ![0] bcast_S32_S32x1024_0 main_v3103
  let main_v3105 : IVec S32x32x32 32 := shapeCast S32x32x32 main_v3097 shapeCasts_S32x1024_S32x32x32
  let main_c_433 : IVec S_ 32 := constantI S_ 32 2147483648#32
  let main_v3106 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v3105 main_c_433
  let main_v3107 : IVec S32x1024 32 := shapeCast S32x1024 main_v3106 shapeCasts_S32x32x32_S32x1024
  let main_v3108 : IVec S32x1024 1 := cmpi .sgt main_v3107 main_v40
  let main_v3109 : IVec S32x1024 1 := ori main_v3091 main_v3087
  let main_v3110 : IVec S32x1024 1 := noti main_v3109
  let main_v3111 : IVec S32x1024 1 := cmpf .ogt main_v3086 main_v3104
  let main_v3112 : IVec S32x1024 1 := andi main_v3091 main_v3111
  let main_v3113 : IVec S32x1024 1 := ori main_v3110 main_v3112
  let main_v3114 : IVec S32x1024 1 := andi main_v3108 main_v3113
  let main_v3115 : FVec F S32x1024 .f32 := select main_v3114 main_v3104 main_v3086
  fn_part148 (F := F) main_arg0 main_arg1 main_arg2 main_v0 main_v34 main_v37 main_v38 main_v39 main_v40 main_v41 main_v3087 main_v3091 main_v3096 main_v3100 main_v3114 main_v3115

def fn_part146 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v3057 : FVec F S32x1024 .f32) (main_v3058 : IVec S32x1024 1) (main_v3062 : IVec S32x1024 1) (main_v3067 : IVec S32x1024 1) (main_v3068 : IVec S32x1024 32) (main_v3071 : IVec S32 1) (main_v3073 : FVec F S32x1024 .f32) : IVec S32x32x32 1 :=
  let main_cst_428 : FVec F S_ .f32 := constant S_ .f32 0x00000000#32
  let main_v3074 : FVec F S32 .f32 := (fun x v => Host.reduceAdd x v reducesTo_S32x1024_S32_d1 h_S_) main_v3073 main_cst_428
  let main_v3075 : FVec F S32x1024 .f32 := broadcastInDim S32x1024 ![0] bcast_S32_S32x1024_0 main_v3074
  let main_v3076 : IVec S32x32x32 32 := shapeCast S32x32x32 main_v3068 shapeCasts_S32x1024_S32x32x32
  let main_c_429 : IVec S_ 32 := constantI S_ 32 2147483648#32
  let main_v3077 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v3076 main_c_429
  let main_v3078 : IVec S32x1024 32 := shapeCast S32x1024 main_v3077 shapeCasts_S32x32x32_S32x1024
  let main_v3079 : IVec S32x1024 1 := cmpi .sgt main_v3078 main_v40
  let main_v3080 : IVec S32x1024 1 := ori main_v3062 main_v3058
  let main_v3081 : IVec S32x1024 1 := noti main_v3080
  let main_v3082 : IVec S32x1024 1 := cmpf .ogt main_v3057 main_v3075
  let main_v3083 : IVec S32x1024 1 := andi main_v3062 main_v3082
  let main_v3084 : IVec S32x1024 1 := ori main_v3081 main_v3083
  let main_v3085 : IVec S32x1024 1 := andi main_v3079 main_v3084
  let main_v3086 : FVec F S32x1024 .f32 := select main_v3085 main_v3075 main_v3057
  let main_v3087 : IVec S32x1024 1 := ori main_v3058 main_v3067
  let main_v3088 : IVec S32x1024 1 := andi main_v3067 main_v37
  let main_v3089 : IVec S32x1024 1 := noti main_v3088
  let main_v3090 : IVec S32x1024 1 := andi main_v3062 main_v3089
  let main_v3091 : IVec S32x1024 1 := ori main_v3090 main_v3085
  let main_v3092 : FVec F S32x1024 .f32 := addf main_v3086 main_v34
  let main_v3093 : FVec F S32x1024 .f32 := select main_v3091 main_v3092 main_v38
  let main_cst_430 : FVec F S_ .f32 := constant S_ .f32 0x7F800000#32
  let main_v3094 : FVec F S32 .f32 := (fun x v => Host.reduce FloatOps.minimumf x v reducesTo_S32x1024_S32_d1 h_S_) main_v3093 main_cst_430
  fn_part147 (F := F) main_arg0 main_arg1 main_arg2 main_v0 main_v34 main_v37 main_v38 main_v39 main_v40 main_v41 main_v3071 main_v3086 main_v3087 main_v3091 main_v3093 main_v3094

def fn_part145 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v3028 : FVec F S32x1024 .f32) (main_v3029 : IVec S32x1024 1) (main_v3033 : IVec S32x1024 1) (main_v3038 : IVec S32x1024 1) (main_v3042 : IVec S32 1) (main_v3046 : FVec F S32x1024 .f32) (main_v3050 : IVec S32x1024 1) (main_v3051 : IVec S32x1024 1) : IVec S32x32x32 1 :=
  let main_v3052 : IVec S32x1024 1 := noti main_v3051
  let main_v3053 : IVec S32x1024 1 := cmpf .ogt main_v3028 main_v3046
  let main_v3054 : IVec S32x1024 1 := andi main_v3033 main_v3053
  let main_v3055 : IVec S32x1024 1 := ori main_v3052 main_v3054
  let main_v3056 : IVec S32x1024 1 := andi main_v3050 main_v3055
  let main_v3057 : FVec F S32x1024 .f32 := select main_v3056 main_v3046 main_v3028
  let main_v3058 : IVec S32x1024 1 := ori main_v3029 main_v3038
  let main_v3059 : IVec S32x1024 1 := andi main_v3038 main_v37
  let main_v3060 : IVec S32x1024 1 := noti main_v3059
  let main_v3061 : IVec S32x1024 1 := andi main_v3033 main_v3060
  let main_v3062 : IVec S32x1024 1 := ori main_v3061 main_v3056
  let main_v3063 : FVec F S32x1024 .f32 := addf main_v3057 main_v34
  let main_v3064 : FVec F S32x1024 .f32 := select main_v3062 main_v3063 main_v38
  let main_cst_426 : FVec F S_ .f32 := constant S_ .f32 0x7F800000#32
  let main_v3065 : FVec F S32 .f32 := (fun x v => Host.reduce FloatOps.minimumf x v reducesTo_S32x1024_S32_d1 h_S_) main_v3064 main_cst_426
  let main_v3066 : FVec F S32x1024 .f32 := broadcastInDim S32x1024 ![0] bcast_S32_S32x1024_0 main_v3065
  let main_v3067 : IVec S32x1024 1 := cmpf .oeq main_v3064 main_v3066
  let main_v3068 : IVec S32x1024 32 := (extui 32 · natLt_1_32) main_v3067
  let main_c_427 : IVec S_ 32 := constantI S_ 32 0#32
  let main_v3069 : IVec S32 32 := (fun x v => Host.reduce IntOp.addi x v reducesTo_S32x1024_S32_d1 h_S_) main_v3068 main_c_427
  let main_v3070 : IVec S32 1 := cmpi .eq main_v3069 main_v41
  let main_v3071 : IVec S32 1 := andi main_v3042 main_v3070
  let main_v3072 : FVec F S32x1024 .f32 := addf main_v3057 main_v0
  let main_v3073 : FVec F S32x1024 .f32 := select main_v3067 main_v3072 main_v39
  fn_part146 (F := F) main_arg0 main_arg1 main_arg2 main_v0 main_v34 main_v37 main_v38 main_v39 main_v40 main_v41 main_v3057 main_v3058 main_v3062 main_v3067 main_v3068 main_v3071 main_v3073

def fn_part144 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v3004 : IVec S32x1024 1) (main_v3013 : IVec S32 1) (main_v3027 : IVec S32x1024 1) (main_v3028 : FVec F S32x1024 .f32) (main_v3029 : IVec S32x1024 1) (main_v3031 : IVec S32x1024 1) : IVec S32x32x32 1 :=
  let main_v3032 : IVec S32x1024 1 := andi main_v3004 main_v3031
  let main_v3033 : IVec S32x1024 1 := ori main_v3032 main_v3027
  let main_v3034 : FVec F S32x1024 .f32 := addf main_v3028 main_v34
  let main_v3035 : FVec F S32x1024 .f32 := select main_v3033 main_v3034 main_v38
  let main_cst_422 : FVec F S_ .f32 := constant S_ .f32 0x7F800000#32
  let main_v3036 : FVec F S32 .f32 := (fun x v => Host.reduce FloatOps.minimumf x v reducesTo_S32x1024_S32_d1 h_S_) main_v3035 main_cst_422
  let main_v3037 : FVec F S32x1024 .f32 := broadcastInDim S32x1024 ![0] bcast_S32_S32x1024_0 main_v3036
  let main_v3038 : IVec S32x1024 1 := cmpf .oeq main_v3035 main_v3037
  let main_v3039 : IVec S32x1024 32 := (extui 32 · natLt_1_32) main_v3038
  let main_c_423 : IVec S_ 32 := constantI S_ 32 0#32
  let main_v3040 : IVec S32 32 := (fun x v => Host.reduce IntOp.addi x v reducesTo_S32x1024_S32_d1 h_S_) main_v3039 main_c_423
  let main_v3041 : IVec S32 1 := cmpi .eq main_v3040 main_v41
  let main_v3042 : IVec S32 1 := andi main_v3013 main_v3041
  let main_v3043 : FVec F S32x1024 .f32 := addf main_v3028 main_v0
  let main_v3044 : FVec F S32x1024 .f32 := select main_v3038 main_v3043 main_v39
  let main_cst_424 : FVec F S_ .f32 := constant S_ .f32 0x00000000#32
  let main_v3045 : FVec F S32 .f32 := (fun x v => Host.reduceAdd x v reducesTo_S32x1024_S32_d1 h_S_) main_v3044 main_cst_424
  let main_v3046 : FVec F S32x1024 .f32 := broadcastInDim S32x1024 ![0] bcast_S32_S32x1024_0 main_v3045
  let main_v3047 : IVec S32x32x32 32 := shapeCast S32x32x32 main_v3039 shapeCasts_S32x1024_S32x32x32
  let main_c_425 : IVec S_ 32 := constantI S_ 32 2147483648#32
  let main_v3048 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v3047 main_c_425
  let main_v3049 : IVec S32x1024 32 := shapeCast S32x1024 main_v3048 shapeCasts_S32x32x32_S32x1024
  let main_v3050 : IVec S32x1024 1 := cmpi .sgt main_v3049 main_v40
  let main_v3051 : IVec S32x1024 1 := ori main_v3033 main_v3029
  fn_part145 (F := F) main_arg0 main_arg1 main_arg2 main_v0 main_v34 main_v37 main_v38 main_v39 main_v40 main_v41 main_v3028 main_v3029 main_v3033 main_v3038 main_v3042 main_v3046 main_v3050 main_v3051

def fn_part143 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v2984 : IVec S32 1) (main_v2999 : FVec F S32x1024 .f32) (main_v3000 : IVec S32x1024 1) (main_v3004 : IVec S32x1024 1) (main_v3009 : IVec S32x1024 1) (main_v3010 : IVec S32x1024 32) : IVec S32x32x32 1 :=
  let main_c_419 : IVec S_ 32 := constantI S_ 32 0#32
  let main_v3011 : IVec S32 32 := (fun x v => Host.reduce IntOp.addi x v reducesTo_S32x1024_S32_d1 h_S_) main_v3010 main_c_419
  let main_v3012 : IVec S32 1 := cmpi .eq main_v3011 main_v41
  let main_v3013 : IVec S32 1 := andi main_v2984 main_v3012
  let main_v3014 : FVec F S32x1024 .f32 := addf main_v2999 main_v0
  let main_v3015 : FVec F S32x1024 .f32 := select main_v3009 main_v3014 main_v39
  let main_cst_420 : FVec F S_ .f32 := constant S_ .f32 0x00000000#32
  let main_v3016 : FVec F S32 .f32 := (fun x v => Host.reduceAdd x v reducesTo_S32x1024_S32_d1 h_S_) main_v3015 main_cst_420
  let main_v3017 : FVec F S32x1024 .f32 := broadcastInDim S32x1024 ![0] bcast_S32_S32x1024_0 main_v3016
  let main_v3018 : IVec S32x32x32 32 := shapeCast S32x32x32 main_v3010 shapeCasts_S32x1024_S32x32x32
  let main_c_421 : IVec S_ 32 := constantI S_ 32 2147483648#32
  let main_v3019 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v3018 main_c_421
  let main_v3020 : IVec S32x1024 32 := shapeCast S32x1024 main_v3019 shapeCasts_S32x32x32_S32x1024
  let main_v3021 : IVec S32x1024 1 := cmpi .sgt main_v3020 main_v40
  let main_v3022 : IVec S32x1024 1 := ori main_v3004 main_v3000
  let main_v3023 : IVec S32x1024 1 := noti main_v3022
  let main_v3024 : IVec S32x1024 1 := cmpf .ogt main_v2999 main_v3017
  let main_v3025 : IVec S32x1024 1 := andi main_v3004 main_v3024
  let main_v3026 : IVec S32x1024 1 := ori main_v3023 main_v3025
  let main_v3027 : IVec S32x1024 1 := andi main_v3021 main_v3026
  let main_v3028 : FVec F S32x1024 .f32 := select main_v3027 main_v3017 main_v2999
  let main_v3029 : IVec S32x1024 1 := ori main_v3000 main_v3009
  let main_v3030 : IVec S32x1024 1 := andi main_v3009 main_v37
  let main_v3031 : IVec S32x1024 1 := noti main_v3030
  fn_part144 (F := F) main_arg0 main_arg1 main_arg2 main_v0 main_v34 main_v37 main_v38 main_v39 main_v40 main_v41 main_v3004 main_v3013 main_v3027 main_v3028 main_v3029 main_v3031

def fn_part142 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v2970 : FVec F S32x1024 .f32) (main_v2971 : IVec S32x1024 1) (main_v2975 : IVec S32x1024 1) (main_v2980 : IVec S32x1024 1) (main_v2981 : IVec S32x1024 32) (main_v2984 : IVec S32 1) (main_v2988 : FVec F S32x1024 .f32) : IVec S32x32x32 1 :=
  let main_v2989 : IVec S32x32x32 32 := shapeCast S32x32x32 main_v2981 shapeCasts_S32x1024_S32x32x32
  let main_c_417 : IVec S_ 32 := constantI S_ 32 2147483648#32
  let main_v2990 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v2989 main_c_417
  let main_v2991 : IVec S32x1024 32 := shapeCast S32x1024 main_v2990 shapeCasts_S32x32x32_S32x1024
  let main_v2992 : IVec S32x1024 1 := cmpi .sgt main_v2991 main_v40
  let main_v2993 : IVec S32x1024 1 := ori main_v2975 main_v2971
  let main_v2994 : IVec S32x1024 1 := noti main_v2993
  let main_v2995 : IVec S32x1024 1 := cmpf .ogt main_v2970 main_v2988
  let main_v2996 : IVec S32x1024 1 := andi main_v2975 main_v2995
  let main_v2997 : IVec S32x1024 1 := ori main_v2994 main_v2996
  let main_v2998 : IVec S32x1024 1 := andi main_v2992 main_v2997
  let main_v2999 : FVec F S32x1024 .f32 := select main_v2998 main_v2988 main_v2970
  let main_v3000 : IVec S32x1024 1 := ori main_v2971 main_v2980
  let main_v3001 : IVec S32x1024 1 := andi main_v2980 main_v37
  let main_v3002 : IVec S32x1024 1 := noti main_v3001
  let main_v3003 : IVec S32x1024 1 := andi main_v2975 main_v3002
  let main_v3004 : IVec S32x1024 1 := ori main_v3003 main_v2998
  let main_v3005 : FVec F S32x1024 .f32 := addf main_v2999 main_v34
  let main_v3006 : FVec F S32x1024 .f32 := select main_v3004 main_v3005 main_v38
  let main_cst_418 : FVec F S_ .f32 := constant S_ .f32 0x7F800000#32
  let main_v3007 : FVec F S32 .f32 := (fun x v => Host.reduce FloatOps.minimumf x v reducesTo_S32x1024_S32_d1 h_S_) main_v3006 main_cst_418
  let main_v3008 : FVec F S32x1024 .f32 := broadcastInDim S32x1024 ![0] bcast_S32_S32x1024_0 main_v3007
  let main_v3009 : IVec S32x1024 1 := cmpf .oeq main_v3006 main_v3008
  let main_v3010 : IVec S32x1024 32 := (extui 32 · natLt_1_32) main_v3009
  fn_part143 (F := F) main_arg0 main_arg1 main_arg2 main_v0 main_v34 main_v37 main_v38 main_v39 main_v40 main_v41 main_v2984 main_v2999 main_v3000 main_v3004 main_v3009 main_v3010

def fn_part141 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v2941 : FVec F S32x1024 .f32) (main_v2942 : IVec S32x1024 1) (main_v2946 : IVec S32x1024 1) (main_v2951 : IVec S32x1024 1) (main_v2955 : IVec S32 1) (main_v2959 : FVec F S32x1024 .f32) (main_v2963 : IVec S32x1024 1) (main_v2965 : IVec S32x1024 1) (main_v2967 : IVec S32x1024 1) : IVec S32x32x32 1 :=
  let main_v2968 : IVec S32x1024 1 := ori main_v2965 main_v2967
  let main_v2969 : IVec S32x1024 1 := andi main_v2963 main_v2968
  let main_v2970 : FVec F S32x1024 .f32 := select main_v2969 main_v2959 main_v2941
  let main_v2971 : IVec S32x1024 1 := ori main_v2942 main_v2951
  let main_v2972 : IVec S32x1024 1 := andi main_v2951 main_v37
  let main_v2973 : IVec S32x1024 1 := noti main_v2972
  let main_v2974 : IVec S32x1024 1 := andi main_v2946 main_v2973
  let main_v2975 : IVec S32x1024 1 := ori main_v2974 main_v2969
  let main_v2976 : FVec F S32x1024 .f32 := addf main_v2970 main_v34
  let main_v2977 : FVec F S32x1024 .f32 := select main_v2975 main_v2976 main_v38
  let main_cst_414 : FVec F S_ .f32 := constant S_ .f32 0x7F800000#32
  let main_v2978 : FVec F S32 .f32 := (fun x v => Host.reduce FloatOps.minimumf x v reducesTo_S32x1024_S32_d1 h_S_) main_v2977 main_cst_414
  let main_v2979 : FVec F S32x1024 .f32 := broadcastInDim S32x1024 ![0] bcast_S32_S32x1024_0 main_v2978
  let main_v2980 : IVec S32x1024 1 := cmpf .oeq main_v2977 main_v2979
  let main_v2981 : IVec S32x1024 32 := (extui 32 · natLt_1_32) main_v2980
  let main_c_415 : IVec S_ 32 := constantI S_ 32 0#32
  let main_v2982 : IVec S32 32 := (fun x v => Host.reduce IntOp.addi x v reducesTo_S32x1024_S32_d1 h_S_) main_v2981 main_c_415
  let main_v2983 : IVec S32 1 := cmpi .eq main_v2982 main_v41
  let main_v2984 : IVec S32 1 := andi main_v2955 main_v2983
  let main_v2985 : FVec F S32x1024 .f32 := addf main_v2970 main_v0
  let main_v2986 : FVec F S32x1024 .f32 := select main_v2980 main_v2985 main_v39
  let main_cst_416 : FVec F S_ .f32 := constant S_ .f32 0x00000000#32
  let main_v2987 : FVec F S32 .f32 := (fun x v => Host.reduceAdd x v reducesTo_S32x1024_S32_d1 h_S_) main_v2986 main_cst_416
  let main_v2988 : FVec F S32x1024 .f32 := broadcastInDim S32x1024 ![0] bcast_S32_S32x1024_0 main_v2987
  fn_part142 (F := F) main_arg0 main_arg1 main_arg2 main_v0 main_v34 main_v37 main_v38 main_v39 main_v40 main_v41 main_v2970 main_v2971 main_v2975 main_v2980 main_v2981 main_v2984 main_v2988

def fn_part140 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v2926 : IVec S32 1) (main_v2941 : FVec F S32x1024 .f32) (main_v2942 : IVec S32x1024 1) (main_v2946 : IVec S32x1024 1) (main_v2947 : FVec F S32x1024 .f32) : IVec S32x32x32 1 :=
  let main_v2948 : FVec F S32x1024 .f32 := select main_v2946 main_v2947 main_v38
  let main_cst_410 : FVec F S_ .f32 := constant S_ .f32 0x7F800000#32
  let main_v2949 : FVec F S32 .f32 := (fun x v => Host.reduce FloatOps.minimumf x v reducesTo_S32x1024_S32_d1 h_S_) main_v2948 main_cst_410
  let main_v2950 : FVec F S32x1024 .f32 := broadcastInDim S32x1024 ![0] bcast_S32_S32x1024_0 main_v2949
  let main_v2951 : IVec S32x1024 1 := cmpf .oeq main_v2948 main_v2950
  let main_v2952 : IVec S32x1024 32 := (extui 32 · natLt_1_32) main_v2951
  let main_c_411 : IVec S_ 32 := constantI S_ 32 0#32
  let main_v2953 : IVec S32 32 := (fun x v => Host.reduce IntOp.addi x v reducesTo_S32x1024_S32_d1 h_S_) main_v2952 main_c_411
  let main_v2954 : IVec S32 1 := cmpi .eq main_v2953 main_v41
  let main_v2955 : IVec S32 1 := andi main_v2926 main_v2954
  let main_v2956 : FVec F S32x1024 .f32 := addf main_v2941 main_v0
  let main_v2957 : FVec F S32x1024 .f32 := select main_v2951 main_v2956 main_v39
  let main_cst_412 : FVec F S_ .f32 := constant S_ .f32 0x00000000#32
  let main_v2958 : FVec F S32 .f32 := (fun x v => Host.reduceAdd x v reducesTo_S32x1024_S32_d1 h_S_) main_v2957 main_cst_412
  let main_v2959 : FVec F S32x1024 .f32 := broadcastInDim S32x1024 ![0] bcast_S32_S32x1024_0 main_v2958
  let main_v2960 : IVec S32x32x32 32 := shapeCast S32x32x32 main_v2952 shapeCasts_S32x1024_S32x32x32
  let main_c_413 : IVec S_ 32 := constantI S_ 32 2147483648#32
  let main_v2961 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v2960 main_c_413
  let main_v2962 : IVec S32x1024 32 := shapeCast S32x1024 main_v2961 shapeCasts_S32x32x32_S32x1024
  let main_v2963 : IVec S32x1024 1 := cmpi .sgt main_v2962 main_v40
  let main_v2964 : IVec S32x1024 1 := ori main_v2946 main_v2942
  let main_v2965 : IVec S32x1024 1 := noti main_v2964
  let main_v2966 : IVec S32x1024 1 := cmpf .ogt main_v2941 main_v2959
  let main_v2967 : IVec S32x1024 1 := andi main_v2946 main_v2966
  fn_part141 (F := F) main_arg0 main_arg1 main_arg2 main_v0 main_v34 main_v37 main_v38 main_v39 main_v40 main_v41 main_v2941 main_v2942 main_v2946 main_v2951 main_v2955 main_v2959 main_v2963 main_v2965 main_v2967

def fn_part139 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v2897 : IVec S32 1) (main_v2912 : FVec F S32x1024 .f32) (main_v2913 : IVec S32x1024 1) (main_v2917 : IVec S32x1024 1) (main_v2922 : IVec S32x1024 1) (main_v2923 : IVec S32x1024 32) (main_v2925 : IVec S32 1) : IVec S32x32x32 1 :=
  let main_v2926 : IVec S32 1 := andi main_v2897 main_v2925
  let main_v2927 : FVec F S32x1024 .f32 := addf main_v2912 main_v0
  let main_v2928 : FVec F S32x1024 .f32 := select main_v2922 main_v2927 main_v39
  let main_cst_408 : FVec F S_ .f32 := constant S_ .f32 0x00000000#32
  let main_v2929 : FVec F S32 .f32 := (fun x v => Host.reduceAdd x v reducesTo_S32x1024_S32_d1 h_S_) main_v2928 main_cst_408
  let main_v2930 : FVec F S32x1024 .f32 := broadcastInDim S32x1024 ![0] bcast_S32_S32x1024_0 main_v2929
  let main_v2931 : IVec S32x32x32 32 := shapeCast S32x32x32 main_v2923 shapeCasts_S32x1024_S32x32x32
  let main_c_409 : IVec S_ 32 := constantI S_ 32 2147483648#32
  let main_v2932 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v2931 main_c_409
  let main_v2933 : IVec S32x1024 32 := shapeCast S32x1024 main_v2932 shapeCasts_S32x32x32_S32x1024
  let main_v2934 : IVec S32x1024 1 := cmpi .sgt main_v2933 main_v40
  let main_v2935 : IVec S32x1024 1 := ori main_v2917 main_v2913
  let main_v2936 : IVec S32x1024 1 := noti main_v2935
  let main_v2937 : IVec S32x1024 1 := cmpf .ogt main_v2912 main_v2930
  let main_v2938 : IVec S32x1024 1 := andi main_v2917 main_v2937
  let main_v2939 : IVec S32x1024 1 := ori main_v2936 main_v2938
  let main_v2940 : IVec S32x1024 1 := andi main_v2934 main_v2939
  let main_v2941 : FVec F S32x1024 .f32 := select main_v2940 main_v2930 main_v2912
  let main_v2942 : IVec S32x1024 1 := ori main_v2913 main_v2922
  let main_v2943 : IVec S32x1024 1 := andi main_v2922 main_v37
  let main_v2944 : IVec S32x1024 1 := noti main_v2943
  let main_v2945 : IVec S32x1024 1 := andi main_v2917 main_v2944
  let main_v2946 : IVec S32x1024 1 := ori main_v2945 main_v2940
  let main_v2947 : FVec F S32x1024 .f32 := addf main_v2941 main_v34
  fn_part140 (F := F) main_arg0 main_arg1 main_arg2 main_v0 main_v34 main_v37 main_v38 main_v39 main_v40 main_v41 main_v2926 main_v2941 main_v2942 main_v2946 main_v2947

def fn_part138 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v2883 : FVec F S32x1024 .f32) (main_v2884 : IVec S32x1024 1) (main_v2888 : IVec S32x1024 1) (main_v2893 : IVec S32x1024 1) (main_v2897 : IVec S32 1) (main_v2901 : FVec F S32x1024 .f32) (main_v2903 : IVec S32x32x32 32) : IVec S32x32x32 1 :=
  let main_v2904 : IVec S32x1024 32 := shapeCast S32x1024 main_v2903 shapeCasts_S32x32x32_S32x1024
  let main_v2905 : IVec S32x1024 1 := cmpi .sgt main_v2904 main_v40
  let main_v2906 : IVec S32x1024 1 := ori main_v2888 main_v2884
  let main_v2907 : IVec S32x1024 1 := noti main_v2906
  let main_v2908 : IVec S32x1024 1 := cmpf .ogt main_v2883 main_v2901
  let main_v2909 : IVec S32x1024 1 := andi main_v2888 main_v2908
  let main_v2910 : IVec S32x1024 1 := ori main_v2907 main_v2909
  let main_v2911 : IVec S32x1024 1 := andi main_v2905 main_v2910
  let main_v2912 : FVec F S32x1024 .f32 := select main_v2911 main_v2901 main_v2883
  let main_v2913 : IVec S32x1024 1 := ori main_v2884 main_v2893
  let main_v2914 : IVec S32x1024 1 := andi main_v2893 main_v37
  let main_v2915 : IVec S32x1024 1 := noti main_v2914
  let main_v2916 : IVec S32x1024 1 := andi main_v2888 main_v2915
  let main_v2917 : IVec S32x1024 1 := ori main_v2916 main_v2911
  let main_v2918 : FVec F S32x1024 .f32 := addf main_v2912 main_v34
  let main_v2919 : FVec F S32x1024 .f32 := select main_v2917 main_v2918 main_v38
  let main_cst_406 : FVec F S_ .f32 := constant S_ .f32 0x7F800000#32
  let main_v2920 : FVec F S32 .f32 := (fun x v => Host.reduce FloatOps.minimumf x v reducesTo_S32x1024_S32_d1 h_S_) main_v2919 main_cst_406
  let main_v2921 : FVec F S32x1024 .f32 := broadcastInDim S32x1024 ![0] bcast_S32_S32x1024_0 main_v2920
  let main_v2922 : IVec S32x1024 1 := cmpf .oeq main_v2919 main_v2921
  let main_v2923 : IVec S32x1024 32 := (extui 32 · natLt_1_32) main_v2922
  let main_c_407 : IVec S_ 32 := constantI S_ 32 0#32
  let main_v2924 : IVec S32 32 := (fun x v => Host.reduce IntOp.addi x v reducesTo_S32x1024_S32_d1 h_S_) main_v2923 main_c_407
  let main_v2925 : IVec S32 1 := cmpi .eq main_v2924 main_v41
  fn_part139 (F := F) main_arg0 main_arg1 main_arg2 main_v0 main_v34 main_v37 main_v38 main_v39 main_v40 main_v41 main_v2897 main_v2912 main_v2913 main_v2917 main_v2922 main_v2923 main_v2925

def fn_part137 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v2855 : IVec S32x1024 1) (main_v2859 : IVec S32x1024 1) (main_v2864 : IVec S32x1024 1) (main_v2868 : IVec S32 1) (main_v2882 : IVec S32x1024 1) (main_v2883 : FVec F S32x1024 .f32) : IVec S32x32x32 1 :=
  let main_v2884 : IVec S32x1024 1 := ori main_v2855 main_v2864
  let main_v2885 : IVec S32x1024 1 := andi main_v2864 main_v37
  let main_v2886 : IVec S32x1024 1 := noti main_v2885
  let main_v2887 : IVec S32x1024 1 := andi main_v2859 main_v2886
  let main_v2888 : IVec S32x1024 1 := ori main_v2887 main_v2882
  let main_v2889 : FVec F S32x1024 .f32 := addf main_v2883 main_v34
  let main_v2890 : FVec F S32x1024 .f32 := select main_v2888 main_v2889 main_v38
  let main_cst_402 : FVec F S_ .f32 := constant S_ .f32 0x7F800000#32
  let main_v2891 : FVec F S32 .f32 := (fun x v => Host.reduce FloatOps.minimumf x v reducesTo_S32x1024_S32_d1 h_S_) main_v2890 main_cst_402
  let main_v2892 : FVec F S32x1024 .f32 := broadcastInDim S32x1024 ![0] bcast_S32_S32x1024_0 main_v2891
  let main_v2893 : IVec S32x1024 1 := cmpf .oeq main_v2890 main_v2892
  let main_v2894 : IVec S32x1024 32 := (extui 32 · natLt_1_32) main_v2893
  let main_c_403 : IVec S_ 32 := constantI S_ 32 0#32
  let main_v2895 : IVec S32 32 := (fun x v => Host.reduce IntOp.addi x v reducesTo_S32x1024_S32_d1 h_S_) main_v2894 main_c_403
  let main_v2896 : IVec S32 1 := cmpi .eq main_v2895 main_v41
  let main_v2897 : IVec S32 1 := andi main_v2868 main_v2896
  let main_v2898 : FVec F S32x1024 .f32 := addf main_v2883 main_v0
  let main_v2899 : FVec F S32x1024 .f32 := select main_v2893 main_v2898 main_v39
  let main_cst_404 : FVec F S_ .f32 := constant S_ .f32 0x00000000#32
  let main_v2900 : FVec F S32 .f32 := (fun x v => Host.reduceAdd x v reducesTo_S32x1024_S32_d1 h_S_) main_v2899 main_cst_404
  let main_v2901 : FVec F S32x1024 .f32 := broadcastInDim S32x1024 ![0] bcast_S32_S32x1024_0 main_v2900
  let main_v2902 : IVec S32x32x32 32 := shapeCast S32x32x32 main_v2894 shapeCasts_S32x1024_S32x32x32
  let main_c_405 : IVec S_ 32 := constantI S_ 32 2147483648#32
  let main_v2903 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v2902 main_c_405
  fn_part138 (F := F) main_arg0 main_arg1 main_arg2 main_v0 main_v34 main_v37 main_v38 main_v39 main_v40 main_v41 main_v2883 main_v2884 main_v2888 main_v2893 main_v2897 main_v2901 main_v2903

def fn_part136 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v2839 : IVec S32 1) (main_v2854 : FVec F S32x1024 .f32) (main_v2855 : IVec S32x1024 1) (main_v2859 : IVec S32x1024 1) (main_v2861 : FVec F S32x1024 .f32) (main_v2862 : FVec F S32 .f32) : IVec S32x32x32 1 :=
  let main_v2863 : FVec F S32x1024 .f32 := broadcastInDim S32x1024 ![0] bcast_S32_S32x1024_0 main_v2862
  let main_v2864 : IVec S32x1024 1 := cmpf .oeq main_v2861 main_v2863
  let main_v2865 : IVec S32x1024 32 := (extui 32 · natLt_1_32) main_v2864
  let main_c_399 : IVec S_ 32 := constantI S_ 32 0#32
  let main_v2866 : IVec S32 32 := (fun x v => Host.reduce IntOp.addi x v reducesTo_S32x1024_S32_d1 h_S_) main_v2865 main_c_399
  let main_v2867 : IVec S32 1 := cmpi .eq main_v2866 main_v41
  let main_v2868 : IVec S32 1 := andi main_v2839 main_v2867
  let main_v2869 : FVec F S32x1024 .f32 := addf main_v2854 main_v0
  let main_v2870 : FVec F S32x1024 .f32 := select main_v2864 main_v2869 main_v39
  let main_cst_400 : FVec F S_ .f32 := constant S_ .f32 0x00000000#32
  let main_v2871 : FVec F S32 .f32 := (fun x v => Host.reduceAdd x v reducesTo_S32x1024_S32_d1 h_S_) main_v2870 main_cst_400
  let main_v2872 : FVec F S32x1024 .f32 := broadcastInDim S32x1024 ![0] bcast_S32_S32x1024_0 main_v2871
  let main_v2873 : IVec S32x32x32 32 := shapeCast S32x32x32 main_v2865 shapeCasts_S32x1024_S32x32x32
  let main_c_401 : IVec S_ 32 := constantI S_ 32 2147483648#32
  let main_v2874 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v2873 main_c_401
  let main_v2875 : IVec S32x1024 32 := shapeCast S32x1024 main_v2874 shapeCasts_S32x32x32_S32x1024
  let main_v2876 : IVec S32x1024 1 := cmpi .sgt main_v2875 main_v40
  let main_v2877 : IVec S32x1024 1 := ori main_v2859 main_v2855
  let main_v2878 : IVec S32x1024 1 := noti main_v2877
  let main_v2879 : IVec S32x1024 1 := cmpf .ogt main_v2854 main_v2872
  let main_v2880 : IVec S32x1024 1 := andi main_v2859 main_v2879
  let main_v2881 : IVec S32x1024 1 := ori main_v2878 main_v2880
  let main_v2882 : IVec S32x1024 1 := andi main_v2876 main_v2881
  let main_v2883 : FVec F S32x1024 .f32 := select main_v2882 main_v2872 main_v2854
  fn_part137 (F := F) main_arg0 main_arg1 main_arg2 main_v0 main_v34 main_v37 main_v38 main_v39 main_v40 main_v41 main_v2855 main_v2859 main_v2864 main_v2868 main_v2882 main_v2883

def fn_part135 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v2825 : FVec F S32x1024 .f32) (main_v2826 : IVec S32x1024 1) (main_v2830 : IVec S32x1024 1) (main_v2835 : IVec S32x1024 1) (main_v2836 : IVec S32x1024 32) (main_v2839 : IVec S32 1) (main_v2841 : FVec F S32x1024 .f32) : IVec S32x32x32 1 :=
  let main_cst_396 : FVec F S_ .f32 := constant S_ .f32 0x00000000#32
  let main_v2842 : FVec F S32 .f32 := (fun x v => Host.reduceAdd x v reducesTo_S32x1024_S32_d1 h_S_) main_v2841 main_cst_396
  let main_v2843 : FVec F S32x1024 .f32 := broadcastInDim S32x1024 ![0] bcast_S32_S32x1024_0 main_v2842
  let main_v2844 : IVec S32x32x32 32 := shapeCast S32x32x32 main_v2836 shapeCasts_S32x1024_S32x32x32
  let main_c_397 : IVec S_ 32 := constantI S_ 32 2147483648#32
  let main_v2845 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v2844 main_c_397
  let main_v2846 : IVec S32x1024 32 := shapeCast S32x1024 main_v2845 shapeCasts_S32x32x32_S32x1024
  let main_v2847 : IVec S32x1024 1 := cmpi .sgt main_v2846 main_v40
  let main_v2848 : IVec S32x1024 1 := ori main_v2830 main_v2826
  let main_v2849 : IVec S32x1024 1 := noti main_v2848
  let main_v2850 : IVec S32x1024 1 := cmpf .ogt main_v2825 main_v2843
  let main_v2851 : IVec S32x1024 1 := andi main_v2830 main_v2850
  let main_v2852 : IVec S32x1024 1 := ori main_v2849 main_v2851
  let main_v2853 : IVec S32x1024 1 := andi main_v2847 main_v2852
  let main_v2854 : FVec F S32x1024 .f32 := select main_v2853 main_v2843 main_v2825
  let main_v2855 : IVec S32x1024 1 := ori main_v2826 main_v2835
  let main_v2856 : IVec S32x1024 1 := andi main_v2835 main_v37
  let main_v2857 : IVec S32x1024 1 := noti main_v2856
  let main_v2858 : IVec S32x1024 1 := andi main_v2830 main_v2857
  let main_v2859 : IVec S32x1024 1 := ori main_v2858 main_v2853
  let main_v2860 : FVec F S32x1024 .f32 := addf main_v2854 main_v34
  let main_v2861 : FVec F S32x1024 .f32 := select main_v2859 main_v2860 main_v38
  let main_cst_398 : FVec F S_ .f32 := constant S_ .f32 0x7F800000#32
  let main_v2862 : FVec F S32 .f32 := (fun x v => Host.reduce FloatOps.minimumf x v reducesTo_S32x1024_S32_d1 h_S_) main_v2861 main_cst_398
  fn_part136 (F := F) main_arg0 main_arg1 main_arg2 main_v0 main_v34 main_v37 main_v38 main_v39 main_v40 main_v41 main_v2839 main_v2854 main_v2855 main_v2859 main_v2861 main_v2862

def fn_part134 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v2796 : FVec F S32x1024 .f32) (main_v2797 : IVec S32x1024 1) (main_v2801 : IVec S32x1024 1) (main_v2806 : IVec S32x1024 1) (main_v2810 : IVec S32 1) (main_v2814 : FVec F S32x1024 .f32) (main_v2818 : IVec S32x1024 1) (main_v2819 : IVec S32x1024 1) : IVec S32x32x32 1 :=
  let main_v2820 : IVec S32x1024 1 := noti main_v2819
  let main_v2821 : IVec S32x1024 1 := cmpf .ogt main_v2796 main_v2814
  let main_v2822 : IVec S32x1024 1 := andi main_v2801 main_v2821
  let main_v2823 : IVec S32x1024 1 := ori main_v2820 main_v2822
  let main_v2824 : IVec S32x1024 1 := andi main_v2818 main_v2823
  let main_v2825 : FVec F S32x1024 .f32 := select main_v2824 main_v2814 main_v2796
  let main_v2826 : IVec S32x1024 1 := ori main_v2797 main_v2806
  let main_v2827 : IVec S32x1024 1 := andi main_v2806 main_v37
  let main_v2828 : IVec S32x1024 1 := noti main_v2827
  let main_v2829 : IVec S32x1024 1 := andi main_v2801 main_v2828
  let main_v2830 : IVec S32x1024 1 := ori main_v2829 main_v2824
  let main_v2831 : FVec F S32x1024 .f32 := addf main_v2825 main_v34
  let main_v2832 : FVec F S32x1024 .f32 := select main_v2830 main_v2831 main_v38
  let main_cst_394 : FVec F S_ .f32 := constant S_ .f32 0x7F800000#32
  let main_v2833 : FVec F S32 .f32 := (fun x v => Host.reduce FloatOps.minimumf x v reducesTo_S32x1024_S32_d1 h_S_) main_v2832 main_cst_394
  let main_v2834 : FVec F S32x1024 .f32 := broadcastInDim S32x1024 ![0] bcast_S32_S32x1024_0 main_v2833
  let main_v2835 : IVec S32x1024 1 := cmpf .oeq main_v2832 main_v2834
  let main_v2836 : IVec S32x1024 32 := (extui 32 · natLt_1_32) main_v2835
  let main_c_395 : IVec S_ 32 := constantI S_ 32 0#32
  let main_v2837 : IVec S32 32 := (fun x v => Host.reduce IntOp.addi x v reducesTo_S32x1024_S32_d1 h_S_) main_v2836 main_c_395
  let main_v2838 : IVec S32 1 := cmpi .eq main_v2837 main_v41
  let main_v2839 : IVec S32 1 := andi main_v2810 main_v2838
  let main_v2840 : FVec F S32x1024 .f32 := addf main_v2825 main_v0
  let main_v2841 : FVec F S32x1024 .f32 := select main_v2835 main_v2840 main_v39
  fn_part135 (F := F) main_arg0 main_arg1 main_arg2 main_v0 main_v34 main_v37 main_v38 main_v39 main_v40 main_v41 main_v2825 main_v2826 main_v2830 main_v2835 main_v2836 main_v2839 main_v2841

def fn_part133 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v2772 : IVec S32x1024 1) (main_v2781 : IVec S32 1) (main_v2795 : IVec S32x1024 1) (main_v2796 : FVec F S32x1024 .f32) (main_v2797 : IVec S32x1024 1) (main_v2799 : IVec S32x1024 1) : IVec S32x32x32 1 :=
  let main_v2800 : IVec S32x1024 1 := andi main_v2772 main_v2799
  let main_v2801 : IVec S32x1024 1 := ori main_v2800 main_v2795
  let main_v2802 : FVec F S32x1024 .f32 := addf main_v2796 main_v34
  let main_v2803 : FVec F S32x1024 .f32 := select main_v2801 main_v2802 main_v38
  let main_cst_390 : FVec F S_ .f32 := constant S_ .f32 0x7F800000#32
  let main_v2804 : FVec F S32 .f32 := (fun x v => Host.reduce FloatOps.minimumf x v reducesTo_S32x1024_S32_d1 h_S_) main_v2803 main_cst_390
  let main_v2805 : FVec F S32x1024 .f32 := broadcastInDim S32x1024 ![0] bcast_S32_S32x1024_0 main_v2804
  let main_v2806 : IVec S32x1024 1 := cmpf .oeq main_v2803 main_v2805
  let main_v2807 : IVec S32x1024 32 := (extui 32 · natLt_1_32) main_v2806
  let main_c_391 : IVec S_ 32 := constantI S_ 32 0#32
  let main_v2808 : IVec S32 32 := (fun x v => Host.reduce IntOp.addi x v reducesTo_S32x1024_S32_d1 h_S_) main_v2807 main_c_391
  let main_v2809 : IVec S32 1 := cmpi .eq main_v2808 main_v41
  let main_v2810 : IVec S32 1 := andi main_v2781 main_v2809
  let main_v2811 : FVec F S32x1024 .f32 := addf main_v2796 main_v0
  let main_v2812 : FVec F S32x1024 .f32 := select main_v2806 main_v2811 main_v39
  let main_cst_392 : FVec F S_ .f32 := constant S_ .f32 0x00000000#32
  let main_v2813 : FVec F S32 .f32 := (fun x v => Host.reduceAdd x v reducesTo_S32x1024_S32_d1 h_S_) main_v2812 main_cst_392
  let main_v2814 : FVec F S32x1024 .f32 := broadcastInDim S32x1024 ![0] bcast_S32_S32x1024_0 main_v2813
  let main_v2815 : IVec S32x32x32 32 := shapeCast S32x32x32 main_v2807 shapeCasts_S32x1024_S32x32x32
  let main_c_393 : IVec S_ 32 := constantI S_ 32 2147483648#32
  let main_v2816 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v2815 main_c_393
  let main_v2817 : IVec S32x1024 32 := shapeCast S32x1024 main_v2816 shapeCasts_S32x32x32_S32x1024
  let main_v2818 : IVec S32x1024 1 := cmpi .sgt main_v2817 main_v40
  let main_v2819 : IVec S32x1024 1 := ori main_v2801 main_v2797
  fn_part134 (F := F) main_arg0 main_arg1 main_arg2 main_v0 main_v34 main_v37 main_v38 main_v39 main_v40 main_v41 main_v2796 main_v2797 main_v2801 main_v2806 main_v2810 main_v2814 main_v2818 main_v2819

def fn_part132 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v2752 : IVec S32 1) (main_v2767 : FVec F S32x1024 .f32) (main_v2768 : IVec S32x1024 1) (main_v2772 : IVec S32x1024 1) (main_v2777 : IVec S32x1024 1) (main_v2778 : IVec S32x1024 32) : IVec S32x32x32 1 :=
  let main_c_387 : IVec S_ 32 := constantI S_ 32 0#32
  let main_v2779 : IVec S32 32 := (fun x v => Host.reduce IntOp.addi x v reducesTo_S32x1024_S32_d1 h_S_) main_v2778 main_c_387
  let main_v2780 : IVec S32 1 := cmpi .eq main_v2779 main_v41
  let main_v2781 : IVec S32 1 := andi main_v2752 main_v2780
  let main_v2782 : FVec F S32x1024 .f32 := addf main_v2767 main_v0
  let main_v2783 : FVec F S32x1024 .f32 := select main_v2777 main_v2782 main_v39
  let main_cst_388 : FVec F S_ .f32 := constant S_ .f32 0x00000000#32
  let main_v2784 : FVec F S32 .f32 := (fun x v => Host.reduceAdd x v reducesTo_S32x1024_S32_d1 h_S_) main_v2783 main_cst_388
  let main_v2785 : FVec F S32x1024 .f32 := broadcastInDim S32x1024 ![0] bcast_S32_S32x1024_0 main_v2784
  let main_v2786 : IVec S32x32x32 32 := shapeCast S32x32x32 main_v2778 shapeCasts_S32x1024_S32x32x32
  let main_c_389 : IVec S_ 32 := constantI S_ 32 2147483648#32
  let main_v2787 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v2786 main_c_389
  let main_v2788 : IVec S32x1024 32 := shapeCast S32x1024 main_v2787 shapeCasts_S32x32x32_S32x1024
  let main_v2789 : IVec S32x1024 1 := cmpi .sgt main_v2788 main_v40
  let main_v2790 : IVec S32x1024 1 := ori main_v2772 main_v2768
  let main_v2791 : IVec S32x1024 1 := noti main_v2790
  let main_v2792 : IVec S32x1024 1 := cmpf .ogt main_v2767 main_v2785
  let main_v2793 : IVec S32x1024 1 := andi main_v2772 main_v2792
  let main_v2794 : IVec S32x1024 1 := ori main_v2791 main_v2793
  let main_v2795 : IVec S32x1024 1 := andi main_v2789 main_v2794
  let main_v2796 : FVec F S32x1024 .f32 := select main_v2795 main_v2785 main_v2767
  let main_v2797 : IVec S32x1024 1 := ori main_v2768 main_v2777
  let main_v2798 : IVec S32x1024 1 := andi main_v2777 main_v37
  let main_v2799 : IVec S32x1024 1 := noti main_v2798
  fn_part133 (F := F) main_arg0 main_arg1 main_arg2 main_v0 main_v34 main_v37 main_v38 main_v39 main_v40 main_v41 main_v2772 main_v2781 main_v2795 main_v2796 main_v2797 main_v2799

def fn_part131 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v2738 : FVec F S32x1024 .f32) (main_v2739 : IVec S32x1024 1) (main_v2743 : IVec S32x1024 1) (main_v2748 : IVec S32x1024 1) (main_v2749 : IVec S32x1024 32) (main_v2752 : IVec S32 1) (main_v2756 : FVec F S32x1024 .f32) : IVec S32x32x32 1 :=
  let main_v2757 : IVec S32x32x32 32 := shapeCast S32x32x32 main_v2749 shapeCasts_S32x1024_S32x32x32
  let main_c_385 : IVec S_ 32 := constantI S_ 32 2147483648#32
  let main_v2758 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v2757 main_c_385
  let main_v2759 : IVec S32x1024 32 := shapeCast S32x1024 main_v2758 shapeCasts_S32x32x32_S32x1024
  let main_v2760 : IVec S32x1024 1 := cmpi .sgt main_v2759 main_v40
  let main_v2761 : IVec S32x1024 1 := ori main_v2743 main_v2739
  let main_v2762 : IVec S32x1024 1 := noti main_v2761
  let main_v2763 : IVec S32x1024 1 := cmpf .ogt main_v2738 main_v2756
  let main_v2764 : IVec S32x1024 1 := andi main_v2743 main_v2763
  let main_v2765 : IVec S32x1024 1 := ori main_v2762 main_v2764
  let main_v2766 : IVec S32x1024 1 := andi main_v2760 main_v2765
  let main_v2767 : FVec F S32x1024 .f32 := select main_v2766 main_v2756 main_v2738
  let main_v2768 : IVec S32x1024 1 := ori main_v2739 main_v2748
  let main_v2769 : IVec S32x1024 1 := andi main_v2748 main_v37
  let main_v2770 : IVec S32x1024 1 := noti main_v2769
  let main_v2771 : IVec S32x1024 1 := andi main_v2743 main_v2770
  let main_v2772 : IVec S32x1024 1 := ori main_v2771 main_v2766
  let main_v2773 : FVec F S32x1024 .f32 := addf main_v2767 main_v34
  let main_v2774 : FVec F S32x1024 .f32 := select main_v2772 main_v2773 main_v38
  let main_cst_386 : FVec F S_ .f32 := constant S_ .f32 0x7F800000#32
  let main_v2775 : FVec F S32 .f32 := (fun x v => Host.reduce FloatOps.minimumf x v reducesTo_S32x1024_S32_d1 h_S_) main_v2774 main_cst_386
  let main_v2776 : FVec F S32x1024 .f32 := broadcastInDim S32x1024 ![0] bcast_S32_S32x1024_0 main_v2775
  let main_v2777 : IVec S32x1024 1 := cmpf .oeq main_v2774 main_v2776
  let main_v2778 : IVec S32x1024 32 := (extui 32 · natLt_1_32) main_v2777
  fn_part132 (F := F) main_arg0 main_arg1 main_arg2 main_v0 main_v34 main_v37 main_v38 main_v39 main_v40 main_v41 main_v2752 main_v2767 main_v2768 main_v2772 main_v2777 main_v2778

def fn_part130 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v2709 : FVec F S32x1024 .f32) (main_v2710 : IVec S32x1024 1) (main_v2714 : IVec S32x1024 1) (main_v2719 : IVec S32x1024 1) (main_v2723 : IVec S32 1) (main_v2727 : FVec F S32x1024 .f32) (main_v2731 : IVec S32x1024 1) (main_v2733 : IVec S32x1024 1) (main_v2735 : IVec S32x1024 1) : IVec S32x32x32 1 :=
  let main_v2736 : IVec S32x1024 1 := ori main_v2733 main_v2735
  let main_v2737 : IVec S32x1024 1 := andi main_v2731 main_v2736
  let main_v2738 : FVec F S32x1024 .f32 := select main_v2737 main_v2727 main_v2709
  let main_v2739 : IVec S32x1024 1 := ori main_v2710 main_v2719
  let main_v2740 : IVec S32x1024 1 := andi main_v2719 main_v37
  let main_v2741 : IVec S32x1024 1 := noti main_v2740
  let main_v2742 : IVec S32x1024 1 := andi main_v2714 main_v2741
  let main_v2743 : IVec S32x1024 1 := ori main_v2742 main_v2737
  let main_v2744 : FVec F S32x1024 .f32 := addf main_v2738 main_v34
  let main_v2745 : FVec F S32x1024 .f32 := select main_v2743 main_v2744 main_v38
  let main_cst_382 : FVec F S_ .f32 := constant S_ .f32 0x7F800000#32
  let main_v2746 : FVec F S32 .f32 := (fun x v => Host.reduce FloatOps.minimumf x v reducesTo_S32x1024_S32_d1 h_S_) main_v2745 main_cst_382
  let main_v2747 : FVec F S32x1024 .f32 := broadcastInDim S32x1024 ![0] bcast_S32_S32x1024_0 main_v2746
  let main_v2748 : IVec S32x1024 1 := cmpf .oeq main_v2745 main_v2747
  let main_v2749 : IVec S32x1024 32 := (extui 32 · natLt_1_32) main_v2748
  let main_c_383 : IVec S_ 32 := constantI S_ 32 0#32
  let main_v2750 : IVec S32 32 := (fun x v => Host.reduce IntOp.addi x v reducesTo_S32x1024_S32_d1 h_S_) main_v2749 main_c_383
  let main_v2751 : IVec S32 1 := cmpi .eq main_v2750 main_v41
  let main_v2752 : IVec S32 1 := andi main_v2723 main_v2751
  let main_v2753 : FVec F S32x1024 .f32 := addf main_v2738 main_v0
  let main_v2754 : FVec F S32x1024 .f32 := select main_v2748 main_v2753 main_v39
  let main_cst_384 : FVec F S_ .f32 := constant S_ .f32 0x00000000#32
  let main_v2755 : FVec F S32 .f32 := (fun x v => Host.reduceAdd x v reducesTo_S32x1024_S32_d1 h_S_) main_v2754 main_cst_384
  let main_v2756 : FVec F S32x1024 .f32 := broadcastInDim S32x1024 ![0] bcast_S32_S32x1024_0 main_v2755
  fn_part131 (F := F) main_arg0 main_arg1 main_arg2 main_v0 main_v34 main_v37 main_v38 main_v39 main_v40 main_v41 main_v2738 main_v2739 main_v2743 main_v2748 main_v2749 main_v2752 main_v2756

def fn_part129 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v2694 : IVec S32 1) (main_v2709 : FVec F S32x1024 .f32) (main_v2710 : IVec S32x1024 1) (main_v2714 : IVec S32x1024 1) (main_v2715 : FVec F S32x1024 .f32) : IVec S32x32x32 1 :=
  let main_v2716 : FVec F S32x1024 .f32 := select main_v2714 main_v2715 main_v38
  let main_cst_378 : FVec F S_ .f32 := constant S_ .f32 0x7F800000#32
  let main_v2717 : FVec F S32 .f32 := (fun x v => Host.reduce FloatOps.minimumf x v reducesTo_S32x1024_S32_d1 h_S_) main_v2716 main_cst_378
  let main_v2718 : FVec F S32x1024 .f32 := broadcastInDim S32x1024 ![0] bcast_S32_S32x1024_0 main_v2717
  let main_v2719 : IVec S32x1024 1 := cmpf .oeq main_v2716 main_v2718
  let main_v2720 : IVec S32x1024 32 := (extui 32 · natLt_1_32) main_v2719
  let main_c_379 : IVec S_ 32 := constantI S_ 32 0#32
  let main_v2721 : IVec S32 32 := (fun x v => Host.reduce IntOp.addi x v reducesTo_S32x1024_S32_d1 h_S_) main_v2720 main_c_379
  let main_v2722 : IVec S32 1 := cmpi .eq main_v2721 main_v41
  let main_v2723 : IVec S32 1 := andi main_v2694 main_v2722
  let main_v2724 : FVec F S32x1024 .f32 := addf main_v2709 main_v0
  let main_v2725 : FVec F S32x1024 .f32 := select main_v2719 main_v2724 main_v39
  let main_cst_380 : FVec F S_ .f32 := constant S_ .f32 0x00000000#32
  let main_v2726 : FVec F S32 .f32 := (fun x v => Host.reduceAdd x v reducesTo_S32x1024_S32_d1 h_S_) main_v2725 main_cst_380
  let main_v2727 : FVec F S32x1024 .f32 := broadcastInDim S32x1024 ![0] bcast_S32_S32x1024_0 main_v2726
  let main_v2728 : IVec S32x32x32 32 := shapeCast S32x32x32 main_v2720 shapeCasts_S32x1024_S32x32x32
  let main_c_381 : IVec S_ 32 := constantI S_ 32 2147483648#32
  let main_v2729 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v2728 main_c_381
  let main_v2730 : IVec S32x1024 32 := shapeCast S32x1024 main_v2729 shapeCasts_S32x32x32_S32x1024
  let main_v2731 : IVec S32x1024 1 := cmpi .sgt main_v2730 main_v40
  let main_v2732 : IVec S32x1024 1 := ori main_v2714 main_v2710
  let main_v2733 : IVec S32x1024 1 := noti main_v2732
  let main_v2734 : IVec S32x1024 1 := cmpf .ogt main_v2709 main_v2727
  let main_v2735 : IVec S32x1024 1 := andi main_v2714 main_v2734
  fn_part130 (F := F) main_arg0 main_arg1 main_arg2 main_v0 main_v34 main_v37 main_v38 main_v39 main_v40 main_v41 main_v2709 main_v2710 main_v2714 main_v2719 main_v2723 main_v2727 main_v2731 main_v2733 main_v2735

def fn_part128 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v2665 : IVec S32 1) (main_v2680 : FVec F S32x1024 .f32) (main_v2681 : IVec S32x1024 1) (main_v2685 : IVec S32x1024 1) (main_v2690 : IVec S32x1024 1) (main_v2691 : IVec S32x1024 32) (main_v2693 : IVec S32 1) : IVec S32x32x32 1 :=
  let main_v2694 : IVec S32 1 := andi main_v2665 main_v2693
  let main_v2695 : FVec F S32x1024 .f32 := addf main_v2680 main_v0
  let main_v2696 : FVec F S32x1024 .f32 := select main_v2690 main_v2695 main_v39
  let main_cst_376 : FVec F S_ .f32 := constant S_ .f32 0x00000000#32
  let main_v2697 : FVec F S32 .f32 := (fun x v => Host.reduceAdd x v reducesTo_S32x1024_S32_d1 h_S_) main_v2696 main_cst_376
  let main_v2698 : FVec F S32x1024 .f32 := broadcastInDim S32x1024 ![0] bcast_S32_S32x1024_0 main_v2697
  let main_v2699 : IVec S32x32x32 32 := shapeCast S32x32x32 main_v2691 shapeCasts_S32x1024_S32x32x32
  let main_c_377 : IVec S_ 32 := constantI S_ 32 2147483648#32
  let main_v2700 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v2699 main_c_377
  let main_v2701 : IVec S32x1024 32 := shapeCast S32x1024 main_v2700 shapeCasts_S32x32x32_S32x1024
  let main_v2702 : IVec S32x1024 1 := cmpi .sgt main_v2701 main_v40
  let main_v2703 : IVec S32x1024 1 := ori main_v2685 main_v2681
  let main_v2704 : IVec S32x1024 1 := noti main_v2703
  let main_v2705 : IVec S32x1024 1 := cmpf .ogt main_v2680 main_v2698
  let main_v2706 : IVec S32x1024 1 := andi main_v2685 main_v2705
  let main_v2707 : IVec S32x1024 1 := ori main_v2704 main_v2706
  let main_v2708 : IVec S32x1024 1 := andi main_v2702 main_v2707
  let main_v2709 : FVec F S32x1024 .f32 := select main_v2708 main_v2698 main_v2680
  let main_v2710 : IVec S32x1024 1 := ori main_v2681 main_v2690
  let main_v2711 : IVec S32x1024 1 := andi main_v2690 main_v37
  let main_v2712 : IVec S32x1024 1 := noti main_v2711
  let main_v2713 : IVec S32x1024 1 := andi main_v2685 main_v2712
  let main_v2714 : IVec S32x1024 1 := ori main_v2713 main_v2708
  let main_v2715 : FVec F S32x1024 .f32 := addf main_v2709 main_v34
  fn_part129 (F := F) main_arg0 main_arg1 main_arg2 main_v0 main_v34 main_v37 main_v38 main_v39 main_v40 main_v41 main_v2694 main_v2709 main_v2710 main_v2714 main_v2715

def fn_part127 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v2651 : FVec F S32x1024 .f32) (main_v2652 : IVec S32x1024 1) (main_v2656 : IVec S32x1024 1) (main_v2661 : IVec S32x1024 1) (main_v2665 : IVec S32 1) (main_v2669 : FVec F S32x1024 .f32) (main_v2671 : IVec S32x32x32 32) : IVec S32x32x32 1 :=
  let main_v2672 : IVec S32x1024 32 := shapeCast S32x1024 main_v2671 shapeCasts_S32x32x32_S32x1024
  let main_v2673 : IVec S32x1024 1 := cmpi .sgt main_v2672 main_v40
  let main_v2674 : IVec S32x1024 1 := ori main_v2656 main_v2652
  let main_v2675 : IVec S32x1024 1 := noti main_v2674
  let main_v2676 : IVec S32x1024 1 := cmpf .ogt main_v2651 main_v2669
  let main_v2677 : IVec S32x1024 1 := andi main_v2656 main_v2676
  let main_v2678 : IVec S32x1024 1 := ori main_v2675 main_v2677
  let main_v2679 : IVec S32x1024 1 := andi main_v2673 main_v2678
  let main_v2680 : FVec F S32x1024 .f32 := select main_v2679 main_v2669 main_v2651
  let main_v2681 : IVec S32x1024 1 := ori main_v2652 main_v2661
  let main_v2682 : IVec S32x1024 1 := andi main_v2661 main_v37
  let main_v2683 : IVec S32x1024 1 := noti main_v2682
  let main_v2684 : IVec S32x1024 1 := andi main_v2656 main_v2683
  let main_v2685 : IVec S32x1024 1 := ori main_v2684 main_v2679
  let main_v2686 : FVec F S32x1024 .f32 := addf main_v2680 main_v34
  let main_v2687 : FVec F S32x1024 .f32 := select main_v2685 main_v2686 main_v38
  let main_cst_374 : FVec F S_ .f32 := constant S_ .f32 0x7F800000#32
  let main_v2688 : FVec F S32 .f32 := (fun x v => Host.reduce FloatOps.minimumf x v reducesTo_S32x1024_S32_d1 h_S_) main_v2687 main_cst_374
  let main_v2689 : FVec F S32x1024 .f32 := broadcastInDim S32x1024 ![0] bcast_S32_S32x1024_0 main_v2688
  let main_v2690 : IVec S32x1024 1 := cmpf .oeq main_v2687 main_v2689
  let main_v2691 : IVec S32x1024 32 := (extui 32 · natLt_1_32) main_v2690
  let main_c_375 : IVec S_ 32 := constantI S_ 32 0#32
  let main_v2692 : IVec S32 32 := (fun x v => Host.reduce IntOp.addi x v reducesTo_S32x1024_S32_d1 h_S_) main_v2691 main_c_375
  let main_v2693 : IVec S32 1 := cmpi .eq main_v2692 main_v41
  fn_part128 (F := F) main_arg0 main_arg1 main_arg2 main_v0 main_v34 main_v37 main_v38 main_v39 main_v40 main_v41 main_v2665 main_v2680 main_v2681 main_v2685 main_v2690 main_v2691 main_v2693

def fn_part126 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v2623 : IVec S32x1024 1) (main_v2627 : IVec S32x1024 1) (main_v2632 : IVec S32x1024 1) (main_v2636 : IVec S32 1) (main_v2650 : IVec S32x1024 1) (main_v2651 : FVec F S32x1024 .f32) : IVec S32x32x32 1 :=
  let main_v2652 : IVec S32x1024 1 := ori main_v2623 main_v2632
  let main_v2653 : IVec S32x1024 1 := andi main_v2632 main_v37
  let main_v2654 : IVec S32x1024 1 := noti main_v2653
  let main_v2655 : IVec S32x1024 1 := andi main_v2627 main_v2654
  let main_v2656 : IVec S32x1024 1 := ori main_v2655 main_v2650
  let main_v2657 : FVec F S32x1024 .f32 := addf main_v2651 main_v34
  let main_v2658 : FVec F S32x1024 .f32 := select main_v2656 main_v2657 main_v38
  let main_cst_370 : FVec F S_ .f32 := constant S_ .f32 0x7F800000#32
  let main_v2659 : FVec F S32 .f32 := (fun x v => Host.reduce FloatOps.minimumf x v reducesTo_S32x1024_S32_d1 h_S_) main_v2658 main_cst_370
  let main_v2660 : FVec F S32x1024 .f32 := broadcastInDim S32x1024 ![0] bcast_S32_S32x1024_0 main_v2659
  let main_v2661 : IVec S32x1024 1 := cmpf .oeq main_v2658 main_v2660
  let main_v2662 : IVec S32x1024 32 := (extui 32 · natLt_1_32) main_v2661
  let main_c_371 : IVec S_ 32 := constantI S_ 32 0#32
  let main_v2663 : IVec S32 32 := (fun x v => Host.reduce IntOp.addi x v reducesTo_S32x1024_S32_d1 h_S_) main_v2662 main_c_371
  let main_v2664 : IVec S32 1 := cmpi .eq main_v2663 main_v41
  let main_v2665 : IVec S32 1 := andi main_v2636 main_v2664
  let main_v2666 : FVec F S32x1024 .f32 := addf main_v2651 main_v0
  let main_v2667 : FVec F S32x1024 .f32 := select main_v2661 main_v2666 main_v39
  let main_cst_372 : FVec F S_ .f32 := constant S_ .f32 0x00000000#32
  let main_v2668 : FVec F S32 .f32 := (fun x v => Host.reduceAdd x v reducesTo_S32x1024_S32_d1 h_S_) main_v2667 main_cst_372
  let main_v2669 : FVec F S32x1024 .f32 := broadcastInDim S32x1024 ![0] bcast_S32_S32x1024_0 main_v2668
  let main_v2670 : IVec S32x32x32 32 := shapeCast S32x32x32 main_v2662 shapeCasts_S32x1024_S32x32x32
  let main_c_373 : IVec S_ 32 := constantI S_ 32 2147483648#32
  let main_v2671 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v2670 main_c_373
  fn_part127 (F := F) main_arg0 main_arg1 main_arg2 main_v0 main_v34 main_v37 main_v38 main_v39 main_v40 main_v41 main_v2651 main_v2652 main_v2656 main_v2661 main_v2665 main_v2669 main_v2671

def fn_part125 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v2607 : IVec S32 1) (main_v2622 : FVec F S32x1024 .f32) (main_v2623 : IVec S32x1024 1) (main_v2627 : IVec S32x1024 1) (main_v2629 : FVec F S32x1024 .f32) (main_v2630 : FVec F S32 .f32) : IVec S32x32x32 1 :=
  let main_v2631 : FVec F S32x1024 .f32 := broadcastInDim S32x1024 ![0] bcast_S32_S32x1024_0 main_v2630
  let main_v2632 : IVec S32x1024 1 := cmpf .oeq main_v2629 main_v2631
  let main_v2633 : IVec S32x1024 32 := (extui 32 · natLt_1_32) main_v2632
  let main_c_367 : IVec S_ 32 := constantI S_ 32 0#32
  let main_v2634 : IVec S32 32 := (fun x v => Host.reduce IntOp.addi x v reducesTo_S32x1024_S32_d1 h_S_) main_v2633 main_c_367
  let main_v2635 : IVec S32 1 := cmpi .eq main_v2634 main_v41
  let main_v2636 : IVec S32 1 := andi main_v2607 main_v2635
  let main_v2637 : FVec F S32x1024 .f32 := addf main_v2622 main_v0
  let main_v2638 : FVec F S32x1024 .f32 := select main_v2632 main_v2637 main_v39
  let main_cst_368 : FVec F S_ .f32 := constant S_ .f32 0x00000000#32
  let main_v2639 : FVec F S32 .f32 := (fun x v => Host.reduceAdd x v reducesTo_S32x1024_S32_d1 h_S_) main_v2638 main_cst_368
  let main_v2640 : FVec F S32x1024 .f32 := broadcastInDim S32x1024 ![0] bcast_S32_S32x1024_0 main_v2639
  let main_v2641 : IVec S32x32x32 32 := shapeCast S32x32x32 main_v2633 shapeCasts_S32x1024_S32x32x32
  let main_c_369 : IVec S_ 32 := constantI S_ 32 2147483648#32
  let main_v2642 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v2641 main_c_369
  let main_v2643 : IVec S32x1024 32 := shapeCast S32x1024 main_v2642 shapeCasts_S32x32x32_S32x1024
  let main_v2644 : IVec S32x1024 1 := cmpi .sgt main_v2643 main_v40
  let main_v2645 : IVec S32x1024 1 := ori main_v2627 main_v2623
  let main_v2646 : IVec S32x1024 1 := noti main_v2645
  let main_v2647 : IVec S32x1024 1 := cmpf .ogt main_v2622 main_v2640
  let main_v2648 : IVec S32x1024 1 := andi main_v2627 main_v2647
  let main_v2649 : IVec S32x1024 1 := ori main_v2646 main_v2648
  let main_v2650 : IVec S32x1024 1 := andi main_v2644 main_v2649
  let main_v2651 : FVec F S32x1024 .f32 := select main_v2650 main_v2640 main_v2622
  fn_part126 (F := F) main_arg0 main_arg1 main_arg2 main_v0 main_v34 main_v37 main_v38 main_v39 main_v40 main_v41 main_v2623 main_v2627 main_v2632 main_v2636 main_v2650 main_v2651

def fn_part124 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v2593 : FVec F S32x1024 .f32) (main_v2594 : IVec S32x1024 1) (main_v2598 : IVec S32x1024 1) (main_v2603 : IVec S32x1024 1) (main_v2604 : IVec S32x1024 32) (main_v2607 : IVec S32 1) (main_v2609 : FVec F S32x1024 .f32) : IVec S32x32x32 1 :=
  let main_cst_364 : FVec F S_ .f32 := constant S_ .f32 0x00000000#32
  let main_v2610 : FVec F S32 .f32 := (fun x v => Host.reduceAdd x v reducesTo_S32x1024_S32_d1 h_S_) main_v2609 main_cst_364
  let main_v2611 : FVec F S32x1024 .f32 := broadcastInDim S32x1024 ![0] bcast_S32_S32x1024_0 main_v2610
  let main_v2612 : IVec S32x32x32 32 := shapeCast S32x32x32 main_v2604 shapeCasts_S32x1024_S32x32x32
  let main_c_365 : IVec S_ 32 := constantI S_ 32 2147483648#32
  let main_v2613 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v2612 main_c_365
  let main_v2614 : IVec S32x1024 32 := shapeCast S32x1024 main_v2613 shapeCasts_S32x32x32_S32x1024
  let main_v2615 : IVec S32x1024 1 := cmpi .sgt main_v2614 main_v40
  let main_v2616 : IVec S32x1024 1 := ori main_v2598 main_v2594
  let main_v2617 : IVec S32x1024 1 := noti main_v2616
  let main_v2618 : IVec S32x1024 1 := cmpf .ogt main_v2593 main_v2611
  let main_v2619 : IVec S32x1024 1 := andi main_v2598 main_v2618
  let main_v2620 : IVec S32x1024 1 := ori main_v2617 main_v2619
  let main_v2621 : IVec S32x1024 1 := andi main_v2615 main_v2620
  let main_v2622 : FVec F S32x1024 .f32 := select main_v2621 main_v2611 main_v2593
  let main_v2623 : IVec S32x1024 1 := ori main_v2594 main_v2603
  let main_v2624 : IVec S32x1024 1 := andi main_v2603 main_v37
  let main_v2625 : IVec S32x1024 1 := noti main_v2624
  let main_v2626 : IVec S32x1024 1 := andi main_v2598 main_v2625
  let main_v2627 : IVec S32x1024 1 := ori main_v2626 main_v2621
  let main_v2628 : FVec F S32x1024 .f32 := addf main_v2622 main_v34
  let main_v2629 : FVec F S32x1024 .f32 := select main_v2627 main_v2628 main_v38
  let main_cst_366 : FVec F S_ .f32 := constant S_ .f32 0x7F800000#32
  let main_v2630 : FVec F S32 .f32 := (fun x v => Host.reduce FloatOps.minimumf x v reducesTo_S32x1024_S32_d1 h_S_) main_v2629 main_cst_366
  fn_part125 (F := F) main_arg0 main_arg1 main_arg2 main_v0 main_v34 main_v37 main_v38 main_v39 main_v40 main_v41 main_v2607 main_v2622 main_v2623 main_v2627 main_v2629 main_v2630

def fn_part123 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v2564 : FVec F S32x1024 .f32) (main_v2565 : IVec S32x1024 1) (main_v2569 : IVec S32x1024 1) (main_v2574 : IVec S32x1024 1) (main_v2578 : IVec S32 1) (main_v2582 : FVec F S32x1024 .f32) (main_v2586 : IVec S32x1024 1) (main_v2587 : IVec S32x1024 1) : IVec S32x32x32 1 :=
  let main_v2588 : IVec S32x1024 1 := noti main_v2587
  let main_v2589 : IVec S32x1024 1 := cmpf .ogt main_v2564 main_v2582
  let main_v2590 : IVec S32x1024 1 := andi main_v2569 main_v2589
  let main_v2591 : IVec S32x1024 1 := ori main_v2588 main_v2590
  let main_v2592 : IVec S32x1024 1 := andi main_v2586 main_v2591
  let main_v2593 : FVec F S32x1024 .f32 := select main_v2592 main_v2582 main_v2564
  let main_v2594 : IVec S32x1024 1 := ori main_v2565 main_v2574
  let main_v2595 : IVec S32x1024 1 := andi main_v2574 main_v37
  let main_v2596 : IVec S32x1024 1 := noti main_v2595
  let main_v2597 : IVec S32x1024 1 := andi main_v2569 main_v2596
  let main_v2598 : IVec S32x1024 1 := ori main_v2597 main_v2592
  let main_v2599 : FVec F S32x1024 .f32 := addf main_v2593 main_v34
  let main_v2600 : FVec F S32x1024 .f32 := select main_v2598 main_v2599 main_v38
  let main_cst_362 : FVec F S_ .f32 := constant S_ .f32 0x7F800000#32
  let main_v2601 : FVec F S32 .f32 := (fun x v => Host.reduce FloatOps.minimumf x v reducesTo_S32x1024_S32_d1 h_S_) main_v2600 main_cst_362
  let main_v2602 : FVec F S32x1024 .f32 := broadcastInDim S32x1024 ![0] bcast_S32_S32x1024_0 main_v2601
  let main_v2603 : IVec S32x1024 1 := cmpf .oeq main_v2600 main_v2602
  let main_v2604 : IVec S32x1024 32 := (extui 32 · natLt_1_32) main_v2603
  let main_c_363 : IVec S_ 32 := constantI S_ 32 0#32
  let main_v2605 : IVec S32 32 := (fun x v => Host.reduce IntOp.addi x v reducesTo_S32x1024_S32_d1 h_S_) main_v2604 main_c_363
  let main_v2606 : IVec S32 1 := cmpi .eq main_v2605 main_v41
  let main_v2607 : IVec S32 1 := andi main_v2578 main_v2606
  let main_v2608 : FVec F S32x1024 .f32 := addf main_v2593 main_v0
  let main_v2609 : FVec F S32x1024 .f32 := select main_v2603 main_v2608 main_v39
  fn_part124 (F := F) main_arg0 main_arg1 main_arg2 main_v0 main_v34 main_v37 main_v38 main_v39 main_v40 main_v41 main_v2593 main_v2594 main_v2598 main_v2603 main_v2604 main_v2607 main_v2609

def fn_part122 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v2540 : IVec S32x1024 1) (main_v2549 : IVec S32 1) (main_v2563 : IVec S32x1024 1) (main_v2564 : FVec F S32x1024 .f32) (main_v2565 : IVec S32x1024 1) (main_v2567 : IVec S32x1024 1) : IVec S32x32x32 1 :=
  let main_v2568 : IVec S32x1024 1 := andi main_v2540 main_v2567
  let main_v2569 : IVec S32x1024 1 := ori main_v2568 main_v2563
  let main_v2570 : FVec F S32x1024 .f32 := addf main_v2564 main_v34
  let main_v2571 : FVec F S32x1024 .f32 := select main_v2569 main_v2570 main_v38
  let main_cst_358 : FVec F S_ .f32 := constant S_ .f32 0x7F800000#32
  let main_v2572 : FVec F S32 .f32 := (fun x v => Host.reduce FloatOps.minimumf x v reducesTo_S32x1024_S32_d1 h_S_) main_v2571 main_cst_358
  let main_v2573 : FVec F S32x1024 .f32 := broadcastInDim S32x1024 ![0] bcast_S32_S32x1024_0 main_v2572
  let main_v2574 : IVec S32x1024 1 := cmpf .oeq main_v2571 main_v2573
  let main_v2575 : IVec S32x1024 32 := (extui 32 · natLt_1_32) main_v2574
  let main_c_359 : IVec S_ 32 := constantI S_ 32 0#32
  let main_v2576 : IVec S32 32 := (fun x v => Host.reduce IntOp.addi x v reducesTo_S32x1024_S32_d1 h_S_) main_v2575 main_c_359
  let main_v2577 : IVec S32 1 := cmpi .eq main_v2576 main_v41
  let main_v2578 : IVec S32 1 := andi main_v2549 main_v2577
  let main_v2579 : FVec F S32x1024 .f32 := addf main_v2564 main_v0
  let main_v2580 : FVec F S32x1024 .f32 := select main_v2574 main_v2579 main_v39
  let main_cst_360 : FVec F S_ .f32 := constant S_ .f32 0x00000000#32
  let main_v2581 : FVec F S32 .f32 := (fun x v => Host.reduceAdd x v reducesTo_S32x1024_S32_d1 h_S_) main_v2580 main_cst_360
  let main_v2582 : FVec F S32x1024 .f32 := broadcastInDim S32x1024 ![0] bcast_S32_S32x1024_0 main_v2581
  let main_v2583 : IVec S32x32x32 32 := shapeCast S32x32x32 main_v2575 shapeCasts_S32x1024_S32x32x32
  let main_c_361 : IVec S_ 32 := constantI S_ 32 2147483648#32
  let main_v2584 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v2583 main_c_361
  let main_v2585 : IVec S32x1024 32 := shapeCast S32x1024 main_v2584 shapeCasts_S32x32x32_S32x1024
  let main_v2586 : IVec S32x1024 1 := cmpi .sgt main_v2585 main_v40
  let main_v2587 : IVec S32x1024 1 := ori main_v2569 main_v2565
  fn_part123 (F := F) main_arg0 main_arg1 main_arg2 main_v0 main_v34 main_v37 main_v38 main_v39 main_v40 main_v41 main_v2564 main_v2565 main_v2569 main_v2574 main_v2578 main_v2582 main_v2586 main_v2587

def fn_part121 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v2520 : IVec S32 1) (main_v2535 : FVec F S32x1024 .f32) (main_v2536 : IVec S32x1024 1) (main_v2540 : IVec S32x1024 1) (main_v2545 : IVec S32x1024 1) (main_v2546 : IVec S32x1024 32) : IVec S32x32x32 1 :=
  let main_c_355 : IVec S_ 32 := constantI S_ 32 0#32
  let main_v2547 : IVec S32 32 := (fun x v => Host.reduce IntOp.addi x v reducesTo_S32x1024_S32_d1 h_S_) main_v2546 main_c_355
  let main_v2548 : IVec S32 1 := cmpi .eq main_v2547 main_v41
  let main_v2549 : IVec S32 1 := andi main_v2520 main_v2548
  let main_v2550 : FVec F S32x1024 .f32 := addf main_v2535 main_v0
  let main_v2551 : FVec F S32x1024 .f32 := select main_v2545 main_v2550 main_v39
  let main_cst_356 : FVec F S_ .f32 := constant S_ .f32 0x00000000#32
  let main_v2552 : FVec F S32 .f32 := (fun x v => Host.reduceAdd x v reducesTo_S32x1024_S32_d1 h_S_) main_v2551 main_cst_356
  let main_v2553 : FVec F S32x1024 .f32 := broadcastInDim S32x1024 ![0] bcast_S32_S32x1024_0 main_v2552
  let main_v2554 : IVec S32x32x32 32 := shapeCast S32x32x32 main_v2546 shapeCasts_S32x1024_S32x32x32
  let main_c_357 : IVec S_ 32 := constantI S_ 32 2147483648#32
  let main_v2555 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v2554 main_c_357
  let main_v2556 : IVec S32x1024 32 := shapeCast S32x1024 main_v2555 shapeCasts_S32x32x32_S32x1024
  let main_v2557 : IVec S32x1024 1 := cmpi .sgt main_v2556 main_v40
  let main_v2558 : IVec S32x1024 1 := ori main_v2540 main_v2536
  let main_v2559 : IVec S32x1024 1 := noti main_v2558
  let main_v2560 : IVec S32x1024 1 := cmpf .ogt main_v2535 main_v2553
  let main_v2561 : IVec S32x1024 1 := andi main_v2540 main_v2560
  let main_v2562 : IVec S32x1024 1 := ori main_v2559 main_v2561
  let main_v2563 : IVec S32x1024 1 := andi main_v2557 main_v2562
  let main_v2564 : FVec F S32x1024 .f32 := select main_v2563 main_v2553 main_v2535
  let main_v2565 : IVec S32x1024 1 := ori main_v2536 main_v2545
  let main_v2566 : IVec S32x1024 1 := andi main_v2545 main_v37
  let main_v2567 : IVec S32x1024 1 := noti main_v2566
  fn_part122 (F := F) main_arg0 main_arg1 main_arg2 main_v0 main_v34 main_v37 main_v38 main_v39 main_v40 main_v41 main_v2540 main_v2549 main_v2563 main_v2564 main_v2565 main_v2567

def fn_part120 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v2506 : FVec F S32x1024 .f32) (main_v2507 : IVec S32x1024 1) (main_v2511 : IVec S32x1024 1) (main_v2516 : IVec S32x1024 1) (main_v2517 : IVec S32x1024 32) (main_v2520 : IVec S32 1) (main_v2524 : FVec F S32x1024 .f32) : IVec S32x32x32 1 :=
  let main_v2525 : IVec S32x32x32 32 := shapeCast S32x32x32 main_v2517 shapeCasts_S32x1024_S32x32x32
  let main_c_353 : IVec S_ 32 := constantI S_ 32 2147483648#32
  let main_v2526 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v2525 main_c_353
  let main_v2527 : IVec S32x1024 32 := shapeCast S32x1024 main_v2526 shapeCasts_S32x32x32_S32x1024
  let main_v2528 : IVec S32x1024 1 := cmpi .sgt main_v2527 main_v40
  let main_v2529 : IVec S32x1024 1 := ori main_v2511 main_v2507
  let main_v2530 : IVec S32x1024 1 := noti main_v2529
  let main_v2531 : IVec S32x1024 1 := cmpf .ogt main_v2506 main_v2524
  let main_v2532 : IVec S32x1024 1 := andi main_v2511 main_v2531
  let main_v2533 : IVec S32x1024 1 := ori main_v2530 main_v2532
  let main_v2534 : IVec S32x1024 1 := andi main_v2528 main_v2533
  let main_v2535 : FVec F S32x1024 .f32 := select main_v2534 main_v2524 main_v2506
  let main_v2536 : IVec S32x1024 1 := ori main_v2507 main_v2516
  let main_v2537 : IVec S32x1024 1 := andi main_v2516 main_v37
  let main_v2538 : IVec S32x1024 1 := noti main_v2537
  let main_v2539 : IVec S32x1024 1 := andi main_v2511 main_v2538
  let main_v2540 : IVec S32x1024 1 := ori main_v2539 main_v2534
  let main_v2541 : FVec F S32x1024 .f32 := addf main_v2535 main_v34
  let main_v2542 : FVec F S32x1024 .f32 := select main_v2540 main_v2541 main_v38
  let main_cst_354 : FVec F S_ .f32 := constant S_ .f32 0x7F800000#32
  let main_v2543 : FVec F S32 .f32 := (fun x v => Host.reduce FloatOps.minimumf x v reducesTo_S32x1024_S32_d1 h_S_) main_v2542 main_cst_354
  let main_v2544 : FVec F S32x1024 .f32 := broadcastInDim S32x1024 ![0] bcast_S32_S32x1024_0 main_v2543
  let main_v2545 : IVec S32x1024 1 := cmpf .oeq main_v2542 main_v2544
  let main_v2546 : IVec S32x1024 32 := (extui 32 · natLt_1_32) main_v2545
  fn_part121 (F := F) main_arg0 main_arg1 main_arg2 main_v0 main_v34 main_v37 main_v38 main_v39 main_v40 main_v41 main_v2520 main_v2535 main_v2536 main_v2540 main_v2545 main_v2546

def fn_part119 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v2477 : FVec F S32x1024 .f32) (main_v2478 : IVec S32x1024 1) (main_v2482 : IVec S32x1024 1) (main_v2487 : IVec S32x1024 1) (main_v2491 : IVec S32 1) (main_v2495 : FVec F S32x1024 .f32) (main_v2499 : IVec S32x1024 1) (main_v2501 : IVec S32x1024 1) (main_v2503 : IVec S32x1024 1) : IVec S32x32x32 1 :=
  let main_v2504 : IVec S32x1024 1 := ori main_v2501 main_v2503
  let main_v2505 : IVec S32x1024 1 := andi main_v2499 main_v2504
  let main_v2506 : FVec F S32x1024 .f32 := select main_v2505 main_v2495 main_v2477
  let main_v2507 : IVec S32x1024 1 := ori main_v2478 main_v2487
  let main_v2508 : IVec S32x1024 1 := andi main_v2487 main_v37
  let main_v2509 : IVec S32x1024 1 := noti main_v2508
  let main_v2510 : IVec S32x1024 1 := andi main_v2482 main_v2509
  let main_v2511 : IVec S32x1024 1 := ori main_v2510 main_v2505
  let main_v2512 : FVec F S32x1024 .f32 := addf main_v2506 main_v34
  let main_v2513 : FVec F S32x1024 .f32 := select main_v2511 main_v2512 main_v38
  let main_cst_350 : FVec F S_ .f32 := constant S_ .f32 0x7F800000#32
  let main_v2514 : FVec F S32 .f32 := (fun x v => Host.reduce FloatOps.minimumf x v reducesTo_S32x1024_S32_d1 h_S_) main_v2513 main_cst_350
  let main_v2515 : FVec F S32x1024 .f32 := broadcastInDim S32x1024 ![0] bcast_S32_S32x1024_0 main_v2514
  let main_v2516 : IVec S32x1024 1 := cmpf .oeq main_v2513 main_v2515
  let main_v2517 : IVec S32x1024 32 := (extui 32 · natLt_1_32) main_v2516
  let main_c_351 : IVec S_ 32 := constantI S_ 32 0#32
  let main_v2518 : IVec S32 32 := (fun x v => Host.reduce IntOp.addi x v reducesTo_S32x1024_S32_d1 h_S_) main_v2517 main_c_351
  let main_v2519 : IVec S32 1 := cmpi .eq main_v2518 main_v41
  let main_v2520 : IVec S32 1 := andi main_v2491 main_v2519
  let main_v2521 : FVec F S32x1024 .f32 := addf main_v2506 main_v0
  let main_v2522 : FVec F S32x1024 .f32 := select main_v2516 main_v2521 main_v39
  let main_cst_352 : FVec F S_ .f32 := constant S_ .f32 0x00000000#32
  let main_v2523 : FVec F S32 .f32 := (fun x v => Host.reduceAdd x v reducesTo_S32x1024_S32_d1 h_S_) main_v2522 main_cst_352
  let main_v2524 : FVec F S32x1024 .f32 := broadcastInDim S32x1024 ![0] bcast_S32_S32x1024_0 main_v2523
  fn_part120 (F := F) main_arg0 main_arg1 main_arg2 main_v0 main_v34 main_v37 main_v38 main_v39 main_v40 main_v41 main_v2506 main_v2507 main_v2511 main_v2516 main_v2517 main_v2520 main_v2524

def fn_part118 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v2462 : IVec S32 1) (main_v2477 : FVec F S32x1024 .f32) (main_v2478 : IVec S32x1024 1) (main_v2482 : IVec S32x1024 1) (main_v2483 : FVec F S32x1024 .f32) : IVec S32x32x32 1 :=
  let main_v2484 : FVec F S32x1024 .f32 := select main_v2482 main_v2483 main_v38
  let main_cst_346 : FVec F S_ .f32 := constant S_ .f32 0x7F800000#32
  let main_v2485 : FVec F S32 .f32 := (fun x v => Host.reduce FloatOps.minimumf x v reducesTo_S32x1024_S32_d1 h_S_) main_v2484 main_cst_346
  let main_v2486 : FVec F S32x1024 .f32 := broadcastInDim S32x1024 ![0] bcast_S32_S32x1024_0 main_v2485
  let main_v2487 : IVec S32x1024 1 := cmpf .oeq main_v2484 main_v2486
  let main_v2488 : IVec S32x1024 32 := (extui 32 · natLt_1_32) main_v2487
  let main_c_347 : IVec S_ 32 := constantI S_ 32 0#32
  let main_v2489 : IVec S32 32 := (fun x v => Host.reduce IntOp.addi x v reducesTo_S32x1024_S32_d1 h_S_) main_v2488 main_c_347
  let main_v2490 : IVec S32 1 := cmpi .eq main_v2489 main_v41
  let main_v2491 : IVec S32 1 := andi main_v2462 main_v2490
  let main_v2492 : FVec F S32x1024 .f32 := addf main_v2477 main_v0
  let main_v2493 : FVec F S32x1024 .f32 := select main_v2487 main_v2492 main_v39
  let main_cst_348 : FVec F S_ .f32 := constant S_ .f32 0x00000000#32
  let main_v2494 : FVec F S32 .f32 := (fun x v => Host.reduceAdd x v reducesTo_S32x1024_S32_d1 h_S_) main_v2493 main_cst_348
  let main_v2495 : FVec F S32x1024 .f32 := broadcastInDim S32x1024 ![0] bcast_S32_S32x1024_0 main_v2494
  let main_v2496 : IVec S32x32x32 32 := shapeCast S32x32x32 main_v2488 shapeCasts_S32x1024_S32x32x32
  let main_c_349 : IVec S_ 32 := constantI S_ 32 2147483648#32
  let main_v2497 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v2496 main_c_349
  let main_v2498 : IVec S32x1024 32 := shapeCast S32x1024 main_v2497 shapeCasts_S32x32x32_S32x1024
  let main_v2499 : IVec S32x1024 1 := cmpi .sgt main_v2498 main_v40
  let main_v2500 : IVec S32x1024 1 := ori main_v2482 main_v2478
  let main_v2501 : IVec S32x1024 1 := noti main_v2500
  let main_v2502 : IVec S32x1024 1 := cmpf .ogt main_v2477 main_v2495
  let main_v2503 : IVec S32x1024 1 := andi main_v2482 main_v2502
  fn_part119 (F := F) main_arg0 main_arg1 main_arg2 main_v0 main_v34 main_v37 main_v38 main_v39 main_v40 main_v41 main_v2477 main_v2478 main_v2482 main_v2487 main_v2491 main_v2495 main_v2499 main_v2501 main_v2503

def fn_part117 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v2433 : IVec S32 1) (main_v2448 : FVec F S32x1024 .f32) (main_v2449 : IVec S32x1024 1) (main_v2453 : IVec S32x1024 1) (main_v2458 : IVec S32x1024 1) (main_v2459 : IVec S32x1024 32) (main_v2461 : IVec S32 1) : IVec S32x32x32 1 :=
  let main_v2462 : IVec S32 1 := andi main_v2433 main_v2461
  let main_v2463 : FVec F S32x1024 .f32 := addf main_v2448 main_v0
  let main_v2464 : FVec F S32x1024 .f32 := select main_v2458 main_v2463 main_v39
  let main_cst_344 : FVec F S_ .f32 := constant S_ .f32 0x00000000#32
  let main_v2465 : FVec F S32 .f32 := (fun x v => Host.reduceAdd x v reducesTo_S32x1024_S32_d1 h_S_) main_v2464 main_cst_344
  let main_v2466 : FVec F S32x1024 .f32 := broadcastInDim S32x1024 ![0] bcast_S32_S32x1024_0 main_v2465
  let main_v2467 : IVec S32x32x32 32 := shapeCast S32x32x32 main_v2459 shapeCasts_S32x1024_S32x32x32
  let main_c_345 : IVec S_ 32 := constantI S_ 32 2147483648#32
  let main_v2468 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v2467 main_c_345
  let main_v2469 : IVec S32x1024 32 := shapeCast S32x1024 main_v2468 shapeCasts_S32x32x32_S32x1024
  let main_v2470 : IVec S32x1024 1 := cmpi .sgt main_v2469 main_v40
  let main_v2471 : IVec S32x1024 1 := ori main_v2453 main_v2449
  let main_v2472 : IVec S32x1024 1 := noti main_v2471
  let main_v2473 : IVec S32x1024 1 := cmpf .ogt main_v2448 main_v2466
  let main_v2474 : IVec S32x1024 1 := andi main_v2453 main_v2473
  let main_v2475 : IVec S32x1024 1 := ori main_v2472 main_v2474
  let main_v2476 : IVec S32x1024 1 := andi main_v2470 main_v2475
  let main_v2477 : FVec F S32x1024 .f32 := select main_v2476 main_v2466 main_v2448
  let main_v2478 : IVec S32x1024 1 := ori main_v2449 main_v2458
  let main_v2479 : IVec S32x1024 1 := andi main_v2458 main_v37
  let main_v2480 : IVec S32x1024 1 := noti main_v2479
  let main_v2481 : IVec S32x1024 1 := andi main_v2453 main_v2480
  let main_v2482 : IVec S32x1024 1 := ori main_v2481 main_v2476
  let main_v2483 : FVec F S32x1024 .f32 := addf main_v2477 main_v34
  fn_part118 (F := F) main_arg0 main_arg1 main_arg2 main_v0 main_v34 main_v37 main_v38 main_v39 main_v40 main_v41 main_v2462 main_v2477 main_v2478 main_v2482 main_v2483

def fn_part116 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v2419 : FVec F S32x1024 .f32) (main_v2420 : IVec S32x1024 1) (main_v2424 : IVec S32x1024 1) (main_v2429 : IVec S32x1024 1) (main_v2433 : IVec S32 1) (main_v2437 : FVec F S32x1024 .f32) (main_v2439 : IVec S32x32x32 32) : IVec S32x32x32 1 :=
  let main_v2440 : IVec S32x1024 32 := shapeCast S32x1024 main_v2439 shapeCasts_S32x32x32_S32x1024
  let main_v2441 : IVec S32x1024 1 := cmpi .sgt main_v2440 main_v40
  let main_v2442 : IVec S32x1024 1 := ori main_v2424 main_v2420
  let main_v2443 : IVec S32x1024 1 := noti main_v2442
  let main_v2444 : IVec S32x1024 1 := cmpf .ogt main_v2419 main_v2437
  let main_v2445 : IVec S32x1024 1 := andi main_v2424 main_v2444
  let main_v2446 : IVec S32x1024 1 := ori main_v2443 main_v2445
  let main_v2447 : IVec S32x1024 1 := andi main_v2441 main_v2446
  let main_v2448 : FVec F S32x1024 .f32 := select main_v2447 main_v2437 main_v2419
  let main_v2449 : IVec S32x1024 1 := ori main_v2420 main_v2429
  let main_v2450 : IVec S32x1024 1 := andi main_v2429 main_v37
  let main_v2451 : IVec S32x1024 1 := noti main_v2450
  let main_v2452 : IVec S32x1024 1 := andi main_v2424 main_v2451
  let main_v2453 : IVec S32x1024 1 := ori main_v2452 main_v2447
  let main_v2454 : FVec F S32x1024 .f32 := addf main_v2448 main_v34
  let main_v2455 : FVec F S32x1024 .f32 := select main_v2453 main_v2454 main_v38
  let main_cst_342 : FVec F S_ .f32 := constant S_ .f32 0x7F800000#32
  let main_v2456 : FVec F S32 .f32 := (fun x v => Host.reduce FloatOps.minimumf x v reducesTo_S32x1024_S32_d1 h_S_) main_v2455 main_cst_342
  let main_v2457 : FVec F S32x1024 .f32 := broadcastInDim S32x1024 ![0] bcast_S32_S32x1024_0 main_v2456
  let main_v2458 : IVec S32x1024 1 := cmpf .oeq main_v2455 main_v2457
  let main_v2459 : IVec S32x1024 32 := (extui 32 · natLt_1_32) main_v2458
  let main_c_343 : IVec S_ 32 := constantI S_ 32 0#32
  let main_v2460 : IVec S32 32 := (fun x v => Host.reduce IntOp.addi x v reducesTo_S32x1024_S32_d1 h_S_) main_v2459 main_c_343
  let main_v2461 : IVec S32 1 := cmpi .eq main_v2460 main_v41
  fn_part117 (F := F) main_arg0 main_arg1 main_arg2 main_v0 main_v34 main_v37 main_v38 main_v39 main_v40 main_v41 main_v2433 main_v2448 main_v2449 main_v2453 main_v2458 main_v2459 main_v2461

def fn_part115 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v2391 : IVec S32x1024 1) (main_v2395 : IVec S32x1024 1) (main_v2400 : IVec S32x1024 1) (main_v2404 : IVec S32 1) (main_v2418 : IVec S32x1024 1) (main_v2419 : FVec F S32x1024 .f32) : IVec S32x32x32 1 :=
  let main_v2420 : IVec S32x1024 1 := ori main_v2391 main_v2400
  let main_v2421 : IVec S32x1024 1 := andi main_v2400 main_v37
  let main_v2422 : IVec S32x1024 1 := noti main_v2421
  let main_v2423 : IVec S32x1024 1 := andi main_v2395 main_v2422
  let main_v2424 : IVec S32x1024 1 := ori main_v2423 main_v2418
  let main_v2425 : FVec F S32x1024 .f32 := addf main_v2419 main_v34
  let main_v2426 : FVec F S32x1024 .f32 := select main_v2424 main_v2425 main_v38
  let main_cst_338 : FVec F S_ .f32 := constant S_ .f32 0x7F800000#32
  let main_v2427 : FVec F S32 .f32 := (fun x v => Host.reduce FloatOps.minimumf x v reducesTo_S32x1024_S32_d1 h_S_) main_v2426 main_cst_338
  let main_v2428 : FVec F S32x1024 .f32 := broadcastInDim S32x1024 ![0] bcast_S32_S32x1024_0 main_v2427
  let main_v2429 : IVec S32x1024 1 := cmpf .oeq main_v2426 main_v2428
  let main_v2430 : IVec S32x1024 32 := (extui 32 · natLt_1_32) main_v2429
  let main_c_339 : IVec S_ 32 := constantI S_ 32 0#32
  let main_v2431 : IVec S32 32 := (fun x v => Host.reduce IntOp.addi x v reducesTo_S32x1024_S32_d1 h_S_) main_v2430 main_c_339
  let main_v2432 : IVec S32 1 := cmpi .eq main_v2431 main_v41
  let main_v2433 : IVec S32 1 := andi main_v2404 main_v2432
  let main_v2434 : FVec F S32x1024 .f32 := addf main_v2419 main_v0
  let main_v2435 : FVec F S32x1024 .f32 := select main_v2429 main_v2434 main_v39
  let main_cst_340 : FVec F S_ .f32 := constant S_ .f32 0x00000000#32
  let main_v2436 : FVec F S32 .f32 := (fun x v => Host.reduceAdd x v reducesTo_S32x1024_S32_d1 h_S_) main_v2435 main_cst_340
  let main_v2437 : FVec F S32x1024 .f32 := broadcastInDim S32x1024 ![0] bcast_S32_S32x1024_0 main_v2436
  let main_v2438 : IVec S32x32x32 32 := shapeCast S32x32x32 main_v2430 shapeCasts_S32x1024_S32x32x32
  let main_c_341 : IVec S_ 32 := constantI S_ 32 2147483648#32
  let main_v2439 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v2438 main_c_341
  fn_part116 (F := F) main_arg0 main_arg1 main_arg2 main_v0 main_v34 main_v37 main_v38 main_v39 main_v40 main_v41 main_v2419 main_v2420 main_v2424 main_v2429 main_v2433 main_v2437 main_v2439

def fn_part114 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v2375 : IVec S32 1) (main_v2390 : FVec F S32x1024 .f32) (main_v2391 : IVec S32x1024 1) (main_v2395 : IVec S32x1024 1) (main_v2397 : FVec F S32x1024 .f32) (main_v2398 : FVec F S32 .f32) : IVec S32x32x32 1 :=
  let main_v2399 : FVec F S32x1024 .f32 := broadcastInDim S32x1024 ![0] bcast_S32_S32x1024_0 main_v2398
  let main_v2400 : IVec S32x1024 1 := cmpf .oeq main_v2397 main_v2399
  let main_v2401 : IVec S32x1024 32 := (extui 32 · natLt_1_32) main_v2400
  let main_c_335 : IVec S_ 32 := constantI S_ 32 0#32
  let main_v2402 : IVec S32 32 := (fun x v => Host.reduce IntOp.addi x v reducesTo_S32x1024_S32_d1 h_S_) main_v2401 main_c_335
  let main_v2403 : IVec S32 1 := cmpi .eq main_v2402 main_v41
  let main_v2404 : IVec S32 1 := andi main_v2375 main_v2403
  let main_v2405 : FVec F S32x1024 .f32 := addf main_v2390 main_v0
  let main_v2406 : FVec F S32x1024 .f32 := select main_v2400 main_v2405 main_v39
  let main_cst_336 : FVec F S_ .f32 := constant S_ .f32 0x00000000#32
  let main_v2407 : FVec F S32 .f32 := (fun x v => Host.reduceAdd x v reducesTo_S32x1024_S32_d1 h_S_) main_v2406 main_cst_336
  let main_v2408 : FVec F S32x1024 .f32 := broadcastInDim S32x1024 ![0] bcast_S32_S32x1024_0 main_v2407
  let main_v2409 : IVec S32x32x32 32 := shapeCast S32x32x32 main_v2401 shapeCasts_S32x1024_S32x32x32
  let main_c_337 : IVec S_ 32 := constantI S_ 32 2147483648#32
  let main_v2410 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v2409 main_c_337
  let main_v2411 : IVec S32x1024 32 := shapeCast S32x1024 main_v2410 shapeCasts_S32x32x32_S32x1024
  let main_v2412 : IVec S32x1024 1 := cmpi .sgt main_v2411 main_v40
  let main_v2413 : IVec S32x1024 1 := ori main_v2395 main_v2391
  let main_v2414 : IVec S32x1024 1 := noti main_v2413
  let main_v2415 : IVec S32x1024 1 := cmpf .ogt main_v2390 main_v2408
  let main_v2416 : IVec S32x1024 1 := andi main_v2395 main_v2415
  let main_v2417 : IVec S32x1024 1 := ori main_v2414 main_v2416
  let main_v2418 : IVec S32x1024 1 := andi main_v2412 main_v2417
  let main_v2419 : FVec F S32x1024 .f32 := select main_v2418 main_v2408 main_v2390
  fn_part115 (F := F) main_arg0 main_arg1 main_arg2 main_v0 main_v34 main_v37 main_v38 main_v39 main_v40 main_v41 main_v2391 main_v2395 main_v2400 main_v2404 main_v2418 main_v2419

def fn_part113 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v2361 : FVec F S32x1024 .f32) (main_v2362 : IVec S32x1024 1) (main_v2366 : IVec S32x1024 1) (main_v2371 : IVec S32x1024 1) (main_v2372 : IVec S32x1024 32) (main_v2375 : IVec S32 1) (main_v2377 : FVec F S32x1024 .f32) : IVec S32x32x32 1 :=
  let main_cst_332 : FVec F S_ .f32 := constant S_ .f32 0x00000000#32
  let main_v2378 : FVec F S32 .f32 := (fun x v => Host.reduceAdd x v reducesTo_S32x1024_S32_d1 h_S_) main_v2377 main_cst_332
  let main_v2379 : FVec F S32x1024 .f32 := broadcastInDim S32x1024 ![0] bcast_S32_S32x1024_0 main_v2378
  let main_v2380 : IVec S32x32x32 32 := shapeCast S32x32x32 main_v2372 shapeCasts_S32x1024_S32x32x32
  let main_c_333 : IVec S_ 32 := constantI S_ 32 2147483648#32
  let main_v2381 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v2380 main_c_333
  let main_v2382 : IVec S32x1024 32 := shapeCast S32x1024 main_v2381 shapeCasts_S32x32x32_S32x1024
  let main_v2383 : IVec S32x1024 1 := cmpi .sgt main_v2382 main_v40
  let main_v2384 : IVec S32x1024 1 := ori main_v2366 main_v2362
  let main_v2385 : IVec S32x1024 1 := noti main_v2384
  let main_v2386 : IVec S32x1024 1 := cmpf .ogt main_v2361 main_v2379
  let main_v2387 : IVec S32x1024 1 := andi main_v2366 main_v2386
  let main_v2388 : IVec S32x1024 1 := ori main_v2385 main_v2387
  let main_v2389 : IVec S32x1024 1 := andi main_v2383 main_v2388
  let main_v2390 : FVec F S32x1024 .f32 := select main_v2389 main_v2379 main_v2361
  let main_v2391 : IVec S32x1024 1 := ori main_v2362 main_v2371
  let main_v2392 : IVec S32x1024 1 := andi main_v2371 main_v37
  let main_v2393 : IVec S32x1024 1 := noti main_v2392
  let main_v2394 : IVec S32x1024 1 := andi main_v2366 main_v2393
  let main_v2395 : IVec S32x1024 1 := ori main_v2394 main_v2389
  let main_v2396 : FVec F S32x1024 .f32 := addf main_v2390 main_v34
  let main_v2397 : FVec F S32x1024 .f32 := select main_v2395 main_v2396 main_v38
  let main_cst_334 : FVec F S_ .f32 := constant S_ .f32 0x7F800000#32
  let main_v2398 : FVec F S32 .f32 := (fun x v => Host.reduce FloatOps.minimumf x v reducesTo_S32x1024_S32_d1 h_S_) main_v2397 main_cst_334
  fn_part114 (F := F) main_arg0 main_arg1 main_arg2 main_v0 main_v34 main_v37 main_v38 main_v39 main_v40 main_v41 main_v2375 main_v2390 main_v2391 main_v2395 main_v2397 main_v2398

def fn_part112 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v2332 : FVec F S32x1024 .f32) (main_v2333 : IVec S32x1024 1) (main_v2337 : IVec S32x1024 1) (main_v2342 : IVec S32x1024 1) (main_v2346 : IVec S32 1) (main_v2350 : FVec F S32x1024 .f32) (main_v2354 : IVec S32x1024 1) (main_v2355 : IVec S32x1024 1) : IVec S32x32x32 1 :=
  let main_v2356 : IVec S32x1024 1 := noti main_v2355
  let main_v2357 : IVec S32x1024 1 := cmpf .ogt main_v2332 main_v2350
  let main_v2358 : IVec S32x1024 1 := andi main_v2337 main_v2357
  let main_v2359 : IVec S32x1024 1 := ori main_v2356 main_v2358
  let main_v2360 : IVec S32x1024 1 := andi main_v2354 main_v2359
  let main_v2361 : FVec F S32x1024 .f32 := select main_v2360 main_v2350 main_v2332
  let main_v2362 : IVec S32x1024 1 := ori main_v2333 main_v2342
  let main_v2363 : IVec S32x1024 1 := andi main_v2342 main_v37
  let main_v2364 : IVec S32x1024 1 := noti main_v2363
  let main_v2365 : IVec S32x1024 1 := andi main_v2337 main_v2364
  let main_v2366 : IVec S32x1024 1 := ori main_v2365 main_v2360
  let main_v2367 : FVec F S32x1024 .f32 := addf main_v2361 main_v34
  let main_v2368 : FVec F S32x1024 .f32 := select main_v2366 main_v2367 main_v38
  let main_cst_330 : FVec F S_ .f32 := constant S_ .f32 0x7F800000#32
  let main_v2369 : FVec F S32 .f32 := (fun x v => Host.reduce FloatOps.minimumf x v reducesTo_S32x1024_S32_d1 h_S_) main_v2368 main_cst_330
  let main_v2370 : FVec F S32x1024 .f32 := broadcastInDim S32x1024 ![0] bcast_S32_S32x1024_0 main_v2369
  let main_v2371 : IVec S32x1024 1 := cmpf .oeq main_v2368 main_v2370
  let main_v2372 : IVec S32x1024 32 := (extui 32 · natLt_1_32) main_v2371
  let main_c_331 : IVec S_ 32 := constantI S_ 32 0#32
  let main_v2373 : IVec S32 32 := (fun x v => Host.reduce IntOp.addi x v reducesTo_S32x1024_S32_d1 h_S_) main_v2372 main_c_331
  let main_v2374 : IVec S32 1 := cmpi .eq main_v2373 main_v41
  let main_v2375 : IVec S32 1 := andi main_v2346 main_v2374
  let main_v2376 : FVec F S32x1024 .f32 := addf main_v2361 main_v0
  let main_v2377 : FVec F S32x1024 .f32 := select main_v2371 main_v2376 main_v39
  fn_part113 (F := F) main_arg0 main_arg1 main_arg2 main_v0 main_v34 main_v37 main_v38 main_v39 main_v40 main_v41 main_v2361 main_v2362 main_v2366 main_v2371 main_v2372 main_v2375 main_v2377

def fn_part111 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v2308 : IVec S32x1024 1) (main_v2317 : IVec S32 1) (main_v2331 : IVec S32x1024 1) (main_v2332 : FVec F S32x1024 .f32) (main_v2333 : IVec S32x1024 1) (main_v2335 : IVec S32x1024 1) : IVec S32x32x32 1 :=
  let main_v2336 : IVec S32x1024 1 := andi main_v2308 main_v2335
  let main_v2337 : IVec S32x1024 1 := ori main_v2336 main_v2331
  let main_v2338 : FVec F S32x1024 .f32 := addf main_v2332 main_v34
  let main_v2339 : FVec F S32x1024 .f32 := select main_v2337 main_v2338 main_v38
  let main_cst_326 : FVec F S_ .f32 := constant S_ .f32 0x7F800000#32
  let main_v2340 : FVec F S32 .f32 := (fun x v => Host.reduce FloatOps.minimumf x v reducesTo_S32x1024_S32_d1 h_S_) main_v2339 main_cst_326
  let main_v2341 : FVec F S32x1024 .f32 := broadcastInDim S32x1024 ![0] bcast_S32_S32x1024_0 main_v2340
  let main_v2342 : IVec S32x1024 1 := cmpf .oeq main_v2339 main_v2341
  let main_v2343 : IVec S32x1024 32 := (extui 32 · natLt_1_32) main_v2342
  let main_c_327 : IVec S_ 32 := constantI S_ 32 0#32
  let main_v2344 : IVec S32 32 := (fun x v => Host.reduce IntOp.addi x v reducesTo_S32x1024_S32_d1 h_S_) main_v2343 main_c_327
  let main_v2345 : IVec S32 1 := cmpi .eq main_v2344 main_v41
  let main_v2346 : IVec S32 1 := andi main_v2317 main_v2345
  let main_v2347 : FVec F S32x1024 .f32 := addf main_v2332 main_v0
  let main_v2348 : FVec F S32x1024 .f32 := select main_v2342 main_v2347 main_v39
  let main_cst_328 : FVec F S_ .f32 := constant S_ .f32 0x00000000#32
  let main_v2349 : FVec F S32 .f32 := (fun x v => Host.reduceAdd x v reducesTo_S32x1024_S32_d1 h_S_) main_v2348 main_cst_328
  let main_v2350 : FVec F S32x1024 .f32 := broadcastInDim S32x1024 ![0] bcast_S32_S32x1024_0 main_v2349
  let main_v2351 : IVec S32x32x32 32 := shapeCast S32x32x32 main_v2343 shapeCasts_S32x1024_S32x32x32
  let main_c_329 : IVec S_ 32 := constantI S_ 32 2147483648#32
  let main_v2352 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v2351 main_c_329
  let main_v2353 : IVec S32x1024 32 := shapeCast S32x1024 main_v2352 shapeCasts_S32x32x32_S32x1024
  let main_v2354 : IVec S32x1024 1 := cmpi .sgt main_v2353 main_v40
  let main_v2355 : IVec S32x1024 1 := ori main_v2337 main_v2333
  fn_part112 (F := F) main_arg0 main_arg1 main_arg2 main_v0 main_v34 main_v37 main_v38 main_v39 main_v40 main_v41 main_v2332 main_v2333 main_v2337 main_v2342 main_v2346 main_v2350 main_v2354 main_v2355

def fn_part110 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v2288 : IVec S32 1) (main_v2303 : FVec F S32x1024 .f32) (main_v2304 : IVec S32x1024 1) (main_v2308 : IVec S32x1024 1) (main_v2313 : IVec S32x1024 1) (main_v2314 : IVec S32x1024 32) : IVec S32x32x32 1 :=
  let main_c_323 : IVec S_ 32 := constantI S_ 32 0#32
  let main_v2315 : IVec S32 32 := (fun x v => Host.reduce IntOp.addi x v reducesTo_S32x1024_S32_d1 h_S_) main_v2314 main_c_323
  let main_v2316 : IVec S32 1 := cmpi .eq main_v2315 main_v41
  let main_v2317 : IVec S32 1 := andi main_v2288 main_v2316
  let main_v2318 : FVec F S32x1024 .f32 := addf main_v2303 main_v0
  let main_v2319 : FVec F S32x1024 .f32 := select main_v2313 main_v2318 main_v39
  let main_cst_324 : FVec F S_ .f32 := constant S_ .f32 0x00000000#32
  let main_v2320 : FVec F S32 .f32 := (fun x v => Host.reduceAdd x v reducesTo_S32x1024_S32_d1 h_S_) main_v2319 main_cst_324
  let main_v2321 : FVec F S32x1024 .f32 := broadcastInDim S32x1024 ![0] bcast_S32_S32x1024_0 main_v2320
  let main_v2322 : IVec S32x32x32 32 := shapeCast S32x32x32 main_v2314 shapeCasts_S32x1024_S32x32x32
  let main_c_325 : IVec S_ 32 := constantI S_ 32 2147483648#32
  let main_v2323 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v2322 main_c_325
  let main_v2324 : IVec S32x1024 32 := shapeCast S32x1024 main_v2323 shapeCasts_S32x32x32_S32x1024
  let main_v2325 : IVec S32x1024 1 := cmpi .sgt main_v2324 main_v40
  let main_v2326 : IVec S32x1024 1 := ori main_v2308 main_v2304
  let main_v2327 : IVec S32x1024 1 := noti main_v2326
  let main_v2328 : IVec S32x1024 1 := cmpf .ogt main_v2303 main_v2321
  let main_v2329 : IVec S32x1024 1 := andi main_v2308 main_v2328
  let main_v2330 : IVec S32x1024 1 := ori main_v2327 main_v2329
  let main_v2331 : IVec S32x1024 1 := andi main_v2325 main_v2330
  let main_v2332 : FVec F S32x1024 .f32 := select main_v2331 main_v2321 main_v2303
  let main_v2333 : IVec S32x1024 1 := ori main_v2304 main_v2313
  let main_v2334 : IVec S32x1024 1 := andi main_v2313 main_v37
  let main_v2335 : IVec S32x1024 1 := noti main_v2334
  fn_part111 (F := F) main_arg0 main_arg1 main_arg2 main_v0 main_v34 main_v37 main_v38 main_v39 main_v40 main_v41 main_v2308 main_v2317 main_v2331 main_v2332 main_v2333 main_v2335

def fn_part109 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v2274 : FVec F S32x1024 .f32) (main_v2275 : IVec S32x1024 1) (main_v2279 : IVec S32x1024 1) (main_v2284 : IVec S32x1024 1) (main_v2285 : IVec S32x1024 32) (main_v2288 : IVec S32 1) (main_v2292 : FVec F S32x1024 .f32) : IVec S32x32x32 1 :=
  let main_v2293 : IVec S32x32x32 32 := shapeCast S32x32x32 main_v2285 shapeCasts_S32x1024_S32x32x32
  let main_c_321 : IVec S_ 32 := constantI S_ 32 2147483648#32
  let main_v2294 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v2293 main_c_321
  let main_v2295 : IVec S32x1024 32 := shapeCast S32x1024 main_v2294 shapeCasts_S32x32x32_S32x1024
  let main_v2296 : IVec S32x1024 1 := cmpi .sgt main_v2295 main_v40
  let main_v2297 : IVec S32x1024 1 := ori main_v2279 main_v2275
  let main_v2298 : IVec S32x1024 1 := noti main_v2297
  let main_v2299 : IVec S32x1024 1 := cmpf .ogt main_v2274 main_v2292
  let main_v2300 : IVec S32x1024 1 := andi main_v2279 main_v2299
  let main_v2301 : IVec S32x1024 1 := ori main_v2298 main_v2300
  let main_v2302 : IVec S32x1024 1 := andi main_v2296 main_v2301
  let main_v2303 : FVec F S32x1024 .f32 := select main_v2302 main_v2292 main_v2274
  let main_v2304 : IVec S32x1024 1 := ori main_v2275 main_v2284
  let main_v2305 : IVec S32x1024 1 := andi main_v2284 main_v37
  let main_v2306 : IVec S32x1024 1 := noti main_v2305
  let main_v2307 : IVec S32x1024 1 := andi main_v2279 main_v2306
  let main_v2308 : IVec S32x1024 1 := ori main_v2307 main_v2302
  let main_v2309 : FVec F S32x1024 .f32 := addf main_v2303 main_v34
  let main_v2310 : FVec F S32x1024 .f32 := select main_v2308 main_v2309 main_v38
  let main_cst_322 : FVec F S_ .f32 := constant S_ .f32 0x7F800000#32
  let main_v2311 : FVec F S32 .f32 := (fun x v => Host.reduce FloatOps.minimumf x v reducesTo_S32x1024_S32_d1 h_S_) main_v2310 main_cst_322
  let main_v2312 : FVec F S32x1024 .f32 := broadcastInDim S32x1024 ![0] bcast_S32_S32x1024_0 main_v2311
  let main_v2313 : IVec S32x1024 1 := cmpf .oeq main_v2310 main_v2312
  let main_v2314 : IVec S32x1024 32 := (extui 32 · natLt_1_32) main_v2313
  fn_part110 (F := F) main_arg0 main_arg1 main_arg2 main_v0 main_v34 main_v37 main_v38 main_v39 main_v40 main_v41 main_v2288 main_v2303 main_v2304 main_v2308 main_v2313 main_v2314

def fn_part108 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v2245 : FVec F S32x1024 .f32) (main_v2246 : IVec S32x1024 1) (main_v2250 : IVec S32x1024 1) (main_v2255 : IVec S32x1024 1) (main_v2259 : IVec S32 1) (main_v2263 : FVec F S32x1024 .f32) (main_v2267 : IVec S32x1024 1) (main_v2269 : IVec S32x1024 1) (main_v2271 : IVec S32x1024 1) : IVec S32x32x32 1 :=
  let main_v2272 : IVec S32x1024 1 := ori main_v2269 main_v2271
  let main_v2273 : IVec S32x1024 1 := andi main_v2267 main_v2272
  let main_v2274 : FVec F S32x1024 .f32 := select main_v2273 main_v2263 main_v2245
  let main_v2275 : IVec S32x1024 1 := ori main_v2246 main_v2255
  let main_v2276 : IVec S32x1024 1 := andi main_v2255 main_v37
  let main_v2277 : IVec S32x1024 1 := noti main_v2276
  let main_v2278 : IVec S32x1024 1 := andi main_v2250 main_v2277
  let main_v2279 : IVec S32x1024 1 := ori main_v2278 main_v2273
  let main_v2280 : FVec F S32x1024 .f32 := addf main_v2274 main_v34
  let main_v2281 : FVec F S32x1024 .f32 := select main_v2279 main_v2280 main_v38
  let main_cst_318 : FVec F S_ .f32 := constant S_ .f32 0x7F800000#32
  let main_v2282 : FVec F S32 .f32 := (fun x v => Host.reduce FloatOps.minimumf x v reducesTo_S32x1024_S32_d1 h_S_) main_v2281 main_cst_318
  let main_v2283 : FVec F S32x1024 .f32 := broadcastInDim S32x1024 ![0] bcast_S32_S32x1024_0 main_v2282
  let main_v2284 : IVec S32x1024 1 := cmpf .oeq main_v2281 main_v2283
  let main_v2285 : IVec S32x1024 32 := (extui 32 · natLt_1_32) main_v2284
  let main_c_319 : IVec S_ 32 := constantI S_ 32 0#32
  let main_v2286 : IVec S32 32 := (fun x v => Host.reduce IntOp.addi x v reducesTo_S32x1024_S32_d1 h_S_) main_v2285 main_c_319
  let main_v2287 : IVec S32 1 := cmpi .eq main_v2286 main_v41
  let main_v2288 : IVec S32 1 := andi main_v2259 main_v2287
  let main_v2289 : FVec F S32x1024 .f32 := addf main_v2274 main_v0
  let main_v2290 : FVec F S32x1024 .f32 := select main_v2284 main_v2289 main_v39
  let main_cst_320 : FVec F S_ .f32 := constant S_ .f32 0x00000000#32
  let main_v2291 : FVec F S32 .f32 := (fun x v => Host.reduceAdd x v reducesTo_S32x1024_S32_d1 h_S_) main_v2290 main_cst_320
  let main_v2292 : FVec F S32x1024 .f32 := broadcastInDim S32x1024 ![0] bcast_S32_S32x1024_0 main_v2291
  fn_part109 (F := F) main_arg0 main_arg1 main_arg2 main_v0 main_v34 main_v37 main_v38 main_v39 main_v40 main_v41 main_v2274 main_v2275 main_v2279 main_v2284 main_v2285 main_v2288 main_v2292

def fn_part107 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v2230 : IVec S32 1) (main_v2245 : FVec F S32x1024 .f32) (main_v2246 : IVec S32x1024 1) (main_v2250 : IVec S32x1024 1) (main_v2251 : FVec F S32x1024 .f32) : IVec S32x32x32 1 :=
  let main_v2252 : FVec F S32x1024 .f32 := select main_v2250 main_v2251 main_v38
  let main_cst_314 : FVec F S_ .f32 := constant S_ .f32 0x7F800000#32
  let main_v2253 : FVec F S32 .f32 := (fun x v => Host.reduce FloatOps.minimumf x v reducesTo_S32x1024_S32_d1 h_S_) main_v2252 main_cst_314
  let main_v2254 : FVec F S32x1024 .f32 := broadcastInDim S32x1024 ![0] bcast_S32_S32x1024_0 main_v2253
  let main_v2255 : IVec S32x1024 1 := cmpf .oeq main_v2252 main_v2254
  let main_v2256 : IVec S32x1024 32 := (extui 32 · natLt_1_32) main_v2255
  let main_c_315 : IVec S_ 32 := constantI S_ 32 0#32
  let main_v2257 : IVec S32 32 := (fun x v => Host.reduce IntOp.addi x v reducesTo_S32x1024_S32_d1 h_S_) main_v2256 main_c_315
  let main_v2258 : IVec S32 1 := cmpi .eq main_v2257 main_v41
  let main_v2259 : IVec S32 1 := andi main_v2230 main_v2258
  let main_v2260 : FVec F S32x1024 .f32 := addf main_v2245 main_v0
  let main_v2261 : FVec F S32x1024 .f32 := select main_v2255 main_v2260 main_v39
  let main_cst_316 : FVec F S_ .f32 := constant S_ .f32 0x00000000#32
  let main_v2262 : FVec F S32 .f32 := (fun x v => Host.reduceAdd x v reducesTo_S32x1024_S32_d1 h_S_) main_v2261 main_cst_316
  let main_v2263 : FVec F S32x1024 .f32 := broadcastInDim S32x1024 ![0] bcast_S32_S32x1024_0 main_v2262
  let main_v2264 : IVec S32x32x32 32 := shapeCast S32x32x32 main_v2256 shapeCasts_S32x1024_S32x32x32
  let main_c_317 : IVec S_ 32 := constantI S_ 32 2147483648#32
  let main_v2265 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v2264 main_c_317
  let main_v2266 : IVec S32x1024 32 := shapeCast S32x1024 main_v2265 shapeCasts_S32x32x32_S32x1024
  let main_v2267 : IVec S32x1024 1 := cmpi .sgt main_v2266 main_v40
  let main_v2268 : IVec S32x1024 1 := ori main_v2250 main_v2246
  let main_v2269 : IVec S32x1024 1 := noti main_v2268
  let main_v2270 : IVec S32x1024 1 := cmpf .ogt main_v2245 main_v2263
  let main_v2271 : IVec S32x1024 1 := andi main_v2250 main_v2270
  fn_part108 (F := F) main_arg0 main_arg1 main_arg2 main_v0 main_v34 main_v37 main_v38 main_v39 main_v40 main_v41 main_v2245 main_v2246 main_v2250 main_v2255 main_v2259 main_v2263 main_v2267 main_v2269 main_v2271

def fn_part106 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v2201 : IVec S32 1) (main_v2216 : FVec F S32x1024 .f32) (main_v2217 : IVec S32x1024 1) (main_v2221 : IVec S32x1024 1) (main_v2226 : IVec S32x1024 1) (main_v2227 : IVec S32x1024 32) (main_v2229 : IVec S32 1) : IVec S32x32x32 1 :=
  let main_v2230 : IVec S32 1 := andi main_v2201 main_v2229
  let main_v2231 : FVec F S32x1024 .f32 := addf main_v2216 main_v0
  let main_v2232 : FVec F S32x1024 .f32 := select main_v2226 main_v2231 main_v39
  let main_cst_312 : FVec F S_ .f32 := constant S_ .f32 0x00000000#32
  let main_v2233 : FVec F S32 .f32 := (fun x v => Host.reduceAdd x v reducesTo_S32x1024_S32_d1 h_S_) main_v2232 main_cst_312
  let main_v2234 : FVec F S32x1024 .f32 := broadcastInDim S32x1024 ![0] bcast_S32_S32x1024_0 main_v2233
  let main_v2235 : IVec S32x32x32 32 := shapeCast S32x32x32 main_v2227 shapeCasts_S32x1024_S32x32x32
  let main_c_313 : IVec S_ 32 := constantI S_ 32 2147483648#32
  let main_v2236 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v2235 main_c_313
  let main_v2237 : IVec S32x1024 32 := shapeCast S32x1024 main_v2236 shapeCasts_S32x32x32_S32x1024
  let main_v2238 : IVec S32x1024 1 := cmpi .sgt main_v2237 main_v40
  let main_v2239 : IVec S32x1024 1 := ori main_v2221 main_v2217
  let main_v2240 : IVec S32x1024 1 := noti main_v2239
  let main_v2241 : IVec S32x1024 1 := cmpf .ogt main_v2216 main_v2234
  let main_v2242 : IVec S32x1024 1 := andi main_v2221 main_v2241
  let main_v2243 : IVec S32x1024 1 := ori main_v2240 main_v2242
  let main_v2244 : IVec S32x1024 1 := andi main_v2238 main_v2243
  let main_v2245 : FVec F S32x1024 .f32 := select main_v2244 main_v2234 main_v2216
  let main_v2246 : IVec S32x1024 1 := ori main_v2217 main_v2226
  let main_v2247 : IVec S32x1024 1 := andi main_v2226 main_v37
  let main_v2248 : IVec S32x1024 1 := noti main_v2247
  let main_v2249 : IVec S32x1024 1 := andi main_v2221 main_v2248
  let main_v2250 : IVec S32x1024 1 := ori main_v2249 main_v2244
  let main_v2251 : FVec F S32x1024 .f32 := addf main_v2245 main_v34
  fn_part107 (F := F) main_arg0 main_arg1 main_arg2 main_v0 main_v34 main_v37 main_v38 main_v39 main_v40 main_v41 main_v2230 main_v2245 main_v2246 main_v2250 main_v2251

def fn_part105 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v2187 : FVec F S32x1024 .f32) (main_v2188 : IVec S32x1024 1) (main_v2192 : IVec S32x1024 1) (main_v2197 : IVec S32x1024 1) (main_v2201 : IVec S32 1) (main_v2205 : FVec F S32x1024 .f32) (main_v2207 : IVec S32x32x32 32) : IVec S32x32x32 1 :=
  let main_v2208 : IVec S32x1024 32 := shapeCast S32x1024 main_v2207 shapeCasts_S32x32x32_S32x1024
  let main_v2209 : IVec S32x1024 1 := cmpi .sgt main_v2208 main_v40
  let main_v2210 : IVec S32x1024 1 := ori main_v2192 main_v2188
  let main_v2211 : IVec S32x1024 1 := noti main_v2210
  let main_v2212 : IVec S32x1024 1 := cmpf .ogt main_v2187 main_v2205
  let main_v2213 : IVec S32x1024 1 := andi main_v2192 main_v2212
  let main_v2214 : IVec S32x1024 1 := ori main_v2211 main_v2213
  let main_v2215 : IVec S32x1024 1 := andi main_v2209 main_v2214
  let main_v2216 : FVec F S32x1024 .f32 := select main_v2215 main_v2205 main_v2187
  let main_v2217 : IVec S32x1024 1 := ori main_v2188 main_v2197
  let main_v2218 : IVec S32x1024 1 := andi main_v2197 main_v37
  let main_v2219 : IVec S32x1024 1 := noti main_v2218
  let main_v2220 : IVec S32x1024 1 := andi main_v2192 main_v2219
  let main_v2221 : IVec S32x1024 1 := ori main_v2220 main_v2215
  let main_v2222 : FVec F S32x1024 .f32 := addf main_v2216 main_v34
  let main_v2223 : FVec F S32x1024 .f32 := select main_v2221 main_v2222 main_v38
  let main_cst_310 : FVec F S_ .f32 := constant S_ .f32 0x7F800000#32
  let main_v2224 : FVec F S32 .f32 := (fun x v => Host.reduce FloatOps.minimumf x v reducesTo_S32x1024_S32_d1 h_S_) main_v2223 main_cst_310
  let main_v2225 : FVec F S32x1024 .f32 := broadcastInDim S32x1024 ![0] bcast_S32_S32x1024_0 main_v2224
  let main_v2226 : IVec S32x1024 1 := cmpf .oeq main_v2223 main_v2225
  let main_v2227 : IVec S32x1024 32 := (extui 32 · natLt_1_32) main_v2226
  let main_c_311 : IVec S_ 32 := constantI S_ 32 0#32
  let main_v2228 : IVec S32 32 := (fun x v => Host.reduce IntOp.addi x v reducesTo_S32x1024_S32_d1 h_S_) main_v2227 main_c_311
  let main_v2229 : IVec S32 1 := cmpi .eq main_v2228 main_v41
  fn_part106 (F := F) main_arg0 main_arg1 main_arg2 main_v0 main_v34 main_v37 main_v38 main_v39 main_v40 main_v41 main_v2201 main_v2216 main_v2217 main_v2221 main_v2226 main_v2227 main_v2229

def fn_part104 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v2159 : IVec S32x1024 1) (main_v2163 : IVec S32x1024 1) (main_v2168 : IVec S32x1024 1) (main_v2172 : IVec S32 1) (main_v2186 : IVec S32x1024 1) (main_v2187 : FVec F S32x1024 .f32) : IVec S32x32x32 1 :=
  let main_v2188 : IVec S32x1024 1 := ori main_v2159 main_v2168
  let main_v2189 : IVec S32x1024 1 := andi main_v2168 main_v37
  let main_v2190 : IVec S32x1024 1 := noti main_v2189
  let main_v2191 : IVec S32x1024 1 := andi main_v2163 main_v2190
  let main_v2192 : IVec S32x1024 1 := ori main_v2191 main_v2186
  let main_v2193 : FVec F S32x1024 .f32 := addf main_v2187 main_v34
  let main_v2194 : FVec F S32x1024 .f32 := select main_v2192 main_v2193 main_v38
  let main_cst_306 : FVec F S_ .f32 := constant S_ .f32 0x7F800000#32
  let main_v2195 : FVec F S32 .f32 := (fun x v => Host.reduce FloatOps.minimumf x v reducesTo_S32x1024_S32_d1 h_S_) main_v2194 main_cst_306
  let main_v2196 : FVec F S32x1024 .f32 := broadcastInDim S32x1024 ![0] bcast_S32_S32x1024_0 main_v2195
  let main_v2197 : IVec S32x1024 1 := cmpf .oeq main_v2194 main_v2196
  let main_v2198 : IVec S32x1024 32 := (extui 32 · natLt_1_32) main_v2197
  let main_c_307 : IVec S_ 32 := constantI S_ 32 0#32
  let main_v2199 : IVec S32 32 := (fun x v => Host.reduce IntOp.addi x v reducesTo_S32x1024_S32_d1 h_S_) main_v2198 main_c_307
  let main_v2200 : IVec S32 1 := cmpi .eq main_v2199 main_v41
  let main_v2201 : IVec S32 1 := andi main_v2172 main_v2200
  let main_v2202 : FVec F S32x1024 .f32 := addf main_v2187 main_v0
  let main_v2203 : FVec F S32x1024 .f32 := select main_v2197 main_v2202 main_v39
  let main_cst_308 : FVec F S_ .f32 := constant S_ .f32 0x00000000#32
  let main_v2204 : FVec F S32 .f32 := (fun x v => Host.reduceAdd x v reducesTo_S32x1024_S32_d1 h_S_) main_v2203 main_cst_308
  let main_v2205 : FVec F S32x1024 .f32 := broadcastInDim S32x1024 ![0] bcast_S32_S32x1024_0 main_v2204
  let main_v2206 : IVec S32x32x32 32 := shapeCast S32x32x32 main_v2198 shapeCasts_S32x1024_S32x32x32
  let main_c_309 : IVec S_ 32 := constantI S_ 32 2147483648#32
  let main_v2207 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v2206 main_c_309
  fn_part105 (F := F) main_arg0 main_arg1 main_arg2 main_v0 main_v34 main_v37 main_v38 main_v39 main_v40 main_v41 main_v2187 main_v2188 main_v2192 main_v2197 main_v2201 main_v2205 main_v2207

def fn_part103 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v2143 : IVec S32 1) (main_v2158 : FVec F S32x1024 .f32) (main_v2159 : IVec S32x1024 1) (main_v2163 : IVec S32x1024 1) (main_v2165 : FVec F S32x1024 .f32) (main_v2166 : FVec F S32 .f32) : IVec S32x32x32 1 :=
  let main_v2167 : FVec F S32x1024 .f32 := broadcastInDim S32x1024 ![0] bcast_S32_S32x1024_0 main_v2166
  let main_v2168 : IVec S32x1024 1 := cmpf .oeq main_v2165 main_v2167
  let main_v2169 : IVec S32x1024 32 := (extui 32 · natLt_1_32) main_v2168
  let main_c_303 : IVec S_ 32 := constantI S_ 32 0#32
  let main_v2170 : IVec S32 32 := (fun x v => Host.reduce IntOp.addi x v reducesTo_S32x1024_S32_d1 h_S_) main_v2169 main_c_303
  let main_v2171 : IVec S32 1 := cmpi .eq main_v2170 main_v41
  let main_v2172 : IVec S32 1 := andi main_v2143 main_v2171
  let main_v2173 : FVec F S32x1024 .f32 := addf main_v2158 main_v0
  let main_v2174 : FVec F S32x1024 .f32 := select main_v2168 main_v2173 main_v39
  let main_cst_304 : FVec F S_ .f32 := constant S_ .f32 0x00000000#32
  let main_v2175 : FVec F S32 .f32 := (fun x v => Host.reduceAdd x v reducesTo_S32x1024_S32_d1 h_S_) main_v2174 main_cst_304
  let main_v2176 : FVec F S32x1024 .f32 := broadcastInDim S32x1024 ![0] bcast_S32_S32x1024_0 main_v2175
  let main_v2177 : IVec S32x32x32 32 := shapeCast S32x32x32 main_v2169 shapeCasts_S32x1024_S32x32x32
  let main_c_305 : IVec S_ 32 := constantI S_ 32 2147483648#32
  let main_v2178 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v2177 main_c_305
  let main_v2179 : IVec S32x1024 32 := shapeCast S32x1024 main_v2178 shapeCasts_S32x32x32_S32x1024
  let main_v2180 : IVec S32x1024 1 := cmpi .sgt main_v2179 main_v40
  let main_v2181 : IVec S32x1024 1 := ori main_v2163 main_v2159
  let main_v2182 : IVec S32x1024 1 := noti main_v2181
  let main_v2183 : IVec S32x1024 1 := cmpf .ogt main_v2158 main_v2176
  let main_v2184 : IVec S32x1024 1 := andi main_v2163 main_v2183
  let main_v2185 : IVec S32x1024 1 := ori main_v2182 main_v2184
  let main_v2186 : IVec S32x1024 1 := andi main_v2180 main_v2185
  let main_v2187 : FVec F S32x1024 .f32 := select main_v2186 main_v2176 main_v2158
  fn_part104 (F := F) main_arg0 main_arg1 main_arg2 main_v0 main_v34 main_v37 main_v38 main_v39 main_v40 main_v41 main_v2159 main_v2163 main_v2168 main_v2172 main_v2186 main_v2187

def fn_part102 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v2129 : FVec F S32x1024 .f32) (main_v2130 : IVec S32x1024 1) (main_v2134 : IVec S32x1024 1) (main_v2139 : IVec S32x1024 1) (main_v2140 : IVec S32x1024 32) (main_v2143 : IVec S32 1) (main_v2145 : FVec F S32x1024 .f32) : IVec S32x32x32 1 :=
  let main_cst_300 : FVec F S_ .f32 := constant S_ .f32 0x00000000#32
  let main_v2146 : FVec F S32 .f32 := (fun x v => Host.reduceAdd x v reducesTo_S32x1024_S32_d1 h_S_) main_v2145 main_cst_300
  let main_v2147 : FVec F S32x1024 .f32 := broadcastInDim S32x1024 ![0] bcast_S32_S32x1024_0 main_v2146
  let main_v2148 : IVec S32x32x32 32 := shapeCast S32x32x32 main_v2140 shapeCasts_S32x1024_S32x32x32
  let main_c_301 : IVec S_ 32 := constantI S_ 32 2147483648#32
  let main_v2149 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v2148 main_c_301
  let main_v2150 : IVec S32x1024 32 := shapeCast S32x1024 main_v2149 shapeCasts_S32x32x32_S32x1024
  let main_v2151 : IVec S32x1024 1 := cmpi .sgt main_v2150 main_v40
  let main_v2152 : IVec S32x1024 1 := ori main_v2134 main_v2130
  let main_v2153 : IVec S32x1024 1 := noti main_v2152
  let main_v2154 : IVec S32x1024 1 := cmpf .ogt main_v2129 main_v2147
  let main_v2155 : IVec S32x1024 1 := andi main_v2134 main_v2154
  let main_v2156 : IVec S32x1024 1 := ori main_v2153 main_v2155
  let main_v2157 : IVec S32x1024 1 := andi main_v2151 main_v2156
  let main_v2158 : FVec F S32x1024 .f32 := select main_v2157 main_v2147 main_v2129
  let main_v2159 : IVec S32x1024 1 := ori main_v2130 main_v2139
  let main_v2160 : IVec S32x1024 1 := andi main_v2139 main_v37
  let main_v2161 : IVec S32x1024 1 := noti main_v2160
  let main_v2162 : IVec S32x1024 1 := andi main_v2134 main_v2161
  let main_v2163 : IVec S32x1024 1 := ori main_v2162 main_v2157
  let main_v2164 : FVec F S32x1024 .f32 := addf main_v2158 main_v34
  let main_v2165 : FVec F S32x1024 .f32 := select main_v2163 main_v2164 main_v38
  let main_cst_302 : FVec F S_ .f32 := constant S_ .f32 0x7F800000#32
  let main_v2166 : FVec F S32 .f32 := (fun x v => Host.reduce FloatOps.minimumf x v reducesTo_S32x1024_S32_d1 h_S_) main_v2165 main_cst_302
  fn_part103 (F := F) main_arg0 main_arg1 main_arg2 main_v0 main_v34 main_v37 main_v38 main_v39 main_v40 main_v41 main_v2143 main_v2158 main_v2159 main_v2163 main_v2165 main_v2166

def fn_part101 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v2100 : FVec F S32x1024 .f32) (main_v2101 : IVec S32x1024 1) (main_v2105 : IVec S32x1024 1) (main_v2110 : IVec S32x1024 1) (main_v2114 : IVec S32 1) (main_v2118 : FVec F S32x1024 .f32) (main_v2122 : IVec S32x1024 1) (main_v2123 : IVec S32x1024 1) : IVec S32x32x32 1 :=
  let main_v2124 : IVec S32x1024 1 := noti main_v2123
  let main_v2125 : IVec S32x1024 1 := cmpf .ogt main_v2100 main_v2118
  let main_v2126 : IVec S32x1024 1 := andi main_v2105 main_v2125
  let main_v2127 : IVec S32x1024 1 := ori main_v2124 main_v2126
  let main_v2128 : IVec S32x1024 1 := andi main_v2122 main_v2127
  let main_v2129 : FVec F S32x1024 .f32 := select main_v2128 main_v2118 main_v2100
  let main_v2130 : IVec S32x1024 1 := ori main_v2101 main_v2110
  let main_v2131 : IVec S32x1024 1 := andi main_v2110 main_v37
  let main_v2132 : IVec S32x1024 1 := noti main_v2131
  let main_v2133 : IVec S32x1024 1 := andi main_v2105 main_v2132
  let main_v2134 : IVec S32x1024 1 := ori main_v2133 main_v2128
  let main_v2135 : FVec F S32x1024 .f32 := addf main_v2129 main_v34
  let main_v2136 : FVec F S32x1024 .f32 := select main_v2134 main_v2135 main_v38
  let main_cst_298 : FVec F S_ .f32 := constant S_ .f32 0x7F800000#32
  let main_v2137 : FVec F S32 .f32 := (fun x v => Host.reduce FloatOps.minimumf x v reducesTo_S32x1024_S32_d1 h_S_) main_v2136 main_cst_298
  let main_v2138 : FVec F S32x1024 .f32 := broadcastInDim S32x1024 ![0] bcast_S32_S32x1024_0 main_v2137
  let main_v2139 : IVec S32x1024 1 := cmpf .oeq main_v2136 main_v2138
  let main_v2140 : IVec S32x1024 32 := (extui 32 · natLt_1_32) main_v2139
  let main_c_299 : IVec S_ 32 := constantI S_ 32 0#32
  let main_v2141 : IVec S32 32 := (fun x v => Host.reduce IntOp.addi x v reducesTo_S32x1024_S32_d1 h_S_) main_v2140 main_c_299
  let main_v2142 : IVec S32 1 := cmpi .eq main_v2141 main_v41
  let main_v2143 : IVec S32 1 := andi main_v2114 main_v2142
  let main_v2144 : FVec F S32x1024 .f32 := addf main_v2129 main_v0
  let main_v2145 : FVec F S32x1024 .f32 := select main_v2139 main_v2144 main_v39
  fn_part102 (F := F) main_arg0 main_arg1 main_arg2 main_v0 main_v34 main_v37 main_v38 main_v39 main_v40 main_v41 main_v2129 main_v2130 main_v2134 main_v2139 main_v2140 main_v2143 main_v2145

def fn_part100 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v2076 : IVec S32x1024 1) (main_v2085 : IVec S32 1) (main_v2099 : IVec S32x1024 1) (main_v2100 : FVec F S32x1024 .f32) (main_v2101 : IVec S32x1024 1) (main_v2103 : IVec S32x1024 1) : IVec S32x32x32 1 :=
  let main_v2104 : IVec S32x1024 1 := andi main_v2076 main_v2103
  let main_v2105 : IVec S32x1024 1 := ori main_v2104 main_v2099
  let main_v2106 : FVec F S32x1024 .f32 := addf main_v2100 main_v34
  let main_v2107 : FVec F S32x1024 .f32 := select main_v2105 main_v2106 main_v38
  let main_cst_294 : FVec F S_ .f32 := constant S_ .f32 0x7F800000#32
  let main_v2108 : FVec F S32 .f32 := (fun x v => Host.reduce FloatOps.minimumf x v reducesTo_S32x1024_S32_d1 h_S_) main_v2107 main_cst_294
  let main_v2109 : FVec F S32x1024 .f32 := broadcastInDim S32x1024 ![0] bcast_S32_S32x1024_0 main_v2108
  let main_v2110 : IVec S32x1024 1 := cmpf .oeq main_v2107 main_v2109
  let main_v2111 : IVec S32x1024 32 := (extui 32 · natLt_1_32) main_v2110
  let main_c_295 : IVec S_ 32 := constantI S_ 32 0#32
  let main_v2112 : IVec S32 32 := (fun x v => Host.reduce IntOp.addi x v reducesTo_S32x1024_S32_d1 h_S_) main_v2111 main_c_295
  let main_v2113 : IVec S32 1 := cmpi .eq main_v2112 main_v41
  let main_v2114 : IVec S32 1 := andi main_v2085 main_v2113
  let main_v2115 : FVec F S32x1024 .f32 := addf main_v2100 main_v0
  let main_v2116 : FVec F S32x1024 .f32 := select main_v2110 main_v2115 main_v39
  let main_cst_296 : FVec F S_ .f32 := constant S_ .f32 0x00000000#32
  let main_v2117 : FVec F S32 .f32 := (fun x v => Host.reduceAdd x v reducesTo_S32x1024_S32_d1 h_S_) main_v2116 main_cst_296
  let main_v2118 : FVec F S32x1024 .f32 := broadcastInDim S32x1024 ![0] bcast_S32_S32x1024_0 main_v2117
  let main_v2119 : IVec S32x32x32 32 := shapeCast S32x32x32 main_v2111 shapeCasts_S32x1024_S32x32x32
  let main_c_297 : IVec S_ 32 := constantI S_ 32 2147483648#32
  let main_v2120 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v2119 main_c_297
  let main_v2121 : IVec S32x1024 32 := shapeCast S32x1024 main_v2120 shapeCasts_S32x32x32_S32x1024
  let main_v2122 : IVec S32x1024 1 := cmpi .sgt main_v2121 main_v40
  let main_v2123 : IVec S32x1024 1 := ori main_v2105 main_v2101
  fn_part101 (F := F) main_arg0 main_arg1 main_arg2 main_v0 main_v34 main_v37 main_v38 main_v39 main_v40 main_v41 main_v2100 main_v2101 main_v2105 main_v2110 main_v2114 main_v2118 main_v2122 main_v2123

def fn_part99 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v2056 : IVec S32 1) (main_v2071 : FVec F S32x1024 .f32) (main_v2072 : IVec S32x1024 1) (main_v2076 : IVec S32x1024 1) (main_v2081 : IVec S32x1024 1) (main_v2082 : IVec S32x1024 32) : IVec S32x32x32 1 :=
  let main_c_291 : IVec S_ 32 := constantI S_ 32 0#32
  let main_v2083 : IVec S32 32 := (fun x v => Host.reduce IntOp.addi x v reducesTo_S32x1024_S32_d1 h_S_) main_v2082 main_c_291
  let main_v2084 : IVec S32 1 := cmpi .eq main_v2083 main_v41
  let main_v2085 : IVec S32 1 := andi main_v2056 main_v2084
  let main_v2086 : FVec F S32x1024 .f32 := addf main_v2071 main_v0
  let main_v2087 : FVec F S32x1024 .f32 := select main_v2081 main_v2086 main_v39
  let main_cst_292 : FVec F S_ .f32 := constant S_ .f32 0x00000000#32
  let main_v2088 : FVec F S32 .f32 := (fun x v => Host.reduceAdd x v reducesTo_S32x1024_S32_d1 h_S_) main_v2087 main_cst_292
  let main_v2089 : FVec F S32x1024 .f32 := broadcastInDim S32x1024 ![0] bcast_S32_S32x1024_0 main_v2088
  let main_v2090 : IVec S32x32x32 32 := shapeCast S32x32x32 main_v2082 shapeCasts_S32x1024_S32x32x32
  let main_c_293 : IVec S_ 32 := constantI S_ 32 2147483648#32
  let main_v2091 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v2090 main_c_293
  let main_v2092 : IVec S32x1024 32 := shapeCast S32x1024 main_v2091 shapeCasts_S32x32x32_S32x1024
  let main_v2093 : IVec S32x1024 1 := cmpi .sgt main_v2092 main_v40
  let main_v2094 : IVec S32x1024 1 := ori main_v2076 main_v2072
  let main_v2095 : IVec S32x1024 1 := noti main_v2094
  let main_v2096 : IVec S32x1024 1 := cmpf .ogt main_v2071 main_v2089
  let main_v2097 : IVec S32x1024 1 := andi main_v2076 main_v2096
  let main_v2098 : IVec S32x1024 1 := ori main_v2095 main_v2097
  let main_v2099 : IVec S32x1024 1 := andi main_v2093 main_v2098
  let main_v2100 : FVec F S32x1024 .f32 := select main_v2099 main_v2089 main_v2071
  let main_v2101 : IVec S32x1024 1 := ori main_v2072 main_v2081
  let main_v2102 : IVec S32x1024 1 := andi main_v2081 main_v37
  let main_v2103 : IVec S32x1024 1 := noti main_v2102
  fn_part100 (F := F) main_arg0 main_arg1 main_arg2 main_v0 main_v34 main_v37 main_v38 main_v39 main_v40 main_v41 main_v2076 main_v2085 main_v2099 main_v2100 main_v2101 main_v2103

def fn_part98 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v2042 : FVec F S32x1024 .f32) (main_v2043 : IVec S32x1024 1) (main_v2047 : IVec S32x1024 1) (main_v2052 : IVec S32x1024 1) (main_v2053 : IVec S32x1024 32) (main_v2056 : IVec S32 1) (main_v2060 : FVec F S32x1024 .f32) : IVec S32x32x32 1 :=
  let main_v2061 : IVec S32x32x32 32 := shapeCast S32x32x32 main_v2053 shapeCasts_S32x1024_S32x32x32
  let main_c_289 : IVec S_ 32 := constantI S_ 32 2147483648#32
  let main_v2062 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v2061 main_c_289
  let main_v2063 : IVec S32x1024 32 := shapeCast S32x1024 main_v2062 shapeCasts_S32x32x32_S32x1024
  let main_v2064 : IVec S32x1024 1 := cmpi .sgt main_v2063 main_v40
  let main_v2065 : IVec S32x1024 1 := ori main_v2047 main_v2043
  let main_v2066 : IVec S32x1024 1 := noti main_v2065
  let main_v2067 : IVec S32x1024 1 := cmpf .ogt main_v2042 main_v2060
  let main_v2068 : IVec S32x1024 1 := andi main_v2047 main_v2067
  let main_v2069 : IVec S32x1024 1 := ori main_v2066 main_v2068
  let main_v2070 : IVec S32x1024 1 := andi main_v2064 main_v2069
  let main_v2071 : FVec F S32x1024 .f32 := select main_v2070 main_v2060 main_v2042
  let main_v2072 : IVec S32x1024 1 := ori main_v2043 main_v2052
  let main_v2073 : IVec S32x1024 1 := andi main_v2052 main_v37
  let main_v2074 : IVec S32x1024 1 := noti main_v2073
  let main_v2075 : IVec S32x1024 1 := andi main_v2047 main_v2074
  let main_v2076 : IVec S32x1024 1 := ori main_v2075 main_v2070
  let main_v2077 : FVec F S32x1024 .f32 := addf main_v2071 main_v34
  let main_v2078 : FVec F S32x1024 .f32 := select main_v2076 main_v2077 main_v38
  let main_cst_290 : FVec F S_ .f32 := constant S_ .f32 0x7F800000#32
  let main_v2079 : FVec F S32 .f32 := (fun x v => Host.reduce FloatOps.minimumf x v reducesTo_S32x1024_S32_d1 h_S_) main_v2078 main_cst_290
  let main_v2080 : FVec F S32x1024 .f32 := broadcastInDim S32x1024 ![0] bcast_S32_S32x1024_0 main_v2079
  let main_v2081 : IVec S32x1024 1 := cmpf .oeq main_v2078 main_v2080
  let main_v2082 : IVec S32x1024 32 := (extui 32 · natLt_1_32) main_v2081
  fn_part99 (F := F) main_arg0 main_arg1 main_arg2 main_v0 main_v34 main_v37 main_v38 main_v39 main_v40 main_v41 main_v2056 main_v2071 main_v2072 main_v2076 main_v2081 main_v2082

def fn_part97 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v2013 : FVec F S32x1024 .f32) (main_v2014 : IVec S32x1024 1) (main_v2018 : IVec S32x1024 1) (main_v2023 : IVec S32x1024 1) (main_v2027 : IVec S32 1) (main_v2031 : FVec F S32x1024 .f32) (main_v2035 : IVec S32x1024 1) (main_v2037 : IVec S32x1024 1) (main_v2039 : IVec S32x1024 1) : IVec S32x32x32 1 :=
  let main_v2040 : IVec S32x1024 1 := ori main_v2037 main_v2039
  let main_v2041 : IVec S32x1024 1 := andi main_v2035 main_v2040
  let main_v2042 : FVec F S32x1024 .f32 := select main_v2041 main_v2031 main_v2013
  let main_v2043 : IVec S32x1024 1 := ori main_v2014 main_v2023
  let main_v2044 : IVec S32x1024 1 := andi main_v2023 main_v37
  let main_v2045 : IVec S32x1024 1 := noti main_v2044
  let main_v2046 : IVec S32x1024 1 := andi main_v2018 main_v2045
  let main_v2047 : IVec S32x1024 1 := ori main_v2046 main_v2041
  let main_v2048 : FVec F S32x1024 .f32 := addf main_v2042 main_v34
  let main_v2049 : FVec F S32x1024 .f32 := select main_v2047 main_v2048 main_v38
  let main_cst_286 : FVec F S_ .f32 := constant S_ .f32 0x7F800000#32
  let main_v2050 : FVec F S32 .f32 := (fun x v => Host.reduce FloatOps.minimumf x v reducesTo_S32x1024_S32_d1 h_S_) main_v2049 main_cst_286
  let main_v2051 : FVec F S32x1024 .f32 := broadcastInDim S32x1024 ![0] bcast_S32_S32x1024_0 main_v2050
  let main_v2052 : IVec S32x1024 1 := cmpf .oeq main_v2049 main_v2051
  let main_v2053 : IVec S32x1024 32 := (extui 32 · natLt_1_32) main_v2052
  let main_c_287 : IVec S_ 32 := constantI S_ 32 0#32
  let main_v2054 : IVec S32 32 := (fun x v => Host.reduce IntOp.addi x v reducesTo_S32x1024_S32_d1 h_S_) main_v2053 main_c_287
  let main_v2055 : IVec S32 1 := cmpi .eq main_v2054 main_v41
  let main_v2056 : IVec S32 1 := andi main_v2027 main_v2055
  let main_v2057 : FVec F S32x1024 .f32 := addf main_v2042 main_v0
  let main_v2058 : FVec F S32x1024 .f32 := select main_v2052 main_v2057 main_v39
  let main_cst_288 : FVec F S_ .f32 := constant S_ .f32 0x00000000#32
  let main_v2059 : FVec F S32 .f32 := (fun x v => Host.reduceAdd x v reducesTo_S32x1024_S32_d1 h_S_) main_v2058 main_cst_288
  let main_v2060 : FVec F S32x1024 .f32 := broadcastInDim S32x1024 ![0] bcast_S32_S32x1024_0 main_v2059
  fn_part98 (F := F) main_arg0 main_arg1 main_arg2 main_v0 main_v34 main_v37 main_v38 main_v39 main_v40 main_v41 main_v2042 main_v2043 main_v2047 main_v2052 main_v2053 main_v2056 main_v2060

def fn_part96 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v1998 : IVec S32 1) (main_v2013 : FVec F S32x1024 .f32) (main_v2014 : IVec S32x1024 1) (main_v2018 : IVec S32x1024 1) (main_v2019 : FVec F S32x1024 .f32) : IVec S32x32x32 1 :=
  let main_v2020 : FVec F S32x1024 .f32 := select main_v2018 main_v2019 main_v38
  let main_cst_282 : FVec F S_ .f32 := constant S_ .f32 0x7F800000#32
  let main_v2021 : FVec F S32 .f32 := (fun x v => Host.reduce FloatOps.minimumf x v reducesTo_S32x1024_S32_d1 h_S_) main_v2020 main_cst_282
  let main_v2022 : FVec F S32x1024 .f32 := broadcastInDim S32x1024 ![0] bcast_S32_S32x1024_0 main_v2021
  let main_v2023 : IVec S32x1024 1 := cmpf .oeq main_v2020 main_v2022
  let main_v2024 : IVec S32x1024 32 := (extui 32 · natLt_1_32) main_v2023
  let main_c_283 : IVec S_ 32 := constantI S_ 32 0#32
  let main_v2025 : IVec S32 32 := (fun x v => Host.reduce IntOp.addi x v reducesTo_S32x1024_S32_d1 h_S_) main_v2024 main_c_283
  let main_v2026 : IVec S32 1 := cmpi .eq main_v2025 main_v41
  let main_v2027 : IVec S32 1 := andi main_v1998 main_v2026
  let main_v2028 : FVec F S32x1024 .f32 := addf main_v2013 main_v0
  let main_v2029 : FVec F S32x1024 .f32 := select main_v2023 main_v2028 main_v39
  let main_cst_284 : FVec F S_ .f32 := constant S_ .f32 0x00000000#32
  let main_v2030 : FVec F S32 .f32 := (fun x v => Host.reduceAdd x v reducesTo_S32x1024_S32_d1 h_S_) main_v2029 main_cst_284
  let main_v2031 : FVec F S32x1024 .f32 := broadcastInDim S32x1024 ![0] bcast_S32_S32x1024_0 main_v2030
  let main_v2032 : IVec S32x32x32 32 := shapeCast S32x32x32 main_v2024 shapeCasts_S32x1024_S32x32x32
  let main_c_285 : IVec S_ 32 := constantI S_ 32 2147483648#32
  let main_v2033 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v2032 main_c_285
  let main_v2034 : IVec S32x1024 32 := shapeCast S32x1024 main_v2033 shapeCasts_S32x32x32_S32x1024
  let main_v2035 : IVec S32x1024 1 := cmpi .sgt main_v2034 main_v40
  let main_v2036 : IVec S32x1024 1 := ori main_v2018 main_v2014
  let main_v2037 : IVec S32x1024 1 := noti main_v2036
  let main_v2038 : IVec S32x1024 1 := cmpf .ogt main_v2013 main_v2031
  let main_v2039 : IVec S32x1024 1 := andi main_v2018 main_v2038
  fn_part97 (F := F) main_arg0 main_arg1 main_arg2 main_v0 main_v34 main_v37 main_v38 main_v39 main_v40 main_v41 main_v2013 main_v2014 main_v2018 main_v2023 main_v2027 main_v2031 main_v2035 main_v2037 main_v2039

def fn_part95 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v1969 : IVec S32 1) (main_v1984 : FVec F S32x1024 .f32) (main_v1985 : IVec S32x1024 1) (main_v1989 : IVec S32x1024 1) (main_v1994 : IVec S32x1024 1) (main_v1995 : IVec S32x1024 32) (main_v1997 : IVec S32 1) : IVec S32x32x32 1 :=
  let main_v1998 : IVec S32 1 := andi main_v1969 main_v1997
  let main_v1999 : FVec F S32x1024 .f32 := addf main_v1984 main_v0
  let main_v2000 : FVec F S32x1024 .f32 := select main_v1994 main_v1999 main_v39
  let main_cst_280 : FVec F S_ .f32 := constant S_ .f32 0x00000000#32
  let main_v2001 : FVec F S32 .f32 := (fun x v => Host.reduceAdd x v reducesTo_S32x1024_S32_d1 h_S_) main_v2000 main_cst_280
  let main_v2002 : FVec F S32x1024 .f32 := broadcastInDim S32x1024 ![0] bcast_S32_S32x1024_0 main_v2001
  let main_v2003 : IVec S32x32x32 32 := shapeCast S32x32x32 main_v1995 shapeCasts_S32x1024_S32x32x32
  let main_c_281 : IVec S_ 32 := constantI S_ 32 2147483648#32
  let main_v2004 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v2003 main_c_281
  let main_v2005 : IVec S32x1024 32 := shapeCast S32x1024 main_v2004 shapeCasts_S32x32x32_S32x1024
  let main_v2006 : IVec S32x1024 1 := cmpi .sgt main_v2005 main_v40
  let main_v2007 : IVec S32x1024 1 := ori main_v1989 main_v1985
  let main_v2008 : IVec S32x1024 1 := noti main_v2007
  let main_v2009 : IVec S32x1024 1 := cmpf .ogt main_v1984 main_v2002
  let main_v2010 : IVec S32x1024 1 := andi main_v1989 main_v2009
  let main_v2011 : IVec S32x1024 1 := ori main_v2008 main_v2010
  let main_v2012 : IVec S32x1024 1 := andi main_v2006 main_v2011
  let main_v2013 : FVec F S32x1024 .f32 := select main_v2012 main_v2002 main_v1984
  let main_v2014 : IVec S32x1024 1 := ori main_v1985 main_v1994
  let main_v2015 : IVec S32x1024 1 := andi main_v1994 main_v37
  let main_v2016 : IVec S32x1024 1 := noti main_v2015
  let main_v2017 : IVec S32x1024 1 := andi main_v1989 main_v2016
  let main_v2018 : IVec S32x1024 1 := ori main_v2017 main_v2012
  let main_v2019 : FVec F S32x1024 .f32 := addf main_v2013 main_v34
  fn_part96 (F := F) main_arg0 main_arg1 main_arg2 main_v0 main_v34 main_v37 main_v38 main_v39 main_v40 main_v41 main_v1998 main_v2013 main_v2014 main_v2018 main_v2019

def fn_part94 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v1955 : FVec F S32x1024 .f32) (main_v1956 : IVec S32x1024 1) (main_v1960 : IVec S32x1024 1) (main_v1965 : IVec S32x1024 1) (main_v1969 : IVec S32 1) (main_v1973 : FVec F S32x1024 .f32) (main_v1975 : IVec S32x32x32 32) : IVec S32x32x32 1 :=
  let main_v1976 : IVec S32x1024 32 := shapeCast S32x1024 main_v1975 shapeCasts_S32x32x32_S32x1024
  let main_v1977 : IVec S32x1024 1 := cmpi .sgt main_v1976 main_v40
  let main_v1978 : IVec S32x1024 1 := ori main_v1960 main_v1956
  let main_v1979 : IVec S32x1024 1 := noti main_v1978
  let main_v1980 : IVec S32x1024 1 := cmpf .ogt main_v1955 main_v1973
  let main_v1981 : IVec S32x1024 1 := andi main_v1960 main_v1980
  let main_v1982 : IVec S32x1024 1 := ori main_v1979 main_v1981
  let main_v1983 : IVec S32x1024 1 := andi main_v1977 main_v1982
  let main_v1984 : FVec F S32x1024 .f32 := select main_v1983 main_v1973 main_v1955
  let main_v1985 : IVec S32x1024 1 := ori main_v1956 main_v1965
  let main_v1986 : IVec S32x1024 1 := andi main_v1965 main_v37
  let main_v1987 : IVec S32x1024 1 := noti main_v1986
  let main_v1988 : IVec S32x1024 1 := andi main_v1960 main_v1987
  let main_v1989 : IVec S32x1024 1 := ori main_v1988 main_v1983
  let main_v1990 : FVec F S32x1024 .f32 := addf main_v1984 main_v34
  let main_v1991 : FVec F S32x1024 .f32 := select main_v1989 main_v1990 main_v38
  let main_cst_278 : FVec F S_ .f32 := constant S_ .f32 0x7F800000#32
  let main_v1992 : FVec F S32 .f32 := (fun x v => Host.reduce FloatOps.minimumf x v reducesTo_S32x1024_S32_d1 h_S_) main_v1991 main_cst_278
  let main_v1993 : FVec F S32x1024 .f32 := broadcastInDim S32x1024 ![0] bcast_S32_S32x1024_0 main_v1992
  let main_v1994 : IVec S32x1024 1 := cmpf .oeq main_v1991 main_v1993
  let main_v1995 : IVec S32x1024 32 := (extui 32 · natLt_1_32) main_v1994
  let main_c_279 : IVec S_ 32 := constantI S_ 32 0#32
  let main_v1996 : IVec S32 32 := (fun x v => Host.reduce IntOp.addi x v reducesTo_S32x1024_S32_d1 h_S_) main_v1995 main_c_279
  let main_v1997 : IVec S32 1 := cmpi .eq main_v1996 main_v41
  fn_part95 (F := F) main_arg0 main_arg1 main_arg2 main_v0 main_v34 main_v37 main_v38 main_v39 main_v40 main_v41 main_v1969 main_v1984 main_v1985 main_v1989 main_v1994 main_v1995 main_v1997

def fn_part93 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v1927 : IVec S32x1024 1) (main_v1931 : IVec S32x1024 1) (main_v1936 : IVec S32x1024 1) (main_v1940 : IVec S32 1) (main_v1954 : IVec S32x1024 1) (main_v1955 : FVec F S32x1024 .f32) : IVec S32x32x32 1 :=
  let main_v1956 : IVec S32x1024 1 := ori main_v1927 main_v1936
  let main_v1957 : IVec S32x1024 1 := andi main_v1936 main_v37
  let main_v1958 : IVec S32x1024 1 := noti main_v1957
  let main_v1959 : IVec S32x1024 1 := andi main_v1931 main_v1958
  let main_v1960 : IVec S32x1024 1 := ori main_v1959 main_v1954
  let main_v1961 : FVec F S32x1024 .f32 := addf main_v1955 main_v34
  let main_v1962 : FVec F S32x1024 .f32 := select main_v1960 main_v1961 main_v38
  let main_cst_274 : FVec F S_ .f32 := constant S_ .f32 0x7F800000#32
  let main_v1963 : FVec F S32 .f32 := (fun x v => Host.reduce FloatOps.minimumf x v reducesTo_S32x1024_S32_d1 h_S_) main_v1962 main_cst_274
  let main_v1964 : FVec F S32x1024 .f32 := broadcastInDim S32x1024 ![0] bcast_S32_S32x1024_0 main_v1963
  let main_v1965 : IVec S32x1024 1 := cmpf .oeq main_v1962 main_v1964
  let main_v1966 : IVec S32x1024 32 := (extui 32 · natLt_1_32) main_v1965
  let main_c_275 : IVec S_ 32 := constantI S_ 32 0#32
  let main_v1967 : IVec S32 32 := (fun x v => Host.reduce IntOp.addi x v reducesTo_S32x1024_S32_d1 h_S_) main_v1966 main_c_275
  let main_v1968 : IVec S32 1 := cmpi .eq main_v1967 main_v41
  let main_v1969 : IVec S32 1 := andi main_v1940 main_v1968
  let main_v1970 : FVec F S32x1024 .f32 := addf main_v1955 main_v0
  let main_v1971 : FVec F S32x1024 .f32 := select main_v1965 main_v1970 main_v39
  let main_cst_276 : FVec F S_ .f32 := constant S_ .f32 0x00000000#32
  let main_v1972 : FVec F S32 .f32 := (fun x v => Host.reduceAdd x v reducesTo_S32x1024_S32_d1 h_S_) main_v1971 main_cst_276
  let main_v1973 : FVec F S32x1024 .f32 := broadcastInDim S32x1024 ![0] bcast_S32_S32x1024_0 main_v1972
  let main_v1974 : IVec S32x32x32 32 := shapeCast S32x32x32 main_v1966 shapeCasts_S32x1024_S32x32x32
  let main_c_277 : IVec S_ 32 := constantI S_ 32 2147483648#32
  let main_v1975 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v1974 main_c_277
  fn_part94 (F := F) main_arg0 main_arg1 main_arg2 main_v0 main_v34 main_v37 main_v38 main_v39 main_v40 main_v41 main_v1955 main_v1956 main_v1960 main_v1965 main_v1969 main_v1973 main_v1975

def fn_part92 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v1911 : IVec S32 1) (main_v1926 : FVec F S32x1024 .f32) (main_v1927 : IVec S32x1024 1) (main_v1931 : IVec S32x1024 1) (main_v1933 : FVec F S32x1024 .f32) (main_v1934 : FVec F S32 .f32) : IVec S32x32x32 1 :=
  let main_v1935 : FVec F S32x1024 .f32 := broadcastInDim S32x1024 ![0] bcast_S32_S32x1024_0 main_v1934
  let main_v1936 : IVec S32x1024 1 := cmpf .oeq main_v1933 main_v1935
  let main_v1937 : IVec S32x1024 32 := (extui 32 · natLt_1_32) main_v1936
  let main_c_271 : IVec S_ 32 := constantI S_ 32 0#32
  let main_v1938 : IVec S32 32 := (fun x v => Host.reduce IntOp.addi x v reducesTo_S32x1024_S32_d1 h_S_) main_v1937 main_c_271
  let main_v1939 : IVec S32 1 := cmpi .eq main_v1938 main_v41
  let main_v1940 : IVec S32 1 := andi main_v1911 main_v1939
  let main_v1941 : FVec F S32x1024 .f32 := addf main_v1926 main_v0
  let main_v1942 : FVec F S32x1024 .f32 := select main_v1936 main_v1941 main_v39
  let main_cst_272 : FVec F S_ .f32 := constant S_ .f32 0x00000000#32
  let main_v1943 : FVec F S32 .f32 := (fun x v => Host.reduceAdd x v reducesTo_S32x1024_S32_d1 h_S_) main_v1942 main_cst_272
  let main_v1944 : FVec F S32x1024 .f32 := broadcastInDim S32x1024 ![0] bcast_S32_S32x1024_0 main_v1943
  let main_v1945 : IVec S32x32x32 32 := shapeCast S32x32x32 main_v1937 shapeCasts_S32x1024_S32x32x32
  let main_c_273 : IVec S_ 32 := constantI S_ 32 2147483648#32
  let main_v1946 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v1945 main_c_273
  let main_v1947 : IVec S32x1024 32 := shapeCast S32x1024 main_v1946 shapeCasts_S32x32x32_S32x1024
  let main_v1948 : IVec S32x1024 1 := cmpi .sgt main_v1947 main_v40
  let main_v1949 : IVec S32x1024 1 := ori main_v1931 main_v1927
  let main_v1950 : IVec S32x1024 1 := noti main_v1949
  let main_v1951 : IVec S32x1024 1 := cmpf .ogt main_v1926 main_v1944
  let main_v1952 : IVec S32x1024 1 := andi main_v1931 main_v1951
  let main_v1953 : IVec S32x1024 1 := ori main_v1950 main_v1952
  let main_v1954 : IVec S32x1024 1 := andi main_v1948 main_v1953
  let main_v1955 : FVec F S32x1024 .f32 := select main_v1954 main_v1944 main_v1926
  fn_part93 (F := F) main_arg0 main_arg1 main_arg2 main_v0 main_v34 main_v37 main_v38 main_v39 main_v40 main_v41 main_v1927 main_v1931 main_v1936 main_v1940 main_v1954 main_v1955

def fn_part91 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v1897 : FVec F S32x1024 .f32) (main_v1898 : IVec S32x1024 1) (main_v1902 : IVec S32x1024 1) (main_v1907 : IVec S32x1024 1) (main_v1908 : IVec S32x1024 32) (main_v1911 : IVec S32 1) (main_v1913 : FVec F S32x1024 .f32) : IVec S32x32x32 1 :=
  let main_cst_268 : FVec F S_ .f32 := constant S_ .f32 0x00000000#32
  let main_v1914 : FVec F S32 .f32 := (fun x v => Host.reduceAdd x v reducesTo_S32x1024_S32_d1 h_S_) main_v1913 main_cst_268
  let main_v1915 : FVec F S32x1024 .f32 := broadcastInDim S32x1024 ![0] bcast_S32_S32x1024_0 main_v1914
  let main_v1916 : IVec S32x32x32 32 := shapeCast S32x32x32 main_v1908 shapeCasts_S32x1024_S32x32x32
  let main_c_269 : IVec S_ 32 := constantI S_ 32 2147483648#32
  let main_v1917 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v1916 main_c_269
  let main_v1918 : IVec S32x1024 32 := shapeCast S32x1024 main_v1917 shapeCasts_S32x32x32_S32x1024
  let main_v1919 : IVec S32x1024 1 := cmpi .sgt main_v1918 main_v40
  let main_v1920 : IVec S32x1024 1 := ori main_v1902 main_v1898
  let main_v1921 : IVec S32x1024 1 := noti main_v1920
  let main_v1922 : IVec S32x1024 1 := cmpf .ogt main_v1897 main_v1915
  let main_v1923 : IVec S32x1024 1 := andi main_v1902 main_v1922
  let main_v1924 : IVec S32x1024 1 := ori main_v1921 main_v1923
  let main_v1925 : IVec S32x1024 1 := andi main_v1919 main_v1924
  let main_v1926 : FVec F S32x1024 .f32 := select main_v1925 main_v1915 main_v1897
  let main_v1927 : IVec S32x1024 1 := ori main_v1898 main_v1907
  let main_v1928 : IVec S32x1024 1 := andi main_v1907 main_v37
  let main_v1929 : IVec S32x1024 1 := noti main_v1928
  let main_v1930 : IVec S32x1024 1 := andi main_v1902 main_v1929
  let main_v1931 : IVec S32x1024 1 := ori main_v1930 main_v1925
  let main_v1932 : FVec F S32x1024 .f32 := addf main_v1926 main_v34
  let main_v1933 : FVec F S32x1024 .f32 := select main_v1931 main_v1932 main_v38
  let main_cst_270 : FVec F S_ .f32 := constant S_ .f32 0x7F800000#32
  let main_v1934 : FVec F S32 .f32 := (fun x v => Host.reduce FloatOps.minimumf x v reducesTo_S32x1024_S32_d1 h_S_) main_v1933 main_cst_270
  fn_part92 (F := F) main_arg0 main_arg1 main_arg2 main_v0 main_v34 main_v37 main_v38 main_v39 main_v40 main_v41 main_v1911 main_v1926 main_v1927 main_v1931 main_v1933 main_v1934

def fn_part90 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v1868 : FVec F S32x1024 .f32) (main_v1869 : IVec S32x1024 1) (main_v1873 : IVec S32x1024 1) (main_v1878 : IVec S32x1024 1) (main_v1882 : IVec S32 1) (main_v1886 : FVec F S32x1024 .f32) (main_v1890 : IVec S32x1024 1) (main_v1891 : IVec S32x1024 1) : IVec S32x32x32 1 :=
  let main_v1892 : IVec S32x1024 1 := noti main_v1891
  let main_v1893 : IVec S32x1024 1 := cmpf .ogt main_v1868 main_v1886
  let main_v1894 : IVec S32x1024 1 := andi main_v1873 main_v1893
  let main_v1895 : IVec S32x1024 1 := ori main_v1892 main_v1894
  let main_v1896 : IVec S32x1024 1 := andi main_v1890 main_v1895
  let main_v1897 : FVec F S32x1024 .f32 := select main_v1896 main_v1886 main_v1868
  let main_v1898 : IVec S32x1024 1 := ori main_v1869 main_v1878
  let main_v1899 : IVec S32x1024 1 := andi main_v1878 main_v37
  let main_v1900 : IVec S32x1024 1 := noti main_v1899
  let main_v1901 : IVec S32x1024 1 := andi main_v1873 main_v1900
  let main_v1902 : IVec S32x1024 1 := ori main_v1901 main_v1896
  let main_v1903 : FVec F S32x1024 .f32 := addf main_v1897 main_v34
  let main_v1904 : FVec F S32x1024 .f32 := select main_v1902 main_v1903 main_v38
  let main_cst_266 : FVec F S_ .f32 := constant S_ .f32 0x7F800000#32
  let main_v1905 : FVec F S32 .f32 := (fun x v => Host.reduce FloatOps.minimumf x v reducesTo_S32x1024_S32_d1 h_S_) main_v1904 main_cst_266
  let main_v1906 : FVec F S32x1024 .f32 := broadcastInDim S32x1024 ![0] bcast_S32_S32x1024_0 main_v1905
  let main_v1907 : IVec S32x1024 1 := cmpf .oeq main_v1904 main_v1906
  let main_v1908 : IVec S32x1024 32 := (extui 32 · natLt_1_32) main_v1907
  let main_c_267 : IVec S_ 32 := constantI S_ 32 0#32
  let main_v1909 : IVec S32 32 := (fun x v => Host.reduce IntOp.addi x v reducesTo_S32x1024_S32_d1 h_S_) main_v1908 main_c_267
  let main_v1910 : IVec S32 1 := cmpi .eq main_v1909 main_v41
  let main_v1911 : IVec S32 1 := andi main_v1882 main_v1910
  let main_v1912 : FVec F S32x1024 .f32 := addf main_v1897 main_v0
  let main_v1913 : FVec F S32x1024 .f32 := select main_v1907 main_v1912 main_v39
  fn_part91 (F := F) main_arg0 main_arg1 main_arg2 main_v0 main_v34 main_v37 main_v38 main_v39 main_v40 main_v41 main_v1897 main_v1898 main_v1902 main_v1907 main_v1908 main_v1911 main_v1913

def fn_part89 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v1844 : IVec S32x1024 1) (main_v1853 : IVec S32 1) (main_v1867 : IVec S32x1024 1) (main_v1868 : FVec F S32x1024 .f32) (main_v1869 : IVec S32x1024 1) (main_v1871 : IVec S32x1024 1) : IVec S32x32x32 1 :=
  let main_v1872 : IVec S32x1024 1 := andi main_v1844 main_v1871
  let main_v1873 : IVec S32x1024 1 := ori main_v1872 main_v1867
  let main_v1874 : FVec F S32x1024 .f32 := addf main_v1868 main_v34
  let main_v1875 : FVec F S32x1024 .f32 := select main_v1873 main_v1874 main_v38
  let main_cst_262 : FVec F S_ .f32 := constant S_ .f32 0x7F800000#32
  let main_v1876 : FVec F S32 .f32 := (fun x v => Host.reduce FloatOps.minimumf x v reducesTo_S32x1024_S32_d1 h_S_) main_v1875 main_cst_262
  let main_v1877 : FVec F S32x1024 .f32 := broadcastInDim S32x1024 ![0] bcast_S32_S32x1024_0 main_v1876
  let main_v1878 : IVec S32x1024 1 := cmpf .oeq main_v1875 main_v1877
  let main_v1879 : IVec S32x1024 32 := (extui 32 · natLt_1_32) main_v1878
  let main_c_263 : IVec S_ 32 := constantI S_ 32 0#32
  let main_v1880 : IVec S32 32 := (fun x v => Host.reduce IntOp.addi x v reducesTo_S32x1024_S32_d1 h_S_) main_v1879 main_c_263
  let main_v1881 : IVec S32 1 := cmpi .eq main_v1880 main_v41
  let main_v1882 : IVec S32 1 := andi main_v1853 main_v1881
  let main_v1883 : FVec F S32x1024 .f32 := addf main_v1868 main_v0
  let main_v1884 : FVec F S32x1024 .f32 := select main_v1878 main_v1883 main_v39
  let main_cst_264 : FVec F S_ .f32 := constant S_ .f32 0x00000000#32
  let main_v1885 : FVec F S32 .f32 := (fun x v => Host.reduceAdd x v reducesTo_S32x1024_S32_d1 h_S_) main_v1884 main_cst_264
  let main_v1886 : FVec F S32x1024 .f32 := broadcastInDim S32x1024 ![0] bcast_S32_S32x1024_0 main_v1885
  let main_v1887 : IVec S32x32x32 32 := shapeCast S32x32x32 main_v1879 shapeCasts_S32x1024_S32x32x32
  let main_c_265 : IVec S_ 32 := constantI S_ 32 2147483648#32
  let main_v1888 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v1887 main_c_265
  let main_v1889 : IVec S32x1024 32 := shapeCast S32x1024 main_v1888 shapeCasts_S32x32x32_S32x1024
  let main_v1890 : IVec S32x1024 1 := cmpi .sgt main_v1889 main_v40
  let main_v1891 : IVec S32x1024 1 := ori main_v1873 main_v1869
  fn_part90 (F := F) main_arg0 main_arg1 main_arg2 main_v0 main_v34 main_v37 main_v38 main_v39 main_v40 main_v41 main_v1868 main_v1869 main_v1873 main_v1878 main_v1882 main_v1886 main_v1890 main_v1891

def fn_part88 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v1824 : IVec S32 1) (main_v1839 : FVec F S32x1024 .f32) (main_v1840 : IVec S32x1024 1) (main_v1844 : IVec S32x1024 1) (main_v1849 : IVec S32x1024 1) (main_v1850 : IVec S32x1024 32) : IVec S32x32x32 1 :=
  let main_c_259 : IVec S_ 32 := constantI S_ 32 0#32
  let main_v1851 : IVec S32 32 := (fun x v => Host.reduce IntOp.addi x v reducesTo_S32x1024_S32_d1 h_S_) main_v1850 main_c_259
  let main_v1852 : IVec S32 1 := cmpi .eq main_v1851 main_v41
  let main_v1853 : IVec S32 1 := andi main_v1824 main_v1852
  let main_v1854 : FVec F S32x1024 .f32 := addf main_v1839 main_v0
  let main_v1855 : FVec F S32x1024 .f32 := select main_v1849 main_v1854 main_v39
  let main_cst_260 : FVec F S_ .f32 := constant S_ .f32 0x00000000#32
  let main_v1856 : FVec F S32 .f32 := (fun x v => Host.reduceAdd x v reducesTo_S32x1024_S32_d1 h_S_) main_v1855 main_cst_260
  let main_v1857 : FVec F S32x1024 .f32 := broadcastInDim S32x1024 ![0] bcast_S32_S32x1024_0 main_v1856
  let main_v1858 : IVec S32x32x32 32 := shapeCast S32x32x32 main_v1850 shapeCasts_S32x1024_S32x32x32
  let main_c_261 : IVec S_ 32 := constantI S_ 32 2147483648#32
  let main_v1859 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v1858 main_c_261
  let main_v1860 : IVec S32x1024 32 := shapeCast S32x1024 main_v1859 shapeCasts_S32x32x32_S32x1024
  let main_v1861 : IVec S32x1024 1 := cmpi .sgt main_v1860 main_v40
  let main_v1862 : IVec S32x1024 1 := ori main_v1844 main_v1840
  let main_v1863 : IVec S32x1024 1 := noti main_v1862
  let main_v1864 : IVec S32x1024 1 := cmpf .ogt main_v1839 main_v1857
  let main_v1865 : IVec S32x1024 1 := andi main_v1844 main_v1864
  let main_v1866 : IVec S32x1024 1 := ori main_v1863 main_v1865
  let main_v1867 : IVec S32x1024 1 := andi main_v1861 main_v1866
  let main_v1868 : FVec F S32x1024 .f32 := select main_v1867 main_v1857 main_v1839
  let main_v1869 : IVec S32x1024 1 := ori main_v1840 main_v1849
  let main_v1870 : IVec S32x1024 1 := andi main_v1849 main_v37
  let main_v1871 : IVec S32x1024 1 := noti main_v1870
  fn_part89 (F := F) main_arg0 main_arg1 main_arg2 main_v0 main_v34 main_v37 main_v38 main_v39 main_v40 main_v41 main_v1844 main_v1853 main_v1867 main_v1868 main_v1869 main_v1871

def fn_part87 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v1810 : FVec F S32x1024 .f32) (main_v1811 : IVec S32x1024 1) (main_v1815 : IVec S32x1024 1) (main_v1820 : IVec S32x1024 1) (main_v1821 : IVec S32x1024 32) (main_v1824 : IVec S32 1) (main_v1828 : FVec F S32x1024 .f32) : IVec S32x32x32 1 :=
  let main_v1829 : IVec S32x32x32 32 := shapeCast S32x32x32 main_v1821 shapeCasts_S32x1024_S32x32x32
  let main_c_257 : IVec S_ 32 := constantI S_ 32 2147483648#32
  let main_v1830 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v1829 main_c_257
  let main_v1831 : IVec S32x1024 32 := shapeCast S32x1024 main_v1830 shapeCasts_S32x32x32_S32x1024
  let main_v1832 : IVec S32x1024 1 := cmpi .sgt main_v1831 main_v40
  let main_v1833 : IVec S32x1024 1 := ori main_v1815 main_v1811
  let main_v1834 : IVec S32x1024 1 := noti main_v1833
  let main_v1835 : IVec S32x1024 1 := cmpf .ogt main_v1810 main_v1828
  let main_v1836 : IVec S32x1024 1 := andi main_v1815 main_v1835
  let main_v1837 : IVec S32x1024 1 := ori main_v1834 main_v1836
  let main_v1838 : IVec S32x1024 1 := andi main_v1832 main_v1837
  let main_v1839 : FVec F S32x1024 .f32 := select main_v1838 main_v1828 main_v1810
  let main_v1840 : IVec S32x1024 1 := ori main_v1811 main_v1820
  let main_v1841 : IVec S32x1024 1 := andi main_v1820 main_v37
  let main_v1842 : IVec S32x1024 1 := noti main_v1841
  let main_v1843 : IVec S32x1024 1 := andi main_v1815 main_v1842
  let main_v1844 : IVec S32x1024 1 := ori main_v1843 main_v1838
  let main_v1845 : FVec F S32x1024 .f32 := addf main_v1839 main_v34
  let main_v1846 : FVec F S32x1024 .f32 := select main_v1844 main_v1845 main_v38
  let main_cst_258 : FVec F S_ .f32 := constant S_ .f32 0x7F800000#32
  let main_v1847 : FVec F S32 .f32 := (fun x v => Host.reduce FloatOps.minimumf x v reducesTo_S32x1024_S32_d1 h_S_) main_v1846 main_cst_258
  let main_v1848 : FVec F S32x1024 .f32 := broadcastInDim S32x1024 ![0] bcast_S32_S32x1024_0 main_v1847
  let main_v1849 : IVec S32x1024 1 := cmpf .oeq main_v1846 main_v1848
  let main_v1850 : IVec S32x1024 32 := (extui 32 · natLt_1_32) main_v1849
  fn_part88 (F := F) main_arg0 main_arg1 main_arg2 main_v0 main_v34 main_v37 main_v38 main_v39 main_v40 main_v41 main_v1824 main_v1839 main_v1840 main_v1844 main_v1849 main_v1850

def fn_part86 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v1781 : FVec F S32x1024 .f32) (main_v1782 : IVec S32x1024 1) (main_v1786 : IVec S32x1024 1) (main_v1791 : IVec S32x1024 1) (main_v1795 : IVec S32 1) (main_v1799 : FVec F S32x1024 .f32) (main_v1803 : IVec S32x1024 1) (main_v1805 : IVec S32x1024 1) (main_v1807 : IVec S32x1024 1) : IVec S32x32x32 1 :=
  let main_v1808 : IVec S32x1024 1 := ori main_v1805 main_v1807
  let main_v1809 : IVec S32x1024 1 := andi main_v1803 main_v1808
  let main_v1810 : FVec F S32x1024 .f32 := select main_v1809 main_v1799 main_v1781
  let main_v1811 : IVec S32x1024 1 := ori main_v1782 main_v1791
  let main_v1812 : IVec S32x1024 1 := andi main_v1791 main_v37
  let main_v1813 : IVec S32x1024 1 := noti main_v1812
  let main_v1814 : IVec S32x1024 1 := andi main_v1786 main_v1813
  let main_v1815 : IVec S32x1024 1 := ori main_v1814 main_v1809
  let main_v1816 : FVec F S32x1024 .f32 := addf main_v1810 main_v34
  let main_v1817 : FVec F S32x1024 .f32 := select main_v1815 main_v1816 main_v38
  let main_cst_254 : FVec F S_ .f32 := constant S_ .f32 0x7F800000#32
  let main_v1818 : FVec F S32 .f32 := (fun x v => Host.reduce FloatOps.minimumf x v reducesTo_S32x1024_S32_d1 h_S_) main_v1817 main_cst_254
  let main_v1819 : FVec F S32x1024 .f32 := broadcastInDim S32x1024 ![0] bcast_S32_S32x1024_0 main_v1818
  let main_v1820 : IVec S32x1024 1 := cmpf .oeq main_v1817 main_v1819
  let main_v1821 : IVec S32x1024 32 := (extui 32 · natLt_1_32) main_v1820
  let main_c_255 : IVec S_ 32 := constantI S_ 32 0#32
  let main_v1822 : IVec S32 32 := (fun x v => Host.reduce IntOp.addi x v reducesTo_S32x1024_S32_d1 h_S_) main_v1821 main_c_255
  let main_v1823 : IVec S32 1 := cmpi .eq main_v1822 main_v41
  let main_v1824 : IVec S32 1 := andi main_v1795 main_v1823
  let main_v1825 : FVec F S32x1024 .f32 := addf main_v1810 main_v0
  let main_v1826 : FVec F S32x1024 .f32 := select main_v1820 main_v1825 main_v39
  let main_cst_256 : FVec F S_ .f32 := constant S_ .f32 0x00000000#32
  let main_v1827 : FVec F S32 .f32 := (fun x v => Host.reduceAdd x v reducesTo_S32x1024_S32_d1 h_S_) main_v1826 main_cst_256
  let main_v1828 : FVec F S32x1024 .f32 := broadcastInDim S32x1024 ![0] bcast_S32_S32x1024_0 main_v1827
  fn_part87 (F := F) main_arg0 main_arg1 main_arg2 main_v0 main_v34 main_v37 main_v38 main_v39 main_v40 main_v41 main_v1810 main_v1811 main_v1815 main_v1820 main_v1821 main_v1824 main_v1828

def fn_part85 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v1766 : IVec S32 1) (main_v1781 : FVec F S32x1024 .f32) (main_v1782 : IVec S32x1024 1) (main_v1786 : IVec S32x1024 1) (main_v1787 : FVec F S32x1024 .f32) : IVec S32x32x32 1 :=
  let main_v1788 : FVec F S32x1024 .f32 := select main_v1786 main_v1787 main_v38
  let main_cst_250 : FVec F S_ .f32 := constant S_ .f32 0x7F800000#32
  let main_v1789 : FVec F S32 .f32 := (fun x v => Host.reduce FloatOps.minimumf x v reducesTo_S32x1024_S32_d1 h_S_) main_v1788 main_cst_250
  let main_v1790 : FVec F S32x1024 .f32 := broadcastInDim S32x1024 ![0] bcast_S32_S32x1024_0 main_v1789
  let main_v1791 : IVec S32x1024 1 := cmpf .oeq main_v1788 main_v1790
  let main_v1792 : IVec S32x1024 32 := (extui 32 · natLt_1_32) main_v1791
  let main_c_251 : IVec S_ 32 := constantI S_ 32 0#32
  let main_v1793 : IVec S32 32 := (fun x v => Host.reduce IntOp.addi x v reducesTo_S32x1024_S32_d1 h_S_) main_v1792 main_c_251
  let main_v1794 : IVec S32 1 := cmpi .eq main_v1793 main_v41
  let main_v1795 : IVec S32 1 := andi main_v1766 main_v1794
  let main_v1796 : FVec F S32x1024 .f32 := addf main_v1781 main_v0
  let main_v1797 : FVec F S32x1024 .f32 := select main_v1791 main_v1796 main_v39
  let main_cst_252 : FVec F S_ .f32 := constant S_ .f32 0x00000000#32
  let main_v1798 : FVec F S32 .f32 := (fun x v => Host.reduceAdd x v reducesTo_S32x1024_S32_d1 h_S_) main_v1797 main_cst_252
  let main_v1799 : FVec F S32x1024 .f32 := broadcastInDim S32x1024 ![0] bcast_S32_S32x1024_0 main_v1798
  let main_v1800 : IVec S32x32x32 32 := shapeCast S32x32x32 main_v1792 shapeCasts_S32x1024_S32x32x32
  let main_c_253 : IVec S_ 32 := constantI S_ 32 2147483648#32
  let main_v1801 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v1800 main_c_253
  let main_v1802 : IVec S32x1024 32 := shapeCast S32x1024 main_v1801 shapeCasts_S32x32x32_S32x1024
  let main_v1803 : IVec S32x1024 1 := cmpi .sgt main_v1802 main_v40
  let main_v1804 : IVec S32x1024 1 := ori main_v1786 main_v1782
  let main_v1805 : IVec S32x1024 1 := noti main_v1804
  let main_v1806 : IVec S32x1024 1 := cmpf .ogt main_v1781 main_v1799
  let main_v1807 : IVec S32x1024 1 := andi main_v1786 main_v1806
  fn_part86 (F := F) main_arg0 main_arg1 main_arg2 main_v0 main_v34 main_v37 main_v38 main_v39 main_v40 main_v41 main_v1781 main_v1782 main_v1786 main_v1791 main_v1795 main_v1799 main_v1803 main_v1805 main_v1807

def fn_part84 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v1737 : IVec S32 1) (main_v1752 : FVec F S32x1024 .f32) (main_v1753 : IVec S32x1024 1) (main_v1757 : IVec S32x1024 1) (main_v1762 : IVec S32x1024 1) (main_v1763 : IVec S32x1024 32) (main_v1765 : IVec S32 1) : IVec S32x32x32 1 :=
  let main_v1766 : IVec S32 1 := andi main_v1737 main_v1765
  let main_v1767 : FVec F S32x1024 .f32 := addf main_v1752 main_v0
  let main_v1768 : FVec F S32x1024 .f32 := select main_v1762 main_v1767 main_v39
  let main_cst_248 : FVec F S_ .f32 := constant S_ .f32 0x00000000#32
  let main_v1769 : FVec F S32 .f32 := (fun x v => Host.reduceAdd x v reducesTo_S32x1024_S32_d1 h_S_) main_v1768 main_cst_248
  let main_v1770 : FVec F S32x1024 .f32 := broadcastInDim S32x1024 ![0] bcast_S32_S32x1024_0 main_v1769
  let main_v1771 : IVec S32x32x32 32 := shapeCast S32x32x32 main_v1763 shapeCasts_S32x1024_S32x32x32
  let main_c_249 : IVec S_ 32 := constantI S_ 32 2147483648#32
  let main_v1772 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v1771 main_c_249
  let main_v1773 : IVec S32x1024 32 := shapeCast S32x1024 main_v1772 shapeCasts_S32x32x32_S32x1024
  let main_v1774 : IVec S32x1024 1 := cmpi .sgt main_v1773 main_v40
  let main_v1775 : IVec S32x1024 1 := ori main_v1757 main_v1753
  let main_v1776 : IVec S32x1024 1 := noti main_v1775
  let main_v1777 : IVec S32x1024 1 := cmpf .ogt main_v1752 main_v1770
  let main_v1778 : IVec S32x1024 1 := andi main_v1757 main_v1777
  let main_v1779 : IVec S32x1024 1 := ori main_v1776 main_v1778
  let main_v1780 : IVec S32x1024 1 := andi main_v1774 main_v1779
  let main_v1781 : FVec F S32x1024 .f32 := select main_v1780 main_v1770 main_v1752
  let main_v1782 : IVec S32x1024 1 := ori main_v1753 main_v1762
  let main_v1783 : IVec S32x1024 1 := andi main_v1762 main_v37
  let main_v1784 : IVec S32x1024 1 := noti main_v1783
  let main_v1785 : IVec S32x1024 1 := andi main_v1757 main_v1784
  let main_v1786 : IVec S32x1024 1 := ori main_v1785 main_v1780
  let main_v1787 : FVec F S32x1024 .f32 := addf main_v1781 main_v34
  fn_part85 (F := F) main_arg0 main_arg1 main_arg2 main_v0 main_v34 main_v37 main_v38 main_v39 main_v40 main_v41 main_v1766 main_v1781 main_v1782 main_v1786 main_v1787

def fn_part83 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v1723 : FVec F S32x1024 .f32) (main_v1724 : IVec S32x1024 1) (main_v1728 : IVec S32x1024 1) (main_v1733 : IVec S32x1024 1) (main_v1737 : IVec S32 1) (main_v1741 : FVec F S32x1024 .f32) (main_v1743 : IVec S32x32x32 32) : IVec S32x32x32 1 :=
  let main_v1744 : IVec S32x1024 32 := shapeCast S32x1024 main_v1743 shapeCasts_S32x32x32_S32x1024
  let main_v1745 : IVec S32x1024 1 := cmpi .sgt main_v1744 main_v40
  let main_v1746 : IVec S32x1024 1 := ori main_v1728 main_v1724
  let main_v1747 : IVec S32x1024 1 := noti main_v1746
  let main_v1748 : IVec S32x1024 1 := cmpf .ogt main_v1723 main_v1741
  let main_v1749 : IVec S32x1024 1 := andi main_v1728 main_v1748
  let main_v1750 : IVec S32x1024 1 := ori main_v1747 main_v1749
  let main_v1751 : IVec S32x1024 1 := andi main_v1745 main_v1750
  let main_v1752 : FVec F S32x1024 .f32 := select main_v1751 main_v1741 main_v1723
  let main_v1753 : IVec S32x1024 1 := ori main_v1724 main_v1733
  let main_v1754 : IVec S32x1024 1 := andi main_v1733 main_v37
  let main_v1755 : IVec S32x1024 1 := noti main_v1754
  let main_v1756 : IVec S32x1024 1 := andi main_v1728 main_v1755
  let main_v1757 : IVec S32x1024 1 := ori main_v1756 main_v1751
  let main_v1758 : FVec F S32x1024 .f32 := addf main_v1752 main_v34
  let main_v1759 : FVec F S32x1024 .f32 := select main_v1757 main_v1758 main_v38
  let main_cst_246 : FVec F S_ .f32 := constant S_ .f32 0x7F800000#32
  let main_v1760 : FVec F S32 .f32 := (fun x v => Host.reduce FloatOps.minimumf x v reducesTo_S32x1024_S32_d1 h_S_) main_v1759 main_cst_246
  let main_v1761 : FVec F S32x1024 .f32 := broadcastInDim S32x1024 ![0] bcast_S32_S32x1024_0 main_v1760
  let main_v1762 : IVec S32x1024 1 := cmpf .oeq main_v1759 main_v1761
  let main_v1763 : IVec S32x1024 32 := (extui 32 · natLt_1_32) main_v1762
  let main_c_247 : IVec S_ 32 := constantI S_ 32 0#32
  let main_v1764 : IVec S32 32 := (fun x v => Host.reduce IntOp.addi x v reducesTo_S32x1024_S32_d1 h_S_) main_v1763 main_c_247
  let main_v1765 : IVec S32 1 := cmpi .eq main_v1764 main_v41
  fn_part84 (F := F) main_arg0 main_arg1 main_arg2 main_v0 main_v34 main_v37 main_v38 main_v39 main_v40 main_v41 main_v1737 main_v1752 main_v1753 main_v1757 main_v1762 main_v1763 main_v1765

def fn_part82 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v1695 : IVec S32x1024 1) (main_v1699 : IVec S32x1024 1) (main_v1704 : IVec S32x1024 1) (main_v1708 : IVec S32 1) (main_v1722 : IVec S32x1024 1) (main_v1723 : FVec F S32x1024 .f32) : IVec S32x32x32 1 :=
  let main_v1724 : IVec S32x1024 1 := ori main_v1695 main_v1704
  let main_v1725 : IVec S32x1024 1 := andi main_v1704 main_v37
  let main_v1726 : IVec S32x1024 1 := noti main_v1725
  let main_v1727 : IVec S32x1024 1 := andi main_v1699 main_v1726
  let main_v1728 : IVec S32x1024 1 := ori main_v1727 main_v1722
  let main_v1729 : FVec F S32x1024 .f32 := addf main_v1723 main_v34
  let main_v1730 : FVec F S32x1024 .f32 := select main_v1728 main_v1729 main_v38
  let main_cst_242 : FVec F S_ .f32 := constant S_ .f32 0x7F800000#32
  let main_v1731 : FVec F S32 .f32 := (fun x v => Host.reduce FloatOps.minimumf x v reducesTo_S32x1024_S32_d1 h_S_) main_v1730 main_cst_242
  let main_v1732 : FVec F S32x1024 .f32 := broadcastInDim S32x1024 ![0] bcast_S32_S32x1024_0 main_v1731
  let main_v1733 : IVec S32x1024 1 := cmpf .oeq main_v1730 main_v1732
  let main_v1734 : IVec S32x1024 32 := (extui 32 · natLt_1_32) main_v1733
  let main_c_243 : IVec S_ 32 := constantI S_ 32 0#32
  let main_v1735 : IVec S32 32 := (fun x v => Host.reduce IntOp.addi x v reducesTo_S32x1024_S32_d1 h_S_) main_v1734 main_c_243
  let main_v1736 : IVec S32 1 := cmpi .eq main_v1735 main_v41
  let main_v1737 : IVec S32 1 := andi main_v1708 main_v1736
  let main_v1738 : FVec F S32x1024 .f32 := addf main_v1723 main_v0
  let main_v1739 : FVec F S32x1024 .f32 := select main_v1733 main_v1738 main_v39
  let main_cst_244 : FVec F S_ .f32 := constant S_ .f32 0x00000000#32
  let main_v1740 : FVec F S32 .f32 := (fun x v => Host.reduceAdd x v reducesTo_S32x1024_S32_d1 h_S_) main_v1739 main_cst_244
  let main_v1741 : FVec F S32x1024 .f32 := broadcastInDim S32x1024 ![0] bcast_S32_S32x1024_0 main_v1740
  let main_v1742 : IVec S32x32x32 32 := shapeCast S32x32x32 main_v1734 shapeCasts_S32x1024_S32x32x32
  let main_c_245 : IVec S_ 32 := constantI S_ 32 2147483648#32
  let main_v1743 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v1742 main_c_245
  fn_part83 (F := F) main_arg0 main_arg1 main_arg2 main_v0 main_v34 main_v37 main_v38 main_v39 main_v40 main_v41 main_v1723 main_v1724 main_v1728 main_v1733 main_v1737 main_v1741 main_v1743

def fn_part81 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v1679 : IVec S32 1) (main_v1694 : FVec F S32x1024 .f32) (main_v1695 : IVec S32x1024 1) (main_v1699 : IVec S32x1024 1) (main_v1701 : FVec F S32x1024 .f32) (main_v1702 : FVec F S32 .f32) : IVec S32x32x32 1 :=
  let main_v1703 : FVec F S32x1024 .f32 := broadcastInDim S32x1024 ![0] bcast_S32_S32x1024_0 main_v1702
  let main_v1704 : IVec S32x1024 1 := cmpf .oeq main_v1701 main_v1703
  let main_v1705 : IVec S32x1024 32 := (extui 32 · natLt_1_32) main_v1704
  let main_c_239 : IVec S_ 32 := constantI S_ 32 0#32
  let main_v1706 : IVec S32 32 := (fun x v => Host.reduce IntOp.addi x v reducesTo_S32x1024_S32_d1 h_S_) main_v1705 main_c_239
  let main_v1707 : IVec S32 1 := cmpi .eq main_v1706 main_v41
  let main_v1708 : IVec S32 1 := andi main_v1679 main_v1707
  let main_v1709 : FVec F S32x1024 .f32 := addf main_v1694 main_v0
  let main_v1710 : FVec F S32x1024 .f32 := select main_v1704 main_v1709 main_v39
  let main_cst_240 : FVec F S_ .f32 := constant S_ .f32 0x00000000#32
  let main_v1711 : FVec F S32 .f32 := (fun x v => Host.reduceAdd x v reducesTo_S32x1024_S32_d1 h_S_) main_v1710 main_cst_240
  let main_v1712 : FVec F S32x1024 .f32 := broadcastInDim S32x1024 ![0] bcast_S32_S32x1024_0 main_v1711
  let main_v1713 : IVec S32x32x32 32 := shapeCast S32x32x32 main_v1705 shapeCasts_S32x1024_S32x32x32
  let main_c_241 : IVec S_ 32 := constantI S_ 32 2147483648#32
  let main_v1714 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v1713 main_c_241
  let main_v1715 : IVec S32x1024 32 := shapeCast S32x1024 main_v1714 shapeCasts_S32x32x32_S32x1024
  let main_v1716 : IVec S32x1024 1 := cmpi .sgt main_v1715 main_v40
  let main_v1717 : IVec S32x1024 1 := ori main_v1699 main_v1695
  let main_v1718 : IVec S32x1024 1 := noti main_v1717
  let main_v1719 : IVec S32x1024 1 := cmpf .ogt main_v1694 main_v1712
  let main_v1720 : IVec S32x1024 1 := andi main_v1699 main_v1719
  let main_v1721 : IVec S32x1024 1 := ori main_v1718 main_v1720
  let main_v1722 : IVec S32x1024 1 := andi main_v1716 main_v1721
  let main_v1723 : FVec F S32x1024 .f32 := select main_v1722 main_v1712 main_v1694
  fn_part82 (F := F) main_arg0 main_arg1 main_arg2 main_v0 main_v34 main_v37 main_v38 main_v39 main_v40 main_v41 main_v1695 main_v1699 main_v1704 main_v1708 main_v1722 main_v1723

def fn_part80 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v1665 : FVec F S32x1024 .f32) (main_v1666 : IVec S32x1024 1) (main_v1670 : IVec S32x1024 1) (main_v1675 : IVec S32x1024 1) (main_v1676 : IVec S32x1024 32) (main_v1679 : IVec S32 1) (main_v1681 : FVec F S32x1024 .f32) : IVec S32x32x32 1 :=
  let main_cst_236 : FVec F S_ .f32 := constant S_ .f32 0x00000000#32
  let main_v1682 : FVec F S32 .f32 := (fun x v => Host.reduceAdd x v reducesTo_S32x1024_S32_d1 h_S_) main_v1681 main_cst_236
  let main_v1683 : FVec F S32x1024 .f32 := broadcastInDim S32x1024 ![0] bcast_S32_S32x1024_0 main_v1682
  let main_v1684 : IVec S32x32x32 32 := shapeCast S32x32x32 main_v1676 shapeCasts_S32x1024_S32x32x32
  let main_c_237 : IVec S_ 32 := constantI S_ 32 2147483648#32
  let main_v1685 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v1684 main_c_237
  let main_v1686 : IVec S32x1024 32 := shapeCast S32x1024 main_v1685 shapeCasts_S32x32x32_S32x1024
  let main_v1687 : IVec S32x1024 1 := cmpi .sgt main_v1686 main_v40
  let main_v1688 : IVec S32x1024 1 := ori main_v1670 main_v1666
  let main_v1689 : IVec S32x1024 1 := noti main_v1688
  let main_v1690 : IVec S32x1024 1 := cmpf .ogt main_v1665 main_v1683
  let main_v1691 : IVec S32x1024 1 := andi main_v1670 main_v1690
  let main_v1692 : IVec S32x1024 1 := ori main_v1689 main_v1691
  let main_v1693 : IVec S32x1024 1 := andi main_v1687 main_v1692
  let main_v1694 : FVec F S32x1024 .f32 := select main_v1693 main_v1683 main_v1665
  let main_v1695 : IVec S32x1024 1 := ori main_v1666 main_v1675
  let main_v1696 : IVec S32x1024 1 := andi main_v1675 main_v37
  let main_v1697 : IVec S32x1024 1 := noti main_v1696
  let main_v1698 : IVec S32x1024 1 := andi main_v1670 main_v1697
  let main_v1699 : IVec S32x1024 1 := ori main_v1698 main_v1693
  let main_v1700 : FVec F S32x1024 .f32 := addf main_v1694 main_v34
  let main_v1701 : FVec F S32x1024 .f32 := select main_v1699 main_v1700 main_v38
  let main_cst_238 : FVec F S_ .f32 := constant S_ .f32 0x7F800000#32
  let main_v1702 : FVec F S32 .f32 := (fun x v => Host.reduce FloatOps.minimumf x v reducesTo_S32x1024_S32_d1 h_S_) main_v1701 main_cst_238
  fn_part81 (F := F) main_arg0 main_arg1 main_arg2 main_v0 main_v34 main_v37 main_v38 main_v39 main_v40 main_v41 main_v1679 main_v1694 main_v1695 main_v1699 main_v1701 main_v1702

def fn_part79 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v1636 : FVec F S32x1024 .f32) (main_v1637 : IVec S32x1024 1) (main_v1641 : IVec S32x1024 1) (main_v1646 : IVec S32x1024 1) (main_v1650 : IVec S32 1) (main_v1654 : FVec F S32x1024 .f32) (main_v1658 : IVec S32x1024 1) (main_v1659 : IVec S32x1024 1) : IVec S32x32x32 1 :=
  let main_v1660 : IVec S32x1024 1 := noti main_v1659
  let main_v1661 : IVec S32x1024 1 := cmpf .ogt main_v1636 main_v1654
  let main_v1662 : IVec S32x1024 1 := andi main_v1641 main_v1661
  let main_v1663 : IVec S32x1024 1 := ori main_v1660 main_v1662
  let main_v1664 : IVec S32x1024 1 := andi main_v1658 main_v1663
  let main_v1665 : FVec F S32x1024 .f32 := select main_v1664 main_v1654 main_v1636
  let main_v1666 : IVec S32x1024 1 := ori main_v1637 main_v1646
  let main_v1667 : IVec S32x1024 1 := andi main_v1646 main_v37
  let main_v1668 : IVec S32x1024 1 := noti main_v1667
  let main_v1669 : IVec S32x1024 1 := andi main_v1641 main_v1668
  let main_v1670 : IVec S32x1024 1 := ori main_v1669 main_v1664
  let main_v1671 : FVec F S32x1024 .f32 := addf main_v1665 main_v34
  let main_v1672 : FVec F S32x1024 .f32 := select main_v1670 main_v1671 main_v38
  let main_cst_234 : FVec F S_ .f32 := constant S_ .f32 0x7F800000#32
  let main_v1673 : FVec F S32 .f32 := (fun x v => Host.reduce FloatOps.minimumf x v reducesTo_S32x1024_S32_d1 h_S_) main_v1672 main_cst_234
  let main_v1674 : FVec F S32x1024 .f32 := broadcastInDim S32x1024 ![0] bcast_S32_S32x1024_0 main_v1673
  let main_v1675 : IVec S32x1024 1 := cmpf .oeq main_v1672 main_v1674
  let main_v1676 : IVec S32x1024 32 := (extui 32 · natLt_1_32) main_v1675
  let main_c_235 : IVec S_ 32 := constantI S_ 32 0#32
  let main_v1677 : IVec S32 32 := (fun x v => Host.reduce IntOp.addi x v reducesTo_S32x1024_S32_d1 h_S_) main_v1676 main_c_235
  let main_v1678 : IVec S32 1 := cmpi .eq main_v1677 main_v41
  let main_v1679 : IVec S32 1 := andi main_v1650 main_v1678
  let main_v1680 : FVec F S32x1024 .f32 := addf main_v1665 main_v0
  let main_v1681 : FVec F S32x1024 .f32 := select main_v1675 main_v1680 main_v39
  fn_part80 (F := F) main_arg0 main_arg1 main_arg2 main_v0 main_v34 main_v37 main_v38 main_v39 main_v40 main_v41 main_v1665 main_v1666 main_v1670 main_v1675 main_v1676 main_v1679 main_v1681

def fn_part78 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v1612 : IVec S32x1024 1) (main_v1621 : IVec S32 1) (main_v1635 : IVec S32x1024 1) (main_v1636 : FVec F S32x1024 .f32) (main_v1637 : IVec S32x1024 1) (main_v1639 : IVec S32x1024 1) : IVec S32x32x32 1 :=
  let main_v1640 : IVec S32x1024 1 := andi main_v1612 main_v1639
  let main_v1641 : IVec S32x1024 1 := ori main_v1640 main_v1635
  let main_v1642 : FVec F S32x1024 .f32 := addf main_v1636 main_v34
  let main_v1643 : FVec F S32x1024 .f32 := select main_v1641 main_v1642 main_v38
  let main_cst_230 : FVec F S_ .f32 := constant S_ .f32 0x7F800000#32
  let main_v1644 : FVec F S32 .f32 := (fun x v => Host.reduce FloatOps.minimumf x v reducesTo_S32x1024_S32_d1 h_S_) main_v1643 main_cst_230
  let main_v1645 : FVec F S32x1024 .f32 := broadcastInDim S32x1024 ![0] bcast_S32_S32x1024_0 main_v1644
  let main_v1646 : IVec S32x1024 1 := cmpf .oeq main_v1643 main_v1645
  let main_v1647 : IVec S32x1024 32 := (extui 32 · natLt_1_32) main_v1646
  let main_c_231 : IVec S_ 32 := constantI S_ 32 0#32
  let main_v1648 : IVec S32 32 := (fun x v => Host.reduce IntOp.addi x v reducesTo_S32x1024_S32_d1 h_S_) main_v1647 main_c_231
  let main_v1649 : IVec S32 1 := cmpi .eq main_v1648 main_v41
  let main_v1650 : IVec S32 1 := andi main_v1621 main_v1649
  let main_v1651 : FVec F S32x1024 .f32 := addf main_v1636 main_v0
  let main_v1652 : FVec F S32x1024 .f32 := select main_v1646 main_v1651 main_v39
  let main_cst_232 : FVec F S_ .f32 := constant S_ .f32 0x00000000#32
  let main_v1653 : FVec F S32 .f32 := (fun x v => Host.reduceAdd x v reducesTo_S32x1024_S32_d1 h_S_) main_v1652 main_cst_232
  let main_v1654 : FVec F S32x1024 .f32 := broadcastInDim S32x1024 ![0] bcast_S32_S32x1024_0 main_v1653
  let main_v1655 : IVec S32x32x32 32 := shapeCast S32x32x32 main_v1647 shapeCasts_S32x1024_S32x32x32
  let main_c_233 : IVec S_ 32 := constantI S_ 32 2147483648#32
  let main_v1656 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v1655 main_c_233
  let main_v1657 : IVec S32x1024 32 := shapeCast S32x1024 main_v1656 shapeCasts_S32x32x32_S32x1024
  let main_v1658 : IVec S32x1024 1 := cmpi .sgt main_v1657 main_v40
  let main_v1659 : IVec S32x1024 1 := ori main_v1641 main_v1637
  fn_part79 (F := F) main_arg0 main_arg1 main_arg2 main_v0 main_v34 main_v37 main_v38 main_v39 main_v40 main_v41 main_v1636 main_v1637 main_v1641 main_v1646 main_v1650 main_v1654 main_v1658 main_v1659

def fn_part77 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v1592 : IVec S32 1) (main_v1607 : FVec F S32x1024 .f32) (main_v1608 : IVec S32x1024 1) (main_v1612 : IVec S32x1024 1) (main_v1617 : IVec S32x1024 1) (main_v1618 : IVec S32x1024 32) : IVec S32x32x32 1 :=
  let main_c_227 : IVec S_ 32 := constantI S_ 32 0#32
  let main_v1619 : IVec S32 32 := (fun x v => Host.reduce IntOp.addi x v reducesTo_S32x1024_S32_d1 h_S_) main_v1618 main_c_227
  let main_v1620 : IVec S32 1 := cmpi .eq main_v1619 main_v41
  let main_v1621 : IVec S32 1 := andi main_v1592 main_v1620
  let main_v1622 : FVec F S32x1024 .f32 := addf main_v1607 main_v0
  let main_v1623 : FVec F S32x1024 .f32 := select main_v1617 main_v1622 main_v39
  let main_cst_228 : FVec F S_ .f32 := constant S_ .f32 0x00000000#32
  let main_v1624 : FVec F S32 .f32 := (fun x v => Host.reduceAdd x v reducesTo_S32x1024_S32_d1 h_S_) main_v1623 main_cst_228
  let main_v1625 : FVec F S32x1024 .f32 := broadcastInDim S32x1024 ![0] bcast_S32_S32x1024_0 main_v1624
  let main_v1626 : IVec S32x32x32 32 := shapeCast S32x32x32 main_v1618 shapeCasts_S32x1024_S32x32x32
  let main_c_229 : IVec S_ 32 := constantI S_ 32 2147483648#32
  let main_v1627 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v1626 main_c_229
  let main_v1628 : IVec S32x1024 32 := shapeCast S32x1024 main_v1627 shapeCasts_S32x32x32_S32x1024
  let main_v1629 : IVec S32x1024 1 := cmpi .sgt main_v1628 main_v40
  let main_v1630 : IVec S32x1024 1 := ori main_v1612 main_v1608
  let main_v1631 : IVec S32x1024 1 := noti main_v1630
  let main_v1632 : IVec S32x1024 1 := cmpf .ogt main_v1607 main_v1625
  let main_v1633 : IVec S32x1024 1 := andi main_v1612 main_v1632
  let main_v1634 : IVec S32x1024 1 := ori main_v1631 main_v1633
  let main_v1635 : IVec S32x1024 1 := andi main_v1629 main_v1634
  let main_v1636 : FVec F S32x1024 .f32 := select main_v1635 main_v1625 main_v1607
  let main_v1637 : IVec S32x1024 1 := ori main_v1608 main_v1617
  let main_v1638 : IVec S32x1024 1 := andi main_v1617 main_v37
  let main_v1639 : IVec S32x1024 1 := noti main_v1638
  fn_part78 (F := F) main_arg0 main_arg1 main_arg2 main_v0 main_v34 main_v37 main_v38 main_v39 main_v40 main_v41 main_v1612 main_v1621 main_v1635 main_v1636 main_v1637 main_v1639

def fn_part76 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v1578 : FVec F S32x1024 .f32) (main_v1579 : IVec S32x1024 1) (main_v1583 : IVec S32x1024 1) (main_v1588 : IVec S32x1024 1) (main_v1589 : IVec S32x1024 32) (main_v1592 : IVec S32 1) (main_v1596 : FVec F S32x1024 .f32) : IVec S32x32x32 1 :=
  let main_v1597 : IVec S32x32x32 32 := shapeCast S32x32x32 main_v1589 shapeCasts_S32x1024_S32x32x32
  let main_c_225 : IVec S_ 32 := constantI S_ 32 2147483648#32
  let main_v1598 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v1597 main_c_225
  let main_v1599 : IVec S32x1024 32 := shapeCast S32x1024 main_v1598 shapeCasts_S32x32x32_S32x1024
  let main_v1600 : IVec S32x1024 1 := cmpi .sgt main_v1599 main_v40
  let main_v1601 : IVec S32x1024 1 := ori main_v1583 main_v1579
  let main_v1602 : IVec S32x1024 1 := noti main_v1601
  let main_v1603 : IVec S32x1024 1 := cmpf .ogt main_v1578 main_v1596
  let main_v1604 : IVec S32x1024 1 := andi main_v1583 main_v1603
  let main_v1605 : IVec S32x1024 1 := ori main_v1602 main_v1604
  let main_v1606 : IVec S32x1024 1 := andi main_v1600 main_v1605
  let main_v1607 : FVec F S32x1024 .f32 := select main_v1606 main_v1596 main_v1578
  let main_v1608 : IVec S32x1024 1 := ori main_v1579 main_v1588
  let main_v1609 : IVec S32x1024 1 := andi main_v1588 main_v37
  let main_v1610 : IVec S32x1024 1 := noti main_v1609
  let main_v1611 : IVec S32x1024 1 := andi main_v1583 main_v1610
  let main_v1612 : IVec S32x1024 1 := ori main_v1611 main_v1606
  let main_v1613 : FVec F S32x1024 .f32 := addf main_v1607 main_v34
  let main_v1614 : FVec F S32x1024 .f32 := select main_v1612 main_v1613 main_v38
  let main_cst_226 : FVec F S_ .f32 := constant S_ .f32 0x7F800000#32
  let main_v1615 : FVec F S32 .f32 := (fun x v => Host.reduce FloatOps.minimumf x v reducesTo_S32x1024_S32_d1 h_S_) main_v1614 main_cst_226
  let main_v1616 : FVec F S32x1024 .f32 := broadcastInDim S32x1024 ![0] bcast_S32_S32x1024_0 main_v1615
  let main_v1617 : IVec S32x1024 1 := cmpf .oeq main_v1614 main_v1616
  let main_v1618 : IVec S32x1024 32 := (extui 32 · natLt_1_32) main_v1617
  fn_part77 (F := F) main_arg0 main_arg1 main_arg2 main_v0 main_v34 main_v37 main_v38 main_v39 main_v40 main_v41 main_v1592 main_v1607 main_v1608 main_v1612 main_v1617 main_v1618

def fn_part75 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v1549 : FVec F S32x1024 .f32) (main_v1550 : IVec S32x1024 1) (main_v1554 : IVec S32x1024 1) (main_v1559 : IVec S32x1024 1) (main_v1563 : IVec S32 1) (main_v1567 : FVec F S32x1024 .f32) (main_v1571 : IVec S32x1024 1) (main_v1573 : IVec S32x1024 1) (main_v1575 : IVec S32x1024 1) : IVec S32x32x32 1 :=
  let main_v1576 : IVec S32x1024 1 := ori main_v1573 main_v1575
  let main_v1577 : IVec S32x1024 1 := andi main_v1571 main_v1576
  let main_v1578 : FVec F S32x1024 .f32 := select main_v1577 main_v1567 main_v1549
  let main_v1579 : IVec S32x1024 1 := ori main_v1550 main_v1559
  let main_v1580 : IVec S32x1024 1 := andi main_v1559 main_v37
  let main_v1581 : IVec S32x1024 1 := noti main_v1580
  let main_v1582 : IVec S32x1024 1 := andi main_v1554 main_v1581
  let main_v1583 : IVec S32x1024 1 := ori main_v1582 main_v1577
  let main_v1584 : FVec F S32x1024 .f32 := addf main_v1578 main_v34
  let main_v1585 : FVec F S32x1024 .f32 := select main_v1583 main_v1584 main_v38
  let main_cst_222 : FVec F S_ .f32 := constant S_ .f32 0x7F800000#32
  let main_v1586 : FVec F S32 .f32 := (fun x v => Host.reduce FloatOps.minimumf x v reducesTo_S32x1024_S32_d1 h_S_) main_v1585 main_cst_222
  let main_v1587 : FVec F S32x1024 .f32 := broadcastInDim S32x1024 ![0] bcast_S32_S32x1024_0 main_v1586
  let main_v1588 : IVec S32x1024 1 := cmpf .oeq main_v1585 main_v1587
  let main_v1589 : IVec S32x1024 32 := (extui 32 · natLt_1_32) main_v1588
  let main_c_223 : IVec S_ 32 := constantI S_ 32 0#32
  let main_v1590 : IVec S32 32 := (fun x v => Host.reduce IntOp.addi x v reducesTo_S32x1024_S32_d1 h_S_) main_v1589 main_c_223
  let main_v1591 : IVec S32 1 := cmpi .eq main_v1590 main_v41
  let main_v1592 : IVec S32 1 := andi main_v1563 main_v1591
  let main_v1593 : FVec F S32x1024 .f32 := addf main_v1578 main_v0
  let main_v1594 : FVec F S32x1024 .f32 := select main_v1588 main_v1593 main_v39
  let main_cst_224 : FVec F S_ .f32 := constant S_ .f32 0x00000000#32
  let main_v1595 : FVec F S32 .f32 := (fun x v => Host.reduceAdd x v reducesTo_S32x1024_S32_d1 h_S_) main_v1594 main_cst_224
  let main_v1596 : FVec F S32x1024 .f32 := broadcastInDim S32x1024 ![0] bcast_S32_S32x1024_0 main_v1595
  fn_part76 (F := F) main_arg0 main_arg1 main_arg2 main_v0 main_v34 main_v37 main_v38 main_v39 main_v40 main_v41 main_v1578 main_v1579 main_v1583 main_v1588 main_v1589 main_v1592 main_v1596

def fn_part74 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v1534 : IVec S32 1) (main_v1549 : FVec F S32x1024 .f32) (main_v1550 : IVec S32x1024 1) (main_v1554 : IVec S32x1024 1) (main_v1555 : FVec F S32x1024 .f32) : IVec S32x32x32 1 :=
  let main_v1556 : FVec F S32x1024 .f32 := select main_v1554 main_v1555 main_v38
  let main_cst_218 : FVec F S_ .f32 := constant S_ .f32 0x7F800000#32
  let main_v1557 : FVec F S32 .f32 := (fun x v => Host.reduce FloatOps.minimumf x v reducesTo_S32x1024_S32_d1 h_S_) main_v1556 main_cst_218
  let main_v1558 : FVec F S32x1024 .f32 := broadcastInDim S32x1024 ![0] bcast_S32_S32x1024_0 main_v1557
  let main_v1559 : IVec S32x1024 1 := cmpf .oeq main_v1556 main_v1558
  let main_v1560 : IVec S32x1024 32 := (extui 32 · natLt_1_32) main_v1559
  let main_c_219 : IVec S_ 32 := constantI S_ 32 0#32
  let main_v1561 : IVec S32 32 := (fun x v => Host.reduce IntOp.addi x v reducesTo_S32x1024_S32_d1 h_S_) main_v1560 main_c_219
  let main_v1562 : IVec S32 1 := cmpi .eq main_v1561 main_v41
  let main_v1563 : IVec S32 1 := andi main_v1534 main_v1562
  let main_v1564 : FVec F S32x1024 .f32 := addf main_v1549 main_v0
  let main_v1565 : FVec F S32x1024 .f32 := select main_v1559 main_v1564 main_v39
  let main_cst_220 : FVec F S_ .f32 := constant S_ .f32 0x00000000#32
  let main_v1566 : FVec F S32 .f32 := (fun x v => Host.reduceAdd x v reducesTo_S32x1024_S32_d1 h_S_) main_v1565 main_cst_220
  let main_v1567 : FVec F S32x1024 .f32 := broadcastInDim S32x1024 ![0] bcast_S32_S32x1024_0 main_v1566
  let main_v1568 : IVec S32x32x32 32 := shapeCast S32x32x32 main_v1560 shapeCasts_S32x1024_S32x32x32
  let main_c_221 : IVec S_ 32 := constantI S_ 32 2147483648#32
  let main_v1569 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v1568 main_c_221
  let main_v1570 : IVec S32x1024 32 := shapeCast S32x1024 main_v1569 shapeCasts_S32x32x32_S32x1024
  let main_v1571 : IVec S32x1024 1 := cmpi .sgt main_v1570 main_v40
  let main_v1572 : IVec S32x1024 1 := ori main_v1554 main_v1550
  let main_v1573 : IVec S32x1024 1 := noti main_v1572
  let main_v1574 : IVec S32x1024 1 := cmpf .ogt main_v1549 main_v1567
  let main_v1575 : IVec S32x1024 1 := andi main_v1554 main_v1574
  fn_part75 (F := F) main_arg0 main_arg1 main_arg2 main_v0 main_v34 main_v37 main_v38 main_v39 main_v40 main_v41 main_v1549 main_v1550 main_v1554 main_v1559 main_v1563 main_v1567 main_v1571 main_v1573 main_v1575

def fn_part73 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v1505 : IVec S32 1) (main_v1520 : FVec F S32x1024 .f32) (main_v1521 : IVec S32x1024 1) (main_v1525 : IVec S32x1024 1) (main_v1530 : IVec S32x1024 1) (main_v1531 : IVec S32x1024 32) (main_v1533 : IVec S32 1) : IVec S32x32x32 1 :=
  let main_v1534 : IVec S32 1 := andi main_v1505 main_v1533
  let main_v1535 : FVec F S32x1024 .f32 := addf main_v1520 main_v0
  let main_v1536 : FVec F S32x1024 .f32 := select main_v1530 main_v1535 main_v39
  let main_cst_216 : FVec F S_ .f32 := constant S_ .f32 0x00000000#32
  let main_v1537 : FVec F S32 .f32 := (fun x v => Host.reduceAdd x v reducesTo_S32x1024_S32_d1 h_S_) main_v1536 main_cst_216
  let main_v1538 : FVec F S32x1024 .f32 := broadcastInDim S32x1024 ![0] bcast_S32_S32x1024_0 main_v1537
  let main_v1539 : IVec S32x32x32 32 := shapeCast S32x32x32 main_v1531 shapeCasts_S32x1024_S32x32x32
  let main_c_217 : IVec S_ 32 := constantI S_ 32 2147483648#32
  let main_v1540 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v1539 main_c_217
  let main_v1541 : IVec S32x1024 32 := shapeCast S32x1024 main_v1540 shapeCasts_S32x32x32_S32x1024
  let main_v1542 : IVec S32x1024 1 := cmpi .sgt main_v1541 main_v40
  let main_v1543 : IVec S32x1024 1 := ori main_v1525 main_v1521
  let main_v1544 : IVec S32x1024 1 := noti main_v1543
  let main_v1545 : IVec S32x1024 1 := cmpf .ogt main_v1520 main_v1538
  let main_v1546 : IVec S32x1024 1 := andi main_v1525 main_v1545
  let main_v1547 : IVec S32x1024 1 := ori main_v1544 main_v1546
  let main_v1548 : IVec S32x1024 1 := andi main_v1542 main_v1547
  let main_v1549 : FVec F S32x1024 .f32 := select main_v1548 main_v1538 main_v1520
  let main_v1550 : IVec S32x1024 1 := ori main_v1521 main_v1530
  let main_v1551 : IVec S32x1024 1 := andi main_v1530 main_v37
  let main_v1552 : IVec S32x1024 1 := noti main_v1551
  let main_v1553 : IVec S32x1024 1 := andi main_v1525 main_v1552
  let main_v1554 : IVec S32x1024 1 := ori main_v1553 main_v1548
  let main_v1555 : FVec F S32x1024 .f32 := addf main_v1549 main_v34
  fn_part74 (F := F) main_arg0 main_arg1 main_arg2 main_v0 main_v34 main_v37 main_v38 main_v39 main_v40 main_v41 main_v1534 main_v1549 main_v1550 main_v1554 main_v1555

def fn_part72 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v1491 : FVec F S32x1024 .f32) (main_v1492 : IVec S32x1024 1) (main_v1496 : IVec S32x1024 1) (main_v1501 : IVec S32x1024 1) (main_v1505 : IVec S32 1) (main_v1509 : FVec F S32x1024 .f32) (main_v1511 : IVec S32x32x32 32) : IVec S32x32x32 1 :=
  let main_v1512 : IVec S32x1024 32 := shapeCast S32x1024 main_v1511 shapeCasts_S32x32x32_S32x1024
  let main_v1513 : IVec S32x1024 1 := cmpi .sgt main_v1512 main_v40
  let main_v1514 : IVec S32x1024 1 := ori main_v1496 main_v1492
  let main_v1515 : IVec S32x1024 1 := noti main_v1514
  let main_v1516 : IVec S32x1024 1 := cmpf .ogt main_v1491 main_v1509
  let main_v1517 : IVec S32x1024 1 := andi main_v1496 main_v1516
  let main_v1518 : IVec S32x1024 1 := ori main_v1515 main_v1517
  let main_v1519 : IVec S32x1024 1 := andi main_v1513 main_v1518
  let main_v1520 : FVec F S32x1024 .f32 := select main_v1519 main_v1509 main_v1491
  let main_v1521 : IVec S32x1024 1 := ori main_v1492 main_v1501
  let main_v1522 : IVec S32x1024 1 := andi main_v1501 main_v37
  let main_v1523 : IVec S32x1024 1 := noti main_v1522
  let main_v1524 : IVec S32x1024 1 := andi main_v1496 main_v1523
  let main_v1525 : IVec S32x1024 1 := ori main_v1524 main_v1519
  let main_v1526 : FVec F S32x1024 .f32 := addf main_v1520 main_v34
  let main_v1527 : FVec F S32x1024 .f32 := select main_v1525 main_v1526 main_v38
  let main_cst_214 : FVec F S_ .f32 := constant S_ .f32 0x7F800000#32
  let main_v1528 : FVec F S32 .f32 := (fun x v => Host.reduce FloatOps.minimumf x v reducesTo_S32x1024_S32_d1 h_S_) main_v1527 main_cst_214
  let main_v1529 : FVec F S32x1024 .f32 := broadcastInDim S32x1024 ![0] bcast_S32_S32x1024_0 main_v1528
  let main_v1530 : IVec S32x1024 1 := cmpf .oeq main_v1527 main_v1529
  let main_v1531 : IVec S32x1024 32 := (extui 32 · natLt_1_32) main_v1530
  let main_c_215 : IVec S_ 32 := constantI S_ 32 0#32
  let main_v1532 : IVec S32 32 := (fun x v => Host.reduce IntOp.addi x v reducesTo_S32x1024_S32_d1 h_S_) main_v1531 main_c_215
  let main_v1533 : IVec S32 1 := cmpi .eq main_v1532 main_v41
  fn_part73 (F := F) main_arg0 main_arg1 main_arg2 main_v0 main_v34 main_v37 main_v38 main_v39 main_v40 main_v41 main_v1505 main_v1520 main_v1521 main_v1525 main_v1530 main_v1531 main_v1533

def fn_part71 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v1463 : IVec S32x1024 1) (main_v1467 : IVec S32x1024 1) (main_v1472 : IVec S32x1024 1) (main_v1476 : IVec S32 1) (main_v1490 : IVec S32x1024 1) (main_v1491 : FVec F S32x1024 .f32) : IVec S32x32x32 1 :=
  let main_v1492 : IVec S32x1024 1 := ori main_v1463 main_v1472
  let main_v1493 : IVec S32x1024 1 := andi main_v1472 main_v37
  let main_v1494 : IVec S32x1024 1 := noti main_v1493
  let main_v1495 : IVec S32x1024 1 := andi main_v1467 main_v1494
  let main_v1496 : IVec S32x1024 1 := ori main_v1495 main_v1490
  let main_v1497 : FVec F S32x1024 .f32 := addf main_v1491 main_v34
  let main_v1498 : FVec F S32x1024 .f32 := select main_v1496 main_v1497 main_v38
  let main_cst_210 : FVec F S_ .f32 := constant S_ .f32 0x7F800000#32
  let main_v1499 : FVec F S32 .f32 := (fun x v => Host.reduce FloatOps.minimumf x v reducesTo_S32x1024_S32_d1 h_S_) main_v1498 main_cst_210
  let main_v1500 : FVec F S32x1024 .f32 := broadcastInDim S32x1024 ![0] bcast_S32_S32x1024_0 main_v1499
  let main_v1501 : IVec S32x1024 1 := cmpf .oeq main_v1498 main_v1500
  let main_v1502 : IVec S32x1024 32 := (extui 32 · natLt_1_32) main_v1501
  let main_c_211 : IVec S_ 32 := constantI S_ 32 0#32
  let main_v1503 : IVec S32 32 := (fun x v => Host.reduce IntOp.addi x v reducesTo_S32x1024_S32_d1 h_S_) main_v1502 main_c_211
  let main_v1504 : IVec S32 1 := cmpi .eq main_v1503 main_v41
  let main_v1505 : IVec S32 1 := andi main_v1476 main_v1504
  let main_v1506 : FVec F S32x1024 .f32 := addf main_v1491 main_v0
  let main_v1507 : FVec F S32x1024 .f32 := select main_v1501 main_v1506 main_v39
  let main_cst_212 : FVec F S_ .f32 := constant S_ .f32 0x00000000#32
  let main_v1508 : FVec F S32 .f32 := (fun x v => Host.reduceAdd x v reducesTo_S32x1024_S32_d1 h_S_) main_v1507 main_cst_212
  let main_v1509 : FVec F S32x1024 .f32 := broadcastInDim S32x1024 ![0] bcast_S32_S32x1024_0 main_v1508
  let main_v1510 : IVec S32x32x32 32 := shapeCast S32x32x32 main_v1502 shapeCasts_S32x1024_S32x32x32
  let main_c_213 : IVec S_ 32 := constantI S_ 32 2147483648#32
  let main_v1511 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v1510 main_c_213
  fn_part72 (F := F) main_arg0 main_arg1 main_arg2 main_v0 main_v34 main_v37 main_v38 main_v39 main_v40 main_v41 main_v1491 main_v1492 main_v1496 main_v1501 main_v1505 main_v1509 main_v1511

def fn_part70 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v1447 : IVec S32 1) (main_v1462 : FVec F S32x1024 .f32) (main_v1463 : IVec S32x1024 1) (main_v1467 : IVec S32x1024 1) (main_v1469 : FVec F S32x1024 .f32) (main_v1470 : FVec F S32 .f32) : IVec S32x32x32 1 :=
  let main_v1471 : FVec F S32x1024 .f32 := broadcastInDim S32x1024 ![0] bcast_S32_S32x1024_0 main_v1470
  let main_v1472 : IVec S32x1024 1 := cmpf .oeq main_v1469 main_v1471
  let main_v1473 : IVec S32x1024 32 := (extui 32 · natLt_1_32) main_v1472
  let main_c_207 : IVec S_ 32 := constantI S_ 32 0#32
  let main_v1474 : IVec S32 32 := (fun x v => Host.reduce IntOp.addi x v reducesTo_S32x1024_S32_d1 h_S_) main_v1473 main_c_207
  let main_v1475 : IVec S32 1 := cmpi .eq main_v1474 main_v41
  let main_v1476 : IVec S32 1 := andi main_v1447 main_v1475
  let main_v1477 : FVec F S32x1024 .f32 := addf main_v1462 main_v0
  let main_v1478 : FVec F S32x1024 .f32 := select main_v1472 main_v1477 main_v39
  let main_cst_208 : FVec F S_ .f32 := constant S_ .f32 0x00000000#32
  let main_v1479 : FVec F S32 .f32 := (fun x v => Host.reduceAdd x v reducesTo_S32x1024_S32_d1 h_S_) main_v1478 main_cst_208
  let main_v1480 : FVec F S32x1024 .f32 := broadcastInDim S32x1024 ![0] bcast_S32_S32x1024_0 main_v1479
  let main_v1481 : IVec S32x32x32 32 := shapeCast S32x32x32 main_v1473 shapeCasts_S32x1024_S32x32x32
  let main_c_209 : IVec S_ 32 := constantI S_ 32 2147483648#32
  let main_v1482 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v1481 main_c_209
  let main_v1483 : IVec S32x1024 32 := shapeCast S32x1024 main_v1482 shapeCasts_S32x32x32_S32x1024
  let main_v1484 : IVec S32x1024 1 := cmpi .sgt main_v1483 main_v40
  let main_v1485 : IVec S32x1024 1 := ori main_v1467 main_v1463
  let main_v1486 : IVec S32x1024 1 := noti main_v1485
  let main_v1487 : IVec S32x1024 1 := cmpf .ogt main_v1462 main_v1480
  let main_v1488 : IVec S32x1024 1 := andi main_v1467 main_v1487
  let main_v1489 : IVec S32x1024 1 := ori main_v1486 main_v1488
  let main_v1490 : IVec S32x1024 1 := andi main_v1484 main_v1489
  let main_v1491 : FVec F S32x1024 .f32 := select main_v1490 main_v1480 main_v1462
  fn_part71 (F := F) main_arg0 main_arg1 main_arg2 main_v0 main_v34 main_v37 main_v38 main_v39 main_v40 main_v41 main_v1463 main_v1467 main_v1472 main_v1476 main_v1490 main_v1491

def fn_part69 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v1433 : FVec F S32x1024 .f32) (main_v1434 : IVec S32x1024 1) (main_v1438 : IVec S32x1024 1) (main_v1443 : IVec S32x1024 1) (main_v1444 : IVec S32x1024 32) (main_v1447 : IVec S32 1) (main_v1449 : FVec F S32x1024 .f32) : IVec S32x32x32 1 :=
  let main_cst_204 : FVec F S_ .f32 := constant S_ .f32 0x00000000#32
  let main_v1450 : FVec F S32 .f32 := (fun x v => Host.reduceAdd x v reducesTo_S32x1024_S32_d1 h_S_) main_v1449 main_cst_204
  let main_v1451 : FVec F S32x1024 .f32 := broadcastInDim S32x1024 ![0] bcast_S32_S32x1024_0 main_v1450
  let main_v1452 : IVec S32x32x32 32 := shapeCast S32x32x32 main_v1444 shapeCasts_S32x1024_S32x32x32
  let main_c_205 : IVec S_ 32 := constantI S_ 32 2147483648#32
  let main_v1453 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v1452 main_c_205
  let main_v1454 : IVec S32x1024 32 := shapeCast S32x1024 main_v1453 shapeCasts_S32x32x32_S32x1024
  let main_v1455 : IVec S32x1024 1 := cmpi .sgt main_v1454 main_v40
  let main_v1456 : IVec S32x1024 1 := ori main_v1438 main_v1434
  let main_v1457 : IVec S32x1024 1 := noti main_v1456
  let main_v1458 : IVec S32x1024 1 := cmpf .ogt main_v1433 main_v1451
  let main_v1459 : IVec S32x1024 1 := andi main_v1438 main_v1458
  let main_v1460 : IVec S32x1024 1 := ori main_v1457 main_v1459
  let main_v1461 : IVec S32x1024 1 := andi main_v1455 main_v1460
  let main_v1462 : FVec F S32x1024 .f32 := select main_v1461 main_v1451 main_v1433
  let main_v1463 : IVec S32x1024 1 := ori main_v1434 main_v1443
  let main_v1464 : IVec S32x1024 1 := andi main_v1443 main_v37
  let main_v1465 : IVec S32x1024 1 := noti main_v1464
  let main_v1466 : IVec S32x1024 1 := andi main_v1438 main_v1465
  let main_v1467 : IVec S32x1024 1 := ori main_v1466 main_v1461
  let main_v1468 : FVec F S32x1024 .f32 := addf main_v1462 main_v34
  let main_v1469 : FVec F S32x1024 .f32 := select main_v1467 main_v1468 main_v38
  let main_cst_206 : FVec F S_ .f32 := constant S_ .f32 0x7F800000#32
  let main_v1470 : FVec F S32 .f32 := (fun x v => Host.reduce FloatOps.minimumf x v reducesTo_S32x1024_S32_d1 h_S_) main_v1469 main_cst_206
  fn_part70 (F := F) main_arg0 main_arg1 main_arg2 main_v0 main_v34 main_v37 main_v38 main_v39 main_v40 main_v41 main_v1447 main_v1462 main_v1463 main_v1467 main_v1469 main_v1470

def fn_part68 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v1404 : FVec F S32x1024 .f32) (main_v1405 : IVec S32x1024 1) (main_v1409 : IVec S32x1024 1) (main_v1414 : IVec S32x1024 1) (main_v1418 : IVec S32 1) (main_v1422 : FVec F S32x1024 .f32) (main_v1426 : IVec S32x1024 1) (main_v1427 : IVec S32x1024 1) : IVec S32x32x32 1 :=
  let main_v1428 : IVec S32x1024 1 := noti main_v1427
  let main_v1429 : IVec S32x1024 1 := cmpf .ogt main_v1404 main_v1422
  let main_v1430 : IVec S32x1024 1 := andi main_v1409 main_v1429
  let main_v1431 : IVec S32x1024 1 := ori main_v1428 main_v1430
  let main_v1432 : IVec S32x1024 1 := andi main_v1426 main_v1431
  let main_v1433 : FVec F S32x1024 .f32 := select main_v1432 main_v1422 main_v1404
  let main_v1434 : IVec S32x1024 1 := ori main_v1405 main_v1414
  let main_v1435 : IVec S32x1024 1 := andi main_v1414 main_v37
  let main_v1436 : IVec S32x1024 1 := noti main_v1435
  let main_v1437 : IVec S32x1024 1 := andi main_v1409 main_v1436
  let main_v1438 : IVec S32x1024 1 := ori main_v1437 main_v1432
  let main_v1439 : FVec F S32x1024 .f32 := addf main_v1433 main_v34
  let main_v1440 : FVec F S32x1024 .f32 := select main_v1438 main_v1439 main_v38
  let main_cst_202 : FVec F S_ .f32 := constant S_ .f32 0x7F800000#32
  let main_v1441 : FVec F S32 .f32 := (fun x v => Host.reduce FloatOps.minimumf x v reducesTo_S32x1024_S32_d1 h_S_) main_v1440 main_cst_202
  let main_v1442 : FVec F S32x1024 .f32 := broadcastInDim S32x1024 ![0] bcast_S32_S32x1024_0 main_v1441
  let main_v1443 : IVec S32x1024 1 := cmpf .oeq main_v1440 main_v1442
  let main_v1444 : IVec S32x1024 32 := (extui 32 · natLt_1_32) main_v1443
  let main_c_203 : IVec S_ 32 := constantI S_ 32 0#32
  let main_v1445 : IVec S32 32 := (fun x v => Host.reduce IntOp.addi x v reducesTo_S32x1024_S32_d1 h_S_) main_v1444 main_c_203
  let main_v1446 : IVec S32 1 := cmpi .eq main_v1445 main_v41
  let main_v1447 : IVec S32 1 := andi main_v1418 main_v1446
  let main_v1448 : FVec F S32x1024 .f32 := addf main_v1433 main_v0
  let main_v1449 : FVec F S32x1024 .f32 := select main_v1443 main_v1448 main_v39
  fn_part69 (F := F) main_arg0 main_arg1 main_arg2 main_v0 main_v34 main_v37 main_v38 main_v39 main_v40 main_v41 main_v1433 main_v1434 main_v1438 main_v1443 main_v1444 main_v1447 main_v1449

def fn_part67 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v1380 : IVec S32x1024 1) (main_v1389 : IVec S32 1) (main_v1403 : IVec S32x1024 1) (main_v1404 : FVec F S32x1024 .f32) (main_v1405 : IVec S32x1024 1) (main_v1407 : IVec S32x1024 1) : IVec S32x32x32 1 :=
  let main_v1408 : IVec S32x1024 1 := andi main_v1380 main_v1407
  let main_v1409 : IVec S32x1024 1 := ori main_v1408 main_v1403
  let main_v1410 : FVec F S32x1024 .f32 := addf main_v1404 main_v34
  let main_v1411 : FVec F S32x1024 .f32 := select main_v1409 main_v1410 main_v38
  let main_cst_198 : FVec F S_ .f32 := constant S_ .f32 0x7F800000#32
  let main_v1412 : FVec F S32 .f32 := (fun x v => Host.reduce FloatOps.minimumf x v reducesTo_S32x1024_S32_d1 h_S_) main_v1411 main_cst_198
  let main_v1413 : FVec F S32x1024 .f32 := broadcastInDim S32x1024 ![0] bcast_S32_S32x1024_0 main_v1412
  let main_v1414 : IVec S32x1024 1 := cmpf .oeq main_v1411 main_v1413
  let main_v1415 : IVec S32x1024 32 := (extui 32 · natLt_1_32) main_v1414
  let main_c_199 : IVec S_ 32 := constantI S_ 32 0#32
  let main_v1416 : IVec S32 32 := (fun x v => Host.reduce IntOp.addi x v reducesTo_S32x1024_S32_d1 h_S_) main_v1415 main_c_199
  let main_v1417 : IVec S32 1 := cmpi .eq main_v1416 main_v41
  let main_v1418 : IVec S32 1 := andi main_v1389 main_v1417
  let main_v1419 : FVec F S32x1024 .f32 := addf main_v1404 main_v0
  let main_v1420 : FVec F S32x1024 .f32 := select main_v1414 main_v1419 main_v39
  let main_cst_200 : FVec F S_ .f32 := constant S_ .f32 0x00000000#32
  let main_v1421 : FVec F S32 .f32 := (fun x v => Host.reduceAdd x v reducesTo_S32x1024_S32_d1 h_S_) main_v1420 main_cst_200
  let main_v1422 : FVec F S32x1024 .f32 := broadcastInDim S32x1024 ![0] bcast_S32_S32x1024_0 main_v1421
  let main_v1423 : IVec S32x32x32 32 := shapeCast S32x32x32 main_v1415 shapeCasts_S32x1024_S32x32x32
  let main_c_201 : IVec S_ 32 := constantI S_ 32 2147483648#32
  let main_v1424 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v1423 main_c_201
  let main_v1425 : IVec S32x1024 32 := shapeCast S32x1024 main_v1424 shapeCasts_S32x32x32_S32x1024
  let main_v1426 : IVec S32x1024 1 := cmpi .sgt main_v1425 main_v40
  let main_v1427 : IVec S32x1024 1 := ori main_v1409 main_v1405
  fn_part68 (F := F) main_arg0 main_arg1 main_arg2 main_v0 main_v34 main_v37 main_v38 main_v39 main_v40 main_v41 main_v1404 main_v1405 main_v1409 main_v1414 main_v1418 main_v1422 main_v1426 main_v1427

def fn_part66 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v1360 : IVec S32 1) (main_v1375 : FVec F S32x1024 .f32) (main_v1376 : IVec S32x1024 1) (main_v1380 : IVec S32x1024 1) (main_v1385 : IVec S32x1024 1) (main_v1386 : IVec S32x1024 32) : IVec S32x32x32 1 :=
  let main_c_195 : IVec S_ 32 := constantI S_ 32 0#32
  let main_v1387 : IVec S32 32 := (fun x v => Host.reduce IntOp.addi x v reducesTo_S32x1024_S32_d1 h_S_) main_v1386 main_c_195
  let main_v1388 : IVec S32 1 := cmpi .eq main_v1387 main_v41
  let main_v1389 : IVec S32 1 := andi main_v1360 main_v1388
  let main_v1390 : FVec F S32x1024 .f32 := addf main_v1375 main_v0
  let main_v1391 : FVec F S32x1024 .f32 := select main_v1385 main_v1390 main_v39
  let main_cst_196 : FVec F S_ .f32 := constant S_ .f32 0x00000000#32
  let main_v1392 : FVec F S32 .f32 := (fun x v => Host.reduceAdd x v reducesTo_S32x1024_S32_d1 h_S_) main_v1391 main_cst_196
  let main_v1393 : FVec F S32x1024 .f32 := broadcastInDim S32x1024 ![0] bcast_S32_S32x1024_0 main_v1392
  let main_v1394 : IVec S32x32x32 32 := shapeCast S32x32x32 main_v1386 shapeCasts_S32x1024_S32x32x32
  let main_c_197 : IVec S_ 32 := constantI S_ 32 2147483648#32
  let main_v1395 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v1394 main_c_197
  let main_v1396 : IVec S32x1024 32 := shapeCast S32x1024 main_v1395 shapeCasts_S32x32x32_S32x1024
  let main_v1397 : IVec S32x1024 1 := cmpi .sgt main_v1396 main_v40
  let main_v1398 : IVec S32x1024 1 := ori main_v1380 main_v1376
  let main_v1399 : IVec S32x1024 1 := noti main_v1398
  let main_v1400 : IVec S32x1024 1 := cmpf .ogt main_v1375 main_v1393
  let main_v1401 : IVec S32x1024 1 := andi main_v1380 main_v1400
  let main_v1402 : IVec S32x1024 1 := ori main_v1399 main_v1401
  let main_v1403 : IVec S32x1024 1 := andi main_v1397 main_v1402
  let main_v1404 : FVec F S32x1024 .f32 := select main_v1403 main_v1393 main_v1375
  let main_v1405 : IVec S32x1024 1 := ori main_v1376 main_v1385
  let main_v1406 : IVec S32x1024 1 := andi main_v1385 main_v37
  let main_v1407 : IVec S32x1024 1 := noti main_v1406
  fn_part67 (F := F) main_arg0 main_arg1 main_arg2 main_v0 main_v34 main_v37 main_v38 main_v39 main_v40 main_v41 main_v1380 main_v1389 main_v1403 main_v1404 main_v1405 main_v1407

def fn_part65 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v1346 : FVec F S32x1024 .f32) (main_v1347 : IVec S32x1024 1) (main_v1351 : IVec S32x1024 1) (main_v1356 : IVec S32x1024 1) (main_v1357 : IVec S32x1024 32) (main_v1360 : IVec S32 1) (main_v1364 : FVec F S32x1024 .f32) : IVec S32x32x32 1 :=
  let main_v1365 : IVec S32x32x32 32 := shapeCast S32x32x32 main_v1357 shapeCasts_S32x1024_S32x32x32
  let main_c_193 : IVec S_ 32 := constantI S_ 32 2147483648#32
  let main_v1366 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v1365 main_c_193
  let main_v1367 : IVec S32x1024 32 := shapeCast S32x1024 main_v1366 shapeCasts_S32x32x32_S32x1024
  let main_v1368 : IVec S32x1024 1 := cmpi .sgt main_v1367 main_v40
  let main_v1369 : IVec S32x1024 1 := ori main_v1351 main_v1347
  let main_v1370 : IVec S32x1024 1 := noti main_v1369
  let main_v1371 : IVec S32x1024 1 := cmpf .ogt main_v1346 main_v1364
  let main_v1372 : IVec S32x1024 1 := andi main_v1351 main_v1371
  let main_v1373 : IVec S32x1024 1 := ori main_v1370 main_v1372
  let main_v1374 : IVec S32x1024 1 := andi main_v1368 main_v1373
  let main_v1375 : FVec F S32x1024 .f32 := select main_v1374 main_v1364 main_v1346
  let main_v1376 : IVec S32x1024 1 := ori main_v1347 main_v1356
  let main_v1377 : IVec S32x1024 1 := andi main_v1356 main_v37
  let main_v1378 : IVec S32x1024 1 := noti main_v1377
  let main_v1379 : IVec S32x1024 1 := andi main_v1351 main_v1378
  let main_v1380 : IVec S32x1024 1 := ori main_v1379 main_v1374
  let main_v1381 : FVec F S32x1024 .f32 := addf main_v1375 main_v34
  let main_v1382 : FVec F S32x1024 .f32 := select main_v1380 main_v1381 main_v38
  let main_cst_194 : FVec F S_ .f32 := constant S_ .f32 0x7F800000#32
  let main_v1383 : FVec F S32 .f32 := (fun x v => Host.reduce FloatOps.minimumf x v reducesTo_S32x1024_S32_d1 h_S_) main_v1382 main_cst_194
  let main_v1384 : FVec F S32x1024 .f32 := broadcastInDim S32x1024 ![0] bcast_S32_S32x1024_0 main_v1383
  let main_v1385 : IVec S32x1024 1 := cmpf .oeq main_v1382 main_v1384
  let main_v1386 : IVec S32x1024 32 := (extui 32 · natLt_1_32) main_v1385
  fn_part66 (F := F) main_arg0 main_arg1 main_arg2 main_v0 main_v34 main_v37 main_v38 main_v39 main_v40 main_v41 main_v1360 main_v1375 main_v1376 main_v1380 main_v1385 main_v1386

def fn_part64 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v1317 : FVec F S32x1024 .f32) (main_v1318 : IVec S32x1024 1) (main_v1322 : IVec S32x1024 1) (main_v1327 : IVec S32x1024 1) (main_v1331 : IVec S32 1) (main_v1335 : FVec F S32x1024 .f32) (main_v1339 : IVec S32x1024 1) (main_v1341 : IVec S32x1024 1) (main_v1343 : IVec S32x1024 1) : IVec S32x32x32 1 :=
  let main_v1344 : IVec S32x1024 1 := ori main_v1341 main_v1343
  let main_v1345 : IVec S32x1024 1 := andi main_v1339 main_v1344
  let main_v1346 : FVec F S32x1024 .f32 := select main_v1345 main_v1335 main_v1317
  let main_v1347 : IVec S32x1024 1 := ori main_v1318 main_v1327
  let main_v1348 : IVec S32x1024 1 := andi main_v1327 main_v37
  let main_v1349 : IVec S32x1024 1 := noti main_v1348
  let main_v1350 : IVec S32x1024 1 := andi main_v1322 main_v1349
  let main_v1351 : IVec S32x1024 1 := ori main_v1350 main_v1345
  let main_v1352 : FVec F S32x1024 .f32 := addf main_v1346 main_v34
  let main_v1353 : FVec F S32x1024 .f32 := select main_v1351 main_v1352 main_v38
  let main_cst_190 : FVec F S_ .f32 := constant S_ .f32 0x7F800000#32
  let main_v1354 : FVec F S32 .f32 := (fun x v => Host.reduce FloatOps.minimumf x v reducesTo_S32x1024_S32_d1 h_S_) main_v1353 main_cst_190
  let main_v1355 : FVec F S32x1024 .f32 := broadcastInDim S32x1024 ![0] bcast_S32_S32x1024_0 main_v1354
  let main_v1356 : IVec S32x1024 1 := cmpf .oeq main_v1353 main_v1355
  let main_v1357 : IVec S32x1024 32 := (extui 32 · natLt_1_32) main_v1356
  let main_c_191 : IVec S_ 32 := constantI S_ 32 0#32
  let main_v1358 : IVec S32 32 := (fun x v => Host.reduce IntOp.addi x v reducesTo_S32x1024_S32_d1 h_S_) main_v1357 main_c_191
  let main_v1359 : IVec S32 1 := cmpi .eq main_v1358 main_v41
  let main_v1360 : IVec S32 1 := andi main_v1331 main_v1359
  let main_v1361 : FVec F S32x1024 .f32 := addf main_v1346 main_v0
  let main_v1362 : FVec F S32x1024 .f32 := select main_v1356 main_v1361 main_v39
  let main_cst_192 : FVec F S_ .f32 := constant S_ .f32 0x00000000#32
  let main_v1363 : FVec F S32 .f32 := (fun x v => Host.reduceAdd x v reducesTo_S32x1024_S32_d1 h_S_) main_v1362 main_cst_192
  let main_v1364 : FVec F S32x1024 .f32 := broadcastInDim S32x1024 ![0] bcast_S32_S32x1024_0 main_v1363
  fn_part65 (F := F) main_arg0 main_arg1 main_arg2 main_v0 main_v34 main_v37 main_v38 main_v39 main_v40 main_v41 main_v1346 main_v1347 main_v1351 main_v1356 main_v1357 main_v1360 main_v1364

def fn_part63 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v1302 : IVec S32 1) (main_v1317 : FVec F S32x1024 .f32) (main_v1318 : IVec S32x1024 1) (main_v1322 : IVec S32x1024 1) (main_v1323 : FVec F S32x1024 .f32) : IVec S32x32x32 1 :=
  let main_v1324 : FVec F S32x1024 .f32 := select main_v1322 main_v1323 main_v38
  let main_cst_186 : FVec F S_ .f32 := constant S_ .f32 0x7F800000#32
  let main_v1325 : FVec F S32 .f32 := (fun x v => Host.reduce FloatOps.minimumf x v reducesTo_S32x1024_S32_d1 h_S_) main_v1324 main_cst_186
  let main_v1326 : FVec F S32x1024 .f32 := broadcastInDim S32x1024 ![0] bcast_S32_S32x1024_0 main_v1325
  let main_v1327 : IVec S32x1024 1 := cmpf .oeq main_v1324 main_v1326
  let main_v1328 : IVec S32x1024 32 := (extui 32 · natLt_1_32) main_v1327
  let main_c_187 : IVec S_ 32 := constantI S_ 32 0#32
  let main_v1329 : IVec S32 32 := (fun x v => Host.reduce IntOp.addi x v reducesTo_S32x1024_S32_d1 h_S_) main_v1328 main_c_187
  let main_v1330 : IVec S32 1 := cmpi .eq main_v1329 main_v41
  let main_v1331 : IVec S32 1 := andi main_v1302 main_v1330
  let main_v1332 : FVec F S32x1024 .f32 := addf main_v1317 main_v0
  let main_v1333 : FVec F S32x1024 .f32 := select main_v1327 main_v1332 main_v39
  let main_cst_188 : FVec F S_ .f32 := constant S_ .f32 0x00000000#32
  let main_v1334 : FVec F S32 .f32 := (fun x v => Host.reduceAdd x v reducesTo_S32x1024_S32_d1 h_S_) main_v1333 main_cst_188
  let main_v1335 : FVec F S32x1024 .f32 := broadcastInDim S32x1024 ![0] bcast_S32_S32x1024_0 main_v1334
  let main_v1336 : IVec S32x32x32 32 := shapeCast S32x32x32 main_v1328 shapeCasts_S32x1024_S32x32x32
  let main_c_189 : IVec S_ 32 := constantI S_ 32 2147483648#32
  let main_v1337 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v1336 main_c_189
  let main_v1338 : IVec S32x1024 32 := shapeCast S32x1024 main_v1337 shapeCasts_S32x32x32_S32x1024
  let main_v1339 : IVec S32x1024 1 := cmpi .sgt main_v1338 main_v40
  let main_v1340 : IVec S32x1024 1 := ori main_v1322 main_v1318
  let main_v1341 : IVec S32x1024 1 := noti main_v1340
  let main_v1342 : IVec S32x1024 1 := cmpf .ogt main_v1317 main_v1335
  let main_v1343 : IVec S32x1024 1 := andi main_v1322 main_v1342
  fn_part64 (F := F) main_arg0 main_arg1 main_arg2 main_v0 main_v34 main_v37 main_v38 main_v39 main_v40 main_v41 main_v1317 main_v1318 main_v1322 main_v1327 main_v1331 main_v1335 main_v1339 main_v1341 main_v1343

def fn_part62 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v1273 : IVec S32 1) (main_v1288 : FVec F S32x1024 .f32) (main_v1289 : IVec S32x1024 1) (main_v1293 : IVec S32x1024 1) (main_v1298 : IVec S32x1024 1) (main_v1299 : IVec S32x1024 32) (main_v1301 : IVec S32 1) : IVec S32x32x32 1 :=
  let main_v1302 : IVec S32 1 := andi main_v1273 main_v1301
  let main_v1303 : FVec F S32x1024 .f32 := addf main_v1288 main_v0
  let main_v1304 : FVec F S32x1024 .f32 := select main_v1298 main_v1303 main_v39
  let main_cst_184 : FVec F S_ .f32 := constant S_ .f32 0x00000000#32
  let main_v1305 : FVec F S32 .f32 := (fun x v => Host.reduceAdd x v reducesTo_S32x1024_S32_d1 h_S_) main_v1304 main_cst_184
  let main_v1306 : FVec F S32x1024 .f32 := broadcastInDim S32x1024 ![0] bcast_S32_S32x1024_0 main_v1305
  let main_v1307 : IVec S32x32x32 32 := shapeCast S32x32x32 main_v1299 shapeCasts_S32x1024_S32x32x32
  let main_c_185 : IVec S_ 32 := constantI S_ 32 2147483648#32
  let main_v1308 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v1307 main_c_185
  let main_v1309 : IVec S32x1024 32 := shapeCast S32x1024 main_v1308 shapeCasts_S32x32x32_S32x1024
  let main_v1310 : IVec S32x1024 1 := cmpi .sgt main_v1309 main_v40
  let main_v1311 : IVec S32x1024 1 := ori main_v1293 main_v1289
  let main_v1312 : IVec S32x1024 1 := noti main_v1311
  let main_v1313 : IVec S32x1024 1 := cmpf .ogt main_v1288 main_v1306
  let main_v1314 : IVec S32x1024 1 := andi main_v1293 main_v1313
  let main_v1315 : IVec S32x1024 1 := ori main_v1312 main_v1314
  let main_v1316 : IVec S32x1024 1 := andi main_v1310 main_v1315
  let main_v1317 : FVec F S32x1024 .f32 := select main_v1316 main_v1306 main_v1288
  let main_v1318 : IVec S32x1024 1 := ori main_v1289 main_v1298
  let main_v1319 : IVec S32x1024 1 := andi main_v1298 main_v37
  let main_v1320 : IVec S32x1024 1 := noti main_v1319
  let main_v1321 : IVec S32x1024 1 := andi main_v1293 main_v1320
  let main_v1322 : IVec S32x1024 1 := ori main_v1321 main_v1316
  let main_v1323 : FVec F S32x1024 .f32 := addf main_v1317 main_v34
  fn_part63 (F := F) main_arg0 main_arg1 main_arg2 main_v0 main_v34 main_v37 main_v38 main_v39 main_v40 main_v41 main_v1302 main_v1317 main_v1318 main_v1322 main_v1323

def fn_part61 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v1259 : FVec F S32x1024 .f32) (main_v1260 : IVec S32x1024 1) (main_v1264 : IVec S32x1024 1) (main_v1269 : IVec S32x1024 1) (main_v1273 : IVec S32 1) (main_v1277 : FVec F S32x1024 .f32) (main_v1279 : IVec S32x32x32 32) : IVec S32x32x32 1 :=
  let main_v1280 : IVec S32x1024 32 := shapeCast S32x1024 main_v1279 shapeCasts_S32x32x32_S32x1024
  let main_v1281 : IVec S32x1024 1 := cmpi .sgt main_v1280 main_v40
  let main_v1282 : IVec S32x1024 1 := ori main_v1264 main_v1260
  let main_v1283 : IVec S32x1024 1 := noti main_v1282
  let main_v1284 : IVec S32x1024 1 := cmpf .ogt main_v1259 main_v1277
  let main_v1285 : IVec S32x1024 1 := andi main_v1264 main_v1284
  let main_v1286 : IVec S32x1024 1 := ori main_v1283 main_v1285
  let main_v1287 : IVec S32x1024 1 := andi main_v1281 main_v1286
  let main_v1288 : FVec F S32x1024 .f32 := select main_v1287 main_v1277 main_v1259
  let main_v1289 : IVec S32x1024 1 := ori main_v1260 main_v1269
  let main_v1290 : IVec S32x1024 1 := andi main_v1269 main_v37
  let main_v1291 : IVec S32x1024 1 := noti main_v1290
  let main_v1292 : IVec S32x1024 1 := andi main_v1264 main_v1291
  let main_v1293 : IVec S32x1024 1 := ori main_v1292 main_v1287
  let main_v1294 : FVec F S32x1024 .f32 := addf main_v1288 main_v34
  let main_v1295 : FVec F S32x1024 .f32 := select main_v1293 main_v1294 main_v38
  let main_cst_182 : FVec F S_ .f32 := constant S_ .f32 0x7F800000#32
  let main_v1296 : FVec F S32 .f32 := (fun x v => Host.reduce FloatOps.minimumf x v reducesTo_S32x1024_S32_d1 h_S_) main_v1295 main_cst_182
  let main_v1297 : FVec F S32x1024 .f32 := broadcastInDim S32x1024 ![0] bcast_S32_S32x1024_0 main_v1296
  let main_v1298 : IVec S32x1024 1 := cmpf .oeq main_v1295 main_v1297
  let main_v1299 : IVec S32x1024 32 := (extui 32 · natLt_1_32) main_v1298
  let main_c_183 : IVec S_ 32 := constantI S_ 32 0#32
  let main_v1300 : IVec S32 32 := (fun x v => Host.reduce IntOp.addi x v reducesTo_S32x1024_S32_d1 h_S_) main_v1299 main_c_183
  let main_v1301 : IVec S32 1 := cmpi .eq main_v1300 main_v41
  fn_part62 (F := F) main_arg0 main_arg1 main_arg2 main_v0 main_v34 main_v37 main_v38 main_v39 main_v40 main_v41 main_v1273 main_v1288 main_v1289 main_v1293 main_v1298 main_v1299 main_v1301

def fn_part60 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v1231 : IVec S32x1024 1) (main_v1235 : IVec S32x1024 1) (main_v1240 : IVec S32x1024 1) (main_v1244 : IVec S32 1) (main_v1258 : IVec S32x1024 1) (main_v1259 : FVec F S32x1024 .f32) : IVec S32x32x32 1 :=
  let main_v1260 : IVec S32x1024 1 := ori main_v1231 main_v1240
  let main_v1261 : IVec S32x1024 1 := andi main_v1240 main_v37
  let main_v1262 : IVec S32x1024 1 := noti main_v1261
  let main_v1263 : IVec S32x1024 1 := andi main_v1235 main_v1262
  let main_v1264 : IVec S32x1024 1 := ori main_v1263 main_v1258
  let main_v1265 : FVec F S32x1024 .f32 := addf main_v1259 main_v34
  let main_v1266 : FVec F S32x1024 .f32 := select main_v1264 main_v1265 main_v38
  let main_cst_178 : FVec F S_ .f32 := constant S_ .f32 0x7F800000#32
  let main_v1267 : FVec F S32 .f32 := (fun x v => Host.reduce FloatOps.minimumf x v reducesTo_S32x1024_S32_d1 h_S_) main_v1266 main_cst_178
  let main_v1268 : FVec F S32x1024 .f32 := broadcastInDim S32x1024 ![0] bcast_S32_S32x1024_0 main_v1267
  let main_v1269 : IVec S32x1024 1 := cmpf .oeq main_v1266 main_v1268
  let main_v1270 : IVec S32x1024 32 := (extui 32 · natLt_1_32) main_v1269
  let main_c_179 : IVec S_ 32 := constantI S_ 32 0#32
  let main_v1271 : IVec S32 32 := (fun x v => Host.reduce IntOp.addi x v reducesTo_S32x1024_S32_d1 h_S_) main_v1270 main_c_179
  let main_v1272 : IVec S32 1 := cmpi .eq main_v1271 main_v41
  let main_v1273 : IVec S32 1 := andi main_v1244 main_v1272
  let main_v1274 : FVec F S32x1024 .f32 := addf main_v1259 main_v0
  let main_v1275 : FVec F S32x1024 .f32 := select main_v1269 main_v1274 main_v39
  let main_cst_180 : FVec F S_ .f32 := constant S_ .f32 0x00000000#32
  let main_v1276 : FVec F S32 .f32 := (fun x v => Host.reduceAdd x v reducesTo_S32x1024_S32_d1 h_S_) main_v1275 main_cst_180
  let main_v1277 : FVec F S32x1024 .f32 := broadcastInDim S32x1024 ![0] bcast_S32_S32x1024_0 main_v1276
  let main_v1278 : IVec S32x32x32 32 := shapeCast S32x32x32 main_v1270 shapeCasts_S32x1024_S32x32x32
  let main_c_181 : IVec S_ 32 := constantI S_ 32 2147483648#32
  let main_v1279 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v1278 main_c_181
  fn_part61 (F := F) main_arg0 main_arg1 main_arg2 main_v0 main_v34 main_v37 main_v38 main_v39 main_v40 main_v41 main_v1259 main_v1260 main_v1264 main_v1269 main_v1273 main_v1277 main_v1279

def fn_part59 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v1215 : IVec S32 1) (main_v1230 : FVec F S32x1024 .f32) (main_v1231 : IVec S32x1024 1) (main_v1235 : IVec S32x1024 1) (main_v1237 : FVec F S32x1024 .f32) (main_v1238 : FVec F S32 .f32) : IVec S32x32x32 1 :=
  let main_v1239 : FVec F S32x1024 .f32 := broadcastInDim S32x1024 ![0] bcast_S32_S32x1024_0 main_v1238
  let main_v1240 : IVec S32x1024 1 := cmpf .oeq main_v1237 main_v1239
  let main_v1241 : IVec S32x1024 32 := (extui 32 · natLt_1_32) main_v1240
  let main_c_175 : IVec S_ 32 := constantI S_ 32 0#32
  let main_v1242 : IVec S32 32 := (fun x v => Host.reduce IntOp.addi x v reducesTo_S32x1024_S32_d1 h_S_) main_v1241 main_c_175
  let main_v1243 : IVec S32 1 := cmpi .eq main_v1242 main_v41
  let main_v1244 : IVec S32 1 := andi main_v1215 main_v1243
  let main_v1245 : FVec F S32x1024 .f32 := addf main_v1230 main_v0
  let main_v1246 : FVec F S32x1024 .f32 := select main_v1240 main_v1245 main_v39
  let main_cst_176 : FVec F S_ .f32 := constant S_ .f32 0x00000000#32
  let main_v1247 : FVec F S32 .f32 := (fun x v => Host.reduceAdd x v reducesTo_S32x1024_S32_d1 h_S_) main_v1246 main_cst_176
  let main_v1248 : FVec F S32x1024 .f32 := broadcastInDim S32x1024 ![0] bcast_S32_S32x1024_0 main_v1247
  let main_v1249 : IVec S32x32x32 32 := shapeCast S32x32x32 main_v1241 shapeCasts_S32x1024_S32x32x32
  let main_c_177 : IVec S_ 32 := constantI S_ 32 2147483648#32
  let main_v1250 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v1249 main_c_177
  let main_v1251 : IVec S32x1024 32 := shapeCast S32x1024 main_v1250 shapeCasts_S32x32x32_S32x1024
  let main_v1252 : IVec S32x1024 1 := cmpi .sgt main_v1251 main_v40
  let main_v1253 : IVec S32x1024 1 := ori main_v1235 main_v1231
  let main_v1254 : IVec S32x1024 1 := noti main_v1253
  let main_v1255 : IVec S32x1024 1 := cmpf .ogt main_v1230 main_v1248
  let main_v1256 : IVec S32x1024 1 := andi main_v1235 main_v1255
  let main_v1257 : IVec S32x1024 1 := ori main_v1254 main_v1256
  let main_v1258 : IVec S32x1024 1 := andi main_v1252 main_v1257
  let main_v1259 : FVec F S32x1024 .f32 := select main_v1258 main_v1248 main_v1230
  fn_part60 (F := F) main_arg0 main_arg1 main_arg2 main_v0 main_v34 main_v37 main_v38 main_v39 main_v40 main_v41 main_v1231 main_v1235 main_v1240 main_v1244 main_v1258 main_v1259

def fn_part58 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v1201 : FVec F S32x1024 .f32) (main_v1202 : IVec S32x1024 1) (main_v1206 : IVec S32x1024 1) (main_v1211 : IVec S32x1024 1) (main_v1212 : IVec S32x1024 32) (main_v1215 : IVec S32 1) (main_v1217 : FVec F S32x1024 .f32) : IVec S32x32x32 1 :=
  let main_cst_172 : FVec F S_ .f32 := constant S_ .f32 0x00000000#32
  let main_v1218 : FVec F S32 .f32 := (fun x v => Host.reduceAdd x v reducesTo_S32x1024_S32_d1 h_S_) main_v1217 main_cst_172
  let main_v1219 : FVec F S32x1024 .f32 := broadcastInDim S32x1024 ![0] bcast_S32_S32x1024_0 main_v1218
  let main_v1220 : IVec S32x32x32 32 := shapeCast S32x32x32 main_v1212 shapeCasts_S32x1024_S32x32x32
  let main_c_173 : IVec S_ 32 := constantI S_ 32 2147483648#32
  let main_v1221 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v1220 main_c_173
  let main_v1222 : IVec S32x1024 32 := shapeCast S32x1024 main_v1221 shapeCasts_S32x32x32_S32x1024
  let main_v1223 : IVec S32x1024 1 := cmpi .sgt main_v1222 main_v40
  let main_v1224 : IVec S32x1024 1 := ori main_v1206 main_v1202
  let main_v1225 : IVec S32x1024 1 := noti main_v1224
  let main_v1226 : IVec S32x1024 1 := cmpf .ogt main_v1201 main_v1219
  let main_v1227 : IVec S32x1024 1 := andi main_v1206 main_v1226
  let main_v1228 : IVec S32x1024 1 := ori main_v1225 main_v1227
  let main_v1229 : IVec S32x1024 1 := andi main_v1223 main_v1228
  let main_v1230 : FVec F S32x1024 .f32 := select main_v1229 main_v1219 main_v1201
  let main_v1231 : IVec S32x1024 1 := ori main_v1202 main_v1211
  let main_v1232 : IVec S32x1024 1 := andi main_v1211 main_v37
  let main_v1233 : IVec S32x1024 1 := noti main_v1232
  let main_v1234 : IVec S32x1024 1 := andi main_v1206 main_v1233
  let main_v1235 : IVec S32x1024 1 := ori main_v1234 main_v1229
  let main_v1236 : FVec F S32x1024 .f32 := addf main_v1230 main_v34
  let main_v1237 : FVec F S32x1024 .f32 := select main_v1235 main_v1236 main_v38
  let main_cst_174 : FVec F S_ .f32 := constant S_ .f32 0x7F800000#32
  let main_v1238 : FVec F S32 .f32 := (fun x v => Host.reduce FloatOps.minimumf x v reducesTo_S32x1024_S32_d1 h_S_) main_v1237 main_cst_174
  fn_part59 (F := F) main_arg0 main_arg1 main_arg2 main_v0 main_v34 main_v37 main_v38 main_v39 main_v40 main_v41 main_v1215 main_v1230 main_v1231 main_v1235 main_v1237 main_v1238

def fn_part57 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v1172 : FVec F S32x1024 .f32) (main_v1173 : IVec S32x1024 1) (main_v1177 : IVec S32x1024 1) (main_v1182 : IVec S32x1024 1) (main_v1186 : IVec S32 1) (main_v1190 : FVec F S32x1024 .f32) (main_v1194 : IVec S32x1024 1) (main_v1195 : IVec S32x1024 1) : IVec S32x32x32 1 :=
  let main_v1196 : IVec S32x1024 1 := noti main_v1195
  let main_v1197 : IVec S32x1024 1 := cmpf .ogt main_v1172 main_v1190
  let main_v1198 : IVec S32x1024 1 := andi main_v1177 main_v1197
  let main_v1199 : IVec S32x1024 1 := ori main_v1196 main_v1198
  let main_v1200 : IVec S32x1024 1 := andi main_v1194 main_v1199
  let main_v1201 : FVec F S32x1024 .f32 := select main_v1200 main_v1190 main_v1172
  let main_v1202 : IVec S32x1024 1 := ori main_v1173 main_v1182
  let main_v1203 : IVec S32x1024 1 := andi main_v1182 main_v37
  let main_v1204 : IVec S32x1024 1 := noti main_v1203
  let main_v1205 : IVec S32x1024 1 := andi main_v1177 main_v1204
  let main_v1206 : IVec S32x1024 1 := ori main_v1205 main_v1200
  let main_v1207 : FVec F S32x1024 .f32 := addf main_v1201 main_v34
  let main_v1208 : FVec F S32x1024 .f32 := select main_v1206 main_v1207 main_v38
  let main_cst_170 : FVec F S_ .f32 := constant S_ .f32 0x7F800000#32
  let main_v1209 : FVec F S32 .f32 := (fun x v => Host.reduce FloatOps.minimumf x v reducesTo_S32x1024_S32_d1 h_S_) main_v1208 main_cst_170
  let main_v1210 : FVec F S32x1024 .f32 := broadcastInDim S32x1024 ![0] bcast_S32_S32x1024_0 main_v1209
  let main_v1211 : IVec S32x1024 1 := cmpf .oeq main_v1208 main_v1210
  let main_v1212 : IVec S32x1024 32 := (extui 32 · natLt_1_32) main_v1211
  let main_c_171 : IVec S_ 32 := constantI S_ 32 0#32
  let main_v1213 : IVec S32 32 := (fun x v => Host.reduce IntOp.addi x v reducesTo_S32x1024_S32_d1 h_S_) main_v1212 main_c_171
  let main_v1214 : IVec S32 1 := cmpi .eq main_v1213 main_v41
  let main_v1215 : IVec S32 1 := andi main_v1186 main_v1214
  let main_v1216 : FVec F S32x1024 .f32 := addf main_v1201 main_v0
  let main_v1217 : FVec F S32x1024 .f32 := select main_v1211 main_v1216 main_v39
  fn_part58 (F := F) main_arg0 main_arg1 main_arg2 main_v0 main_v34 main_v37 main_v38 main_v39 main_v40 main_v41 main_v1201 main_v1202 main_v1206 main_v1211 main_v1212 main_v1215 main_v1217

def fn_part56 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v1148 : IVec S32x1024 1) (main_v1157 : IVec S32 1) (main_v1171 : IVec S32x1024 1) (main_v1172 : FVec F S32x1024 .f32) (main_v1173 : IVec S32x1024 1) (main_v1175 : IVec S32x1024 1) : IVec S32x32x32 1 :=
  let main_v1176 : IVec S32x1024 1 := andi main_v1148 main_v1175
  let main_v1177 : IVec S32x1024 1 := ori main_v1176 main_v1171
  let main_v1178 : FVec F S32x1024 .f32 := addf main_v1172 main_v34
  let main_v1179 : FVec F S32x1024 .f32 := select main_v1177 main_v1178 main_v38
  let main_cst_166 : FVec F S_ .f32 := constant S_ .f32 0x7F800000#32
  let main_v1180 : FVec F S32 .f32 := (fun x v => Host.reduce FloatOps.minimumf x v reducesTo_S32x1024_S32_d1 h_S_) main_v1179 main_cst_166
  let main_v1181 : FVec F S32x1024 .f32 := broadcastInDim S32x1024 ![0] bcast_S32_S32x1024_0 main_v1180
  let main_v1182 : IVec S32x1024 1 := cmpf .oeq main_v1179 main_v1181
  let main_v1183 : IVec S32x1024 32 := (extui 32 · natLt_1_32) main_v1182
  let main_c_167 : IVec S_ 32 := constantI S_ 32 0#32
  let main_v1184 : IVec S32 32 := (fun x v => Host.reduce IntOp.addi x v reducesTo_S32x1024_S32_d1 h_S_) main_v1183 main_c_167
  let main_v1185 : IVec S32 1 := cmpi .eq main_v1184 main_v41
  let main_v1186 : IVec S32 1 := andi main_v1157 main_v1185
  let main_v1187 : FVec F S32x1024 .f32 := addf main_v1172 main_v0
  let main_v1188 : FVec F S32x1024 .f32 := select main_v1182 main_v1187 main_v39
  let main_cst_168 : FVec F S_ .f32 := constant S_ .f32 0x00000000#32
  let main_v1189 : FVec F S32 .f32 := (fun x v => Host.reduceAdd x v reducesTo_S32x1024_S32_d1 h_S_) main_v1188 main_cst_168
  let main_v1190 : FVec F S32x1024 .f32 := broadcastInDim S32x1024 ![0] bcast_S32_S32x1024_0 main_v1189
  let main_v1191 : IVec S32x32x32 32 := shapeCast S32x32x32 main_v1183 shapeCasts_S32x1024_S32x32x32
  let main_c_169 : IVec S_ 32 := constantI S_ 32 2147483648#32
  let main_v1192 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v1191 main_c_169
  let main_v1193 : IVec S32x1024 32 := shapeCast S32x1024 main_v1192 shapeCasts_S32x32x32_S32x1024
  let main_v1194 : IVec S32x1024 1 := cmpi .sgt main_v1193 main_v40
  let main_v1195 : IVec S32x1024 1 := ori main_v1177 main_v1173
  fn_part57 (F := F) main_arg0 main_arg1 main_arg2 main_v0 main_v34 main_v37 main_v38 main_v39 main_v40 main_v41 main_v1172 main_v1173 main_v1177 main_v1182 main_v1186 main_v1190 main_v1194 main_v1195

def fn_part55 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v1128 : IVec S32 1) (main_v1143 : FVec F S32x1024 .f32) (main_v1144 : IVec S32x1024 1) (main_v1148 : IVec S32x1024 1) (main_v1153 : IVec S32x1024 1) (main_v1154 : IVec S32x1024 32) : IVec S32x32x32 1 :=
  let main_c_163 : IVec S_ 32 := constantI S_ 32 0#32
  let main_v1155 : IVec S32 32 := (fun x v => Host.reduce IntOp.addi x v reducesTo_S32x1024_S32_d1 h_S_) main_v1154 main_c_163
  let main_v1156 : IVec S32 1 := cmpi .eq main_v1155 main_v41
  let main_v1157 : IVec S32 1 := andi main_v1128 main_v1156
  let main_v1158 : FVec F S32x1024 .f32 := addf main_v1143 main_v0
  let main_v1159 : FVec F S32x1024 .f32 := select main_v1153 main_v1158 main_v39
  let main_cst_164 : FVec F S_ .f32 := constant S_ .f32 0x00000000#32
  let main_v1160 : FVec F S32 .f32 := (fun x v => Host.reduceAdd x v reducesTo_S32x1024_S32_d1 h_S_) main_v1159 main_cst_164
  let main_v1161 : FVec F S32x1024 .f32 := broadcastInDim S32x1024 ![0] bcast_S32_S32x1024_0 main_v1160
  let main_v1162 : IVec S32x32x32 32 := shapeCast S32x32x32 main_v1154 shapeCasts_S32x1024_S32x32x32
  let main_c_165 : IVec S_ 32 := constantI S_ 32 2147483648#32
  let main_v1163 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v1162 main_c_165
  let main_v1164 : IVec S32x1024 32 := shapeCast S32x1024 main_v1163 shapeCasts_S32x32x32_S32x1024
  let main_v1165 : IVec S32x1024 1 := cmpi .sgt main_v1164 main_v40
  let main_v1166 : IVec S32x1024 1 := ori main_v1148 main_v1144
  let main_v1167 : IVec S32x1024 1 := noti main_v1166
  let main_v1168 : IVec S32x1024 1 := cmpf .ogt main_v1143 main_v1161
  let main_v1169 : IVec S32x1024 1 := andi main_v1148 main_v1168
  let main_v1170 : IVec S32x1024 1 := ori main_v1167 main_v1169
  let main_v1171 : IVec S32x1024 1 := andi main_v1165 main_v1170
  let main_v1172 : FVec F S32x1024 .f32 := select main_v1171 main_v1161 main_v1143
  let main_v1173 : IVec S32x1024 1 := ori main_v1144 main_v1153
  let main_v1174 : IVec S32x1024 1 := andi main_v1153 main_v37
  let main_v1175 : IVec S32x1024 1 := noti main_v1174
  fn_part56 (F := F) main_arg0 main_arg1 main_arg2 main_v0 main_v34 main_v37 main_v38 main_v39 main_v40 main_v41 main_v1148 main_v1157 main_v1171 main_v1172 main_v1173 main_v1175

def fn_part54 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v1114 : FVec F S32x1024 .f32) (main_v1115 : IVec S32x1024 1) (main_v1119 : IVec S32x1024 1) (main_v1124 : IVec S32x1024 1) (main_v1125 : IVec S32x1024 32) (main_v1128 : IVec S32 1) (main_v1132 : FVec F S32x1024 .f32) : IVec S32x32x32 1 :=
  let main_v1133 : IVec S32x32x32 32 := shapeCast S32x32x32 main_v1125 shapeCasts_S32x1024_S32x32x32
  let main_c_161 : IVec S_ 32 := constantI S_ 32 2147483648#32
  let main_v1134 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v1133 main_c_161
  let main_v1135 : IVec S32x1024 32 := shapeCast S32x1024 main_v1134 shapeCasts_S32x32x32_S32x1024
  let main_v1136 : IVec S32x1024 1 := cmpi .sgt main_v1135 main_v40
  let main_v1137 : IVec S32x1024 1 := ori main_v1119 main_v1115
  let main_v1138 : IVec S32x1024 1 := noti main_v1137
  let main_v1139 : IVec S32x1024 1 := cmpf .ogt main_v1114 main_v1132
  let main_v1140 : IVec S32x1024 1 := andi main_v1119 main_v1139
  let main_v1141 : IVec S32x1024 1 := ori main_v1138 main_v1140
  let main_v1142 : IVec S32x1024 1 := andi main_v1136 main_v1141
  let main_v1143 : FVec F S32x1024 .f32 := select main_v1142 main_v1132 main_v1114
  let main_v1144 : IVec S32x1024 1 := ori main_v1115 main_v1124
  let main_v1145 : IVec S32x1024 1 := andi main_v1124 main_v37
  let main_v1146 : IVec S32x1024 1 := noti main_v1145
  let main_v1147 : IVec S32x1024 1 := andi main_v1119 main_v1146
  let main_v1148 : IVec S32x1024 1 := ori main_v1147 main_v1142
  let main_v1149 : FVec F S32x1024 .f32 := addf main_v1143 main_v34
  let main_v1150 : FVec F S32x1024 .f32 := select main_v1148 main_v1149 main_v38
  let main_cst_162 : FVec F S_ .f32 := constant S_ .f32 0x7F800000#32
  let main_v1151 : FVec F S32 .f32 := (fun x v => Host.reduce FloatOps.minimumf x v reducesTo_S32x1024_S32_d1 h_S_) main_v1150 main_cst_162
  let main_v1152 : FVec F S32x1024 .f32 := broadcastInDim S32x1024 ![0] bcast_S32_S32x1024_0 main_v1151
  let main_v1153 : IVec S32x1024 1 := cmpf .oeq main_v1150 main_v1152
  let main_v1154 : IVec S32x1024 32 := (extui 32 · natLt_1_32) main_v1153
  fn_part55 (F := F) main_arg0 main_arg1 main_arg2 main_v0 main_v34 main_v37 main_v38 main_v39 main_v40 main_v41 main_v1128 main_v1143 main_v1144 main_v1148 main_v1153 main_v1154

def fn_part53 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v1085 : FVec F S32x1024 .f32) (main_v1086 : IVec S32x1024 1) (main_v1090 : IVec S32x1024 1) (main_v1095 : IVec S32x1024 1) (main_v1099 : IVec S32 1) (main_v1103 : FVec F S32x1024 .f32) (main_v1107 : IVec S32x1024 1) (main_v1109 : IVec S32x1024 1) (main_v1111 : IVec S32x1024 1) : IVec S32x32x32 1 :=
  let main_v1112 : IVec S32x1024 1 := ori main_v1109 main_v1111
  let main_v1113 : IVec S32x1024 1 := andi main_v1107 main_v1112
  let main_v1114 : FVec F S32x1024 .f32 := select main_v1113 main_v1103 main_v1085
  let main_v1115 : IVec S32x1024 1 := ori main_v1086 main_v1095
  let main_v1116 : IVec S32x1024 1 := andi main_v1095 main_v37
  let main_v1117 : IVec S32x1024 1 := noti main_v1116
  let main_v1118 : IVec S32x1024 1 := andi main_v1090 main_v1117
  let main_v1119 : IVec S32x1024 1 := ori main_v1118 main_v1113
  let main_v1120 : FVec F S32x1024 .f32 := addf main_v1114 main_v34
  let main_v1121 : FVec F S32x1024 .f32 := select main_v1119 main_v1120 main_v38
  let main_cst_158 : FVec F S_ .f32 := constant S_ .f32 0x7F800000#32
  let main_v1122 : FVec F S32 .f32 := (fun x v => Host.reduce FloatOps.minimumf x v reducesTo_S32x1024_S32_d1 h_S_) main_v1121 main_cst_158
  let main_v1123 : FVec F S32x1024 .f32 := broadcastInDim S32x1024 ![0] bcast_S32_S32x1024_0 main_v1122
  let main_v1124 : IVec S32x1024 1 := cmpf .oeq main_v1121 main_v1123
  let main_v1125 : IVec S32x1024 32 := (extui 32 · natLt_1_32) main_v1124
  let main_c_159 : IVec S_ 32 := constantI S_ 32 0#32
  let main_v1126 : IVec S32 32 := (fun x v => Host.reduce IntOp.addi x v reducesTo_S32x1024_S32_d1 h_S_) main_v1125 main_c_159
  let main_v1127 : IVec S32 1 := cmpi .eq main_v1126 main_v41
  let main_v1128 : IVec S32 1 := andi main_v1099 main_v1127
  let main_v1129 : FVec F S32x1024 .f32 := addf main_v1114 main_v0
  let main_v1130 : FVec F S32x1024 .f32 := select main_v1124 main_v1129 main_v39
  let main_cst_160 : FVec F S_ .f32 := constant S_ .f32 0x00000000#32
  let main_v1131 : FVec F S32 .f32 := (fun x v => Host.reduceAdd x v reducesTo_S32x1024_S32_d1 h_S_) main_v1130 main_cst_160
  let main_v1132 : FVec F S32x1024 .f32 := broadcastInDim S32x1024 ![0] bcast_S32_S32x1024_0 main_v1131
  fn_part54 (F := F) main_arg0 main_arg1 main_arg2 main_v0 main_v34 main_v37 main_v38 main_v39 main_v40 main_v41 main_v1114 main_v1115 main_v1119 main_v1124 main_v1125 main_v1128 main_v1132

def fn_part52 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v1070 : IVec S32 1) (main_v1085 : FVec F S32x1024 .f32) (main_v1086 : IVec S32x1024 1) (main_v1090 : IVec S32x1024 1) (main_v1091 : FVec F S32x1024 .f32) : IVec S32x32x32 1 :=
  let main_v1092 : FVec F S32x1024 .f32 := select main_v1090 main_v1091 main_v38
  let main_cst_154 : FVec F S_ .f32 := constant S_ .f32 0x7F800000#32
  let main_v1093 : FVec F S32 .f32 := (fun x v => Host.reduce FloatOps.minimumf x v reducesTo_S32x1024_S32_d1 h_S_) main_v1092 main_cst_154
  let main_v1094 : FVec F S32x1024 .f32 := broadcastInDim S32x1024 ![0] bcast_S32_S32x1024_0 main_v1093
  let main_v1095 : IVec S32x1024 1 := cmpf .oeq main_v1092 main_v1094
  let main_v1096 : IVec S32x1024 32 := (extui 32 · natLt_1_32) main_v1095
  let main_c_155 : IVec S_ 32 := constantI S_ 32 0#32
  let main_v1097 : IVec S32 32 := (fun x v => Host.reduce IntOp.addi x v reducesTo_S32x1024_S32_d1 h_S_) main_v1096 main_c_155
  let main_v1098 : IVec S32 1 := cmpi .eq main_v1097 main_v41
  let main_v1099 : IVec S32 1 := andi main_v1070 main_v1098
  let main_v1100 : FVec F S32x1024 .f32 := addf main_v1085 main_v0
  let main_v1101 : FVec F S32x1024 .f32 := select main_v1095 main_v1100 main_v39
  let main_cst_156 : FVec F S_ .f32 := constant S_ .f32 0x00000000#32
  let main_v1102 : FVec F S32 .f32 := (fun x v => Host.reduceAdd x v reducesTo_S32x1024_S32_d1 h_S_) main_v1101 main_cst_156
  let main_v1103 : FVec F S32x1024 .f32 := broadcastInDim S32x1024 ![0] bcast_S32_S32x1024_0 main_v1102
  let main_v1104 : IVec S32x32x32 32 := shapeCast S32x32x32 main_v1096 shapeCasts_S32x1024_S32x32x32
  let main_c_157 : IVec S_ 32 := constantI S_ 32 2147483648#32
  let main_v1105 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v1104 main_c_157
  let main_v1106 : IVec S32x1024 32 := shapeCast S32x1024 main_v1105 shapeCasts_S32x32x32_S32x1024
  let main_v1107 : IVec S32x1024 1 := cmpi .sgt main_v1106 main_v40
  let main_v1108 : IVec S32x1024 1 := ori main_v1090 main_v1086
  let main_v1109 : IVec S32x1024 1 := noti main_v1108
  let main_v1110 : IVec S32x1024 1 := cmpf .ogt main_v1085 main_v1103
  let main_v1111 : IVec S32x1024 1 := andi main_v1090 main_v1110
  fn_part53 (F := F) main_arg0 main_arg1 main_arg2 main_v0 main_v34 main_v37 main_v38 main_v39 main_v40 main_v41 main_v1085 main_v1086 main_v1090 main_v1095 main_v1099 main_v1103 main_v1107 main_v1109 main_v1111

def fn_part51 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v1041 : IVec S32 1) (main_v1056 : FVec F S32x1024 .f32) (main_v1057 : IVec S32x1024 1) (main_v1061 : IVec S32x1024 1) (main_v1066 : IVec S32x1024 1) (main_v1067 : IVec S32x1024 32) (main_v1069 : IVec S32 1) : IVec S32x32x32 1 :=
  let main_v1070 : IVec S32 1 := andi main_v1041 main_v1069
  let main_v1071 : FVec F S32x1024 .f32 := addf main_v1056 main_v0
  let main_v1072 : FVec F S32x1024 .f32 := select main_v1066 main_v1071 main_v39
  let main_cst_152 : FVec F S_ .f32 := constant S_ .f32 0x00000000#32
  let main_v1073 : FVec F S32 .f32 := (fun x v => Host.reduceAdd x v reducesTo_S32x1024_S32_d1 h_S_) main_v1072 main_cst_152
  let main_v1074 : FVec F S32x1024 .f32 := broadcastInDim S32x1024 ![0] bcast_S32_S32x1024_0 main_v1073
  let main_v1075 : IVec S32x32x32 32 := shapeCast S32x32x32 main_v1067 shapeCasts_S32x1024_S32x32x32
  let main_c_153 : IVec S_ 32 := constantI S_ 32 2147483648#32
  let main_v1076 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v1075 main_c_153
  let main_v1077 : IVec S32x1024 32 := shapeCast S32x1024 main_v1076 shapeCasts_S32x32x32_S32x1024
  let main_v1078 : IVec S32x1024 1 := cmpi .sgt main_v1077 main_v40
  let main_v1079 : IVec S32x1024 1 := ori main_v1061 main_v1057
  let main_v1080 : IVec S32x1024 1 := noti main_v1079
  let main_v1081 : IVec S32x1024 1 := cmpf .ogt main_v1056 main_v1074
  let main_v1082 : IVec S32x1024 1 := andi main_v1061 main_v1081
  let main_v1083 : IVec S32x1024 1 := ori main_v1080 main_v1082
  let main_v1084 : IVec S32x1024 1 := andi main_v1078 main_v1083
  let main_v1085 : FVec F S32x1024 .f32 := select main_v1084 main_v1074 main_v1056
  let main_v1086 : IVec S32x1024 1 := ori main_v1057 main_v1066
  let main_v1087 : IVec S32x1024 1 := andi main_v1066 main_v37
  let main_v1088 : IVec S32x1024 1 := noti main_v1087
  let main_v1089 : IVec S32x1024 1 := andi main_v1061 main_v1088
  let main_v1090 : IVec S32x1024 1 := ori main_v1089 main_v1084
  let main_v1091 : FVec F S32x1024 .f32 := addf main_v1085 main_v34
  fn_part52 (F := F) main_arg0 main_arg1 main_arg2 main_v0 main_v34 main_v37 main_v38 main_v39 main_v40 main_v41 main_v1070 main_v1085 main_v1086 main_v1090 main_v1091

def fn_part50 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v1027 : FVec F S32x1024 .f32) (main_v1028 : IVec S32x1024 1) (main_v1032 : IVec S32x1024 1) (main_v1037 : IVec S32x1024 1) (main_v1041 : IVec S32 1) (main_v1045 : FVec F S32x1024 .f32) (main_v1047 : IVec S32x32x32 32) : IVec S32x32x32 1 :=
  let main_v1048 : IVec S32x1024 32 := shapeCast S32x1024 main_v1047 shapeCasts_S32x32x32_S32x1024
  let main_v1049 : IVec S32x1024 1 := cmpi .sgt main_v1048 main_v40
  let main_v1050 : IVec S32x1024 1 := ori main_v1032 main_v1028
  let main_v1051 : IVec S32x1024 1 := noti main_v1050
  let main_v1052 : IVec S32x1024 1 := cmpf .ogt main_v1027 main_v1045
  let main_v1053 : IVec S32x1024 1 := andi main_v1032 main_v1052
  let main_v1054 : IVec S32x1024 1 := ori main_v1051 main_v1053
  let main_v1055 : IVec S32x1024 1 := andi main_v1049 main_v1054
  let main_v1056 : FVec F S32x1024 .f32 := select main_v1055 main_v1045 main_v1027
  let main_v1057 : IVec S32x1024 1 := ori main_v1028 main_v1037
  let main_v1058 : IVec S32x1024 1 := andi main_v1037 main_v37
  let main_v1059 : IVec S32x1024 1 := noti main_v1058
  let main_v1060 : IVec S32x1024 1 := andi main_v1032 main_v1059
  let main_v1061 : IVec S32x1024 1 := ori main_v1060 main_v1055
  let main_v1062 : FVec F S32x1024 .f32 := addf main_v1056 main_v34
  let main_v1063 : FVec F S32x1024 .f32 := select main_v1061 main_v1062 main_v38
  let main_cst_150 : FVec F S_ .f32 := constant S_ .f32 0x7F800000#32
  let main_v1064 : FVec F S32 .f32 := (fun x v => Host.reduce FloatOps.minimumf x v reducesTo_S32x1024_S32_d1 h_S_) main_v1063 main_cst_150
  let main_v1065 : FVec F S32x1024 .f32 := broadcastInDim S32x1024 ![0] bcast_S32_S32x1024_0 main_v1064
  let main_v1066 : IVec S32x1024 1 := cmpf .oeq main_v1063 main_v1065
  let main_v1067 : IVec S32x1024 32 := (extui 32 · natLt_1_32) main_v1066
  let main_c_151 : IVec S_ 32 := constantI S_ 32 0#32
  let main_v1068 : IVec S32 32 := (fun x v => Host.reduce IntOp.addi x v reducesTo_S32x1024_S32_d1 h_S_) main_v1067 main_c_151
  let main_v1069 : IVec S32 1 := cmpi .eq main_v1068 main_v41
  fn_part51 (F := F) main_arg0 main_arg1 main_arg2 main_v0 main_v34 main_v37 main_v38 main_v39 main_v40 main_v41 main_v1041 main_v1056 main_v1057 main_v1061 main_v1066 main_v1067 main_v1069

def fn_part49 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v999 : IVec S32x1024 1) (main_v1003 : IVec S32x1024 1) (main_v1008 : IVec S32x1024 1) (main_v1012 : IVec S32 1) (main_v1026 : IVec S32x1024 1) (main_v1027 : FVec F S32x1024 .f32) : IVec S32x32x32 1 :=
  let main_v1028 : IVec S32x1024 1 := ori main_v999 main_v1008
  let main_v1029 : IVec S32x1024 1 := andi main_v1008 main_v37
  let main_v1030 : IVec S32x1024 1 := noti main_v1029
  let main_v1031 : IVec S32x1024 1 := andi main_v1003 main_v1030
  let main_v1032 : IVec S32x1024 1 := ori main_v1031 main_v1026
  let main_v1033 : FVec F S32x1024 .f32 := addf main_v1027 main_v34
  let main_v1034 : FVec F S32x1024 .f32 := select main_v1032 main_v1033 main_v38
  let main_cst_146 : FVec F S_ .f32 := constant S_ .f32 0x7F800000#32
  let main_v1035 : FVec F S32 .f32 := (fun x v => Host.reduce FloatOps.minimumf x v reducesTo_S32x1024_S32_d1 h_S_) main_v1034 main_cst_146
  let main_v1036 : FVec F S32x1024 .f32 := broadcastInDim S32x1024 ![0] bcast_S32_S32x1024_0 main_v1035
  let main_v1037 : IVec S32x1024 1 := cmpf .oeq main_v1034 main_v1036
  let main_v1038 : IVec S32x1024 32 := (extui 32 · natLt_1_32) main_v1037
  let main_c_147 : IVec S_ 32 := constantI S_ 32 0#32
  let main_v1039 : IVec S32 32 := (fun x v => Host.reduce IntOp.addi x v reducesTo_S32x1024_S32_d1 h_S_) main_v1038 main_c_147
  let main_v1040 : IVec S32 1 := cmpi .eq main_v1039 main_v41
  let main_v1041 : IVec S32 1 := andi main_v1012 main_v1040
  let main_v1042 : FVec F S32x1024 .f32 := addf main_v1027 main_v0
  let main_v1043 : FVec F S32x1024 .f32 := select main_v1037 main_v1042 main_v39
  let main_cst_148 : FVec F S_ .f32 := constant S_ .f32 0x00000000#32
  let main_v1044 : FVec F S32 .f32 := (fun x v => Host.reduceAdd x v reducesTo_S32x1024_S32_d1 h_S_) main_v1043 main_cst_148
  let main_v1045 : FVec F S32x1024 .f32 := broadcastInDim S32x1024 ![0] bcast_S32_S32x1024_0 main_v1044
  let main_v1046 : IVec S32x32x32 32 := shapeCast S32x32x32 main_v1038 shapeCasts_S32x1024_S32x32x32
  let main_c_149 : IVec S_ 32 := constantI S_ 32 2147483648#32
  let main_v1047 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v1046 main_c_149
  fn_part50 (F := F) main_arg0 main_arg1 main_arg2 main_v0 main_v34 main_v37 main_v38 main_v39 main_v40 main_v41 main_v1027 main_v1028 main_v1032 main_v1037 main_v1041 main_v1045 main_v1047

def fn_part48 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v983 : IVec S32 1) (main_v998 : FVec F S32x1024 .f32) (main_v999 : IVec S32x1024 1) (main_v1003 : IVec S32x1024 1) (main_v1005 : FVec F S32x1024 .f32) (main_v1006 : FVec F S32 .f32) : IVec S32x32x32 1 :=
  let main_v1007 : FVec F S32x1024 .f32 := broadcastInDim S32x1024 ![0] bcast_S32_S32x1024_0 main_v1006
  let main_v1008 : IVec S32x1024 1 := cmpf .oeq main_v1005 main_v1007
  let main_v1009 : IVec S32x1024 32 := (extui 32 · natLt_1_32) main_v1008
  let main_c_143 : IVec S_ 32 := constantI S_ 32 0#32
  let main_v1010 : IVec S32 32 := (fun x v => Host.reduce IntOp.addi x v reducesTo_S32x1024_S32_d1 h_S_) main_v1009 main_c_143
  let main_v1011 : IVec S32 1 := cmpi .eq main_v1010 main_v41
  let main_v1012 : IVec S32 1 := andi main_v983 main_v1011
  let main_v1013 : FVec F S32x1024 .f32 := addf main_v998 main_v0
  let main_v1014 : FVec F S32x1024 .f32 := select main_v1008 main_v1013 main_v39
  let main_cst_144 : FVec F S_ .f32 := constant S_ .f32 0x00000000#32
  let main_v1015 : FVec F S32 .f32 := (fun x v => Host.reduceAdd x v reducesTo_S32x1024_S32_d1 h_S_) main_v1014 main_cst_144
  let main_v1016 : FVec F S32x1024 .f32 := broadcastInDim S32x1024 ![0] bcast_S32_S32x1024_0 main_v1015
  let main_v1017 : IVec S32x32x32 32 := shapeCast S32x32x32 main_v1009 shapeCasts_S32x1024_S32x32x32
  let main_c_145 : IVec S_ 32 := constantI S_ 32 2147483648#32
  let main_v1018 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v1017 main_c_145
  let main_v1019 : IVec S32x1024 32 := shapeCast S32x1024 main_v1018 shapeCasts_S32x32x32_S32x1024
  let main_v1020 : IVec S32x1024 1 := cmpi .sgt main_v1019 main_v40
  let main_v1021 : IVec S32x1024 1 := ori main_v1003 main_v999
  let main_v1022 : IVec S32x1024 1 := noti main_v1021
  let main_v1023 : IVec S32x1024 1 := cmpf .ogt main_v998 main_v1016
  let main_v1024 : IVec S32x1024 1 := andi main_v1003 main_v1023
  let main_v1025 : IVec S32x1024 1 := ori main_v1022 main_v1024
  let main_v1026 : IVec S32x1024 1 := andi main_v1020 main_v1025
  let main_v1027 : FVec F S32x1024 .f32 := select main_v1026 main_v1016 main_v998
  fn_part49 (F := F) main_arg0 main_arg1 main_arg2 main_v0 main_v34 main_v37 main_v38 main_v39 main_v40 main_v41 main_v999 main_v1003 main_v1008 main_v1012 main_v1026 main_v1027

def fn_part47 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v969 : FVec F S32x1024 .f32) (main_v970 : IVec S32x1024 1) (main_v974 : IVec S32x1024 1) (main_v979 : IVec S32x1024 1) (main_v980 : IVec S32x1024 32) (main_v983 : IVec S32 1) (main_v985 : FVec F S32x1024 .f32) : IVec S32x32x32 1 :=
  let main_cst_140 : FVec F S_ .f32 := constant S_ .f32 0x00000000#32
  let main_v986 : FVec F S32 .f32 := (fun x v => Host.reduceAdd x v reducesTo_S32x1024_S32_d1 h_S_) main_v985 main_cst_140
  let main_v987 : FVec F S32x1024 .f32 := broadcastInDim S32x1024 ![0] bcast_S32_S32x1024_0 main_v986
  let main_v988 : IVec S32x32x32 32 := shapeCast S32x32x32 main_v980 shapeCasts_S32x1024_S32x32x32
  let main_c_141 : IVec S_ 32 := constantI S_ 32 2147483648#32
  let main_v989 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v988 main_c_141
  let main_v990 : IVec S32x1024 32 := shapeCast S32x1024 main_v989 shapeCasts_S32x32x32_S32x1024
  let main_v991 : IVec S32x1024 1 := cmpi .sgt main_v990 main_v40
  let main_v992 : IVec S32x1024 1 := ori main_v974 main_v970
  let main_v993 : IVec S32x1024 1 := noti main_v992
  let main_v994 : IVec S32x1024 1 := cmpf .ogt main_v969 main_v987
  let main_v995 : IVec S32x1024 1 := andi main_v974 main_v994
  let main_v996 : IVec S32x1024 1 := ori main_v993 main_v995
  let main_v997 : IVec S32x1024 1 := andi main_v991 main_v996
  let main_v998 : FVec F S32x1024 .f32 := select main_v997 main_v987 main_v969
  let main_v999 : IVec S32x1024 1 := ori main_v970 main_v979
  let main_v1000 : IVec S32x1024 1 := andi main_v979 main_v37
  let main_v1001 : IVec S32x1024 1 := noti main_v1000
  let main_v1002 : IVec S32x1024 1 := andi main_v974 main_v1001
  let main_v1003 : IVec S32x1024 1 := ori main_v1002 main_v997
  let main_v1004 : FVec F S32x1024 .f32 := addf main_v998 main_v34
  let main_v1005 : FVec F S32x1024 .f32 := select main_v1003 main_v1004 main_v38
  let main_cst_142 : FVec F S_ .f32 := constant S_ .f32 0x7F800000#32
  let main_v1006 : FVec F S32 .f32 := (fun x v => Host.reduce FloatOps.minimumf x v reducesTo_S32x1024_S32_d1 h_S_) main_v1005 main_cst_142
  fn_part48 (F := F) main_arg0 main_arg1 main_arg2 main_v0 main_v34 main_v37 main_v38 main_v39 main_v40 main_v41 main_v983 main_v998 main_v999 main_v1003 main_v1005 main_v1006

def fn_part46 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v940 : FVec F S32x1024 .f32) (main_v941 : IVec S32x1024 1) (main_v945 : IVec S32x1024 1) (main_v950 : IVec S32x1024 1) (main_v954 : IVec S32 1) (main_v958 : FVec F S32x1024 .f32) (main_v962 : IVec S32x1024 1) (main_v963 : IVec S32x1024 1) : IVec S32x32x32 1 :=
  let main_v964 : IVec S32x1024 1 := noti main_v963
  let main_v965 : IVec S32x1024 1 := cmpf .ogt main_v940 main_v958
  let main_v966 : IVec S32x1024 1 := andi main_v945 main_v965
  let main_v967 : IVec S32x1024 1 := ori main_v964 main_v966
  let main_v968 : IVec S32x1024 1 := andi main_v962 main_v967
  let main_v969 : FVec F S32x1024 .f32 := select main_v968 main_v958 main_v940
  let main_v970 : IVec S32x1024 1 := ori main_v941 main_v950
  let main_v971 : IVec S32x1024 1 := andi main_v950 main_v37
  let main_v972 : IVec S32x1024 1 := noti main_v971
  let main_v973 : IVec S32x1024 1 := andi main_v945 main_v972
  let main_v974 : IVec S32x1024 1 := ori main_v973 main_v968
  let main_v975 : FVec F S32x1024 .f32 := addf main_v969 main_v34
  let main_v976 : FVec F S32x1024 .f32 := select main_v974 main_v975 main_v38
  let main_cst_138 : FVec F S_ .f32 := constant S_ .f32 0x7F800000#32
  let main_v977 : FVec F S32 .f32 := (fun x v => Host.reduce FloatOps.minimumf x v reducesTo_S32x1024_S32_d1 h_S_) main_v976 main_cst_138
  let main_v978 : FVec F S32x1024 .f32 := broadcastInDim S32x1024 ![0] bcast_S32_S32x1024_0 main_v977
  let main_v979 : IVec S32x1024 1 := cmpf .oeq main_v976 main_v978
  let main_v980 : IVec S32x1024 32 := (extui 32 · natLt_1_32) main_v979
  let main_c_139 : IVec S_ 32 := constantI S_ 32 0#32
  let main_v981 : IVec S32 32 := (fun x v => Host.reduce IntOp.addi x v reducesTo_S32x1024_S32_d1 h_S_) main_v980 main_c_139
  let main_v982 : IVec S32 1 := cmpi .eq main_v981 main_v41
  let main_v983 : IVec S32 1 := andi main_v954 main_v982
  let main_v984 : FVec F S32x1024 .f32 := addf main_v969 main_v0
  let main_v985 : FVec F S32x1024 .f32 := select main_v979 main_v984 main_v39
  fn_part47 (F := F) main_arg0 main_arg1 main_arg2 main_v0 main_v34 main_v37 main_v38 main_v39 main_v40 main_v41 main_v969 main_v970 main_v974 main_v979 main_v980 main_v983 main_v985

def fn_part45 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v916 : IVec S32x1024 1) (main_v925 : IVec S32 1) (main_v939 : IVec S32x1024 1) (main_v940 : FVec F S32x1024 .f32) (main_v941 : IVec S32x1024 1) (main_v943 : IVec S32x1024 1) : IVec S32x32x32 1 :=
  let main_v944 : IVec S32x1024 1 := andi main_v916 main_v943
  let main_v945 : IVec S32x1024 1 := ori main_v944 main_v939
  let main_v946 : FVec F S32x1024 .f32 := addf main_v940 main_v34
  let main_v947 : FVec F S32x1024 .f32 := select main_v945 main_v946 main_v38
  let main_cst_134 : FVec F S_ .f32 := constant S_ .f32 0x7F800000#32
  let main_v948 : FVec F S32 .f32 := (fun x v => Host.reduce FloatOps.minimumf x v reducesTo_S32x1024_S32_d1 h_S_) main_v947 main_cst_134
  let main_v949 : FVec F S32x1024 .f32 := broadcastInDim S32x1024 ![0] bcast_S32_S32x1024_0 main_v948
  let main_v950 : IVec S32x1024 1 := cmpf .oeq main_v947 main_v949
  let main_v951 : IVec S32x1024 32 := (extui 32 · natLt_1_32) main_v950
  let main_c_135 : IVec S_ 32 := constantI S_ 32 0#32
  let main_v952 : IVec S32 32 := (fun x v => Host.reduce IntOp.addi x v reducesTo_S32x1024_S32_d1 h_S_) main_v951 main_c_135
  let main_v953 : IVec S32 1 := cmpi .eq main_v952 main_v41
  let main_v954 : IVec S32 1 := andi main_v925 main_v953
  let main_v955 : FVec F S32x1024 .f32 := addf main_v940 main_v0
  let main_v956 : FVec F S32x1024 .f32 := select main_v950 main_v955 main_v39
  let main_cst_136 : FVec F S_ .f32 := constant S_ .f32 0x00000000#32
  let main_v957 : FVec F S32 .f32 := (fun x v => Host.reduceAdd x v reducesTo_S32x1024_S32_d1 h_S_) main_v956 main_cst_136
  let main_v958 : FVec F S32x1024 .f32 := broadcastInDim S32x1024 ![0] bcast_S32_S32x1024_0 main_v957
  let main_v959 : IVec S32x32x32 32 := shapeCast S32x32x32 main_v951 shapeCasts_S32x1024_S32x32x32
  let main_c_137 : IVec S_ 32 := constantI S_ 32 2147483648#32
  let main_v960 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v959 main_c_137
  let main_v961 : IVec S32x1024 32 := shapeCast S32x1024 main_v960 shapeCasts_S32x32x32_S32x1024
  let main_v962 : IVec S32x1024 1 := cmpi .sgt main_v961 main_v40
  let main_v963 : IVec S32x1024 1 := ori main_v945 main_v941
  fn_part46 (F := F) main_arg0 main_arg1 main_arg2 main_v0 main_v34 main_v37 main_v38 main_v39 main_v40 main_v41 main_v940 main_v941 main_v945 main_v950 main_v954 main_v958 main_v962 main_v963

def fn_part44 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v896 : IVec S32 1) (main_v911 : FVec F S32x1024 .f32) (main_v912 : IVec S32x1024 1) (main_v916 : IVec S32x1024 1) (main_v921 : IVec S32x1024 1) (main_v922 : IVec S32x1024 32) : IVec S32x32x32 1 :=
  let main_c_131 : IVec S_ 32 := constantI S_ 32 0#32
  let main_v923 : IVec S32 32 := (fun x v => Host.reduce IntOp.addi x v reducesTo_S32x1024_S32_d1 h_S_) main_v922 main_c_131
  let main_v924 : IVec S32 1 := cmpi .eq main_v923 main_v41
  let main_v925 : IVec S32 1 := andi main_v896 main_v924
  let main_v926 : FVec F S32x1024 .f32 := addf main_v911 main_v0
  let main_v927 : FVec F S32x1024 .f32 := select main_v921 main_v926 main_v39
  let main_cst_132 : FVec F S_ .f32 := constant S_ .f32 0x00000000#32
  let main_v928 : FVec F S32 .f32 := (fun x v => Host.reduceAdd x v reducesTo_S32x1024_S32_d1 h_S_) main_v927 main_cst_132
  let main_v929 : FVec F S32x1024 .f32 := broadcastInDim S32x1024 ![0] bcast_S32_S32x1024_0 main_v928
  let main_v930 : IVec S32x32x32 32 := shapeCast S32x32x32 main_v922 shapeCasts_S32x1024_S32x32x32
  let main_c_133 : IVec S_ 32 := constantI S_ 32 2147483648#32
  let main_v931 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v930 main_c_133
  let main_v932 : IVec S32x1024 32 := shapeCast S32x1024 main_v931 shapeCasts_S32x32x32_S32x1024
  let main_v933 : IVec S32x1024 1 := cmpi .sgt main_v932 main_v40
  let main_v934 : IVec S32x1024 1 := ori main_v916 main_v912
  let main_v935 : IVec S32x1024 1 := noti main_v934
  let main_v936 : IVec S32x1024 1 := cmpf .ogt main_v911 main_v929
  let main_v937 : IVec S32x1024 1 := andi main_v916 main_v936
  let main_v938 : IVec S32x1024 1 := ori main_v935 main_v937
  let main_v939 : IVec S32x1024 1 := andi main_v933 main_v938
  let main_v940 : FVec F S32x1024 .f32 := select main_v939 main_v929 main_v911
  let main_v941 : IVec S32x1024 1 := ori main_v912 main_v921
  let main_v942 : IVec S32x1024 1 := andi main_v921 main_v37
  let main_v943 : IVec S32x1024 1 := noti main_v942
  fn_part45 (F := F) main_arg0 main_arg1 main_arg2 main_v0 main_v34 main_v37 main_v38 main_v39 main_v40 main_v41 main_v916 main_v925 main_v939 main_v940 main_v941 main_v943

def fn_part43 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v882 : FVec F S32x1024 .f32) (main_v883 : IVec S32x1024 1) (main_v887 : IVec S32x1024 1) (main_v892 : IVec S32x1024 1) (main_v893 : IVec S32x1024 32) (main_v896 : IVec S32 1) (main_v900 : FVec F S32x1024 .f32) : IVec S32x32x32 1 :=
  let main_v901 : IVec S32x32x32 32 := shapeCast S32x32x32 main_v893 shapeCasts_S32x1024_S32x32x32
  let main_c_129 : IVec S_ 32 := constantI S_ 32 2147483648#32
  let main_v902 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v901 main_c_129
  let main_v903 : IVec S32x1024 32 := shapeCast S32x1024 main_v902 shapeCasts_S32x32x32_S32x1024
  let main_v904 : IVec S32x1024 1 := cmpi .sgt main_v903 main_v40
  let main_v905 : IVec S32x1024 1 := ori main_v887 main_v883
  let main_v906 : IVec S32x1024 1 := noti main_v905
  let main_v907 : IVec S32x1024 1 := cmpf .ogt main_v882 main_v900
  let main_v908 : IVec S32x1024 1 := andi main_v887 main_v907
  let main_v909 : IVec S32x1024 1 := ori main_v906 main_v908
  let main_v910 : IVec S32x1024 1 := andi main_v904 main_v909
  let main_v911 : FVec F S32x1024 .f32 := select main_v910 main_v900 main_v882
  let main_v912 : IVec S32x1024 1 := ori main_v883 main_v892
  let main_v913 : IVec S32x1024 1 := andi main_v892 main_v37
  let main_v914 : IVec S32x1024 1 := noti main_v913
  let main_v915 : IVec S32x1024 1 := andi main_v887 main_v914
  let main_v916 : IVec S32x1024 1 := ori main_v915 main_v910
  let main_v917 : FVec F S32x1024 .f32 := addf main_v911 main_v34
  let main_v918 : FVec F S32x1024 .f32 := select main_v916 main_v917 main_v38
  let main_cst_130 : FVec F S_ .f32 := constant S_ .f32 0x7F800000#32
  let main_v919 : FVec F S32 .f32 := (fun x v => Host.reduce FloatOps.minimumf x v reducesTo_S32x1024_S32_d1 h_S_) main_v918 main_cst_130
  let main_v920 : FVec F S32x1024 .f32 := broadcastInDim S32x1024 ![0] bcast_S32_S32x1024_0 main_v919
  let main_v921 : IVec S32x1024 1 := cmpf .oeq main_v918 main_v920
  let main_v922 : IVec S32x1024 32 := (extui 32 · natLt_1_32) main_v921
  fn_part44 (F := F) main_arg0 main_arg1 main_arg2 main_v0 main_v34 main_v37 main_v38 main_v39 main_v40 main_v41 main_v896 main_v911 main_v912 main_v916 main_v921 main_v922

def fn_part42 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v853 : FVec F S32x1024 .f32) (main_v854 : IVec S32x1024 1) (main_v858 : IVec S32x1024 1) (main_v863 : IVec S32x1024 1) (main_v867 : IVec S32 1) (main_v871 : FVec F S32x1024 .f32) (main_v875 : IVec S32x1024 1) (main_v877 : IVec S32x1024 1) (main_v879 : IVec S32x1024 1) : IVec S32x32x32 1 :=
  let main_v880 : IVec S32x1024 1 := ori main_v877 main_v879
  let main_v881 : IVec S32x1024 1 := andi main_v875 main_v880
  let main_v882 : FVec F S32x1024 .f32 := select main_v881 main_v871 main_v853
  let main_v883 : IVec S32x1024 1 := ori main_v854 main_v863
  let main_v884 : IVec S32x1024 1 := andi main_v863 main_v37
  let main_v885 : IVec S32x1024 1 := noti main_v884
  let main_v886 : IVec S32x1024 1 := andi main_v858 main_v885
  let main_v887 : IVec S32x1024 1 := ori main_v886 main_v881
  let main_v888 : FVec F S32x1024 .f32 := addf main_v882 main_v34
  let main_v889 : FVec F S32x1024 .f32 := select main_v887 main_v888 main_v38
  let main_cst_126 : FVec F S_ .f32 := constant S_ .f32 0x7F800000#32
  let main_v890 : FVec F S32 .f32 := (fun x v => Host.reduce FloatOps.minimumf x v reducesTo_S32x1024_S32_d1 h_S_) main_v889 main_cst_126
  let main_v891 : FVec F S32x1024 .f32 := broadcastInDim S32x1024 ![0] bcast_S32_S32x1024_0 main_v890
  let main_v892 : IVec S32x1024 1 := cmpf .oeq main_v889 main_v891
  let main_v893 : IVec S32x1024 32 := (extui 32 · natLt_1_32) main_v892
  let main_c_127 : IVec S_ 32 := constantI S_ 32 0#32
  let main_v894 : IVec S32 32 := (fun x v => Host.reduce IntOp.addi x v reducesTo_S32x1024_S32_d1 h_S_) main_v893 main_c_127
  let main_v895 : IVec S32 1 := cmpi .eq main_v894 main_v41
  let main_v896 : IVec S32 1 := andi main_v867 main_v895
  let main_v897 : FVec F S32x1024 .f32 := addf main_v882 main_v0
  let main_v898 : FVec F S32x1024 .f32 := select main_v892 main_v897 main_v39
  let main_cst_128 : FVec F S_ .f32 := constant S_ .f32 0x00000000#32
  let main_v899 : FVec F S32 .f32 := (fun x v => Host.reduceAdd x v reducesTo_S32x1024_S32_d1 h_S_) main_v898 main_cst_128
  let main_v900 : FVec F S32x1024 .f32 := broadcastInDim S32x1024 ![0] bcast_S32_S32x1024_0 main_v899
  fn_part43 (F := F) main_arg0 main_arg1 main_arg2 main_v0 main_v34 main_v37 main_v38 main_v39 main_v40 main_v41 main_v882 main_v883 main_v887 main_v892 main_v893 main_v896 main_v900

def fn_part41 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v838 : IVec S32 1) (main_v853 : FVec F S32x1024 .f32) (main_v854 : IVec S32x1024 1) (main_v858 : IVec S32x1024 1) (main_v859 : FVec F S32x1024 .f32) : IVec S32x32x32 1 :=
  let main_v860 : FVec F S32x1024 .f32 := select main_v858 main_v859 main_v38
  let main_cst_122 : FVec F S_ .f32 := constant S_ .f32 0x7F800000#32
  let main_v861 : FVec F S32 .f32 := (fun x v => Host.reduce FloatOps.minimumf x v reducesTo_S32x1024_S32_d1 h_S_) main_v860 main_cst_122
  let main_v862 : FVec F S32x1024 .f32 := broadcastInDim S32x1024 ![0] bcast_S32_S32x1024_0 main_v861
  let main_v863 : IVec S32x1024 1 := cmpf .oeq main_v860 main_v862
  let main_v864 : IVec S32x1024 32 := (extui 32 · natLt_1_32) main_v863
  let main_c_123 : IVec S_ 32 := constantI S_ 32 0#32
  let main_v865 : IVec S32 32 := (fun x v => Host.reduce IntOp.addi x v reducesTo_S32x1024_S32_d1 h_S_) main_v864 main_c_123
  let main_v866 : IVec S32 1 := cmpi .eq main_v865 main_v41
  let main_v867 : IVec S32 1 := andi main_v838 main_v866
  let main_v868 : FVec F S32x1024 .f32 := addf main_v853 main_v0
  let main_v869 : FVec F S32x1024 .f32 := select main_v863 main_v868 main_v39
  let main_cst_124 : FVec F S_ .f32 := constant S_ .f32 0x00000000#32
  let main_v870 : FVec F S32 .f32 := (fun x v => Host.reduceAdd x v reducesTo_S32x1024_S32_d1 h_S_) main_v869 main_cst_124
  let main_v871 : FVec F S32x1024 .f32 := broadcastInDim S32x1024 ![0] bcast_S32_S32x1024_0 main_v870
  let main_v872 : IVec S32x32x32 32 := shapeCast S32x32x32 main_v864 shapeCasts_S32x1024_S32x32x32
  let main_c_125 : IVec S_ 32 := constantI S_ 32 2147483648#32
  let main_v873 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v872 main_c_125
  let main_v874 : IVec S32x1024 32 := shapeCast S32x1024 main_v873 shapeCasts_S32x32x32_S32x1024
  let main_v875 : IVec S32x1024 1 := cmpi .sgt main_v874 main_v40
  let main_v876 : IVec S32x1024 1 := ori main_v858 main_v854
  let main_v877 : IVec S32x1024 1 := noti main_v876
  let main_v878 : IVec S32x1024 1 := cmpf .ogt main_v853 main_v871
  let main_v879 : IVec S32x1024 1 := andi main_v858 main_v878
  fn_part42 (F := F) main_arg0 main_arg1 main_arg2 main_v0 main_v34 main_v37 main_v38 main_v39 main_v40 main_v41 main_v853 main_v854 main_v858 main_v863 main_v867 main_v871 main_v875 main_v877 main_v879

def fn_part40 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v809 : IVec S32 1) (main_v824 : FVec F S32x1024 .f32) (main_v825 : IVec S32x1024 1) (main_v829 : IVec S32x1024 1) (main_v834 : IVec S32x1024 1) (main_v835 : IVec S32x1024 32) (main_v837 : IVec S32 1) : IVec S32x32x32 1 :=
  let main_v838 : IVec S32 1 := andi main_v809 main_v837
  let main_v839 : FVec F S32x1024 .f32 := addf main_v824 main_v0
  let main_v840 : FVec F S32x1024 .f32 := select main_v834 main_v839 main_v39
  let main_cst_120 : FVec F S_ .f32 := constant S_ .f32 0x00000000#32
  let main_v841 : FVec F S32 .f32 := (fun x v => Host.reduceAdd x v reducesTo_S32x1024_S32_d1 h_S_) main_v840 main_cst_120
  let main_v842 : FVec F S32x1024 .f32 := broadcastInDim S32x1024 ![0] bcast_S32_S32x1024_0 main_v841
  let main_v843 : IVec S32x32x32 32 := shapeCast S32x32x32 main_v835 shapeCasts_S32x1024_S32x32x32
  let main_c_121 : IVec S_ 32 := constantI S_ 32 2147483648#32
  let main_v844 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v843 main_c_121
  let main_v845 : IVec S32x1024 32 := shapeCast S32x1024 main_v844 shapeCasts_S32x32x32_S32x1024
  let main_v846 : IVec S32x1024 1 := cmpi .sgt main_v845 main_v40
  let main_v847 : IVec S32x1024 1 := ori main_v829 main_v825
  let main_v848 : IVec S32x1024 1 := noti main_v847
  let main_v849 : IVec S32x1024 1 := cmpf .ogt main_v824 main_v842
  let main_v850 : IVec S32x1024 1 := andi main_v829 main_v849
  let main_v851 : IVec S32x1024 1 := ori main_v848 main_v850
  let main_v852 : IVec S32x1024 1 := andi main_v846 main_v851
  let main_v853 : FVec F S32x1024 .f32 := select main_v852 main_v842 main_v824
  let main_v854 : IVec S32x1024 1 := ori main_v825 main_v834
  let main_v855 : IVec S32x1024 1 := andi main_v834 main_v37
  let main_v856 : IVec S32x1024 1 := noti main_v855
  let main_v857 : IVec S32x1024 1 := andi main_v829 main_v856
  let main_v858 : IVec S32x1024 1 := ori main_v857 main_v852
  let main_v859 : FVec F S32x1024 .f32 := addf main_v853 main_v34
  fn_part41 (F := F) main_arg0 main_arg1 main_arg2 main_v0 main_v34 main_v37 main_v38 main_v39 main_v40 main_v41 main_v838 main_v853 main_v854 main_v858 main_v859

def fn_part39 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v795 : FVec F S32x1024 .f32) (main_v796 : IVec S32x1024 1) (main_v800 : IVec S32x1024 1) (main_v805 : IVec S32x1024 1) (main_v809 : IVec S32 1) (main_v813 : FVec F S32x1024 .f32) (main_v815 : IVec S32x32x32 32) : IVec S32x32x32 1 :=
  let main_v816 : IVec S32x1024 32 := shapeCast S32x1024 main_v815 shapeCasts_S32x32x32_S32x1024
  let main_v817 : IVec S32x1024 1 := cmpi .sgt main_v816 main_v40
  let main_v818 : IVec S32x1024 1 := ori main_v800 main_v796
  let main_v819 : IVec S32x1024 1 := noti main_v818
  let main_v820 : IVec S32x1024 1 := cmpf .ogt main_v795 main_v813
  let main_v821 : IVec S32x1024 1 := andi main_v800 main_v820
  let main_v822 : IVec S32x1024 1 := ori main_v819 main_v821
  let main_v823 : IVec S32x1024 1 := andi main_v817 main_v822
  let main_v824 : FVec F S32x1024 .f32 := select main_v823 main_v813 main_v795
  let main_v825 : IVec S32x1024 1 := ori main_v796 main_v805
  let main_v826 : IVec S32x1024 1 := andi main_v805 main_v37
  let main_v827 : IVec S32x1024 1 := noti main_v826
  let main_v828 : IVec S32x1024 1 := andi main_v800 main_v827
  let main_v829 : IVec S32x1024 1 := ori main_v828 main_v823
  let main_v830 : FVec F S32x1024 .f32 := addf main_v824 main_v34
  let main_v831 : FVec F S32x1024 .f32 := select main_v829 main_v830 main_v38
  let main_cst_118 : FVec F S_ .f32 := constant S_ .f32 0x7F800000#32
  let main_v832 : FVec F S32 .f32 := (fun x v => Host.reduce FloatOps.minimumf x v reducesTo_S32x1024_S32_d1 h_S_) main_v831 main_cst_118
  let main_v833 : FVec F S32x1024 .f32 := broadcastInDim S32x1024 ![0] bcast_S32_S32x1024_0 main_v832
  let main_v834 : IVec S32x1024 1 := cmpf .oeq main_v831 main_v833
  let main_v835 : IVec S32x1024 32 := (extui 32 · natLt_1_32) main_v834
  let main_c_119 : IVec S_ 32 := constantI S_ 32 0#32
  let main_v836 : IVec S32 32 := (fun x v => Host.reduce IntOp.addi x v reducesTo_S32x1024_S32_d1 h_S_) main_v835 main_c_119
  let main_v837 : IVec S32 1 := cmpi .eq main_v836 main_v41
  fn_part40 (F := F) main_arg0 main_arg1 main_arg2 main_v0 main_v34 main_v37 main_v38 main_v39 main_v40 main_v41 main_v809 main_v824 main_v825 main_v829 main_v834 main_v835 main_v837

def fn_part38 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v767 : IVec S32x1024 1) (main_v771 : IVec S32x1024 1) (main_v776 : IVec S32x1024 1) (main_v780 : IVec S32 1) (main_v794 : IVec S32x1024 1) (main_v795 : FVec F S32x1024 .f32) : IVec S32x32x32 1 :=
  let main_v796 : IVec S32x1024 1 := ori main_v767 main_v776
  let main_v797 : IVec S32x1024 1 := andi main_v776 main_v37
  let main_v798 : IVec S32x1024 1 := noti main_v797
  let main_v799 : IVec S32x1024 1 := andi main_v771 main_v798
  let main_v800 : IVec S32x1024 1 := ori main_v799 main_v794
  let main_v801 : FVec F S32x1024 .f32 := addf main_v795 main_v34
  let main_v802 : FVec F S32x1024 .f32 := select main_v800 main_v801 main_v38
  let main_cst_114 : FVec F S_ .f32 := constant S_ .f32 0x7F800000#32
  let main_v803 : FVec F S32 .f32 := (fun x v => Host.reduce FloatOps.minimumf x v reducesTo_S32x1024_S32_d1 h_S_) main_v802 main_cst_114
  let main_v804 : FVec F S32x1024 .f32 := broadcastInDim S32x1024 ![0] bcast_S32_S32x1024_0 main_v803
  let main_v805 : IVec S32x1024 1 := cmpf .oeq main_v802 main_v804
  let main_v806 : IVec S32x1024 32 := (extui 32 · natLt_1_32) main_v805
  let main_c_115 : IVec S_ 32 := constantI S_ 32 0#32
  let main_v807 : IVec S32 32 := (fun x v => Host.reduce IntOp.addi x v reducesTo_S32x1024_S32_d1 h_S_) main_v806 main_c_115
  let main_v808 : IVec S32 1 := cmpi .eq main_v807 main_v41
  let main_v809 : IVec S32 1 := andi main_v780 main_v808
  let main_v810 : FVec F S32x1024 .f32 := addf main_v795 main_v0
  let main_v811 : FVec F S32x1024 .f32 := select main_v805 main_v810 main_v39
  let main_cst_116 : FVec F S_ .f32 := constant S_ .f32 0x00000000#32
  let main_v812 : FVec F S32 .f32 := (fun x v => Host.reduceAdd x v reducesTo_S32x1024_S32_d1 h_S_) main_v811 main_cst_116
  let main_v813 : FVec F S32x1024 .f32 := broadcastInDim S32x1024 ![0] bcast_S32_S32x1024_0 main_v812
  let main_v814 : IVec S32x32x32 32 := shapeCast S32x32x32 main_v806 shapeCasts_S32x1024_S32x32x32
  let main_c_117 : IVec S_ 32 := constantI S_ 32 2147483648#32
  let main_v815 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v814 main_c_117
  fn_part39 (F := F) main_arg0 main_arg1 main_arg2 main_v0 main_v34 main_v37 main_v38 main_v39 main_v40 main_v41 main_v795 main_v796 main_v800 main_v805 main_v809 main_v813 main_v815

def fn_part37 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v751 : IVec S32 1) (main_v766 : FVec F S32x1024 .f32) (main_v767 : IVec S32x1024 1) (main_v771 : IVec S32x1024 1) (main_v773 : FVec F S32x1024 .f32) (main_v774 : FVec F S32 .f32) : IVec S32x32x32 1 :=
  let main_v775 : FVec F S32x1024 .f32 := broadcastInDim S32x1024 ![0] bcast_S32_S32x1024_0 main_v774
  let main_v776 : IVec S32x1024 1 := cmpf .oeq main_v773 main_v775
  let main_v777 : IVec S32x1024 32 := (extui 32 · natLt_1_32) main_v776
  let main_c_111 : IVec S_ 32 := constantI S_ 32 0#32
  let main_v778 : IVec S32 32 := (fun x v => Host.reduce IntOp.addi x v reducesTo_S32x1024_S32_d1 h_S_) main_v777 main_c_111
  let main_v779 : IVec S32 1 := cmpi .eq main_v778 main_v41
  let main_v780 : IVec S32 1 := andi main_v751 main_v779
  let main_v781 : FVec F S32x1024 .f32 := addf main_v766 main_v0
  let main_v782 : FVec F S32x1024 .f32 := select main_v776 main_v781 main_v39
  let main_cst_112 : FVec F S_ .f32 := constant S_ .f32 0x00000000#32
  let main_v783 : FVec F S32 .f32 := (fun x v => Host.reduceAdd x v reducesTo_S32x1024_S32_d1 h_S_) main_v782 main_cst_112
  let main_v784 : FVec F S32x1024 .f32 := broadcastInDim S32x1024 ![0] bcast_S32_S32x1024_0 main_v783
  let main_v785 : IVec S32x32x32 32 := shapeCast S32x32x32 main_v777 shapeCasts_S32x1024_S32x32x32
  let main_c_113 : IVec S_ 32 := constantI S_ 32 2147483648#32
  let main_v786 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v785 main_c_113
  let main_v787 : IVec S32x1024 32 := shapeCast S32x1024 main_v786 shapeCasts_S32x32x32_S32x1024
  let main_v788 : IVec S32x1024 1 := cmpi .sgt main_v787 main_v40
  let main_v789 : IVec S32x1024 1 := ori main_v771 main_v767
  let main_v790 : IVec S32x1024 1 := noti main_v789
  let main_v791 : IVec S32x1024 1 := cmpf .ogt main_v766 main_v784
  let main_v792 : IVec S32x1024 1 := andi main_v771 main_v791
  let main_v793 : IVec S32x1024 1 := ori main_v790 main_v792
  let main_v794 : IVec S32x1024 1 := andi main_v788 main_v793
  let main_v795 : FVec F S32x1024 .f32 := select main_v794 main_v784 main_v766
  fn_part38 (F := F) main_arg0 main_arg1 main_arg2 main_v0 main_v34 main_v37 main_v38 main_v39 main_v40 main_v41 main_v767 main_v771 main_v776 main_v780 main_v794 main_v795

def fn_part36 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v737 : FVec F S32x1024 .f32) (main_v738 : IVec S32x1024 1) (main_v742 : IVec S32x1024 1) (main_v747 : IVec S32x1024 1) (main_v748 : IVec S32x1024 32) (main_v751 : IVec S32 1) (main_v753 : FVec F S32x1024 .f32) : IVec S32x32x32 1 :=
  let main_cst_108 : FVec F S_ .f32 := constant S_ .f32 0x00000000#32
  let main_v754 : FVec F S32 .f32 := (fun x v => Host.reduceAdd x v reducesTo_S32x1024_S32_d1 h_S_) main_v753 main_cst_108
  let main_v755 : FVec F S32x1024 .f32 := broadcastInDim S32x1024 ![0] bcast_S32_S32x1024_0 main_v754
  let main_v756 : IVec S32x32x32 32 := shapeCast S32x32x32 main_v748 shapeCasts_S32x1024_S32x32x32
  let main_c_109 : IVec S_ 32 := constantI S_ 32 2147483648#32
  let main_v757 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v756 main_c_109
  let main_v758 : IVec S32x1024 32 := shapeCast S32x1024 main_v757 shapeCasts_S32x32x32_S32x1024
  let main_v759 : IVec S32x1024 1 := cmpi .sgt main_v758 main_v40
  let main_v760 : IVec S32x1024 1 := ori main_v742 main_v738
  let main_v761 : IVec S32x1024 1 := noti main_v760
  let main_v762 : IVec S32x1024 1 := cmpf .ogt main_v737 main_v755
  let main_v763 : IVec S32x1024 1 := andi main_v742 main_v762
  let main_v764 : IVec S32x1024 1 := ori main_v761 main_v763
  let main_v765 : IVec S32x1024 1 := andi main_v759 main_v764
  let main_v766 : FVec F S32x1024 .f32 := select main_v765 main_v755 main_v737
  let main_v767 : IVec S32x1024 1 := ori main_v738 main_v747
  let main_v768 : IVec S32x1024 1 := andi main_v747 main_v37
  let main_v769 : IVec S32x1024 1 := noti main_v768
  let main_v770 : IVec S32x1024 1 := andi main_v742 main_v769
  let main_v771 : IVec S32x1024 1 := ori main_v770 main_v765
  let main_v772 : FVec F S32x1024 .f32 := addf main_v766 main_v34
  let main_v773 : FVec F S32x1024 .f32 := select main_v771 main_v772 main_v38
  let main_cst_110 : FVec F S_ .f32 := constant S_ .f32 0x7F800000#32
  let main_v774 : FVec F S32 .f32 := (fun x v => Host.reduce FloatOps.minimumf x v reducesTo_S32x1024_S32_d1 h_S_) main_v773 main_cst_110
  fn_part37 (F := F) main_arg0 main_arg1 main_arg2 main_v0 main_v34 main_v37 main_v38 main_v39 main_v40 main_v41 main_v751 main_v766 main_v767 main_v771 main_v773 main_v774

def fn_part35 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v708 : FVec F S32x1024 .f32) (main_v709 : IVec S32x1024 1) (main_v713 : IVec S32x1024 1) (main_v718 : IVec S32x1024 1) (main_v722 : IVec S32 1) (main_v726 : FVec F S32x1024 .f32) (main_v730 : IVec S32x1024 1) (main_v731 : IVec S32x1024 1) : IVec S32x32x32 1 :=
  let main_v732 : IVec S32x1024 1 := noti main_v731
  let main_v733 : IVec S32x1024 1 := cmpf .ogt main_v708 main_v726
  let main_v734 : IVec S32x1024 1 := andi main_v713 main_v733
  let main_v735 : IVec S32x1024 1 := ori main_v732 main_v734
  let main_v736 : IVec S32x1024 1 := andi main_v730 main_v735
  let main_v737 : FVec F S32x1024 .f32 := select main_v736 main_v726 main_v708
  let main_v738 : IVec S32x1024 1 := ori main_v709 main_v718
  let main_v739 : IVec S32x1024 1 := andi main_v718 main_v37
  let main_v740 : IVec S32x1024 1 := noti main_v739
  let main_v741 : IVec S32x1024 1 := andi main_v713 main_v740
  let main_v742 : IVec S32x1024 1 := ori main_v741 main_v736
  let main_v743 : FVec F S32x1024 .f32 := addf main_v737 main_v34
  let main_v744 : FVec F S32x1024 .f32 := select main_v742 main_v743 main_v38
  let main_cst_106 : FVec F S_ .f32 := constant S_ .f32 0x7F800000#32
  let main_v745 : FVec F S32 .f32 := (fun x v => Host.reduce FloatOps.minimumf x v reducesTo_S32x1024_S32_d1 h_S_) main_v744 main_cst_106
  let main_v746 : FVec F S32x1024 .f32 := broadcastInDim S32x1024 ![0] bcast_S32_S32x1024_0 main_v745
  let main_v747 : IVec S32x1024 1 := cmpf .oeq main_v744 main_v746
  let main_v748 : IVec S32x1024 32 := (extui 32 · natLt_1_32) main_v747
  let main_c_107 : IVec S_ 32 := constantI S_ 32 0#32
  let main_v749 : IVec S32 32 := (fun x v => Host.reduce IntOp.addi x v reducesTo_S32x1024_S32_d1 h_S_) main_v748 main_c_107
  let main_v750 : IVec S32 1 := cmpi .eq main_v749 main_v41
  let main_v751 : IVec S32 1 := andi main_v722 main_v750
  let main_v752 : FVec F S32x1024 .f32 := addf main_v737 main_v0
  let main_v753 : FVec F S32x1024 .f32 := select main_v747 main_v752 main_v39
  fn_part36 (F := F) main_arg0 main_arg1 main_arg2 main_v0 main_v34 main_v37 main_v38 main_v39 main_v40 main_v41 main_v737 main_v738 main_v742 main_v747 main_v748 main_v751 main_v753

def fn_part34 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v684 : IVec S32x1024 1) (main_v693 : IVec S32 1) (main_v707 : IVec S32x1024 1) (main_v708 : FVec F S32x1024 .f32) (main_v709 : IVec S32x1024 1) (main_v711 : IVec S32x1024 1) : IVec S32x32x32 1 :=
  let main_v712 : IVec S32x1024 1 := andi main_v684 main_v711
  let main_v713 : IVec S32x1024 1 := ori main_v712 main_v707
  let main_v714 : FVec F S32x1024 .f32 := addf main_v708 main_v34
  let main_v715 : FVec F S32x1024 .f32 := select main_v713 main_v714 main_v38
  let main_cst_102 : FVec F S_ .f32 := constant S_ .f32 0x7F800000#32
  let main_v716 : FVec F S32 .f32 := (fun x v => Host.reduce FloatOps.minimumf x v reducesTo_S32x1024_S32_d1 h_S_) main_v715 main_cst_102
  let main_v717 : FVec F S32x1024 .f32 := broadcastInDim S32x1024 ![0] bcast_S32_S32x1024_0 main_v716
  let main_v718 : IVec S32x1024 1 := cmpf .oeq main_v715 main_v717
  let main_v719 : IVec S32x1024 32 := (extui 32 · natLt_1_32) main_v718
  let main_c_103 : IVec S_ 32 := constantI S_ 32 0#32
  let main_v720 : IVec S32 32 := (fun x v => Host.reduce IntOp.addi x v reducesTo_S32x1024_S32_d1 h_S_) main_v719 main_c_103
  let main_v721 : IVec S32 1 := cmpi .eq main_v720 main_v41
  let main_v722 : IVec S32 1 := andi main_v693 main_v721
  let main_v723 : FVec F S32x1024 .f32 := addf main_v708 main_v0
  let main_v724 : FVec F S32x1024 .f32 := select main_v718 main_v723 main_v39
  let main_cst_104 : FVec F S_ .f32 := constant S_ .f32 0x00000000#32
  let main_v725 : FVec F S32 .f32 := (fun x v => Host.reduceAdd x v reducesTo_S32x1024_S32_d1 h_S_) main_v724 main_cst_104
  let main_v726 : FVec F S32x1024 .f32 := broadcastInDim S32x1024 ![0] bcast_S32_S32x1024_0 main_v725
  let main_v727 : IVec S32x32x32 32 := shapeCast S32x32x32 main_v719 shapeCasts_S32x1024_S32x32x32
  let main_c_105 : IVec S_ 32 := constantI S_ 32 2147483648#32
  let main_v728 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v727 main_c_105
  let main_v729 : IVec S32x1024 32 := shapeCast S32x1024 main_v728 shapeCasts_S32x32x32_S32x1024
  let main_v730 : IVec S32x1024 1 := cmpi .sgt main_v729 main_v40
  let main_v731 : IVec S32x1024 1 := ori main_v713 main_v709
  fn_part35 (F := F) main_arg0 main_arg1 main_arg2 main_v0 main_v34 main_v37 main_v38 main_v39 main_v40 main_v41 main_v708 main_v709 main_v713 main_v718 main_v722 main_v726 main_v730 main_v731

def fn_part33 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v664 : IVec S32 1) (main_v679 : FVec F S32x1024 .f32) (main_v680 : IVec S32x1024 1) (main_v684 : IVec S32x1024 1) (main_v689 : IVec S32x1024 1) (main_v690 : IVec S32x1024 32) : IVec S32x32x32 1 :=
  let main_c_99 : IVec S_ 32 := constantI S_ 32 0#32
  let main_v691 : IVec S32 32 := (fun x v => Host.reduce IntOp.addi x v reducesTo_S32x1024_S32_d1 h_S_) main_v690 main_c_99
  let main_v692 : IVec S32 1 := cmpi .eq main_v691 main_v41
  let main_v693 : IVec S32 1 := andi main_v664 main_v692
  let main_v694 : FVec F S32x1024 .f32 := addf main_v679 main_v0
  let main_v695 : FVec F S32x1024 .f32 := select main_v689 main_v694 main_v39
  let main_cst_100 : FVec F S_ .f32 := constant S_ .f32 0x00000000#32
  let main_v696 : FVec F S32 .f32 := (fun x v => Host.reduceAdd x v reducesTo_S32x1024_S32_d1 h_S_) main_v695 main_cst_100
  let main_v697 : FVec F S32x1024 .f32 := broadcastInDim S32x1024 ![0] bcast_S32_S32x1024_0 main_v696
  let main_v698 : IVec S32x32x32 32 := shapeCast S32x32x32 main_v690 shapeCasts_S32x1024_S32x32x32
  let main_c_101 : IVec S_ 32 := constantI S_ 32 2147483648#32
  let main_v699 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v698 main_c_101
  let main_v700 : IVec S32x1024 32 := shapeCast S32x1024 main_v699 shapeCasts_S32x32x32_S32x1024
  let main_v701 : IVec S32x1024 1 := cmpi .sgt main_v700 main_v40
  let main_v702 : IVec S32x1024 1 := ori main_v684 main_v680
  let main_v703 : IVec S32x1024 1 := noti main_v702
  let main_v704 : IVec S32x1024 1 := cmpf .ogt main_v679 main_v697
  let main_v705 : IVec S32x1024 1 := andi main_v684 main_v704
  let main_v706 : IVec S32x1024 1 := ori main_v703 main_v705
  let main_v707 : IVec S32x1024 1 := andi main_v701 main_v706
  let main_v708 : FVec F S32x1024 .f32 := select main_v707 main_v697 main_v679
  let main_v709 : IVec S32x1024 1 := ori main_v680 main_v689
  let main_v710 : IVec S32x1024 1 := andi main_v689 main_v37
  let main_v711 : IVec S32x1024 1 := noti main_v710
  fn_part34 (F := F) main_arg0 main_arg1 main_arg2 main_v0 main_v34 main_v37 main_v38 main_v39 main_v40 main_v41 main_v684 main_v693 main_v707 main_v708 main_v709 main_v711

def fn_part32 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v650 : FVec F S32x1024 .f32) (main_v651 : IVec S32x1024 1) (main_v655 : IVec S32x1024 1) (main_v660 : IVec S32x1024 1) (main_v661 : IVec S32x1024 32) (main_v664 : IVec S32 1) (main_v668 : FVec F S32x1024 .f32) : IVec S32x32x32 1 :=
  let main_v669 : IVec S32x32x32 32 := shapeCast S32x32x32 main_v661 shapeCasts_S32x1024_S32x32x32
  let main_c_97 : IVec S_ 32 := constantI S_ 32 2147483648#32
  let main_v670 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v669 main_c_97
  let main_v671 : IVec S32x1024 32 := shapeCast S32x1024 main_v670 shapeCasts_S32x32x32_S32x1024
  let main_v672 : IVec S32x1024 1 := cmpi .sgt main_v671 main_v40
  let main_v673 : IVec S32x1024 1 := ori main_v655 main_v651
  let main_v674 : IVec S32x1024 1 := noti main_v673
  let main_v675 : IVec S32x1024 1 := cmpf .ogt main_v650 main_v668
  let main_v676 : IVec S32x1024 1 := andi main_v655 main_v675
  let main_v677 : IVec S32x1024 1 := ori main_v674 main_v676
  let main_v678 : IVec S32x1024 1 := andi main_v672 main_v677
  let main_v679 : FVec F S32x1024 .f32 := select main_v678 main_v668 main_v650
  let main_v680 : IVec S32x1024 1 := ori main_v651 main_v660
  let main_v681 : IVec S32x1024 1 := andi main_v660 main_v37
  let main_v682 : IVec S32x1024 1 := noti main_v681
  let main_v683 : IVec S32x1024 1 := andi main_v655 main_v682
  let main_v684 : IVec S32x1024 1 := ori main_v683 main_v678
  let main_v685 : FVec F S32x1024 .f32 := addf main_v679 main_v34
  let main_v686 : FVec F S32x1024 .f32 := select main_v684 main_v685 main_v38
  let main_cst_98 : FVec F S_ .f32 := constant S_ .f32 0x7F800000#32
  let main_v687 : FVec F S32 .f32 := (fun x v => Host.reduce FloatOps.minimumf x v reducesTo_S32x1024_S32_d1 h_S_) main_v686 main_cst_98
  let main_v688 : FVec F S32x1024 .f32 := broadcastInDim S32x1024 ![0] bcast_S32_S32x1024_0 main_v687
  let main_v689 : IVec S32x1024 1 := cmpf .oeq main_v686 main_v688
  let main_v690 : IVec S32x1024 32 := (extui 32 · natLt_1_32) main_v689
  fn_part33 (F := F) main_arg0 main_arg1 main_arg2 main_v0 main_v34 main_v37 main_v38 main_v39 main_v40 main_v41 main_v664 main_v679 main_v680 main_v684 main_v689 main_v690

def fn_part31 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v621 : FVec F S32x1024 .f32) (main_v622 : IVec S32x1024 1) (main_v626 : IVec S32x1024 1) (main_v631 : IVec S32x1024 1) (main_v635 : IVec S32 1) (main_v639 : FVec F S32x1024 .f32) (main_v643 : IVec S32x1024 1) (main_v645 : IVec S32x1024 1) (main_v647 : IVec S32x1024 1) : IVec S32x32x32 1 :=
  let main_v648 : IVec S32x1024 1 := ori main_v645 main_v647
  let main_v649 : IVec S32x1024 1 := andi main_v643 main_v648
  let main_v650 : FVec F S32x1024 .f32 := select main_v649 main_v639 main_v621
  let main_v651 : IVec S32x1024 1 := ori main_v622 main_v631
  let main_v652 : IVec S32x1024 1 := andi main_v631 main_v37
  let main_v653 : IVec S32x1024 1 := noti main_v652
  let main_v654 : IVec S32x1024 1 := andi main_v626 main_v653
  let main_v655 : IVec S32x1024 1 := ori main_v654 main_v649
  let main_v656 : FVec F S32x1024 .f32 := addf main_v650 main_v34
  let main_v657 : FVec F S32x1024 .f32 := select main_v655 main_v656 main_v38
  let main_cst_94 : FVec F S_ .f32 := constant S_ .f32 0x7F800000#32
  let main_v658 : FVec F S32 .f32 := (fun x v => Host.reduce FloatOps.minimumf x v reducesTo_S32x1024_S32_d1 h_S_) main_v657 main_cst_94
  let main_v659 : FVec F S32x1024 .f32 := broadcastInDim S32x1024 ![0] bcast_S32_S32x1024_0 main_v658
  let main_v660 : IVec S32x1024 1 := cmpf .oeq main_v657 main_v659
  let main_v661 : IVec S32x1024 32 := (extui 32 · natLt_1_32) main_v660
  let main_c_95 : IVec S_ 32 := constantI S_ 32 0#32
  let main_v662 : IVec S32 32 := (fun x v => Host.reduce IntOp.addi x v reducesTo_S32x1024_S32_d1 h_S_) main_v661 main_c_95
  let main_v663 : IVec S32 1 := cmpi .eq main_v662 main_v41
  let main_v664 : IVec S32 1 := andi main_v635 main_v663
  let main_v665 : FVec F S32x1024 .f32 := addf main_v650 main_v0
  let main_v666 : FVec F S32x1024 .f32 := select main_v660 main_v665 main_v39
  let main_cst_96 : FVec F S_ .f32 := constant S_ .f32 0x00000000#32
  let main_v667 : FVec F S32 .f32 := (fun x v => Host.reduceAdd x v reducesTo_S32x1024_S32_d1 h_S_) main_v666 main_cst_96
  let main_v668 : FVec F S32x1024 .f32 := broadcastInDim S32x1024 ![0] bcast_S32_S32x1024_0 main_v667
  fn_part32 (F := F) main_arg0 main_arg1 main_arg2 main_v0 main_v34 main_v37 main_v38 main_v39 main_v40 main_v41 main_v650 main_v651 main_v655 main_v660 main_v661 main_v664 main_v668

def fn_part30 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v606 : IVec S32 1) (main_v621 : FVec F S32x1024 .f32) (main_v622 : IVec S32x1024 1) (main_v626 : IVec S32x1024 1) (main_v627 : FVec F S32x1024 .f32) : IVec S32x32x32 1 :=
  let main_v628 : FVec F S32x1024 .f32 := select main_v626 main_v627 main_v38
  let main_cst_90 : FVec F S_ .f32 := constant S_ .f32 0x7F800000#32
  let main_v629 : FVec F S32 .f32 := (fun x v => Host.reduce FloatOps.minimumf x v reducesTo_S32x1024_S32_d1 h_S_) main_v628 main_cst_90
  let main_v630 : FVec F S32x1024 .f32 := broadcastInDim S32x1024 ![0] bcast_S32_S32x1024_0 main_v629
  let main_v631 : IVec S32x1024 1 := cmpf .oeq main_v628 main_v630
  let main_v632 : IVec S32x1024 32 := (extui 32 · natLt_1_32) main_v631
  let main_c_91 : IVec S_ 32 := constantI S_ 32 0#32
  let main_v633 : IVec S32 32 := (fun x v => Host.reduce IntOp.addi x v reducesTo_S32x1024_S32_d1 h_S_) main_v632 main_c_91
  let main_v634 : IVec S32 1 := cmpi .eq main_v633 main_v41
  let main_v635 : IVec S32 1 := andi main_v606 main_v634
  let main_v636 : FVec F S32x1024 .f32 := addf main_v621 main_v0
  let main_v637 : FVec F S32x1024 .f32 := select main_v631 main_v636 main_v39
  let main_cst_92 : FVec F S_ .f32 := constant S_ .f32 0x00000000#32
  let main_v638 : FVec F S32 .f32 := (fun x v => Host.reduceAdd x v reducesTo_S32x1024_S32_d1 h_S_) main_v637 main_cst_92
  let main_v639 : FVec F S32x1024 .f32 := broadcastInDim S32x1024 ![0] bcast_S32_S32x1024_0 main_v638
  let main_v640 : IVec S32x32x32 32 := shapeCast S32x32x32 main_v632 shapeCasts_S32x1024_S32x32x32
  let main_c_93 : IVec S_ 32 := constantI S_ 32 2147483648#32
  let main_v641 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v640 main_c_93
  let main_v642 : IVec S32x1024 32 := shapeCast S32x1024 main_v641 shapeCasts_S32x32x32_S32x1024
  let main_v643 : IVec S32x1024 1 := cmpi .sgt main_v642 main_v40
  let main_v644 : IVec S32x1024 1 := ori main_v626 main_v622
  let main_v645 : IVec S32x1024 1 := noti main_v644
  let main_v646 : IVec S32x1024 1 := cmpf .ogt main_v621 main_v639
  let main_v647 : IVec S32x1024 1 := andi main_v626 main_v646
  fn_part31 (F := F) main_arg0 main_arg1 main_arg2 main_v0 main_v34 main_v37 main_v38 main_v39 main_v40 main_v41 main_v621 main_v622 main_v626 main_v631 main_v635 main_v639 main_v643 main_v645 main_v647

def fn_part29 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v577 : IVec S32 1) (main_v592 : FVec F S32x1024 .f32) (main_v593 : IVec S32x1024 1) (main_v597 : IVec S32x1024 1) (main_v602 : IVec S32x1024 1) (main_v603 : IVec S32x1024 32) (main_v605 : IVec S32 1) : IVec S32x32x32 1 :=
  let main_v606 : IVec S32 1 := andi main_v577 main_v605
  let main_v607 : FVec F S32x1024 .f32 := addf main_v592 main_v0
  let main_v608 : FVec F S32x1024 .f32 := select main_v602 main_v607 main_v39
  let main_cst_88 : FVec F S_ .f32 := constant S_ .f32 0x00000000#32
  let main_v609 : FVec F S32 .f32 := (fun x v => Host.reduceAdd x v reducesTo_S32x1024_S32_d1 h_S_) main_v608 main_cst_88
  let main_v610 : FVec F S32x1024 .f32 := broadcastInDim S32x1024 ![0] bcast_S32_S32x1024_0 main_v609
  let main_v611 : IVec S32x32x32 32 := shapeCast S32x32x32 main_v603 shapeCasts_S32x1024_S32x32x32
  let main_c_89 : IVec S_ 32 := constantI S_ 32 2147483648#32
  let main_v612 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v611 main_c_89
  let main_v613 : IVec S32x1024 32 := shapeCast S32x1024 main_v612 shapeCasts_S32x32x32_S32x1024
  let main_v614 : IVec S32x1024 1 := cmpi .sgt main_v613 main_v40
  let main_v615 : IVec S32x1024 1 := ori main_v597 main_v593
  let main_v616 : IVec S32x1024 1 := noti main_v615
  let main_v617 : IVec S32x1024 1 := cmpf .ogt main_v592 main_v610
  let main_v618 : IVec S32x1024 1 := andi main_v597 main_v617
  let main_v619 : IVec S32x1024 1 := ori main_v616 main_v618
  let main_v620 : IVec S32x1024 1 := andi main_v614 main_v619
  let main_v621 : FVec F S32x1024 .f32 := select main_v620 main_v610 main_v592
  let main_v622 : IVec S32x1024 1 := ori main_v593 main_v602
  let main_v623 : IVec S32x1024 1 := andi main_v602 main_v37
  let main_v624 : IVec S32x1024 1 := noti main_v623
  let main_v625 : IVec S32x1024 1 := andi main_v597 main_v624
  let main_v626 : IVec S32x1024 1 := ori main_v625 main_v620
  let main_v627 : FVec F S32x1024 .f32 := addf main_v621 main_v34
  fn_part30 (F := F) main_arg0 main_arg1 main_arg2 main_v0 main_v34 main_v37 main_v38 main_v39 main_v40 main_v41 main_v606 main_v621 main_v622 main_v626 main_v627

def fn_part28 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v563 : FVec F S32x1024 .f32) (main_v564 : IVec S32x1024 1) (main_v568 : IVec S32x1024 1) (main_v573 : IVec S32x1024 1) (main_v577 : IVec S32 1) (main_v581 : FVec F S32x1024 .f32) (main_v583 : IVec S32x32x32 32) : IVec S32x32x32 1 :=
  let main_v584 : IVec S32x1024 32 := shapeCast S32x1024 main_v583 shapeCasts_S32x32x32_S32x1024
  let main_v585 : IVec S32x1024 1 := cmpi .sgt main_v584 main_v40
  let main_v586 : IVec S32x1024 1 := ori main_v568 main_v564
  let main_v587 : IVec S32x1024 1 := noti main_v586
  let main_v588 : IVec S32x1024 1 := cmpf .ogt main_v563 main_v581
  let main_v589 : IVec S32x1024 1 := andi main_v568 main_v588
  let main_v590 : IVec S32x1024 1 := ori main_v587 main_v589
  let main_v591 : IVec S32x1024 1 := andi main_v585 main_v590
  let main_v592 : FVec F S32x1024 .f32 := select main_v591 main_v581 main_v563
  let main_v593 : IVec S32x1024 1 := ori main_v564 main_v573
  let main_v594 : IVec S32x1024 1 := andi main_v573 main_v37
  let main_v595 : IVec S32x1024 1 := noti main_v594
  let main_v596 : IVec S32x1024 1 := andi main_v568 main_v595
  let main_v597 : IVec S32x1024 1 := ori main_v596 main_v591
  let main_v598 : FVec F S32x1024 .f32 := addf main_v592 main_v34
  let main_v599 : FVec F S32x1024 .f32 := select main_v597 main_v598 main_v38
  let main_cst_86 : FVec F S_ .f32 := constant S_ .f32 0x7F800000#32
  let main_v600 : FVec F S32 .f32 := (fun x v => Host.reduce FloatOps.minimumf x v reducesTo_S32x1024_S32_d1 h_S_) main_v599 main_cst_86
  let main_v601 : FVec F S32x1024 .f32 := broadcastInDim S32x1024 ![0] bcast_S32_S32x1024_0 main_v600
  let main_v602 : IVec S32x1024 1 := cmpf .oeq main_v599 main_v601
  let main_v603 : IVec S32x1024 32 := (extui 32 · natLt_1_32) main_v602
  let main_c_87 : IVec S_ 32 := constantI S_ 32 0#32
  let main_v604 : IVec S32 32 := (fun x v => Host.reduce IntOp.addi x v reducesTo_S32x1024_S32_d1 h_S_) main_v603 main_c_87
  let main_v605 : IVec S32 1 := cmpi .eq main_v604 main_v41
  fn_part29 (F := F) main_arg0 main_arg1 main_arg2 main_v0 main_v34 main_v37 main_v38 main_v39 main_v40 main_v41 main_v577 main_v592 main_v593 main_v597 main_v602 main_v603 main_v605

def fn_part27 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v535 : IVec S32x1024 1) (main_v539 : IVec S32x1024 1) (main_v544 : IVec S32x1024 1) (main_v548 : IVec S32 1) (main_v562 : IVec S32x1024 1) (main_v563 : FVec F S32x1024 .f32) : IVec S32x32x32 1 :=
  let main_v564 : IVec S32x1024 1 := ori main_v535 main_v544
  let main_v565 : IVec S32x1024 1 := andi main_v544 main_v37
  let main_v566 : IVec S32x1024 1 := noti main_v565
  let main_v567 : IVec S32x1024 1 := andi main_v539 main_v566
  let main_v568 : IVec S32x1024 1 := ori main_v567 main_v562
  let main_v569 : FVec F S32x1024 .f32 := addf main_v563 main_v34
  let main_v570 : FVec F S32x1024 .f32 := select main_v568 main_v569 main_v38
  let main_cst_82 : FVec F S_ .f32 := constant S_ .f32 0x7F800000#32
  let main_v571 : FVec F S32 .f32 := (fun x v => Host.reduce FloatOps.minimumf x v reducesTo_S32x1024_S32_d1 h_S_) main_v570 main_cst_82
  let main_v572 : FVec F S32x1024 .f32 := broadcastInDim S32x1024 ![0] bcast_S32_S32x1024_0 main_v571
  let main_v573 : IVec S32x1024 1 := cmpf .oeq main_v570 main_v572
  let main_v574 : IVec S32x1024 32 := (extui 32 · natLt_1_32) main_v573
  let main_c_83 : IVec S_ 32 := constantI S_ 32 0#32
  let main_v575 : IVec S32 32 := (fun x v => Host.reduce IntOp.addi x v reducesTo_S32x1024_S32_d1 h_S_) main_v574 main_c_83
  let main_v576 : IVec S32 1 := cmpi .eq main_v575 main_v41
  let main_v577 : IVec S32 1 := andi main_v548 main_v576
  let main_v578 : FVec F S32x1024 .f32 := addf main_v563 main_v0
  let main_v579 : FVec F S32x1024 .f32 := select main_v573 main_v578 main_v39
  let main_cst_84 : FVec F S_ .f32 := constant S_ .f32 0x00000000#32
  let main_v580 : FVec F S32 .f32 := (fun x v => Host.reduceAdd x v reducesTo_S32x1024_S32_d1 h_S_) main_v579 main_cst_84
  let main_v581 : FVec F S32x1024 .f32 := broadcastInDim S32x1024 ![0] bcast_S32_S32x1024_0 main_v580
  let main_v582 : IVec S32x32x32 32 := shapeCast S32x32x32 main_v574 shapeCasts_S32x1024_S32x32x32
  let main_c_85 : IVec S_ 32 := constantI S_ 32 2147483648#32
  let main_v583 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v582 main_c_85
  fn_part28 (F := F) main_arg0 main_arg1 main_arg2 main_v0 main_v34 main_v37 main_v38 main_v39 main_v40 main_v41 main_v563 main_v564 main_v568 main_v573 main_v577 main_v581 main_v583

def fn_part26 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v519 : IVec S32 1) (main_v534 : FVec F S32x1024 .f32) (main_v535 : IVec S32x1024 1) (main_v539 : IVec S32x1024 1) (main_v541 : FVec F S32x1024 .f32) (main_v542 : FVec F S32 .f32) : IVec S32x32x32 1 :=
  let main_v543 : FVec F S32x1024 .f32 := broadcastInDim S32x1024 ![0] bcast_S32_S32x1024_0 main_v542
  let main_v544 : IVec S32x1024 1 := cmpf .oeq main_v541 main_v543
  let main_v545 : IVec S32x1024 32 := (extui 32 · natLt_1_32) main_v544
  let main_c_79 : IVec S_ 32 := constantI S_ 32 0#32
  let main_v546 : IVec S32 32 := (fun x v => Host.reduce IntOp.addi x v reducesTo_S32x1024_S32_d1 h_S_) main_v545 main_c_79
  let main_v547 : IVec S32 1 := cmpi .eq main_v546 main_v41
  let main_v548 : IVec S32 1 := andi main_v519 main_v547
  let main_v549 : FVec F S32x1024 .f32 := addf main_v534 main_v0
  let main_v550 : FVec F S32x1024 .f32 := select main_v544 main_v549 main_v39
  let main_cst_80 : FVec F S_ .f32 := constant S_ .f32 0x00000000#32
  let main_v551 : FVec F S32 .f32 := (fun x v => Host.reduceAdd x v reducesTo_S32x1024_S32_d1 h_S_) main_v550 main_cst_80
  let main_v552 : FVec F S32x1024 .f32 := broadcastInDim S32x1024 ![0] bcast_S32_S32x1024_0 main_v551
  let main_v553 : IVec S32x32x32 32 := shapeCast S32x32x32 main_v545 shapeCasts_S32x1024_S32x32x32
  let main_c_81 : IVec S_ 32 := constantI S_ 32 2147483648#32
  let main_v554 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v553 main_c_81
  let main_v555 : IVec S32x1024 32 := shapeCast S32x1024 main_v554 shapeCasts_S32x32x32_S32x1024
  let main_v556 : IVec S32x1024 1 := cmpi .sgt main_v555 main_v40
  let main_v557 : IVec S32x1024 1 := ori main_v539 main_v535
  let main_v558 : IVec S32x1024 1 := noti main_v557
  let main_v559 : IVec S32x1024 1 := cmpf .ogt main_v534 main_v552
  let main_v560 : IVec S32x1024 1 := andi main_v539 main_v559
  let main_v561 : IVec S32x1024 1 := ori main_v558 main_v560
  let main_v562 : IVec S32x1024 1 := andi main_v556 main_v561
  let main_v563 : FVec F S32x1024 .f32 := select main_v562 main_v552 main_v534
  fn_part27 (F := F) main_arg0 main_arg1 main_arg2 main_v0 main_v34 main_v37 main_v38 main_v39 main_v40 main_v41 main_v535 main_v539 main_v544 main_v548 main_v562 main_v563

def fn_part25 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v505 : FVec F S32x1024 .f32) (main_v506 : IVec S32x1024 1) (main_v510 : IVec S32x1024 1) (main_v515 : IVec S32x1024 1) (main_v516 : IVec S32x1024 32) (main_v519 : IVec S32 1) (main_v521 : FVec F S32x1024 .f32) : IVec S32x32x32 1 :=
  let main_cst_76 : FVec F S_ .f32 := constant S_ .f32 0x00000000#32
  let main_v522 : FVec F S32 .f32 := (fun x v => Host.reduceAdd x v reducesTo_S32x1024_S32_d1 h_S_) main_v521 main_cst_76
  let main_v523 : FVec F S32x1024 .f32 := broadcastInDim S32x1024 ![0] bcast_S32_S32x1024_0 main_v522
  let main_v524 : IVec S32x32x32 32 := shapeCast S32x32x32 main_v516 shapeCasts_S32x1024_S32x32x32
  let main_c_77 : IVec S_ 32 := constantI S_ 32 2147483648#32
  let main_v525 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v524 main_c_77
  let main_v526 : IVec S32x1024 32 := shapeCast S32x1024 main_v525 shapeCasts_S32x32x32_S32x1024
  let main_v527 : IVec S32x1024 1 := cmpi .sgt main_v526 main_v40
  let main_v528 : IVec S32x1024 1 := ori main_v510 main_v506
  let main_v529 : IVec S32x1024 1 := noti main_v528
  let main_v530 : IVec S32x1024 1 := cmpf .ogt main_v505 main_v523
  let main_v531 : IVec S32x1024 1 := andi main_v510 main_v530
  let main_v532 : IVec S32x1024 1 := ori main_v529 main_v531
  let main_v533 : IVec S32x1024 1 := andi main_v527 main_v532
  let main_v534 : FVec F S32x1024 .f32 := select main_v533 main_v523 main_v505
  let main_v535 : IVec S32x1024 1 := ori main_v506 main_v515
  let main_v536 : IVec S32x1024 1 := andi main_v515 main_v37
  let main_v537 : IVec S32x1024 1 := noti main_v536
  let main_v538 : IVec S32x1024 1 := andi main_v510 main_v537
  let main_v539 : IVec S32x1024 1 := ori main_v538 main_v533
  let main_v540 : FVec F S32x1024 .f32 := addf main_v534 main_v34
  let main_v541 : FVec F S32x1024 .f32 := select main_v539 main_v540 main_v38
  let main_cst_78 : FVec F S_ .f32 := constant S_ .f32 0x7F800000#32
  let main_v542 : FVec F S32 .f32 := (fun x v => Host.reduce FloatOps.minimumf x v reducesTo_S32x1024_S32_d1 h_S_) main_v541 main_cst_78
  fn_part26 (F := F) main_arg0 main_arg1 main_arg2 main_v0 main_v34 main_v37 main_v38 main_v39 main_v40 main_v41 main_v519 main_v534 main_v535 main_v539 main_v541 main_v542

def fn_part24 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v476 : FVec F S32x1024 .f32) (main_v477 : IVec S32x1024 1) (main_v481 : IVec S32x1024 1) (main_v486 : IVec S32x1024 1) (main_v490 : IVec S32 1) (main_v494 : FVec F S32x1024 .f32) (main_v498 : IVec S32x1024 1) (main_v499 : IVec S32x1024 1) : IVec S32x32x32 1 :=
  let main_v500 : IVec S32x1024 1 := noti main_v499
  let main_v501 : IVec S32x1024 1 := cmpf .ogt main_v476 main_v494
  let main_v502 : IVec S32x1024 1 := andi main_v481 main_v501
  let main_v503 : IVec S32x1024 1 := ori main_v500 main_v502
  let main_v504 : IVec S32x1024 1 := andi main_v498 main_v503
  let main_v505 : FVec F S32x1024 .f32 := select main_v504 main_v494 main_v476
  let main_v506 : IVec S32x1024 1 := ori main_v477 main_v486
  let main_v507 : IVec S32x1024 1 := andi main_v486 main_v37
  let main_v508 : IVec S32x1024 1 := noti main_v507
  let main_v509 : IVec S32x1024 1 := andi main_v481 main_v508
  let main_v510 : IVec S32x1024 1 := ori main_v509 main_v504
  let main_v511 : FVec F S32x1024 .f32 := addf main_v505 main_v34
  let main_v512 : FVec F S32x1024 .f32 := select main_v510 main_v511 main_v38
  let main_cst_74 : FVec F S_ .f32 := constant S_ .f32 0x7F800000#32
  let main_v513 : FVec F S32 .f32 := (fun x v => Host.reduce FloatOps.minimumf x v reducesTo_S32x1024_S32_d1 h_S_) main_v512 main_cst_74
  let main_v514 : FVec F S32x1024 .f32 := broadcastInDim S32x1024 ![0] bcast_S32_S32x1024_0 main_v513
  let main_v515 : IVec S32x1024 1 := cmpf .oeq main_v512 main_v514
  let main_v516 : IVec S32x1024 32 := (extui 32 · natLt_1_32) main_v515
  let main_c_75 : IVec S_ 32 := constantI S_ 32 0#32
  let main_v517 : IVec S32 32 := (fun x v => Host.reduce IntOp.addi x v reducesTo_S32x1024_S32_d1 h_S_) main_v516 main_c_75
  let main_v518 : IVec S32 1 := cmpi .eq main_v517 main_v41
  let main_v519 : IVec S32 1 := andi main_v490 main_v518
  let main_v520 : FVec F S32x1024 .f32 := addf main_v505 main_v0
  let main_v521 : FVec F S32x1024 .f32 := select main_v515 main_v520 main_v39
  fn_part25 (F := F) main_arg0 main_arg1 main_arg2 main_v0 main_v34 main_v37 main_v38 main_v39 main_v40 main_v41 main_v505 main_v506 main_v510 main_v515 main_v516 main_v519 main_v521

def fn_part23 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v452 : IVec S32x1024 1) (main_v461 : IVec S32 1) (main_v475 : IVec S32x1024 1) (main_v476 : FVec F S32x1024 .f32) (main_v477 : IVec S32x1024 1) (main_v479 : IVec S32x1024 1) : IVec S32x32x32 1 :=
  let main_v480 : IVec S32x1024 1 := andi main_v452 main_v479
  let main_v481 : IVec S32x1024 1 := ori main_v480 main_v475
  let main_v482 : FVec F S32x1024 .f32 := addf main_v476 main_v34
  let main_v483 : FVec F S32x1024 .f32 := select main_v481 main_v482 main_v38
  let main_cst_70 : FVec F S_ .f32 := constant S_ .f32 0x7F800000#32
  let main_v484 : FVec F S32 .f32 := (fun x v => Host.reduce FloatOps.minimumf x v reducesTo_S32x1024_S32_d1 h_S_) main_v483 main_cst_70
  let main_v485 : FVec F S32x1024 .f32 := broadcastInDim S32x1024 ![0] bcast_S32_S32x1024_0 main_v484
  let main_v486 : IVec S32x1024 1 := cmpf .oeq main_v483 main_v485
  let main_v487 : IVec S32x1024 32 := (extui 32 · natLt_1_32) main_v486
  let main_c_71 : IVec S_ 32 := constantI S_ 32 0#32
  let main_v488 : IVec S32 32 := (fun x v => Host.reduce IntOp.addi x v reducesTo_S32x1024_S32_d1 h_S_) main_v487 main_c_71
  let main_v489 : IVec S32 1 := cmpi .eq main_v488 main_v41
  let main_v490 : IVec S32 1 := andi main_v461 main_v489
  let main_v491 : FVec F S32x1024 .f32 := addf main_v476 main_v0
  let main_v492 : FVec F S32x1024 .f32 := select main_v486 main_v491 main_v39
  let main_cst_72 : FVec F S_ .f32 := constant S_ .f32 0x00000000#32
  let main_v493 : FVec F S32 .f32 := (fun x v => Host.reduceAdd x v reducesTo_S32x1024_S32_d1 h_S_) main_v492 main_cst_72
  let main_v494 : FVec F S32x1024 .f32 := broadcastInDim S32x1024 ![0] bcast_S32_S32x1024_0 main_v493
  let main_v495 : IVec S32x32x32 32 := shapeCast S32x32x32 main_v487 shapeCasts_S32x1024_S32x32x32
  let main_c_73 : IVec S_ 32 := constantI S_ 32 2147483648#32
  let main_v496 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v495 main_c_73
  let main_v497 : IVec S32x1024 32 := shapeCast S32x1024 main_v496 shapeCasts_S32x32x32_S32x1024
  let main_v498 : IVec S32x1024 1 := cmpi .sgt main_v497 main_v40
  let main_v499 : IVec S32x1024 1 := ori main_v481 main_v477
  fn_part24 (F := F) main_arg0 main_arg1 main_arg2 main_v0 main_v34 main_v37 main_v38 main_v39 main_v40 main_v41 main_v476 main_v477 main_v481 main_v486 main_v490 main_v494 main_v498 main_v499

def fn_part22 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v432 : IVec S32 1) (main_v447 : FVec F S32x1024 .f32) (main_v448 : IVec S32x1024 1) (main_v452 : IVec S32x1024 1) (main_v457 : IVec S32x1024 1) (main_v458 : IVec S32x1024 32) : IVec S32x32x32 1 :=
  let main_c_67 : IVec S_ 32 := constantI S_ 32 0#32
  let main_v459 : IVec S32 32 := (fun x v => Host.reduce IntOp.addi x v reducesTo_S32x1024_S32_d1 h_S_) main_v458 main_c_67
  let main_v460 : IVec S32 1 := cmpi .eq main_v459 main_v41
  let main_v461 : IVec S32 1 := andi main_v432 main_v460
  let main_v462 : FVec F S32x1024 .f32 := addf main_v447 main_v0
  let main_v463 : FVec F S32x1024 .f32 := select main_v457 main_v462 main_v39
  let main_cst_68 : FVec F S_ .f32 := constant S_ .f32 0x00000000#32
  let main_v464 : FVec F S32 .f32 := (fun x v => Host.reduceAdd x v reducesTo_S32x1024_S32_d1 h_S_) main_v463 main_cst_68
  let main_v465 : FVec F S32x1024 .f32 := broadcastInDim S32x1024 ![0] bcast_S32_S32x1024_0 main_v464
  let main_v466 : IVec S32x32x32 32 := shapeCast S32x32x32 main_v458 shapeCasts_S32x1024_S32x32x32
  let main_c_69 : IVec S_ 32 := constantI S_ 32 2147483648#32
  let main_v467 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v466 main_c_69
  let main_v468 : IVec S32x1024 32 := shapeCast S32x1024 main_v467 shapeCasts_S32x32x32_S32x1024
  let main_v469 : IVec S32x1024 1 := cmpi .sgt main_v468 main_v40
  let main_v470 : IVec S32x1024 1 := ori main_v452 main_v448
  let main_v471 : IVec S32x1024 1 := noti main_v470
  let main_v472 : IVec S32x1024 1 := cmpf .ogt main_v447 main_v465
  let main_v473 : IVec S32x1024 1 := andi main_v452 main_v472
  let main_v474 : IVec S32x1024 1 := ori main_v471 main_v473
  let main_v475 : IVec S32x1024 1 := andi main_v469 main_v474
  let main_v476 : FVec F S32x1024 .f32 := select main_v475 main_v465 main_v447
  let main_v477 : IVec S32x1024 1 := ori main_v448 main_v457
  let main_v478 : IVec S32x1024 1 := andi main_v457 main_v37
  let main_v479 : IVec S32x1024 1 := noti main_v478
  fn_part23 (F := F) main_arg0 main_arg1 main_arg2 main_v0 main_v34 main_v37 main_v38 main_v39 main_v40 main_v41 main_v452 main_v461 main_v475 main_v476 main_v477 main_v479

def fn_part21 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v418 : FVec F S32x1024 .f32) (main_v419 : IVec S32x1024 1) (main_v423 : IVec S32x1024 1) (main_v428 : IVec S32x1024 1) (main_v429 : IVec S32x1024 32) (main_v432 : IVec S32 1) (main_v436 : FVec F S32x1024 .f32) : IVec S32x32x32 1 :=
  let main_v437 : IVec S32x32x32 32 := shapeCast S32x32x32 main_v429 shapeCasts_S32x1024_S32x32x32
  let main_c_65 : IVec S_ 32 := constantI S_ 32 2147483648#32
  let main_v438 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v437 main_c_65
  let main_v439 : IVec S32x1024 32 := shapeCast S32x1024 main_v438 shapeCasts_S32x32x32_S32x1024
  let main_v440 : IVec S32x1024 1 := cmpi .sgt main_v439 main_v40
  let main_v441 : IVec S32x1024 1 := ori main_v423 main_v419
  let main_v442 : IVec S32x1024 1 := noti main_v441
  let main_v443 : IVec S32x1024 1 := cmpf .ogt main_v418 main_v436
  let main_v444 : IVec S32x1024 1 := andi main_v423 main_v443
  let main_v445 : IVec S32x1024 1 := ori main_v442 main_v444
  let main_v446 : IVec S32x1024 1 := andi main_v440 main_v445
  let main_v447 : FVec F S32x1024 .f32 := select main_v446 main_v436 main_v418
  let main_v448 : IVec S32x1024 1 := ori main_v419 main_v428
  let main_v449 : IVec S32x1024 1 := andi main_v428 main_v37
  let main_v450 : IVec S32x1024 1 := noti main_v449
  let main_v451 : IVec S32x1024 1 := andi main_v423 main_v450
  let main_v452 : IVec S32x1024 1 := ori main_v451 main_v446
  let main_v453 : FVec F S32x1024 .f32 := addf main_v447 main_v34
  let main_v454 : FVec F S32x1024 .f32 := select main_v452 main_v453 main_v38
  let main_cst_66 : FVec F S_ .f32 := constant S_ .f32 0x7F800000#32
  let main_v455 : FVec F S32 .f32 := (fun x v => Host.reduce FloatOps.minimumf x v reducesTo_S32x1024_S32_d1 h_S_) main_v454 main_cst_66
  let main_v456 : FVec F S32x1024 .f32 := broadcastInDim S32x1024 ![0] bcast_S32_S32x1024_0 main_v455
  let main_v457 : IVec S32x1024 1 := cmpf .oeq main_v454 main_v456
  let main_v458 : IVec S32x1024 32 := (extui 32 · natLt_1_32) main_v457
  fn_part22 (F := F) main_arg0 main_arg1 main_arg2 main_v0 main_v34 main_v37 main_v38 main_v39 main_v40 main_v41 main_v432 main_v447 main_v448 main_v452 main_v457 main_v458

def fn_part20 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v389 : FVec F S32x1024 .f32) (main_v390 : IVec S32x1024 1) (main_v394 : IVec S32x1024 1) (main_v399 : IVec S32x1024 1) (main_v403 : IVec S32 1) (main_v407 : FVec F S32x1024 .f32) (main_v411 : IVec S32x1024 1) (main_v413 : IVec S32x1024 1) (main_v415 : IVec S32x1024 1) : IVec S32x32x32 1 :=
  let main_v416 : IVec S32x1024 1 := ori main_v413 main_v415
  let main_v417 : IVec S32x1024 1 := andi main_v411 main_v416
  let main_v418 : FVec F S32x1024 .f32 := select main_v417 main_v407 main_v389
  let main_v419 : IVec S32x1024 1 := ori main_v390 main_v399
  let main_v420 : IVec S32x1024 1 := andi main_v399 main_v37
  let main_v421 : IVec S32x1024 1 := noti main_v420
  let main_v422 : IVec S32x1024 1 := andi main_v394 main_v421
  let main_v423 : IVec S32x1024 1 := ori main_v422 main_v417
  let main_v424 : FVec F S32x1024 .f32 := addf main_v418 main_v34
  let main_v425 : FVec F S32x1024 .f32 := select main_v423 main_v424 main_v38
  let main_cst_62 : FVec F S_ .f32 := constant S_ .f32 0x7F800000#32
  let main_v426 : FVec F S32 .f32 := (fun x v => Host.reduce FloatOps.minimumf x v reducesTo_S32x1024_S32_d1 h_S_) main_v425 main_cst_62
  let main_v427 : FVec F S32x1024 .f32 := broadcastInDim S32x1024 ![0] bcast_S32_S32x1024_0 main_v426
  let main_v428 : IVec S32x1024 1 := cmpf .oeq main_v425 main_v427
  let main_v429 : IVec S32x1024 32 := (extui 32 · natLt_1_32) main_v428
  let main_c_63 : IVec S_ 32 := constantI S_ 32 0#32
  let main_v430 : IVec S32 32 := (fun x v => Host.reduce IntOp.addi x v reducesTo_S32x1024_S32_d1 h_S_) main_v429 main_c_63
  let main_v431 : IVec S32 1 := cmpi .eq main_v430 main_v41
  let main_v432 : IVec S32 1 := andi main_v403 main_v431
  let main_v433 : FVec F S32x1024 .f32 := addf main_v418 main_v0
  let main_v434 : FVec F S32x1024 .f32 := select main_v428 main_v433 main_v39
  let main_cst_64 : FVec F S_ .f32 := constant S_ .f32 0x00000000#32
  let main_v435 : FVec F S32 .f32 := (fun x v => Host.reduceAdd x v reducesTo_S32x1024_S32_d1 h_S_) main_v434 main_cst_64
  let main_v436 : FVec F S32x1024 .f32 := broadcastInDim S32x1024 ![0] bcast_S32_S32x1024_0 main_v435
  fn_part21 (F := F) main_arg0 main_arg1 main_arg2 main_v0 main_v34 main_v37 main_v38 main_v39 main_v40 main_v41 main_v418 main_v419 main_v423 main_v428 main_v429 main_v432 main_v436

def fn_part19 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v374 : IVec S32 1) (main_v389 : FVec F S32x1024 .f32) (main_v390 : IVec S32x1024 1) (main_v394 : IVec S32x1024 1) (main_v395 : FVec F S32x1024 .f32) : IVec S32x32x32 1 :=
  let main_v396 : FVec F S32x1024 .f32 := select main_v394 main_v395 main_v38
  let main_cst_58 : FVec F S_ .f32 := constant S_ .f32 0x7F800000#32
  let main_v397 : FVec F S32 .f32 := (fun x v => Host.reduce FloatOps.minimumf x v reducesTo_S32x1024_S32_d1 h_S_) main_v396 main_cst_58
  let main_v398 : FVec F S32x1024 .f32 := broadcastInDim S32x1024 ![0] bcast_S32_S32x1024_0 main_v397
  let main_v399 : IVec S32x1024 1 := cmpf .oeq main_v396 main_v398
  let main_v400 : IVec S32x1024 32 := (extui 32 · natLt_1_32) main_v399
  let main_c_59 : IVec S_ 32 := constantI S_ 32 0#32
  let main_v401 : IVec S32 32 := (fun x v => Host.reduce IntOp.addi x v reducesTo_S32x1024_S32_d1 h_S_) main_v400 main_c_59
  let main_v402 : IVec S32 1 := cmpi .eq main_v401 main_v41
  let main_v403 : IVec S32 1 := andi main_v374 main_v402
  let main_v404 : FVec F S32x1024 .f32 := addf main_v389 main_v0
  let main_v405 : FVec F S32x1024 .f32 := select main_v399 main_v404 main_v39
  let main_cst_60 : FVec F S_ .f32 := constant S_ .f32 0x00000000#32
  let main_v406 : FVec F S32 .f32 := (fun x v => Host.reduceAdd x v reducesTo_S32x1024_S32_d1 h_S_) main_v405 main_cst_60
  let main_v407 : FVec F S32x1024 .f32 := broadcastInDim S32x1024 ![0] bcast_S32_S32x1024_0 main_v406
  let main_v408 : IVec S32x32x32 32 := shapeCast S32x32x32 main_v400 shapeCasts_S32x1024_S32x32x32
  let main_c_61 : IVec S_ 32 := constantI S_ 32 2147483648#32
  let main_v409 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v408 main_c_61
  let main_v410 : IVec S32x1024 32 := shapeCast S32x1024 main_v409 shapeCasts_S32x32x32_S32x1024
  let main_v411 : IVec S32x1024 1 := cmpi .sgt main_v410 main_v40
  let main_v412 : IVec S32x1024 1 := ori main_v394 main_v390
  let main_v413 : IVec S32x1024 1 := noti main_v412
  let main_v414 : IVec S32x1024 1 := cmpf .ogt main_v389 main_v407
  let main_v415 : IVec S32x1024 1 := andi main_v394 main_v414
  fn_part20 (F := F) main_arg0 main_arg1 main_arg2 main_v0 main_v34 main_v37 main_v38 main_v39 main_v40 main_v41 main_v389 main_v390 main_v394 main_v399 main_v403 main_v407 main_v411 main_v413 main_v415

def fn_part18 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v345 : IVec S32 1) (main_v360 : FVec F S32x1024 .f32) (main_v361 : IVec S32x1024 1) (main_v365 : IVec S32x1024 1) (main_v370 : IVec S32x1024 1) (main_v371 : IVec S32x1024 32) (main_v373 : IVec S32 1) : IVec S32x32x32 1 :=
  let main_v374 : IVec S32 1 := andi main_v345 main_v373
  let main_v375 : FVec F S32x1024 .f32 := addf main_v360 main_v0
  let main_v376 : FVec F S32x1024 .f32 := select main_v370 main_v375 main_v39
  let main_cst_56 : FVec F S_ .f32 := constant S_ .f32 0x00000000#32
  let main_v377 : FVec F S32 .f32 := (fun x v => Host.reduceAdd x v reducesTo_S32x1024_S32_d1 h_S_) main_v376 main_cst_56
  let main_v378 : FVec F S32x1024 .f32 := broadcastInDim S32x1024 ![0] bcast_S32_S32x1024_0 main_v377
  let main_v379 : IVec S32x32x32 32 := shapeCast S32x32x32 main_v371 shapeCasts_S32x1024_S32x32x32
  let main_c_57 : IVec S_ 32 := constantI S_ 32 2147483648#32
  let main_v380 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v379 main_c_57
  let main_v381 : IVec S32x1024 32 := shapeCast S32x1024 main_v380 shapeCasts_S32x32x32_S32x1024
  let main_v382 : IVec S32x1024 1 := cmpi .sgt main_v381 main_v40
  let main_v383 : IVec S32x1024 1 := ori main_v365 main_v361
  let main_v384 : IVec S32x1024 1 := noti main_v383
  let main_v385 : IVec S32x1024 1 := cmpf .ogt main_v360 main_v378
  let main_v386 : IVec S32x1024 1 := andi main_v365 main_v385
  let main_v387 : IVec S32x1024 1 := ori main_v384 main_v386
  let main_v388 : IVec S32x1024 1 := andi main_v382 main_v387
  let main_v389 : FVec F S32x1024 .f32 := select main_v388 main_v378 main_v360
  let main_v390 : IVec S32x1024 1 := ori main_v361 main_v370
  let main_v391 : IVec S32x1024 1 := andi main_v370 main_v37
  let main_v392 : IVec S32x1024 1 := noti main_v391
  let main_v393 : IVec S32x1024 1 := andi main_v365 main_v392
  let main_v394 : IVec S32x1024 1 := ori main_v393 main_v388
  let main_v395 : FVec F S32x1024 .f32 := addf main_v389 main_v34
  fn_part19 (F := F) main_arg0 main_arg1 main_arg2 main_v0 main_v34 main_v37 main_v38 main_v39 main_v40 main_v41 main_v374 main_v389 main_v390 main_v394 main_v395

def fn_part17 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v331 : FVec F S32x1024 .f32) (main_v332 : IVec S32x1024 1) (main_v336 : IVec S32x1024 1) (main_v341 : IVec S32x1024 1) (main_v345 : IVec S32 1) (main_v349 : FVec F S32x1024 .f32) (main_v351 : IVec S32x32x32 32) : IVec S32x32x32 1 :=
  let main_v352 : IVec S32x1024 32 := shapeCast S32x1024 main_v351 shapeCasts_S32x32x32_S32x1024
  let main_v353 : IVec S32x1024 1 := cmpi .sgt main_v352 main_v40
  let main_v354 : IVec S32x1024 1 := ori main_v336 main_v332
  let main_v355 : IVec S32x1024 1 := noti main_v354
  let main_v356 : IVec S32x1024 1 := cmpf .ogt main_v331 main_v349
  let main_v357 : IVec S32x1024 1 := andi main_v336 main_v356
  let main_v358 : IVec S32x1024 1 := ori main_v355 main_v357
  let main_v359 : IVec S32x1024 1 := andi main_v353 main_v358
  let main_v360 : FVec F S32x1024 .f32 := select main_v359 main_v349 main_v331
  let main_v361 : IVec S32x1024 1 := ori main_v332 main_v341
  let main_v362 : IVec S32x1024 1 := andi main_v341 main_v37
  let main_v363 : IVec S32x1024 1 := noti main_v362
  let main_v364 : IVec S32x1024 1 := andi main_v336 main_v363
  let main_v365 : IVec S32x1024 1 := ori main_v364 main_v359
  let main_v366 : FVec F S32x1024 .f32 := addf main_v360 main_v34
  let main_v367 : FVec F S32x1024 .f32 := select main_v365 main_v366 main_v38
  let main_cst_54 : FVec F S_ .f32 := constant S_ .f32 0x7F800000#32
  let main_v368 : FVec F S32 .f32 := (fun x v => Host.reduce FloatOps.minimumf x v reducesTo_S32x1024_S32_d1 h_S_) main_v367 main_cst_54
  let main_v369 : FVec F S32x1024 .f32 := broadcastInDim S32x1024 ![0] bcast_S32_S32x1024_0 main_v368
  let main_v370 : IVec S32x1024 1 := cmpf .oeq main_v367 main_v369
  let main_v371 : IVec S32x1024 32 := (extui 32 · natLt_1_32) main_v370
  let main_c_55 : IVec S_ 32 := constantI S_ 32 0#32
  let main_v372 : IVec S32 32 := (fun x v => Host.reduce IntOp.addi x v reducesTo_S32x1024_S32_d1 h_S_) main_v371 main_c_55
  let main_v373 : IVec S32 1 := cmpi .eq main_v372 main_v41
  fn_part18 (F := F) main_arg0 main_arg1 main_arg2 main_v0 main_v34 main_v37 main_v38 main_v39 main_v40 main_v41 main_v345 main_v360 main_v361 main_v365 main_v370 main_v371 main_v373

def fn_part16 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v303 : IVec S32x1024 1) (main_v307 : IVec S32x1024 1) (main_v312 : IVec S32x1024 1) (main_v316 : IVec S32 1) (main_v330 : IVec S32x1024 1) (main_v331 : FVec F S32x1024 .f32) : IVec S32x32x32 1 :=
  let main_v332 : IVec S32x1024 1 := ori main_v303 main_v312
  let main_v333 : IVec S32x1024 1 := andi main_v312 main_v37
  let main_v334 : IVec S32x1024 1 := noti main_v333
  let main_v335 : IVec S32x1024 1 := andi main_v307 main_v334
  let main_v336 : IVec S32x1024 1 := ori main_v335 main_v330
  let main_v337 : FVec F S32x1024 .f32 := addf main_v331 main_v34
  let main_v338 : FVec F S32x1024 .f32 := select main_v336 main_v337 main_v38
  let main_cst_50 : FVec F S_ .f32 := constant S_ .f32 0x7F800000#32
  let main_v339 : FVec F S32 .f32 := (fun x v => Host.reduce FloatOps.minimumf x v reducesTo_S32x1024_S32_d1 h_S_) main_v338 main_cst_50
  let main_v340 : FVec F S32x1024 .f32 := broadcastInDim S32x1024 ![0] bcast_S32_S32x1024_0 main_v339
  let main_v341 : IVec S32x1024 1 := cmpf .oeq main_v338 main_v340
  let main_v342 : IVec S32x1024 32 := (extui 32 · natLt_1_32) main_v341
  let main_c_51 : IVec S_ 32 := constantI S_ 32 0#32
  let main_v343 : IVec S32 32 := (fun x v => Host.reduce IntOp.addi x v reducesTo_S32x1024_S32_d1 h_S_) main_v342 main_c_51
  let main_v344 : IVec S32 1 := cmpi .eq main_v343 main_v41
  let main_v345 : IVec S32 1 := andi main_v316 main_v344
  let main_v346 : FVec F S32x1024 .f32 := addf main_v331 main_v0
  let main_v347 : FVec F S32x1024 .f32 := select main_v341 main_v346 main_v39
  let main_cst_52 : FVec F S_ .f32 := constant S_ .f32 0x00000000#32
  let main_v348 : FVec F S32 .f32 := (fun x v => Host.reduceAdd x v reducesTo_S32x1024_S32_d1 h_S_) main_v347 main_cst_52
  let main_v349 : FVec F S32x1024 .f32 := broadcastInDim S32x1024 ![0] bcast_S32_S32x1024_0 main_v348
  let main_v350 : IVec S32x32x32 32 := shapeCast S32x32x32 main_v342 shapeCasts_S32x1024_S32x32x32
  let main_c_53 : IVec S_ 32 := constantI S_ 32 2147483648#32
  let main_v351 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v350 main_c_53
  fn_part17 (F := F) main_arg0 main_arg1 main_arg2 main_v0 main_v34 main_v37 main_v38 main_v39 main_v40 main_v41 main_v331 main_v332 main_v336 main_v341 main_v345 main_v349 main_v351

def fn_part15 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v287 : IVec S32 1) (main_v302 : FVec F S32x1024 .f32) (main_v303 : IVec S32x1024 1) (main_v307 : IVec S32x1024 1) (main_v309 : FVec F S32x1024 .f32) (main_v310 : FVec F S32 .f32) : IVec S32x32x32 1 :=
  let main_v311 : FVec F S32x1024 .f32 := broadcastInDim S32x1024 ![0] bcast_S32_S32x1024_0 main_v310
  let main_v312 : IVec S32x1024 1 := cmpf .oeq main_v309 main_v311
  let main_v313 : IVec S32x1024 32 := (extui 32 · natLt_1_32) main_v312
  let main_c_47 : IVec S_ 32 := constantI S_ 32 0#32
  let main_v314 : IVec S32 32 := (fun x v => Host.reduce IntOp.addi x v reducesTo_S32x1024_S32_d1 h_S_) main_v313 main_c_47
  let main_v315 : IVec S32 1 := cmpi .eq main_v314 main_v41
  let main_v316 : IVec S32 1 := andi main_v287 main_v315
  let main_v317 : FVec F S32x1024 .f32 := addf main_v302 main_v0
  let main_v318 : FVec F S32x1024 .f32 := select main_v312 main_v317 main_v39
  let main_cst_48 : FVec F S_ .f32 := constant S_ .f32 0x00000000#32
  let main_v319 : FVec F S32 .f32 := (fun x v => Host.reduceAdd x v reducesTo_S32x1024_S32_d1 h_S_) main_v318 main_cst_48
  let main_v320 : FVec F S32x1024 .f32 := broadcastInDim S32x1024 ![0] bcast_S32_S32x1024_0 main_v319
  let main_v321 : IVec S32x32x32 32 := shapeCast S32x32x32 main_v313 shapeCasts_S32x1024_S32x32x32
  let main_c_49 : IVec S_ 32 := constantI S_ 32 2147483648#32
  let main_v322 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v321 main_c_49
  let main_v323 : IVec S32x1024 32 := shapeCast S32x1024 main_v322 shapeCasts_S32x32x32_S32x1024
  let main_v324 : IVec S32x1024 1 := cmpi .sgt main_v323 main_v40
  let main_v325 : IVec S32x1024 1 := ori main_v307 main_v303
  let main_v326 : IVec S32x1024 1 := noti main_v325
  let main_v327 : IVec S32x1024 1 := cmpf .ogt main_v302 main_v320
  let main_v328 : IVec S32x1024 1 := andi main_v307 main_v327
  let main_v329 : IVec S32x1024 1 := ori main_v326 main_v328
  let main_v330 : IVec S32x1024 1 := andi main_v324 main_v329
  let main_v331 : FVec F S32x1024 .f32 := select main_v330 main_v320 main_v302
  fn_part16 (F := F) main_arg0 main_arg1 main_arg2 main_v0 main_v34 main_v37 main_v38 main_v39 main_v40 main_v41 main_v303 main_v307 main_v312 main_v316 main_v330 main_v331

def fn_part14 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v273 : FVec F S32x1024 .f32) (main_v274 : IVec S32x1024 1) (main_v278 : IVec S32x1024 1) (main_v283 : IVec S32x1024 1) (main_v284 : IVec S32x1024 32) (main_v287 : IVec S32 1) (main_v289 : FVec F S32x1024 .f32) : IVec S32x32x32 1 :=
  let main_cst_44 : FVec F S_ .f32 := constant S_ .f32 0x00000000#32
  let main_v290 : FVec F S32 .f32 := (fun x v => Host.reduceAdd x v reducesTo_S32x1024_S32_d1 h_S_) main_v289 main_cst_44
  let main_v291 : FVec F S32x1024 .f32 := broadcastInDim S32x1024 ![0] bcast_S32_S32x1024_0 main_v290
  let main_v292 : IVec S32x32x32 32 := shapeCast S32x32x32 main_v284 shapeCasts_S32x1024_S32x32x32
  let main_c_45 : IVec S_ 32 := constantI S_ 32 2147483648#32
  let main_v293 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v292 main_c_45
  let main_v294 : IVec S32x1024 32 := shapeCast S32x1024 main_v293 shapeCasts_S32x32x32_S32x1024
  let main_v295 : IVec S32x1024 1 := cmpi .sgt main_v294 main_v40
  let main_v296 : IVec S32x1024 1 := ori main_v278 main_v274
  let main_v297 : IVec S32x1024 1 := noti main_v296
  let main_v298 : IVec S32x1024 1 := cmpf .ogt main_v273 main_v291
  let main_v299 : IVec S32x1024 1 := andi main_v278 main_v298
  let main_v300 : IVec S32x1024 1 := ori main_v297 main_v299
  let main_v301 : IVec S32x1024 1 := andi main_v295 main_v300
  let main_v302 : FVec F S32x1024 .f32 := select main_v301 main_v291 main_v273
  let main_v303 : IVec S32x1024 1 := ori main_v274 main_v283
  let main_v304 : IVec S32x1024 1 := andi main_v283 main_v37
  let main_v305 : IVec S32x1024 1 := noti main_v304
  let main_v306 : IVec S32x1024 1 := andi main_v278 main_v305
  let main_v307 : IVec S32x1024 1 := ori main_v306 main_v301
  let main_v308 : FVec F S32x1024 .f32 := addf main_v302 main_v34
  let main_v309 : FVec F S32x1024 .f32 := select main_v307 main_v308 main_v38
  let main_cst_46 : FVec F S_ .f32 := constant S_ .f32 0x7F800000#32
  let main_v310 : FVec F S32 .f32 := (fun x v => Host.reduce FloatOps.minimumf x v reducesTo_S32x1024_S32_d1 h_S_) main_v309 main_cst_46
  fn_part15 (F := F) main_arg0 main_arg1 main_arg2 main_v0 main_v34 main_v37 main_v38 main_v39 main_v40 main_v41 main_v287 main_v302 main_v303 main_v307 main_v309 main_v310

def fn_part13 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v244 : FVec F S32x1024 .f32) (main_v245 : IVec S32x1024 1) (main_v249 : IVec S32x1024 1) (main_v254 : IVec S32x1024 1) (main_v258 : IVec S32 1) (main_v262 : FVec F S32x1024 .f32) (main_v266 : IVec S32x1024 1) (main_v267 : IVec S32x1024 1) : IVec S32x32x32 1 :=
  let main_v268 : IVec S32x1024 1 := noti main_v267
  let main_v269 : IVec S32x1024 1 := cmpf .ogt main_v244 main_v262
  let main_v270 : IVec S32x1024 1 := andi main_v249 main_v269
  let main_v271 : IVec S32x1024 1 := ori main_v268 main_v270
  let main_v272 : IVec S32x1024 1 := andi main_v266 main_v271
  let main_v273 : FVec F S32x1024 .f32 := select main_v272 main_v262 main_v244
  let main_v274 : IVec S32x1024 1 := ori main_v245 main_v254
  let main_v275 : IVec S32x1024 1 := andi main_v254 main_v37
  let main_v276 : IVec S32x1024 1 := noti main_v275
  let main_v277 : IVec S32x1024 1 := andi main_v249 main_v276
  let main_v278 : IVec S32x1024 1 := ori main_v277 main_v272
  let main_v279 : FVec F S32x1024 .f32 := addf main_v273 main_v34
  let main_v280 : FVec F S32x1024 .f32 := select main_v278 main_v279 main_v38
  let main_cst_42 : FVec F S_ .f32 := constant S_ .f32 0x7F800000#32
  let main_v281 : FVec F S32 .f32 := (fun x v => Host.reduce FloatOps.minimumf x v reducesTo_S32x1024_S32_d1 h_S_) main_v280 main_cst_42
  let main_v282 : FVec F S32x1024 .f32 := broadcastInDim S32x1024 ![0] bcast_S32_S32x1024_0 main_v281
  let main_v283 : IVec S32x1024 1 := cmpf .oeq main_v280 main_v282
  let main_v284 : IVec S32x1024 32 := (extui 32 · natLt_1_32) main_v283
  let main_c_43 : IVec S_ 32 := constantI S_ 32 0#32
  let main_v285 : IVec S32 32 := (fun x v => Host.reduce IntOp.addi x v reducesTo_S32x1024_S32_d1 h_S_) main_v284 main_c_43
  let main_v286 : IVec S32 1 := cmpi .eq main_v285 main_v41
  let main_v287 : IVec S32 1 := andi main_v258 main_v286
  let main_v288 : FVec F S32x1024 .f32 := addf main_v273 main_v0
  let main_v289 : FVec F S32x1024 .f32 := select main_v283 main_v288 main_v39
  fn_part14 (F := F) main_arg0 main_arg1 main_arg2 main_v0 main_v34 main_v37 main_v38 main_v39 main_v40 main_v41 main_v273 main_v274 main_v278 main_v283 main_v284 main_v287 main_v289

def fn_part12 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v220 : IVec S32x1024 1) (main_v229 : IVec S32 1) (main_v243 : IVec S32x1024 1) (main_v244 : FVec F S32x1024 .f32) (main_v245 : IVec S32x1024 1) (main_v247 : IVec S32x1024 1) : IVec S32x32x32 1 :=
  let main_v248 : IVec S32x1024 1 := andi main_v220 main_v247
  let main_v249 : IVec S32x1024 1 := ori main_v248 main_v243
  let main_v250 : FVec F S32x1024 .f32 := addf main_v244 main_v34
  let main_v251 : FVec F S32x1024 .f32 := select main_v249 main_v250 main_v38
  let main_cst_38 : FVec F S_ .f32 := constant S_ .f32 0x7F800000#32
  let main_v252 : FVec F S32 .f32 := (fun x v => Host.reduce FloatOps.minimumf x v reducesTo_S32x1024_S32_d1 h_S_) main_v251 main_cst_38
  let main_v253 : FVec F S32x1024 .f32 := broadcastInDim S32x1024 ![0] bcast_S32_S32x1024_0 main_v252
  let main_v254 : IVec S32x1024 1 := cmpf .oeq main_v251 main_v253
  let main_v255 : IVec S32x1024 32 := (extui 32 · natLt_1_32) main_v254
  let main_c_39 : IVec S_ 32 := constantI S_ 32 0#32
  let main_v256 : IVec S32 32 := (fun x v => Host.reduce IntOp.addi x v reducesTo_S32x1024_S32_d1 h_S_) main_v255 main_c_39
  let main_v257 : IVec S32 1 := cmpi .eq main_v256 main_v41
  let main_v258 : IVec S32 1 := andi main_v229 main_v257
  let main_v259 : FVec F S32x1024 .f32 := addf main_v244 main_v0
  let main_v260 : FVec F S32x1024 .f32 := select main_v254 main_v259 main_v39
  let main_cst_40 : FVec F S_ .f32 := constant S_ .f32 0x00000000#32
  let main_v261 : FVec F S32 .f32 := (fun x v => Host.reduceAdd x v reducesTo_S32x1024_S32_d1 h_S_) main_v260 main_cst_40
  let main_v262 : FVec F S32x1024 .f32 := broadcastInDim S32x1024 ![0] bcast_S32_S32x1024_0 main_v261
  let main_v263 : IVec S32x32x32 32 := shapeCast S32x32x32 main_v255 shapeCasts_S32x1024_S32x32x32
  let main_c_41 : IVec S_ 32 := constantI S_ 32 2147483648#32
  let main_v264 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v263 main_c_41
  let main_v265 : IVec S32x1024 32 := shapeCast S32x1024 main_v264 shapeCasts_S32x32x32_S32x1024
  let main_v266 : IVec S32x1024 1 := cmpi .sgt main_v265 main_v40
  let main_v267 : IVec S32x1024 1 := ori main_v249 main_v245
  fn_part13 (F := F) main_arg0 main_arg1 main_arg2 main_v0 main_v34 main_v37 main_v38 main_v39 main_v40 main_v41 main_v244 main_v245 main_v249 main_v254 main_v258 main_v262 main_v266 main_v267

def fn_part11 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v200 : IVec S32 1) (main_v215 : FVec F S32x1024 .f32) (main_v216 : IVec S32x1024 1) (main_v220 : IVec S32x1024 1) (main_v225 : IVec S32x1024 1) (main_v226 : IVec S32x1024 32) : IVec S32x32x32 1 :=
  let main_c_35 : IVec S_ 32 := constantI S_ 32 0#32
  let main_v227 : IVec S32 32 := (fun x v => Host.reduce IntOp.addi x v reducesTo_S32x1024_S32_d1 h_S_) main_v226 main_c_35
  let main_v228 : IVec S32 1 := cmpi .eq main_v227 main_v41
  let main_v229 : IVec S32 1 := andi main_v200 main_v228
  let main_v230 : FVec F S32x1024 .f32 := addf main_v215 main_v0
  let main_v231 : FVec F S32x1024 .f32 := select main_v225 main_v230 main_v39
  let main_cst_36 : FVec F S_ .f32 := constant S_ .f32 0x00000000#32
  let main_v232 : FVec F S32 .f32 := (fun x v => Host.reduceAdd x v reducesTo_S32x1024_S32_d1 h_S_) main_v231 main_cst_36
  let main_v233 : FVec F S32x1024 .f32 := broadcastInDim S32x1024 ![0] bcast_S32_S32x1024_0 main_v232
  let main_v234 : IVec S32x32x32 32 := shapeCast S32x32x32 main_v226 shapeCasts_S32x1024_S32x32x32
  let main_c_37 : IVec S_ 32 := constantI S_ 32 2147483648#32
  let main_v235 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v234 main_c_37
  let main_v236 : IVec S32x1024 32 := shapeCast S32x1024 main_v235 shapeCasts_S32x32x32_S32x1024
  let main_v237 : IVec S32x1024 1 := cmpi .sgt main_v236 main_v40
  let main_v238 : IVec S32x1024 1 := ori main_v220 main_v216
  let main_v239 : IVec S32x1024 1 := noti main_v238
  let main_v240 : IVec S32x1024 1 := cmpf .ogt main_v215 main_v233
  let main_v241 : IVec S32x1024 1 := andi main_v220 main_v240
  let main_v242 : IVec S32x1024 1 := ori main_v239 main_v241
  let main_v243 : IVec S32x1024 1 := andi main_v237 main_v242
  let main_v244 : FVec F S32x1024 .f32 := select main_v243 main_v233 main_v215
  let main_v245 : IVec S32x1024 1 := ori main_v216 main_v225
  let main_v246 : IVec S32x1024 1 := andi main_v225 main_v37
  let main_v247 : IVec S32x1024 1 := noti main_v246
  fn_part12 (F := F) main_arg0 main_arg1 main_arg2 main_v0 main_v34 main_v37 main_v38 main_v39 main_v40 main_v41 main_v220 main_v229 main_v243 main_v244 main_v245 main_v247

def fn_part10 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v186 : FVec F S32x1024 .f32) (main_v187 : IVec S32x1024 1) (main_v191 : IVec S32x1024 1) (main_v196 : IVec S32x1024 1) (main_v197 : IVec S32x1024 32) (main_v200 : IVec S32 1) (main_v204 : FVec F S32x1024 .f32) : IVec S32x32x32 1 :=
  let main_v205 : IVec S32x32x32 32 := shapeCast S32x32x32 main_v197 shapeCasts_S32x1024_S32x32x32
  let main_c_33 : IVec S_ 32 := constantI S_ 32 2147483648#32
  let main_v206 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v205 main_c_33
  let main_v207 : IVec S32x1024 32 := shapeCast S32x1024 main_v206 shapeCasts_S32x32x32_S32x1024
  let main_v208 : IVec S32x1024 1 := cmpi .sgt main_v207 main_v40
  let main_v209 : IVec S32x1024 1 := ori main_v191 main_v187
  let main_v210 : IVec S32x1024 1 := noti main_v209
  let main_v211 : IVec S32x1024 1 := cmpf .ogt main_v186 main_v204
  let main_v212 : IVec S32x1024 1 := andi main_v191 main_v211
  let main_v213 : IVec S32x1024 1 := ori main_v210 main_v212
  let main_v214 : IVec S32x1024 1 := andi main_v208 main_v213
  let main_v215 : FVec F S32x1024 .f32 := select main_v214 main_v204 main_v186
  let main_v216 : IVec S32x1024 1 := ori main_v187 main_v196
  let main_v217 : IVec S32x1024 1 := andi main_v196 main_v37
  let main_v218 : IVec S32x1024 1 := noti main_v217
  let main_v219 : IVec S32x1024 1 := andi main_v191 main_v218
  let main_v220 : IVec S32x1024 1 := ori main_v219 main_v214
  let main_v221 : FVec F S32x1024 .f32 := addf main_v215 main_v34
  let main_v222 : FVec F S32x1024 .f32 := select main_v220 main_v221 main_v38
  let main_cst_34 : FVec F S_ .f32 := constant S_ .f32 0x7F800000#32
  let main_v223 : FVec F S32 .f32 := (fun x v => Host.reduce FloatOps.minimumf x v reducesTo_S32x1024_S32_d1 h_S_) main_v222 main_cst_34
  let main_v224 : FVec F S32x1024 .f32 := broadcastInDim S32x1024 ![0] bcast_S32_S32x1024_0 main_v223
  let main_v225 : IVec S32x1024 1 := cmpf .oeq main_v222 main_v224
  let main_v226 : IVec S32x1024 32 := (extui 32 · natLt_1_32) main_v225
  fn_part11 (F := F) main_arg0 main_arg1 main_arg2 main_v0 main_v34 main_v37 main_v38 main_v39 main_v40 main_v41 main_v200 main_v215 main_v216 main_v220 main_v225 main_v226

def fn_part9 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v157 : FVec F S32x1024 .f32) (main_v158 : IVec S32x1024 1) (main_v162 : IVec S32x1024 1) (main_v167 : IVec S32x1024 1) (main_v171 : IVec S32 1) (main_v175 : FVec F S32x1024 .f32) (main_v179 : IVec S32x1024 1) (main_v181 : IVec S32x1024 1) (main_v183 : IVec S32x1024 1) : IVec S32x32x32 1 :=
  let main_v184 : IVec S32x1024 1 := ori main_v181 main_v183
  let main_v185 : IVec S32x1024 1 := andi main_v179 main_v184
  let main_v186 : FVec F S32x1024 .f32 := select main_v185 main_v175 main_v157
  let main_v187 : IVec S32x1024 1 := ori main_v158 main_v167
  let main_v188 : IVec S32x1024 1 := andi main_v167 main_v37
  let main_v189 : IVec S32x1024 1 := noti main_v188
  let main_v190 : IVec S32x1024 1 := andi main_v162 main_v189
  let main_v191 : IVec S32x1024 1 := ori main_v190 main_v185
  let main_v192 : FVec F S32x1024 .f32 := addf main_v186 main_v34
  let main_v193 : FVec F S32x1024 .f32 := select main_v191 main_v192 main_v38
  let main_cst_30 : FVec F S_ .f32 := constant S_ .f32 0x7F800000#32
  let main_v194 : FVec F S32 .f32 := (fun x v => Host.reduce FloatOps.minimumf x v reducesTo_S32x1024_S32_d1 h_S_) main_v193 main_cst_30
  let main_v195 : FVec F S32x1024 .f32 := broadcastInDim S32x1024 ![0] bcast_S32_S32x1024_0 main_v194
  let main_v196 : IVec S32x1024 1 := cmpf .oeq main_v193 main_v195
  let main_v197 : IVec S32x1024 32 := (extui 32 · natLt_1_32) main_v196
  let main_c_31 : IVec S_ 32 := constantI S_ 32 0#32
  let main_v198 : IVec S32 32 := (fun x v => Host.reduce IntOp.addi x v reducesTo_S32x1024_S32_d1 h_S_) main_v197 main_c_31
  let main_v199 : IVec S32 1 := cmpi .eq main_v198 main_v41
  let main_v200 : IVec S32 1 := andi main_v171 main_v199
  let main_v201 : FVec F S32x1024 .f32 := addf main_v186 main_v0
  let main_v202 : FVec F S32x1024 .f32 := select main_v196 main_v201 main_v39
  let main_cst_32 : FVec F S_ .f32 := constant S_ .f32 0x00000000#32
  let main_v203 : FVec F S32 .f32 := (fun x v => Host.reduceAdd x v reducesTo_S32x1024_S32_d1 h_S_) main_v202 main_cst_32
  let main_v204 : FVec F S32x1024 .f32 := broadcastInDim S32x1024 ![0] bcast_S32_S32x1024_0 main_v203
  fn_part10 (F := F) main_arg0 main_arg1 main_arg2 main_v0 main_v34 main_v37 main_v38 main_v39 main_v40 main_v41 main_v186 main_v187 main_v191 main_v196 main_v197 main_v200 main_v204

def fn_part8 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v142 : IVec S32 1) (main_v157 : FVec F S32x1024 .f32) (main_v158 : IVec S32x1024 1) (main_v162 : IVec S32x1024 1) (main_v163 : FVec F S32x1024 .f32) : IVec S32x32x32 1 :=
  let main_v164 : FVec F S32x1024 .f32 := select main_v162 main_v163 main_v38
  let main_cst_26 : FVec F S_ .f32 := constant S_ .f32 0x7F800000#32
  let main_v165 : FVec F S32 .f32 := (fun x v => Host.reduce FloatOps.minimumf x v reducesTo_S32x1024_S32_d1 h_S_) main_v164 main_cst_26
  let main_v166 : FVec F S32x1024 .f32 := broadcastInDim S32x1024 ![0] bcast_S32_S32x1024_0 main_v165
  let main_v167 : IVec S32x1024 1 := cmpf .oeq main_v164 main_v166
  let main_v168 : IVec S32x1024 32 := (extui 32 · natLt_1_32) main_v167
  let main_c_27 : IVec S_ 32 := constantI S_ 32 0#32
  let main_v169 : IVec S32 32 := (fun x v => Host.reduce IntOp.addi x v reducesTo_S32x1024_S32_d1 h_S_) main_v168 main_c_27
  let main_v170 : IVec S32 1 := cmpi .eq main_v169 main_v41
  let main_v171 : IVec S32 1 := andi main_v142 main_v170
  let main_v172 : FVec F S32x1024 .f32 := addf main_v157 main_v0
  let main_v173 : FVec F S32x1024 .f32 := select main_v167 main_v172 main_v39
  let main_cst_28 : FVec F S_ .f32 := constant S_ .f32 0x00000000#32
  let main_v174 : FVec F S32 .f32 := (fun x v => Host.reduceAdd x v reducesTo_S32x1024_S32_d1 h_S_) main_v173 main_cst_28
  let main_v175 : FVec F S32x1024 .f32 := broadcastInDim S32x1024 ![0] bcast_S32_S32x1024_0 main_v174
  let main_v176 : IVec S32x32x32 32 := shapeCast S32x32x32 main_v168 shapeCasts_S32x1024_S32x32x32
  let main_c_29 : IVec S_ 32 := constantI S_ 32 2147483648#32
  let main_v177 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v176 main_c_29
  let main_v178 : IVec S32x1024 32 := shapeCast S32x1024 main_v177 shapeCasts_S32x32x32_S32x1024
  let main_v179 : IVec S32x1024 1 := cmpi .sgt main_v178 main_v40
  let main_v180 : IVec S32x1024 1 := ori main_v162 main_v158
  let main_v181 : IVec S32x1024 1 := noti main_v180
  let main_v182 : IVec S32x1024 1 := cmpf .ogt main_v157 main_v175
  let main_v183 : IVec S32x1024 1 := andi main_v162 main_v182
  fn_part9 (F := F) main_arg0 main_arg1 main_arg2 main_v0 main_v34 main_v37 main_v38 main_v39 main_v40 main_v41 main_v157 main_v158 main_v162 main_v167 main_v171 main_v175 main_v179 main_v181 main_v183

def fn_part7 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v113 : IVec S32 1) (main_v128 : FVec F S32x1024 .f32) (main_v129 : IVec S32x1024 1) (main_v133 : IVec S32x1024 1) (main_v138 : IVec S32x1024 1) (main_v139 : IVec S32x1024 32) (main_v141 : IVec S32 1) : IVec S32x32x32 1 :=
  let main_v142 : IVec S32 1 := andi main_v113 main_v141
  let main_v143 : FVec F S32x1024 .f32 := addf main_v128 main_v0
  let main_v144 : FVec F S32x1024 .f32 := select main_v138 main_v143 main_v39
  let main_cst_24 : FVec F S_ .f32 := constant S_ .f32 0x00000000#32
  let main_v145 : FVec F S32 .f32 := (fun x v => Host.reduceAdd x v reducesTo_S32x1024_S32_d1 h_S_) main_v144 main_cst_24
  let main_v146 : FVec F S32x1024 .f32 := broadcastInDim S32x1024 ![0] bcast_S32_S32x1024_0 main_v145
  let main_v147 : IVec S32x32x32 32 := shapeCast S32x32x32 main_v139 shapeCasts_S32x1024_S32x32x32
  let main_c_25 : IVec S_ 32 := constantI S_ 32 2147483648#32
  let main_v148 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v147 main_c_25
  let main_v149 : IVec S32x1024 32 := shapeCast S32x1024 main_v148 shapeCasts_S32x32x32_S32x1024
  let main_v150 : IVec S32x1024 1 := cmpi .sgt main_v149 main_v40
  let main_v151 : IVec S32x1024 1 := ori main_v133 main_v129
  let main_v152 : IVec S32x1024 1 := noti main_v151
  let main_v153 : IVec S32x1024 1 := cmpf .ogt main_v128 main_v146
  let main_v154 : IVec S32x1024 1 := andi main_v133 main_v153
  let main_v155 : IVec S32x1024 1 := ori main_v152 main_v154
  let main_v156 : IVec S32x1024 1 := andi main_v150 main_v155
  let main_v157 : FVec F S32x1024 .f32 := select main_v156 main_v146 main_v128
  let main_v158 : IVec S32x1024 1 := ori main_v129 main_v138
  let main_v159 : IVec S32x1024 1 := andi main_v138 main_v37
  let main_v160 : IVec S32x1024 1 := noti main_v159
  let main_v161 : IVec S32x1024 1 := andi main_v133 main_v160
  let main_v162 : IVec S32x1024 1 := ori main_v161 main_v156
  let main_v163 : FVec F S32x1024 .f32 := addf main_v157 main_v34
  fn_part8 (F := F) main_arg0 main_arg1 main_arg2 main_v0 main_v34 main_v37 main_v38 main_v39 main_v40 main_v41 main_v142 main_v157 main_v158 main_v162 main_v163

def fn_part6 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v99 : FVec F S32x1024 .f32) (main_v100 : IVec S32x1024 1) (main_v104 : IVec S32x1024 1) (main_v109 : IVec S32x1024 1) (main_v113 : IVec S32 1) (main_v117 : FVec F S32x1024 .f32) (main_v119 : IVec S32x32x32 32) : IVec S32x32x32 1 :=
  let main_v120 : IVec S32x1024 32 := shapeCast S32x1024 main_v119 shapeCasts_S32x32x32_S32x1024
  let main_v121 : IVec S32x1024 1 := cmpi .sgt main_v120 main_v40
  let main_v122 : IVec S32x1024 1 := ori main_v104 main_v100
  let main_v123 : IVec S32x1024 1 := noti main_v122
  let main_v124 : IVec S32x1024 1 := cmpf .ogt main_v99 main_v117
  let main_v125 : IVec S32x1024 1 := andi main_v104 main_v124
  let main_v126 : IVec S32x1024 1 := ori main_v123 main_v125
  let main_v127 : IVec S32x1024 1 := andi main_v121 main_v126
  let main_v128 : FVec F S32x1024 .f32 := select main_v127 main_v117 main_v99
  let main_v129 : IVec S32x1024 1 := ori main_v100 main_v109
  let main_v130 : IVec S32x1024 1 := andi main_v109 main_v37
  let main_v131 : IVec S32x1024 1 := noti main_v130
  let main_v132 : IVec S32x1024 1 := andi main_v104 main_v131
  let main_v133 : IVec S32x1024 1 := ori main_v132 main_v127
  let main_v134 : FVec F S32x1024 .f32 := addf main_v128 main_v34
  let main_v135 : FVec F S32x1024 .f32 := select main_v133 main_v134 main_v38
  let main_cst_22 : FVec F S_ .f32 := constant S_ .f32 0x7F800000#32
  let main_v136 : FVec F S32 .f32 := (fun x v => Host.reduce FloatOps.minimumf x v reducesTo_S32x1024_S32_d1 h_S_) main_v135 main_cst_22
  let main_v137 : FVec F S32x1024 .f32 := broadcastInDim S32x1024 ![0] bcast_S32_S32x1024_0 main_v136
  let main_v138 : IVec S32x1024 1 := cmpf .oeq main_v135 main_v137
  let main_v139 : IVec S32x1024 32 := (extui 32 · natLt_1_32) main_v138
  let main_c_23 : IVec S_ 32 := constantI S_ 32 0#32
  let main_v140 : IVec S32 32 := (fun x v => Host.reduce IntOp.addi x v reducesTo_S32x1024_S32_d1 h_S_) main_v139 main_c_23
  let main_v141 : IVec S32 1 := cmpi .eq main_v140 main_v41
  fn_part7 (F := F) main_arg0 main_arg1 main_arg2 main_v0 main_v34 main_v37 main_v38 main_v39 main_v40 main_v41 main_v113 main_v128 main_v129 main_v133 main_v138 main_v139 main_v141

def fn_part5 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v71 : IVec S32x1024 1) (main_v75 : IVec S32x1024 1) (main_v80 : IVec S32x1024 1) (main_v84 : IVec S32 1) (main_v98 : IVec S32x1024 1) (main_v99 : FVec F S32x1024 .f32) : IVec S32x32x32 1 :=
  let main_v100 : IVec S32x1024 1 := ori main_v71 main_v80
  let main_v101 : IVec S32x1024 1 := andi main_v80 main_v37
  let main_v102 : IVec S32x1024 1 := noti main_v101
  let main_v103 : IVec S32x1024 1 := andi main_v75 main_v102
  let main_v104 : IVec S32x1024 1 := ori main_v103 main_v98
  let main_v105 : FVec F S32x1024 .f32 := addf main_v99 main_v34
  let main_v106 : FVec F S32x1024 .f32 := select main_v104 main_v105 main_v38
  let main_cst_18 : FVec F S_ .f32 := constant S_ .f32 0x7F800000#32
  let main_v107 : FVec F S32 .f32 := (fun x v => Host.reduce FloatOps.minimumf x v reducesTo_S32x1024_S32_d1 h_S_) main_v106 main_cst_18
  let main_v108 : FVec F S32x1024 .f32 := broadcastInDim S32x1024 ![0] bcast_S32_S32x1024_0 main_v107
  let main_v109 : IVec S32x1024 1 := cmpf .oeq main_v106 main_v108
  let main_v110 : IVec S32x1024 32 := (extui 32 · natLt_1_32) main_v109
  let main_c_19 : IVec S_ 32 := constantI S_ 32 0#32
  let main_v111 : IVec S32 32 := (fun x v => Host.reduce IntOp.addi x v reducesTo_S32x1024_S32_d1 h_S_) main_v110 main_c_19
  let main_v112 : IVec S32 1 := cmpi .eq main_v111 main_v41
  let main_v113 : IVec S32 1 := andi main_v84 main_v112
  let main_v114 : FVec F S32x1024 .f32 := addf main_v99 main_v0
  let main_v115 : FVec F S32x1024 .f32 := select main_v109 main_v114 main_v39
  let main_cst_20 : FVec F S_ .f32 := constant S_ .f32 0x00000000#32
  let main_v116 : FVec F S32 .f32 := (fun x v => Host.reduceAdd x v reducesTo_S32x1024_S32_d1 h_S_) main_v115 main_cst_20
  let main_v117 : FVec F S32x1024 .f32 := broadcastInDim S32x1024 ![0] bcast_S32_S32x1024_0 main_v116
  let main_v118 : IVec S32x32x32 32 := shapeCast S32x32x32 main_v110 shapeCasts_S32x1024_S32x32x32
  let main_c_21 : IVec S_ 32 := constantI S_ 32 2147483648#32
  let main_v119 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v118 main_c_21
  fn_part6 (F := F) main_arg0 main_arg1 main_arg2 main_v0 main_v34 main_v37 main_v38 main_v39 main_v40 main_v41 main_v99 main_v100 main_v104 main_v109 main_v113 main_v117 main_v119

def fn_part4 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v55 : IVec S32 1) (main_v70 : FVec F S32x1024 .f32) (main_v71 : IVec S32x1024 1) (main_v75 : IVec S32x1024 1) (main_v77 : FVec F S32x1024 .f32) (main_v78 : FVec F S32 .f32) : IVec S32x32x32 1 :=
  let main_v79 : FVec F S32x1024 .f32 := broadcastInDim S32x1024 ![0] bcast_S32_S32x1024_0 main_v78
  let main_v80 : IVec S32x1024 1 := cmpf .oeq main_v77 main_v79
  let main_v81 : IVec S32x1024 32 := (extui 32 · natLt_1_32) main_v80
  let main_c_15 : IVec S_ 32 := constantI S_ 32 0#32
  let main_v82 : IVec S32 32 := (fun x v => Host.reduce IntOp.addi x v reducesTo_S32x1024_S32_d1 h_S_) main_v81 main_c_15
  let main_v83 : IVec S32 1 := cmpi .eq main_v82 main_v41
  let main_v84 : IVec S32 1 := andi main_v55 main_v83
  let main_v85 : FVec F S32x1024 .f32 := addf main_v70 main_v0
  let main_v86 : FVec F S32x1024 .f32 := select main_v80 main_v85 main_v39
  let main_cst_16 : FVec F S_ .f32 := constant S_ .f32 0x00000000#32
  let main_v87 : FVec F S32 .f32 := (fun x v => Host.reduceAdd x v reducesTo_S32x1024_S32_d1 h_S_) main_v86 main_cst_16
  let main_v88 : FVec F S32x1024 .f32 := broadcastInDim S32x1024 ![0] bcast_S32_S32x1024_0 main_v87
  let main_v89 : IVec S32x32x32 32 := shapeCast S32x32x32 main_v81 shapeCasts_S32x1024_S32x32x32
  let main_c_17 : IVec S_ 32 := constantI S_ 32 2147483648#32
  let main_v90 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v89 main_c_17
  let main_v91 : IVec S32x1024 32 := shapeCast S32x1024 main_v90 shapeCasts_S32x32x32_S32x1024
  let main_v92 : IVec S32x1024 1 := cmpi .sgt main_v91 main_v40
  let main_v93 : IVec S32x1024 1 := ori main_v75 main_v71
  let main_v94 : IVec S32x1024 1 := noti main_v93
  let main_v95 : IVec S32x1024 1 := cmpf .ogt main_v70 main_v88
  let main_v96 : IVec S32x1024 1 := andi main_v75 main_v95
  let main_v97 : IVec S32x1024 1 := ori main_v94 main_v96
  let main_v98 : IVec S32x1024 1 := andi main_v92 main_v97
  let main_v99 : FVec F S32x1024 .f32 := select main_v98 main_v88 main_v70
  fn_part5 (F := F) main_arg0 main_arg1 main_arg2 main_v0 main_v34 main_v37 main_v38 main_v39 main_v40 main_v41 main_v71 main_v75 main_v80 main_v84 main_v98 main_v99

def fn_part3 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_v39 : FVec F S32x1024 .f32) (main_v40 : IVec S32x1024 32) (main_v41 : IVec S32 32) (main_v44 : IVec S32x1024 1) (main_v45 : IVec S32x1024 1) (main_v51 : IVec S32x1024 1) (main_v52 : IVec S32x1024 32) (main_v55 : IVec S32 1) (main_v57 : FVec F S32x1024 .f32) : IVec S32x32x32 1 :=
  let main_cst_12 : FVec F S_ .f32 := constant S_ .f32 0x00000000#32
  let main_v58 : FVec F S32 .f32 := (fun x v => Host.reduceAdd x v reducesTo_S32x1024_S32_d1 h_S_) main_v57 main_cst_12
  let main_v59 : FVec F S32x1024 .f32 := broadcastInDim S32x1024 ![0] bcast_S32_S32x1024_0 main_v58
  let main_v60 : IVec S32x32x32 32 := shapeCast S32x32x32 main_v52 shapeCasts_S32x1024_S32x32x32
  let main_c_13 : IVec S_ 32 := constantI S_ 32 2147483648#32
  let main_v61 : IVec S32x32x32 32 := (fun x v => Host.reduceWindow IntOp.maxsi ![1, 3, 3] ![1, 1, 1] ![0, 1, 1] ![0, 1, 1] x v reduceWindows_S32x32x32_S32x32x32_w1s1p0_0_w3s1p1_1_w3s1p1_1 h_S_) main_v60 main_c_13
  let main_v62 : IVec S32x1024 32 := shapeCast S32x1024 main_v61 shapeCasts_S32x32x32_S32x1024
  let main_v63 : IVec S32x1024 1 := cmpi .sgt main_v62 main_v40
  let main_v64 : IVec S32x1024 1 := ori main_v44 main_v45
  let main_v65 : IVec S32x1024 1 := noti main_v64
  let main_v66 : IVec S32x1024 1 := cmpf .ogt main_v39 main_v59
  let main_v67 : IVec S32x1024 1 := andi main_v44 main_v66
  let main_v68 : IVec S32x1024 1 := ori main_v65 main_v67
  let main_v69 : IVec S32x1024 1 := andi main_v63 main_v68
  let main_v70 : FVec F S32x1024 .f32 := select main_v69 main_v59 main_v39
  let main_v71 : IVec S32x1024 1 := ori main_v45 main_v51
  let main_v72 : IVec S32x1024 1 := andi main_v51 main_v37
  let main_v73 : IVec S32x1024 1 := noti main_v72
  let main_v74 : IVec S32x1024 1 := andi main_v44 main_v73
  let main_v75 : IVec S32x1024 1 := ori main_v74 main_v69
  let main_v76 : FVec F S32x1024 .f32 := addf main_v70 main_v34
  let main_v77 : FVec F S32x1024 .f32 := select main_v75 main_v76 main_v38
  let main_cst_14 : FVec F S_ .f32 := constant S_ .f32 0x7F800000#32
  let main_v78 : FVec F S32 .f32 := (fun x v => Host.reduce FloatOps.minimumf x v reducesTo_S32x1024_S32_d1 h_S_) main_v77 main_cst_14
  fn_part4 (F := F) main_arg0 main_arg1 main_arg2 main_v0 main_v34 main_v37 main_v38 main_v39 main_v40 main_v41 main_v55 main_v70 main_v71 main_v75 main_v77 main_v78

def fn_part2 {F : FTy → Type} [FloatOps F] (main_arg0 : FVec F S32x32x32 .f32) (main_arg1 : FVec F S32x32x32 .f32) (main_arg2 : FVec F S32x32x32 .f32) (main_v0 : FVec F S32x1024 .f32) (main_v34 : FVec F S32x1024 .f32) (main_v37 : IVec S32x1024 1) (main_v38 : FVec F S32x1024 .f32) (main_cst_6 : FVec F S_ .f32) : IVec S32x32x32 1 :=
  let main_v39 : FVec F S32x1024 .f32 := broadcastInDim S32x1024 ![] bcast_S_S32x1024 main_cst_6
  let main_c_7 : IVec S_ 32 := constantI S_ 32 0#32
  let main_v40 : IVec S32x1024 32 := broadcastInDim S32x1024 ![] bcast_S_S32x1024 main_c_7
  let main_c_8 : IVec S_ 32 := constantI S_ 32 1#32
  let main_v41 : IVec S32 32 := broadcastInDim S32 ![] bcast_S_S32 main_c_8
  let main_cst_9 : FVec F S_ .f32 := constant S_ .f32 0x3F800000#32
  let main_v42 : FVec F S32x32x32 .f32 := broadcastInDim S32x32x32 ![] bcast_S_S32x32x32 main_cst_9
  let main_v43 : IVec S32x32x32 1 := cmpf .oeq main_arg1 main_v42
  let main_v44 : IVec S32x1024 1 := shapeCast S32x1024 main_v43 shapeCasts_S32x32x32_S32x1024
  let main_v45 : IVec S32x1024 1 := cmpf .ogt main_v39 main_v39
  let main_v46 : IVec S32 1 := cmpi .eq main_v41 main_v41
  let main_v47 : FVec F S32x1024 .f32 := addf main_v39 main_v34
  let main_v48 : FVec F S32x1024 .f32 := select main_v44 main_v47 main_v38
  let main_cst_10 : FVec F S_ .f32 := constant S_ .f32 0x7F800000#32
  let main_v49 : FVec F S32 .f32 := (fun x v => Host.reduce FloatOps.minimumf x v reducesTo_S32x1024_S32_d1 h_S_) main_v48 main_cst_10
  let main_v50 : FVec F S32x1024 .f32 := broadcastInDim S32x1024 ![0] bcast_S32_S32x1024_0 main_v49
  let main_v51 : IVec S32x1024 1 := cmpf .oeq main_v48 main_v50
  let main_v52 : IVec S32x1024 32 := (extui 32 · natLt_1_32) main_v51
  let main_c_11 : IVec S_ 32 := constantI S_ 32 0#32
  let main_v53 : IVec S32 32 := (fun x v => Host.reduce IntOp.addi x v reducesTo_S32x1024_S32_d1 h_S_) main_v52 main_c_11
  let main_v54 : IVec S32 1 := cmpi .eq main_v53 main_v41
  let main_v55 : IVec S32 1 := andi main_v46 main_v54
  let main_v56 : FVec F S32x1024 .f32 := addf main_v39 main_v0
  let main_v57 : FVec F S32x1024 .f32 := select main_v51 main_v56 main_v39
  fn_part3 (F := F) main_arg0 main_arg1 main_arg2 main_v0 main_v34 main_v37 main_v38 main_v39 main_v40 main_v41 main_v44 main_v45 main_v51 main_v52 main_v55 main_v57

def fn_part1 {F : FTy → Type} [FloatOps F] (main_arg0 : FVec F S32x32x32 .f32) (main_arg1 : FVec F S32x32x32 .f32) (main_arg2 : FVec F S32x32x32 .f32) (main_v0 : FVec F S32x1024 .f32) (main_v20 : FVec F S32x2x32x32 .f32) (main_v21 : FVec F S32x2x32x32 .f32) : IVec S32x32x32 1 :=
  let main_v22 : FVec F S32x2x32x32 .f32 := subf main_v20 main_v21
  let main_v23 : FVec F S32x2x32x32 .f32 := Host.absf main_v22
  let main_cst : FVec F S_ .f32 := constant S_ .f32 0x00000000#32
  let main_v24 : FVec F S32x32x32 .f32 := (fun x v => Host.reduceAdd x v reducesTo_S32x2x32x32_S32x32x32_d1 h_S_) main_v23 main_cst
  let main_cst_1 : FVec F S_ .f32 := constant S_ .f32 0x7F800000#32
  let main_v25 : FVec F S32x32x32 .f32 := (fun x v => Host.reduce FloatOps.minimumf x v reducesTo_S32x2x32x32_S32x32x32_d1 h_S_) main_v23 main_cst_1
  let main_v26 : FVec F S32x32x32 .f32 := subf main_v24 main_v25
  let main_v27 : FVec F S32x2x32x32 .f32 := mulf main_v23 main_v23
  let main_cst_2 : FVec F S_ .f32 := constant S_ .f32 0x00000000#32
  let main_v28 : FVec F S32x32x32 .f32 := (fun x v => Host.reduceAdd x v reducesTo_S32x2x32x32_S32x32x32_d1 h_S_) main_v27 main_cst_2
  let main_v29 : FVec F S32x32x32 .f32 := Host.sqrt main_v28
  let main_cst_3 : FVec F S_ .f32 := constant S_ .f32 0x3A83126F#32
  let main_v30 : FVec F S32x32x32 .f32 := broadcastInDim S32x32x32 ![] bcast_S_S32x32x32 main_cst_3
  let main_v31 : FVec F S32x32x32 .f32 := mulf main_v30 main_v29
  let main_v32 : FVec F S32x32x32 .f32 := addf main_v26 main_v31
  let main_v33 : FVec F S32x32x32 .f32 := addf main_v32 main_arg0
  let main_v34 : FVec F S32x1024 .f32 := shapeCast S32x1024 main_v33 shapeCasts_S32x32x32_S32x1024
  let main_cst_4 : FVec F S_ .f32 := constant S_ .f32 0x3F800000#32
  let main_v35 : FVec F S32x32x32 .f32 := broadcastInDim S32x32x32 ![] bcast_S_S32x32x32 main_cst_4
  let main_v36 : IVec S32x32x32 1 := cmpf .une main_arg2 main_v35
  let main_v37 : IVec S32x1024 1 := shapeCast S32x1024 main_v36 shapeCasts_S32x32x32_S32x1024
  let main_cst_5 : FVec F S_ .f32 := constant S_ .f32 0x7F800000#32
  let main_v38 : FVec F S32x1024 .f32 := broadcastInDim S32x1024 ![] bcast_S_S32x1024 main_cst_5
  let main_cst_6 : FVec F S_ .f32 := constant S_ .f32 0x00000000#32
  fn_part2 (F := F) main_arg0 main_arg1 main_arg2 main_v0 main_v34 main_v37 main_v38 main_cst_6

def fn {F : FTy → Type} [FloatOps F] (main_arg0 : FVec F S32x32x32 .f32) (main_arg1 : FVec F S32x32x32 .f32) (main_arg2 : FVec F S32x32x32 .f32) : IVec S32x32x32 1 :=
  let main_v0 : FVec F S32x1024 .f32 := shapeCast S32x1024 main_arg0 shapeCasts_S32x32x32_S32x1024
  let main_v1 : IVec S32 32 := iotaInDim S32 32 0
  let main_v2 : IVec S32 32 := iotaInDim S32 32 0
  let main_v3 : IVec S32x32 32 := broadcastInDim S32x32 ![0] bcast_S32_S32x32_0 main_v1
  let main_v4 : IVec S32x32 32 := broadcastInDim S32x32 ![1] bcast_S32_S32x32_1 main_v2
  let main_v5 : IVec S1x32x32 32 := broadcastInDim S1x32x32 ![1, 2] bcast_S32x32_S1x32x32_1_2 main_v3
  let main_v6 : IVec S1x32x32 32 := broadcastInDim S1x32x32 ![1, 2] bcast_S32x32_S1x32x32_1_2 main_v4
  let main_v7 : IVec S2x32x32 32 := (fun a b => concatenate S2x32x32 0 [⟨S1x32x32, a⟩, ⟨S1x32x32, b⟩] concatenates_S1x32x32_S1x32x32_S2x32x32_d0) main_v5 main_v6
  let main_v8 : FVec F S2x32x32 .f32 := sitofp .f32 main_v7
  let main_v9 : FVec F S32x1024 .f32 := shapeCast S32x1024 main_arg2 shapeCasts_S32x32x32_S32x1024
  let main_v10 : IVec S32 32 := fn_argmax (F := F) main_v9
  let main_c : IVec S_ 32 := constantI S_ 32 32#32
  let main_v11 : IVec S32 32 := fn_floor_divide (F := F) main_v10 main_c
  let main_v12 : FVec F S32 .f32 := sitofp .f32 main_v11
  let main_c_0 : IVec S_ 32 := constantI S_ 32 32#32
  let main_v13 : IVec S32 32 := fn_remainder (F := F) main_v10 main_c_0
  let main_v14 : FVec F S32 .f32 := sitofp .f32 main_v13
  let main_v15 : FVec F S32x1 .f32 := broadcastInDim S32x1 ![0] bcast_S32_S32x1_0 main_v12
  let main_v16 : FVec F S32x1 .f32 := broadcastInDim S32x1 ![0] bcast_S32_S32x1_0 main_v14
  let main_v17 : FVec F S32x2 .f32 := (fun a b => concatenate S32x2 1 [⟨S32x1, a⟩, ⟨S32x1, b⟩] concatenates_S32x1_S32x1_S32x2_d1) main_v15 main_v16
  let main_v18 : FVec F S32x2x1x1 .f32 := broadcastInDim S32x2x1x1 ![0, 1] bcast_S32x2_S32x2x1x1_0_1 main_v17
  let main_v19 : FVec F S1x2x32x32 .f32 := broadcastInDim S1x2x32x32 ![1, 2, 3] bcast_S2x32x32_S1x2x32x32_1_2_3 main_v8
  let main_v20 : FVec F S32x2x32x32 .f32 := broadcastInDim S32x2x32x32 ![0, 1, 2, 3] bcast_S1x2x32x32_S32x2x32x32_0_1_2_3 main_v19
  let main_v21 : FVec F S32x2x32x32 .f32 := broadcastInDim S32x2x32x32 ![0, 1, 2, 3] bcast_S32x2x1x1_S32x2x32x32_0_1_2_3 main_v18
  fn_part1 (F := F) main_arg0 main_arg1 main_arg2 main_v0 main_v20 main_v21
-- ==== Kernel.lean ====
abbrev S32x32x32 : Shape := ⟨3, ![32, 32, 32]⟩
abbrev S32 : Shape := ⟨1, ![32]⟩
abbrev S32x32 : Shape := ⟨2, ![32, 32]⟩
abbrev S1x32x32 : Shape := ⟨3, ![1, 32, 32]⟩
abbrev S2x32x32 : Shape := ⟨3, ![2, 32, 32]⟩
abbrev S32x1024 : Shape := ⟨2, ![32, 1024]⟩
abbrev S_ : Shape := ⟨0, ![]⟩
abbrev S32x1 : Shape := ⟨2, ![32, 1]⟩
abbrev S32x2 : Shape := ⟨2, ![32, 2]⟩
abbrev S32x2x1x1 : Shape := ⟨4, ![32, 2, 1, 1]⟩
abbrev S1x2x32x32 : Shape := ⟨4, ![1, 2, 32, 32]⟩
abbrev S32x2x32x32 : Shape := ⟨4, ![32, 2, 32, 32]⟩
abbrev S16x1024 : Shape := ⟨2, ![16, 1024]⟩
abbrev S16 : Shape := ⟨1, ![16]⟩
abbrev S16x1 : Shape := ⟨2, ![16, 1]⟩

abbrev nBuf : Space → Nat
  | .hbm => 95
  | .vmem => 11
  | .smem => 0
  | _ => 0

abbrev bufTy : (tb : Table) → Fin (tcTables nBuf tb) → BufTy
  | .hbm, ⟨0, _⟩ => ⟨S32x32x32, .f32⟩
  | .hbm, ⟨1, _⟩ => ⟨S32x32x32, .f32⟩
  | .hbm, ⟨2, _⟩ => ⟨S32x32x32, .f32⟩
  | .hbm, ⟨3, _⟩ => ⟨S32, .i32⟩
  | .hbm, ⟨4, _⟩ => ⟨S32, .i32⟩
  | .hbm, ⟨5, _⟩ => ⟨S32x32, .i32⟩
  | .hbm, ⟨6, _⟩ => ⟨S32x32, .i32⟩
  | .hbm, ⟨7, _⟩ => ⟨S1x32x32, .i32⟩
  | .hbm, ⟨8, _⟩ => ⟨S1x32x32, .i32⟩
  | .hbm, ⟨9, _⟩ => ⟨S2x32x32, .i32⟩
  | .hbm, ⟨10, _⟩ => ⟨S2x32x32, .f32⟩
  | .hbm, ⟨11, _⟩ => ⟨S32x1024, .f32⟩
  | .hbm, ⟨12, _⟩ => ⟨S32x1024, .i32⟩
  | .hbm, ⟨13, _⟩ => ⟨S_, .f32⟩
  | .hbm, ⟨14, _⟩ => ⟨S_, .i32⟩
  | .hbm, ⟨15, _⟩ => ⟨S32, .f32⟩
  | .hbm, ⟨16, _⟩ => ⟨S32, .i32⟩
  | .hbm, ⟨17, _⟩ => ⟨S_, .i32⟩
  | .hbm, ⟨18, _⟩ => ⟨S_, .i32⟩
  | .hbm, ⟨19, _⟩ => ⟨S32, .i32⟩
  | .hbm, ⟨20, _⟩ => ⟨S32, .i32⟩
  | .hbm, ⟨21, _⟩ => ⟨S32, .i32⟩
  | .hbm, ⟨22, _⟩ => ⟨S_, .i32⟩
  | .hbm, ⟨23, _⟩ => ⟨S32, .i32⟩
  | .hbm, ⟨24, _⟩ => ⟨S32, .i1⟩
  | .hbm, ⟨25, _⟩ => ⟨S32, .i32⟩
  | .hbm, ⟨26, _⟩ => ⟨S32, .i32⟩
  | .hbm, ⟨27, _⟩ => ⟨S_, .i32⟩
  | .hbm, ⟨28, _⟩ => ⟨S32, .i32⟩
  | .hbm, ⟨29, _⟩ => ⟨S32, .i1⟩
  | .hbm, ⟨30, _⟩ => ⟨S32, .i1⟩
  | .hbm, ⟨31, _⟩ => ⟨S_, .i32⟩
  | .hbm, ⟨32, _⟩ => ⟨S32, .i32⟩
  | .hbm, ⟨33, _⟩ => ⟨S32, .i32⟩
  | .hbm, ⟨34, _⟩ => ⟨S32, .i32⟩
  | .hbm, ⟨35, _⟩ => ⟨S32, .f32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i1⟩
  | .hbm, ⟨40, _⟩ => ⟨S_, .i32⟩
  | .hbm, ⟨41, _⟩ => ⟨S_, .i32⟩
  | .hbm, ⟨42, _⟩ => ⟨S32, .i32⟩
  | .hbm, ⟨43, _⟩ => ⟨S32, .i32⟩
  | .hbm, ⟨44, _⟩ => ⟨S_, .i32⟩
  | .hbm, ⟨45, _⟩ => ⟨S32, .i32⟩
  | .hbm, ⟨46, _⟩ => ⟨S32, .i1⟩
  | .hbm, ⟨47, _⟩ => ⟨S_, .i32⟩
  | .hbm, ⟨48, _⟩ => ⟨S32, .i32⟩
  | .hbm, ⟨49, _⟩ => ⟨S32, .i1⟩
  | .hbm, ⟨50, _⟩ => ⟨S_, .i32⟩
  | .hbm, ⟨51, _⟩ => ⟨S_, .i1⟩
  | .hbm, ⟨52, _⟩ => ⟨S32, .i1⟩
  | .hbm, ⟨53, _⟩ => ⟨S32, .i1⟩
  | .hbm, ⟨54, _⟩ => ⟨S32, .i1⟩
  | .hbm, ⟨55, _⟩ => ⟨S32, .i32⟩
  | .hbm, ⟨56, _⟩ => ⟨S32, .i32⟩
  | .hbm, ⟨57, _⟩ => ⟨S32, .i32⟩
  | .hbm, ⟨58, _⟩ => ⟨S32, .f32⟩
  | .hbm, ⟨59, _⟩ => ⟨S32x1, .f32⟩
  | .hbm, ⟨60, _⟩ => ⟨S32x1, .f32⟩
  | .hbm, ⟨61, _⟩ => ⟨S32x2, .f32⟩
  | .hbm, ⟨62, _⟩ => ⟨S32x2x1x1, .f32⟩
  | .hbm, ⟨63, _⟩ => ⟨S1x2x32x32, .f32⟩
  | .hbm, ⟨64, _⟩ => ⟨S32x2x32x32, .f32⟩
  | .hbm, ⟨65, _⟩ => ⟨S32x2x32x32, .f32⟩
  | .hbm, ⟨66, _⟩ => ⟨S32x2x32x32, .f32⟩
  | .hbm, ⟨67, _⟩ => ⟨S32x2x32x32, .f32⟩
  | .hbm, ⟨68, _⟩ => ⟨S_, .f32⟩
  | .hbm, ⟨69, _⟩ => ⟨S32x32x32, .f32⟩
  | .hbm, ⟨70, _⟩ => ⟨S_, .f32⟩
  | .hbm, ⟨71, _⟩ => ⟨S32x32x32, .f32⟩
  | .hbm, ⟨72, _⟩ => ⟨S32x32x32, .f32⟩
  | .hbm, ⟨73, _⟩ => ⟨S32x2x32x32, .f32⟩
  | .hbm, ⟨74, _⟩ => ⟨S_, .f32⟩
  | .hbm, ⟨75, _⟩ => ⟨S32x32x32, .f32⟩
  | .hbm, ⟨76, _⟩ => ⟨S32x32x32, .f32⟩
  | .hbm, ⟨77, _⟩ => ⟨S_, .f32⟩
  | .hbm, ⟨78, _⟩ => ⟨S32x32x32, .f32⟩
  | .hbm, ⟨79, _⟩ => ⟨S32x32x32, .f32⟩
  | .hbm, ⟨80, _⟩ => ⟨S32x32x32, .f32⟩
  | .hbm, ⟨81, _⟩ => ⟨S32x32x32, .f32⟩
  | .hbm, ⟨82, _⟩ => ⟨S32x1024, .f32⟩
  | .hbm, ⟨83, _⟩ => ⟨S32x1024, .f32⟩
  | .hbm, ⟨84, _⟩ => ⟨S32x1024, .f32⟩
  | .hbm, ⟨85, _⟩ => ⟨S32x1, .i32⟩
  | .hbm, ⟨86, _⟩ => ⟨S32x1024, .i32⟩
  | .hbm, ⟨87, _⟩ => ⟨S_, .i32⟩
  | .hbm, ⟨88, _⟩ => ⟨S32x1024, .i32⟩
  | .hbm, ⟨89, _⟩ => ⟨S32x1024, .i32⟩
  | .hbm, ⟨90, _⟩ => ⟨S_, .i32⟩
  | .hbm, ⟨91, _⟩ => ⟨S32x1024, .i32⟩
  | .hbm, ⟨92, _⟩ => ⟨S32x1024, .i32⟩
  | .hbm, ⟨93, _⟩ => ⟨S32x1024, .f32⟩
  | .hbm, ⟨94, _⟩ => ⟨S32x32x32, .f32⟩
  | .local _ .vmem, ⟨0, _⟩ => ⟨S32x1024, .f32⟩
  | .local _ .vmem, ⟨1, _⟩ => ⟨S32x1024, .f32⟩
  | .local _ .vmem, ⟨2, _⟩ => ⟨S32x1024, .f32⟩
  | .local _ .vmem, ⟨3, _⟩ => ⟨S32x1, .i32⟩
  | .local _ .vmem, ⟨4, _⟩ => ⟨S32x1024, .i32⟩
  | .local _ .vmem, ⟨5, _⟩ => ⟨S32x1024, .i32⟩
  | .local _ .vmem, ⟨6, _⟩ => ⟨S32x1024, .i32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | _, _ => ⟨S32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_v0 : Ref sig .tc := ⟨.hbm, 12, rfl⟩
abbrev main_call0_cst : Ref sig .tc := ⟨.hbm, 13, rfl⟩
abbrev main_call0_c : Ref sig .tc := ⟨.hbm, 14, rfl⟩
abbrev main_call0_v1_0 : Ref sig .tc := ⟨.hbm, 15, rfl⟩
abbrev main_v9 : Ref sig .tc := ⟨.hbm, 16, rfl⟩
abbrev main_c : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_v5 : Ref sig .tc := ⟨.hbm, 23, rfl⟩
abbrev main_call1_v6 : Ref sig .tc := ⟨.hbm, 24, rfl⟩
abbrev main_call1_v7 : Ref sig .tc := ⟨.hbm, 25, rfl⟩
abbrev main_call1_v8 : Ref sig .tc := ⟨.hbm, 26, rfl⟩
abbrev main_call1_c : Ref sig .tc := ⟨.hbm, 27, rfl⟩
abbrev main_call1_v9 : Ref sig .tc := ⟨.hbm, 28, rfl⟩
abbrev main_call1_v10 : Ref sig .tc := ⟨.hbm, 29, rfl⟩
abbrev main_call1_v11 : Ref sig .tc := ⟨.hbm, 30, rfl⟩
abbrev main_call1_c_0 : Ref sig .tc := ⟨.hbm, 31, rfl⟩
abbrev main_call1_v12 : Ref sig .tc := ⟨.hbm, 32, rfl⟩
abbrev main_call1_v13 : Ref sig .tc := ⟨.hbm, 33, rfl⟩
abbrev main_v10 : Ref sig .tc := ⟨.hbm, 34, rfl⟩
abbrev main_v11 : Ref sig .tc := ⟨.hbm, 35, rfl⟩
abbrev main_c_0 : Ref sig .tc := ⟨.hbm, 36, rfl⟩
abbrev main_call2_v0 : Ref sig .tc := ⟨.hbm, 37, rfl⟩
abbrev main_call2_c : Ref sig .tc := ⟨.hbm, 38, rfl⟩
abbrev main_call2_v1 : Ref sig .tc := ⟨.hbm, 39, rfl⟩
abbrev main_call2_c_0 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_c_1 : Ref sig .tc := ⟨.hbm, 44, rfl⟩
abbrev main_call2_v5 : Ref sig .tc := ⟨.hbm, 45, rfl⟩
abbrev main_call2_v6 : Ref sig .tc := ⟨.hbm, 46, rfl⟩
abbrev main_call2_c_2 : Ref sig .tc := ⟨.hbm, 47, rfl⟩
abbrev main_call2_v7 : Ref sig .tc := ⟨.hbm, 48, rfl⟩
abbrev main_call2_v8 : Ref sig .tc := ⟨.hbm, 49, rfl⟩
abbrev main_call2_c_3 : Ref sig .tc := ⟨.hbm, 50, rfl⟩
abbrev main_call2_v9 : Ref sig .tc := ⟨.hbm, 51, rfl⟩
abbrev main_call2_v10 : Ref sig .tc := ⟨.hbm, 52, rfl⟩
abbrev main_call2_v11 : Ref sig .tc := ⟨.hbm, 53, rfl⟩
abbrev main_call2_v12 : Ref sig .tc := ⟨.hbm, 54, rfl⟩
abbrev main_call2_v13 : Ref sig .tc := ⟨.hbm, 55, rfl⟩
abbrev main_call2_v14 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_cst : Ref sig .tc := ⟨.hbm, 68, rfl⟩
abbrev main_v23 : Ref sig .tc := ⟨.hbm, 69, rfl⟩
abbrev main_cst_1 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_cst_2 : Ref sig .tc := ⟨.hbm, 74, rfl⟩
abbrev main_v27 : Ref sig .tc := ⟨.hbm, 75, rfl⟩
abbrev main_v28 : Ref sig .tc := ⟨.hbm, 76, rfl⟩
abbrev main_cst_3 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_c_4 : Ref sig .tc := ⟨.hbm, 87, rfl⟩
abbrev main_v38 : Ref sig .tc := ⟨.hbm, 88, rfl⟩
abbrev main_v39 : Ref sig .tc := ⟨.hbm, 89, rfl⟩
abbrev main_c_5 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c16_i32 : BitVec 32 := 16#32
  let v13 : BitVec 32 := Scalar.addi c0_i32 c16_i32
  let c1_i32 : BitVec 32 := 1#32
  ⟨c0_i32, v13, c1_i32⟩
abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x1024 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x1024 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x1024 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S32x32x32 : Shape := ⟨3, ![32, 32, 32]⟩
abbrev S32 : Shape := ⟨1, ![32]⟩
abbrev S32x32 : Shape := ⟨2, ![32, 32]⟩
abbrev S1x32x32 : Shape := ⟨3, ![1, 32, 32]⟩
abbrev S2x32x32 : Shape := ⟨3, ![2, 32, 32]⟩
abbrev S32x1024 : Shape := ⟨2, ![32, 1024]⟩
abbrev S_ : Shape := ⟨0, ![]⟩
abbrev S32x1 : Shape := ⟨2, ![32, 1]⟩
abbrev S32x2 : Shape := ⟨2, ![32, 2]⟩
abbrev S32x2x1x1 : Shape := ⟨4, ![32, 2, 1, 1]⟩
abbrev S1x2x32x32 : Shape := ⟨4, ![1, 2, 32, 32]⟩
abbrev S32x2x32x32 : Shape := ⟨4, ![32, 2, 32, 32]⟩
abbrev S1x1024 : Shape := ⟨2, ![1, 1024]⟩
abbrev S32x1x1 : Shape := ⟨3, ![32, 1, 1]⟩
abbrev S32x34x34 : Shape := ⟨3, ![32, 34, 34]⟩

abbrev nBuf : Space → Nat
  | .hbm => 243
  | .vmem => 0
  | .smem => 0
  | _ => 0

abbrev hbmTy0_0 (i : Nat) : BufTy := match i % 128 with
  | 0 => ⟨S32x32x32, .f32⟩
  | 1 => ⟨S32x32x32, .f32⟩
  | 2 => ⟨S32x32x32, .f32⟩
  | 3 => ⟨S32, .i32⟩
  | 4 => ⟨S32, .i32⟩
  | 5 => ⟨S32x32, .i32⟩
  | 6 => ⟨S32x32, .i32⟩
  | 7 => ⟨S1x32x32, .i32⟩
  | 8 => ⟨S1x32x32, .i32⟩
  | 9 => ⟨S2x32x32, .i32⟩
  | 10 => ⟨S2x32x32, .f32⟩
  | 11 => ⟨S32x1024, .f32⟩
  | 12 => ⟨S32x1024, .i32⟩
  | 13 => ⟨S_, .f32⟩
  | 14 => ⟨S_, .i32⟩
  | 15 => ⟨S32, .f32⟩
  | 16 => ⟨S32, .i32⟩
  | 17 => ⟨S_, .i32⟩
  | 18 => ⟨S_, .i32⟩
  | 19 => ⟨S32, .i32⟩
  | 20 => ⟨S32, .i32⟩
  | 21 => ⟨S32, .i32⟩
  | 22 => ⟨S_, .i32⟩
  | 23 => ⟨S32, .i32⟩
  | 24 => ⟨S32, .i1⟩
  | 25 => ⟨S32, .i32⟩
  | 26 => ⟨S32, .i32⟩
  | 27 => ⟨S_, .i32⟩
  | 28 => ⟨S32, .i32⟩
  | 29 => ⟨S32, .i1⟩
  | 30 => ⟨S32, .i1⟩
  | 31 => ⟨S_, .i32⟩
  | 32 => ⟨S32, .i32⟩
  | 33 => ⟨S32, .i32⟩
  | 34 => ⟨S32, .i32⟩
  | 35 => ⟨S32, .f32⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S32, .i32⟩
  | 43 => ⟨S32, .i32⟩
  | 44 => ⟨S_, .i32⟩
  | 45 => ⟨S32, .i32⟩
  | 46 => ⟨S32, .i1⟩
  | 47 => ⟨S_, .i32⟩
  | 48 => ⟨S32, .i32⟩
  | 49 => ⟨S32, .i1⟩
  | 50 => ⟨S_, .i32⟩
  | 51 => ⟨S_, .i1⟩
  | 52 => ⟨S32, .i1⟩
  | 53 => ⟨S32, .i1⟩
  | 54 => ⟨S32, .i1⟩
  | 55 => ⟨S32, .i32⟩
  | 56 => ⟨S32, .i32⟩
  | 57 => ⟨S32, .i32⟩
  | 58 => ⟨S32, .f32⟩
  | 59 => ⟨S32x1, .f32⟩
  | 60 => ⟨S32x1, .f32⟩
  | 61 => ⟨S32x2, .f32⟩
  | 62 => ⟨S32x2x1x1, .f32⟩
  | 63 => ⟨S1x2x32x32, .f32⟩
  | 64 => ⟨S32x2x32x32, .f32⟩
  | 65 => ⟨S32x2x32x32, .f32⟩
  | 66 => ⟨S32x2x32x32, .f32⟩
  | 67 => ⟨S32x2x32x32, .f32⟩
  | 68 => ⟨S_, .f32⟩
  | 69 => ⟨S32x32x32, .f32⟩
  | 70 => ⟨S_, .f32⟩
  | 71 => ⟨S32x32x32, .f32⟩
  | 72 => ⟨S32x32x32, .f32⟩
  | 73 => ⟨S32x2x32x32, .f32⟩
  | 74 => ⟨S_, .f32⟩
  | 75 => ⟨S32x32x32, .f32⟩
  | 76 => ⟨S32x32x32, .f32⟩
  | 77 => ⟨S_, .f32⟩
  | 78 => ⟨S32x32x32, .f32⟩
  | 79 => ⟨S32x32x32, .f32⟩
  | 80 => ⟨S32x32x32, .f32⟩
  | 81 => ⟨S32x32x32, .f32⟩
  | 82 => ⟨S_, .f32⟩
  | 83 => ⟨S32x32x32, .f32⟩
  | 84 => ⟨S_, .i32⟩
  | 85 => ⟨S_, .i32⟩
  | 86 => ⟨S32x32x32, .f32⟩
  | 87 => ⟨S32x32x32, .f32⟩
  | 88 => ⟨S32x32x32, .f32⟩
  | 89 => ⟨S_, .i32⟩
  | 90 => ⟨S_, .i32⟩
  | 91 => ⟨S32x32x32, .f32⟩
  | 92 => ⟨S32x32x32, .f32⟩
  | 93 => ⟨S32x32x32, .f32⟩
  | 94 => ⟨S_, .i32⟩
  | 95 => ⟨S_, .i1⟩
  | 96 => ⟨S_, .i32⟩
  | 97 => ⟨S_, .i32⟩
  | 98 => ⟨S_, .f32⟩
  | 99 => ⟨S32x32x32, .f32⟩
  | 100 => ⟨S32x32x32, .f32⟩
  | 101 => ⟨S_, .f32⟩
  | 102 => ⟨S32x32x32, .f32⟩
  | 103 => ⟨S32x32x32, .f32⟩
  | 104 => ⟨S32x32x32, .f32⟩
  | 105 => ⟨S_, .f32⟩
  | 106 => ⟨S32x32x32, .f32⟩
  | 107 => ⟨S32x32x32, .f32⟩
  | 108 => ⟨S_, .f32⟩
  | 109 => ⟨S32x32x32, .f32⟩
  | 110 => ⟨S32x32x32, .f32⟩
  | 111 => ⟨S32x32x32, .f32⟩
  | 112 => ⟨S32x32x32, .f32⟩
  | 113 => ⟨S32x1024, .f32⟩
  | 114 => ⟨S_, .f32⟩
  | 115 => ⟨S32, .f32⟩
  | 116 => ⟨S32x1, .f32⟩
  | 117 => ⟨S_, .f32⟩
  | 118 => ⟨S32x1, .f32⟩
  | 119 => ⟨S32x1, .f32⟩
  | 120 => ⟨S32x1024, .f32⟩
  | 121 => ⟨S32x1024, .f32⟩
  | 122 => ⟨S32x1024, .i32⟩
  | 123 => ⟨S_, .f32⟩
  | 124 => ⟨S_, .i32⟩
  | 125 => ⟨S32, .f32⟩
  | 126 => ⟨S32, .i32⟩
  | 127 => ⟨S32x1, .i32⟩
  | _ => ⟨S32x32x32, .f32⟩

abbrev hbmTy0_1 (i : Nat) : BufTy := match i % 128 with
  | 0 => ⟨S1x1024, .i32⟩
  | 1 => ⟨S32x1024, .i32⟩
  | 2 => ⟨S32x1024, .i32⟩
  | 3 => ⟨S32x1024, .i1⟩
  | 4 => ⟨S32x1024, .f32⟩
  | 5 => ⟨S32x1024, .f32⟩
  | 6 => ⟨S32x1024, .f32⟩
  | 7 => ⟨S32x32x32, .f32⟩
  | 8 => ⟨S32x32x32, .f32⟩
  | 9 => ⟨S_, .f32⟩
  | 10 => ⟨S32, .f32⟩
  | 11 => ⟨S32x1x1, .f32⟩
  | 12 => ⟨S_, .f32⟩
  | 13 => ⟨S32x1x1, .f32⟩
  | 14 => ⟨S32x1x1, .i1⟩
  | 15 => ⟨S32x1x1, .f32⟩
  | 16 => ⟨S32x32x32, .f32⟩
  | 17 => ⟨S_, .f32⟩
  | 18 => ⟨S_, .f32⟩
  | 19 => ⟨S_, .f32⟩
  | 20 => ⟨S32x32x32, .f32⟩
  | 21 => ⟨S32x32x32, .f32⟩
  | 22 => ⟨S_, .f32⟩
  | 23 => ⟨S32x32x32, .f32⟩
  | 24 => ⟨S32x32x32, .f32⟩
  | 25 => ⟨S32x32x32, .f32⟩
  | 26 => ⟨S32x32x32, .f32⟩
  | 27 => ⟨S32x32x32, .f32⟩
  | 28 => ⟨S_, .f32⟩
  | 29 => ⟨S_, .f32⟩
  | 30 => ⟨S_, .f32⟩
  | 31 => ⟨S32x32x32, .f32⟩
  | 32 => ⟨S32x32x32, .f32⟩
  | 33 => ⟨S_, .f32⟩
  | 34 => ⟨S32x32x32, .f32⟩
  | 35 => ⟨S32x32x32, .f32⟩
  | 36 => ⟨S_, .i32⟩
  | 37 => ⟨S_, .f32⟩
  | 38 => ⟨S32x34x34, .f32⟩
  | 39 => ⟨S32x32x32, .f32⟩
  | 40 => ⟨S_, .f32⟩
  | 41 => ⟨S32x32x32, .f32⟩
  | 42 => ⟨S32x32x32, .f32⟩
  | 43 => ⟨S32x32x32, .f32⟩
  | 44 => ⟨S32x32x32, .f32⟩
  | 45 => ⟨S32x32x32, .f32⟩
  | 46 => ⟨S32x32x32, .f32⟩
  | 47 => ⟨S32x32x32, .f32⟩
  | 48 => ⟨S32x32x32, .f32⟩
  | 49 => ⟨S32x32x32, .f32⟩
  | 50 => ⟨S32x32x32, .f32⟩
  | 51 => ⟨S32x32x32, .f32⟩
  | 52 => ⟨S32x32x32, .f32⟩
  | 53 => ⟨S32x32x32, .f32⟩
  | 54 => ⟨S32x32x32, .f32⟩
  | 55 => ⟨S32x32x32, .f32⟩
  | 56 => ⟨S32x32x32, .f32⟩
  | 57 => ⟨S32x32x32, .f32⟩
  | 58 => ⟨S32x32x32, .f32⟩
  | 59 => ⟨S32x32x32, .f32⟩
  | 60 => ⟨S_, .i32⟩
  | 61 => ⟨S_, .f32⟩
  | 62 => ⟨S32x34x34, .f32⟩
  | 63 => ⟨S32x32x32, .f32⟩
  | 64 => ⟨S_, .f32⟩
  | 65 => ⟨S32x32x32, .f32⟩
  | 66 => ⟨S32x32x32, .f32⟩
  | 67 => ⟨S32x32x32, .f32⟩
  | 68 => ⟨S32x32x32, .f32⟩
  | 69 => ⟨S32x32x32, .f32⟩
  | 70 => ⟨S32x32x32, .f32⟩
  | 71 => ⟨S32x32x32, .f32⟩
  | 72 => ⟨S32x32x32, .f32⟩
  | 73 => ⟨S32x32x32, .f32⟩
  | 74 => ⟨S32x32x32, .f32⟩
  | 75 => ⟨S32x32x32, .f32⟩
  | 76 => ⟨S32x32x32, .f32⟩
  | 77 => ⟨S32x32x32, .f32⟩
  | 78 => ⟨S32x32x32, .f32⟩
  | 79 => ⟨S32x32x32, .f32⟩
  | 80 => ⟨S32x32x32, .f32⟩
  | 81 => ⟨S_, .f32⟩
  | 82 => ⟨S32x32x32, .f32⟩
  | 83 => ⟨S32x32x32, .f32⟩
  | 84 => ⟨S_, .f32⟩
  | 85 => ⟨S32x32x32, .f32⟩
  | 86 => ⟨S32x32x32, .f32⟩
  | 87 => ⟨S32x32x32, .f32⟩
  | 88 => ⟨S32x32x32, .f32⟩
  | 89 => ⟨S32x32x32, .i1⟩
  | 90 => ⟨S32x32x32, .f32⟩
  | 91 => ⟨S32x32x32, .f32⟩
  | 92 => ⟨S32x32x32, .f32⟩
  | 93 => ⟨S32x32x32, .f32⟩
  | 94 => ⟨S_, .f32⟩
  | 95 => ⟨S32x32x32, .f32⟩
  | 96 => ⟨S32x32x32, .i1⟩
  | 97 => ⟨S32x32x32, .f32⟩
  | 98 => ⟨S32x32x32, .f32⟩
  | 99 => ⟨S_, .f32⟩
  | 100 => ⟨S32x32x32, .f32⟩
  | 101 => ⟨S32x32x32, .f32⟩
  | 102 => ⟨S32x32x32, .f32⟩
  | 103 => ⟨S32x32x32, .f32⟩
  | 104 => ⟨S32x32x32, .f32⟩
  | 105 => ⟨S_, .f32⟩
  | 106 => ⟨S_, .f32⟩
  | 107 => ⟨S_, .f32⟩
  | 108 => ⟨S32x32x32, .f32⟩
  | 109 => ⟨S32x32x32, .f32⟩
  | 110 => ⟨S_, .f32⟩
  | 111 => ⟨S32x32x32, .f32⟩
  | 112 => ⟨S32x32x32, .f32⟩
  | 113 => ⟨S_, .i32⟩
  | 114 => ⟨S_, .i32⟩
  | _ => ⟨S32x32x32, .f32⟩

abbrev hbmTy (i : Nat) : BufTy := match i / 128 with
  | 0 => hbmTy0_0 i
  | 1 => hbmTy0_1 i
  | _ => ⟨S32x32x32, .f32⟩

abbrev bufTy : (tb : Table) → Fin (tcTables nBuf tb) → BufTy
  | .hbm, ⟨i, _⟩ => hbmTy i
  | _, _ => ⟨S32x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_v0 : Ref sig .tc := ⟨.hbm, 12, rfl⟩
abbrev main_call0_cst : Ref sig .tc := ⟨.hbm, 13, rfl⟩
abbrev main_call0_c : Ref sig .tc := ⟨.hbm, 14, rfl⟩
abbrev main_call0_v1_0 : Ref sig .tc := ⟨.hbm, 15, rfl⟩
abbrev main_v9 : Ref sig .tc := ⟨.hbm, 16, rfl⟩
abbrev main_c : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_v5 : Ref sig .tc := ⟨.hbm, 23, rfl⟩
abbrev main_call1_v6 : Ref sig .tc := ⟨.hbm, 24, rfl⟩
abbrev main_call1_v7 : Ref sig .tc := ⟨.hbm, 25, rfl⟩
abbrev main_call1_v8 : Ref sig .tc := ⟨.hbm, 26, rfl⟩
abbrev main_call1_c : Ref sig .tc := ⟨.hbm, 27, rfl⟩
abbrev main_call1_v9 : Ref sig .tc := ⟨.hbm, 28, rfl⟩
abbrev main_call1_v10 : Ref sig .tc := ⟨.hbm, 29, rfl⟩
abbrev main_call1_v11 : Ref sig .tc := ⟨.hbm, 30, rfl⟩
abbrev main_call1_c_0 : Ref sig .tc := ⟨.hbm, 31, rfl⟩
abbrev main_call1_v12 : Ref sig .tc := ⟨.hbm, 32, rfl⟩
abbrev main_call1_v13 : Ref sig .tc := ⟨.hbm, 33, rfl⟩
abbrev main_v10 : Ref sig .tc := ⟨.hbm, 34, rfl⟩
abbrev main_v11 : Ref sig .tc := ⟨.hbm, 35, rfl⟩
abbrev main_c_0 : Ref sig .tc := ⟨.hbm, 36, rfl⟩
abbrev main_call2_v0 : Ref sig .tc := ⟨.hbm, 37, rfl⟩
abbrev main_call2_c : Ref sig .tc := ⟨.hbm, 38, rfl⟩
abbrev main_call2_v1 : Ref sig .tc := ⟨.hbm, 39, rfl⟩
abbrev main_call2_c_0 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_c_1 : Ref sig .tc := ⟨.hbm, 44, rfl⟩
abbrev main_call2_v5 : Ref sig .tc := ⟨.hbm, 45, rfl⟩
abbrev main_call2_v6 : Ref sig .tc := ⟨.hbm, 46, rfl⟩
abbrev main_call2_c_2 : Ref sig .tc := ⟨.hbm, 47, rfl⟩
abbrev main_call2_v7 : Ref sig .tc := ⟨.hbm, 48, rfl⟩
abbrev main_call2_v8 : Ref sig .tc := ⟨.hbm, 49, rfl⟩
abbrev main_call2_c_3 : Ref sig .tc := ⟨.hbm, 50, rfl⟩
abbrev main_call2_v9 : Ref sig .tc := ⟨.hbm, 51, rfl⟩
abbrev main_call2_v10 : Ref sig .tc := ⟨.hbm, 52, rfl⟩
abbrev main_call2_v11 : Ref sig .tc := ⟨.hbm, 53, rfl⟩
abbrev main_call2_v12 : Ref sig .tc := ⟨.hbm, 54, rfl⟩
abbrev main_call2_v13 : Ref sig .tc := ⟨.hbm, 55, rfl⟩
abbrev main_call2_v14 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_cst : Ref sig .tc := ⟨.hbm, 68, rfl⟩
abbrev main_v23 : Ref sig .tc := ⟨.hbm, 69, rfl⟩
abbrev main_cst_1 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_cst_2 : Ref sig .tc := ⟨.hbm, 74, rfl⟩
abbrev main_v27 : Ref sig .tc := ⟨.hbm, 75, rfl⟩
abbrev main_v28 : Ref sig .tc := ⟨.hbm, 76, rfl⟩
abbrev main_cst_3 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_cst_4 : Ref sig .tc := ⟨.hbm, 82, rfl⟩
abbrev main_v33 : Ref sig .tc := ⟨.hbm, 83, rfl⟩
abbrev main_c_5 : Ref sig .tc := ⟨.hbm, 84, rfl⟩
abbrev main_c_6 : Ref sig .tc := ⟨.hbm, 85, rfl⟩
abbrev main_v34_0 : Ref sig .tc := ⟨.hbm, 86, rfl⟩
abbrev main_v34_1 : Ref sig .tc := ⟨.hbm, 87, rfl⟩
abbrev main_v34_2 : Ref sig .tc := ⟨.hbm, 88, rfl⟩
abbrev main_v34_3 : Ref sig .tc := ⟨.hbm, 89, rfl⟩
abbrev main_v34_4 : Ref sig .tc := ⟨.hbm, 90, rfl⟩
abbrev main_v34_5 : Ref sig .tc := ⟨.hbm, 91, rfl⟩
abbrev main_v34_6 : Ref sig .tc := ⟨.hbm, 92, rfl⟩
abbrev main_v34_7 : Ref sig .tc := ⟨.hbm, 93, rfl⟩
abbrev main_while0c_c_14 : Ref sig .tc := ⟨.hbm, 94, rfl⟩
abbrev main_while0c_v35 : Ref sig .tc := ⟨.hbm, 95, rfl⟩
abbrev main_while0b_c_14 : Ref sig .tc := ⟨.hbm, 96, rfl⟩
abbrev main_while0b_v35 : Ref sig .tc := ⟨.hbm, 97, rfl⟩
abbrev main_while0b_cst_15 : Ref sig .tc := ⟨.hbm, 98, rfl⟩
abbrev main_while0b_v36 : Ref sig .tc := ⟨.hbm, 99, rfl⟩
abbrev main_while0b_v37 : Ref sig .tc := ⟨.hbm, 100, rfl⟩
abbrev main_while0b_cst_16 : Ref sig .tc := ⟨.hbm, 101, rfl⟩
abbrev main_while0b_v38 : Ref sig .tc := ⟨.hbm, 102, rfl⟩
abbrev main_while0b_v39 : Ref sig .tc := ⟨.hbm, 103, rfl⟩
abbrev main_while0b_v40 : Ref sig .tc := ⟨.hbm, 104, rfl⟩
abbrev main_while0b_cst_17 : Ref sig .tc := ⟨.hbm, 105, rfl⟩
abbrev main_while0b_v41 : Ref sig .tc := ⟨.hbm, 106, rfl⟩
abbrev main_while0b_v42 : Ref sig .tc := ⟨.hbm, 107, rfl⟩
abbrev main_while0b_cst_18 : Ref sig .tc := ⟨.hbm, 108, rfl⟩
abbrev main_while0b_v43 : Ref sig .tc := ⟨.hbm, 109, rfl⟩
abbrev main_while0b_v44 : Ref sig .tc := ⟨.hbm, 110, rfl⟩
abbrev main_while0b_v45 : Ref sig .tc := ⟨.hbm, 111, rfl⟩
abbrev main_while0b_v46 : Ref sig .tc := ⟨.hbm, 112, rfl⟩
abbrev main_while0b_v47 : Ref sig .tc := ⟨.hbm, 113, rfl⟩
abbrev main_while0b_cst_19 : Ref sig .tc := ⟨.hbm, 114, rfl⟩
abbrev main_while0b_v48 : Ref sig .tc := ⟨.hbm, 115, rfl⟩
abbrev main_while0b_v49 : Ref sig .tc := ⟨.hbm, 116, rfl⟩
abbrev main_while0b_cst_20 : Ref sig .tc := ⟨.hbm, 117, rfl⟩
abbrev main_while0b_v50 : Ref sig .tc := ⟨.hbm, 118, rfl⟩
abbrev main_while0b_v51 : Ref sig .tc := ⟨.hbm, 119, rfl⟩
abbrev main_while0b_v52 : Ref sig .tc := ⟨.hbm, 120, rfl⟩
abbrev main_while0b_v53 : Ref sig .tc := ⟨.hbm, 121, rfl⟩
abbrev main_while0b_call3_v0 : Ref sig .tc := ⟨.hbm, 122, rfl⟩
abbrev main_while0b_call3_cst : Ref sig .tc := ⟨.hbm, 123, rfl⟩
abbrev main_while0b_call3_c : Ref sig .tc := ⟨.hbm, 124, rfl⟩
abbrev main_while0b_call3_v1_0 : Ref sig .tc := ⟨.hbm, 125, rfl⟩
abbrev main_while0b_v54 : Ref sig .tc := ⟨.hbm, 126, rfl⟩
abbrev main_while0b_call4_v0 : Ref sig .tc := ⟨.hbm, 127, rfl⟩
abbrev main_while0b_call4_v1 : Ref sig .tc := ⟨.hbm, 128, rfl⟩
abbrev main_while0b_call4_v2 : Ref sig .tc := ⟨.hbm, 129, rfl⟩
abbrev main_while0b_call4_v3 : Ref sig .tc := ⟨.hbm, 130, rfl⟩
abbrev main_while0b_call4_v4 : Ref sig .tc := ⟨.hbm, 131, rfl⟩
abbrev main_while0b_v55 : Ref sig .tc := ⟨.hbm, 132, rfl⟩
abbrev main_while0b_v56 : Ref sig .tc := ⟨.hbm, 133, rfl⟩
abbrev main_while0b_v57 : Ref sig .tc := ⟨.hbm, 134, rfl⟩
abbrev main_while0b_v58 : Ref sig .tc := ⟨.hbm, 135, rfl⟩
abbrev main_while0b_v59 : Ref sig .tc := ⟨.hbm, 136, rfl⟩
abbrev main_while0b_cst_21 : Ref sig .tc := ⟨.hbm, 137, rfl⟩
abbrev main_while0b_v60 : Ref sig .tc := ⟨.hbm, 138, rfl⟩
abbrev main_while0b_v61 : Ref sig .tc := ⟨.hbm, 139, rfl⟩
abbrev main_while0b_cst_22 : Ref sig .tc := ⟨.hbm, 140, rfl⟩
abbrev main_while0b_v62 : Ref sig .tc := ⟨.hbm, 141, rfl⟩
abbrev main_while0b_v63 : Ref sig .tc := ⟨.hbm, 142, rfl⟩
abbrev main_while0b_v64 : Ref sig .tc := ⟨.hbm, 143, rfl⟩
abbrev main_while0b_v65 : Ref sig .tc := ⟨.hbm, 144, rfl⟩
abbrev main_while0b_cst_23 : Ref sig .tc := ⟨.hbm, 145, rfl⟩
abbrev main_while0b_cst_24 : Ref sig .tc := ⟨.hbm, 146, rfl⟩
abbrev main_while0b_call5_v0 : Ref sig .tc := ⟨.hbm, 147, rfl⟩
abbrev main_while0b_call5_v1 : Ref sig .tc := ⟨.hbm, 148, rfl⟩
abbrev main_while0b_call5_v2 : Ref sig .tc := ⟨.hbm, 149, rfl⟩
abbrev main_while0b_call5_v3 : Ref sig .tc := ⟨.hbm, 150, rfl⟩
abbrev main_while0b_call5_v4 : Ref sig .tc := ⟨.hbm, 151, rfl⟩
abbrev main_while0b_v66 : Ref sig .tc := ⟨.hbm, 152, rfl⟩
abbrev main_while0b_v67 : Ref sig .tc := ⟨.hbm, 153, rfl⟩
abbrev main_while0b_v68 : Ref sig .tc := ⟨.hbm, 154, rfl⟩
abbrev main_while0b_v69 : Ref sig .tc := ⟨.hbm, 155, rfl⟩
abbrev main_while0b_cst_25 : Ref sig .tc := ⟨.hbm, 156, rfl⟩
abbrev main_while0b_cst_26 : Ref sig .tc := ⟨.hbm, 157, rfl⟩
abbrev main_while0b_call6_v0 : Ref sig .tc := ⟨.hbm, 158, rfl⟩
abbrev main_while0b_call6_v1 : Ref sig .tc := ⟨.hbm, 159, rfl⟩
abbrev main_while0b_call6_v2 : Ref sig .tc := ⟨.hbm, 160, rfl⟩
abbrev main_while0b_call6_v3 : Ref sig .tc := ⟨.hbm, 161, rfl⟩
abbrev main_while0b_call6_v4 : Ref sig .tc := ⟨.hbm, 162, rfl⟩
abbrev main_while0b_v70 : Ref sig .tc := ⟨.hbm, 163, rfl⟩
abbrev main_while0b_c_27 : Ref sig .tc := ⟨.hbm, 164, rfl⟩
abbrev main_while0b_call7_v0 : Ref sig .tc := ⟨.hbm, 165, rfl⟩
abbrev main_while0b_v71 : Ref sig .tc := ⟨.hbm, 166, rfl⟩
abbrev main_while0b_v72 : Ref sig .tc := ⟨.hbm, 167, rfl⟩
abbrev main_while0b_cst_28 : Ref sig .tc := ⟨.hbm, 168, rfl⟩
abbrev main_while0b_v73 : Ref sig .tc := ⟨.hbm, 169, rfl⟩
abbrev main_while0b_v74 : Ref sig .tc := ⟨.hbm, 170, rfl⟩
abbrev main_while0b_v75 : Ref sig .tc := ⟨.hbm, 171, rfl⟩
abbrev main_while0b_v76 : Ref sig .tc := ⟨.hbm, 172, rfl⟩
abbrev main_while0b_v77 : Ref sig .tc := ⟨.hbm, 173, rfl⟩
abbrev main_while0b_v78 : Ref sig .tc := ⟨.hbm, 174, rfl⟩
abbrev main_while0b_v79 : Ref sig .tc := ⟨.hbm, 175, rfl⟩
abbrev main_while0b_v80 : Ref sig .tc := ⟨.hbm, 176, rfl⟩
abbrev main_while0b_v81 : Ref sig .tc := ⟨.hbm, 177, rfl⟩
abbrev main_while0b_v82 : Ref sig .tc := ⟨.hbm, 178, rfl⟩
abbrev main_while0b_v83 : Ref sig .tc := ⟨.hbm, 179, rfl⟩
abbrev main_while0b_v84 : Ref sig .tc := ⟨.hbm, 180, rfl⟩
abbrev main_while0b_v85 : Ref sig .tc := ⟨.hbm, 181, rfl⟩
abbrev main_while0b_v86 : Ref sig .tc := ⟨.hbm, 182, rfl⟩
abbrev main_while0b_v87 : Ref sig .tc := ⟨.hbm, 183, rfl⟩
abbrev main_while0b_v88 : Ref sig .tc := ⟨.hbm, 184, rfl⟩
abbrev main_while0b_v89 : Ref sig .tc := ⟨.hbm, 185, rfl⟩
abbrev main_while0b_v90 : Ref sig .tc := ⟨.hbm, 186, rfl⟩
abbrev main_while0b_v91 : Ref sig .tc := ⟨.hbm, 187, rfl⟩
abbrev main_while0b_c_29 : Ref sig .tc := ⟨.hbm, 188, rfl⟩
abbrev main_while0b_call8_v0 : Ref sig .tc := ⟨.hbm, 189, rfl⟩
abbrev main_while0b_v92 : Ref sig .tc := ⟨.hbm, 190, rfl⟩
abbrev main_while0b_v93 : Ref sig .tc := ⟨.hbm, 191, rfl⟩
abbrev main_while0b_cst_30 : Ref sig .tc := ⟨.hbm, 192, rfl⟩
abbrev main_while0b_v94 : Ref sig .tc := ⟨.hbm, 193, rfl⟩
abbrev main_while0b_v95 : Ref sig .tc := ⟨.hbm, 194, rfl⟩
abbrev main_while0b_v96 : Ref sig .tc := ⟨.hbm, 195, rfl⟩
abbrev main_while0b_v97 : Ref sig .tc := ⟨.hbm, 196, rfl⟩
abbrev main_while0b_v98 : Ref sig .tc := ⟨.hbm, 197, rfl⟩
abbrev main_while0b_v99 : Ref sig .tc := ⟨.hbm, 198, rfl⟩
abbrev main_while0b_v100 : Ref sig .tc := ⟨.hbm, 199, rfl⟩
abbrev main_while0b_v101 : Ref sig .tc := ⟨.hbm, 200, rfl⟩
abbrev main_while0b_v102 : Ref sig .tc := ⟨.hbm, 201, rfl⟩
abbrev main_while0b_v103 : Ref sig .tc := ⟨.hbm, 202, rfl⟩
abbrev main_while0b_v104 : Ref sig .tc := ⟨.hbm, 203, rfl⟩
abbrev main_while0b_v105 : Ref sig .tc := ⟨.hbm, 204, rfl⟩
abbrev main_while0b_v106 : Ref sig .tc := ⟨.hbm, 205, rfl⟩
abbrev main_while0b_v107 : Ref sig .tc := ⟨.hbm, 206, rfl⟩
abbrev main_while0b_v108 : Ref sig .tc := ⟨.hbm, 207, rfl⟩
abbrev main_while0b_v109 : Ref sig .tc := ⟨.hbm, 208, rfl⟩
abbrev main_while0b_cst_31 : Ref sig .tc := ⟨.hbm, 209, rfl⟩
abbrev main_while0b_v110 : Ref sig .tc := ⟨.hbm, 210, rfl⟩
abbrev main_while0b_v111 : Ref sig .tc := ⟨.hbm, 211, rfl⟩
abbrev main_while0b_cst_32 : Ref sig .tc := ⟨.hbm, 212, rfl⟩
abbrev main_while0b_v112 : Ref sig .tc := ⟨.hbm, 213, rfl⟩
abbrev main_while0b_v113 : Ref sig .tc := ⟨.hbm, 214, rfl⟩
abbrev main_while0b_v114 : Ref sig .tc := ⟨.hbm, 215, rfl⟩
abbrev main_while0b_v115 : Ref sig .tc := ⟨.hbm, 216, rfl⟩
abbrev main_while0b_v116 : Ref sig .tc := ⟨.hbm, 217, rfl⟩
abbrev main_while0b_v117 : Ref sig .tc := ⟨.hbm, 218, rfl⟩
abbrev main_while0b_v118 : Ref sig .tc := ⟨.hbm, 219, rfl⟩
abbrev main_while0b_v119 : Ref sig .tc := ⟨.hbm, 220, rfl⟩
abbrev main_while0b_v120 : Ref sig .tc := ⟨.hbm, 221, rfl⟩
abbrev main_while0b_cst_33 : Ref sig .tc := ⟨.hbm, 222, rfl⟩
abbrev main_while0b_v121 : Ref sig .tc := ⟨.hbm, 223, rfl⟩
abbrev main_while0b_v122 : Ref sig .tc := ⟨.hbm, 224, rfl⟩
abbrev main_while0b_v123 : Ref sig .tc := ⟨.hbm, 225, rfl⟩
abbrev main_while0b_v124 : Ref sig .tc := ⟨.hbm, 226, rfl⟩
abbrev main_while0b_cst_34 : Ref sig .tc := ⟨.hbm, 227, rfl⟩
abbrev main_while0b_v125 : Ref sig .tc := ⟨.hbm, 228, rfl⟩
abbrev main_while0b_v126 : Ref sig .tc := ⟨.hbm, 229, rfl⟩
abbrev main_while0b_v127 : Ref sig .tc := ⟨.hbm, 230, rfl⟩
abbrev main_while0b_v128 : Ref sig .tc := ⟨.hbm, 231, rfl⟩
abbrev main_while0b_v129 : Ref sig .tc := ⟨.hbm, 232, rfl⟩
abbrev main_while0b_cst_35 : Ref sig .tc := ⟨.hbm, 233, rfl⟩
abbrev main_while0b_cst_36 : Ref sig .tc := ⟨.hbm, 234, rfl⟩
abbrev main_while0b_call9_v0 : Ref sig .tc := ⟨.hbm, 235, rfl⟩
abbrev main_while0b_call9_v1 : Ref sig .tc := ⟨.hbm, 236, rfl⟩
abbrev main_while0b_call9_v2 : Ref sig .tc := ⟨.hbm, 237, rfl⟩
abbrev main_while0b_call9_v3 : Ref sig .tc := ⟨.hbm, 238, rfl⟩
abbrev main_while0b_call9_v4 : Ref sig .tc := ⟨.hbm, 239, rfl⟩
abbrev main_while0b_v130 : Ref sig .tc := ⟨.hbm, 240, rfl⟩
abbrev main_while0b_c_37 : Ref sig .tc := ⟨.hbm, 241, rfl⟩
abbrev main_while0b_v131 : Ref sig .tc := ⟨.hbm, 242, rfl⟩

abbrev nD : Nat := 1
abbrev τ : Topo := Topo.v7x

variable {F : FTy → Type} [FloatOps F]

abbrev main_while0_count : Scf.Loop 32 := ⟨0#32, 256#32, 1#32⟩
-- ==== Proof.Krn.Steps.lean ====
module

public import proofs.«01_k».proof.Proof.Gen.KernelIdeal.Skeleton
public import Idealize.ShloMosaic.Lib.Pipeline.Regions

/-! The kernel's loop body as the same two stretches of statements repeated: from the weights of one step to the weights
and the selected cells of the next (`toMid`), and from there to the weights of the step after that (`toFront`). Both are
written with what follows them as an argument, so the body is a nest of them; two steps end where two steps began. -/

@[expose] public section

noncomputable section

namespace Cert.KernelIdeal.Search

open Idealize.ShloMosaic Idealize.ShloMosaic.TcCoe Idealize.SL.Sem Cert.KernelIdeal Cert.KernelIdeal.Gen

variable {F : FTy → Type} [FloatOps F]

/-- What a step has read and computed of each half when its weights are known: lengths, open cells, weights, their sums. -/
abbrev Front (F : FTy → Type) [FloatOps F] : Type :=
  Σ' (v16 : Vec F S16x1024 .f32) (v17 : Vec F S16x1024 .f32) (v18 : Vec F S16x1024 .f32) (v19 : Vec F S16x1024 .f32) (v32 : FVec F S16x1024 .f32) (v36 : FVec F S16x1 .f32) (v49 : FVec F S16x1024 .f32), FVec F S16x1 .f32

/-- What a step has read and computed when the cells of both halves are selected. -/
abbrev Mid (F : FTy → Type) [FloatOps F] : Type :=
  Σ' (v2330 : Vec F S16x1024 .f32) (v2331 : Vec F S16x1024 .f32) (v2332 : Vec F S16x1024 .f32) (v2333 : Vec F S16x1024 .f32) (v2373 : IVec S16x1 32) (v2375 : IVec S16x1 32) (v2376 : Vec F S16x1024 .f32) (v2380 : IVec S16x1024 1) (v2383 : IVec S16x1 1), FVec F S16x1024 .f32

variable (arg0 : Memref sig .tc .vmem S32x1024 .f32) (harg0 : arg0.IsWhole) (arg1 : Memref sig .tc .vmem S32x1024 .f32) (harg1 : arg1.IsWhole) (arg2 : Memref sig .tc .vmem S32x1024 .f32) (harg2 : arg2.IsWhole) (arg3 : Memref sig .tc .vmem S32x1 .i32) (harg3 : arg3.IsWhole) (arg4 : Memref sig .tc .vmem S32x1024 .i32) (harg4 : arg4.IsWhole) (arg5 : Memref sig .tc .vmem S32x1024 .i32) (harg5 : arg5.IsWhole) (arg6 : Memref sig .tc .vmem S32x1024 .i32) (harg6 : arg6.IsWhole) (arg7 : Memref sig .tc .vmem S32x1024 .f32) (harg7 : arg7.IsWhole) (arg8 : Memref sig .tc .vmem S32x1024 .f32) (harg8 : arg8.IsWhole) (arg9 : Memref sig .tc .vmem S32x1024 .f32) (harg9 : arg9.IsWhole) (arg10 : Memref sig .tc .vmem S32x1024 .f32) (harg10 : arg10.IsWhole)

/-- The rest of a step whose weights are known, and the next one until its cells are selected. -/
def toMid {R : Type} (x : Front F) (K : Mid F → Prog (TpuEff nD τ sig (Elt F) Λ₀ .tc) R) : Prog (TpuEff nD τ sig (Elt F) Λ₀ .tc) R := do
  match x with
  | ⟨v16, v17, v18, v19, v32, v36, v49, v51⟩ => do
    let ⟨v61, v62, v66, v69, v76, v84, v90, v91⟩ : Σ' (v61 : IVec S16x1 32) (v62 : Vec F S16x1024 .f32) (v66 : IVec S16x1024 1) (v69 : IVec S16x1 1) (v76 : FVec F S16x1 .f32) (v84 : IVec S16x1 32) (v90 : IVec S16x1024 1), Vec F S16x1024 .i32 ← k0_part2 arg0 harg0 arg1 harg1 arg2 harg2 arg3 harg3 arg4 harg4 arg5 harg5 arg6 harg6 arg7 harg7 arg8 harg8 arg9 harg9 arg10 harg10 v16 v32 v36 v49 v51
    let ⟨v128, v132⟩ : Σ' (v128 : Vec F S16x1024 .f32), IVec S16x1024 1 ← k0_part3 arg0 harg0 arg1 harg1 arg2 harg2 arg3 harg3 arg4 harg4 arg5 harg5 arg6 harg6 arg7 harg7 arg8 harg8 arg9 harg9 arg10 harg10 v16 v18 v61 v62 v66 v69 v76 v84 v90 v91
    let ⟨v135, v173, v174⟩ : Σ' (v135 : IVec S16x1 1) (v173 : IVec S16x1024 1), FVec F S16x1 .f32 ← k0_part4 arg0 harg0 arg1 harg1 arg2 harg2 arg3 harg3 arg4 harg4 arg5 harg5 arg6 harg6 arg7 harg7 arg8 harg8 arg9 harg9 arg10 harg10 v17 v19 v61 v128 v132
    let ⟨v194, v195, v196, v197, v208⟩ : Σ' (v194 : Vec F S16x1024 .f32) (v195 : Vec F S16x1024 .f32) (v196 : Vec F S16x1024 .f32) (v197 : Vec F S16x1024 .f32), FVec F S16x1024 .f32 ← k0_part5 arg0 harg0 arg1 harg1 arg2 harg2 arg3 harg3 arg4 harg4 arg5 harg5 arg6 harg6 arg7 harg7 arg8 harg8 arg9 harg9 arg10 harg10 v17 v19 v128 v132 v135 v173 v174
    let ⟨v237, v239, v240, v244, v247, v250⟩ : Σ' (v237 : IVec S16x1 32) (v239 : IVec S16x1 32) (v240 : Vec F S16x1024 .f32) (v244 : IVec S16x1024 1) (v247 : IVec S16x1 1), FVec F S16x1024 .f32 ← k0_part6 arg0 harg0 arg1 harg1 arg2 harg2 arg3 harg3 arg4 harg4 arg5 harg5 arg6 harg6 arg7 harg7 arg8 harg8 arg9 harg9 arg10 harg10 v194 v195 v196 v197 v208
    K ⟨v194, v195, v196, v197, v237, v239, v240, v244, v247, v250⟩

/-- The rest of a step whose cells are selected, and the next one until its weights are known. -/
def toFront {R : Type} (y : Mid F) (K : Front F → Prog (TpuEff nD τ sig (Elt F) Λ₀ .tc) R) : Prog (TpuEff nD τ sig (Elt F) Λ₀ .tc) R := do
  match y with
  | ⟨v194, v195, v196, v197, v237, v239, v240, v244, v247, v250⟩ => do
    let ⟨v285, v293⟩ : Σ' (v285 : IVec S16x1024 1), IVec S16x1024 1 ← k0_part7 arg0 harg0 arg1 harg1 arg2 harg2 arg3 harg3 arg4 harg4 arg5 harg5 arg6 harg6 arg7 harg7 arg8 harg8 arg9 harg9 arg10 harg10 v194 v196 v237 v240 v244 v247 v250
    let ⟨v306, v310, v313, v320, v324, v328⟩ : Σ' (v306 : Vec F S16x1024 .f32) (v310 : IVec S16x1024 1) (v313 : IVec S16x1 1) (v320 : FVec F S16x1 .f32) (v324 : IVec S16x1 32), IVec S16x1 32 ← k0_part8 arg0 harg0 arg1 harg1 arg2 harg2 arg3 harg3 arg4 harg4 arg5 harg5 arg6 harg6 arg7 harg7 arg8 harg8 arg9 harg9 arg10 harg10 v195 v196 v239 v240 v244 v285 v293
    let v371 : FVec F S16x1024 .f32 ← k0_part9 arg0 harg0 arg1 harg1 arg2 harg2 arg3 harg3 arg4 harg4 arg5 harg5 arg6 harg6 arg7 harg7 arg8 harg8 arg9 harg9 arg10 harg10 v195 v197 v306 v310 v313 v320 v324 v328
    let ⟨v372, v373, v374, v375, v388, v392, v405, v407⟩ : Σ' (v372 : Vec F S16x1024 .f32) (v373 : Vec F S16x1024 .f32) (v374 : Vec F S16x1024 .f32) (v375 : Vec F S16x1024 .f32) (v388 : FVec F S16x1024 .f32) (v392 : FVec F S16x1 .f32) (v405 : FVec F S16x1024 .f32), FVec F S16x1 .f32 ← k0_part10 arg0 harg0 arg1 harg1 arg2 harg2 arg3 harg3 arg4 harg4 arg5 harg5 arg6 harg6 arg7 harg7 arg8 harg8 arg9 harg9 arg10 harg10 v371
    K ⟨v372, v373, v374, v375, v388, v392, v405, v407⟩

/-- The rest of a step whose cells are selected. -/
def toEnd (y : Mid F) : Prog (TpuEff nD τ sig (Elt F) Λ₀ .tc) PUnit := do
  match y with
  | ⟨v194, v195, v196, v197, v237, v239, v240, v244, v247, v250⟩ => do
    let ⟨v285, v293⟩ : Σ' (v285 : IVec S16x1024 1), IVec S16x1024 1 ← k0_part7 arg0 harg0 arg1 harg1 arg2 harg2 arg3 harg3 arg4 harg4 arg5 harg5 arg6 harg6 arg7 harg7 arg8 harg8 arg9 harg9 arg10 harg10 v194 v196 v237 v240 v244 v247 v250
    let ⟨v306, v310, v313, v320, v324, v328⟩ : Σ' (v306 : Vec F S16x1024 .f32) (v310 : IVec S16x1024 1) (v313 : IVec S16x1 1) (v320 : FVec F S16x1 .f32) (v324 : IVec S16x1 32), IVec S16x1 32 ← k0_part8 arg0 harg0 arg1 harg1 arg2 harg2 arg3 harg3 arg4 harg4 arg5 harg5 arg6 harg6 arg7 harg7 arg8 harg8 arg9 harg9 arg10 harg10 v195 v196 v239 v240 v244 v285 v293
    let v371 : FVec F S16x1024 .f32 ← k0_part9 arg0 harg0 arg1 harg1 arg2 harg2 arg3 harg3 arg4 harg4 arg5 harg5 arg6 harg6 arg7 harg7 arg8 harg8 arg9 harg9 arg10 harg10 v195 v197 v306 v310 v313 v320 v324 v328
    Prog.lift (.store arg10 (Rect.unit (s := S32x1024) ![16, 0] S16x1024.size inb_S32x1024_S16x1024_16_0) v371 Finset.univ (View.stores_vmem_bits_univ h_S16x1024 rfl) (.inl rfl))
    pure ⟨⟩

set_option maxRecDepth 65536 in
set_option maxHeartbeats 4000000 in
/-- The loop body is sixteen steps. -/
theorem body_eq (k : Fin k0_t1_loop.trips) (u : Unit) :
    k0_t1_body (F := F) arg0 harg0 arg1 harg1 arg2 harg2 arg3 harg3 arg4 harg4 arg5 harg5 arg6 harg6 arg7 harg7 arg8 harg8 arg9 harg9 arg10 harg10 k u =
      ((k0_part1 arg0 harg0 arg1 harg1 arg2 harg2 arg3 harg3 arg4 harg4 arg5 harg5 arg6 harg6 arg7 harg7 arg8 harg8 arg9 harg9 arg10 harg10 0#32 1#32 k >>= fun x => toMid arg0 harg0 arg1 harg1 arg2 harg2 arg3 harg3 arg4 harg4 arg5 harg5 arg6 harg6 arg7 harg7 arg8 harg8 arg9 harg9 arg10 harg10 x fun y => toFront arg0 harg0 arg1 harg1 arg2 harg2 arg3 harg3 arg4 harg4 arg5 harg5 arg6 harg6 arg7 harg7 arg8 harg8 arg9 harg9 arg10 harg10 y fun x => toMid arg0 harg0 arg1 harg1 arg2 harg2 arg3 harg3 arg4 harg4 arg5 harg5 arg6 harg6 arg7 harg7 arg8 harg8 arg9 harg9 arg10 harg10 x fun y =>
        toFront arg0 harg0 arg1 harg1 arg2 harg2 arg3 harg3 arg4 harg4 arg5 harg5 arg6 harg6 arg7 harg7 arg8 harg8 arg9 harg9 arg10 harg10 y fun x => toMid arg0 harg0 arg1 harg1 arg2 harg2 arg3 harg3 arg4 harg4 arg5 harg5 arg6 harg6 arg7 harg7 arg8 harg8 arg9 harg9 arg10 harg10 x fun y => toFront arg0 harg0 arg1 harg1 arg2 harg2 arg3 harg3 arg4 harg4 arg5 harg5 arg6 harg6 arg7 harg7 arg8 harg8 arg9 harg9 arg10 harg10 y fun x => toMid arg0 harg0 arg1 harg1 arg2 harg2 arg3 harg3 arg4 harg4 arg5 harg5 arg6 harg6 arg7 harg7 arg8 harg8 arg9 harg9 arg10 harg10 x fun y =>
        toFront arg0 harg0 arg1 harg1 arg2 harg2 arg3 harg3 arg4 harg4 arg5 harg5 arg6 harg6 arg7 harg7 arg8 harg8 arg9 harg9 arg10 harg10 y fun x => toMid arg0 harg0 arg1 harg1 arg2 harg2 arg3 harg3 arg4 harg4 arg5 harg5 arg6 harg6 arg7 harg7 arg8 harg8 arg9 harg9 arg10 harg10 x fun y => toFront arg0 harg0 arg1 harg1 arg2 harg2 arg3 harg3 arg4 harg4 arg5 harg5 arg6 harg6 arg7 harg7 arg8 harg8 arg9 harg9 arg10 harg10 y fun x => toMid arg0 harg0 arg1 harg1 arg2 harg2 arg3 harg3 arg4 harg4 arg5 harg5 arg6 harg6 arg7 harg7 arg8 harg8 arg9 harg9 arg10 harg10 x fun y =>
        toFront arg0 harg0 arg1 harg1 arg2 harg2 arg3 harg3 arg4 harg4 arg5 harg5 arg6 harg6 arg7 harg7 arg8 harg8 arg9 harg9 arg10 harg10 y fun x => toMid arg0 harg0 arg1 harg1 arg2 harg2 arg3 harg3 arg4 harg4 arg5 harg5 arg6 harg6 arg7 harg7 arg8 harg8 arg9 harg9 arg10 harg10 x pure) >>= fun y =>
        toFront arg0 harg0 arg1 harg1 arg2 harg2 arg3 harg3 arg4 harg4 arg5 harg5 arg6 harg6 arg7 harg7 arg8 harg8 arg9 harg9 arg10 harg10 y fun x => toMid arg0 harg0 arg1 harg1 arg2 harg2 arg3 harg3 arg4 harg4 arg5 harg5 arg6 harg6 arg7 harg7 arg8 harg8 arg9 harg9 arg10 harg10 x fun y => toEnd arg0 harg0 arg1 harg1 arg2 harg2 arg3 harg3 arg4 harg4 arg5 harg5 arg6 harg6 arg7 harg7 arg8 harg8 arg9 harg9 arg10 harg10 y) := by
  chain_rfl

end Cert.KernelIdeal.Search

end
-- ==== Proof.Krn.Halves.lean ====
module

public import proofs.«01_k».proof.Proof.Gen.KernelIdeal.Skeleton
public import Idealize.ShloMosaic.Lib.Exec
public import Idealize.ShloMosaic.Lib.Pipeline.Kit
public import Idealize.ShloMosaic.Lib.WholeRead
public import Idealize.ShloMosaic.Lib.WritesUnit
public import Idealize.ShloMosaic.Lib.Pointwise.Index

/-! The two halves of an array of thirty-two rows, the array two halves make, and what one step of the search does to
one half: the lengths, the open cells and the closed cells it leaves. A step of the kernel treats the two halves one
after the other; the chains of operations it spells for them are the same chain. -/

@[expose] public section

noncomputable section

namespace Cert.KernelIdeal.Search

open Idealize.ShloMosaic Idealize.ShloMosaic.TcCoe Cert.KernelIdeal Cert.KernelIdeal.Gen

variable {F : FTy → Type} [FloatOps F]

/-- The box of the first sixteen rows. -/
abbrev upBox : Rect S32x1024 := Rect.unit (s := S32x1024) ![0, 0] S16x1024.size inb_S32x1024_S16x1024_0_0

/-- The box of the last sixteen rows. -/
abbrev dnBox : Rect S32x1024 := Rect.unit (s := S32x1024) ![16, 0] S16x1024.size inb_S32x1024_S16x1024_16_0

/-- The box of the first sixteen entries of a column. -/
abbrev upBox1 : Rect S32x1 := Rect.unit (s := S32x1) ![0, 0] S16x1.size inb_S32x1_S16x1_0_0

/-- The box of the last sixteen entries of a column. -/
abbrev dnBox1 : Rect S32x1 := Rect.unit (s := S32x1) ![16, 0] S16x1.size inb_S32x1_S16x1_16_0

/-- The first sixteen rows of an array. -/
def up {e : EltTy} (X : Vec F S32x1024 e) : Vec F S16x1024 e := fun x => X (upBox.toLoadRect.idx x)

/-- The last sixteen rows of an array. -/
def dn {e : EltTy} (X : Vec F S32x1024 e) : Vec F S16x1024 e := fun x => X (dnBox.toLoadRect.idx x)

/-- The first sixteen entries of a column. -/
def up1 {e : EltTy} (X : Vec F S32x1 e) : Vec F S16x1 e := fun x => X (upBox1.toLoadRect.idx x)

/-- The last sixteen entries of a column. -/
def dn1 {e : EltTy} (X : Vec F S32x1 e) : Vec F S16x1 e := fun x => X (dnBox1.toLoadRect.idx x)

/-- The array whose first sixteen rows are `a` and whose last sixteen are `b`. -/
def both {e : EltTy} (a b : Vec F S16x1024 e) : Vec F S32x1024 e := fun y =>
  if h : (y 0).val < 16 then a (ix2 ⟨(y 0).val, h⟩ (y 1))
  else b (ix2 ⟨(y 0).val - 16, by have : (y 0).val < 32 := (y 0).isLt; omega⟩ (y 1))

section Memory

variable {sp : Space} {e : EltTy}

/-- A load of the first half of a whole array reads its first half. -/
theorem readAt_up {m : Memref sig .tc sp S32x1024 e} (h : m.IsWhole) (X : Vec F S32x1024 e) :
    View.readAt (Elt F) m.view upBox.toLoadRect (h.unread X) = up X := funext fun x => h.readAt_unread X _ x

/-- A load of the last half of a whole array reads its last half. -/
theorem readAt_dn {m : Memref sig .tc sp S32x1024 e} (h : m.IsWhole) (X : Vec F S32x1024 e) :
    View.readAt (Elt F) m.view dnBox.toLoadRect (h.unread X) = dn X := funext fun x => h.readAt_unread X _ x

/-- A load of the first half of a whole column reads its first half. -/
theorem readAt_up1 {m : Memref sig .tc sp S32x1 e} (h : m.IsWhole) (X : Vec F S32x1 e) :
    View.readAt (Elt F) m.view upBox1.toLoadRect (h.unread X) = up1 X := funext fun x => h.readAt_unread X _ x

/-- A load of the last half of a whole column reads its last half. -/
theorem readAt_dn1 {m : Memref sig .tc sp S32x1 e} (h : m.IsWhole) (X : Vec F S32x1 e) :
    View.readAt (Elt F) m.view dnBox1.toLoadRect (h.unread X) = dn1 X := funext fun x => h.readAt_unread X _ x

/-- Both halves stored, the array reads as the two halves. -/
theorem read_both (v : View sig .tc sp S32x1024 e) (f : v.ty.Contents (Elt F)) (a b : Vec F S16x1024 e) :
    v.read (Elt F) (v.writes (Elt F) f [⟨dnBox, b⟩, ⟨upBox, a⟩]) = both a b := by
  funext y
  have h32 : (y 0).val < 32 := (y 0).isLt
  by_cases h : (y 0).val < 16
  · rw [View.read_writes_cons_rows_of_not_mem v f inb_S32x1024_S16x1024_16_0 b _ y (o := 16) (W := 16) rfl rfl (.inl h),
      View.read_writes_cons_rows_of_mem v f inb_S32x1024_S16x1024_0_0 a _ y (ix2 ⟨(y 0).val, h⟩ (y 1)) (o := 0) rfl
        (Nat.zero_add _).symm rfl]
    unfold both
    rw [dif_pos h]
  · rw [View.read_writes_cons_rows_of_mem v f inb_S32x1024_S16x1024_16_0 b _ y (ix2 ⟨(y 0).val - 16, by omega⟩ (y 1))
      (o := 16) rfl (by show _ = 16 + ((y 0).val - 16); omega) rfl]
    unfold both
    rw [dif_neg h]

/-- Both halves stored, the contents are those of the two halves' array. -/
theorem writes_both {m : Memref sig .tc sp S32x1024 e} (h : m.IsWhole) (f : m.view.ty.Contents (Elt F)) (a b : Vec F S16x1024 e) :
    m.view.writes (Elt F) f [⟨dnBox, b⟩, ⟨upBox, a⟩] = h.unread (both a b) := h.eq_unread (read_both m.view f a b)

/-- Both halves stored, a load of the first reads it. -/
theorem readCov_up (v : View sig .tc sp S32x1024 e) (a b : Vec F S16x1024 e) :
    v.readCov (Val := Elt F) [⟨dnBox, b⟩, ⟨upBox, a⟩] upBox.toLoadRect = up (both a b) :=
  funext fun x => congrFun (read_both v v.junk a b) (upBox.toLoadRect.idx x)

/-- Both halves stored, a load of the last reads it. -/
theorem readCov_dn (v : View sig .tc sp S32x1024 e) (a b : Vec F S16x1024 e) :
    v.readCov (Val := Elt F) [⟨dnBox, b⟩, ⟨upBox, a⟩] dnBox.toLoadRect = dn (both a b) :=
  funext fun x => congrFun (read_both v v.junk a b) (dnBox.toLoadRect.idx x)

end Memory

/-! ### One step on one half -/

variable (hm cost : Vec F S16x1024 .f32) (gi : Vec F S16x1 .i32) (num row col : Vec F S16x1024 .i32) (g o h : Vec F S16x1024 .f32)

/-- The lengths a step leaves. -/
def halfG : Vec F S16x1024 .f32 :=
  k0_pay16 g o h (k0_pay12 g (k0_pay4 g o hm) (k0_pay5 g o hm) num cost) (k0_pay13 (k0_pay4 g o hm) (k0_pay5 g o hm))
    (k0_pay14 (k0_pay4 g o hm) (k0_pay5 g o hm) row) col

/-- The open cells a step leaves. -/
def halfO : Vec F S16x1024 .f32 :=
  k0_pay17 g o h (k0_pay10 (k0_pay4 g o hm) (k0_pay5 g o hm) num) (k0_pay11 (k0_pay4 g o hm) (k0_pay5 g o hm) gi)
    (k0_pay12 g (k0_pay4 g o hm) (k0_pay5 g o hm) num cost) (k0_pay13 (k0_pay4 g o hm) (k0_pay5 g o hm))
    (k0_pay14 (k0_pay4 g o hm) (k0_pay5 g o hm) row) col

/-- The closed cells a step leaves. -/
def halfH : Vec F S16x1024 .f32 :=
  k0_pay18 h (k0_pay10 (k0_pay4 g o hm) (k0_pay5 g o hm) num)

/-! The four spellings are one. -/

theorem halfG_1 : k0_pay16 g o h (k0_pay12 g (k0_pay4 g o hm) (k0_pay5 g o hm) num cost)
    (k0_pay13 (k0_pay4 g o hm) (k0_pay5 g o hm)) (k0_pay14 (k0_pay4 g o hm) (k0_pay5 g o hm) row) col
      = halfG hm cost num row col g o h := rfl
theorem halfO_1 : k0_pay17 g o h (k0_pay10 (k0_pay4 g o hm) (k0_pay5 g o hm) num) (k0_pay11 (k0_pay4 g o hm) (k0_pay5 g o hm) gi)
    (k0_pay12 g (k0_pay4 g o hm) (k0_pay5 g o hm) num cost) (k0_pay13 (k0_pay4 g o hm) (k0_pay5 g o hm))
    (k0_pay14 (k0_pay4 g o hm) (k0_pay5 g o hm) row) col = halfO hm cost gi num row col g o h := rfl
theorem halfH_1 : k0_pay18 h (k0_pay10 (k0_pay4 g o hm) (k0_pay5 g o hm) num) = halfH hm num g o h := rfl

theorem halfG_2 : k0_pay24 g (k0_pay22 g o (k0_pay9 (k0_pay6 g o hm) (k0_pay7 g o hm)) h
    (k0_pay19 (k0_pay9 (k0_pay6 g o hm) (k0_pay7 g o hm)) num) cost row col)
    (k0_pay23 g (k0_pay19 (k0_pay9 (k0_pay6 g o hm) (k0_pay7 g o hm)) num) cost) = halfG hm cost num row col g o h := rfl
theorem halfO_2 : k0_pay25 o (k0_pay19 (k0_pay9 (k0_pay6 g o hm) (k0_pay7 g o hm)) num)
    (k0_pay20 (k0_pay9 (k0_pay6 g o hm) (k0_pay7 g o hm)) gi)
    (k0_pay22 g o (k0_pay9 (k0_pay6 g o hm) (k0_pay7 g o hm)) h
      (k0_pay19 (k0_pay9 (k0_pay6 g o hm) (k0_pay7 g o hm)) num) cost row col) = halfO hm cost gi num row col g o h := rfl
theorem halfH_2 : k0_pay26 h (k0_pay19 (k0_pay9 (k0_pay6 g o hm) (k0_pay7 g o hm)) num) = halfH hm num g o h := rfl

theorem halfG_3 : k0_pay35 g o (k0_pay28 o (k0_pay27 g hm)) h (k0_pay30 o (k0_pay27 g hm) num) (k0_pay32 g cost) row col
      = halfG hm cost num row col g o h := rfl
theorem halfO_3 : k0_pay37 o
    (k0_pay34 g o (k0_pay28 o (k0_pay27 g hm)) h (k0_pay30 o (k0_pay27 g hm) num) (k0_pay32 g cost) row col)
    (k0_pay36 (k0_pay30 o (k0_pay27 g hm) num) (k0_pay31 o (k0_pay27 g hm) gi)) = halfO hm cost gi num row col g o h := rfl
theorem halfH_3 : k0_pay38 h (k0_pay30 o (k0_pay27 g hm) num) = halfH hm num g o h := rfl

theorem halfG_4 : k0_pay45 g o h (k0_pay41 g (k0_pay29 g o hm) num cost) (k0_pay42 (k0_pay29 g o hm))
    (k0_pay43 (k0_pay29 g o hm)) row col = halfG hm cost num row col g o h := rfl
theorem halfO_4 : k0_pay46 g o h (k0_pay39 (k0_pay29 g o hm) num) (k0_pay40 (k0_pay29 g o hm) gi)
    (k0_pay41 g (k0_pay29 g o hm) num cost) (k0_pay42 (k0_pay29 g o hm)) (k0_pay43 (k0_pay29 g o hm)) row col
      = halfO hm cost gi num row col g o h := rfl
theorem halfH_4 : k0_pay47 h (k0_pay39 (k0_pay29 g o hm) num) = halfH hm num g o h := rfl

/-! ### One step on both halves -/

/-- What a step changes: the lengths of the paths found, the open cells, the closed cells. -/
structure State (F : FTy → Type) [FloatOps F] where
  len : Vec F S32x1024 .f32
  opn : Vec F S32x1024 .f32
  cls : Vec F S32x1024 .f32

/-- What a step only reads: the heuristic, the costs, the goals' numbers, the cells' numbers, rows and columns. -/
structure Given (F : FTy → Type) [FloatOps F] where
  hm : Vec F S32x1024 .f32
  cost : Vec F S32x1024 .f32
  gi : Vec F S32x1 .i32
  num : Vec F S32x1024 .i32
  row : Vec F S32x1024 .i32
  col : Vec F S32x1024 .i32

/-- The kernel's step. -/
def step (A : Given F) (S : State F) : State F where
  len := both (halfG (up A.hm) (up A.cost) (up A.num) (up A.row) (up A.col) (up S.len) (up S.opn) (up S.cls))
    (halfG (dn A.hm) (dn A.cost) (dn A.num) (dn A.row) (dn A.col) (dn S.len) (dn S.opn) (dn S.cls))
  opn := both (halfO (up A.hm) (up A.cost) (up1 A.gi) (up A.num) (up A.row) (up A.col) (up S.len) (up S.opn) (up S.cls))
    (halfO (dn A.hm) (dn A.cost) (dn1 A.gi) (dn A.num) (dn A.row) (dn A.col) (dn S.len) (dn S.opn) (dn S.cls))
  cls := both (halfH (up A.hm) (up A.num) (up S.len) (up S.opn) (up S.cls))
    (halfH (dn A.hm) (dn A.num) (dn S.len) (dn S.opn) (dn S.cls))

end Cert.KernelIdeal.Search

end
-- ==== Proof.Krn.StepRun.lean ====
module

public import proofs.«01_k».proof.Proof.Krn.Steps
public import proofs.«01_k».proof.Proof.Krn.Halves
public import Idealize.ShloMosaic.Lib.Tactic

/-! What each stretch of the loop body does: given the arrays at a state, and at its start the values computed from that
state, it ends with the arrays at the next state and the values computed from that. -/

@[expose] public section

set_option maxRecDepth 8192
set_option maxHeartbeats 4000000

noncomputable section

namespace Cert.KernelIdeal.Search

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄K" => MT nD τ sig Unit (Elt F) ℕ (UR sig nD τ) ℕ

/-- What a step has computed when its weights are known. -/
def frontOf (A : Given F) (S : State F) : Front F :=
  ⟨up S.len, dn S.len, up S.opn, dn S.opn, k0_pay4 (up S.len) (up S.opn) (up A.hm), k0_pay5 (up S.len) (up S.opn) (up A.hm),
    k0_pay6 (dn S.len) (dn S.opn) (dn A.hm), k0_pay7 (dn S.len) (dn S.opn) (dn A.hm)⟩

/-- What a step has computed when its cells are selected. -/
def midOf (A : Given F) (S : State F) : Mid F :=
  ⟨up S.len, dn S.len, up S.opn, dn S.opn, k0_pay28 (up S.opn) (k0_pay27 (up S.len) (up A.hm)),
    k0_pay29 (dn S.len) (dn S.opn) (dn A.hm), up S.cls, k0_pay30 (up S.opn) (k0_pay27 (up S.len) (up A.hm)) (up A.num),
    k0_pay31 (up S.opn) (k0_pay27 (up S.len) (up A.hm)) (up1 A.gi), k0_pay32 (up S.len) (up A.cost)⟩

variable (arg0 : Memref sig .tc .vmem S32x1024 .f32) (harg0 : arg0.IsWhole) (arg1 : Memref sig .tc .vmem S32x1024 .f32) (harg1 : arg1.IsWhole) (arg2 : Memref sig .tc .vmem S32x1024 .f32) (harg2 : arg2.IsWhole) (arg3 : Memref sig .tc .vmem S32x1 .i32) (harg3 : arg3.IsWhole) (arg4 : Memref sig .tc .vmem S32x1024 .i32) (harg4 : arg4.IsWhole) (arg5 : Memref sig .tc .vmem S32x1024 .i32) (harg5 : arg5.IsWhole) (arg6 : Memref sig .tc .vmem S32x1024 .i32) (harg6 : arg6.IsWhole) (arg7 : Memref sig .tc .vmem S32x1024 .f32) (harg7 : arg7.IsWhole) (arg8 : Memref sig .tc .vmem S32x1024 .f32) (harg8 : arg8.IsWhole) (arg9 : Memref sig .tc .vmem S32x1024 .f32) (harg9 : arg9.IsWhole) (arg10 : Memref sig .tc .vmem S32x1024 .f32) (harg10 : arg10.IsWhole)
variable (c : Dev nD) (A : Given F) (S : State F)

/-- The arrays a step reads and the three it changes, at their contents. -/
def held : sProp 𝕄K :=
  iprop((arg0.view.loc (c : Thread nD τ) ↦[arg0.view.set]{fullShare} harg0.unread A.hm) ∗ (arg1.view.loc (c : Thread nD τ) ↦[arg1.view.set]{fullShare} harg1.unread A.cost) ∗ (arg3.view.loc (c : Thread nD τ) ↦[arg3.view.set]{fullShare} harg3.unread A.gi) ∗ (arg4.view.loc (c : Thread nD τ) ↦[arg4.view.set]{fullShare} harg4.unread A.num) ∗ (arg5.view.loc (c : Thread nD τ) ↦[arg5.view.set]{fullShare} harg5.unread A.row) ∗ (arg6.view.loc (c : Thread nD τ) ↦[arg6.view.set]{fullShare} harg6.unread A.col) ∗ (arg8.view.loc (c : Thread nD τ) ↦[arg8.view.set]{fullShare} harg8.unread S.len) ∗ (arg9.view.loc (c : Thread nD τ) ↦[arg9.view.set]{fullShare} harg9.unread S.opn) ∗ (arg10.view.loc (c : Thread nD τ) ↦[arg10.view.set]{fullShare} harg10.unread S.cls))

theorem toMid_run (𝒱 : Variants) (bd : Option 𝒱.V) (E : Set ℕ) {R : Type} (K : Mid F → Prog (TpuEff nD τ sig (Elt F) Λ₀ .tc) R) (Q : R → sProp 𝕄K) :
    held arg0 harg0 arg1 harg1 arg3 harg3 arg4 harg4 arg5 harg5 arg6 harg6 arg8 harg8 arg9 harg9 arg10 harg10 c A S ∗
      (held arg0 harg0 arg1 harg1 arg3 harg3 arg4 harg4 arg5 harg5 arg6 harg6 arg8 harg8 arg9 harg9 arg10 harg10 c A (step A S) -∗ wp frame (wpE (defs₀ (F := F)) 𝒱 (c : Thread nD τ) bd) E (K (midOf A (step A S))) Q)
      ⊢ wp frame (wpE (defs₀ (F := F)) 𝒱 (c : Thread nD τ) bd) E (toMid arg0 harg0 arg1 harg1 arg2 harg2 arg3 harg3 arg4 harg4 arg5 harg5 arg6 harg6 arg7 harg7 arg8 harg8 arg9 harg9 arg10 harg10 (frontOf A S) K) Q := by
  unfold held toMid frontOf
  iintro ⟨⟨H0, H1, H3, H4, H5, H6, H8, H9, H10⟩, Hk⟩
  sl_exec
  unfold toMid_run.sl.r_17 toMid_run.sl.r_16 toMid_run.sl.r_15 toMid_run.sl.r_14 toMid_run.sl.r_13 toMid_run.sl.r_12 toMid_run.sl.v194 toMid_run.sl.v195 toMid_run.sl.v196 toMid_run.sl.v197 toMid_run.sl.v240 toMid_run.sl.H8_2 toMid_run.sl.H9_2 toMid_run.sl.H10_2 toMid_run.sl.r_11 toMid_run.sl.r_10 toMid_run.sl.r_9 toMid_run.sl.r_8 toMid_run.sl.r_7 toMid_run.sl.r_6 toMid_run.sl.r_5 toMid_run.sl.r_4 toMid_run.sl.r_3 toMid_run.sl.r_2 toMid_run.sl.r_1 toMid_run.sl.r toMid_run.sl.v128
  simp -proj only [readAt_up, readAt_dn, readAt_up1, readAt_dn1, readCov_up, readCov_dn, writes_both harg8, writes_both harg9, writes_both harg10, halfG_1, halfO_1, halfH_1, halfG_2, halfO_2, halfH_2]
  iapply Hk
  isplitl [H0]
  · iexact H0
  isplitl [H1]
  · iexact H1
  isplitl [H3]
  · iexact H3
  isplitl [H4]
  · iexact H4
  isplitl [H5]
  · iexact H5
  isplitl [H6]
  · iexact H6
  isplitl [H8]
  · iexact H8
  isplitl [H9]
  · iexact H9
  iexact H10

/-- From selected cells to the next weights. -/
theorem toFront_run (𝒱 : Variants) (bd : Option 𝒱.V) (E : Set ℕ) {R : Type} (K : Front F → Prog (TpuEff nD τ sig (Elt F) Λ₀ .tc) R) (Q : R → sProp 𝕄K) :
    held arg0 harg0 arg1 harg1 arg3 harg3 arg4 harg4 arg5 harg5 arg6 harg6 arg8 harg8 arg9 harg9 arg10 harg10 c A S ∗
      (held arg0 harg0 arg1 harg1 arg3 harg3 arg4 harg4 arg5 harg5 arg6 harg6 arg8 harg8 arg9 harg9 arg10 harg10 c A (step A S) -∗ wp frame (wpE (defs₀ (F := F)) 𝒱 (c : Thread nD τ) bd) E (K (frontOf A (step A S))) Q)
      ⊢ wp frame (wpE (defs₀ (F := F)) 𝒱 (c : Thread nD τ) bd) E (toFront arg0 harg0 arg1 harg1 arg2 harg2 arg3 harg3 arg4 harg4 arg5 harg5 arg6 harg6 arg7 harg7 arg8 harg8 arg9 harg9 arg10 harg10 (midOf A S) K) Q := by
  unfold held toFront midOf
  iintro ⟨⟨H0, H1, H3, H4, H5, H6, H8, H9, H10⟩, Hk⟩
  sl_exec
  unfold toFront_run.sl.r_11 toFront_run.sl.r_10 toFront_run.sl.r_9 toFront_run.sl.r_8 toFront_run.sl.v372 toFront_run.sl.v373 toFront_run.sl.v374 toFront_run.sl.v375 toFront_run.sl.H8_2 toFront_run.sl.H9_2 toFront_run.sl.r_7 toFront_run.sl.r_6 toFront_run.sl.r_5 toFront_run.sl.r_4 toFront_run.sl.r_3 toFront_run.sl.r_2 toFront_run.sl.r_1 toFront_run.sl.r toFront_run.sl.v306
  simp -proj only [readAt_up, readAt_dn, readAt_up1, readAt_dn1, readCov_up, readCov_dn, writes_both harg8, writes_both harg9, writes_both harg10, halfG_3, halfO_3, halfH_3, halfG_4, halfO_4, halfH_4]
  iapply Hk
  isplitl [H0]
  · iexact H0
  isplitl [H1]
  · iexact H1
  isplitl [H3]
  · iexact H3
  isplitl [H4]
  · iexact H4
  isplitl [H5]
  · iexact H5
  isplitl [H6]
  · iexact H6
  isplitl [H8]
  · iexact H8
  isplitl [H9]
  · iexact H9
  iexact H10

/-- From selected cells to the step's end. -/
theorem toEnd_run (𝒱 : Variants) (bd : Option 𝒱.V) (E : Set ℕ) (Q : PUnit → sProp 𝕄K) :
    held arg0 harg0 arg1 harg1 arg3 harg3 arg4 harg4 arg5 harg5 arg6 harg6 arg8 harg8 arg9 harg9 arg10 harg10 c A S ∗ (held arg0 harg0 arg1 harg1 arg3 harg3 arg4 harg4 arg5 harg5 arg6 harg6 arg8 harg8 arg9 harg9 arg10 harg10 c A (step A S) -∗ Q ⟨⟩)
      ⊢ wp frame (wpE (defs₀ (F := F)) 𝒱 (c : Thread nD τ) bd) E (toEnd arg0 harg0 arg1 harg1 arg2 harg2 arg3 harg3 arg4 harg4 arg5 harg5 arg6 harg6 arg7 harg7 arg8 harg8 arg9 harg9 arg10 harg10 (midOf A S)) Q := by
  unfold held toEnd midOf
  iintro ⟨⟨H0, H1, H3, H4, H5, H6, H8, H9, H10⟩, Hk⟩
  sl_exec
  sl_step
  unfold toEnd_run.sl.r_7 toEnd_run.sl.r_6 toEnd_run.sl.r_5 toEnd_run.sl.r_4 toEnd_run.sl.r_3 toEnd_run.sl.r_2 toEnd_run.sl.r_1 toEnd_run.sl.r toEnd_run.sl.v306
  simp -proj only [readAt_up, readAt_dn, readAt_up1, readAt_dn1, readCov_up, readCov_dn, writes_both harg8, writes_both harg9, writes_both harg10, halfG_3, halfO_3, halfH_3, halfG_4, halfO_4, halfH_4]
  iapply Hk
  sl_close

/-- A trip's first loads. -/
theorem part1_run (𝒱 : Variants) (bd : Option 𝒱.V) (E : Set ℕ) (Q : Front F → sProp 𝕄K) (i j : BitVec 32) (k : Fin k0_t1_loop.trips) :
    held arg0 harg0 arg1 harg1 arg3 harg3 arg4 harg4 arg5 harg5 arg6 harg6 arg8 harg8 arg9 harg9 arg10 harg10 c A S ∗ (held arg0 harg0 arg1 harg1 arg3 harg3 arg4 harg4 arg5 harg5 arg6 harg6 arg8 harg8 arg9 harg9 arg10 harg10 c A S -∗ Q (frontOf A S))
      ⊢ wp frame (wpE (defs₀ (F := F)) 𝒱 (c : Thread nD τ) bd) E (k0_part1 arg0 harg0 arg1 harg1 arg2 harg2 arg3 harg3 arg4 harg4 arg5 harg5 arg6 harg6 arg7 harg7 arg8 harg8 arg9 harg9 arg10 harg10 i j k) Q := by
  rw [k0_part1_eq_skeleton]
  unfold held k0_part1_skel frontOf
  iintro ⟨⟨H0, H1, H3, H4, H5, H6, H8, H9, H10⟩, Hk⟩
  sl_exec
  sl_step
  simp -proj only [readAt_up, readAt_dn]
  iapply Hk
  sl_close

end Cert.KernelIdeal.Search

end
-- ==== Proof.Krn.Trip.lean ====
module

public import proofs.«01_k».proof.Proof.Krn.StepRun
public import Idealize.ShloMosaic.Lib.Tactic

/-! One trip of the kernel's loop is sixteen steps. -/

@[expose] public section

set_option maxRecDepth 8192
set_option maxHeartbeats 4000000

noncomputable section

namespace Cert.KernelIdeal.Search

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄K" => MT nD τ sig Unit (Elt F) ℕ (UR sig nD τ) ℕ

variable (arg0 : Memref sig .tc .vmem S32x1024 .f32) (harg0 : arg0.IsWhole) (arg1 : Memref sig .tc .vmem S32x1024 .f32) (harg1 : arg1.IsWhole) (arg2 : Memref sig .tc .vmem S32x1024 .f32) (harg2 : arg2.IsWhole) (arg3 : Memref sig .tc .vmem S32x1 .i32) (harg3 : arg3.IsWhole) (arg4 : Memref sig .tc .vmem S32x1024 .i32) (harg4 : arg4.IsWhole) (arg5 : Memref sig .tc .vmem S32x1024 .i32) (harg5 : arg5.IsWhole) (arg6 : Memref sig .tc .vmem S32x1024 .i32) (harg6 : arg6.IsWhole) (arg7 : Memref sig .tc .vmem S32x1024 .f32) (harg7 : arg7.IsWhole) (arg8 : Memref sig .tc .vmem S32x1024 .f32) (harg8 : arg8.IsWhole) (arg9 : Memref sig .tc .vmem S32x1024 .f32) (harg9 : arg9.IsWhole) (arg10 : Memref sig .tc .vmem S32x1024 .f32) (harg10 : arg10.IsWhole)
variable (c : Dev nD) (A : Given F) (S : State F)

/-- The two stretches one after the other are two steps. -/
theorem two_run (𝒱 : Variants) (bd : Option 𝒱.V) (E : Set ℕ) {R : Type} (K : Front F → Prog (TpuEff nD τ sig (Elt F) Λ₀ .tc) R) (Q : R → sProp 𝕄K) :
    held arg0 harg0 arg1 harg1 arg3 harg3 arg4 harg4 arg5 harg5 arg6 harg6 arg8 harg8 arg9 harg9 arg10 harg10 c A S ∗
      (held arg0 harg0 arg1 harg1 arg3 harg3 arg4 harg4 arg5 harg5 arg6 harg6 arg8 harg8 arg9 harg9 arg10 harg10 c A (step A (step A S)) -∗ wp frame (wpE (defs₀ (F := F)) 𝒱 (c : Thread nD τ) bd) E (K (frontOf A (step A (step A S)))) Q)
      ⊢ wp frame (wpE (defs₀ (F := F)) 𝒱 (c : Thread nD τ) bd) E (toMid arg0 harg0 arg1 harg1 arg2 harg2 arg3 harg3 arg4 harg4 arg5 harg5 arg6 harg6 arg7 harg7 arg8 harg8 arg9 harg9 arg10 harg10 (frontOf A S) fun y => toFront arg0 harg0 arg1 harg1 arg2 harg2 arg3 harg3 arg4 harg4 arg5 harg5 arg6 harg6 arg7 harg7 arg8 harg8 arg9 harg9 arg10 harg10 y K) Q := by
  iintro ⟨H, Hk⟩
  iapply (toMid_run arg0 harg0 arg1 harg1 arg2 harg2 arg3 harg3 arg4 harg4 arg5 harg5 arg6 harg6 arg7 harg7 arg8 harg8 arg9 harg9 arg10 harg10 c A S 𝒱 bd E _ Q)
  isplitl [H]
  · iexact H
  iintro H
  iapply (toFront_run arg0 harg0 arg1 harg1 arg2 harg2 arg3 harg3 arg4 harg4 arg5 harg5 arg6 harg6 arg7 harg7 arg8 harg8 arg9 harg9 arg10 harg10 c A (step A S) 𝒱 bd E K Q)
  isplitl [H]
  · iexact H
  iexact Hk

/-- One trip is sixteen steps. -/
theorem trip_run (𝒱 : Variants) (bd : Option 𝒱.V) (E : Set ℕ) (k : Fin k0_t1_loop.trips) (u : Unit) (Q : PUnit → sProp 𝕄K) :
    held arg0 harg0 arg1 harg1 arg3 harg3 arg4 harg4 arg5 harg5 arg6 harg6 arg8 harg8 arg9 harg9 arg10 harg10 c A S ∗ (held arg0 harg0 arg1 harg1 arg3 harg3 arg4 harg4 arg5 harg5 arg6 harg6 arg8 harg8 arg9 harg9 arg10 harg10 c A ((step A)^[16] S) -∗ Q ⟨⟩)
      ⊢ wp frame (wpE (defs₀ (F := F)) 𝒱 (c : Thread nD τ) bd) E (k0_t1_body arg0 harg0 arg1 harg1 arg2 harg2 arg3 harg3 arg4 harg4 arg5 harg5 arg6 harg6 arg7 harg7 arg8 harg8 arg9 harg9 arg10 harg10 k u) Q := by
  rw [body_eq, wp_bind, wp_bind]
  iintro ⟨H, Hk⟩
  iapply (part1_run arg0 harg0 arg1 harg1 arg2 harg2 arg3 harg3 arg4 harg4 arg5 harg5 arg6 harg6 arg7 harg7 arg8 harg8 arg9 harg9 arg10 harg10 c A S 𝒱 bd E _ 0#32 1#32 k)
  isplitl [H]
  · iexact H
  iintro H
  iapply (two_run arg0 harg0 arg1 harg1 arg2 harg2 arg3 harg3 arg4 harg4 arg5 harg5 arg6 harg6 arg7 harg7 arg8 harg8 arg9 harg9 arg10 harg10 c A S 𝒱 bd E)
  isplitl [H]
  · iexact H
  iintro H
  iapply (two_run arg0 harg0 arg1 harg1 arg2 harg2 arg3 harg3 arg4 harg4 arg5 harg5 arg6 harg6 arg7 harg7 arg8 harg8 arg9 harg9 arg10 harg10 c A ((step A)^[2] S) 𝒱 bd E)
  isplitl [H]
  · iexact H
  iintro H
  iapply (two_run arg0 harg0 arg1 harg1 arg2 harg2 arg3 harg3 arg4 harg4 arg5 harg5 arg6 harg6 arg7 harg7 arg8 harg8 arg9 harg9 arg10 harg10 c A ((step A)^[4] S) 𝒱 bd E)
  isplitl [H]
  · iexact H
  iintro H
  iapply (two_run arg0 harg0 arg1 harg1 arg2 harg2 arg3 harg3 arg4 harg4 arg5 harg5 arg6 harg6 arg7 harg7 arg8 harg8 arg9 harg9 arg10 harg10 c A ((step A)^[6] S) 𝒱 bd E)
  isplitl [H]
  · iexact H
  iintro H
  iapply (two_run arg0 harg0 arg1 harg1 arg2 harg2 arg3 harg3 arg4 harg4 arg5 harg5 arg6 harg6 arg7 harg7 arg8 harg8 arg9 harg9 arg10 harg10 c A ((step A)^[8] S) 𝒱 bd E)
  isplitl [H]
  · iexact H
  iintro H
  iapply (two_run arg0 harg0 arg1 harg1 arg2 harg2 arg3 harg3 arg4 harg4 arg5 harg5 arg6 harg6 arg7 harg7 arg8 harg8 arg9 harg9 arg10 harg10 c A ((step A)^[10] S) 𝒱 bd E)
  isplitl [H]
  · iexact H
  iintro H
  iapply (toMid_run arg0 harg0 arg1 harg1 arg2 harg2 arg3 harg3 arg4 harg4 arg5 harg5 arg6 harg6 arg7 harg7 arg8 harg8 arg9 harg9 arg10 harg10 c A ((step A)^[12] S) 𝒱 bd E)
  isplitl [H]
  · iexact H
  iintro H
  sl_step
  iapply (toFront_run arg0 harg0 arg1 harg1 arg2 harg2 arg3 harg3 arg4 harg4 arg5 harg5 arg6 harg6 arg7 harg7 arg8 harg8 arg9 harg9 arg10 harg10 c A ((step A)^[13] S) 𝒱 bd E)
  isplitl [H]
  · iexact H
  iintro H
  iapply (toMid_run arg0 harg0 arg1 harg1 arg2 harg2 arg3 harg3 arg4 harg4 arg5 harg5 arg6 harg6 arg7 harg7 arg8 harg8 arg9 harg9 arg10 harg10 c A ((step A)^[14] S) 𝒱 bd E)
  isplitl [H]
  · iexact H
  iintro H
  iapply (toEnd_run arg0 harg0 arg1 harg1 arg2 harg2 arg3 harg3 arg4 harg4 arg5 harg5 arg6 harg6 arg7 harg7 arg8 harg8 arg9 harg9 arg10 harg10 c A ((step A)^[15] S) 𝒱 bd E)
  isplitl [H]
  · iexact H
  iexact Hk

end Cert.KernelIdeal.Search

end
-- ==== Proof.Krn.Body.lean ====
module

public import proofs.«01_k».proof.Proof.Krn.Trip
public import Idealize.ShloMosaic.Lib.Tactic
public import Idealize.ShloMosaic.Lib.VecWindow

/-! The whole body: from the six arrays it reads it leaves in its result the closed cells after all the steps. -/

@[expose] public section

set_option maxRecDepth 8192
set_option maxHeartbeats 4000000

noncomputable section

namespace Cert.KernelIdeal.Search

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄K" => MT nD τ sig Unit (Elt F) ℕ (UR sig nD τ) ℕ

/-- The box of a whole array. -/
abbrev allBox : Rect S32x1024 := Rect.unit (s := S32x1024) ![0, 0] S32x1024.size inb_S32x1024_S32x1024_0_0

/-- A whole array stored, the contents are the array's. -/
theorem writes_all {sp : Space} {e : EltTy} {m : Memref sig .tc sp S32x1024 e} (h : m.IsWhole) (f : m.view.ty.Contents (Elt F))
    (X : Vec F S32x1024 e) : m.view.writes (Elt F) f [⟨allBox, X⟩] = h.unread X :=
  h.eq_unread (View.read_writes_full _ _ _ _ _)

/-- A load of a whole array reads the array. -/
theorem readAt_all {sp : Space} {e : EltTy} {m : Memref sig .tc sp S32x1024 e} (h : m.IsWhole) (X : Vec F S32x1024 e) :
    View.readAt (Elt F) m.view allBox.toLoadRect (h.unread X) = X := by
  rw [View.readAt_full, h.read_unread]

/-- The state the kernel starts from, given the open cells: no lengths, no closed cells. -/
def begun (st : Vec F S32x1024 .f32) : State F := ⟨k0_pay1, k0_pay3 st, k0_pay2⟩

/-- What the kernel leaves in its result. -/
def leaves (A : Given F) (st : Vec F S32x1024 .f32) : Vec F S32x1024 .f32 := ((step A)^[256] (begun st)).cls

variable (arg0 : Memref sig .tc .vmem S32x1024 .f32) (harg0 : arg0.IsWhole) (arg1 : Memref sig .tc .vmem S32x1024 .f32) (harg1 : arg1.IsWhole) (arg2 : Memref sig .tc .vmem S32x1024 .f32) (harg2 : arg2.IsWhole) (arg3 : Memref sig .tc .vmem S32x1 .i32) (harg3 : arg3.IsWhole) (arg4 : Memref sig .tc .vmem S32x1024 .i32) (harg4 : arg4.IsWhole) (arg5 : Memref sig .tc .vmem S32x1024 .i32) (harg5 : arg5.IsWhole) (arg6 : Memref sig .tc .vmem S32x1024 .i32) (harg6 : arg6.IsWhole) (arg7 : Memref sig .tc .vmem S32x1024 .f32) (harg7 : arg7.IsWhole) (arg8 : Memref sig .tc .vmem S32x1024 .f32) (harg8 : arg8.IsWhole) (arg9 : Memref sig .tc .vmem S32x1024 .f32) (harg9 : arg9.IsWhole) (arg10 : Memref sig .tc .vmem S32x1024 .f32) (harg10 : arg10.IsWhole)
variable (c : Dev nD) (A : Given F) (S : State F)

/-- The whole loop is 256 steps. -/
theorem loop_run (𝒱 : Variants) (bd : Option 𝒱.V) (E : Set ℕ) {R : Type} (kk : Unit → Prog (TpuEff nD τ sig (Elt F) Λ₀ .tc) R) (Q : R → sProp 𝕄K) :
    held arg0 harg0 arg1 harg1 arg3 harg3 arg4 harg4 arg5 harg5 arg6 harg6 arg8 harg8 arg9 harg9 arg10 harg10 c A S ∗ (held arg0 harg0 arg1 harg1 arg3 harg3 arg4 harg4 arg5 harg5 arg6 harg6 arg8 harg8 arg9 harg9 arg10 harg10 c A ((step A)^[256] S) -∗ wp frame (wpE (defs₀ (F := F)) 𝒱 (c : Thread nD τ) bd) E (kk ()) Q)
      ⊢ wp frame (wpE (defs₀ (F := F)) 𝒱 (c : Thread nD τ) bd) E (k0_t1_loop.for k0_t1_ok ⟨⟩ (k0_t1_body arg0 harg0 arg1 harg1 arg2 harg2 arg3 harg3 arg4 harg4 arg5 harg5 arg6 harg6 arg7 harg7 arg8 harg8 arg9 harg9 arg10 harg10) >>= kk) Q := by
  rw [wp_bind]
  iintro ⟨H, Hk⟩
  iapply (Scf.wp_for frame (wpE (defs₀ (F := F)) 𝒱 (c : Thread nD τ) bd) E k0_t1_loop.lb k0_t1_loop.ub k0_t1_loop.st k0_t1_ok ()
    (k0_t1_body arg0 harg0 arg1 harg1 arg2 harg2 arg3 harg3 arg4 harg4 arg5 harg5 arg6 harg6 arg7 harg7 arg8 harg8 arg9 harg9 arg10 harg10) (fun k _ => held arg0 harg0 arg1 harg1 arg3 harg3 arg4 harg4 arg5 harg5 arg6 harg6 arg8 harg8 arg9 harg9 arg10 harg10 c A ((step A)^[16 * k] S)) fun k u => by
      iintro H
      iapply (trip_run arg0 harg0 arg1 harg1 arg2 harg2 arg3 harg3 arg4 harg4 arg5 harg5 arg6 harg6 arg7 harg7 arg8 harg8 arg9 harg9 arg10 harg10 c A ((step A)^[16 * k.val] S) 𝒱 bd E k u)
      isplitl [H]
      · iexact H
      iintro H
      rw [show (step A)^[16] ((step A)^[16 * k.val] S) = (step A)^[16 * (k.val + 1)] S by
        rw [← Function.iterate_add_apply, Nat.mul_succ, Nat.add_comm]]
      iexact H)
  isplitl [H]
  · iexact H
  iintro %u H
  rw [show 16 * Scf.trips k0_t1_loop.lb k0_t1_loop.ub k0_t1_loop.st = 256 from rfl]
  iapply Hk
  iexact H

/-- The whole body: it fills the result with what the kernel leaves. -/
theorem body_run (𝒱 : Variants) (bd : Option 𝒱.V) (E : Set ℕ) (st : Vec F S32x1024 .f32) (Q : PUnit → sProp 𝕄K) :
    (owns (c : Thread nD τ) arg0 fullShare A.hm ∗ owns (c : Thread nD τ) arg1 fullShare A.cost ∗ owns (c : Thread nD τ) arg2 fullShare st ∗ owns (c : Thread nD τ) arg3 fullShare A.gi ∗ owns (c : Thread nD τ) arg4 fullShare A.num ∗ owns (c : Thread nD τ) arg5 fullShare A.row ∗ owns (c : Thread nD τ) arg6 fullShare A.col ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
      ∗ ((owns (c : Thread nD τ) arg0 fullShare A.hm ∗ owns (c : Thread nD τ) arg1 fullShare A.cost ∗ owns (c : Thread nD τ) arg2 fullShare st ∗ owns (c : Thread nD τ) arg3 fullShare A.gi ∗ owns (c : Thread nD τ) arg4 fullShare A.num ∗ owns (c : Thread nD τ) arg5 fullShare A.row ∗ owns (c : Thread nD τ) arg6 fullShare A.col ∗ owns (c : Thread nD τ) arg7 fullShare (leaves A st) ∗ (∃ d, owns (c : Thread nD τ) arg8 fullShare d) ∗ (∃ d, owns (c : Thread nD τ) arg9 fullShare d) ∗ (∃ d, owns (c : Thread nD τ) arg10 fullShare d)) -∗ Q ⟨⟩))
      ⊢ wp frame (wpE (defs₀ (F := F)) 𝒱 (c : Thread nD τ) bd) E (cc0__astar_body arg0 harg0 arg1 harg1 arg2 harg2 arg3 harg3 arg4 harg4 arg5 harg5 arg6 harg6 arg7 harg7 arg8 harg8 arg9 harg9 arg10 harg10) Q := by
  simp only [cc0__astar_body_eq_skeleton]
  unfold cc0__astar_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, %hf7, H7⟩, ⟨%d8, %f8, %hf8, H8⟩, ⟨%d9, %f9, %hf9, H9⟩, ⟨%d10, %f10, %hf10, H10⟩, Hk⟩
  obtain rfl := harg0.eq_unread hf0
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  sl_exec
  unfold body_run.sl.H8_1 body_run.sl.H9_1 body_run.sl.H10_1
  simp -proj only [writes_all harg8, writes_all harg9, writes_all harg10, readAt_all]
  iapply (loop_run arg0 harg0 arg1 harg1 arg2 harg2 arg3 harg3 arg4 harg4 arg5 harg5 arg6 harg6 arg7 harg7 arg8 harg8 arg9 harg9 arg10 harg10 c A (begun st) 𝒱 bd E)
  isplitl [H0 H1 H3 H4 H5 H6 H8 H9 H10]
  · unfold held begun
    sl_close
  iintro H
  unfold held
  icases H with ⟨H0, H1, H3, H4, H5, H6, H8, H9, H10⟩
  sl_exec
  sl_step
  simp -proj only [readAt_all, writes_all harg7]
  iapply Hk
  isplitl [H0]; · iexists _; isplitr; · ipureintro; exact harg0.read_unread _
                  iexact H0
  isplitl [H1]; · iexists _; isplitr; · ipureintro; exact harg1.read_unread _
                  iexact H1
  isplitl [H2]; · iexists _; isplitr; · ipureintro; exact harg2.read_unread _
                  iexact H2
  isplitl [H3]; · iexists _; isplitr; · ipureintro; exact harg3.read_unread _
                  iexact H3
  isplitl [H4]; · iexists _; isplitr; · ipureintro; exact harg4.read_unread _
                  iexact H4
  isplitl [H5]; · iexists _; isplitr; · ipureintro; exact harg5.read_unread _
                  iexact H5
  isplitl [H6]; · iexists _; isplitr; · ipureintro; exact harg6.read_unread _
                  iexact H6
  isplitl [H7]; · iexists _; isplitr; · ipureintro; exact harg7.read_unread _
                  iexact H7
  isplitl [H8]; · iexists ((step A)^[256] (begun st)).len; iexists harg8.unread _; isplitr; · ipureintro; exact harg8.read_unread _
                  iexact H8
  isplitl [H9]; · iexists ((step A)^[256] (begun st)).opn; iexists harg9.unread _; isplitr; · ipureintro; exact harg9.read_unread _
                  iexact H9
  iexists ((step A)^[256] (begun st)).cls; iexists harg10.unread _; isplitr; · ipureintro; exact harg10.read_unread _
  iexact H10

end Cert.KernelIdeal.Search

end
-- ==== Proof.Krn.Launch.lean ====
module

public import proofs.«01_k».proof.Proof.Gen.KernelIdeal.Frame.Runs
public import proofs.«01_k».proof.Proof.Krn.Body
public import Idealize.ShloMosaic.Lib.Claim

/-!
# The launch of the search, with the result it stages

The staging pipeline around the body: every input's block is what the array holds when the region is entered, and the
output's block is what the body's 256 steps leave (`leaves`).  `run_main_quiescent` is the whole launch under these data.
-/

@[expose] public section

set_option maxRecDepth 16384

noncomputable section

namespace Cert.KernelIdeal.Search

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The six arrays the steps read, as the region's point `t` finds them. -/
def givenAt (c : Dev nD) (t : Fin cfg0.N) : Given F :=
  ⟨iblk m c 0 t, iblk m c 1 t, iblk m c 3 t, iblk m c 4 t, iblk m c 5 t, iblk m c 6 t⟩

/-- What the body leaves in the output's staging buffer at point `t`. -/
def leavesAt (c : Dev nD) (t : Fin cfg0.N) : Vec F S32x1024 .f32 := leaves (givenAt m c t) (iblk m c 2 t)

/-- The proof data of the one pipeline on core `c`: the arrays as the region finds them (`V`); after the body at
    point `t` each input's buffer at its block and the outputs' at `leavesAt`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => leavesAt m c t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = leavesAt m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  unfold leavesAt givenAt
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run _ _ _ _ _ _ _ _ _ _ _ _ _ _ _ _ _ _ _ _ _ _ c ⟨iblk m c 0 t, iblk m c 1 t, iblk m c 3 t, iblk m c 4 t, iblk m c 5 t, iblk m c 6 t⟩ Variants.none none Set.univ (iblk m c 2 t) _)
  dsimp only
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [HS2]; · iexact HS2
  iintro ⟨H0, H1, H2, H3, H4, H5, H6, H7, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

end Cert.KernelIdeal.Search

end
-- ==== Proof.Ref.Fun.lean ====
module

public import proofs.«01_k».proof.Proof.Gen.ReferenceIdeal

/-! One step of the reference's search as functions of arrays: the lengths of the paths found, the open cells and the
closed cells after the step, of those before it. -/

@[expose] public section

noncomputable section

namespace Cert.ReferenceIdeal.Search

open Cert.ReferenceIdeal Cert.ReferenceIdeal.Gen
open Idealize.ShloMosaic

variable {F : FTy → Type} [FloatOps F]

/-- Thirty-two maps of 32 by 32 cells. -/
abbrev Maps (F : FTy → Type) := FVec F S32x32x32 .f32

/-- One number at every cell. -/
abbrev allCells (bits : BitVec 32) : Maps F := broadcastInDim S32x32x32 ![] bcast_S_S32x32x32 (constant S_ .f32 bits)

/-- The weight of each open cell, before it is divided by the sum of its map. -/
abbrev score (hm g o : Maps F) : Maps F :=
  mulf (Host.exp (Host.divf (mulf (allCells 0xBF800000#32) (addf (mulf (allCells 0x3F000000#32) g) (mulf (allCells 0x3F000000#32) hm))) (allCells 0x40B504F3#32))) o

/-- A map's weights divided by their sum. -/
abbrev shares (w : FVec F S32x1024 .f32) : FVec F S32x1024 .f32 :=
  Host.divf w (broadcastInDim S32x1024 ![0, 1] bcast_S32x1_S32x1024_0_1
    (maximumf (broadcastInDim S32x1 ![0] bcast_S32_S32x1_0 (Host.reduceAdd w (constant S_ .f32 0x00000000#32) reducesTo_S32x1024_S32_d1 h_S_))
      (broadcastInDim S32x1 ![] bcast_S_S32x1 (constant S_ .f32 0x0DA24260#32))))

/-- The shares of the open cells. -/
abbrev weigh (hm g o : Maps F) : FVec F S32x1024 .f32 := shares (shapeCast S32x1024 (score hm g o) shapeCasts_S32x32x32_S32x1024)

/-- The cell of greatest value in each map. -/
abbrev best (y : FVec F S32x1024 .f32) : IVec S32 32 := fun j =>
  (Host.argReduce reducer_argmax_f32_i32 y (iotaInDim S32x1024 32 1) (constant S_ .f32 0xFF800000#32) (constantI S_ 32 0#32) reducesTo_S32x1024_S32_d1 h_S_ j).2

/-- One at the cell, zero elsewhere. -/
abbrev mark (k : IVec S32 32) : FVec F S32x1024 .f32 :=
  uitofp .f32 (cmpi .eq (broadcastInDim S32x1024 ![0, 1] bcast_S32x1_S32x1024_0_1 (broadcastInDim S32x1 ![0] bcast_S32_S32x1_0 k))
    (broadcastInDim S32x1024 ![0, 1] bcast_S1x1024_S32x1024_0_1 (iotaInDim S1x1024 32 1)))

/-- The selected cell, as the reference writes it: the mask, less the shares, plus the shares. -/
abbrev pick (m y : FVec F S32x1024 .f32) : Maps F := shapeCast S32x32x32 (addf (subf m y) y) shapeCasts_S32x1024_S32x32x32

/-- One for a map whose selected cell is not its goal. -/
abbrev goOn (sel goal : Maps F) : FVec F S32x1x1 .f32 :=
  uitofp .f32 (cmpf .olt (broadcastInDim S32x1x1 ![0] bcast_S32_S32x1x1_0 (Host.reduceAdd (mulf sel goal) (constant S_ .f32 0x00000000#32) reducesTo_S32x32x32_S32_d1_2 h_S_))
    (broadcastInDim S32x1x1 ![] bcast_S_S32x1x1 (constant S_ .f32 0x322BCC77#32)))

/-- A value kept between zero and one. -/
abbrev clip (x : Maps F) : Maps F := minimumf (allCells 0x3F800000#32) (maximumf (allCells 0x00000000#32) x)

/-- The maps with a border of zeros. -/
abbrev bordered (x : Maps F) : FVec F S32x34x34 .f32 :=
  pad S32x34x34 ![0, 1, 1] ![0, 1, 1] ![0, 0, 0] x (sitofp .f32 (constantI S_ 32 0#32)) pads_S32x32x32_S32x34x34_000_110_110 h_S_

/-- Around each cell, the sum of the eight cells of a bordered map. -/
abbrev aroundSum (z : FVec F S32x34x34 .f32) : Maps F :=
  addf (addf (addf (addf (addf (addf (addf (addf (allCells 0x00000000#32)
    (extractStridedSlice S32x32x32 ![0, 0, 0] z slices_S32x34x34_S32x32x32_0_0_0))
    (extractStridedSlice S32x32x32 ![0, 0, 1] z slices_S32x34x34_S32x32x32_0_0_1))
    (extractStridedSlice S32x32x32 ![0, 0, 2] z slices_S32x34x34_S32x32x32_0_0_2))
    (extractStridedSlice S32x32x32 ![0, 1, 0] z slices_S32x34x34_S32x32x32_0_1_0))
    (extractStridedSlice S32x32x32 ![0, 1, 2] z slices_S32x34x34_S32x32x32_0_1_2))
    (extractStridedSlice S32x32x32 ![0, 2, 0] z slices_S32x34x34_S32x32x32_0_2_0))
    (extractStridedSlice S32x32x32 ![0, 2, 1] z slices_S32x34x34_S32x32x32_0_2_1))
    (extractStridedSlice S32x32x32 ![0, 2, 2] z slices_S32x34x34_S32x32x32_0_2_2)

/-- Around each cell, the sum of the eight cells. -/
abbrev ring (x : Maps F) : Maps F := aroundSum (bordered x)

/-- The open cells less the selected one, unless it is the goal. -/
abbrev cleared (o sel : Maps F) (u : FVec F S32x1x1 .f32) : Maps F :=
  clip (subf o (mulf (broadcastInDim S32x32x32 ![0, 1, 2] bcast_S32x1x1_S32x32x32_0_1_2 u) sel))

/-- One at every cell the selected one opens or reaches by a shorter path. -/
abbrev fresh (g oc h near reach : Maps F) : Maps F :=
  uitofp .f32 (cmpf .ogt (addf (mulf (mulf (subf (allCells 0x3F800000#32) oc) (subf (allCells 0x3F800000#32) h)) near)
      (mulf (mulf oc (uitofp .f32 (cmpf .ogt g reach))) near)) (allCells 0x00000000#32))

/-- The lengths with the new ones put in. -/
abbrev relaxed (g reach new : Maps F) : Maps F := addf (mulf reach new) (mulf g (subf (allCells 0x3F800000#32) new))

/-! ## The step -/

/-- The selected cell. -/
abbrev selA (hm g o : Maps F) : Maps F := pick (mark (best (weigh hm g o))) (weigh hm g o)

/-- The closed cells after the step. -/
abbrev clsA (hm g o h : Maps F) : Maps F := clip (addf h (selA hm g o))

/-- The open cells less the selected one. -/
abbrev clearA (hm goal g o : Maps F) : Maps F := cleared o (selA hm g o) (goOn (selA hm g o) goal)

/-- The path lengths offered to the neighbours of the selected cell. -/
abbrev reachA (hm cost g o : Maps F) : Maps F := ring (mulf (addf g cost) (selA hm g o))

/-- The cells opened, or reached by a shorter path. -/
abbrev freshA (hm goal cost g o h : Maps F) : Maps F :=
  fresh g (clearA hm goal g o) (clsA hm g o h) (mulf (ring (selA hm g o)) cost) (reachA hm cost g o)

/-- The lengths after the step. -/
abbrev lenA (hm goal cost g o h : Maps F) : Maps F := relaxed g (reachA hm cost g o) (freshA hm goal cost g o h)

/-- The open cells after the step. -/
abbrev opnA (hm goal cost g o h : Maps F) : Maps F := clip (addf (clearA hm goal g o) (freshA hm goal cost g o h))

end Cert.ReferenceIdeal.Search

end
-- ==== Proof.Ref.Heur.lean ====
module

public import proofs.«01_k».proof.Proof.Ref.Fun

/-! The heuristic the search starts from, as a function of the costs and the goal maps. -/

@[expose] public section

noncomputable section

namespace Cert.ReferenceIdeal.Search

open Cert.ReferenceIdeal Cert.ReferenceIdeal.Gen
open Idealize.ShloMosaic

variable {F : FTy → Type} [FloatOps F]

/-- An integer at every map. -/
abbrev allMaps {w : Nat} (x : IVec S_ w) : IVec S32 w := broadcastInDim S32 ![] bcast_S_S32 x

/-- Division of each map's integer, rounded down. -/
abbrev floorDiv (k : IVec S32 32) (w : IVec S_ 32) : IVec S32 32 :=
  select (andi (cmpi .ne (signi k) (allMaps (signi w))) (cmpi .ne (Host.remsi k (allMaps w)) (allMaps (constantI S_ 32 0#32))))
    (subi (Host.divsi k (allMaps w)) (allMaps (constantI S_ 32 1#32))) (Host.divsi k (allMaps w))

/-- The divisor, one in place of zero. -/
abbrev divisor (w : IVec S_ 32) : IVec S_ 32 := select (cmpi .eq w (constantI S_ 32 0#32)) (constantI S_ 32 1#32) w

/-- The remainder of that division. -/
abbrev floorRem (k : IVec S32 32) (w : IVec S_ 32) : IVec S32 32 :=
  select (andi (cmpi .ne (cmpi .slt (Host.remsi k (allMaps (divisor w))) (allMaps (constantI S_ 32 0#32))) (allMaps (cmpi .slt (divisor w) (constantI S_ 32 0#32))))
      (cmpi .ne (Host.remsi k (allMaps (divisor w))) (allMaps (constantI S_ 32 0#32))))
    (addi (Host.remsi k (allMaps (divisor w))) (allMaps (divisor w))) (Host.remsi k (allMaps (divisor w)))

/-- The row and the column of every cell. -/
abbrev places : FVec F S2x32x32 .f32 :=
  sitofp .f32 (concatenate S2x32x32 0
    [⟨S1x32x32, broadcastInDim S1x32x32 ![1, 2] bcast_S32x32_S1x32x32_1_2 (broadcastInDim S32x32 ![0] bcast_S32_S32x32_0 (iotaInDim S32 32 0))⟩,
     ⟨S1x32x32, broadcastInDim S1x32x32 ![1, 2] bcast_S32x32_S1x32x32_1_2 (broadcastInDim S32x32 ![1] bcast_S32_S32x32_1 (iotaInDim S32 32 0))⟩]
    concatenates_S1x32x32_S1x32x32_S2x32x32_d0)

/-- The goal cell of each map. -/
abbrev goalCell (goal : Maps F) : IVec S32 32 := best (shapeCast S32x1024 goal shapeCasts_S32x32x32_S32x1024)

/-- How far each cell lies from a row and a column of its map, along either. -/
abbrev apart (at' : FVec F S2x32x32 .f32) (row col : FVec F S32 .f32) : FVec F S32x2x32x32 .f32 :=
  Host.absf (subf
    (broadcastInDim S32x2x32x32 ![0, 1, 2, 3] bcast_S1x2x32x32_S32x2x32x32_0_1_2_3 (broadcastInDim S1x2x32x32 ![1, 2, 3] bcast_S2x32x32_S1x2x32x32_1_2_3 at'))
    (broadcastInDim S32x2x32x32 ![0, 1, 2, 3] bcast_S32x2x1x1_S32x2x32x32_0_1_2_3 (broadcastInDim S32x2x1x1 ![0, 1] bcast_S32x2_S32x2x1x1_0_1
      (concatenate S32x2 1 [⟨S32x1, broadcastInDim S32x1 ![0] bcast_S32_S32x1_0 row⟩, ⟨S32x1, broadcastInDim S32x1 ![0] bcast_S32_S32x1_0 col⟩]
        concatenates_S32x1_S32x1_S32x2_d1))))

/-- The estimate from these: their sum less the smaller, a small multiple of the straight distance, and the cost. -/
abbrev estimate (d : FVec F S32x2x32x32 .f32) (cost : Maps F) : Maps F :=
  addf (addf (subf (Host.reduceAdd d (constant S_ .f32 0x00000000#32) reducesTo_S32x2x32x32_S32x32x32_d1 h_S_)
      (Host.reduce FloatOps.minimumf d (constant S_ .f32 0x7F800000#32) reducesTo_S32x2x32x32_S32x32x32_d1 h_S_))
    (mulf (allCells 0x3A83126F#32) (Host.sqrt (Host.reduceAdd (mulf d d) (constant S_ .f32 0x00000000#32) reducesTo_S32x2x32x32_S32x32x32_d1 h_S_)))) cost

/-- The heuristic of each cell, its cost included. -/
def heurA (cost goal : Maps F) : Maps F :=
  estimate (apart places (sitofp .f32 (floorDiv (goalCell goal) (constantI S_ 32 32#32))) (sitofp .f32 (floorRem (goalCell goal) (constantI S_ 32 32#32)))) cost

end Cert.ReferenceIdeal.Search

end
-- ==== Proof.Krn.Entry.lean ====
module

public import proofs.«01_k».proof.Proof.Gen.KernelIdeal.Frame.Runs
public import proofs.«01_k».proof.Proof.Ref.Heur
public import Idealize.ShloMosaic.Lib.StableHlo.Run
public import Idealize.ShloMosaic.Lib.Tactic

/-! What the launch hands its region: the arrays the windows stage, as functions of the three inputs. The heuristic and
the goals' numbers are the reference's own (`heurA`, `goalCell`). -/

@[expose] public section

set_option maxRecDepth 8000

noncomputable section

namespace Cert.KernelIdeal.Search

open Cert.KernelIdeal Cert.KernelIdeal.Gen
open Idealize.ShloMosaic Idealize.ShloMosaic.TcCoe Idealize.ShloMosaic.Tactic
open Idealize.ShloMosaic.StableHlo
open Cert.ReferenceIdeal.Search (best places floorDiv floorRem estimate apart goalCell heurA)

variable {F : FTy → Type} [FloatOps F]
variable (V : (b : DevRef τ sig) → b.ty.Contents (Elt F))

/-- A name of the program as a location of a core. -/
abbrev dr (b : Ref sig .tc) : DevRef τ sig := Proc.devRef (τ := τ) .tc b

/-! ### What each stretch writes -/

abbrev W0 : List (Ref sig .tc) := [main_v0, main_v1, main_v2, main_v3, main_v4, main_v5, main_v6, main_v7, main_v8]
abbrev W1 : List (Ref sig .tc) := [main_call0_v0, main_call0_cst, main_call0_c, main_call0_v1_0, main_v9]
abbrev W2 : List (Ref sig .tc) := [main_c]
abbrev W3 : List (Ref sig .tc) := [main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v10]
abbrev W4 : List (Ref sig .tc) := [main_v11, main_c_0]
abbrev W5 : List (Ref sig .tc) := [main_call2_v0, main_call2_c, main_call2_v1, main_call2_c_0, main_call2_v2, main_call2_v3, main_call2_v4, main_call2_c_1, main_call2_v5, main_call2_v6, main_call2_c_2, main_call2_v7, main_call2_v8, main_call2_c_3, main_call2_v9, main_call2_v10, main_call2_v11, main_call2_v12, main_call2_v13, main_call2_v14, main_v12]

theorem writes0 : (hostOps0 : List (HloOp τ sig (Elt F))).Forall fun op => op.writes ⊆ (W0.map (Proc.devRef (τ := τ) .tc)).toFinset :=
  StableHlo.forall_writes_sub_of_map rfl
theorem writes1 : (hostOps0_1 : List (HloOp τ sig (Elt F))).Forall fun op => op.writes ⊆ (W1.map (Proc.devRef (τ := τ) .tc)).toFinset :=
  StableHlo.forall_writes_sub_of_map rfl
theorem writes2 : (hostOps0_2 : List (HloOp τ sig (Elt F))).Forall fun op => op.writes ⊆ (W2.map (Proc.devRef (τ := τ) .tc)).toFinset :=
  StableHlo.forall_writes_sub_of_map rfl
theorem writes3 : (hostOps0_3 : List (HloOp τ sig (Elt F))).Forall fun op => op.writes ⊆ (W3.map (Proc.devRef (τ := τ) .tc)).toFinset :=
  StableHlo.forall_writes_sub_of_map rfl
theorem writes4 : (hostOps0_4 : List (HloOp τ sig (Elt F))).Forall fun op => op.writes ⊆ (W4.map (Proc.devRef (τ := τ) .tc)).toFinset :=
  StableHlo.forall_writes_sub_of_map rfl
theorem writes5 : (hostOps0_5 : List (HloOp τ sig (Elt F))).Forall fun op => op.writes ⊆ (W5.map (Proc.devRef (τ := τ) .tc)).toFinset :=
  StableHlo.forall_writes_sub_of_map rfl

section Keep
variable {b : Ref sig .tc}
theorem keep0 (h : b ∉ W0) : after hostOps0 V (dr b) = V (dr b) := after_of_writes_sub hostOps0 V writes0 h
theorem keep1 (h : b ∉ W1) : after hostOps0_1 V (dr b) = V (dr b) := after_of_writes_sub hostOps0_1 V writes1 h
theorem keep2 (h : b ∉ W2) : after hostOps0_2 V (dr b) = V (dr b) := after_of_writes_sub hostOps0_2 V writes2 h
theorem keep3 (h : b ∉ W3) : after hostOps0_3 V (dr b) = V (dr b) := after_of_writes_sub hostOps0_3 V writes3 h
theorem keep4 (h : b ∉ W4) : after hostOps0_4 V (dr b) = V (dr b) := after_of_writes_sub hostOps0_4 V writes4 h
theorem keep5 (h : b ∉ W5) : after hostOps0_5 V (dr b) = V (dr b) := after_of_writes_sub hostOps0_5 V writes5 h
end Keep

/-! ### What each stretch computes -/

theorem located : after hostOps0 V (dr main_v7) = places := by after_results
theorem flattened : after hostOps0 V (dr main_v8) = shapeCast S32x1024 (V (dr main_arg2)) shapeCasts_S32x32x32_S32x1024 := by after_results; rfl
theorem goalFound : after hostOps0_1 V (dr main_v9) = best (V (dr main_v8)) := by after_results; rfl
theorem width32 : after hostOps0_2 V (dr main_c) = constantI S_ 32 32#32 := by after_results
theorem goalRow : after hostOps0_3 V (dr main_v10) = floorDiv (V (dr main_v9)) (V (dr main_c)) := by after_results; rfl
theorem rowFloat : after hostOps0_4 V (dr main_v11) = sitofp .f32 (V (dr main_v10)) := by after_results
theorem width32' : after hostOps0_4 V (dr main_c_0) = constantI S_ 32 32#32 := by after_results
theorem goalCol : after hostOps0_5 V (dr main_v12) = floorRem (V (dr main_v9)) (V (dr main_c_0)) := by after_results; chain_rfl
theorem flatHm : after hostOps0_6 V (dr main_v33) = shapeCast S32x1024 (estimate (apart (V (dr main_v7)) (V (dr main_v11)) (sitofp .f32 (V (dr main_v12)))) (V (dr main_arg0))) shapeCasts_S32x32x32_S32x1024 := by
  after_results; rfl
theorem flatCost : after hostOps0_6 V (dr main_v34) = shapeCast S32x1024 (V (dr main_arg0)) shapeCasts_S32x32x32_S32x1024 := by after_results; rfl
theorem flatStart : after hostOps0_6 V (dr main_v35) = shapeCast S32x1024 (V (dr main_arg1)) shapeCasts_S32x32x32_S32x1024 := by after_results; rfl
theorem goalColumn : after hostOps0_6 V (dr main_v36) = shapeCast S32x1 (V (dr main_v9)) shapeCasts_S32_S32x1 := by after_results; rfl
theorem numbers : after hostOps0_6 V (dr main_v37) = iotaInDim S32x1024 32 1 := by after_results
theorem rows : after hostOps0_6 V (dr main_v39) = Host.shrsi (iotaInDim S32x1024 32 1) (broadcastInDim S32x1024 ![] bcast_S_S32x1024 (constantI S_ 32 5#32)) := by after_results
theorem columns : after hostOps0_6 V (dr main_v41) = andi (iotaInDim S32x1024 32 1) (broadcastInDim S32x1024 ![] bcast_S_S32x1024 (constantI S_ 32 31#32)) := by after_results

/-! ### What the region finds -/

theorem after_app (l₁ l₂ : List (HloOp τ sig (Elt F))) : after (l₁ ++ l₂) V = after l₂ (after l₁ V) := by
  induction l₁ generalizing V with
  | nil => rfl
  | cons op l ih => exact ih _

/-- The stretches before the region, one after the other. -/
theorem flat_eq : after (List.flatten [hostOps0, hostOps0_1, hostOps0_2, hostOps0_3, hostOps0_4, hostOps0_5, hostOps0_6]) V
    = after hostOps0_6 (after hostOps0_5 (after hostOps0_4 (after hostOps0_3 (after hostOps0_2 (after hostOps0_1 (after hostOps0 V)))))) := by
  rw [List.flatten_cons, after_app, List.flatten_cons, after_app, List.flatten_cons, after_app, List.flatten_cons, after_app,
    List.flatten_cons, after_app, List.flatten_cons, after_app, List.flatten_cons, List.flatten_nil, List.append_nil]

variable (m : (ℓ : Loc nD τ sig) → Buf (Elt F) ℓ) (c : Dev nD)

/-- The heuristic, its maps laid flat. -/
theorem V_hm : Gen.V m c main_v33 = shapeCast S32x1024 (heurA (m ((c.tc : Thread nD τ).loc main_arg0)) (m ((c.tc : Thread nD τ).loc main_arg2))) shapeCasts_S32x32x32_S32x1024 := by
  unfold Gen.V Gen.V0
  simp -iota -proj -beta (disch := decide +kernel) only [flat_eq, flatHm, keep0, keep1, keep2, keep3, keep4, keep5, located, flattened, goalFound, width32, goalRow, rowFloat, width32', goalCol, heurA]

/-- The costs, their maps laid flat. -/
theorem V_cost : Gen.V m c main_v34 = shapeCast S32x1024 (m ((c.tc : Thread nD τ).loc main_arg0)) shapeCasts_S32x32x32_S32x1024 := by
  unfold Gen.V Gen.V0
  simp -iota -proj -beta (disch := decide +kernel) only [flat_eq, flatCost, keep0, keep1, keep2, keep3, keep4, keep5]

/-- The start maps laid flat. -/
theorem V_start : Gen.V m c main_v35 = shapeCast S32x1024 (m ((c.tc : Thread nD τ).loc main_arg1)) shapeCasts_S32x32x32_S32x1024 := by
  unfold Gen.V Gen.V0
  simp -iota -proj -beta (disch := decide +kernel) only [flat_eq, flatStart, keep0, keep1, keep2, keep3, keep4, keep5]

/-- The goals' numbers, as a column. -/
theorem V_goal : Gen.V m c main_v36 = shapeCast S32x1 (goalCell (m ((c.tc : Thread nD τ).loc main_arg2))) shapeCasts_S32_S32x1 := by
  unfold Gen.V Gen.V0
  simp -iota -proj -beta (disch := decide +kernel) only [flat_eq, goalColumn, keep0, keep1, keep2, keep3, keep4, keep5, goalFound, flattened]

/-- The cells' numbers. -/
theorem V_num : Gen.V m c main_v37 = iotaInDim S32x1024 32 1 := by
  unfold Gen.V Gen.V0; rw [flat_eq]; exact numbers _

/-- The cells' rows. -/
theorem V_row : Gen.V m c main_v39 = Host.shrsi (iotaInDim S32x1024 32 1) (broadcastInDim S32x1024 ![] bcast_S_S32x1024 (constantI S_ 32 5#32)) := by
  unfold Gen.V Gen.V0; rw [flat_eq]; exact rows _

/-- The cells' columns. -/
theorem V_col : Gen.V m c main_v41 = andi (iotaInDim S32x1024 32 1) (broadcastInDim S32x1024 ![] bcast_S_S32x1024 (constantI S_ 32 31#32)) := by
  unfold Gen.V Gen.V0; rw [flat_eq]; exact columns _

end Cert.KernelIdeal.Search

end
-- ==== Proof.Krn.Result.lean ====
module

public import proofs.«01_k».proof.Proof.Krn.Launch
public import proofs.«01_k».proof.Proof.Krn.Entry
public import Idealize.ShloMosaic.Lib.Pipeline.ValueKit.Geometry

/-! The kernel's run, with its result as a function of the three inputs. -/

@[expose] public section

set_option maxRecDepth 16384

noncomputable section

namespace Cert.KernelIdeal.Search

open Cert.KernelIdeal Cert.KernelIdeal.Gen
open Idealize.ShloMosaic Idealize.ShloMosaic.TcCoe Idealize.ShloMosaic.Tactic Idealize.SL.Sem
open Idealize.ShloMosaic.Pipeline (Dat Cfg Window)
open Cert.ReferenceIdeal.Search (goalCell heurA)

variable {F : FTy → Type} [FloatOps F]
variable (m : (ℓ : Loc nD τ sig) → Buf (Elt F) ℓ) (ρ : Dev nD → PrngReg)

/-- What the steps read, of the costs and the goal maps. -/
def givenOf (cost goal : FVec F S32x32x32 .f32) : Given F where
  hm := shapeCast S32x1024 (heurA cost goal) shapeCasts_S32x32x32_S32x1024
  cost := shapeCast S32x1024 cost shapeCasts_S32x32x32_S32x1024
  gi := shapeCast S32x1 (goalCell goal) shapeCasts_S32_S32x1
  num := iotaInDim S32x1024 32 1
  row := Host.shrsi (iotaInDim S32x1024 32 1) (broadcastInDim S32x1024 ![] bcast_S_S32x1024 (constantI S_ 32 5#32))
  col := andi (iotaInDim S32x1024 32 1) (broadcastInDim S32x1024 ![] bcast_S_S32x1024 (constantI S_ 32 31#32))

/-- The result, of the costs, the start maps and the goal maps. -/
def resultK (cost start goal : FVec F S32x32x32 .f32) : FVec F S32x32x32 .f32 :=
  shapeCast S32x32x32 (leaves (givenOf cost goal) (shapeCast S32x1024 start shapeCasts_S32x32x32_S32x1024)) shapeCasts_S32x1024_S32x32x32

variable (c : Dev nD)

theorem block0 : iblk m c 0 t0_0 = Gen.V m c main_v33 := by
  unfold iblk; exact Memref.read_access_unit_zero (Elt F) main_v33 (funext fun a => by fin_cases a <;> rfl) _ _
theorem block1 : iblk m c 1 t0_0 = Gen.V m c main_v34 := by
  unfold iblk; exact Memref.read_access_unit_zero (Elt F) main_v34 (funext fun a => by fin_cases a <;> rfl) _ _
theorem block2 : iblk m c 2 t0_0 = Gen.V m c main_v35 := by
  unfold iblk; exact Memref.read_access_unit_zero (Elt F) main_v35 (funext fun a => by fin_cases a <;> rfl) _ _
theorem block3 : iblk m c 3 t0_0 = Gen.V m c main_v36 := by
  unfold iblk; exact Memref.read_access_unit_zero (Elt F) main_v36 (funext fun a => by fin_cases a <;> rfl) _ _
theorem block4 : iblk m c 4 t0_0 = Gen.V m c main_v37 := by
  unfold iblk; exact Memref.read_access_unit_zero (Elt F) main_v37 (funext fun a => by fin_cases a <;> rfl) _ _
theorem block5 : iblk m c 5 t0_0 = Gen.V m c main_v39 := by
  unfold iblk; exact Memref.read_access_unit_zero (Elt F) main_v39 (funext fun a => by fin_cases a <;> rfl) _ _
theorem block6 : iblk m c 6 t0_0 = Gen.V m c main_v41 := by
  unfold iblk; exact Memref.read_access_unit_zero (Elt F) main_v41 (funext fun a => by fin_cases a <;> rfl) _ _

/-- What the steps read, in the launch. -/
theorem givenAt_eq : givenAt m c t0_0 = givenOf (m ((c.tc : Thread nD τ).loc main_arg0)) (m ((c.tc : Thread nD τ).loc main_arg2)) := by
  unfold givenAt givenOf
  rw [block0, block1, block3, block4, block5, block6, V_hm, V_cost, V_goal, V_num, V_row, V_col]

/-- What the body leaves, in the launch. -/
theorem leavesAt_eq : leavesAt m c t0_0 = leaves (givenOf (m ((c.tc : Thread nD τ).loc main_arg0)) (m ((c.tc : Thread nD τ).loc main_arg2)))
    (shapeCast S32x1024 (m ((c.tc : Thread nD τ).loc main_arg1)) shapeCasts_S32x32x32_S32x1024) := by
  unfold leavesAt; rw [givenAt_eq, block2, V_start]

/-- The region's output array, at the end. -/
theorem out_eq : (dats m 0 c).arrAt 7 cfg0.N = leavesAt m c t0_0 :=
  (dats m 0 c).arrAt_eq_of_after_last 7 t0_0 (by decide +kernel) (leavesAt m c t0_0) fun j => by rw [after0_7]; rfl

/-- The result array, at the end. -/
theorem tail_eq : Pipeline.afterTail₀ cfgs (dats m) 0 (V0 m) [hostOps1] c main_v43
    = resultK (m ((c.tc : Thread nD τ).loc main_arg0)) (m ((c.tc : Thread nD τ).loc main_arg1)) (m ((c.tc : Thread nD τ).loc main_arg2)) := by
  unfold Pipeline.afterTail₀
  have e : Pipeline.withArrays spec0 c (V0 m c) (fun w => (dats m 0 c).arrAt w cfg0.N) (dr main_v42) = leavesAt m c t0_0 :=
    (Pipeline.withArrays_arr spec0 launch0.win.arr_inj c (V0 m c) (fun w => (dats m 0 c).arrAt w cfg0.N) 7).trans (out_eq m c)
  have r : ∀ V : (b : DevRef τ sig) → b.ty.Contents (Elt F), StableHlo.after hostOps1 V (dr main_v43) = shapeCast S32x32x32 (V (dr main_v42)) shapeCasts_S32x1024_S32x32x32 := by
    intro V; after_results; rfl
  refine (r _).trans ?_
  unfold resultK
  rw [← leavesAt_eq, ← e]

/-- The kernel's run: its result, and its inputs untouched. -/
theorem run_result : θ_run defs (onTc (τ := τ) (main (F := F))) (s₀ m ρ) (fun r => (∀ c : Dev nD,
    r.2.mem ((c.tc : Thread nD τ).loc main_v43) = resultK (m ((c.tc : Thread nD τ).loc main_arg0)) (m ((c.tc : Thread nD τ).loc main_arg1)) (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) ∧ r.2.sem = fun _ => 0) := by
  refine (θ_run defs _ _).mono (fun r h => ⟨fun c => ?_, h.2⟩) (run_main_quiescent m ρ)
  have q := fun b hb ho => (h.1 c).2 b (Pipeline.mem_restRefs_of b hb ho)
  exact ⟨(q main_v43 (by decide) (by decide)).trans (tail_eq m c), (q main_arg0 (by decide) (by decide)).trans (W_main_arg0 m (dats m) c),
    (q main_arg1 (by decide) (by decide)).trans (W_main_arg1 m (dats m) c), (q main_arg2 (by decide) (by decide)).trans (W_main_arg2 m (dats m) c)⟩

end Cert.KernelIdeal.Search

end
-- ==== Proof.Ref.Ops.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead

/-! The reference program as stretches of host operations: what runs before its loop, and one trip of the loop.

A function the program calls is a stretch over its arguments and the buffers of the call, so its three or four uses are
one list. The two `chain` theorems say the printed programs are these stretches in order. -/

@[expose] public section

set_option maxRecDepth 4000

noncomputable section

namespace Cert.ReferenceIdeal.Search

open Cert.ReferenceIdeal Cert.ReferenceIdeal.Gen
open Idealize.ShloMosaic Idealize.ShloMosaic.TcCoe
open Idealize.SL.Sem

variable {F : FTy → Type} [FloatOps F]

/-! ## The called functions -/

/-- The greatest weight of each map and its cell. -/
abbrev argmaxOps (arg0 : StableHlo.TRef sig ⟨S32x1024, .f32⟩) (φ : fn_argmax.Bufs) : List (HloOp τ sig (Elt F)) :=
  [ StableHlo.TRef.nullary φ.v0 (iotaInDim S32x1024 32 1),
    StableHlo.TRef.nullary φ.cst (constant S_ .f32 0xFF800000#32),
    StableHlo.TRef.nullary φ.c (constantI S_ 32 0#32),
    StableHlo.TRef.quaternary arg0 φ.v0 φ.cst φ.c φ.v1_0 (fun x y u v j => (Host.argReduce reducer_argmax_f32_i32 x y u v reducesTo_S32x1024_S32_d1 h_S_ j).1),
    StableHlo.TRef.quaternary arg0 φ.v0 φ.cst φ.c φ.v1_1 (fun x y u v j => (Host.argReduce reducer_argmax_f32_i32 x y u v reducesTo_S32x1024_S32_d1 h_S_ j).2) ]
theorem argmaxOps_sub (arg0 : StableHlo.TRef sig ⟨S32x1024, .f32⟩) (φ : fn_argmax.Bufs) : (argmaxOps arg0 φ : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩

/-- Integer division, rounded down. -/
abbrev floorOps (arg0 : StableHlo.TRef sig ⟨S32, .i32⟩) (arg1 : StableHlo.TRef sig ⟨S_, .i32⟩) (φ : fn_floor_divide.Bufs) : List (HloOp τ sig (Elt F)) :=
  [ StableHlo.TRef.unary arg1 φ.v0 id,
    StableHlo.TRef.unary φ.v0 φ.v1 (broadcastInDim S32 ![] bcast_S_S32),
    StableHlo.TRef.binary arg0 φ.v1 φ.v2 Host.divsi,
    StableHlo.TRef.unary arg0 φ.v3 signi,
    StableHlo.TRef.unary φ.v0 φ.v4 signi,
    StableHlo.TRef.unary φ.v4 φ.v5 (broadcastInDim S32 ![] bcast_S_S32),
    StableHlo.TRef.binary φ.v3 φ.v5 φ.v6 (cmpi .ne),
    StableHlo.TRef.unary φ.v0 φ.v7 (broadcastInDim S32 ![] bcast_S_S32),
    StableHlo.TRef.binary arg0 φ.v7 φ.v8 Host.remsi,
    StableHlo.TRef.nullary φ.c (constantI S_ 32 0#32),
    StableHlo.TRef.unary φ.c φ.v9 (broadcastInDim S32 ![] bcast_S_S32),
    StableHlo.TRef.binary φ.v8 φ.v9 φ.v10 (cmpi .ne),
    StableHlo.TRef.binary φ.v6 φ.v10 φ.v11 andi,
    StableHlo.TRef.nullary φ.c_0 (constantI S_ 32 1#32),
    StableHlo.TRef.unary φ.c_0 φ.v12 (broadcastInDim S32 ![] bcast_S_S32),
    StableHlo.TRef.binary φ.v2 φ.v12 φ.v13 subi,
    StableHlo.TRef.ternary φ.v11 φ.v13 φ.v2 φ.call0.v0 select ]
theorem floorOps_sub (arg0 : StableHlo.TRef sig ⟨S32, .i32⟩) (arg1 : StableHlo.TRef sig ⟨S_, .i32⟩) (φ : fn_floor_divide.Bufs) : (floorOps arg0 arg1 φ : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩

/-- The remainder of that division. -/
abbrev remOps (arg0 : StableHlo.TRef sig ⟨S32, .i32⟩) (arg1 : StableHlo.TRef sig ⟨S_, .i32⟩) (φ : fn_remainder.Bufs) : List (HloOp τ sig (Elt F)) :=
  [ StableHlo.TRef.unary arg1 φ.v0 id,
    StableHlo.TRef.nullary φ.c (constantI S_ 32 0#32),
    StableHlo.TRef.binary φ.v0 φ.c φ.v1 (cmpi .eq),
    StableHlo.TRef.nullary φ.c_0 (constantI S_ 32 1#32),
    StableHlo.TRef.ternary φ.v1 φ.c_0 φ.v0 φ.call0.v0 select,
    StableHlo.TRef.unary φ.call0.v0 φ.v3 (broadcastInDim S32 ![] bcast_S_S32),
    StableHlo.TRef.binary arg0 φ.v3 φ.v4 Host.remsi,
    StableHlo.TRef.nullary φ.c_1 (constantI S_ 32 0#32),
    StableHlo.TRef.unary φ.c_1 φ.v5 (broadcastInDim S32 ![] bcast_S_S32),
    StableHlo.TRef.binary φ.v4 φ.v5 φ.v6 (cmpi .ne),
    StableHlo.TRef.nullary φ.c_2 (constantI S_ 32 0#32),
    StableHlo.TRef.unary φ.c_2 φ.v7 (broadcastInDim S32 ![] bcast_S_S32),
    StableHlo.TRef.binary φ.v4 φ.v7 φ.v8 (cmpi .slt),
    StableHlo.TRef.nullary φ.c_3 (constantI S_ 32 0#32),
    StableHlo.TRef.binary φ.call0.v0 φ.c_3 φ.v9 (cmpi .slt),
    StableHlo.TRef.unary φ.v9 φ.v10 (broadcastInDim S32 ![] bcast_S_S32),
    StableHlo.TRef.binary φ.v8 φ.v10 φ.v11 (cmpi .ne),
    StableHlo.TRef.binary φ.v11 φ.v6 φ.v12 andi,
    StableHlo.TRef.unary φ.call0.v0 φ.v13 (broadcastInDim S32 ![] bcast_S_S32),
    StableHlo.TRef.binary φ.v4 φ.v13 φ.v14 addi,
    StableHlo.TRef.ternary φ.v12 φ.v14 φ.v4 φ.v15 select ]
theorem remOps_sub (arg0 : StableHlo.TRef sig ⟨S32, .i32⟩) (arg1 : StableHlo.TRef sig ⟨S_, .i32⟩) (φ : fn_remainder.Bufs) : (remOps arg0 arg1 φ : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩

/-- The mask of one cell of each map. -/
abbrev oneHotOps (arg0 : StableHlo.TRef sig ⟨S32, .i32⟩) (φ : fn_one_hot.Bufs) : List (HloOp τ sig (Elt F)) :=
  [ StableHlo.TRef.unary arg0 φ.v0 (broadcastInDim S32x1 ![0] bcast_S32_S32x1_0),
    StableHlo.TRef.nullary φ.v1 (iotaInDim S1x1024 32 1),
    StableHlo.TRef.unary φ.v0 φ.v2 (broadcastInDim S32x1024 ![0, 1] bcast_S32x1_S32x1024_0_1),
    StableHlo.TRef.unary φ.v1 φ.v3 (broadcastInDim S32x1024 ![0, 1] bcast_S1x1024_S32x1024_0_1),
    StableHlo.TRef.binary φ.v2 φ.v3 φ.v4 (cmpi .eq),
    StableHlo.TRef.unary φ.v4 φ.v5 (uitofp .f32) ]
theorem oneHotOps_sub (arg0 : StableHlo.TRef sig ⟨S32, .i32⟩) (φ : fn_one_hot.Bufs) : (oneHotOps arg0 φ : List (HloOp τ sig (Elt F))).Forall fun op => op.bufs ⊆ StableHlo.tcRefs τ sig :=
  ⟨StableHlo.unary_bufs_sub .., StableHlo.nullary_bufs_sub .., StableHlo.unary_bufs_sub .., StableHlo.unary_bufs_sub .., StableHlo.binary_bufs_sub .., StableHlo.unary_bufs_sub ..⟩

/-- Values brought between two bounds. -/
abbrev clipOps (arg0 : StableHlo.TRef sig ⟨S32x32x32, .f32⟩) (arg1 : StableHlo.TRef sig ⟨S_, .f32⟩) (arg2 : StableHlo.TRef sig ⟨S_, .f32⟩) (φ : fn_clip.Bufs) : List (HloOp τ sig (Elt F)) :=
  [ StableHlo.TRef.unary arg1 φ.v0 id,
    StableHlo.TRef.unary φ.v0 φ.v1 (broadcastInDim S32x32x32 ![] bcast_S_S32x32x32),
    StableHlo.TRef.binary φ.v1 arg0 φ.v2 maximumf,
    StableHlo.TRef.unary arg2 φ.v3 id,
    StableHlo.TRef.unary φ.v3 φ.v4 (broadcastInDim S32x32x32 ![] bcast_S_S32x32x32),
    StableHlo.TRef.binary φ.v4 φ.v2 φ.v5 minimumf ]
theorem clipOps_sub (arg0 : StableHlo.TRef sig ⟨S32x32x32, .f32⟩) (arg1 : StableHlo.TRef sig ⟨S_, .f32⟩) (arg2 : StableHlo.TRef sig ⟨S_, .f32⟩) (φ : fn_clip.Bufs) : (clipOps arg0 arg1 arg2 φ : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩

/-- A border of one cell around each map. -/
abbrev padOps (arg0 : StableHlo.TRef sig ⟨S32x32x32, .f32⟩) (arg1 : StableHlo.TRef sig ⟨S_, .i32⟩) (φ : fn_pad.Bufs) : List (HloOp τ sig (Elt F)) :=
  [ StableHlo.TRef.unary arg1 φ.v0 (sitofp .f32),
    StableHlo.TRef.binary arg0 φ.v0 φ.v1 (fun x v => pad S32x34x34 ![0, 1, 1] ![0, 1, 1] ![0, 0, 0] x v pads_S32x32x32_S32x34x34_000_110_110 h_S_) ]
theorem padOps_sub (arg0 : StableHlo.TRef sig ⟨S32x32x32, .f32⟩) (arg1 : StableHlo.TRef sig ⟨S_, .i32⟩) (φ : fn_pad.Bufs) : (padOps arg0 arg1 φ : List (HloOp τ sig (Elt F))).Forall fun op => op.bufs ⊆ StableHlo.tcRefs τ sig :=
  ⟨StableHlo.unary_bufs_sub .., StableHlo.binary_bufs_sub ..⟩

/-! ## Before the loop -/

/-- The row and the column of every cell; the goal maps as rows of cells. -/
abbrev locOps : List (HloOp τ sig (Elt F)) :=
  [ StableHlo.nullary main_v0 (iotaInDim S32 32 0),
    StableHlo.nullary main_v1 (iotaInDim S32 32 0),
    StableHlo.unary main_v0 main_v2 (broadcastInDim S32x32 ![0] bcast_S32_S32x32_0 : (⟨S32, .i32⟩ : BufTy).Contents (Elt F) → (⟨S32x32, .i32⟩ : BufTy).Contents (Elt F)),
    StableHlo.unary main_v1 main_v3 (broadcastInDim S32x32 ![1] bcast_S32_S32x32_1 : (⟨S32, .i32⟩ : BufTy).Contents (Elt F) → (⟨S32x32, .i32⟩ : BufTy).Contents (Elt F)),
    StableHlo.unary main_v2 main_v4 (broadcastInDim S1x32x32 ![1, 2] bcast_S32x32_S1x32x32_1_2 : (⟨S32x32, .i32⟩ : BufTy).Contents (Elt F) → (⟨S1x32x32, .i32⟩ : BufTy).Contents (Elt F)),
    StableHlo.unary main_v3 main_v5 (broadcastInDim S1x32x32 ![1, 2] bcast_S32x32_S1x32x32_1_2 : (⟨S32x32, .i32⟩ : BufTy).Contents (Elt F) → (⟨S1x32x32, .i32⟩ : BufTy).Contents (Elt F)),
    StableHlo.binary main_v4 main_v5 main_v6 ((fun a b => concatenate S2x32x32 0 [⟨S1x32x32, a⟩, ⟨S1x32x32, b⟩] concatenates_S1x32x32_S1x32x32_S2x32x32_d0) : (⟨S1x32x32, .i32⟩ : BufTy).Contents (Elt F) → (⟨S1x32x32, .i32⟩ : BufTy).Contents (Elt F) → (⟨S2x32x32, .i32⟩ : BufTy).Contents (Elt F)),
    StableHlo.unary main_v6 main_v7 (sitofp .f32 : (⟨S2x32x32, .i32⟩ : BufTy).Contents (Elt F) → (⟨S2x32x32, .f32⟩ : BufTy).Contents (Elt F)),
    StableHlo.reshape main_arg2 main_v8 (rfl : (.f32 : EltTy) = .f32) shapeCasts_S32x32x32_S32x1024 ]
theorem locOps_sub : (locOps : List (HloOp τ sig (Elt F))).Forall fun op => op.bufs ⊆ StableHlo.tcRefs τ sig :=
  ⟨StableHlo.nullary_bufs_sub .., StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.reshape_bufs_sub ..⟩

/-- The goal cell of each map. -/
abbrev goalOps : List (HloOp τ sig (Elt F)) := argmaxOps (.of main_v8) main_call0
theorem goalOps_sub : (goalOps : List (HloOp τ sig (Elt F))).Forall fun op => op.bufs ⊆ StableHlo.tcRefs τ sig := argmaxOps_sub _ _

/-- The width of a map. -/
abbrev widthOps : List (HloOp τ sig (Elt F)) :=
  [ StableHlo.nullary main_c (constantI S_ 32 32#32) ]
theorem widthOps_sub : (widthOps : List (HloOp τ sig (Elt F))).Forall fun op => op.bufs ⊆ StableHlo.tcRefs τ sig :=
  StableHlo.nullary_bufs_sub ..

/-- The goal's row. -/
abbrev goalRowOps : List (HloOp τ sig (Elt F)) := floorOps (.of main_v9) (.of main_c) main_call1
theorem goalRowOps_sub : (goalRowOps : List (HloOp τ sig (Elt F))).Forall fun op => op.bufs ⊆ StableHlo.tcRefs τ sig := floorOps_sub _ _ _

/-- The goal's row as a float; the width again. -/
abbrev rowOps : List (HloOp τ sig (Elt F)) :=
  [ StableHlo.unary main_v10 main_v11 (sitofp .f32 : (⟨S32, .i32⟩ : BufTy).Contents (Elt F) → (⟨S32, .f32⟩ : BufTy).Contents (Elt F)),
    StableHlo.nullary main_c_0 (constantI S_ 32 32#32) ]
theorem rowOps_sub : (rowOps : List (HloOp τ sig (Elt F))).Forall fun op => op.bufs ⊆ StableHlo.tcRefs τ sig :=
  ⟨StableHlo.unary_bufs_sub .., StableHlo.nullary_bufs_sub ..⟩

/-- The goal's column. -/
abbrev goalColOps : List (HloOp τ sig (Elt F)) := remOps (.of main_v9) (.of main_c_0) main_call2
theorem goalColOps_sub : (goalColOps : List (HloOp τ sig (Elt F))).Forall fun op => op.bufs ⊆ StableHlo.tcRefs τ sig := remOps_sub _ _ _

/-- The heuristic, and the values the loop starts from. -/
abbrev heurOps : List (HloOp τ sig (Elt F)) :=
  [ StableHlo.unary main_v12 main_v13 (sitofp .f32 : (⟨S32, .i32⟩ : BufTy).Contents (Elt F) → (⟨S32, .f32⟩ : BufTy).Contents (Elt F)),
    StableHlo.unary main_v11 main_v14 (broadcastInDim S32x1 ![0] bcast_S32_S32x1_0 : (⟨S32, .f32⟩ : BufTy).Contents (Elt F) → (⟨S32x1, .f32⟩ : BufTy).Contents (Elt F)),
    StableHlo.unary main_v13 main_v15 (broadcastInDim S32x1 ![0] bcast_S32_S32x1_0 : (⟨S32, .f32⟩ : BufTy).Contents (Elt F) → (⟨S32x1, .f32⟩ : BufTy).Contents (Elt F)),
    StableHlo.binary main_v14 main_v15 main_v16 ((fun a b => concatenate S32x2 1 [⟨S32x1, a⟩, ⟨S32x1, b⟩] concatenates_S32x1_S32x1_S32x2_d1) : (⟨S32x1, .f32⟩ : BufTy).Contents (Elt F) → (⟨S32x1, .f32⟩ : BufTy).Contents (Elt F) → (⟨S32x2, .f32⟩ : BufTy).Contents (Elt F)),
    StableHlo.unary main_v16 main_v17 (broadcastInDim S32x2x1x1 ![0, 1] bcast_S32x2_S32x2x1x1_0_1 : (⟨S32x2, .f32⟩ : BufTy).Contents (Elt F) → (⟨S32x2x1x1, .f32⟩ : BufTy).Contents (Elt F)),
    StableHlo.unary main_v7 main_v18 (broadcastInDim S1x2x32x32 ![1, 2, 3] bcast_S2x32x32_S1x2x32x32_1_2_3 : (⟨S2x32x32, .f32⟩ : BufTy).Contents (Elt F) → (⟨S1x2x32x32, .f32⟩ : BufTy).Contents (Elt F)),
    StableHlo.unary main_v18 main_v19 (broadcastInDim S32x2x32x32 ![0, 1, 2, 3] bcast_S1x2x32x32_S32x2x32x32_0_1_2_3 : (⟨S1x2x32x32, .f32⟩ : BufTy).Contents (Elt F) → (⟨S32x2x32x32, .f32⟩ : BufTy).Contents (Elt F)),
    StableHlo.unary main_v17 main_v20 (broadcastInDim S32x2x32x32 ![0, 1, 2, 3] bcast_S32x2x1x1_S32x2x32x32_0_1_2_3 : (⟨S32x2x1x1, .f32⟩ : BufTy).Contents (Elt F) → (⟨S32x2x32x32, .f32⟩ : BufTy).Contents (Elt F)),
    StableHlo.binary main_v19 main_v20 main_v21 (subf : (⟨S32x2x32x32, .f32⟩ : BufTy).Contents (Elt F) → (⟨S32x2x32x32, .f32⟩ : BufTy).Contents (Elt F) → (⟨S32x2x32x32, .f32⟩ : BufTy).Contents (Elt F)),
    StableHlo.unary main_v21 main_v22 (Host.absf : (⟨S32x2x32x32, .f32⟩ : BufTy).Contents (Elt F) → (⟨S32x2x32x32, .f32⟩ : BufTy).Contents (Elt F)),
    StableHlo.nullary main_cst (constant S_ .f32 0x00000000#32),
    StableHlo.binary main_v22 main_cst main_v23 ((fun x v => Host.reduceAdd x v reducesTo_S32x2x32x32_S32x32x32_d1 h_S_) : (⟨S32x2x32x32, .f32⟩ : BufTy).Contents (Elt F) → (⟨S_, .f32⟩ : BufTy).Contents (Elt F) → (⟨S32x32x32, .f32⟩ : BufTy).Contents (Elt F)),
    StableHlo.nullary main_cst_1 (constant S_ .f32 0x7F800000#32),
    StableHlo.binary main_v22 main_cst_1 main_v24 ((fun x v => Host.reduce FloatOps.minimumf x v reducesTo_S32x2x32x32_S32x32x32_d1 h_S_) : (⟨S32x2x32x32, .f32⟩ : BufTy).Contents (Elt F) → (⟨S_, .f32⟩ : BufTy).Contents (Elt F) → (⟨S32x32x32, .f32⟩ : BufTy).Contents (Elt F)),
    StableHlo.binary main_v23 main_v24 main_v25 (subf : (⟨S32x32x32, .f32⟩ : BufTy).Contents (Elt F) → (⟨S32x32x32, .f32⟩ : BufTy).Contents (Elt F) → (⟨S32x32x32, .f32⟩ : BufTy).Contents (Elt F)),
    StableHlo.binary main_v22 main_v22 main_v26 (mulf : (⟨S32x2x32x32, .f32⟩ : BufTy).Contents (Elt F) → (⟨S32x2x32x32, .f32⟩ : BufTy).Contents (Elt F) → (⟨S32x2x32x32, .f32⟩ : BufTy).Contents (Elt F)),
    StableHlo.nullary main_cst_2 (constant S_ .f32 0x00000000#32),
    StableHlo.binary main_v26 main_cst_2 main_v27 ((fun x v => Host.reduceAdd x v reducesTo_S32x2x32x32_S32x32x32_d1 h_S_) : (⟨S32x2x32x32, .f32⟩ : BufTy).Contents (Elt F) → (⟨S_, .f32⟩ : BufTy).Contents (Elt F) → (⟨S32x32x32, .f32⟩ : BufTy).Contents (Elt F)),
    StableHlo.unary main_v27 main_v28 (Host.sqrt : (⟨S32x32x32, .f32⟩ : BufTy).Contents (Elt F) → (⟨S32x32x32, .f32⟩ : BufTy).Contents (Elt F)),
    StableHlo.nullary main_cst_3 (constant S_ .f32 0x3A83126F#32),
    StableHlo.unary main_cst_3 main_v29 (broadcastInDim S32x32x32 ![] bcast_S_S32x32x32 : (⟨S_, .f32⟩ : BufTy).Contents (Elt F) → (⟨S32x32x32, .f32⟩ : BufTy).Contents (Elt F)),
    StableHlo.binary main_v29 main_v28 main_v30 (mulf : (⟨S32x32x32, .f32⟩ : BufTy).Contents (Elt F) → (⟨S32x32x32, .f32⟩ : BufTy).Contents (Elt F) → (⟨S32x32x32, .f32⟩ : BufTy).Contents (Elt F)),
    StableHlo.binary main_v25 main_v30 main_v31 (addf : (⟨S32x32x32, .f32⟩ : BufTy).Contents (Elt F) → (⟨S32x32x32, .f32⟩ : BufTy).Contents (Elt F) → (⟨S32x32x32, .f32⟩ : BufTy).Contents (Elt F)),
    StableHlo.binary main_v31 main_arg0 main_v32 (addf : (⟨S32x32x32, .f32⟩ : BufTy).Contents (Elt F) → (⟨S32x32x32, .f32⟩ : BufTy).Contents (Elt F) → (⟨S32x32x32, .f32⟩ : BufTy).Contents (Elt F)),
    StableHlo.nullary main_cst_4 (constant S_ .f32 0x00000000#32),
    StableHlo.unary main_cst_4 main_v33 (broadcastInDim S32x32x32 ![] bcast_S_S32x32x32 : (⟨S_, .f32⟩ : BufTy).Contents (Elt F) → (⟨S32x32x32, .f32⟩ : BufTy).Contents (Elt F)),
    StableHlo.nullary main_c_5 (constantI S_ 32 0#32),
    StableHlo.nullary main_c_6 (constantI S_ 32 0#32),
    StableHlo.unary main_v32 main_v34_0 id,
    StableHlo.unary main_arg2 main_v34_1 id,
    StableHlo.unary main_arg0 main_v34_2 id,
    StableHlo.unary main_c_6 main_v34_3 id,
    StableHlo.unary main_c_5 main_v34_4 id,
    StableHlo.unary main_v33 main_v34_5 id,
    StableHlo.unary main_arg1 main_v34_6 id,
    StableHlo.unary main_v33 main_v34_7 id ]
theorem heurOps_sub : (heurOps : List (HloOp τ sig (Elt F))).Forall fun op => op.bufs ⊆ StableHlo.tcRefs τ sig :=
  ⟨StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.nullary_bufs_sub .., StableHlo.binary_bufs_sub .., StableHlo.nullary_bufs_sub .., StableHlo.binary_bufs_sub .., StableHlo.binary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-! ## One trip -/

/-- The weights of the cells, divided by their sum. -/
abbrev weighOps : List (HloOp τ sig (Elt F)) :=
  [ StableHlo.nullary main_while0b_c_14 (constantI S_ 32 1#32),
    StableHlo.binary main_v34_4 main_while0b_c_14 main_while0b_v35 (addi : (⟨S_, .i32⟩ : BufTy).Contents (Elt F) → (⟨S_, .i32⟩ : BufTy).Contents (Elt F) → (⟨S_, .i32⟩ : BufTy).Contents (Elt F)),
    StableHlo.nullary main_while0b_cst_15 (constant S_ .f32 0x3F000000#32),
    StableHlo.unary main_while0b_cst_15 main_while0b_v36 (broadcastInDim S32x32x32 ![] bcast_S_S32x32x32 : (⟨S_, .f32⟩ : BufTy).Contents (Elt F) → (⟨S32x32x32, .f32⟩ : BufTy).Contents (Elt F)),
    StableHlo.binary main_while0b_v36 main_v34_5 main_while0b_v37 (mulf : (⟨S32x32x32, .f32⟩ : BufTy).Contents (Elt F) → (⟨S32x32x32, .f32⟩ : BufTy).Contents (Elt F) → (⟨S32x32x32, .f32⟩ : BufTy).Contents (Elt F)),
    StableHlo.nullary main_while0b_cst_16 (constant S_ .f32 0x3F000000#32),
    StableHlo.unary main_while0b_cst_16 main_while0b_v38 (broadcastInDim S32x32x32 ![] bcast_S_S32x32x32 : (⟨S_, .f32⟩ : BufTy).Contents (Elt F) → (⟨S32x32x32, .f32⟩ : BufTy).Contents (Elt F)),
    StableHlo.binary main_while0b_v38 main_v34_0 main_while0b_v39 (mulf : (⟨S32x32x32, .f32⟩ : BufTy).Contents (Elt F) → (⟨S32x32x32, .f32⟩ : BufTy).Contents (Elt F) → (⟨S32x32x32, .f32⟩ : BufTy).Contents (Elt F)),
    StableHlo.binary main_while0b_v37 main_while0b_v39 main_while0b_v40 (addf : (⟨S32x32x32, .f32⟩ : BufTy).Contents (Elt F) → (⟨S32x32x32, .f32⟩ : BufTy).Contents (Elt F) → (⟨S32x32x32, .f32⟩ : BufTy).Contents (Elt F)),
    StableHlo.nullary main_while0b_cst_17 (constant S_ .f32 0xBF800000#32),
    StableHlo.unary main_while0b_cst_17 main_while0b_v41 (broadcastInDim S32x32x32 ![] bcast_S_S32x32x32 : (⟨S_, .f32⟩ : BufTy).Contents (Elt F) → (⟨S32x32x32, .f32⟩ : BufTy).Contents (Elt F)),
    StableHlo.binary main_while0b_v41 main_while0b_v40 main_while0b_v42 (mulf : (⟨S32x32x32, .f32⟩ : BufTy).Contents (Elt F) → (⟨S32x32x32, .f32⟩ : BufTy).Contents (Elt F) → (⟨S32x32x32, .f32⟩ : BufTy).Contents (Elt F)),
    StableHlo.nullary main_while0b_cst_18 (constant S_ .f32 0x40B504F3#32),
    StableHlo.unary main_while0b_cst_18 main_while0b_v43 (broadcastInDim S32x32x32 ![] bcast_S_S32x32x32 : (⟨S_, .f32⟩ : BufTy).Contents (Elt F) → (⟨S32x32x32, .f32⟩ : BufTy).Contents (Elt F)),
    StableHlo.binary main_while0b_v42 main_while0b_v43 main_while0b_v44 (Host.divf : (⟨S32x32x32, .f32⟩ : BufTy).Contents (Elt F) → (⟨S32x32x32, .f32⟩ : BufTy).Contents (Elt F) → (⟨S32x32x32, .f32⟩ : BufTy).Contents (Elt F)),
    StableHlo.unary main_while0b_v44 main_while0b_v45 (Host.exp : (⟨S32x32x32, .f32⟩ : BufTy).Contents (Elt F) → (⟨S32x32x32, .f32⟩ : BufTy).Contents (Elt F)),
    StableHlo.binary main_while0b_v45 main_v34_6 main_while0b_v46 (mulf : (⟨S32x32x32, .f32⟩ : BufTy).Contents (Elt F) → (⟨S32x32x32, .f32⟩ : BufTy).Contents (Elt F) → (⟨S32x32x32, .f32⟩ : BufTy).Contents (Elt F)),
    StableHlo.reshape main_while0b_v46 main_while0b_v47 (rfl : (.f32 : EltTy) = .f32) shapeCasts_S32x32x32_S32x1024,
    StableHlo.nullary main_while0b_cst_19 (constant S_ .f32 0x00000000#32),
    StableHlo.binary main_while0b_v47 main_while0b_cst_19 main_while0b_v48 ((fun x v => Host.reduceAdd x v reducesTo_S32x1024_S32_d1 h_S_) : (⟨S32x1024, .f32⟩ : BufTy).Contents (Elt F) → (⟨S_, .f32⟩ : BufTy).Contents (Elt F) → (⟨S32, .f32⟩ : BufTy).Contents (Elt F)),
    StableHlo.unary main_while0b_v48 main_while0b_v49 (broadcastInDim S32x1 ![0] bcast_S32_S32x1_0 : (⟨S32, .f32⟩ : BufTy).Contents (Elt F) → (⟨S32x1, .f32⟩ : BufTy).Contents (Elt F)),
    StableHlo.nullary main_while0b_cst_20 (constant S_ .f32 0x0DA24260#32),
    StableHlo.unary main_while0b_cst_20 main_while0b_v50 (broadcastInDim S32x1 ![] bcast_S_S32x1 : (⟨S_, .f32⟩ : BufTy).Contents (Elt F) → (⟨S32x1, .f32⟩ : BufTy).Contents (Elt F)),
    StableHlo.binary main_while0b_v49 main_while0b_v50 main_while0b_v51 (maximumf : (⟨S32x1, .f32⟩ : BufTy).Contents (Elt F) → (⟨S32x1, .f32⟩ : BufTy).Contents (Elt F) → (⟨S32x1, .f32⟩ : BufTy).Contents (Elt F)),
    StableHlo.unary main_while0b_v51 main_while0b_v52 (broadcastInDim S32x1024 ![0, 1] bcast_S32x1_S32x1024_0_1 : (⟨S32x1, .f32⟩ : BufTy).Contents (Elt F) → (⟨S32x1024, .f32⟩ : BufTy).Contents (Elt F)),
    StableHlo.binary main_while0b_v47 main_while0b_v52 main_while0b_v53 (Host.divf : (⟨S32x1024, .f32⟩ : BufTy).Contents (Elt F) → (⟨S32x1024, .f32⟩ : BufTy).Contents (Elt F) → (⟨S32x1024, .f32⟩ : BufTy).Contents (Elt F)) ]
theorem weighOps_sub : (weighOps : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.reshape_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub ..⟩

/-- The cell of greatest weight. -/
abbrev bestOps : List (HloOp τ sig (Elt F)) := argmaxOps (.of main_while0b_v53) main_while0b_call3
theorem bestOps_sub : (bestOps : List (HloOp τ sig (Elt F))).Forall fun op => op.bufs ⊆ StableHlo.tcRefs τ sig := argmaxOps_sub _ _

/-- Its mask. -/
abbrev markOps : List (HloOp τ sig (Elt F)) := oneHotOps (.of main_while0b_v54) main_while0b_call4
theorem markOps_sub : (markOps : List (HloOp τ sig (Elt F))).Forall fun op => op.bufs ⊆ StableHlo.tcRefs τ sig := oneHotOps_sub _ _

/-- The selected cell, whether the search goes on, and the closed cells before clipping. -/
abbrev pickOps : List (HloOp τ sig (Elt F)) :=
  [ StableHlo.binary main_while0b_v55 main_while0b_v53 main_while0b_v56 (subf : (⟨S32x1024, .f32⟩ : BufTy).Contents (Elt F) → (⟨S32x1024, .f32⟩ : BufTy).Contents (Elt F) → (⟨S32x1024, .f32⟩ : BufTy).Contents (Elt F)),
    StableHlo.binary main_while0b_v56 main_while0b_v53 main_while0b_v57 (addf : (⟨S32x1024, .f32⟩ : BufTy).Contents (Elt F) → (⟨S32x1024, .f32⟩ : BufTy).Contents (Elt F) → (⟨S32x1024, .f32⟩ : BufTy).Contents (Elt F)),
    StableHlo.reshape main_while0b_v57 main_while0b_v58 (rfl : (.f32 : EltTy) = .f32) shapeCasts_S32x1024_S32x32x32,
    StableHlo.binary main_while0b_v58 main_v34_1 main_while0b_v59 (mulf : (⟨S32x32x32, .f32⟩ : BufTy).Contents (Elt F) → (⟨S32x32x32, .f32⟩ : BufTy).Contents (Elt F) → (⟨S32x32x32, .f32⟩ : BufTy).Contents (Elt F)),
    StableHlo.nullary main_while0b_cst_21 (constant S_ .f32 0x00000000#32),
    StableHlo.binary main_while0b_v59 main_while0b_cst_21 main_while0b_v60 ((fun x v => Host.reduceAdd x v reducesTo_S32x32x32_S32_d1_2 h_S_) : (⟨S32x32x32, .f32⟩ : BufTy).Contents (Elt F) → (⟨S_, .f32⟩ : BufTy).Contents (Elt F) → (⟨S32, .f32⟩ : BufTy).Contents (Elt F)),
    StableHlo.unary main_while0b_v60 main_while0b_v61 (broadcastInDim S32x1x1 ![0] bcast_S32_S32x1x1_0 : (⟨S32, .f32⟩ : BufTy).Contents (Elt F) → (⟨S32x1x1, .f32⟩ : BufTy).Contents (Elt F)),
    StableHlo.nullary main_while0b_cst_22 (constant S_ .f32 0x322BCC77#32),
    StableHlo.unary main_while0b_cst_22 main_while0b_v62 (broadcastInDim S32x1x1 ![] bcast_S_S32x1x1 : (⟨S_, .f32⟩ : BufTy).Contents (Elt F) → (⟨S32x1x1, .f32⟩ : BufTy).Contents (Elt F)),
    StableHlo.binary main_while0b_v61 main_while0b_v62 main_while0b_v63 (cmpf .olt : (⟨S32x1x1, .f32⟩ : BufTy).Contents (Elt F) → (⟨S32x1x1, .f32⟩ : BufTy).Contents (Elt F) → (⟨S32x1x1, .i1⟩ : BufTy).Contents (Elt F)),
    StableHlo.unary main_while0b_v63 main_while0b_v64 (uitofp .f32 : (⟨S32x1x1, .i1⟩ : BufTy).Contents (Elt F) → (⟨S32x1x1, .f32⟩ : BufTy).Contents (Elt F)),
    StableHlo.binary main_v34_7 main_while0b_v58 main_while0b_v65 (addf : (⟨S32x32x32, .f32⟩ : BufTy).Contents (Elt F) → (⟨S32x32x32, .f32⟩ : BufTy).Contents (Elt F) → (⟨S32x32x32, .f32⟩ : BufTy).Contents (Elt F)),
    StableHlo.nullary main_while0b_cst_23 (constant S_ .f32 0x00000000#32),
    StableHlo.nullary main_while0b_cst_24 (constant S_ .f32 0x3F800000#32) ]
theorem pickOps_sub : (pickOps : List (HloOp τ sig (Elt F))).Forall fun op => op.bufs ⊆ StableHlo.tcRefs τ sig :=
  ⟨StableHlo.binary_bufs_sub .., StableHlo.binary_bufs_sub .., StableHlo.reshape_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.nullary_bufs_sub .., StableHlo.nullary_bufs_sub ..⟩

/-- The closed cells. -/
abbrev closeOps : List (HloOp τ sig (Elt F)) := clipOps (.of main_while0b_v65) (.of main_while0b_cst_23) (.of main_while0b_cst_24) main_while0b_call5
theorem closeOps_sub : (closeOps : List (HloOp τ sig (Elt F))).Forall fun op => op.bufs ⊆ StableHlo.tcRefs τ sig := clipOps_sub _ _ _ _

/-- The open cells without the selected one, before clipping. -/
abbrev clearOps : List (HloOp τ sig (Elt F)) :=
  [ StableHlo.unary main_while0b_v64 main_while0b_v67 (broadcastInDim S32x32x32 ![0, 1, 2] bcast_S32x1x1_S32x32x32_0_1_2 : (⟨S32x1x1, .f32⟩ : BufTy).Contents (Elt F) → (⟨S32x32x32, .f32⟩ : BufTy).Contents (Elt F)),
    StableHlo.binary main_while0b_v67 main_while0b_v58 main_while0b_v68 (mulf : (⟨S32x32x32, .f32⟩ : BufTy).Contents (Elt F) → (⟨S32x32x32, .f32⟩ : BufTy).Contents (Elt F) → (⟨S32x32x32, .f32⟩ : BufTy).Contents (Elt F)),
    StableHlo.binary main_v34_6 main_while0b_v68 main_while0b_v69 (subf : (⟨S32x32x32, .f32⟩ : BufTy).Contents (Elt F) → (⟨S32x32x32, .f32⟩ : BufTy).Contents (Elt F) → (⟨S32x32x32, .f32⟩ : BufTy).Contents (Elt F)),
    StableHlo.nullary main_while0b_cst_25 (constant S_ .f32 0x00000000#32),
    StableHlo.nullary main_while0b_cst_26 (constant S_ .f32 0x3F800000#32) ]
theorem clearOps_sub : (clearOps : List (HloOp τ sig (Elt F))).Forall fun op => op.bufs ⊆ StableHlo.tcRefs τ sig :=
  ⟨StableHlo.unary_bufs_sub .., StableHlo.binary_bufs_sub .., StableHlo.binary_bufs_sub .., StableHlo.nullary_bufs_sub .., StableHlo.nullary_bufs_sub ..⟩

/-- The open cells without the selected one. -/
abbrev openOps : List (HloOp τ sig (Elt F)) := clipOps (.of main_while0b_v69) (.of main_while0b_cst_25) (.of main_while0b_cst_26) main_while0b_call6
theorem openOps_sub : (openOps : List (HloOp τ sig (Elt F))).Forall fun op => op.bufs ⊆ StableHlo.tcRefs τ sig := clipOps_sub _ _ _ _

/-- The border's value. -/
abbrev zeroOps : List (HloOp τ sig (Elt F)) :=
  [ StableHlo.nullary main_while0b_c_27 (constantI S_ 32 0#32) ]
theorem zeroOps_sub : (zeroOps : List (HloOp τ sig (Elt F))).Forall fun op => op.bufs ⊆ StableHlo.tcRefs τ sig :=
  StableHlo.nullary_bufs_sub ..

/-- The selected cell with a border. -/
abbrev padSelOps : List (HloOp τ sig (Elt F)) := padOps (.of main_while0b_v58) (.of main_while0b_c_27) main_while0b_call7
theorem padSelOps_sub : (padSelOps : List (HloOp τ sig (Elt F))).Forall fun op => op.bufs ⊆ StableHlo.tcRefs τ sig := padOps_sub _ _ _

/-- The neighbours of the selected cell, weighted by the costs; the length of the path to each cell through it. -/
abbrev nearOps : List (HloOp τ sig (Elt F)) :=
  [ StableHlo.unary main_while0b_v71 main_while0b_v72 ((extractStridedSlice S32x32x32 ![0, 0, 0] · slices_S32x34x34_S32x32x32_0_0_0) : (⟨S32x34x34, .f32⟩ : BufTy).Contents (Elt F) → (⟨S32x32x32, .f32⟩ : BufTy).Contents (Elt F)),
    StableHlo.nullary main_while0b_cst_28 (constant S_ .f32 0x00000000#32),
    StableHlo.unary main_while0b_cst_28 main_while0b_v73 (broadcastInDim S32x32x32 ![] bcast_S_S32x32x32 : (⟨S_, .f32⟩ : BufTy).Contents (Elt F) → (⟨S32x32x32, .f32⟩ : BufTy).Contents (Elt F)),
    StableHlo.binary main_while0b_v73 main_while0b_v72 main_while0b_v74 (addf : (⟨S32x32x32, .f32⟩ : BufTy).Contents (Elt F) → (⟨S32x32x32, .f32⟩ : BufTy).Contents (Elt F) → (⟨S32x32x32, .f32⟩ : BufTy).Contents (Elt F)),
    StableHlo.unary main_while0b_v71 main_while0b_v75 ((extractStridedSlice S32x32x32 ![0, 0, 1] · slices_S32x34x34_S32x32x32_0_0_1) : (⟨S32x34x34, .f32⟩ : BufTy).Contents (Elt F) → (⟨S32x32x32, .f32⟩ : BufTy).Contents (Elt F)),
    StableHlo.binary main_while0b_v74 main_while0b_v75 main_while0b_v76 (addf : (⟨S32x32x32, .f32⟩ : BufTy).Contents (Elt F) → (⟨S32x32x32, .f32⟩ : BufTy).Contents (Elt F) → (⟨S32x32x32, .f32⟩ : BufTy).Contents (Elt F)),
    StableHlo.unary main_while0b_v71 main_while0b_v77 ((extractStridedSlice S32x32x32 ![0, 0, 2] · slices_S32x34x34_S32x32x32_0_0_2) : (⟨S32x34x34, .f32⟩ : BufTy).Contents (Elt F) → (⟨S32x32x32, .f32⟩ : BufTy).Contents (Elt F)),
    StableHlo.binary main_while0b_v76 main_while0b_v77 main_while0b_v78 (addf : (⟨S32x32x32, .f32⟩ : BufTy).Contents (Elt F) → (⟨S32x32x32, .f32⟩ : BufTy).Contents (Elt F) → (⟨S32x32x32, .f32⟩ : BufTy).Contents (Elt F)),
    StableHlo.unary main_while0b_v71 main_while0b_v79 ((extractStridedSlice S32x32x32 ![0, 1, 0] · slices_S32x34x34_S32x32x32_0_1_0) : (⟨S32x34x34, .f32⟩ : BufTy).Contents (Elt F) → (⟨S32x32x32, .f32⟩ : BufTy).Contents (Elt F)),
    StableHlo.binary main_while0b_v78 main_while0b_v79 main_while0b_v80 (addf : (⟨S32x32x32, .f32⟩ : BufTy).Contents (Elt F) → (⟨S32x32x32, .f32⟩ : BufTy).Contents (Elt F) → (⟨S32x32x32, .f32⟩ : BufTy).Contents (Elt F)),
    StableHlo.unary main_while0b_v71 main_while0b_v81 ((extractStridedSlice S32x32x32 ![0, 1, 2] · slices_S32x34x34_S32x32x32_0_1_2) : (⟨S32x34x34, .f32⟩ : BufTy).Contents (Elt F) → (⟨S32x32x32, .f32⟩ : BufTy).Contents (Elt F)),
    StableHlo.binary main_while0b_v80 main_while0b_v81 main_while0b_v82 (addf : (⟨S32x32x32, .f32⟩ : BufTy).Contents (Elt F) → (⟨S32x32x32, .f32⟩ : BufTy).Contents (Elt F) → (⟨S32x32x32, .f32⟩ : BufTy).Contents (Elt F)),
    StableHlo.unary main_while0b_v71 main_while0b_v83 ((extractStridedSlice S32x32x32 ![0, 2, 0] · slices_S32x34x34_S32x32x32_0_2_0) : (⟨S32x34x34, .f32⟩ : BufTy).Contents (Elt F) → (⟨S32x32x32, .f32⟩ : BufTy).Contents (Elt F)),
    StableHlo.binary main_while0b_v82 main_while0b_v83 main_while0b_v84 (addf : (⟨S32x32x32, .f32⟩ : BufTy).Contents (Elt F) → (⟨S32x32x32, .f32⟩ : BufTy).Contents (Elt F) → (⟨S32x32x32, .f32⟩ : BufTy).Contents (Elt F)),
    StableHlo.unary main_while0b_v71 main_while0b_v85 ((extractStridedSlice S32x32x32 ![0, 2, 1] · slices_S32x34x34_S32x32x32_0_2_1) : (⟨S32x34x34, .f32⟩ : BufTy).Contents (Elt F) → (⟨S32x32x32, .f32⟩ : BufTy).Contents (Elt F)),
    StableHlo.binary main_while0b_v84 main_while0b_v85 main_while0b_v86 (addf : (⟨S32x32x32, .f32⟩ : BufTy).Contents (Elt F) → (⟨S32x32x32, .f32⟩ : BufTy).Contents (Elt F) → (⟨S32x32x32, .f32⟩ : BufTy).Contents (Elt F)),
    StableHlo.unary main_while0b_v71 main_while0b_v87 ((extractStridedSlice S32x32x32 ![0, 2, 2] · slices_S32x34x34_S32x32x32_0_2_2) : (⟨S32x34x34, .f32⟩ : BufTy).Contents (Elt F) → (⟨S32x32x32, .f32⟩ : BufTy).Contents (Elt F)),
    StableHlo.binary main_while0b_v86 main_while0b_v87 main_while0b_v88 (addf : (⟨S32x32x32, .f32⟩ : BufTy).Contents (Elt F) → (⟨S32x32x32, .f32⟩ : BufTy).Contents (Elt F) → (⟨S32x32x32, .f32⟩ : BufTy).Contents (Elt F)),
    StableHlo.binary main_while0b_v88 main_v34_2 main_while0b_v89 (mulf : (⟨S32x32x32, .f32⟩ : BufTy).Contents (Elt F) → (⟨S32x32x32, .f32⟩ : BufTy).Contents (Elt F) → (⟨S32x32x32, .f32⟩ : BufTy).Contents (Elt F)),
    StableHlo.binary main_v34_5 main_v34_2 main_while0b_v90 (addf : (⟨S32x32x32, .f32⟩ : BufTy).Contents (Elt F) → (⟨S32x32x32, .f32⟩ : BufTy).Contents (Elt F) → (⟨S32x32x32, .f32⟩ : BufTy).Contents (Elt F)),
    StableHlo.binary main_while0b_v90 main_while0b_v58 main_while0b_v91 (mulf : (⟨S32x32x32, .f32⟩ : BufTy).Contents (Elt F) → (⟨S32x32x32, .f32⟩ : BufTy).Contents (Elt F) → (⟨S32x32x32, .f32⟩ : BufTy).Contents (Elt F)),
    StableHlo.nullary main_while0b_c_29 (constantI S_ 32 0#32) ]
theorem nearOps_sub : (nearOps : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.binary_bufs_sub .., StableHlo.binary_bufs_sub .., StableHlo.binary_bufs_sub .., StableHlo.nullary_bufs_sub ..⟩

/-- That length with a border. -/
abbrev padLenOps : List (HloOp τ sig (Elt F)) := padOps (.of main_while0b_v91) (.of main_while0b_c_29) main_while0b_call8
theorem padLenOps_sub : (padLenOps : List (HloOp τ sig (Elt F))).Forall fun op => op.bufs ⊆ StableHlo.tcRefs τ sig := padOps_sub _ _ _

/-- The length of the path to each neighbour. -/
abbrev reachOps : List (HloOp τ sig (Elt F)) :=
  [ StableHlo.unary main_while0b_v92 main_while0b_v93 ((extractStridedSlice S32x32x32 ![0, 0, 0] · slices_S32x34x34_S32x32x32_0_0_0) : (⟨S32x34x34, .f32⟩ : BufTy).Contents (Elt F) → (⟨S32x32x32, .f32⟩ : BufTy).Contents (Elt F)),
    StableHlo.nullary main_while0b_cst_30 (constant S_ .f32 0x00000000#32),
    StableHlo.unary main_while0b_cst_30 main_while0b_v94 (broadcastInDim S32x32x32 ![] bcast_S_S32x32x32 : (⟨S_, .f32⟩ : BufTy).Contents (Elt F) → (⟨S32x32x32, .f32⟩ : BufTy).Contents (Elt F)),
    StableHlo.binary main_while0b_v94 main_while0b_v93 main_while0b_v95 (addf : (⟨S32x32x32, .f32⟩ : BufTy).Contents (Elt F) → (⟨S32x32x32, .f32⟩ : BufTy).Contents (Elt F) → (⟨S32x32x32, .f32⟩ : BufTy).Contents (Elt F)),
    StableHlo.unary main_while0b_v92 main_while0b_v96 ((extractStridedSlice S32x32x32 ![0, 0, 1] · slices_S32x34x34_S32x32x32_0_0_1) : (⟨S32x34x34, .f32⟩ : BufTy).Contents (Elt F) → (⟨S32x32x32, .f32⟩ : BufTy).Contents (Elt F)),
    StableHlo.binary main_while0b_v95 main_while0b_v96 main_while0b_v97 (addf : (⟨S32x32x32, .f32⟩ : BufTy).Contents (Elt F) → (⟨S32x32x32, .f32⟩ : BufTy).Contents (Elt F) → (⟨S32x32x32, .f32⟩ : BufTy).Contents (Elt F)),
    StableHlo.unary main_while0b_v92 main_while0b_v98 ((extractStridedSlice S32x32x32 ![0, 0, 2] · slices_S32x34x34_S32x32x32_0_0_2) : (⟨S32x34x34, .f32⟩ : BufTy).Contents (Elt F) → (⟨S32x32x32, .f32⟩ : BufTy).Contents (Elt F)),
    StableHlo.binary main_while0b_v97 main_while0b_v98 main_while0b_v99 (addf : (⟨S32x32x32, .f32⟩ : BufTy).Contents (Elt F) → (⟨S32x32x32, .f32⟩ : BufTy).Contents (Elt F) → (⟨S32x32x32, .f32⟩ : BufTy).Contents (Elt F)),
    StableHlo.unary main_while0b_v92 main_while0b_v100 ((extractStridedSlice S32x32x32 ![0, 1, 0] · slices_S32x34x34_S32x32x32_0_1_0) : (⟨S32x34x34, .f32⟩ : BufTy).Contents (Elt F) → (⟨S32x32x32, .f32⟩ : BufTy).Contents (Elt F)),
    StableHlo.binary main_while0b_v99 main_while0b_v100 main_while0b_v101 (addf : (⟨S32x32x32, .f32⟩ : BufTy).Contents (Elt F) → (⟨S32x32x32, .f32⟩ : BufTy).Contents (Elt F) → (⟨S32x32x32, .f32⟩ : BufTy).Contents (Elt F)),
    StableHlo.unary main_while0b_v92 main_while0b_v102 ((extractStridedSlice S32x32x32 ![0, 1, 2] · slices_S32x34x34_S32x32x32_0_1_2) : (⟨S32x34x34, .f32⟩ : BufTy).Contents (Elt F) → (⟨S32x32x32, .f32⟩ : BufTy).Contents (Elt F)),
    StableHlo.binary main_while0b_v101 main_while0b_v102 main_while0b_v103 (addf : (⟨S32x32x32, .f32⟩ : BufTy).Contents (Elt F) → (⟨S32x32x32, .f32⟩ : BufTy).Contents (Elt F) → (⟨S32x32x32, .f32⟩ : BufTy).Contents (Elt F)),
    StableHlo.unary main_while0b_v92 main_while0b_v104 ((extractStridedSlice S32x32x32 ![0, 2, 0] · slices_S32x34x34_S32x32x32_0_2_0) : (⟨S32x34x34, .f32⟩ : BufTy).Contents (Elt F) → (⟨S32x32x32, .f32⟩ : BufTy).Contents (Elt F)),
    StableHlo.binary main_while0b_v103 main_while0b_v104 main_while0b_v105 (addf : (⟨S32x32x32, .f32⟩ : BufTy).Contents (Elt F) → (⟨S32x32x32, .f32⟩ : BufTy).Contents (Elt F) → (⟨S32x32x32, .f32⟩ : BufTy).Contents (Elt F)),
    StableHlo.unary main_while0b_v92 main_while0b_v106 ((extractStridedSlice S32x32x32 ![0, 2, 1] · slices_S32x34x34_S32x32x32_0_2_1) : (⟨S32x34x34, .f32⟩ : BufTy).Contents (Elt F) → (⟨S32x32x32, .f32⟩ : BufTy).Contents (Elt F)),
    StableHlo.binary main_while0b_v105 main_while0b_v106 main_while0b_v107 (addf : (⟨S32x32x32, .f32⟩ : BufTy).Contents (Elt F) → (⟨S32x32x32, .f32⟩ : BufTy).Contents (Elt F) → (⟨S32x32x32, .f32⟩ : BufTy).Contents (Elt F)),
    StableHlo.unary main_while0b_v92 main_while0b_v108 ((extractStridedSlice S32x32x32 ![0, 2, 2] · slices_S32x34x34_S32x32x32_0_2_2) : (⟨S32x34x34, .f32⟩ : BufTy).Contents (Elt F) → (⟨S32x32x32, .f32⟩ : BufTy).Contents (Elt F)),
    StableHlo.binary main_while0b_v107 main_while0b_v108 main_while0b_v109 (addf : (⟨S32x32x32, .f32⟩ : BufTy).Contents (Elt F) → (⟨S32x32x32, .f32⟩ : BufTy).Contents (Elt F) → (⟨S32x32x32, .f32⟩ : BufTy).Contents (Elt F)) ]
theorem reachOps_sub : (reachOps : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub ..⟩

/-- The cells reached by a new or shorter path, and their lengths. -/
abbrev updateOps : List (HloOp τ sig (Elt F)) :=
  [ StableHlo.nullary main_while0b_cst_31 (constant S_ .f32 0x3F800000#32),
    StableHlo.unary main_while0b_cst_31 main_while0b_v110 (broadcastInDim S32x32x32 ![] bcast_S_S32x32x32 : (⟨S_, .f32⟩ : BufTy).Contents (Elt F) → (⟨S32x32x32, .f32⟩ : BufTy).Contents (Elt F)),
    StableHlo.binary main_while0b_v110 main_while0b_v70 main_while0b_v111 (subf : (⟨S32x32x32, .f32⟩ : BufTy).Contents (Elt F) → (⟨S32x32x32, .f32⟩ : BufTy).Contents (Elt F) → (⟨S32x32x32, .f32⟩ : BufTy).Contents (Elt F)),
    StableHlo.nullary main_while0b_cst_32 (constant S_ .f32 0x3F800000#32),
    StableHlo.unary main_while0b_cst_32 main_while0b_v112 (broadcastInDim S32x32x32 ![] bcast_S_S32x32x32 : (⟨S_, .f32⟩ : BufTy).Contents (Elt F) → (⟨S32x32x32, .f32⟩ : BufTy).Contents (Elt F)),
    StableHlo.binary main_while0b_v112 main_while0b_v66 main_while0b_v113 (subf : (⟨S32x32x32, .f32⟩ : BufTy).Contents (Elt F) → (⟨S32x32x32, .f32⟩ : BufTy).Contents (Elt F) → (⟨S32x32x32, .f32⟩ : BufTy).Contents (Elt F)),
    StableHlo.binary main_while0b_v111 main_while0b_v113 main_while0b_v114 (mulf : (⟨S32x32x32, .f32⟩ : BufTy).Contents (Elt F) → (⟨S32x32x32, .f32⟩ : BufTy).Contents (Elt F) → (⟨S32x32x32, .f32⟩ : BufTy).Contents (Elt F)),
    StableHlo.binary main_while0b_v114 main_while0b_v89 main_while0b_v115 (mulf : (⟨S32x32x32, .f32⟩ : BufTy).Contents (Elt F) → (⟨S32x32x32, .f32⟩ : BufTy).Contents (Elt F) → (⟨S32x32x32, .f32⟩ : BufTy).Contents (Elt F)),
    StableHlo.binary main_v34_5 main_while0b_v109 main_while0b_v116 (cmpf .ogt : (⟨S32x32x32, .f32⟩ : BufTy).Contents (Elt F) → (⟨S32x32x32, .f32⟩ : BufTy).Contents (Elt F) → (⟨S32x32x32, .i1⟩ : BufTy).Contents (Elt F)),
    StableHlo.unary main_while0b_v116 main_while0b_v117 (uitofp .f32 : (⟨S32x32x32, .i1⟩ : BufTy).Contents (Elt F) → (⟨S32x32x32, .f32⟩ : BufTy).Contents (Elt F)),
    StableHlo.binary main_while0b_v70 main_while0b_v117 main_while0b_v118 (mulf : (⟨S32x32x32, .f32⟩ : BufTy).Contents (Elt F) → (⟨S32x32x32, .f32⟩ : BufTy).Contents (Elt F) → (⟨S32x32x32, .f32⟩ : BufTy).Contents (Elt F)),
    StableHlo.binary main_while0b_v118 main_while0b_v89 main_while0b_v119 (mulf : (⟨S32x32x32, .f32⟩ : BufTy).Contents (Elt F) → (⟨S32x32x32, .f32⟩ : BufTy).Contents (Elt F) → (⟨S32x32x32, .f32⟩ : BufTy).Contents (Elt F)),
    StableHlo.binary main_while0b_v115 main_while0b_v119 main_while0b_v120 (addf : (⟨S32x32x32, .f32⟩ : BufTy).Contents (Elt F) → (⟨S32x32x32, .f32⟩ : BufTy).Contents (Elt F) → (⟨S32x32x32, .f32⟩ : BufTy).Contents (Elt F)),
    StableHlo.nullary main_while0b_cst_33 (constant S_ .f32 0x00000000#32),
    StableHlo.unary main_while0b_cst_33 main_while0b_v121 (broadcastInDim S32x32x32 ![] bcast_S_S32x32x32 : (⟨S_, .f32⟩ : BufTy).Contents (Elt F) → (⟨S32x32x32, .f32⟩ : BufTy).Contents (Elt F)),
    StableHlo.binary main_while0b_v120 main_while0b_v121 main_while0b_v122 (cmpf .ogt : (⟨S32x32x32, .f32⟩ : BufTy).Contents (Elt F) → (⟨S32x32x32, .f32⟩ : BufTy).Contents (Elt F) → (⟨S32x32x32, .i1⟩ : BufTy).Contents (Elt F)),
    StableHlo.unary main_while0b_v122 main_while0b_v123 (uitofp .f32 : (⟨S32x32x32, .i1⟩ : BufTy).Contents (Elt F) → (⟨S32x32x32, .f32⟩ : BufTy).Contents (Elt F)),
    StableHlo.binary main_while0b_v109 main_while0b_v123 main_while0b_v124 (mulf : (⟨S32x32x32, .f32⟩ : BufTy).Contents (Elt F) → (⟨S32x32x32, .f32⟩ : BufTy).Contents (Elt F) → (⟨S32x32x32, .f32⟩ : BufTy).Contents (Elt F)),
    StableHlo.nullary main_while0b_cst_34 (constant S_ .f32 0x3F800000#32),
    StableHlo.unary main_while0b_cst_34 main_while0b_v125 (broadcastInDim S32x32x32 ![] bcast_S_S32x32x32 : (⟨S_, .f32⟩ : BufTy).Contents (Elt F) → (⟨S32x32x32, .f32⟩ : BufTy).Contents (Elt F)),
    StableHlo.binary main_while0b_v125 main_while0b_v123 main_while0b_v126 (subf : (⟨S32x32x32, .f32⟩ : BufTy).Contents (Elt F) → (⟨S32x32x32, .f32⟩ : BufTy).Contents (Elt F) → (⟨S32x32x32, .f32⟩ : BufTy).Contents (Elt F)),
    StableHlo.binary main_v34_5 main_while0b_v126 main_while0b_v127 (mulf : (⟨S32x32x32, .f32⟩ : BufTy).Contents (Elt F) → (⟨S32x32x32, .f32⟩ : BufTy).Contents (Elt F) → (⟨S32x32x32, .f32⟩ : BufTy).Contents (Elt F)),
    StableHlo.binary main_while0b_v124 main_while0b_v127 main_while0b_v128 (addf : (⟨S32x32x32, .f32⟩ : BufTy).Contents (Elt F) → (⟨S32x32x32, .f32⟩ : BufTy).Contents (Elt F) → (⟨S32x32x32, .f32⟩ : BufTy).Contents (Elt F)),
    StableHlo.binary main_while0b_v70 main_while0b_v123 main_while0b_v129 (addf : (⟨S32x32x32, .f32⟩ : BufTy).Contents (Elt F) → (⟨S32x32x32, .f32⟩ : BufTy).Contents (Elt F) → (⟨S32x32x32, .f32⟩ : BufTy).Contents (Elt F)),
    StableHlo.nullary main_while0b_cst_35 (constant S_ .f32 0x00000000#32),
    StableHlo.nullary main_while0b_cst_36 (constant S_ .f32 0x3F800000#32) ]
theorem updateOps_sub : (updateOps : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.nullary_bufs_sub ..⟩

/-- The open cells. -/
abbrev reopenOps : List (HloOp τ sig (Elt F)) := clipOps (.of main_while0b_v129) (.of main_while0b_cst_35) (.of main_while0b_cst_36) main_while0b_call9
theorem reopenOps_sub : (reopenOps : List (HloOp τ sig (Elt F))).Forall fun op => op.bufs ⊆ StableHlo.tcRefs τ sig := clipOps_sub _ _ _ _

/-- The trip counter, and the values of the next trip. -/
abbrev nextOps : List (HloOp τ sig (Elt F)) :=
  [ StableHlo.nullary main_while0b_c_37 (constantI S_ 32 1#32),
    StableHlo.binary main_v34_3 main_while0b_c_37 main_while0b_v131 (addi : (⟨S_, .i32⟩ : BufTy).Contents (Elt F) → (⟨S_, .i32⟩ : BufTy).Contents (Elt F) → (⟨S_, .i32⟩ : BufTy).Contents (Elt F)),
    StableHlo.unary main_while0b_v131 main_v34_3 id,
    StableHlo.unary main_while0b_v35 main_v34_4 id,
    StableHlo.unary main_while0b_v128 main_v34_5 id,
    StableHlo.unary main_while0b_v130 main_v34_6 id,
    StableHlo.unary main_while0b_v66 main_v34_7 id ]
theorem nextOps_sub : (nextOps : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub ..⟩

/-! ## The printed programs -/

/-- The program is its stretches, then the loop. -/
theorem main_chain (c : Dev nD) : main (F := F) c = (Pipeline.chain
  [ StableHlo.seq locOps,
    StableHlo.seq goalOps,
    StableHlo.seq widthOps,
    StableHlo.seq goalRowOps,
    StableHlo.seq rowOps,
    StableHlo.seq goalColOps,
    StableHlo.seq heurOps,
    HostLoop.enter 0 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons, StableHlo.chain_seq_cons, Pipeline.chain_cons, StableHlo.chain_seq_cons, Pipeline.chain_cons]
  chain_rfl

/-- A trip is its stretches in order. -/
theorem trip_chain : main_while0_body (F := F) = (Pipeline.chain
  [ StableHlo.seq weighOps,
    StableHlo.seq bestOps,
    StableHlo.seq markOps,
    StableHlo.seq pickOps,
    StableHlo.seq closeOps,
    StableHlo.seq clearOps,
    StableHlo.seq openOps,
    StableHlo.seq zeroOps,
    StableHlo.seq padSelOps,
    StableHlo.seq nearOps,
    StableHlo.seq padLenOps,
    StableHlo.seq reachOps,
    StableHlo.seq updateOps,
    StableHlo.seq reopenOps,
    StableHlo.seq nextOps ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, Pipeline.chain_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons, StableHlo.chain_seq_cons, Pipeline.chain_cons, StableHlo.chain_seq_cons]
  chain_rfl

end Cert.ReferenceIdeal.Search

end
-- ==== Proof.Ref.Run.lean ====
module

public import proofs.«01_k».proof.Proof.Ref.Ops
public import Idealize.ShloMosaic.Lib.Scf.ExitTest
public import Idealize.ShloMosaic.Lib.Scf.Counter

/-! The reference program's run: it ends, and every buffer then holds what the stretches before the loop and 256 trips
leave there. What each stretch writes is listed, so a buffer it does not write is seen to keep its contents. -/

@[expose] public section

set_option maxRecDepth 4000

noncomputable section

namespace Cert.ReferenceIdeal.Search

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## What the stretches write; none allocates a buffer -/

/-- What `locOps` writes, in order. -/
abbrev locOps_W : List (Ref sig .tc) := [main_v0, main_v1, main_v2, main_v3, main_v4, main_v5, main_v6, main_v7, main_v8]
theorem locOps_writes : (locOps : List (HloOp τ sig (Elt F))).Forall fun op => op.writes ⊆ (locOps_W.map (Proc.devRef (τ := τ) .tc)).toFinset :=
  StableHlo.forall_writes_sub_of_map rfl
theorem locOps_fresh : (locOps : List (HloOp τ sig (Elt F))).Forall fun op => op.fresh = ∅ := StableHlo.forall_fresh_of_map rfl

/-- What `goalOps` writes, in order. -/
abbrev goalOps_W : List (Ref sig .tc) := [main_call0_v0, main_call0_cst, main_call0_c, main_call0_v1_0, main_v9]
theorem goalOps_writes : (goalOps : List (HloOp τ sig (Elt F))).Forall fun op => op.writes ⊆ (goalOps_W.map (Proc.devRef (τ := τ) .tc)).toFinset :=
  StableHlo.forall_writes_sub_of_map rfl
theorem goalOps_fresh : (goalOps : List (HloOp τ sig (Elt F))).Forall fun op => op.fresh = ∅ := StableHlo.forall_fresh_of_map rfl

/-- What `widthOps` writes, in order. -/
abbrev widthOps_W : List (Ref sig .tc) := [main_c]
theorem widthOps_writes : (widthOps : List (HloOp τ sig (Elt F))).Forall fun op => op.writes ⊆ (widthOps_W.map (Proc.devRef (τ := τ) .tc)).toFinset :=
  StableHlo.forall_writes_sub_of_map rfl
theorem widthOps_fresh : (widthOps : List (HloOp τ sig (Elt F))).Forall fun op => op.fresh = ∅ := StableHlo.forall_fresh_of_map rfl

/-- What `goalRowOps` writes, in order. -/
abbrev goalRowOps_W : List (Ref sig .tc) := [main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v10]
theorem goalRowOps_writes : (goalRowOps : List (HloOp τ sig (Elt F))).Forall fun op => op.writes ⊆ (goalRowOps_W.map (Proc.devRef (τ := τ) .tc)).toFinset :=
  StableHlo.forall_writes_sub_of_map rfl
theorem goalRowOps_fresh : (goalRowOps : List (HloOp τ sig (Elt F))).Forall fun op => op.fresh = ∅ := StableHlo.forall_fresh_of_map rfl

/-- What `rowOps` writes, in order. -/
abbrev rowOps_W : List (Ref sig .tc) := [main_v11, main_c_0]
theorem rowOps_writes : (rowOps : List (HloOp τ sig (Elt F))).Forall fun op => op.writes ⊆ (rowOps_W.map (Proc.devRef (τ := τ) .tc)).toFinset :=
  StableHlo.forall_writes_sub_of_map rfl
theorem rowOps_fresh : (rowOps : List (HloOp τ sig (Elt F))).Forall fun op => op.fresh = ∅ := StableHlo.forall_fresh_of_map rfl

/-- What `goalColOps` writes, in order. -/
abbrev goalColOps_W : List (Ref sig .tc) := [main_call2_v0, main_call2_c, main_call2_v1, main_call2_c_0, main_call2_v2, main_call2_v3, main_call2_v4, main_call2_c_1, main_call2_v5, main_call2_v6, main_call2_c_2, main_call2_v7, main_call2_v8, main_call2_c_3, main_call2_v9, main_call2_v10, main_call2_v11, main_call2_v12, main_call2_v13, main_call2_v14, main_v12]
theorem goalColOps_writes : (goalColOps : List (HloOp τ sig (Elt F))).Forall fun op => op.writes ⊆ (goalColOps_W.map (Proc.devRef (τ := τ) .tc)).toFinset :=
  StableHlo.forall_writes_sub_of_map rfl
theorem goalColOps_fresh : (goalColOps : List (HloOp τ sig (Elt F))).Forall fun op => op.fresh = ∅ := StableHlo.forall_fresh_of_map rfl

/-- What `heurOps` writes, in order. -/
abbrev heurOps_W : List (Ref sig .tc) := [main_v13, main_v14, main_v15, main_v16, main_v17, main_v18, main_v19, main_v20, main_v21, main_v22, main_cst, main_v23, main_cst_1, main_v24, main_v25, main_v26, main_cst_2, main_v27, main_v28, main_cst_3, main_v29, main_v30, main_v31, main_v32, main_cst_4, main_v33, main_c_5, main_c_6, main_v34_0, main_v34_1, main_v34_2, main_v34_3, main_v34_4, main_v34_5, main_v34_6, main_v34_7]
theorem heurOps_writes : (heurOps : List (HloOp τ sig (Elt F))).Forall fun op => op.writes ⊆ (heurOps_W.map (Proc.devRef (τ := τ) .tc)).toFinset :=
  StableHlo.forall_writes_sub_of_map rfl
theorem heurOps_fresh : (heurOps : List (HloOp τ sig (Elt F))).Forall fun op => op.fresh = ∅ := StableHlo.forall_fresh_of_map rfl

/-- What `weighOps` writes, in order. -/
abbrev weighOps_W : List (Ref sig .tc) := [main_while0b_c_14, main_while0b_v35, main_while0b_cst_15, main_while0b_v36, main_while0b_v37, main_while0b_cst_16, main_while0b_v38, main_while0b_v39, main_while0b_v40, main_while0b_cst_17, main_while0b_v41, main_while0b_v42, main_while0b_cst_18, main_while0b_v43, main_while0b_v44, main_while0b_v45, main_while0b_v46, main_while0b_v47, main_while0b_cst_19, main_while0b_v48, main_while0b_v49, main_while0b_cst_20, main_while0b_v50, main_while0b_v51, main_while0b_v52, main_while0b_v53]
theorem weighOps_writes : (weighOps : List (HloOp τ sig (Elt F))).Forall fun op => op.writes ⊆ (weighOps_W.map (Proc.devRef (τ := τ) .tc)).toFinset :=
  StableHlo.forall_writes_sub_of_map rfl
theorem weighOps_fresh : (weighOps : List (HloOp τ sig (Elt F))).Forall fun op => op.fresh = ∅ := StableHlo.forall_fresh_of_map rfl

/-- What `bestOps` writes, in order. -/
abbrev bestOps_W : List (Ref sig .tc) := [main_while0b_call3_v0, main_while0b_call3_cst, main_while0b_call3_c, main_while0b_call3_v1_0, main_while0b_v54]
theorem bestOps_writes : (bestOps : List (HloOp τ sig (Elt F))).Forall fun op => op.writes ⊆ (bestOps_W.map (Proc.devRef (τ := τ) .tc)).toFinset :=
  StableHlo.forall_writes_sub_of_map rfl
theorem bestOps_fresh : (bestOps : List (HloOp τ sig (Elt F))).Forall fun op => op.fresh = ∅ := StableHlo.forall_fresh_of_map rfl

/-- What `markOps` writes, in order. -/
abbrev markOps_W : List (Ref sig .tc) := [main_while0b_call4_v0, main_while0b_call4_v1, main_while0b_call4_v2, main_while0b_call4_v3, main_while0b_call4_v4, main_while0b_v55]
theorem markOps_writes : (markOps : List (HloOp τ sig (Elt F))).Forall fun op => op.writes ⊆ (markOps_W.map (Proc.devRef (τ := τ) .tc)).toFinset :=
  StableHlo.forall_writes_sub_of_map rfl
theorem markOps_fresh : (markOps : List (HloOp τ sig (Elt F))).Forall fun op => op.fresh = ∅ := StableHlo.forall_fresh_of_map rfl

/-- What `pickOps` writes, in order. -/
abbrev pickOps_W : List (Ref sig .tc) := [main_while0b_v56, main_while0b_v57, main_while0b_v58, main_while0b_v59, main_while0b_cst_21, main_while0b_v60, main_while0b_v61, main_while0b_cst_22, main_while0b_v62, main_while0b_v63, main_while0b_v64, main_while0b_v65, main_while0b_cst_23, main_while0b_cst_24]
theorem pickOps_writes : (pickOps : List (HloOp τ sig (Elt F))).Forall fun op => op.writes ⊆ (pickOps_W.map (Proc.devRef (τ := τ) .tc)).toFinset :=
  StableHlo.forall_writes_sub_of_map rfl
theorem pickOps_fresh : (pickOps : List (HloOp τ sig (Elt F))).Forall fun op => op.fresh = ∅ := StableHlo.forall_fresh_of_map rfl

/-- What `closeOps` writes, in order. -/
abbrev closeOps_W : List (Ref sig .tc) := [main_while0b_call5_v0, main_while0b_call5_v1, main_while0b_call5_v2, main_while0b_call5_v3, main_while0b_call5_v4, main_while0b_v66]
theorem closeOps_writes : (closeOps : List (HloOp τ sig (Elt F))).Forall fun op => op.writes ⊆ (closeOps_W.map (Proc.devRef (τ := τ) .tc)).toFinset :=
  StableHlo.forall_writes_sub_of_map rfl
theorem closeOps_fresh : (closeOps : List (HloOp τ sig (Elt F))).Forall fun op => op.fresh = ∅ := StableHlo.forall_fresh_of_map rfl

/-- What `clearOps` writes, in order. -/
abbrev clearOps_W : List (Ref sig .tc) := [main_while0b_v67, main_while0b_v68, main_while0b_v69, main_while0b_cst_25, main_while0b_cst_26]
theorem clearOps_writes : (clearOps : List (HloOp τ sig (Elt F))).Forall fun op => op.writes ⊆ (clearOps_W.map (Proc.devRef (τ := τ) .tc)).toFinset :=
  StableHlo.forall_writes_sub_of_map rfl
theorem clearOps_fresh : (clearOps : List (HloOp τ sig (Elt F))).Forall fun op => op.fresh = ∅ := StableHlo.forall_fresh_of_map rfl

/-- What `openOps` writes, in order. -/
abbrev openOps_W : List (Ref sig .tc) := [main_while0b_call6_v0, main_while0b_call6_v1, main_while0b_call6_v2, main_while0b_call6_v3, main_while0b_call6_v4, main_while0b_v70]
theorem openOps_writes : (openOps : List (HloOp τ sig (Elt F))).Forall fun op => op.writes ⊆ (openOps_W.map (Proc.devRef (τ := τ) .tc)).toFinset :=
  StableHlo.forall_writes_sub_of_map rfl
theorem openOps_fresh : (openOps : List (HloOp τ sig (Elt F))).Forall fun op => op.fresh = ∅ := StableHlo.forall_fresh_of_map rfl

/-- What `zeroOps` writes, in order. -/
abbrev zeroOps_W : List (Ref sig .tc) := [main_while0b_c_27]
theorem zeroOps_writes : (zeroOps : List (HloOp τ sig (Elt F))).Forall fun op => op.writes ⊆ (zeroOps_W.map (Proc.devRef (τ := τ) .tc)).toFinset :=
  StableHlo.forall_writes_sub_of_map rfl
theorem zeroOps_fresh : (zeroOps : List (HloOp τ sig (Elt F))).Forall fun op => op.fresh = ∅ := StableHlo.forall_fresh_of_map rfl

/-- What `padSelOps` writes, in order. -/
abbrev padSelOps_W : List (Ref sig .tc) := [main_while0b_call7_v0, main_while0b_v71]
theorem padSelOps_writes : (padSelOps : List (HloOp τ sig (Elt F))).Forall fun op => op.writes ⊆ (padSelOps_W.map (Proc.devRef (τ := τ) .tc)).toFinset :=
  StableHlo.forall_writes_sub_of_map rfl
theorem padSelOps_fresh : (padSelOps : List (HloOp τ sig (Elt F))).Forall fun op => op.fresh = ∅ := StableHlo.forall_fresh_of_map rfl

/-- What `nearOps` writes, in order. -/
abbrev nearOps_W : List (Ref sig .tc) := [main_while0b_v72, main_while0b_cst_28, main_while0b_v73, main_while0b_v74, main_while0b_v75, main_while0b_v76, main_while0b_v77, main_while0b_v78, main_while0b_v79, main_while0b_v80, main_while0b_v81, main_while0b_v82, main_while0b_v83, main_while0b_v84, main_while0b_v85, main_while0b_v86, main_while0b_v87, main_while0b_v88, main_while0b_v89, main_while0b_v90, main_while0b_v91, main_while0b_c_29]
theorem nearOps_writes : (nearOps : List (HloOp τ sig (Elt F))).Forall fun op => op.writes ⊆ (nearOps_W.map (Proc.devRef (τ := τ) .tc)).toFinset :=
  StableHlo.forall_writes_sub_of_map rfl
theorem nearOps_fresh : (nearOps : List (HloOp τ sig (Elt F))).Forall fun op => op.fresh = ∅ := StableHlo.forall_fresh_of_map rfl

/-- What `padLenOps` writes, in order. -/
abbrev padLenOps_W : List (Ref sig .tc) := [main_while0b_call8_v0, main_while0b_v92]
theorem padLenOps_writes : (padLenOps : List (HloOp τ sig (Elt F))).Forall fun op => op.writes ⊆ (padLenOps_W.map (Proc.devRef (τ := τ) .tc)).toFinset :=
  StableHlo.forall_writes_sub_of_map rfl
theorem padLenOps_fresh : (padLenOps : List (HloOp τ sig (Elt F))).Forall fun op => op.fresh = ∅ := StableHlo.forall_fresh_of_map rfl

/-- What `reachOps` writes, in order. -/
abbrev reachOps_W : List (Ref sig .tc) := [main_while0b_v93, main_while0b_cst_30, main_while0b_v94, main_while0b_v95, main_while0b_v96, main_while0b_v97, main_while0b_v98, main_while0b_v99, main_while0b_v100, main_while0b_v101, main_while0b_v102, main_while0b_v103, main_while0b_v104, main_while0b_v105, main_while0b_v106, main_while0b_v107, main_while0b_v108, main_while0b_v109]
theorem reachOps_writes : (reachOps : List (HloOp τ sig (Elt F))).Forall fun op => op.writes ⊆ (reachOps_W.map (Proc.devRef (τ := τ) .tc)).toFinset :=
  StableHlo.forall_writes_sub_of_map rfl
theorem reachOps_fresh : (reachOps : List (HloOp τ sig (Elt F))).Forall fun op => op.fresh = ∅ := StableHlo.forall_fresh_of_map rfl

/-- What `updateOps` writes, in order. -/
abbrev updateOps_W : List (Ref sig .tc) := [main_while0b_cst_31, main_while0b_v110, main_while0b_v111, main_while0b_cst_32, main_while0b_v112, main_while0b_v113, main_while0b_v114, main_while0b_v115, main_while0b_v116, main_while0b_v117, main_while0b_v118, main_while0b_v119, main_while0b_v120, main_while0b_cst_33, main_while0b_v121, main_while0b_v122, main_while0b_v123, main_while0b_v124, main_while0b_cst_34, main_while0b_v125, main_while0b_v126, main_while0b_v127, main_while0b_v128, main_while0b_v129, main_while0b_cst_35, main_while0b_cst_36]
theorem updateOps_writes : (updateOps : List (HloOp τ sig (Elt F))).Forall fun op => op.writes ⊆ (updateOps_W.map (Proc.devRef (τ := τ) .tc)).toFinset :=
  StableHlo.forall_writes_sub_of_map rfl
theorem updateOps_fresh : (updateOps : List (HloOp τ sig (Elt F))).Forall fun op => op.fresh = ∅ := StableHlo.forall_fresh_of_map rfl

/-- What `reopenOps` writes, in order. -/
abbrev reopenOps_W : List (Ref sig .tc) := [main_while0b_call9_v0, main_while0b_call9_v1, main_while0b_call9_v2, main_while0b_call9_v3, main_while0b_call9_v4, main_while0b_v130]
theorem reopenOps_writes : (reopenOps : List (HloOp τ sig (Elt F))).Forall fun op => op.writes ⊆ (reopenOps_W.map (Proc.devRef (τ := τ) .tc)).toFinset :=
  StableHlo.forall_writes_sub_of_map rfl
theorem reopenOps_fresh : (reopenOps : List (HloOp τ sig (Elt F))).Forall fun op => op.fresh = ∅ := StableHlo.forall_fresh_of_map rfl

/-- What `nextOps` writes, in order. -/
abbrev nextOps_W : List (Ref sig .tc) := [main_while0b_c_37, main_while0b_v131, main_v34_3, main_v34_4, main_v34_5, main_v34_6, main_v34_7]
theorem nextOps_writes : (nextOps : List (HloOp τ sig (Elt F))).Forall fun op => op.writes ⊆ (nextOps_W.map (Proc.devRef (τ := τ) .tc)).toFinset :=
  StableHlo.forall_writes_sub_of_map rfl
theorem nextOps_fresh : (nextOps : List (HloOp τ sig (Elt F))).Forall fun op => op.fresh = ∅ := StableHlo.forall_fresh_of_map rfl

/-! ## The loop -/

/-- The loop's condition: the bound, and the trip counter compared with it. -/
abbrev condOps : List (HloOp τ sig (Elt F)) :=
  [ StableHlo.nullary main_while0c_c_14 (constantI S_ 32 256#32),
    StableHlo.binary main_v34_3 main_while0c_c_14 main_while0c_v35 (cmpi .slt) ]
abbrev condOps_W : List (Ref sig .tc) := [main_while0c_c_14, main_while0c_v35]
theorem condOps_writes : (condOps : List (HloOp τ sig (Elt F))).Forall fun op => op.writes ⊆ (condOps_W.map (Proc.devRef (τ := τ) .tc)).toFinset :=
  StableHlo.forall_writes_sub_of_map rfl

/-- The stretches before the loop, those of a trip, and those after the loop: none. -/
abbrev preI : List (List (HloOp τ sig (Elt F))) := [locOps, goalOps, widthOps, goalRowOps, rowOps, goalColOps, heurOps]
abbrev bodyI : List (List (HloOp τ sig (Elt F))) := [weighOps, bestOps, markOps, pickOps, closeOps, clearOps, openOps, zeroOps, padSelOps, nearOps, padLenOps, reachOps, updateOps, reopenOps, nextOps]
abbrev postI : List (List (HloOp τ sig (Elt F))) := []

theorem pre_plain : Plain (preI (F := F)) :=
  .cons locOps_sub (hf := List.forall_iff_forall_mem.mp locOps_fresh) (.cons goalOps_sub (hf := List.forall_iff_forall_mem.mp goalOps_fresh) (.cons widthOps_sub (hf := List.forall_iff_forall_mem.mp widthOps_fresh) (.cons goalRowOps_sub (hf := List.forall_iff_forall_mem.mp goalRowOps_fresh) (.cons rowOps_sub (hf := List.forall_iff_forall_mem.mp rowOps_fresh) (.cons goalColOps_sub (hf := List.forall_iff_forall_mem.mp goalColOps_fresh) (.cons heurOps_sub (hf := List.forall_iff_forall_mem.mp heurOps_fresh) .nil))))))
theorem body_plain : Plain (bodyI (F := F)) :=
  .cons weighOps_sub (hf := List.forall_iff_forall_mem.mp weighOps_fresh) (.cons bestOps_sub (hf := List.forall_iff_forall_mem.mp bestOps_fresh) (.cons markOps_sub (hf := List.forall_iff_forall_mem.mp markOps_fresh) (.cons pickOps_sub (hf := List.forall_iff_forall_mem.mp pickOps_fresh) (.cons closeOps_sub (hf := List.forall_iff_forall_mem.mp closeOps_fresh) (.cons clearOps_sub (hf := List.forall_iff_forall_mem.mp clearOps_fresh) (.cons openOps_sub (hf := List.forall_iff_forall_mem.mp openOps_fresh) (.cons zeroOps_sub (hf := List.forall_iff_forall_mem.mp zeroOps_fresh) (.cons padSelOps_sub (hf := List.forall_iff_forall_mem.mp padSelOps_fresh) (.cons nearOps_sub (hf := List.forall_iff_forall_mem.mp nearOps_fresh) (.cons padLenOps_sub (hf := List.forall_iff_forall_mem.mp padLenOps_fresh) (.cons reachOps_sub (hf := List.forall_iff_forall_mem.mp reachOps_fresh) (.cons updateOps_sub (hf := List.forall_iff_forall_mem.mp updateOps_fresh) (.cons reopenOps_sub (hf := List.forall_iff_forall_mem.mp reopenOps_fresh) (.cons nextOps_sub (hf := List.forall_iff_forall_mem.mp nextOps_fresh) .nil))))))))))))))
theorem post_plain : Plain (postI (F := F)) := .nil

variable (m : (ℓ : Loc nD τ sig) → Buf (Elt F) ℓ) (ρ : Dev nD → PrngReg)

/-- The contents before the `k`-th test of the condition. -/
abbrev atK (k : ℕ) (c : Dev nD) : Valuation τ sig (Elt F) := atTrip condOps bodyI (entryContents preI m) k c

/-- A trip adds one to the counter. -/
theorem counter_trip (V : Valuation τ sig (Elt F)) :
    afterL bodyI V (Proc.devRef .tc main_v34_3) = addi (V (Proc.devRef .tc main_v34_3)) (constantI S_ 32 1#32) := by
  simp only [afterL_cons, afterL_nil]
  rw [show ∀ X : Valuation τ sig (Elt F), after nextOps X (Proc.devRef .tc main_v34_3) = addi (X (Proc.devRef .tc main_v34_3)) (constantI S_ 32 1#32)
      from fun X => by after_results; rfl]
  rw [after_of_writes_sub reopenOps _ reopenOps_writes (by decide +kernel),
    after_of_writes_sub updateOps _ updateOps_writes (by decide +kernel),
    after_of_writes_sub reachOps _ reachOps_writes (by decide +kernel),
    after_of_writes_sub padLenOps _ padLenOps_writes (by decide +kernel),
    after_of_writes_sub nearOps _ nearOps_writes (by decide +kernel),
    after_of_writes_sub padSelOps _ padSelOps_writes (by decide +kernel),
    after_of_writes_sub zeroOps _ zeroOps_writes (by decide +kernel),
    after_of_writes_sub openOps _ openOps_writes (by decide +kernel),
    after_of_writes_sub clearOps _ clearOps_writes (by decide +kernel),
    after_of_writes_sub closeOps _ closeOps_writes (by decide +kernel),
    after_of_writes_sub pickOps _ pickOps_writes (by decide +kernel),
    after_of_writes_sub markOps _ markOps_writes (by decide +kernel),
    after_of_writes_sub bestOps _ bestOps_writes (by decide +kernel),
    after_of_writes_sub weighOps _ weighOps_writes (by decide +kernel)]

/-- The counter is zero when the loop is entered. -/
theorem counter_entry (c : Dev nD) : entryContents preI m c (Proc.devRef .tc main_v34_3) = fun _ => (0#32 : BitVec 32) := by
  simp only [entryContents, afterL_cons, afterL_nil]
  after_results
  rfl

/-- Before the `k`-th test the counter is `k`. -/
theorem counter (c : Dev nD) : ∀ k, atK m k c (Proc.devRef .tc main_v34_3) = fun _ => Scf.iv 0#32 1#32 k
  | 0 => by rw [show atK m 0 c = entryContents preI m c from rfl, counter_entry, Scf.iv_zero]
  | k + 1 => by
    rw [show atK m (k + 1) c = afterL bodyI (after condOps (atK m k c)) from rfl, counter_trip,
      after_of_writes_sub condOps _ condOps_writes (by decide +kernel), counter c k, Scf.iv_succ]
    rfl

set_option backward.isDefEq.respectTransparency.types false in
/-- The condition holds exactly at the first 256 tests. -/
theorem cond_spec : CondSpec (pcfgs (F := F)) defs₀ loops (main_while0_cond (F := F)) condOps bodyI (entryContents preI m) 256 := by
  intro k hk c bd
  have hctr := counter m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v34_3 HostLoop.idx0)
        (HloOp.result _ (atK m k c) main_while0c_c_14 HostLoop.idx0) = 1#1) (k < 256)
    rw [nullary_result_ne _ _ _ _ (by decide), nullary_result, hctr]
    exact Scf.cmpi_slt_iv_ub_iff (lb := 0#32) (ub := 256#32) (st := 1#32) (by decide) (show k ≤ Scf.trips 0#32 256#32 1#32 from hk)
  isplitl [Hb]; · iexact Hb
  rw [after_cons, after_cons, after_nil]; iexact Hh

/-- Every run ends with every buffer at what the stretches before the loop and 256 trips leave. -/
theorem run_ends : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 256 m c (Proc.devRef .tc b)) :=
  run_loop (pcfgs (F := F)) defs₀ loops main 0 main_while0_cond main_while0_body rfl preI bodyI postI condOps pre_plain
    body_plain post_plain (fun c => by rw [main_chain]; rfl) (by rw [trip_chain]; rfl) 256 m ρ (cond_spec m)

end Cert.ReferenceIdeal.Search

end
-- ==== Proof.Ref.Trip.lean ====
module

public import proofs.«01_k».proof.Proof.Ref.Run
public import proofs.«01_k».proof.Proof.Ref.Fun

/-! What one trip of the reference's loop leaves in the loop's values. -/

@[expose] public section

set_option maxRecDepth 8000

noncomputable section

namespace Cert.ReferenceIdeal.Search

open Cert.ReferenceIdeal Cert.ReferenceIdeal.Gen
open Idealize.ShloMosaic Idealize.ShloMosaic.TcCoe Idealize.ShloMosaic.Tactic
open Idealize.ShloMosaic.StableHlo

variable {F : FTy → Type} [FloatOps F]
variable (V : (b : DevRef τ sig) → b.ty.Contents (Elt F))

/-- A buffer of the program, as the run names it. -/
abbrev dr (b : Ref sig .tc) : DevRef τ sig := Proc.devRef (τ := τ) .tc b

theorem weighed : after weighOps V (dr main_while0b_v53) = weigh (V (dr main_v34_0)) (V (dr main_v34_5)) (V (dr main_v34_6)) := by
  after_results; rfl
theorem bested : after bestOps V (dr main_while0b_v54) = best (V (dr main_while0b_v53)) := by
  after_results; rfl
theorem marked : after markOps V (dr main_while0b_v55) = mark (V (dr main_while0b_v54)) := by
  after_results; rfl
theorem picked : after pickOps V (dr main_while0b_v58) = pick (V (dr main_while0b_v55)) (V (dr main_while0b_v53)) := by
  after_results; rfl
theorem wentOn : after pickOps V (dr main_while0b_v64)
    = goOn (pick (V (dr main_while0b_v55)) (V (dr main_while0b_v53))) (V (dr main_v34_1)) := by
  after_results; rfl
theorem added : after pickOps V (dr main_while0b_v65)
    = addf (V (dr main_v34_7)) (pick (V (dr main_while0b_v55)) (V (dr main_while0b_v53))) := by
  after_results; rfl
theorem lo23 : after pickOps V (dr main_while0b_cst_23) = constant S_ .f32 0x00000000#32 := by after_results
theorem hi24 : after pickOps V (dr main_while0b_cst_24) = constant S_ .f32 0x3F800000#32 := by after_results
theorem closed : after closeOps V (dr main_while0b_v66) = minimumf (broadcastInDim S32x32x32 ![] bcast_S_S32x32x32 (V (dr main_while0b_cst_24)))
    (maximumf (broadcastInDim S32x32x32 ![] bcast_S_S32x32x32 (V (dr main_while0b_cst_23))) (V (dr main_while0b_v65))) := by
  after_results; rfl
theorem subtracted : after clearOps V (dr main_while0b_v69) = subf (V (dr main_v34_6))
    (mulf (broadcastInDim S32x32x32 ![0, 1, 2] bcast_S32x1x1_S32x32x32_0_1_2 (V (dr main_while0b_v64))) (V (dr main_while0b_v58))) := by
  after_results
theorem lo25 : after clearOps V (dr main_while0b_cst_25) = constant S_ .f32 0x00000000#32 := by after_results
theorem hi26 : after clearOps V (dr main_while0b_cst_26) = constant S_ .f32 0x3F800000#32 := by after_results
theorem opened : after openOps V (dr main_while0b_v70) = minimumf (broadcastInDim S32x32x32 ![] bcast_S_S32x32x32 (V (dr main_while0b_cst_26)))
    (maximumf (broadcastInDim S32x32x32 ![] bcast_S_S32x32x32 (V (dr main_while0b_cst_25))) (V (dr main_while0b_v69))) := by
  after_results; rfl
theorem zero27 : after zeroOps V (dr main_while0b_c_27) = constantI S_ 32 0#32 := by after_results
theorem paddedSel : after padSelOps V (dr main_while0b_v71) = pad S32x34x34 ![0, 1, 1] ![0, 1, 1] ![0, 0, 0] (V (dr main_while0b_v58))
    (sitofp .f32 (V (dr main_while0b_c_27))) pads_S32x32x32_S32x34x34_000_110_110 h_S_ := by
  after_results; rfl
theorem neared : after nearOps V (dr main_while0b_v89) = mulf (aroundSum (V (dr main_while0b_v71))) (V (dr main_v34_2)) := by
  after_results
theorem lengthened : after nearOps V (dr main_while0b_v91)
    = mulf (addf (V (dr main_v34_5)) (V (dr main_v34_2))) (V (dr main_while0b_v58)) := by
  after_results
theorem zero29 : after nearOps V (dr main_while0b_c_29) = constantI S_ 32 0#32 := by after_results
theorem paddedLen : after padLenOps V (dr main_while0b_v92) = pad S32x34x34 ![0, 1, 1] ![0, 1, 1] ![0, 0, 0] (V (dr main_while0b_v91))
    (sitofp .f32 (V (dr main_while0b_c_29))) pads_S32x32x32_S32x34x34_000_110_110 h_S_ := by
  after_results; rfl
theorem reached : after reachOps V (dr main_while0b_v109) = aroundSum (V (dr main_while0b_v92)) := by
  after_results
theorem relaxedTo : after updateOps V (dr main_while0b_v128) = relaxed (V (dr main_v34_5)) (V (dr main_while0b_v109))
    (fresh (V (dr main_v34_5)) (V (dr main_while0b_v70)) (V (dr main_while0b_v66)) (V (dr main_while0b_v89)) (V (dr main_while0b_v109))) := by
  after_results
theorem reopening : after updateOps V (dr main_while0b_v129) = addf (V (dr main_while0b_v70))
    (fresh (V (dr main_v34_5)) (V (dr main_while0b_v70)) (V (dr main_while0b_v66)) (V (dr main_while0b_v89)) (V (dr main_while0b_v109))) := by
  after_results
theorem lo35 : after updateOps V (dr main_while0b_cst_35) = constant S_ .f32 0x00000000#32 := by after_results
theorem hi36 : after updateOps V (dr main_while0b_cst_36) = constant S_ .f32 0x3F800000#32 := by after_results
theorem reopened : after reopenOps V (dr main_while0b_v130) = minimumf (broadcastInDim S32x32x32 ![] bcast_S_S32x32x32 (V (dr main_while0b_cst_36)))
    (maximumf (broadcastInDim S32x32x32 ![] bcast_S_S32x32x32 (V (dr main_while0b_cst_35))) (V (dr main_while0b_v129))) := by
  after_results; rfl
theorem nextLen : after nextOps V (dr main_v34_5) = V (dr main_while0b_v128) := by after_results; rfl
theorem nextOpn : after nextOps V (dr main_v34_6) = V (dr main_while0b_v130) := by after_results; rfl
theorem nextCls : after nextOps V (dr main_v34_7) = V (dr main_while0b_v66) := by after_results; rfl

/-! ## What a stretch does not write it keeps -/

section Keep
variable {b : Ref sig .tc}
theorem weighOps_keep (h : b ∉ weighOps_W) : after weighOps V (dr b) = V (dr b) := after_of_writes_sub weighOps V weighOps_writes h
theorem bestOps_keep (h : b ∉ bestOps_W) : after bestOps V (dr b) = V (dr b) := after_of_writes_sub bestOps V bestOps_writes h
theorem markOps_keep (h : b ∉ markOps_W) : after markOps V (dr b) = V (dr b) := after_of_writes_sub markOps V markOps_writes h
theorem pickOps_keep (h : b ∉ pickOps_W) : after pickOps V (dr b) = V (dr b) := after_of_writes_sub pickOps V pickOps_writes h
theorem closeOps_keep (h : b ∉ closeOps_W) : after closeOps V (dr b) = V (dr b) := after_of_writes_sub closeOps V closeOps_writes h
theorem clearOps_keep (h : b ∉ clearOps_W) : after clearOps V (dr b) = V (dr b) := after_of_writes_sub clearOps V clearOps_writes h
theorem openOps_keep (h : b ∉ openOps_W) : after openOps V (dr b) = V (dr b) := after_of_writes_sub openOps V openOps_writes h
theorem zeroOps_keep (h : b ∉ zeroOps_W) : after zeroOps V (dr b) = V (dr b) := after_of_writes_sub zeroOps V zeroOps_writes h
theorem padSelOps_keep (h : b ∉ padSelOps_W) : after padSelOps V (dr b) = V (dr b) := after_of_writes_sub padSelOps V padSelOps_writes h
theorem nearOps_keep (h : b ∉ nearOps_W) : after nearOps V (dr b) = V (dr b) := after_of_writes_sub nearOps V nearOps_writes h
theorem padLenOps_keep (h : b ∉ padLenOps_W) : after padLenOps V (dr b) = V (dr b) := after_of_writes_sub padLenOps V padLenOps_writes h
theorem reachOps_keep (h : b ∉ reachOps_W) : after reachOps V (dr b) = V (dr b) := after_of_writes_sub reachOps V reachOps_writes h
theorem updateOps_keep (h : b ∉ updateOps_W) : after updateOps V (dr b) = V (dr b) := after_of_writes_sub updateOps V updateOps_writes h
theorem reopenOps_keep (h : b ∉ reopenOps_W) : after reopenOps V (dr b) = V (dr b) := after_of_writes_sub reopenOps V reopenOps_writes h
theorem nextOps_keep (h : b ∉ nextOps_W) : after nextOps V (dr b) = V (dr b) := after_of_writes_sub nextOps V nextOps_writes h
theorem condOps_keep (h : b ∉ condOps_W) : after condOps V (dr b) = V (dr b) := after_of_writes_sub condOps V condOps_writes h
end Keep

/-! ## The trip -/

/-- What the loop's values hold at a trip's head, the constants of the search among them. -/
structure Holds (V : (b : DevRef τ sig) → b.ty.Contents (Elt F)) (hm goal cost g o h : Maps F) : Prop where
  hm : V (dr main_v34_0) = hm
  goal : V (dr main_v34_1) = goal
  cost : V (dr main_v34_2) = cost
  len : V (dr main_v34_5) = g
  opn : V (dr main_v34_6) = o
  cls : V (dr main_v34_7) = h

theorem trip_hm : afterL bodyI (after condOps V) (dr main_v34_0) = V (dr main_v34_0) := by
  simp -iota -proj -beta (disch := decide +kernel) only [bodyI, afterL_cons, afterL_nil, weighOps_keep, bestOps_keep, markOps_keep, pickOps_keep, closeOps_keep, clearOps_keep, openOps_keep, zeroOps_keep, padSelOps_keep, nearOps_keep, padLenOps_keep, reachOps_keep, updateOps_keep, reopenOps_keep, nextOps_keep, condOps_keep]
theorem trip_goal : afterL bodyI (after condOps V) (dr main_v34_1) = V (dr main_v34_1) := by
  simp -iota -proj -beta (disch := decide +kernel) only [bodyI, afterL_cons, afterL_nil, weighOps_keep, bestOps_keep, markOps_keep, pickOps_keep, closeOps_keep, clearOps_keep, openOps_keep, zeroOps_keep, padSelOps_keep, nearOps_keep, padLenOps_keep, reachOps_keep, updateOps_keep, reopenOps_keep, nextOps_keep, condOps_keep]
theorem trip_cost : afterL bodyI (after condOps V) (dr main_v34_2) = V (dr main_v34_2) := by
  simp -iota -proj -beta (disch := decide +kernel) only [bodyI, afterL_cons, afterL_nil, weighOps_keep, bestOps_keep, markOps_keep, pickOps_keep, closeOps_keep, clearOps_keep, openOps_keep, zeroOps_keep, padSelOps_keep, nearOps_keep, padLenOps_keep, reachOps_keep, updateOps_keep, reopenOps_keep, nextOps_keep, condOps_keep]

theorem trip_len : afterL bodyI (after condOps V) (dr main_v34_5) = lenA (V (dr main_v34_0)) (V (dr main_v34_1)) (V (dr main_v34_2)) (V (dr main_v34_5)) (V (dr main_v34_6)) (V (dr main_v34_7)) := by
  simp -iota -proj -beta (disch := decide +kernel) only [bodyI, afterL_cons, afterL_nil, weighOps_keep, bestOps_keep, markOps_keep, pickOps_keep, closeOps_keep, clearOps_keep, openOps_keep, zeroOps_keep, padSelOps_keep, nearOps_keep, padLenOps_keep, reachOps_keep, updateOps_keep, reopenOps_keep, nextOps_keep, condOps_keep,
    weighed, bested, marked, picked, wentOn, added, lo23, hi24, closed, subtracted, lo25, hi26, opened, zero27, paddedSel, neared, lengthened, zero29, paddedLen, reached, relaxedTo, reopening, lo35, hi36, reopened, nextLen, nextOpn, nextCls]
theorem trip_opn : afterL bodyI (after condOps V) (dr main_v34_6) = opnA (V (dr main_v34_0)) (V (dr main_v34_1)) (V (dr main_v34_2)) (V (dr main_v34_5)) (V (dr main_v34_6)) (V (dr main_v34_7)) := by
  simp -iota -proj -beta (disch := decide +kernel) only [bodyI, afterL_cons, afterL_nil, weighOps_keep, bestOps_keep, markOps_keep, pickOps_keep, closeOps_keep, clearOps_keep, openOps_keep, zeroOps_keep, padSelOps_keep, nearOps_keep, padLenOps_keep, reachOps_keep, updateOps_keep, reopenOps_keep, nextOps_keep, condOps_keep,
    weighed, bested, marked, picked, wentOn, added, lo23, hi24, closed, subtracted, lo25, hi26, opened, zero27, paddedSel, neared, lengthened, zero29, paddedLen, reached, relaxedTo, reopening, lo35, hi36, reopened, nextLen, nextOpn, nextCls]
theorem trip_cls : afterL bodyI (after condOps V) (dr main_v34_7) = clsA (V (dr main_v34_0)) (V (dr main_v34_5)) (V (dr main_v34_6)) (V (dr main_v34_7)) := by
  simp -iota -proj -beta (disch := decide +kernel) only [bodyI, afterL_cons, afterL_nil, weighOps_keep, bestOps_keep, markOps_keep, pickOps_keep, closeOps_keep, clearOps_keep, openOps_keep, zeroOps_keep, padSelOps_keep, nearOps_keep, padLenOps_keep, reachOps_keep, updateOps_keep, reopenOps_keep, nextOps_keep, condOps_keep,
    weighed, bested, marked, picked, wentOn, added, lo23, hi24, closed, subtracted, lo25, hi26, opened, zero27, paddedSel, neared, lengthened, zero29, paddedLen, reached, relaxedTo, reopening, lo35, hi36, reopened, nextLen, nextOpn, nextCls]

/-- A trip takes the loop's values through one step of the search. -/
theorem Holds.trip {V : (b : DevRef τ sig) → b.ty.Contents (Elt F)} {hm goal cost g o h : Maps F} (H : Holds V hm goal cost g o h) :
    Holds (afterL bodyI (after condOps V)) hm goal cost (lenA hm goal cost g o h) (opnA hm goal cost g o h) (clsA hm g o h) := by
  obtain ⟨rfl, rfl, rfl, rfl, rfl, rfl⟩ := H
  exact ⟨trip_hm V, trip_goal V, trip_cost V, trip_len V, trip_opn V, trip_cls V⟩

end Cert.ReferenceIdeal.Search

end
-- ==== Proof.Ref.Entry.lean ====
module

public import proofs.«01_k».proof.Proof.Ref.Trip
public import proofs.«01_k».proof.Proof.Ref.Heur

/-! What the loop starts from. -/

@[expose] public section

set_option maxRecDepth 8000

noncomputable section

namespace Cert.ReferenceIdeal.Search

open Cert.ReferenceIdeal Cert.ReferenceIdeal.Gen
open Idealize.ShloMosaic Idealize.ShloMosaic.TcCoe Idealize.ShloMosaic.Tactic
open Idealize.ShloMosaic.StableHlo

variable {F : FTy → Type} [FloatOps F]
variable (V : (b : DevRef τ sig) → b.ty.Contents (Elt F))

theorem located : after locOps V (dr main_v7) = places := by after_results
theorem flattened : after locOps V (dr main_v8) = shapeCast S32x1024 (V (dr main_arg2)) shapeCasts_S32x32x32_S32x1024 := by after_results; rfl
theorem goalFound : after goalOps V (dr main_v9) = best (V (dr main_v8)) := by after_results; rfl
theorem width32 : after widthOps V (dr main_c) = constantI S_ 32 32#32 := by after_results
theorem goalRow : after goalRowOps V (dr main_v10) = floorDiv (V (dr main_v9)) (V (dr main_c)) := by after_results; rfl
theorem rowFloat : after rowOps V (dr main_v11) = sitofp .f32 (V (dr main_v10)) := by after_results
theorem width32' : after rowOps V (dr main_c_0) = constantI S_ 32 32#32 := by after_results
theorem goalCol : after goalColOps V (dr main_v12) = floorRem (V (dr main_v9)) (V (dr main_c_0)) := by after_results; chain_rfl
theorem heurHm : after heurOps V (dr main_v34_0) = estimate (apart (V (dr main_v7)) (V (dr main_v11)) (sitofp .f32 (V (dr main_v12)))) (V (dr main_arg0)) := by
  after_results; rfl
theorem heurGoal : after heurOps V (dr main_v34_1) = V (dr main_arg2) := by after_results; rfl
theorem heurCost : after heurOps V (dr main_v34_2) = V (dr main_arg0) := by after_results; rfl
theorem heurLen : after heurOps V (dr main_v34_5) = allCells 0x00000000#32 := by after_results; rfl
theorem heurOpn : after heurOps V (dr main_v34_6) = V (dr main_arg1) := by after_results; rfl
theorem heurCls : after heurOps V (dr main_v34_7) = allCells 0x00000000#32 := by after_results; rfl

section Keep
variable {b : Ref sig .tc}
theorem locOps_keep (h : b ∉ locOps_W) : after locOps V (dr b) = V (dr b) := after_of_writes_sub locOps V locOps_writes h
theorem goalOps_keep (h : b ∉ goalOps_W) : after goalOps V (dr b) = V (dr b) := after_of_writes_sub goalOps V goalOps_writes h
theorem widthOps_keep (h : b ∉ widthOps_W) : after widthOps V (dr b) = V (dr b) := after_of_writes_sub widthOps V widthOps_writes h
theorem goalRowOps_keep (h : b ∉ goalRowOps_W) : after goalRowOps V (dr b) = V (dr b) := after_of_writes_sub goalRowOps V goalRowOps_writes h
theorem rowOps_keep (h : b ∉ rowOps_W) : after rowOps V (dr b) = V (dr b) := after_of_writes_sub rowOps V rowOps_writes h
theorem goalColOps_keep (h : b ∉ goalColOps_W) : after goalColOps V (dr b) = V (dr b) := after_of_writes_sub goalColOps V goalColOps_writes h
theorem heurOps_keep (h : b ∉ heurOps_W) : after heurOps V (dr b) = V (dr b) := after_of_writes_sub heurOps V heurOps_writes h
end Keep

/-- The stretches before the loop leave the loop's values at the heuristic, the inputs, and zeros. -/
theorem entry_holds : Holds (afterL preI V) (heurA (V (dr main_arg0)) (V (dr main_arg2))) (V (dr main_arg2)) (V (dr main_arg0))
    (allCells 0x00000000#32) (V (dr main_arg1)) (allCells 0x00000000#32) := by
  constructor <;>
  simp -iota -proj -beta (disch := decide +kernel) only [preI, afterL_cons, afterL_nil, locOps_keep, goalOps_keep, widthOps_keep, goalRowOps_keep, rowOps_keep, goalColOps_keep,
    located, flattened, goalFound, width32, goalRow, rowFloat, width32', goalCol, heurHm, heurGoal, heurCost, heurLen, heurOpn, heurCls, heurA]

/-- What no stretch before the loop writes, they keep. -/
theorem entry_keep {b : Ref sig .tc} (h0 : b ∉ locOps_W) (h1 : b ∉ goalOps_W) (h2 : b ∉ widthOps_W) (h3 : b ∉ goalRowOps_W)
    (h4 : b ∉ rowOps_W) (h5 : b ∉ goalColOps_W) (h6 : b ∉ heurOps_W) : afterL preI V (dr b) = V (dr b) := by
  simp only [preI, afterL_cons, afterL_nil]
  rw [heurOps_keep _ h6, goalColOps_keep _ h5, rowOps_keep _ h4, goalRowOps_keep _ h3, widthOps_keep _ h2, goalOps_keep _ h1, locOps_keep _ h0]

end Cert.ReferenceIdeal.Search

end
-- ==== Proof.Ref.Final.lean ====
module

public import proofs.«01_k».proof.Proof.Ref.Entry

/-! What the reference's run ends with: its inputs as they were, its result the closed cells after 256 steps. -/

@[expose] public section

set_option maxRecDepth 8000

noncomputable section

namespace Cert.ReferenceIdeal.Search

open Cert.ReferenceIdeal Cert.ReferenceIdeal.Gen
open Idealize.ShloMosaic Idealize.ShloMosaic.TcCoe Idealize.ShloMosaic.Tactic
open Idealize.ShloMosaic.StableHlo Idealize.SL.Sem

variable {F : FTy → Type} [FloatOps F]

/-- The search's arrays. -/
structure Arrays (F : FTy → Type) where
  len : Maps F
  opn : Maps F
  cls : Maps F

/-- One step of the search. -/
def stepA (hm goal cost : Maps F) (A : Arrays F) : Arrays F :=
  ⟨lenA hm goal cost A.len A.opn A.cls, opnA hm goal cost A.len A.opn A.cls, clsA hm A.len A.opn A.cls⟩

/-- The arrays at the start: no length, the start cells open, none closed. -/
def beginA (start : Maps F) : Arrays F := ⟨allCells 0x00000000#32, start, allCells 0x00000000#32⟩

/-- The reference's result as a function of its inputs. -/
def resultA (cost start goal : Maps F) : Maps F := ((stepA (heurA cost goal) goal cost)^[256] (beginA start)).cls

variable (m : (b : Loc nD τ sig) → (b : Loc nD τ sig).ty.Contents (Elt F))

/-- At the head of trip `k` the loop's values are the search's arrays after `k` steps. -/
theorem holds_at (c : Dev nD) : ∀ k,
    Holds (atK m k c) (heurA (m (c, dr main_arg0)) (m (c, dr main_arg2))) (m (c, dr main_arg2)) (m (c, dr main_arg0))
      ((stepA (heurA (m (c, dr main_arg0)) (m (c, dr main_arg2))) (m (c, dr main_arg2)) (m (c, dr main_arg0)))^[k] (beginA (m (c, dr main_arg1)))).len
      ((stepA (heurA (m (c, dr main_arg0)) (m (c, dr main_arg2))) (m (c, dr main_arg2)) (m (c, dr main_arg0)))^[k] (beginA (m (c, dr main_arg1)))).opn
      ((stepA (heurA (m (c, dr main_arg0)) (m (c, dr main_arg2))) (m (c, dr main_arg2)) (m (c, dr main_arg0)))^[k] (beginA (m (c, dr main_arg1)))).cls
  | 0 => entry_holds fun b => m (c, b)
  | k + 1 => by
    rw [show atK m (k + 1) c = afterL bodyI (after condOps (atK m k c)) from rfl, Function.iterate_succ_apply']
    exact (holds_at c k).trip

/-- At the end they are those after 256. -/
theorem final_cls (c : Dev nD) : finalContents condOps preI bodyI postI 256 m c (dr main_v34_7)
    = resultA (m (c, dr main_arg0)) (m (c, dr main_arg1)) (m (c, dr main_arg2)) := by
  rw [show finalContents condOps preI bodyI postI 256 m c = after condOps (atK m 256 c) from rfl, condOps_keep _ (by decide +kernel)]
  exact (holds_at m c 256).cls

theorem trip_keep_args (V : (b : DevRef τ sig) → b.ty.Contents (Elt F)) :
    afterL bodyI (after condOps V) (dr main_arg0) = V (dr main_arg0) ∧ afterL bodyI (after condOps V) (dr main_arg1) = V (dr main_arg1)
      ∧ afterL bodyI (after condOps V) (dr main_arg2) = V (dr main_arg2) := by
  refine ⟨?_, ?_, ?_⟩ <;>
  simp -iota -proj -beta (disch := decide +kernel) only [bodyI, afterL_cons, afterL_nil, weighOps_keep, bestOps_keep, markOps_keep, pickOps_keep, closeOps_keep, clearOps_keep, openOps_keep, zeroOps_keep, padSelOps_keep, nearOps_keep, padLenOps_keep, reachOps_keep, updateOps_keep, reopenOps_keep, nextOps_keep, condOps_keep]

theorem args_at (c : Dev nD) : ∀ k, atK m k c (dr main_arg0) = m (c, dr main_arg0) ∧ atK m k c (dr main_arg1) = m (c, dr main_arg1)
    ∧ atK m k c (dr main_arg2) = m (c, dr main_arg2)
  | 0 => ⟨entry_keep (fun b => m (c, b)) (by decide +kernel) (by decide +kernel) (by decide +kernel) (by decide +kernel) (by decide +kernel) (by decide +kernel) (by decide +kernel),
      entry_keep (fun b => m (c, b)) (by decide +kernel) (by decide +kernel) (by decide +kernel) (by decide +kernel) (by decide +kernel) (by decide +kernel) (by decide +kernel),
      entry_keep (fun b => m (c, b)) (by decide +kernel) (by decide +kernel) (by decide +kernel) (by decide +kernel) (by decide +kernel) (by decide +kernel) (by decide +kernel)⟩
  | k + 1 => by
    have h := trip_keep_args (atK m k c)
    have h' := args_at c k
    exact ⟨h.1.trans h'.1, h.2.1.trans h'.2.1, h.2.2.trans h'.2.2⟩

/-- The inputs are kept throughout. -/
theorem final_args (c : Dev nD) :
    finalContents condOps preI bodyI postI 256 m c (dr main_arg0) = m (c, dr main_arg0)
      ∧ finalContents condOps preI bodyI postI 256 m c (dr main_arg1) = m (c, dr main_arg1)
      ∧ finalContents condOps preI bodyI postI 256 m c (dr main_arg2) = m (c, dr main_arg2) := by
  rw [show finalContents condOps preI bodyI postI 256 m c = after condOps (atK m 256 c) from rfl, condOps_keep _ (by decide +kernel),
    condOps_keep _ (by decide +kernel), condOps_keep _ (by decide +kernel)]
  exact args_at m c 256

/-- The run: it ends with the result, the inputs as launched, and every semaphore at zero. -/
theorem run_final (ρ : Dev nD → PrngReg) : θ_run defs (onTc (τ := τ) (main (F := F))) ⟨m, fun _ => 0, ρ⟩ (fun r =>
    (∀ c : Dev nD, r.2.mem ((c.tc : Thread nD τ).loc main_v34_7) = resultA (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) :=
  (θ_run defs _ _).mono (fun r h => ⟨fun c =>
    ⟨(h c main_v34_7 rfl).trans (final_cls m c), (h c main_arg0 rfl).trans (final_args m c).1,
      (h c main_arg1 rfl).trans (final_args m c).2.1, (h c main_arg2 rfl).trans (final_args m c).2.2⟩,
    Idealize.ShloMosaic.sem_eq_zero_of_no_sems (by decide) r.2⟩) (run_ends m ρ)

end Cert.ReferenceIdeal.Search

end
-- ==== Proof.Val.Spec.lean ====
module

public import Idealize.ShloMosaic.Lib.Pointwise

/-! One step of the search on one map, cell by cell, over the extended reals. A map's 1024 cells are numbered row by
row, thirty-two to a row. -/

@[expose] public section

noncomputable section

namespace Cert.Search

open Idealize.ShloMosaic
open scoped Classical

/-! ### A map's cells -/

/-- A cell's number, of its row and column. -/
abbrev cellAt (i j : Fin 32) : Fin 1024 := ⟨i.val * 32 + j.val, by omega⟩

theorem cellAt_eta (n : Fin 1024) : cellAt ⟨n.val / 32, by omega⟩ ⟨n.val % 32, by omega⟩ = n :=
  Fin.ext (by show n.val / 32 * 32 + n.val % 32 = n.val; omega)

/-- One map of a batch, its cells numbered. -/
abbrev cellsOf (X : (⟨3, ![32, 32, 32]⟩ : Shape).Idx → EReal) (b : Fin 32) : Fin 1024 → EReal :=
  fun n => X (ix3 b ⟨n.val / 32, by omega⟩ ⟨n.val % 32, by omega⟩)

/-! ### The cell of greatest value -/

/-- `s` is the first cell of greatest value. -/
def IsTop (y : Fin 1024 → EReal) (s : Fin 1024) : Prop := (∀ k, y k ≤ y s) ∧ ∀ k, k < s → y k < y s

theorem exists_top (y : Fin 1024 → EReal) : ∃ s, IsTop y s := by
  have hne : (Finset.univ.filter fun i => ∀ k, y k ≤ y i).Nonempty := by
    obtain ⟨i, -, hi⟩ := Finset.exists_max_image Finset.univ y Finset.univ_nonempty
    exact ⟨i, Finset.mem_filter.mpr ⟨Finset.mem_univ _, fun k => hi k (Finset.mem_univ _)⟩⟩
  have hs := (Finset.mem_filter.mp (Finset.min'_mem _ hne)).2
  refine ⟨_, hs, fun k hk => lt_of_not_ge fun hle => ?_⟩
  exact absurd (Finset.min'_le _ k (Finset.mem_filter.mpr ⟨Finset.mem_univ _, fun j => (hs j).trans hle⟩)) (not_le_of_gt hk)

/-- The first cell of greatest value. -/
def top (y : Fin 1024 → EReal) : Fin 1024 := Classical.choose (exists_top y)

theorem top_spec (y : Fin 1024 → EReal) : IsTop y (top y) := Classical.choose_spec (exists_top y)

theorem IsTop.eq {y : Fin 1024 → EReal} {s t : Fin 1024} (h : IsTop y s) (h' : IsTop y t) : s = t := by
  rcases lt_trichotomy s t with l | l | l
  · exact absurd (h'.2 s l) (not_lt_of_ge (h.1 t))
  · exact l
  · exact absurd (h.2 t l) (not_lt_of_ge (h'.1 s))

theorem IsTop.top_eq {y : Fin 1024 → EReal} {s : Fin 1024} (h : IsTop y s) : top y = s := (top_spec y).eq h

/-! ### The step -/

/-- One map in the course of the search: the lengths of the paths found, the open cells and the closed ones. -/
@[ext] structure Row where
  len : Fin 1024 → EReal
  opn : Fin 1024 → EReal
  cls : Fin 1024 → EReal

/-- The weight of each open cell. -/
def weight (hm g o : Fin 1024 → EReal) (n : Fin 1024) : EReal :=
  Ideal.exp (Ideal.div (Ideal.ofBits .f32 0xBF800000#32 * (Ideal.ofBits .f32 0x3F000000#32 * g n + Ideal.ofBits .f32 0x3F000000#32 * hm n))
    (Ideal.ofBits .f32 0x40B504F3#32)) * o n

/-- A weight divided by the sum of the weights. -/
def share (w : Fin 1024 → EReal) (n : Fin 1024) : EReal := Ideal.div (w n) (max (∑ k, w k) (Ideal.ofBits .f32 0x0DA24260#32))

/-- The selected cell. -/
def sel (hm : Fin 1024 → EReal) (S : Row) : Fin 1024 := top (share (weight hm S.len S.opn))

/-- Two cells touch, or are one. -/
def Near (n s : Fin 1024) : Prop :=
  n.val / 32 ≤ s.val / 32 + 1 ∧ s.val / 32 ≤ n.val / 32 + 1 ∧ n.val % 32 ≤ s.val % 32 + 1 ∧ s.val % 32 ≤ n.val % 32 + 1

/-- Cell `n` is opened from cell `s`, or reached from it by a path of length `r` shorter than its own. -/
def Newly (S : Row) (s : Fin 1024) (r : EReal) (n : Fin 1024) : Prop :=
  Near n s ∧ (S.opn n + S.cls n = 0 ∨ 0 < S.opn n ∧ r < S.len n)

/-- The map after a step that selects cell `s`. -/
def move (cost : Fin 1024 → EReal) (gi s : Fin 1024) (S : Row) : Row where
  len n := if Newly S s (S.len s + cost s) n then S.len s + cost s else S.len n
  opn n := if Newly S s (S.len s + cost s) n then 1 else if n = s ∧ s ≠ gi then 0 else S.opn n
  cls n := if n = s then 1 else S.cls n

/-- The map after a step. -/
def next (hm cost : Fin 1024 → EReal) (gi : Fin 1024) (S : Row) : Row := move cost gi (sel hm S) S

end Cert.Search

end
-- ==== Proof.Val.Ring.lean ====
module

public import proofs.«01_k».proof.Proof.Val.Spec
public import proofs.«01_k».proof.Proof.Ref.Fun

/-! The reference's sum over the eight cells around a cell, of a map that is zero off one cell. -/

@[expose] public section

set_option maxRecDepth 8000

noncomputable section

namespace Cert.ReferenceIdeal.Search

open Idealize.ShloMosaic Cert.ReferenceIdeal Cert.ReferenceIdeal.Gen Cert.Search
open scoped Classical

variable {x : Maps Ideal} {b : Fin 32} {s : Fin 1024} {v : EReal}

/-- With its border, such a map is zero off that cell. -/
theorem bordered_cell (hx : ∀ n, cellsOf x b n = if n = s then v else 0) (i j : Fin 34) :
    bordered x (ix3 b i j) = if i.val = s.val / 32 + 1 ∧ j.val = s.val % 32 + 1 then v else 0 := by
  have hz : (FloatOps.sitofp FTy.f32 0#32 : Ideal .f32) = (0 : EReal) := by
    change (((0#32 : BitVec 32).toInt : ℝ) : EReal) = 0
    simp
  pointwise [bordered]
  rw [hz]
  split_ifs with h h' h'
  · have := hx (cellAt ⟨i.val - 1, h.1.2⟩ ⟨j.val - 1, h.2.2⟩)
    rw [if_pos (Fin.ext (by show (i.val - 1) * 32 + (j.val - 1) = s.val; omega))] at this
    rw [← this]
    exact congrArg₂ (fun p q => x (ix3 b p q)) (Fin.ext (by show i.val - 1 = ((i.val - 1) * 32 + (j.val - 1)) / 32; omega))
      (Fin.ext (by show j.val - 1 = ((i.val - 1) * 32 + (j.val - 1)) % 32; omega))
  · have := hx (cellAt ⟨i.val - 1, h.1.2⟩ ⟨j.val - 1, h.2.2⟩)
    rw [if_neg (fun e => h' (by
      have := congrArg Fin.val e
      have : (i.val - 1) * 32 + (j.val - 1) = s.val := this
      omega))] at this
    rw [← this]
    exact congrArg₂ (fun p q => x (ix3 b p q)) (Fin.ext (by show i.val - 1 = ((i.val - 1) * 32 + (j.val - 1)) / 32; omega))
      (Fin.ext (by show j.val - 1 = ((i.val - 1) * 32 + (j.val - 1)) % 32; omega))
  · omega
  · rfl

/-- The sum over the eight cells around a cell, spelt out. -/
theorem aroundSum_cell (z : FVec Ideal S32x34x34 .f32) (b i j : Fin 32) :
    aroundSum z (ix3 b i j) =
      z (ix3 b ⟨i.val, by omega⟩ ⟨j.val, by omega⟩) + z (ix3 b ⟨i.val, by omega⟩ ⟨1 + j.val, by omega⟩)
      + z (ix3 b ⟨i.val, by omega⟩ ⟨2 + j.val, by omega⟩) + z (ix3 b ⟨1 + i.val, by omega⟩ ⟨j.val, by omega⟩)
      + z (ix3 b ⟨1 + i.val, by omega⟩ ⟨2 + j.val, by omega⟩) + z (ix3 b ⟨2 + i.val, by omega⟩ ⟨j.val, by omega⟩)
      + z (ix3 b ⟨2 + i.val, by omega⟩ ⟨1 + j.val, by omega⟩) + z (ix3 b ⟨2 + i.val, by omega⟩ ⟨2 + j.val, by omega⟩) := by
  pointwise [aroundSum, allCells]

/-- The sum over the eight cells around a cell: that cell's value where it is one of them. -/
theorem ring_cell (hx : ∀ n, cellsOf x b n = if n = s then v else 0) (n : Fin 1024) :
    cellsOf (ring x) b n = if Near n s ∧ n ≠ s then v else 0 := by
  have hne : n ≠ s ↔ ¬ (n.val / 32 = s.val / 32 ∧ n.val % 32 = s.val % 32) := by
    rw [ne_eq, Fin.ext_iff]; omega
  show aroundSum (bordered x) _ = _
  rw [aroundSum_cell]
  simp only [bordered_cell hx, hne, Near]
  by_cases h : n.val / 32 ≤ s.val / 32 + 1 ∧ s.val / 32 ≤ n.val / 32 + 1 ∧ n.val % 32 ≤ s.val % 32 + 1 ∧ s.val % 32 ≤ n.val % 32 + 1
  · have h1 : s.val / 32 + 1 = n.val / 32 ∨ s.val / 32 + 1 = 1 + n.val / 32 ∨ s.val / 32 + 1 = 2 + n.val / 32 := by omega
    have h2 : s.val % 32 + 1 = n.val % 32 ∨ s.val % 32 + 1 = 1 + n.val % 32 ∨ s.val % 32 + 1 = 2 + n.val % 32 := by omega
    have h3 : ((n.val / 32 ≤ s.val / 32 + 1 ∧ s.val / 32 ≤ n.val / 32 + 1 ∧ n.val % 32 ≤ s.val % 32 + 1 ∧ s.val % 32 ≤ n.val % 32 + 1)
        ∧ ¬ (n.val / 32 = s.val / 32 ∧ n.val % 32 = s.val % 32)) ↔ ¬ (s.val / 32 + 1 = 1 + n.val / 32 ∧ s.val % 32 + 1 = 1 + n.val % 32) := by omega
    rw [if_congr h3 rfl rfl]
    rcases h1 with h1 | h1 | h1 <;> rcases h2 with h2 | h2 | h2 <;> simp [h1, h2]
  · refine Eq.trans ?_ (if_neg fun g => h g.1).symm
    rw [if_neg (by omega), if_neg (by omega), if_neg (by omega), if_neg (by omega), if_neg (by omega),
      if_neg (by omega), if_neg (by omega), if_neg (by omega)]
    simp

end Cert.ReferenceIdeal.Search

end
-- ==== Proof.Val.Bits.lean ====
module

public import Idealize.ShloMosaic.Lib.Pointwise

/-! One-bit integers as truth values, and the small integers the search counts its cells with. -/

@[expose] public section

noncomputable section

namespace Cert.Search

open Idealize.ShloMosaic

theorem select_ofBool {α : Type} (p : Bool) (a b : α) : Scalar.select (BitVec.ofBool p) a b = if p = true then a else b := by
  cases p <;> rfl
theorem ori_ofBool (p q : Bool) : IntOp.ori (BitVec.ofBool p) (BitVec.ofBool q) = BitVec.ofBool (p || q) := by
  cases p <;> cases q <;> rfl
theorem andi_ofBool (p q : Bool) : IntOp.andi (BitVec.ofBool p) (BitVec.ofBool q) = BitVec.ofBool (p && q) := by
  cases p <;> cases q <;> rfl
theorem uitofp_ofBool (p : Bool) : (FloatOps.uitofp .f32 (BitVec.ofBool p) : Ideal .f32) = if p = true then (1 : EReal) else 0 := by
  change (((BitVec.ofBool p).toNat : ℝ) : EReal) = _
  cases p <;> simp
theorem slt_ofBool (i j : BitVec 32) : IntOp.cmpi .slt i j = BitVec.ofBool (decide (i.toInt < j.toInt)) := rfl

/-- Two cells' numbers compare equal exactly when the cells are one. -/
theorem eq_cell (n s : Fin 1024) : IntOp.cmpi .eq (BitVec.ofNat 32 n.val) (BitVec.ofNat 32 s.val) = BitVec.ofBool (decide (n = s)) := by
  have h : (BitVec.ofNat 32 n.val == BitVec.ofNat 32 s.val) = decide (n = s) := by
    rw [Bool.eq_iff_iff, beq_iff_eq, decide_eq_true_iff]
    constructor
    · intro h
      have := congrArg BitVec.toNat h
      rw [BitVec.toNat_ofNat, BitVec.toNat_ofNat] at this
      exact Fin.ext (by omega)
    · rintro rfl; rfl
  exact congrArg BitVec.ofBool h

theorem ne_cell (n s : Fin 1024) : IntOp.cmpi .ne (BitVec.ofNat 32 n.val) (BitVec.ofNat 32 s.val) = BitVec.ofBool (decide (n ≠ s)) := by
  have h : (BitVec.ofNat 32 n.val != BitVec.ofNat 32 s.val) = decide (n ≠ s) := by
    rw [Bool.eq_iff_iff, bne_iff_ne, decide_eq_true_iff]
    refine not_congr ⟨fun h => ?_, fun h => by rw [h]⟩
    have := congrArg BitVec.toNat h
    rw [BitVec.toNat_ofNat, BitVec.toNat_ofNat] at this
    exact Fin.ext (by omega)
  exact congrArg BitVec.ofBool h

/-- A row or a column lies at one from another, as an unsigned difference. -/
theorem within (a b : Fin 32) : IntOp.cmpi .ule (IntOp.subi (BitVec.ofNat 32 a.val) (IntOp.subi (BitVec.ofNat 32 b.val) 1#32)) 2#32
    = BitVec.ofBool (decide (a.val ≤ b.val + 1 ∧ b.val ≤ a.val + 1)) := by
  revert a b; decide +kernel

/-- A cell's row and column, from its number. -/
theorem shrsi_cell (s : Fin 1024) : IntOp.shrsi .vector (BitVec.ofNat 32 s.val) 5#32 = BitVec.ofNat 32 (s.val / 32) := by
  revert s; decide +kernel
theorem shrsi_host (s : Fin 1024) : IntOp.shrsi .host (BitVec.ofNat 32 s.val) 5#32 = BitVec.ofNat 32 (s.val / 32) := by
  revert s; decide +kernel
theorem andi_cell (s : Fin 1024) : IntOp.andi (BitVec.ofNat 32 s.val) 31#32 = BitVec.ofNat 32 (s.val % 32) := by
  revert s; decide +kernel

end Cert.Search

end
-- ==== Proof.Val.Argmax.lean ====
module

public import proofs.«01_k».proof.Proof.Val.Spec
public import proofs.«01_k».proof.Proof.Val.Bits
public import proofs.«01_k».proof.Proof.Ref.Fun
public import proofs.«01_k».proof.Proof.Gen.KernelIdeal.Skeleton
public import Idealize.ShloMosaic.PureOps.Reduce

/-! The two searches for the greatest value of a row, the kernel's and the host's: both answer the number of the first
cell of greatest value. -/

@[expose] public section

noncomputable section

namespace Cert.Search

open Idealize.ShloMosaic

/-- The least coordinate of a set of cells that holds exactly the row's greatest. -/
theorem min_of_greatest (x : Cert.KernelIdeal.S16x1024.Idx → EReal) (r : Fin 16) (E : Finset Cert.KernelIdeal.S16x1024.Idx)
    (hE : ∀ i, i ∈ E ↔ ∃ k : Fin 1024, ix2 r k = i ∧ ∀ k' : Fin 1024, x (ix2 r k') ≤ x (ix2 r k)) :
    (E.image fun i => (i 1).val).min = ((top fun n => x (ix2 r n)).val : WithTop ℕ) := by
  obtain ⟨hs, hl⟩ := top_spec fun n => x (ix2 r n)
  apply le_antisymm
  · exact Finset.min_le (Finset.mem_image.mpr ⟨ix2 r (top fun n => x (ix2 r n)), (hE _).mpr ⟨_, rfl, hs⟩, rfl⟩)
  · refine Finset.le_min fun a ha => ?_
    obtain ⟨i, hi, rfl⟩ := Finset.mem_image.mp ha
    obtain ⟨k, rfl, hk⟩ := (hE i).mp hi
    exact WithTop.coe_le_coe.mpr (le_of_not_gt fun h => absurd (hl k h) (not_lt_of_ge (hk _)))

/-- The kernel's: the least coordinate among the row's greatest. -/
theorem reduceIndex_row (x : FVec Ideal Cert.KernelIdeal.S16x1024 .f32) (h : Cert.KernelIdeal.S16x1024.Reduces [1] Cert.KernelIdeal.S16) (r : Fin 16) :
    reduceIndex .argMax 1 Cert.KernelIdeal.S16 x h (ix1 r) = BitVec.ofNat 32 (top fun n => x (ix2 r n)).val := by
  change Ideal.reduceIndex .argMax 1 h x (ix1 r) = _
  unfold Ideal.reduceIndex
  have hf : ∀ i : Cert.KernelIdeal.S16x1024.Idx, h.drop i = ix1 r ↔ ∃ k : Fin 1024, ix2 r k = i := fun i => h.fiber_r2_a1 (ix1 r) i
  dsimp only
  rw [min_of_greatest x r]
  · rfl
  · intro i
    simp only [Finset.mem_filter, Finset.mem_univ, true_and, hf, if_true, not_lt]
    constructor
    · rintro ⟨⟨k, rfl⟩, h⟩
      exact ⟨k, rfl, fun k' => h _ ⟨k', rfl⟩⟩
    · rintro ⟨k, rfl, h⟩
      exact ⟨⟨k, rfl⟩, by rintro _ ⟨k', rfl⟩; exact h k'⟩

/-! ### The host's -/

/-- One pair of a value and a number goes before another: a greater value, or the same and a lesser number. -/
def Before (p q : EReal × BitVec 32) : Prop := q.1 < p.1 ∨ p.1 = q.1 ∧ p.2.toInt < q.2.toInt

/-- The host's body keeps the pair that goes before. -/
theorem reducer_eq (p q : EReal × BitVec 32) [Decidable (Before q p)] :
    Cert.ReferenceIdeal.reducer_argmax_f32_i32 (F := Ideal) p q = if Before q p then q else p := by
  obtain ⟨a, i⟩ := p
  obtain ⟨b, j⟩ := q
  unfold Cert.ReferenceIdeal.reducer_argmax_f32_i32
  unfold Before at *
  pointwise []
  rw [slt_ofBool, andi_ofBool, ori_ofBool, ori_ofBool, select_ofBool, select_ofBool]
  by_cases h : b < a
  · have h1 : ¬ a < b := not_lt_of_gt h
    have h2 : ¬ b = a := h.ne
    simp [h, h1, h2]
  · by_cases h1 : a < b
    · have h2 : ¬ a = b := h1.ne
      simp [h, h1, h2]
    · obtain rfl : a = b := le_antisymm (not_lt.mp h) (not_lt.mp h1)
      rcases lt_trichotomy i.toInt j.toInt with h3 | h3 | h3
      · simp [h3, not_lt_of_gt h3]
      · obtain rfl : i = j := BitVec.eq_of_toInt_eq h3
        simp
      · simp [h3, not_lt_of_gt h3]

/-- The fold over a list answers a pair of it, or the one it starts from, which no other goes before. -/
theorem foldl_first (l : List (EReal × BitVec 32)) (p : EReal × BitVec 32) :
    (l.foldl (Cert.ReferenceIdeal.reducer_argmax_f32_i32 (F := Ideal)) p ∈ p :: l)
      ∧ ∀ q ∈ p :: l, ¬ Before q (l.foldl (Cert.ReferenceIdeal.reducer_argmax_f32_i32 (F := Ideal)) p) := by
  classical
  induction l generalizing p with
  | nil => exact ⟨List.mem_singleton.mpr rfl, fun q hq => by rw [List.mem_singleton.mp hq]; unfold Before; simp⟩
  | cons a l ih =>
    rw [List.foldl_cons, reducer_eq]
    by_cases hb : Before a p
    · rw [if_pos hb]
      obtain ⟨h1, h2⟩ := ih a
      refine ⟨List.mem_cons_of_mem _ h1, fun q hq => ?_⟩
      rcases List.mem_cons.mp hq with rfl | hq
      · intro h
        refine h2 a List.mem_cons_self ?_
        revert h hb
        generalize List.foldl _ _ _ = z
        unfold Before
        rintro (h | ⟨h, h'⟩) (g | ⟨g, g'⟩)
        · exact .inl (g.trans h)
        · exact .inl (g ▸ h)
        · exact .inl (h ▸ g)
        · exact .inr ⟨h.trans g, h'.trans g'⟩
      · exact h2 q hq
    · rw [if_neg hb]
      obtain ⟨h1, h2⟩ := ih p
      refine ⟨?_, fun q hq => ?_⟩
      · rcases List.mem_cons.mp h1 with h | h
        · exact List.mem_cons.mpr (.inl h)
        · exact List.mem_cons_of_mem _ (List.mem_cons_of_mem _ h)
      · rcases List.mem_cons.mp hq with rfl | hq
        · exact h2 q List.mem_cons_self
        · rcases List.mem_cons.mp hq with rfl | hq
          · intro h
            have h2' := h2 p List.mem_cons_self
            revert h h2' hb
            generalize List.foldl _ _ _ = z
            unfold Before
            intro hb h h2'
            rw [not_or, not_and, not_lt, not_lt] at hb h2'
            rcases h with h | ⟨h, h'⟩
            · exact absurd (h.trans_le (hb.1.trans h2'.1)) (lt_irrefl _)
            · have e : p.1 = z.1 := le_antisymm h2'.1 (h ▸ hb.1)
              have := hb.2 (h.trans e.symm)
              have := h2'.2 e
              omega
          · exact h2 q (List.mem_cons_of_mem _ hq)

open Cert.ReferenceIdeal Cert.ReferenceIdeal.Gen Cert.ReferenceIdeal.Search in
/-- The host's: the number of the first cell of greatest value, on a row above minus infinity. -/
theorem best_row (y : FVec Ideal S32x1024 .f32) (b : Fin 32) (hy : ∀ n, y (ix2 b n) ≠ ⊥) :
    best y (ix1 b) = BitVec.ofNat 32 (top fun n => y (ix2 b n)).val := by
  have hf : ∀ i : S32x1024.Idx, reducesTo_S32x1024_S32_d1.drop i = ix1 b ↔ ∃ k : Fin 1024, ix2 b k = i :=
    fun i => reducesTo_S32x1024_S32_d1.fiber_r2_a1 (ix1 b) i
  unfold best
  rw [Ideal.argReduce_eq_reduce2, Host.reduce2_eq_foldl_fiber]
  obtain ⟨h1, h2⟩ := foldl_first (Host.argReduceFiber y (iotaInDim S32x1024 32 1) reducesTo_S32x1024_S32_d1 (ix1 b)) (Ideal.ofBits .f32 0xFF800000#32, 0#32)
  have mem : ∀ k : Fin 1024, (y (ix2 b k), BitVec.ofNat 32 k.val) ∈ Host.argReduceFiber y (iotaInDim S32x1024 32 1) reducesTo_S32x1024_S32_d1 (ix1 b) := by
    intro k
    refine List.mem_map.mpr ⟨S32x1024.rowMajor (ix2 b k), List.mem_filter.mpr ⟨List.mem_finRange _, ?_⟩, ?_⟩
    · rw [Equiv.symm_apply_apply]; exact decide_eq_true ((hf _).mpr ⟨k, rfl⟩)
    · rw [Equiv.symm_apply_apply]; rfl
  have mem' : ∀ p ∈ Host.argReduceFiber y (iotaInDim S32x1024 32 1) reducesTo_S32x1024_S32_d1 (ix1 b), ∃ k : Fin 1024, p = (y (ix2 b k), BitVec.ofNat 32 k.val) := by
    intro p hp
    obtain ⟨n, hn, rfl⟩ := List.mem_map.mp hp
    obtain ⟨k, hk⟩ := (hf _).mp (of_decide_eq_true (List.mem_filter.mp hn).2)
    exact ⟨k, by rw [← hk]; rfl⟩
  change (List.foldl reducer_argmax_f32_i32 (Ideal.ofBits .f32 0xFF800000#32, 0#32) _).2 = _
  generalize hz : List.foldl (reducer_argmax_f32_i32 (F := Ideal)) (Ideal.ofBits .f32 0xFF800000#32, 0#32) _ = z at h1 h2 ⊢
  have hbot : Ideal.ofBits .f32 0xFF800000#32 = ⊥ := by simp [Ideal.ofBits, Ideal.ieee]
  have num : ∀ k : Fin 1024, (BitVec.ofNat 32 k.val).toInt = k.val := by decide +kernel
  rcases List.mem_cons.mp h1 with rfl | h1
  · exact absurd (.inl (by rw [hbot]; exact bot_lt_iff_ne_bot.mpr (hy 0))) (h2 _ (List.mem_cons_of_mem _ (mem 0)))
  · obtain ⟨k, rfl⟩ := mem' z h1
    have top : IsTop (fun n => y (ix2 b n)) k := by
      refine ⟨fun n => le_of_not_gt fun h => h2 _ (List.mem_cons_of_mem _ (mem n)) (.inl h), fun n hn => ?_⟩
      refine lt_of_le_of_ne (le_of_not_gt fun h => h2 _ (List.mem_cons_of_mem _ (mem n)) (.inl h)) fun h => ?_
      refine h2 _ (List.mem_cons_of_mem _ (mem n)) (.inr ⟨h, ?_⟩)
      show (BitVec.ofNat 32 n.val).toInt < (BitVec.ofNat 32 k.val).toInt
      rw [num, num]; exact_mod_cast hn
    rw [top.top_eq]

end Cert.Search

end
-- ==== Proof.Val.Good.lean ====
module

public import proofs.«01_k».proof.Proof.Val.Spec

/-! What every step of the search keeps: the lengths are real numbers, the open and the closed maps hold zeros and ones,
a cell touching a closed one is open or closed, one more cell is closed at most. So before all 1024 cells are closed
some cell is open, its weight is positive, and the selected cell is open. -/

@[expose] public section

noncomputable section

namespace Cert.Search

open Idealize.ShloMosaic
open scoped Classical

/-! ### The constants are real numbers -/

theorem real_minusOne : ∃ r : ℝ, Ideal.ofBits .f32 0xBF800000#32 = r := by
  simp [Ideal.ofBits, Ideal.ieee]
  exact ⟨_, rfl⟩
theorem real_half : ∃ r : ℝ, Ideal.ofBits .f32 0x3F000000#32 = r := by
  simp [Ideal.ofBits, Ideal.ieee]
  exact ⟨_, rfl⟩
theorem real_root : ∃ r : ℝ, 0 < r ∧ Ideal.ofBits .f32 0x40B504F3#32 = r := by
  simp [Ideal.ofBits, Ideal.ieee]
  exact ⟨_, by norm_num, rfl⟩
theorem real_tiny : ∃ r : ℝ, 0 < r ∧ Ideal.ofBits .f32 0x0DA24260#32 = r := by
  simp [Ideal.ofBits, Ideal.ieee]
  exact ⟨_, by norm_num, rfl⟩
/-- The bound below which the overlap of the selected cell and the goal counts as none. -/
theorem real_bound : ∃ r : ℝ, 0 < r ∧ r < 1 ∧ Ideal.ofBits .f32 0x322BCC77#32 = r := by
  simp [Ideal.ofBits, Ideal.ieee]
  exact ⟨_, by norm_num, by norm_num, rfl⟩

/-! ### Touching cells -/

/-- A set of cells that holds one cell, and with a cell every cell touching it, holds all. -/
theorem all_of_near {P : Fin 1024 → Prop} (h : ∀ n m, P n → Near m n → P m) (s : Fin 1024) (hs : P s) (t : Fin 1024) : P t := by
  let cell : ℕ → ℕ → Fin 1024 := fun a b => ⟨a % 32 * 32 + b % 32, by omega⟩
  have near : ∀ a b a' b', a < 32 → b < 32 → a' < 32 → b' < 32 → a ≤ a' + 1 → a' ≤ a + 1 → b ≤ b' + 1 → b' ≤ b + 1 →
      P (cell a b) → P (cell a' b') := by
    intro a b a' b' ha hb ha' hb' h1 h2 h3 h4 hp
    refine h _ _ hp ?_
    unfold Near
    simp only [cell]
    omega
  have eta : ∀ n : Fin 1024, cell (n.val / 32) (n.val % 32) = n := fun n => Fin.ext (by simp only [cell]; omega)
  have down : ∀ a b, a < 32 → b < 32 → P (cell a b) → P (cell 0 b) := by
    intro a
    induction a with
    | zero => exact fun b _ _ hp => hp
    | succ a ih => exact fun b ha hb hp => ih b (by omega) hb (near (a + 1) b a b ha hb (by omega) hb (by omega) (by omega) (by omega) (by omega) hp)
  have left : ∀ b, b < 32 → P (cell 0 b) → P (cell 0 0) := by
    intro b
    induction b with
    | zero => exact fun _ hp => hp
    | succ b ih => exact fun hb hp => ih (by omega) (near 0 (b + 1) 0 b (by omega) hb (by omega) (by omega) (by omega) (by omega) (by omega) (by omega) hp)
  have right : ∀ b, b < 32 → P (cell 0 0) → P (cell 0 b) := by
    intro b
    induction b with
    | zero => exact fun _ hp => hp
    | succ b ih => exact fun hb hp => near 0 b 0 (b + 1) (by omega) (by omega) (by omega) hb (by omega) (by omega) (by omega) (by omega) (ih (by omega) hp)
  have up : ∀ a b, a < 32 → b < 32 → P (cell 0 b) → P (cell a b) := by
    intro a
    induction a with
    | zero => exact fun b _ _ hp => hp
    | succ a ih => exact fun b ha hb hp => near a b (a + 1) b (by omega) hb ha hb (by omega) (by omega) (by omega) (by omega) (ih b (by omega) hb hp)
  have hs' := eta s ▸ hs
  rw [← eta t]
  exact up _ _ (by omega) (by omega) (right _ (by omega) (left _ (by omega) (down _ _ (by omega) (by omega) hs')))

/-! ### What a step keeps -/

/-- What holds of a map after `k` steps. -/
structure Good (k : ℕ) (S : Row) : Prop where
  real : ∀ n, ∃ r : ℝ, S.len n = r
  opn : ∀ n, S.opn n = 0 ∨ S.opn n = 1
  cls : ∀ n, S.cls n = 0 ∨ S.cls n = 1
  edge : ∀ n m, S.cls n = 1 → Near m n → S.opn m = 1 ∨ S.cls m = 1
  few : (Finset.univ.filter fun n => S.cls n = 1).card ≤ k
  some : ∃ n, S.opn n = 1 ∨ S.cls n = 1

/-- Before every cell is closed, some cell is open. -/
theorem Good.exists_open {k : ℕ} {S : Row} (h : Good k S) (hk : k < 1024) : ∃ n, S.opn n = 1 := by
  by_contra hno
  have none : ∀ n, S.opn n ≠ 1 := fun n hn => hno ⟨n, hn⟩
  obtain ⟨n, hn⟩ := h.some
  have all : ∀ m, S.cls m = 1 := all_of_near (P := fun m => S.cls m = 1)
    (fun n m hn hm => (h.edge n m hn hm).resolve_left (none m)) n (hn.resolve_left (none n))
  have := h.few
  rw [Finset.filter_true_of_mem (fun m _ => all m), Finset.card_univ, Fintype.card_fin] at this
  omega

/-- A step keeps it. -/
theorem Good.move {k : ℕ} {S : Row} (h : Good k S) {cost : Fin 1024 → EReal} (hc : ∀ n, ∃ r : ℝ, cost n = r) (gi s : Fin 1024) :
    Good (k + 1) (move cost gi s S) := by
  have keep : ∀ m, S.opn m = 1 ∨ S.cls m = 1 → (Search.move cost gi s S).opn m = 1 ∨ (Search.move cost gi s S).cls m = 1 := by
    intro m hm
    simp only [Search.move]
    by_cases e : m = s
    · right; rw [if_pos e]
    · rw [if_neg e]
      rcases hm with hm | hm
      · left
        split_ifs with h1 h2
        · rfl
        · exact absurd h2.1 e
        · exact hm
      · right; exact hm
  have touch : ∀ m, Near m s → (Search.move cost gi s S).opn m = 1 ∨ (Search.move cost gi s S).cls m = 1 := by
    intro m hm
    rcases h.opn m with ho | ho
    · rcases h.cls m with hh | hh
      · left
        simp only [Search.move]
        rw [if_pos ⟨hm, .inl (by rw [ho, hh, add_zero])⟩]
      · exact keep m (.inr hh)
    · exact keep m (.inl ho)
  refine ⟨fun n => ?_, fun n => ?_, fun n => ?_, fun n m hn hm => ?_, ?_, ?_⟩
  · simp only [Search.move]
    split_ifs
    · obtain ⟨a, ha⟩ := h.real s
      obtain ⟨b, hb⟩ := hc s
      exact ⟨a + b, by rw [ha, hb, EReal.coe_add]⟩
    · exact h.real n
  · simp only [Search.move]
    split_ifs
    · exact .inr rfl
    · exact .inl rfl
    · exact h.opn n
  · simp only [Search.move]
    split_ifs
    · exact .inr rfl
    · exact h.cls n
  · by_cases e : n = s
    · exact touch m (e ▸ hm)
    · simp only [Search.move, if_neg e] at hn
      exact keep m (h.edge n m hn hm)
  · refine (Finset.card_le_card (t := insert s (Finset.univ.filter fun n => S.cls n = 1)) fun n hn => ?_).trans
      ((Finset.card_insert_le _ _).trans (Nat.add_le_add_right h.few 1))
    have hn' := (Finset.mem_filter.mp hn).2
    by_cases e : n = s
    · exact Finset.mem_insert.mpr (.inl e)
    · simp only [Search.move, if_neg e] at hn'
      exact Finset.mem_insert.mpr (.inr (Finset.mem_filter.mpr ⟨Finset.mem_univ _, hn'⟩))
  · obtain ⟨n, hn⟩ := h.some
    exact ⟨n, keep n hn⟩

/-! ### The selected cell is open -/

/-- The weight of a cell: a positive number times one where the cell is open. -/
theorem weight_real {hm g o : Fin 1024 → EReal} (hhm : ∀ n, ∃ r : ℝ, hm n = r) (hg : ∀ n, ∃ r : ℝ, g n = r) (n : Fin 1024) :
    ∃ r : ℝ, 0 < r ∧ weight hm g o n = r * o n := by
  obtain ⟨a, ha⟩ := real_minusOne
  obtain ⟨b, hb⟩ := real_half
  obtain ⟨c, hc, hc'⟩ := real_root
  obtain ⟨x, hx⟩ := hg n
  obtain ⟨y, hy⟩ := hhm n
  refine ⟨Real.exp (a * (b * x + b * y) * (1 / c)), Real.exp_pos _, ?_⟩
  unfold weight
  rw [ha, hb, hc', hx, hy, Ideal.div_coe hc.ne', ← EReal.coe_mul, ← EReal.coe_mul, ← EReal.coe_add, ← EReal.coe_mul, ← EReal.coe_mul, Ideal.exp_coe]

/-- The weights are real numbers, none below zero. -/
theorem weight_nonneg {hm g o : Fin 1024 → EReal} (hhm : ∀ n, ∃ r : ℝ, hm n = r) (hg : ∀ n, ∃ r : ℝ, g n = r)
    (ho : ∀ n, o n = 0 ∨ o n = 1) (n : Fin 1024) : ∃ r : ℝ, 0 ≤ r ∧ weight hm g o n = r := by
  obtain ⟨r, hr, e⟩ := weight_real (o := o) hhm hg n
  rcases ho n with h | h
  · exact ⟨0, le_rfl, by rw [e, h, mul_zero, EReal.coe_zero]⟩
  · exact ⟨r, hr.le, by rw [e, h, mul_one]⟩

/-- A sum of real numbers, among the extended reals. -/
theorem coe_sum {ι : Type*} (s : Finset ι) (r : ι → ℝ) : ((∑ k ∈ s, r k : ℝ) : EReal) = ∑ k ∈ s, (r k : EReal) :=
  map_sum (⟨⟨Real.toEReal, EReal.coe_zero⟩, EReal.coe_add⟩ : ℝ →+ EReal) r s

/-- The divisor of the shares is a positive real number. -/
theorem divisor_real {w : Fin 1024 → EReal} (hw : ∀ n, ∃ r : ℝ, 0 ≤ r ∧ w n = r) :
    ∃ d : ℝ, 0 < d ∧ max (∑ k, w k) (Ideal.ofBits .f32 0x0DA24260#32) = d := by
  obtain ⟨t, ht, ht'⟩ := real_tiny
  choose r _ hr using hw
  refine ⟨max (∑ k, r k) t, lt_max_of_lt_right ht, ?_⟩
  rw [ht', EReal.coe_strictMono.monotone.map_max, coe_sum]
  simp only [hr]

/-- The shares: the weights times one positive real number. -/
theorem share_real {w : Fin 1024 → EReal} (hw : ∀ n, ∃ r : ℝ, 0 ≤ r ∧ w n = r) : ∃ d : ℝ, 0 < d ∧ ∀ n, share w n = w n * d := by
  obtain ⟨d, hd, e⟩ := divisor_real hw
  exact ⟨1 / d, by positivity, fun n => by unfold share; rw [e, Ideal.div_coe hd.ne']⟩

variable {k : ℕ} {S : Row} {hm : Fin 1024 → EReal}

/-- Every share is a real number. -/
theorem Good.share (h : Good k S) (hhm : ∀ n, ∃ r : ℝ, hm n = r) (n : Fin 1024) :
    ∃ r : ℝ, share (weight hm S.len S.opn) n = r := by
  obtain ⟨d, -, e⟩ := share_real (weight_nonneg hhm h.real h.opn)
  obtain ⟨r, -, hr⟩ := weight_nonneg hhm h.real h.opn n
  exact ⟨r * d, by rw [e, hr, EReal.coe_mul]⟩

/-- The selected cell is open. -/
theorem Good.sel_open (h : Good k S) (hk : k < 1024) (hhm : ∀ n, ∃ r : ℝ, hm n = r) : S.opn (sel hm S) = 1 := by
  obtain ⟨d, hd, e⟩ := share_real (weight_nonneg hhm h.real h.opn)
  obtain ⟨n, hn⟩ := h.exists_open hk
  obtain ⟨r, hr, hr'⟩ := weight_real (o := S.opn) hhm h.real n
  have le := (top_spec (Search.share (weight hm S.len S.opn))).1 n
  change _ ≤ Search.share _ (sel hm S) at le
  refine (h.opn _).resolve_left fun h0 => ?_
  obtain ⟨q, -, hq⟩ := weight_real (o := S.opn) hhm h.real (sel hm S)
  rw [e, e, hr', hq, h0, hn, mul_one, mul_zero, zero_mul, ← EReal.coe_mul] at le
  exact absurd (EReal.coe_nonpos.mp le) (not_le_of_gt (mul_pos hr hd))

/-- So it holds after a step of the search. -/
theorem Good.next (h : Good k S) {cost : Fin 1024 → EReal} (hc : ∀ n, ∃ r : ℝ, cost n = r) (gi : Fin 1024) :
    Good (k + 1) (next hm cost gi S) := h.move hc gi _

end Cert.Search

end
-- ==== Proof.Val.RefCells.lean ====
module

public import proofs.«01_k».proof.Proof.Val.Ring
public import proofs.«01_k».proof.Proof.Val.Argmax
public import proofs.«01_k».proof.Proof.Val.Bits
public import proofs.«01_k».proof.Proof.Val.Good

/-! What the pieces of the reference's step hold at a cell of one map: the weights are those of the rule, the selected
cell carries a one and every other cell a zero. -/

@[expose] public section

set_option maxRecDepth 8000

noncomputable section

namespace Cert.ReferenceIdeal.Search

open Idealize.ShloMosaic Cert.ReferenceIdeal Cert.ReferenceIdeal.Gen Cert.Search
open scoped Classical

theorem one_sub_one : (1 : EReal) - 1 = 0 := by
  rw [← EReal.coe_one, ← EReal.coe_sub, sub_self, EReal.coe_zero]
theorem clip_bit {x : EReal} (h : x = 0 ∨ x = 1) : min 1 (max 0 x) = x := by
  rcases h with rfl | rfl <;> simp
theorem clip_two : min (1 : EReal) (max 0 (1 + 1)) = 1 := by
  refine min_eq_left (le_max_of_le_right ?_)
  rw [← EReal.coe_one, ← EReal.coe_add, EReal.coe_le_coe_iff]
  norm_num

theorem flat_cell (w : Maps Ideal) (b : Fin 32) (n : Fin 1024) :
    (shapeCast S32x1024 w shapeCasts_S32x32x32_S32x1024) (ix2 b n) = cellsOf w b n := by
  pointwise []

theorem score_cell (hm g o : Maps Ideal) (b : Fin 32) (n : Fin 1024) :
    cellsOf (score hm g o) b n = weight (cellsOf hm b) (cellsOf g b) (cellsOf o b) n := by
  pointwise [score, allCells, weight]

theorem shares_cell (w : FVec Ideal S32x1024 .f32) (b : Fin 32) (n : Fin 1024) :
    shares w (ix2 b n) = share (fun k => w (ix2 b k)) n := by
  pointwise [shares, share]

/-- The shares the reference selects by are those of the rule. -/
theorem weigh_cell (hm g o : Maps Ideal) (b : Fin 32) (n : Fin 1024) :
    weigh hm g o (ix2 b n) = share (weight (cellsOf hm b) (cellsOf g b) (cellsOf o b)) n := by
  show shares _ _ = _
  rw [shares_cell]
  refine congrArg (fun w => share w n) (funext fun k => ?_)
  rw [flat_cell, score_cell]

theorem mark_cell (k : IVec S32 32) (b : Fin 32) (s n : Fin 1024) (hk : k (ix1 b) = BitVec.ofNat 32 s.val) :
    mark (F := Ideal) k (ix2 b n) = if n = s then (1 : EReal) else 0 := by
  have h : mark (F := Ideal) k (ix2 b n) = FloatOps.uitofp .f32 (IntOp.cmpi .eq (k (ix1 b)) (BitVec.ofNat 32 n.val)) := by
    pointwise [mark]
  rw [h, hk, eq_cell, uitofp_ofBool]
  exact if_congr (decide_eq_true_iff.trans eq_comm) rfl rfl

theorem pick_cell (m y : FVec Ideal S32x1024 .f32) (b i j : Fin 32) :
    pick m y (ix3 b i j) = m (ix2 b (cellAt i j)) - y (ix2 b (cellAt i j)) + y (ix2 b (cellAt i j)) := by
  pointwise [pick]

section
variable {hm g o h : Maps Ideal} {b : Fin 32} {k : ℕ}

/-- The selected cell carries a one, every other cell a zero. -/
theorem selA_cell (hG : Good k ⟨cellsOf g b, cellsOf o b, cellsOf h b⟩) (hhm : ∀ n, ∃ r : ℝ, cellsOf hm b n = r) (n : Fin 1024) :
    cellsOf (selA hm g o) b n = if n = sel (cellsOf hm b) ⟨cellsOf g b, cellsOf o b, cellsOf h b⟩ then (1 : EReal) else 0 := by
  have hreal : ∀ n, ∃ r : ℝ, weigh hm g o (ix2 b n) = (r : EReal) := fun n => by
    obtain ⟨r, hr⟩ := hG.share hhm n
    exact ⟨r, (weigh_cell hm g o b n).trans hr⟩
  have hk := best_row (weigh hm g o) b fun n => by
    obtain ⟨r, hr⟩ := hreal n
    rw [hr]; exact EReal.coe_ne_bot r
  have hs : (top fun n => weigh hm g o (ix2 b n)) = sel (cellsOf hm b) ⟨cellsOf g b, cellsOf o b, cellsOf h b⟩ :=
    congrArg top (funext fun n => weigh_cell hm g o b n)
  rw [hs] at hk
  show pick _ _ _ = _
  rw [pick_cell, cellAt_eta, mark_cell _ b _ n hk]
  obtain ⟨r, hr⟩ := hreal n
  rw [hr]
  split_ifs
  · rw [← EReal.coe_one, ← EReal.coe_sub, ← EReal.coe_add, sub_add_cancel]
  · rw [← EReal.coe_zero, ← EReal.coe_sub, ← EReal.coe_add, sub_add_cancel]
end

/-- Whether the selected cell is not the goal. -/
theorem goOn_cell (x goal : Maps Ideal) (b : Fin 32) (s q : Fin 1024) (hx : ∀ n, cellsOf x b n = if n = s then (1 : EReal) else 0)
    (hq : ∀ n, cellsOf goal b n = if n = q then (1 : EReal) else 0) :
    goOn x goal (ix3 b 0 0) = if s ≠ q then (1 : EReal) else 0 := by
  have h : goOn x goal (ix3 b 0 0) = FloatOps.uitofp .f32 (BitVec.ofBool (decide
      (∑ i, ∑ j, x (ix3 b i j) * goal (ix3 b i j) < Ideal.ofBits .f32 0x322BCC77#32))) := by
    pointwise [goOn]
  have at' : ∀ (X : Maps Ideal) (i j : Fin 32), X (ix3 b i j) = cellsOf X b (cellAt i j) := fun X i j =>
    congrArg₂ (fun p q => X (ix3 b p q)) (Fin.ext (by show i.val = (i.val * 32 + j.val) / 32; omega))
      (Fin.ext (by show j.val = (i.val * 32 + j.val) % 32; omega))
  have hsum : ∑ i, ∑ j, x (ix3 b i j) * goal (ix3 b i j) = if s = q then (1 : EReal) else 0 := by
    have hz : ∀ i j, cellAt i j ≠ s → x (ix3 b i j) * goal (ix3 b i j) = 0 := fun i j hne => by
      rw [at' x, hx, if_neg hne, zero_mul]
    rw [Finset.sum_eq_single ⟨s.val / 32, by omega⟩, Finset.sum_eq_single ⟨s.val % 32, by omega⟩]
    · rw [at' x, at' goal, hx, hq, cellAt_eta, if_pos rfl, one_mul]
    · intro j _ hj
      refine hz _ _ fun e => hj (Fin.ext ?_)
      have := congrArg Fin.val e
      have : s.val / 32 * 32 + j.val = s.val := this
      show j.val = s.val % 32
      omega
    · exact fun hn => absurd (Finset.mem_univ _) hn
    · intro i _ hi
      refine Finset.sum_eq_zero fun j _ => hz _ _ fun e => hi (Fin.ext ?_)
      have := congrArg Fin.val e
      have : i.val * 32 + j.val = s.val := this
      show i.val = s.val / 32
      omega
    · exact fun hn => absurd (Finset.mem_univ _) hn
  obtain ⟨r, h0, h1, hr⟩ := real_bound
  rw [h, uitofp_ofBool, hsum, hr]
  by_cases e : s = q
  · rw [if_pos e, if_neg, if_neg (not_not_intro e)]
    rw [decide_eq_true_iff, not_lt, ← EReal.coe_one, EReal.coe_le_coe_iff]
    exact h1.le
  · rw [if_neg e, if_pos, if_pos e]
    rw [decide_eq_true_iff, ← EReal.coe_zero, EReal.coe_lt_coe_iff]
    exact h0

theorem clip_cell (x : Maps Ideal) (b : Fin 32) (n : Fin 1024) : cellsOf (clip x) b n = min 1 (max 0 (cellsOf x b n)) := by
  pointwise [clip, allCells]

theorem cleared_cell (o x : Maps Ideal) (u : FVec Ideal S32x1x1 .f32) (b : Fin 32) (n : Fin 1024) :
    cellsOf (cleared o x u) b n = min 1 (max 0 (cellsOf o b n - u (ix3 b 0 0) * cellsOf x b n)) := by
  pointwise [cleared, clip, allCells]

theorem fresh_cell (g oc h near reach : Maps Ideal) (b : Fin 32) (n : Fin 1024) :
    cellsOf (fresh g oc h near reach) b n = if 0 < (1 - cellsOf oc b n) * (1 - cellsOf h b n) * cellsOf near b n
      + cellsOf oc b n * (if cellsOf reach b n < cellsOf g b n then 1 else 0) * cellsOf near b n then (1 : EReal) else 0 := by
  have e : cellsOf (fresh g oc h near reach) b n = (FloatOps.uitofp .f32 (BitVec.ofBool (decide
      (0 < (1 - cellsOf oc b n) * (1 - cellsOf h b n) * cellsOf near b n
        + cellsOf oc b n * (FloatOps.uitofp .f32 (BitVec.ofBool (decide (cellsOf reach b n < cellsOf g b n))) : Ideal .f32) * cellsOf near b n))) : Ideal .f32) := by
    pointwise [fresh, allCells]
  rw [e, uitofp_ofBool, uitofp_ofBool]
  simp only [decide_eq_true_eq]

theorem relaxed_cell (g reach new : Maps Ideal) (b : Fin 32) (n : Fin 1024) :
    cellsOf (relaxed g reach new) b n = cellsOf reach b n * cellsOf new b n + cellsOf g b n * (1 - cellsOf new b n) := by
  pointwise [relaxed, allCells]

end Cert.ReferenceIdeal.Search

end
-- ==== Proof.Val.Reference.lean ====
module

public import proofs.«01_k».proof.Proof.Val.RefCells
public import proofs.«01_k».proof.Proof.Ref.Final

/-! The reference's step on one map is the step of the rule, for a map the search can be at. -/

@[expose] public section

set_option maxRecDepth 8000

noncomputable section

namespace Cert.ReferenceIdeal.Search

open Idealize.ShloMosaic Cert.ReferenceIdeal Cert.ReferenceIdeal.Gen Cert.Search
open scoped Classical

/-- One map of the three the search carries. -/
abbrev rowOf (A : Arrays Ideal) (b : Fin 32) : Row := ⟨cellsOf A.len b, cellsOf A.opn b, cellsOf A.cls b⟩

section
variable {hm goal cost : Maps Ideal} {A : Arrays Ideal} {b : Fin 32} {k : ℕ} {q : Fin 1024}

/-- The closed map after a step. -/
theorem cls_cell (hG : Good k (rowOf A b)) (hhm : ∀ n, ∃ r : ℝ, cellsOf hm b n = r) (n : Fin 1024) :
    cellsOf (clsA hm A.len A.opn A.cls) b n = if n = sel (cellsOf hm b) (rowOf A b) then (1 : EReal) else cellsOf A.cls b n := by
  show cellsOf (clip (F := Ideal) _) b n = _
  rw [clip_cell]
  have e : cellsOf (addf A.cls (selA hm A.len A.opn)) b n = cellsOf A.cls b n + cellsOf (selA hm A.len A.opn) b n := rfl
  rw [e, selA_cell hG hhm]
  have h : cellsOf A.cls b n = 0 ∨ cellsOf A.cls b n = 1 := hG.cls n
  by_cases hn : n = sel (cellsOf hm b) (rowOf A b)
  · rw [if_pos hn, if_pos hn]
    rcases h with h | h <;> rw [h]
    · rw [zero_add]; exact clip_bit (.inr rfl)
    · exact clip_two
  · rw [if_neg hn, if_neg hn, add_zero]
    exact clip_bit h

/-- The open map once the selected cell is taken out of it. -/
theorem clear_cell (hG : Good k (rowOf A b)) (hhm : ∀ n, ∃ r : ℝ, cellsOf hm b n = r)
    (hq : ∀ n, cellsOf goal b n = if n = q then (1 : EReal) else 0) (n : Fin 1024) :
    cellsOf (clearA hm goal A.len A.opn) b n
      = if n = sel (cellsOf hm b) (rowOf A b) ∧ sel (cellsOf hm b) (rowOf A b) ≠ q then (0 : EReal) else cellsOf A.opn b n := by
  show cellsOf (cleared (F := Ideal) _ _ _) b n = _
  rw [cleared_cell, goOn_cell _ goal b _ q (selA_cell hG hhm) hq, selA_cell hG hhm]
  have h : cellsOf A.opn b n = 0 ∨ cellsOf A.opn b n = 1 := hG.opn n
  by_cases hn : n = sel (cellsOf hm b) (rowOf A b)
  · rw [if_pos hn, mul_one]
    by_cases hs : sel (cellsOf hm b) (rowOf A b) = q
    · rw [if_neg (not_not_intro hs), if_neg (fun h => h.2 hs), sub_zero]
      exact clip_bit h
    · rw [if_pos hs, if_pos ⟨hn, hs⟩]
      rcases h with h | h <;> rw [h]
      · rw [zero_sub]
        refine (congrArg (min 1) (max_eq_left ?_)).trans (by simp)
        rw [← EReal.coe_one, ← EReal.coe_neg, ← EReal.coe_zero, EReal.coe_le_coe_iff]
        norm_num
      · rw [one_sub_one]; exact clip_bit (.inl rfl)
  · have hc : ¬ (n = sel (cellsOf hm b) (rowOf A b) ∧ sel (cellsOf hm b) (rowOf A b) ≠ q) := fun h => hn h.1
    rw [if_neg hn, if_neg hc, mul_zero, sub_zero]
    exact clip_bit h

/-- The path lengths offered around the selected cell. -/
theorem reach_cell (hG : Good k (rowOf A b)) (hhm : ∀ n, ∃ r : ℝ, cellsOf hm b n = r) (n : Fin 1024) :
    cellsOf (reachA hm cost A.len A.opn) b n = if Near n (sel (cellsOf hm b) (rowOf A b)) ∧ n ≠ sel (cellsOf hm b) (rowOf A b) then
      cellsOf A.len b (sel (cellsOf hm b) (rowOf A b)) + cellsOf cost b (sel (cellsOf hm b) (rowOf A b)) else 0 := by
  refine ring_cell (fun m => ?_) n
  have e : cellsOf (mulf (addf A.len cost) (selA hm A.len A.opn)) b m
    = (cellsOf A.len b m + cellsOf cost b m) * cellsOf (selA hm A.len A.opn) b m := rfl
  rw [e, selA_cell hG hhm]
  by_cases hm' : m = sel (cellsOf hm b) (rowOf A b)
  · rw [if_pos hm', if_pos hm', mul_one, hm']
  · rw [if_neg hm', if_neg hm', mul_zero]

/-- The selected cell is not opened or reached anew from itself. -/
theorem not_newly_self (hG : Good k (rowOf A b)) (hk : k < 1024) (hhm : ∀ n, ∃ r : ℝ, cellsOf hm b n = r)
    (hc : ∀ n, ∃ r : ℝ, 0 < r ∧ cellsOf cost b n = r) : ¬ Newly (rowOf A b) (sel (cellsOf hm b) (rowOf A b))
      (cellsOf A.len b (sel (cellsOf hm b) (rowOf A b)) + cellsOf cost b (sel (cellsOf hm b) (rowOf A b))) (sel (cellsOf hm b) (rowOf A b)) := by
  have hso := hG.sel_open hk hhm
  generalize sel (cellsOf hm b) (rowOf A b) = s at *
  have hh : cellsOf A.cls b s = 0 ∨ cellsOf A.cls b s = 1 := hG.cls s
  intro h
  rcases h.2 with h | h
  · rw [hso] at h
    have h : (1 : EReal) + cellsOf A.cls b s = 0 := h
    rcases hh with hh | hh <;> rw [hh] at h
    · rw [add_zero] at h; exact one_ne_zero h
    · rw [← EReal.coe_one, ← EReal.coe_add, ← EReal.coe_zero, EReal.coe_eq_coe_iff] at h
      norm_num at h
  · obtain ⟨r, hr⟩ := hG.real s
    obtain ⟨c, hc0, hc⟩ := hc s
    have h : cellsOf A.len b s + cellsOf cost b s < cellsOf A.len b s := h.2
    have hr : cellsOf A.len b s = r := hr
    rw [hr, hc, ← EReal.coe_add, EReal.coe_lt_coe_iff] at h
    linarith

/-- The cells opened, or reached by a shorter path. -/
theorem fresh_iff (hG : Good k (rowOf A b)) (hk : k < 1024) (hhm : ∀ n, ∃ r : ℝ, cellsOf hm b n = r)
    (hc : ∀ n, ∃ r : ℝ, 0 < r ∧ cellsOf cost b n = r)
    (hq : ∀ n, cellsOf goal b n = if n = q then (1 : EReal) else 0) (n : Fin 1024) :
    cellsOf (freshA hm goal cost A.len A.opn A.cls) b n = if Newly (rowOf A b) (sel (cellsOf hm b) (rowOf A b))
      (cellsOf A.len b (sel (cellsOf hm b) (rowOf A b)) + cellsOf cost b (sel (cellsOf hm b) (rowOf A b))) n then (1 : EReal) else 0 := by
  have hself := not_newly_self hG hk hhm hc
  have hsel := selA_cell hG hhm
  have hcls := cls_cell hG hhm n
  have hclear := clear_cell hG hhm hq n
  have ho : cellsOf A.opn b n = 0 ∨ cellsOf A.opn b n = 1 := hG.opn n
  have hh : cellsOf A.cls b n = 0 ∨ cellsOf A.cls b n = 1 := hG.cls n
  show cellsOf (fresh (F := Ideal) _ _ _ _ _) b n = _
  rw [fresh_cell, hcls, hclear]
  have hnear : cellsOf (mulf (ring (selA hm A.len A.opn)) cost) b n = cellsOf (ring (selA hm A.len A.opn)) b n * cellsOf cost b n := rfl
  have hreach := reach_cell (cost := cost) hG hhm n
  rw [hnear, ring_cell hsel, hreach]
  generalize hs : sel (cellsOf hm b) (rowOf A b) = s at *
  refine if_congr ?_ rfl rfl
  by_cases hn : n = s
  · subst hn
    have hc : ¬ (Near n n ∧ n ≠ n) := fun h => h.2 rfl
    rw [if_neg hc, zero_mul, mul_zero, mul_zero, add_zero]
    exact iff_of_false (lt_irrefl _) hself
  · have hc' : ¬ (n = s ∧ s ≠ q) := fun h => hn h.1
    rw [if_neg hn, if_neg hc']
    by_cases hN : Near n s
    · have hc' : Near n s ∧ n ≠ s := ⟨hN, hn⟩
      rw [if_pos hc', if_pos hc', one_mul]
      obtain ⟨c, hc0, hc⟩ := hc n
      have hpos : (0 : EReal) < c := by rw [← EReal.coe_zero, EReal.coe_lt_coe_iff]; exact hc0
      have h2 : (1 : EReal) + 1 ≠ 0 := by
        rw [← EReal.coe_one, ← EReal.coe_add, ← EReal.coe_zero, ne_eq, EReal.coe_eq_coe_iff]
        norm_num
      rw [hc]
      have hN' : Newly (rowOf A b) s (cellsOf A.len b s + cellsOf cost b s) n ↔
          (cellsOf A.opn b n + cellsOf A.cls b n = 0 ∨ 0 < cellsOf A.opn b n ∧ cellsOf A.len b s + cellsOf cost b s < cellsOf A.len b n) :=
        and_iff_right hN
      rw [hN']
      rcases ho with ho | ho <;> rcases hh with hh | hh <;> rw [ho, hh] <;> by_cases hr : cellsOf A.len b s + cellsOf cost b s < cellsOf A.len b n <;>
        simp [if_pos, if_neg, hr, hpos, one_sub_one, h2]
    · have hc' : ¬ (Near n s ∧ n ≠ s) := fun h => hN h.1
      rw [if_neg hc', zero_mul, mul_zero, mul_zero, add_zero]
      exact iff_of_false (lt_irrefl _) fun h => hN h.1

/-- The reference's step on one map is the step of the rule. -/
theorem step_row (hG : Good k (rowOf A b)) (hk : k < 1024) (hhm : ∀ n, ∃ r : ℝ, cellsOf hm b n = r)
    (hc : ∀ n, ∃ r : ℝ, 0 < r ∧ cellsOf cost b n = r)
    (hq : ∀ n, cellsOf goal b n = if n = q then (1 : EReal) else 0) :
    rowOf (stepA hm goal cost A) b = next (cellsOf hm b) (cellsOf cost b) q (rowOf A b) := by
  have hfresh := fresh_iff hG hk hhm hc hq
  refine Row.ext (funext fun n => ?_) (funext fun n => ?_) (funext fun n => ?_)
  · show cellsOf (relaxed (F := Ideal) _ _ _) b n = if _ then _ else _
    rw [relaxed_cell, hfresh]
    rw [reach_cell hG hhm]
    by_cases hN : Newly (rowOf A b) (sel (cellsOf hm b) (rowOf A b))
        (cellsOf A.len b (sel (cellsOf hm b) (rowOf A b)) + cellsOf cost b (sel (cellsOf hm b) (rowOf A b))) n
    · rw [if_pos hN, if_pos ⟨hN.1, fun e => not_newly_self hG hk hhm hc (e ▸ hN)⟩, mul_one, one_sub_one, mul_zero, add_zero]
      exact (if_pos hN).symm
    · rw [if_neg hN, mul_zero, sub_zero, mul_one, zero_add]
      exact (if_neg hN).symm
  · show cellsOf (clip (F := Ideal) _) b n = if _ then _ else _
    rw [clip_cell]
    have e : cellsOf (addf (clearA hm goal A.len A.opn) (freshA hm goal cost A.len A.opn A.cls)) b n
      = cellsOf (clearA hm goal A.len A.opn) b n + cellsOf (freshA hm goal cost A.len A.opn A.cls) b n := rfl
    rw [e, hfresh, clear_cell hG hhm hq]
    have ho : cellsOf A.opn b n = 0 ∨ cellsOf A.opn b n = 1 := hG.opn n
    by_cases hN : Newly (rowOf A b) (sel (cellsOf hm b) (rowOf A b))
        (cellsOf A.len b (sel (cellsOf hm b) (rowOf A b)) + cellsOf cost b (sel (cellsOf hm b) (rowOf A b))) n
    · rw [if_pos hN]
      refine Eq.trans ?_ (if_pos hN).symm
      have hc' : ¬ (n = sel (cellsOf hm b) (rowOf A b) ∧ sel (cellsOf hm b) (rowOf A b) ≠ q) :=
        fun e => not_newly_self hG hk hhm hc (e.1 ▸ hN)
      rw [if_neg hc']
      rcases ho with ho | ho <;> rw [ho]
      · rw [zero_add]; exact clip_bit (.inr rfl)
      · exact clip_two
    · rw [if_neg hN, add_zero]
      refine Eq.trans ?_ (if_neg hN).symm
      refine clip_bit ?_
      split_ifs
      · exact .inl rfl
      · exact ho
  · exact cls_cell hG hhm n
end

end Cert.ReferenceIdeal.Search

end
-- ==== Proof.Val.HeurReal.lean ====
module

public import proofs.«01_k».proof.Proof.Val.Good
public import proofs.«01_k».proof.Proof.Ref.Heur

/-! The heuristic is a real number at every cell, where the costs are. -/

@[expose] public section

set_option maxRecDepth 8000

noncomputable section

namespace Cert.ReferenceIdeal.Search

open Idealize.ShloMosaic Cert.ReferenceIdeal Cert.ReferenceIdeal.Gen Cert.Search

/-- The distances along the rows and the columns are real numbers. -/
theorem apart_real (x : IVec S2x32x32 32) (row col : IVec S32 32) (b i j : Fin 32) (t : Fin 2) :
    ∃ r : ℝ, apart (F := Ideal) (sitofp .f32 x) (sitofp .f32 row) (sitofp .f32 col) (ix4 b t i j) = (r : EReal) := by
  have e : ∀ (at' : FVec Ideal S2x32x32 .f32) (row col : FVec Ideal S32 .f32), apart at' row col (ix4 b t i j)
      = FloatOps.absf (at' (ix3 t i j) - if t.val < 1 then row (ix1 b) else col (ix1 b) : Ideal .f32) := by
    intro at' row col
    pointwise [apart]
    rfl
  have abs_real : ∀ p q : ℝ, ∃ r : ℝ, (FloatOps.absf ((p : EReal) - (q : EReal) : Ideal .f32) : Ideal .f32) = (r : EReal) := fun p q => by
    refine ⟨max (p - q) (-(p - q)), ?_⟩
    change max ((p : EReal) - (q : EReal)) (-((p : EReal) - (q : EReal))) = _
    rw [← EReal.coe_sub, ← EReal.coe_neg]
    exact (EReal.coe_strictMono.monotone.map_max).symm
  rw [e]
  by_cases h : t.val < 1
  · rw [if_pos h]
    exact abs_real (((x (ix3 t i j)).toInt : ℝ)) (((row (ix1 b)).toInt : ℝ))
  · rw [if_neg h]
    exact abs_real (((x (ix3 t i j)).toInt : ℝ)) (((col (ix1 b)).toInt : ℝ))

/-- So is the estimate made of such distances. -/
theorem estimate_real (d : FVec Ideal S32x2x32x32 .f32) (cost : Maps Ideal) (b i j : Fin 32)
    (hd : ∀ t, ∃ r : ℝ, d (ix4 b t i j) = (r : EReal)) (hc : ∃ r : ℝ, cost (ix3 b i j) = (r : EReal)) :
    ∃ r : ℝ, estimate d cost (ix3 b i j) = (r : EReal) := by
  have e : estimate d cost (ix3 b i j) = ∑ x, d (ix4 b x i j)
      - Finset.fold min (Ideal.ofBits FTy.f32 0x7F800000#32) (fun x => d (ix4 b x i j)) Finset.univ
      + Ideal.ofBits FTy.f32 0x3A83126F#32 * Ideal.sqrt (∑ x, d (ix4 b x i j) * d (ix4 b x i j)) + cost (ix3 b i j) := by
    pointwise [estimate, allCells]
  choose r hr using hd
  obtain ⟨c, hc⟩ := hc
  have htop : Ideal.ofBits FTy.f32 0x7F800000#32 = ⊤ := by simp [Ideal.ofBits, Ideal.ieee]
  obtain ⟨t, ht⟩ : ∃ t : ℝ, Ideal.ofBits FTy.f32 0x3A83126F#32 = (t : EReal) := by
    simp [Ideal.ofBits, Ideal.ieee]
    exact ⟨_, rfl⟩
  have hmin : Finset.fold min (⊤ : EReal) (fun x => (r x : EReal)) Finset.univ = ((min (r 0) (r 1) : ℝ) : EReal) := by
    rw [show (Finset.univ : Finset (Fin 2)) = {0, 1} from rfl, Finset.fold_insert (by decide), Finset.fold_singleton, min_eq_left (le_top (a := (r 1 : EReal)))]
    exact (EReal.coe_strictMono.monotone.map_min).symm
  rw [e, htop, ht, hc]
  simp only [hr]
  rw [hmin]
  simp only [Fin.sum_univ_two, ← EReal.coe_mul, ← EReal.coe_add]
  rw [Ideal.sqrt_coe, if_neg (not_lt_of_ge (add_nonneg (mul_self_nonneg (r 0)) (mul_self_nonneg (r 1))))]
  simp only [← EReal.coe_mul, ← EReal.coe_add, ← EReal.coe_sub]
  exact ⟨_, rfl⟩

/-- The heuristic is a real number at every cell. -/
theorem heur_real (cost goal : Maps Ideal) (b : Fin 32) (hc : ∀ n, ∃ r : ℝ, cellsOf cost b n = r) (n : Fin 1024) :
    ∃ r : ℝ, cellsOf (heurA cost goal) b n = r :=
  estimate_real _ _ _ _ _ (fun t => apart_real _ _ _ _ _ _ t) (hc n)

end Cert.ReferenceIdeal.Search

end
-- ==== Proof.Val.Asked.lean ====
module

public import proofs.«01_k».proof.Proof.Gen.Pre_search_inputs
public import Idealize.ShloMosaic.Lib.Pointwise

/-! What the precondition gives the value proof. -/

@[expose] public section

set_option maxRecDepth 100000

noncomputable section

namespace Cert.Pre_search_inputs

open Idealize.ShloMosaic Cert.Pre_search_inputs.Gen

variable [Facts]

/-- What the precondition's last operations say of the three inputs, as they say it. -/
structure Asked (a b c : FVec Ideal S32x32x32 .f32) : Prop where
  costs : andi (cmpf .ogt a (broadcastInDim S32x32x32 ![] bcast_S_S32x32x32 (constant S_ .f32 0x00000000#32)))
    (cmpf .olt a (broadcastInDim S32x32x32 ![] bcast_S_S32x32x32 (constant S_ .f32 0x7F800000#32))) = fun _ => 1#1
  starts : ori (cmpf .oeq b (broadcastInDim S32x32x32 ![] bcast_S_S32x32x32 (constant S_ .f32 0x00000000#32)))
    (cmpf .oeq b (broadcastInDim S32x32x32 ![] bcast_S_S32x32x32 (constant S_ .f32 0x3F800000#32))) = fun _ => 1#1
  begun : broadcastInDim S32x32x32 ![0, 1, 2] bcast_S32x1x1_S32x32x32_0_1_2
    (cmpf .ogt (broadcastInDim S32x1x1 ![0] bcast_S32_S32x1x1_0 (Host.reduceAdd b (constant (F := Ideal) S_ .f32 0x00000000#32) reducesTo_S32x32x32_S32_d1_2 h_S_))
      (broadcastInDim S32x1x1 ![] bcast_S_S32x1x1 (constant S_ .f32 0x00000000#32))) = fun _ => 1#1
  goals : ori (cmpf .oeq c (broadcastInDim S32x32x32 ![] bcast_S_S32x32x32 (constant S_ .f32 0x00000000#32)))
    (cmpf .oeq c (broadcastInDim S32x32x32 ![] bcast_S_S32x32x32 (constant S_ .f32 0x3F800000#32))) = fun _ => 1#1
  oneGoal : broadcastInDim S32x32x32 ![0, 1, 2] bcast_S32x1x1_S32x32x32_0_1_2
    (cmpf .oeq (broadcastInDim S32x1x1 ![0] bcast_S32_S32x1x1_0 (Host.reduceAdd c (constant (F := Ideal) S_ .f32 0x00000000#32) reducesTo_S32x32x32_S32_d1_2 h_S_))
      (broadcastInDim S32x1x1 ![] bcast_S_S32x1x1 (constant S_ .f32 0x3F800000#32))) = fun _ => 1#1

/-- Of two arrays of bits whose conjunction is all ones, both are. -/
theorem both_ones {s : Shape} {x y : IVec s 1} (h : andi x y = fun _ => 1#1) : (x = fun _ => 1#1) ∧ y = fun _ => 1#1 := by
  have k : ∀ p q : BitVec 1, p &&& q = 1#1 → p = 1#1 ∧ q = 1#1 := by decide
  exact ⟨funext fun i => (k _ _ (congrFun h i)).1, funext fun i => (k _ _ (congrFun h i)).2⟩

/-- The precondition's last sixty operations ask it, whatever the operations before them computed. -/
theorem asked_of_end (a b c : FVec Ideal S32x32x32 .f32) (v37 : IVec S32x1024 1) (v7436 : FVec Ideal S32x1024 .f32)
    (v7437 v7441 v7446 : IVec S32x1024 1) (v7450 : IVec S32 1) (v7454 : FVec Ideal S32x1024 .f32) (v7458 v7459 : IVec S32x1024 1)
    (h : fn_part354 (F := Ideal) a b c v37 v7436 v7437 v7441 v7446 v7450 v7454 v7458 v7459 = fun _ => 1#1) : Asked a b c := by
  obtain ⟨h, -⟩ := both_ones h
  obtain ⟨h, h6⟩ := both_ones h
  obtain ⟨h, h5⟩ := both_ones h
  obtain ⟨h, h4⟩ := both_ones h
  obtain ⟨h2, h3⟩ := both_ones h
  exact ⟨h2, h3, h4, h5, h6⟩

/-- So the precondition asks it. (What the last operations say does not depend on the values they are given here as
zeros: they carry a last step of the search, whose outcome is not used.) -/
theorem asked (a b c : FVec Ideal S32x32x32 .f32) (h : fn (F := Ideal) a b c = fun _ => 1#1) : Asked a b c :=
  asked_of_end a b c (fun _ => 0#1) (constant S32x1024 .f32 0#32) (fun _ => 0#1) (fun _ => 0#1) (fun _ => 0#1) _ (constant S32x1024 .f32 0#32) (fun _ => 0#1) (fun _ => 0#1) h

end Cert.Pre_search_inputs
-- ==== Proof.Val.Inputs.lean ====
module

public import proofs.«01_k».proof.Proof.Val.Asked
public import proofs.«01_k».proof.Proof.Val.Spec
public import proofs.«01_k».proof.Proof.Val.Bits

/-! The inputs the precondition allows, map by map: costs that are positive real numbers, start and goal maps of zeros
and ones, at least one start cell and exactly one goal cell. -/

@[expose] public section

set_option maxRecDepth 8000

noncomputable section

namespace Cert.Pre_search_inputs

open Idealize.ShloMosaic Cert.Pre_search_inputs.Gen Cert.Search
open scoped Classical

theorem ofBool_one {p : Prop} [Decidable p] (h : BitVec.ofBool (decide p) = 1#1) : p := by
  by_contra hp
  rw [decide_eq_false hp] at h
  exact absurd h (by decide)

variable [Facts] {a b c : FVec Ideal S32x32x32 .f32}

/-- The costs are positive real numbers. -/
theorem Asked.cost_real (h : Asked a b c) (m : Fin 32) (n : Fin 1024) : ∃ r : ℝ, 0 < r ∧ cellsOf a m n = r := by
  have e := congrFun h.costs (ix3 m ⟨n.val / 32, by omega⟩ ⟨n.val % 32, by omega⟩)
  have e' : IntOp.andi (BitVec.ofBool (decide (0 < cellsOf a m n))) (BitVec.ofBool (decide (cellsOf a m n < Ideal.ofBits .f32 0x7F800000#32))) = 1#1 := by
    rw [← e]
    pointwise []
  have htop : Ideal.ofBits FTy.f32 0x7F800000#32 = ⊤ := by simp [Ideal.ofBits, Ideal.ieee]
  rw [andi_ofBool, ← Bool.decide_and, htop] at e'
  obtain ⟨h0, h1⟩ := ofBool_one e'
  refine ⟨(cellsOf a m n).toReal, ?_, (EReal.coe_toReal h1.ne (ne_of_gt (lt_trans EReal.bot_lt_zero h0))).symm⟩
  exact EReal.toReal_pos h0 h1.ne

theorem bit_of {x : FVec Ideal S32x32x32 .f32}
    (h : ori (cmpf .oeq x (broadcastInDim S32x32x32 ![] Facts.bcast_S_S32x32x32 (constant S_ .f32 0x00000000#32)))
      (cmpf .oeq x (broadcastInDim S32x32x32 ![] Facts.bcast_S_S32x32x32 (constant S_ .f32 0x3F800000#32))) = fun _ => 1#1)
    (m i j : Fin 32) : x (ix3 m i j) = (0 : EReal) ∨ x (ix3 m i j) = (1 : EReal) := by
  have e := congrFun h (ix3 m i j)
  have e' : IntOp.ori (BitVec.ofBool (decide (x (ix3 m i j) = (0 : EReal)))) (BitVec.ofBool (decide (x (ix3 m i j) = (1 : EReal)))) = 1#1 := by
    rw [← e]
    pointwise []
  rw [ori_ofBool, ← Bool.decide_or] at e'
  exact ofBool_one e'

/-- The start maps hold zeros and ones. -/
theorem Asked.start_bit (h : Asked a b c) (m : Fin 32) (n : Fin 1024) : cellsOf b m n = 0 ∨ cellsOf b m n = 1 := bit_of h.starts m _ _

/-- The goal maps hold zeros and ones. -/
theorem Asked.goal_bit (h : Asked a b c) (m : Fin 32) (n : Fin 1024) : cellsOf c m n = 0 ∨ cellsOf c m n = 1 := bit_of h.goals m _ _

/-- A row and a column, as a cell's number. -/
def cellEquiv : Fin 32 × Fin 32 ≃ Fin 1024 where
  toFun p := cellAt p.1 p.2
  invFun n := (⟨n.val / 32, by omega⟩, ⟨n.val % 32, by omega⟩)
  left_inv p := by
    refine Prod.ext (Fin.ext ?_) (Fin.ext ?_)
    · show (p.1.val * 32 + p.2.val) / 32 = p.1.val; omega
    · show (p.1.val * 32 + p.2.val) % 32 = p.2.val; omega
  right_inv n := cellAt_eta n

/-- A map's sum, over its cells. -/
theorem sum_cells (x : FVec Ideal S32x32x32 .f32) (m : Fin 32) :
    (∑ i : Fin 32, ∑ j : Fin 32, (x (ix3 m i j) : EReal)) = ∑ n, cellsOf x m n := by
  rw [← Fintype.sum_prod_type' (f := fun i j : Fin 32 => (x (ix3 m i j) : EReal))]
  refine Fintype.sum_equiv cellEquiv (fun p => (x (ix3 m p.1 p.2) : EReal)) (cellsOf x m) fun p => ?_
  exact congrArg₂ (fun i j => (x (ix3 m i j) : EReal)) (Fin.ext (by show p.1.val = (p.1.val * 32 + p.2.val) / 32; omega))
    (Fin.ext (by show p.2.val = (p.1.val * 32 + p.2.val) % 32; omega))

/-- Every map has a start cell. -/
theorem Asked.started (h : Asked a b c) (m : Fin 32) : ∃ n, cellsOf b m n = 1 := by
  have e := congrFun h.begun (ix3 m 0 0)
  have e' : BitVec.ofBool (decide (0 < ∑ i, ∑ j, (b (ix3 m i j) : EReal))) = 1#1 := by
    rw [← e]
    pointwise []
  have e' := ofBool_one e'
  rw [sum_cells] at e'
  by_contra hno
  rw [Finset.sum_eq_zero fun n _ => (h.start_bit m n).resolve_right fun h1 => hno ⟨n, h1⟩] at e'
  exact lt_irrefl _ e'

/-- Every map's goal is one cell: the one of greatest value in the goal map. -/
theorem Asked.goal_one (h : Asked a b c) (m : Fin 32) (n : Fin 1024) : cellsOf c m n = if n = top (cellsOf c m) then (1 : EReal) else 0 := by
  have e := congrFun h.oneGoal (ix3 m 0 0)
  have e' : BitVec.ofBool (decide (∑ i, ∑ j, (c (ix3 m i j) : EReal) = 1)) = 1#1 := by
    rw [← e]
    pointwise []
  have e' := ofBool_one e'
  rw [sum_cells] at e'
  have one_lt : (1 : EReal) < 1 + 1 := by
    rw [← EReal.coe_one, ← EReal.coe_add, EReal.coe_lt_coe_iff]
    norm_num
  obtain ⟨k, hk⟩ : ∃ k, cellsOf c m k = 1 := by
    by_contra hno
    rw [Finset.sum_eq_zero fun n _ => (h.goal_bit m n).resolve_right fun h1 => hno ⟨n, h1⟩] at e'
    exact zero_ne_one e'
  have unique : ∀ p q, cellsOf c m p = 1 → cellsOf c m q = 1 → p = q := by
    intro p q hp hq
    by_contra hne
    have hle := Finset.sum_le_sum_of_subset_of_nonneg (f := cellsOf c m) (Finset.subset_univ {p, q}) fun i _ _ => by
      rcases h.goal_bit m i with h0 | h1
      · rw [h0]
      · rw [h1]; exact zero_le_one
    rw [Finset.sum_pair hne, hp, hq, e'] at hle
    exact absurd hle (not_le.mpr one_lt)
  have htop : cellsOf c m (top (cellsOf c m)) = 1 := by
    refine (h.goal_bit m _).resolve_left fun h0 => ?_
    have := (top_spec (cellsOf c m)).1 k
    rw [h0, hk] at this
    exact absurd this (not_le.mpr zero_lt_one)
  by_cases hn : n = top (cellsOf c m)
  · rw [if_pos hn, hn, htop]
  · rw [if_neg hn]
    exact (h.goal_bit m n).resolve_right fun h1 => hn (unique _ _ h1 htop)

end Cert.Pre_search_inputs

end
-- ==== Proof.Val.KernelRow.lean ====
module

public import proofs.«01_k».proof.Proof.Val.Argmax
public import proofs.«01_k».proof.Proof.Krn.Halves

/-! The kernel's step on a half of the maps, read row by row: it is the step of the search on the row's map. -/

@[expose] public section

set_option maxRecDepth 8000

noncomputable section

namespace Cert.KernelIdeal.Search

open Idealize.ShloMosaic Cert.KernelIdeal Cert.KernelIdeal.Gen Cert.Search
open scoped Classical

variable (hm cost : Vec Ideal S16x1024 .f32) (gi : Vec Ideal S16x1 .i32) (num row col : Vec Ideal S16x1024 .i32) (g o h : Vec Ideal S16x1024 .f32)
variable (r : Fin 16) (n q : Fin 1024)

/-- One row of an array of sixteen. -/
abbrev rowOf (X : Vec Ideal S16x1024 .f32) : Fin 1024 → EReal := fun n => X (ix2 r n)

/-- One row of the three maps. -/
abbrev rowsOf : Row := ⟨rowOf r g, rowOf r o, rowOf r h⟩

/-- The selected cell of a row. -/
abbrev selOf : Fin 1024 := sel (rowOf r hm) (rowsOf g o h r)

theorem weight_row : k0_pay4 g o hm (ix2 r n) = weight (rowOf r hm) (rowOf r g) (rowOf r o) n := by
  pointwise [k0_pay4]
  rfl

theorem divisor_row : k0_pay5 g o hm (ix2 r 0) = max (∑ k, weight (rowOf r hm) (rowOf r g) (rowOf r o) k) (Ideal.ofBits .f32 0x0DA24260#32) := by
  pointwise [k0_pay5]
  simp only [weight_row]

/-- The selected cell's number. -/
theorem best_cell : k0_pay8 (k0_pay4 g o hm) (k0_pay5 g o hm) (ix2 r 0) = BitVec.ofNat 32 (selOf hm g o h r).val := by
  pointwise [k0_pay8]
  rw [reduceIndex_row]
  refine congrArg (fun y : Fin 1024 → EReal => BitVec.ofNat 32 (top y).val) (funext fun n => ?_)
  pointwise []
  rw [weight_row, divisor_row]
  rfl

/-- Whether a cell is the selected one. -/
theorem selected_row (hnum : ∀ n, num (ix2 r n) = BitVec.ofNat 32 n.val) :
    k0_pay10 (k0_pay4 g o hm) (k0_pay5 g o hm) num (ix2 r n) = BitVec.ofBool (decide (n = selOf hm g o h r)) := by
  pointwise [k0_pay10]
  rw [best_cell hm g o h, hnum, eq_cell]

/-- Whether the selected cell is not the goal. -/
theorem goOn_row (hgi : gi (ix2 r 0) = BitVec.ofNat 32 q.val) :
    k0_pay11 (k0_pay4 g o hm) (k0_pay5 g o hm) gi (ix2 r 0) = BitVec.ofBool (decide (selOf hm g o h r ≠ q)) := by
  pointwise [k0_pay11]
  rw [best_cell hm g o h, hgi, ne_cell]

/-- The length of the path offered to the neighbours. -/
theorem reach_row (hnum : ∀ n, num (ix2 r n) = BitVec.ofNat 32 n.val) :
    k0_pay12 g (k0_pay4 g o hm) (k0_pay5 g o hm) num cost (ix2 r 0) = rowOf r g (selOf hm g o h r) + rowOf r cost (selOf hm g o h r) := by
  pointwise [k0_pay12]
  simp only [selected_row hm num g o h r _ hnum, select_ofBool, decide_eq_true_eq]
  rw [Finset.sum_ite_eq' Finset.univ, if_pos (Finset.mem_univ _)]

/-- Whether a cell's row touches the selected cell's. -/
theorem nearRow_row (hrow : ∀ n : Fin 1024, row (ix2 r n) = BitVec.ofNat 32 (n.val / 32)) :
    k0_pay14 (k0_pay4 g o hm) (k0_pay5 g o hm) row (ix2 r n)
      = BitVec.ofBool (decide (n.val / 32 ≤ (selOf hm g o h r).val / 32 + 1 ∧ (selOf hm g o h r).val / 32 ≤ n.val / 32 + 1)) := by
  pointwise [k0_pay14]
  rw [best_cell hm g o h, hrow, shrsi_cell]
  exact within ⟨n.val / 32, by omega⟩ ⟨(selOf hm g o h r).val / 32, by omega⟩

/-- The selected cell's column, less one. -/
theorem column_row : k0_pay13 (k0_pay4 g o hm) (k0_pay5 g o hm) (ix2 r 0) = IntOp.subi (BitVec.ofNat 32 ((selOf hm g o h r).val % 32)) 1#32 := by
  pointwise [k0_pay13]
  rw [best_cell hm g o h, andi_cell]

/-- Whether a cell is newly opened or reached by a shorter path. -/
theorem newly_row (hnum : ∀ n, num (ix2 r n) = BitVec.ofNat 32 n.val)
    (hrow : ∀ n : Fin 1024, row (ix2 r n) = BitVec.ofNat 32 (n.val / 32)) (hcol : ∀ n : Fin 1024, col (ix2 r n) = BitVec.ofNat 32 (n.val % 32)) :
    k0_pay15 g o h (k0_pay12 g (k0_pay4 g o hm) (k0_pay5 g o hm) num cost) (k0_pay13 (k0_pay4 g o hm) (k0_pay5 g o hm))
      (k0_pay14 (k0_pay4 g o hm) (k0_pay5 g o hm) row) col (ix2 r n)
      = BitVec.ofBool (decide (Newly (rowsOf g o h r) (selOf hm g o h r) (rowOf r g (selOf hm g o h r) + rowOf r cost (selOf hm g o h r)) n)) := by
  pointwise [k0_pay15]
  rw [reach_row hm cost num g o h r hnum, nearRow_row hm row g o h r n hrow, column_row hm g o h, hcol,
    within ⟨n.val % 32, by omega⟩ ⟨(selOf hm g o h r).val % 32, by omega⟩]
  simp only [andi_ofBool, ori_ofBool]
  refine congrArg BitVec.ofBool ?_
  rw [Bool.eq_iff_iff]
  simp only [Bool.and_eq_true, Bool.or_eq_true, decide_eq_true_eq, Newly, Near, and_assoc]

section Step
variable (hgi : gi (ix2 r 0) = BitVec.ofNat 32 q.val) (hnum : ∀ n, num (ix2 r n) = BitVec.ofNat 32 n.val)
  (hrow : ∀ n : Fin 1024, row (ix2 r n) = BitVec.ofNat 32 (n.val / 32)) (hcol : ∀ n : Fin 1024, col (ix2 r n) = BitVec.ofNat 32 (n.val % 32))
include hnum hrow hcol

theorem halfG_row : halfG hm cost num row col g o h (ix2 r n) = (next (rowOf r hm) (rowOf r cost) q (rowsOf g o h r)).len n := by
  unfold halfG
  pointwise [k0_pay16]
  rw [newly_row hm cost num row col g o h r n hnum hrow hcol, select_ofBool, reach_row hm cost num g o h r hnum]
  simp only [decide_eq_true_eq]
  rfl

include hgi in
theorem halfO_row : halfO hm cost gi num row col g o h (ix2 r n) = (next (rowOf r hm) (rowOf r cost) q (rowsOf g o h r)).opn n := by
  unfold halfO
  pointwise [k0_pay17]
  rw [newly_row hm cost num row col g o h r n hnum hrow hcol, select_ofBool, selected_row hm num g o h r n hnum, goOn_row hm gi g o h r q hgi,
    andi_ofBool, select_ofBool]
  simp only [decide_eq_true_eq, Bool.and_eq_true]
  rfl

omit hrow hcol in
theorem halfH_row : halfH hm num g o h (ix2 r n) = (next (rowOf r hm) (rowOf r cost) q (rowsOf g o h r)).cls n := by
  unfold halfH
  pointwise [k0_pay18]
  rw [selected_row hm num g o h r n hnum, select_ofBool]
  simp only [decide_eq_true_eq]
  rfl

end Step

end Cert.KernelIdeal.Search

end
-- ==== Proof.Val.Kernel.lean ====
module

public import proofs.«01_k».proof.Proof.Val.KernelRow
public import proofs.«01_k».proof.Proof.Krn.Result

/-! The kernel's result, cell by cell: the closed cells after 256 steps of the search on each map. -/

@[expose] public section

set_option maxRecDepth 8000

noncomputable section

namespace Cert.KernelIdeal.Search

open Idealize.ShloMosaic Cert.KernelIdeal Cert.KernelIdeal.Gen Cert.Search
open Cert.ReferenceIdeal.Search (goalCell heurA)
open scoped Classical

/-- One map of an array of thirty-two. -/
abbrev flatOf (X : Vec Ideal S32x1024 .f32) (b : Fin 32) : Fin 1024 → EReal := fun n => X (ix2 b n)

/-- One map's lengths, open cells and closed cells. -/
abbrev mapOf (S : State Ideal) (b : Fin 32) : Row := ⟨flatOf S.len b, flatOf S.opn b, flatOf S.cls b⟩

/-- What a map's steps count with: the goal's number, the cells' numbers, rows and columns. -/
structure Counted (A : Given Ideal) (b : Fin 32) (q : Fin 1024) : Prop where
  goal : A.gi (ix2 b 0) = BitVec.ofNat 32 q.val
  num : ∀ n : Fin 1024, A.num (ix2 b n) = BitVec.ofNat 32 n.val
  row : ∀ n : Fin 1024, A.row (ix2 b n) = BitVec.ofNat 32 (n.val / 32)
  col : ∀ n : Fin 1024, A.col (ix2 b n) = BitVec.ofNat 32 (n.val % 32)

theorem up_apply {e : EltTy} (X : Vec Ideal S32x1024 e) (r : Fin 16) (n : Fin 1024) : up X (ix2 r n) = X (ix2 ⟨r.val, by omega⟩ n) :=
  congrArg X (funext fun a => Fin.ext (by fin_cases a <;> simp [LoadRect.idx, ix2]))
theorem dn_apply {e : EltTy} (X : Vec Ideal S32x1024 e) (r : Fin 16) (n : Fin 1024) : dn X (ix2 r n) = X (ix2 ⟨16 + r.val, by omega⟩ n) :=
  congrArg X (funext fun a => Fin.ext (by fin_cases a <;> simp [LoadRect.idx, ix2]))
theorem up1_apply {e : EltTy} (X : Vec Ideal S32x1 e) (r : Fin 16) : up1 X (ix2 r 0) = X (ix2 ⟨r.val, by omega⟩ 0) :=
  congrArg X (funext fun a => Fin.ext (by fin_cases a <;> simp [LoadRect.idx, ix2]))
theorem dn1_apply {e : EltTy} (X : Vec Ideal S32x1 e) (r : Fin 16) : dn1 X (ix2 r 0) = X (ix2 ⟨16 + r.val, by omega⟩ 0) :=
  congrArg X (funext fun a => Fin.ext (by fin_cases a <;> simp [LoadRect.idx, ix2]))

theorem both_up {e : EltTy} (x y : Vec Ideal S16x1024 e) (r : Fin 16) (n : Fin 1024) : both x y (ix2 ⟨r.val, by omega⟩ n) = x (ix2 r n) := by
  unfold both; rw [dif_pos (show ((ix2 (⟨r.val, by omega⟩ : Fin 32) n) 0).val < 16 from r.isLt)]; rfl
theorem both_dn {e : EltTy} (x y : Vec Ideal S16x1024 e) (r : Fin 16) (n : Fin 1024) : both x y (ix2 ⟨16 + r.val, by omega⟩ n) = y (ix2 r n) := by
  unfold both
  rw [dif_neg (show ¬ ((ix2 (⟨16 + r.val, by omega⟩ : Fin 32) n) 0).val < 16 from by show ¬ 16 + r.val < 16; omega)]
  exact congrArg (fun k => y (ix2 k n)) (Fin.ext (by show 16 + r.val - 16 = r.val; omega))

/-- A row is one of the first sixteen or one of the last. -/
theorem row_cases (b : Fin 32) : (∃ r : Fin 16, b = ⟨r.val, by omega⟩) ∨ ∃ r : Fin 16, b = ⟨16 + r.val, by omega⟩ := by
  by_cases h : b.val < 16
  · exact .inl ⟨⟨b.val, h⟩, rfl⟩
  · exact .inr ⟨⟨b.val - 16, by omega⟩, Fin.ext (by show b.val = 16 + (b.val - 16); omega)⟩

/-- The kernel's step is the step of the search on every map. -/
theorem step_map (A : Given Ideal) (S : State Ideal) (b : Fin 32) (q : Fin 1024) (h : Counted A b q) :
    mapOf (step A S) b = next (flatOf A.hm b) (flatOf A.cost b) q (mapOf S b) := by
  rcases row_cases b with ⟨r, rfl⟩ | ⟨r, rfl⟩
  · have hn := fun n => (up_apply A.num r n).trans (h.num n)
    have hr := fun n => (up_apply A.row r n).trans (h.row n)
    have hc := fun n => (up_apply A.col r n).trans (h.col n)
    have hg := (up1_apply A.gi r).trans h.goal
    have e : ∀ X : Vec Ideal S32x1024 .f32, rowOf r (up X) = flatOf X ⟨r.val, by omega⟩ := fun X => funext fun n => up_apply X r n
    refine Row.ext (funext fun n => ?_) (funext fun n => ?_) (funext fun n => ?_)
    · refine (both_up _ _ r n).trans ((halfG_row _ _ _ _ _ _ _ _ r n q hn hr hc).trans ?_)
      unfold rowsOf; simp only [e]
    · refine (both_up _ _ r n).trans ((halfO_row _ _ _ _ _ _ _ _ _ r n q hg hn hr hc).trans ?_)
      unfold rowsOf; simp only [e]
    · refine (both_up _ _ r n).trans ((halfH_row _ (up A.cost) _ _ _ _ r n q hn).trans ?_)
      unfold rowsOf; simp only [e]
  · have hn := fun n => (dn_apply A.num r n).trans (h.num n)
    have hr := fun n => (dn_apply A.row r n).trans (h.row n)
    have hc := fun n => (dn_apply A.col r n).trans (h.col n)
    have hg := (dn1_apply A.gi r).trans h.goal
    have e : ∀ X : Vec Ideal S32x1024 .f32, rowOf r (dn X) = flatOf X ⟨16 + r.val, by omega⟩ := fun X => funext fun n => dn_apply X r n
    refine Row.ext (funext fun n => ?_) (funext fun n => ?_) (funext fun n => ?_)
    · refine (both_dn _ _ r n).trans ((halfG_row _ _ _ _ _ _ _ _ r n q hn hr hc).trans ?_)
      unfold rowsOf; simp only [e]
    · refine (both_dn _ _ r n).trans ((halfO_row _ _ _ _ _ _ _ _ _ r n q hg hn hr hc).trans ?_)
      unfold rowsOf; simp only [e]
    · refine (both_dn _ _ r n).trans ((halfH_row _ (dn A.cost) _ _ _ _ r n q hn).trans ?_)
      unfold rowsOf; simp only [e]

/-- So are `k` steps. -/
theorem steps_map (A : Given Ideal) (S : State Ideal) (b : Fin 32) (q : Fin 1024) (h : Counted A b q) (k : ℕ) :
    mapOf ((step A)^[k] S) b = (next (flatOf A.hm b) (flatOf A.cost b) q)^[k] (mapOf S b) := by
  induction k with
  | zero => rfl
  | succ k ih => rw [Function.iterate_succ_apply', Function.iterate_succ_apply', step_map A _ b q h, ih]

theorem counted (cost goal : FVec Ideal S32x32x32 .f32) (b : Fin 32) (q : Fin 1024) (hq : goalCell goal (ix1 b) = BitVec.ofNat 32 q.val) :
    Counted (givenOf cost goal) b q := by
  refine ⟨?_, fun n => rfl, fun n => ?_, fun n => ?_⟩
  · unfold givenOf; pointwise []; exact hq
  · exact shrsi_host n
  · exact andi_cell n

/-- The kernel's result. -/
theorem resultK_cell (cost start goal : FVec Ideal S32x32x32 .f32) (b i j : Fin 32) (q : Fin 1024) (hq : goalCell goal (ix1 b) = BitVec.ofNat 32 q.val) :
    resultK cost start goal (ix3 b i j)
      = ((next (cellsOf (heurA cost goal) b) (cellsOf cost b) q)^[256] ⟨fun _ => 0, cellsOf start b, fun _ => 0⟩).cls (cellAt i j) := by
  unfold resultK
  pointwise []
  have e := congrArg (fun R : Row => R.cls (cellAt i j))
    (steps_map (givenOf cost goal) (begun (shapeCast S32x1024 start shapeCasts_S32x32x32_S32x1024)) b q (counted cost goal b q hq) 256)
  refine e.trans ?_
  have e1 : flatOf (givenOf cost goal).hm b = cellsOf (heurA cost goal) b := by
    funext n; unfold givenOf; pointwise []
  have e2 : flatOf (givenOf cost goal).cost b = cellsOf cost b := by
    funext n; unfold givenOf; pointwise []
  have e3 : mapOf (begun (shapeCast S32x1024 start shapeCasts_S32x32x32_S32x1024)) b = ⟨fun _ => 0, cellsOf start b, fun _ => 0⟩ := by
    refine Row.ext (funext fun n => ?_) (funext fun n => ?_) (funext fun n => ?_)
    · unfold begun; pointwise [k0_pay1]
    · unfold begun; pointwise [k0_pay3]
    · unfold begun; pointwise [k0_pay2]
  rw [e1, e2, e3]

end Cert.KernelIdeal.Search

end
-- ==== Proof.Val.Meet.lean ====
module

public import proofs.«01_k».proof.Proof.Val.Reference
public import proofs.«01_k».proof.Proof.Val.HeurReal
public import proofs.«01_k».proof.Proof.Val.Inputs
public import proofs.«01_k».proof.Proof.Val.Kernel

/-! The kernel's result and the reference's are one array, for inputs the precondition allows: cell by cell both are
256 steps of the same rule. -/

@[expose] public section

set_option maxRecDepth 8000

noncomputable section

namespace Cert.Search

open Idealize.ShloMosaic Cert.ReferenceIdeal Cert.ReferenceIdeal.Gen Cert.ReferenceIdeal.Search
open Cert.Pre_search_inputs (Asked)

variable [Cert.Pre_search_inputs.Facts] {cost start goal : Maps Ideal}

/-- A map at the start. -/
theorem begin_row (start : Maps Ideal) (b : Fin 32) : rowOf (beginA start) b = ⟨fun _ => 0, cellsOf start b, fun _ => 0⟩ := by
  have hz : ∀ n, cellsOf (allCells (F := Ideal) 0x00000000#32) b n = 0 := fun n => by pointwise [allCells]
  exact Row.ext (funext hz) rfl (funext hz)

/-- After any number of steps that leave a cell open, the reference's maps are those of the rule, and sound. -/
theorem steps_row (h : Asked cost start goal) (b : Fin 32) : ∀ k, k ≤ 1024 →
    rowOf ((stepA (heurA cost goal) goal cost)^[k] (beginA start)) b
        = (next (cellsOf (heurA cost goal) b) (cellsOf cost b) (top (cellsOf goal b)))^[k] ⟨fun _ => 0, cellsOf start b, fun _ => 0⟩
      ∧ Good k (rowOf ((stepA (heurA cost goal) goal cost)^[k] (beginA start)) b)
  | 0, _ => by
    refine ⟨begin_row start b, ?_⟩
    rw [Function.iterate_zero_apply, begin_row]
    obtain ⟨n, hn⟩ := h.started b
    have off : ∀ n : Fin 1024, ¬ ((0 : EReal) = 1) := fun _ => zero_ne_one
    exact ⟨fun _ => ⟨0, EReal.coe_zero.symm⟩, h.start_bit b, fun _ => .inl rfl, fun n _ hn => absurd hn (off n),
      by rw [Finset.filter_false_of_mem fun n _ => off n]; exact le_of_eq Finset.card_empty, ⟨n, .inl hn⟩⟩
  | k + 1, hk => by
    obtain ⟨he, hG⟩ := steps_row h b k (by omega)
    have hcost : ∀ n, ∃ r : ℝ, cellsOf cost b n = r := fun n => by
      obtain ⟨r, -, hr⟩ := h.cost_real b n
      exact ⟨r, hr⟩
    have hhm := heur_real cost goal b hcost
    have hstep := step_row (hm := heurA cost goal) hG (by omega) hhm (h.cost_real b) (h.goal_one b)
    rw [Function.iterate_succ_apply', Function.iterate_succ_apply', hstep, ← he]
    exact ⟨rfl, hG.next hcost _⟩

/-- The goal cell both programs find is the goal. -/
theorem goalCell_top (h : Asked cost start goal) (b : Fin 32) : goalCell goal (ix1 b) = BitVec.ofNat 32 (top (cellsOf goal b)).val := by
  have e := best_row (shapeCast S32x1024 goal shapeCasts_S32x32x32_S32x1024) b fun n => by
    rw [flat_cell]
    rcases h.goal_bit b n with h0 | h1
    · exact fun e => EReal.zero_ne_bot (h0.symm.trans e)
    · exact fun e => EReal.coe_ne_bot 1 (EReal.coe_one.trans (h1.symm.trans e))
  refine e.trans ?_
  rw [show (fun n => (shapeCast S32x1024 goal shapeCasts_S32x32x32_S32x1024) (ix2 b n)) = cellsOf goal b from funext (flat_cell goal b)]

/-- The two results are one array. -/
theorem results_eq (h : Asked cost start goal) : Cert.KernelIdeal.Search.resultK cost start goal = resultA cost start goal := by
  funext i
  rw [← ix3_eta i]
  rw [Cert.KernelIdeal.Search.resultK_cell cost start goal (i 0) (i 1) (i 2) _ (goalCell_top h (i 0)), ← (steps_row h (i 0) 256 (by omega)).1]
  exact congrArg₂ (fun p q => resultA cost start goal (ix3 (i 0) p q)) (Fin.ext (by show ((i 1).val * 32 + (i 2).val) / 32 = (i 1).val; have : (i 2).val < 32 := (i 2).isLt; omega))
    (Fin.ext (by show ((i 1).val * 32 + (i 2).val) % 32 = (i 2).val; have : (i 2).val < 32 := (i 2).isLt; omega))

end Cert.Search

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_search_inputs
public import proofs.«01_k».proof.Proof.Krn.Result
public import proofs.«01_k».proof.Proof.Ref.Final
public import proofs.«01_k».proof.Proof.Val.Meet
public import Idealize.ShloMosaic.Adequacy
public import Idealize.ShloMosaic.Init

@[expose] public section

noncomputable section

namespace Cert.Proof

open Idealize.ShloMosaic Idealize.SL.Sem Cert.Kernel

/-- The reference runs, leaves its arguments as they were and every semaphore at zero. -/
theorem reference_frame : Cert.quiescent_ReferenceIdeal (hReferenceIdeal := Cert.ReferenceIdeal.Gen.facts) := fun m g _ =>
  (θ_run (Cert.ReferenceIdeal.defs (F := Ideal)) _ _).mono (fun _ h => ⟨fun c => (h.1 c).2, h.2⟩)
    (Cert.ReferenceIdeal.Search.run_final m g)

/-- The kernel and the reference, run on the same allowed inputs, end with one result. -/
theorem same_result [Cert.Pre_search_inputs.Facts] : Cert.algebraic_KernelIdeal_ReferenceIdeal (hKernelIdeal := Cert.KernelIdeal.Gen.facts)
    (hReferenceIdeal := Cert.ReferenceIdeal.Gen.facts) := by
  intro m g m' g' hpre hargs
  refine ⟨fun c => Cert.KernelIdeal.Search.resultK (F := Ideal) (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · exact (θ_run (Cert.KernelIdeal.defs (F := Ideal)) _ _).mono (fun _ h => h.1) (Cert.KernelIdeal.Search.run_result m g)
  · refine (θ_run (Cert.ReferenceIdeal.defs (F := Ideal)) _ _).mono (fun _ h c => ⟨(h.1 c).1.trans ?_, (h.1 c).2⟩)
      (Cert.ReferenceIdeal.Search.run_final m' g')
    rw [(hargs c).1, (hargs c).2.1, (hargs c).2.2]
    exact (Cert.Search.results_eq (Cert.Pre_search_inputs.asked _ _ _ (hpre c))).symm

/-- Every claim. -/
theorem claim : Cert.Claim := ⟨Cert.Kernel.Gen.facts, Cert.KernelIdeal.Gen.facts, Cert.ReferenceIdeal.Gen.facts, Cert.Pre_search_inputs.Gen.facts,
  fun m ρ _ => Cert.Kernel.Gen.frame m ρ, fun m ρ _ => Cert.Kernel.Gen.frame m ρ, fun m ρ _ => Cert.KernelIdeal.Gen.frame m ρ,
  reference_frame, fun m g _ => reference_frame m g trivial, trivial, same_result⟩

end Cert.Proof

end
